-- ==== Defs.lean ====
def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_First (m : (ℓ : Loc Cert.First.nD Cert.First.τ Cert.First.sig) → Buf (Elt Bits) ℓ) : Prop :=
  True

def Pre_FirstIdeal (m : (ℓ : Loc Cert.FirstIdeal.nD Cert.FirstIdeal.τ Cert.FirstIdeal.sig) → Buf (Elt Ideal) ℓ) : Prop :=
  True

def Pre_FirstRefIdeal (m : (ℓ : Loc Cert.FirstRefIdeal.nD Cert.FirstRefIdeal.τ Cert.FirstRefIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def Pre_Prompt (m : (ℓ : Loc Cert.Prompt.nD Cert.Prompt.τ Cert.Prompt.sig) → Buf (Elt Bits) ℓ) : Prop :=
  True

def Pre_PromptIdeal (m : (ℓ : Loc Cert.PromptIdeal.nD Cert.PromptIdeal.τ Cert.PromptIdeal.sig) → Buf (Elt Ideal) ℓ) : Prop :=
  True

def Pre_PromptIdeal_finite [hPre_finite : Cert.Pre_finite.Facts] (m : (ℓ : Loc Cert.PromptIdeal.nD Cert.PromptIdeal.τ Cert.PromptIdeal.sig) → Buf (Elt Ideal) ℓ) : Prop :=
  ∀ c : Dev Cert.PromptIdeal.nD,
    (Cert.Pre_finite.fn (F := Ideal) (m ((c.tc : Thread Cert.PromptIdeal.nD Cert.PromptIdeal.τ).loc Cert.PromptIdeal.main_arg0)) (m ((c.tc : Thread Cert.PromptIdeal.nD Cert.PromptIdeal.τ).loc Cert.PromptIdeal.main_arg1)) (m ((c.tc : Thread Cert.PromptIdeal.nD Cert.PromptIdeal.τ).loc Cert.PromptIdeal.main_arg2)) (m ((c.tc : Thread Cert.PromptIdeal.nD Cert.PromptIdeal.τ).loc Cert.PromptIdeal.main_arg3)) (m ((c.tc : Thread Cert.PromptIdeal.nD Cert.PromptIdeal.τ).loc Cert.PromptIdeal.main_arg4)) (m ((c.tc : Thread Cert.PromptIdeal.nD Cert.PromptIdeal.τ).loc Cert.PromptIdeal.main_arg5)) (m ((c.tc : Thread Cert.PromptIdeal.nD Cert.PromptIdeal.τ).loc Cert.PromptIdeal.main_arg6)) (m ((c.tc : Thread Cert.PromptIdeal.nD Cert.PromptIdeal.τ).loc Cert.PromptIdeal.main_arg7)) (m ((c.tc : Thread Cert.PromptIdeal.nD Cert.PromptIdeal.τ).loc Cert.PromptIdeal.main_arg8)) (m ((c.tc : Thread Cert.PromptIdeal.nD Cert.PromptIdeal.τ).loc Cert.PromptIdeal.main_arg9))).1 = (fun _ => 1#1)
    ∧ (Cert.Pre_finite.fn (F := Ideal) (m ((c.tc : Thread Cert.PromptIdeal.nD Cert.PromptIdeal.τ).loc Cert.PromptIdeal.main_arg0)) (m ((c.tc : Thread Cert.PromptIdeal.nD Cert.PromptIdeal.τ).loc Cert.PromptIdeal.main_arg1)) (m ((c.tc : Thread Cert.PromptIdeal.nD Cert.PromptIdeal.τ).loc Cert.PromptIdeal.main_arg2)) (m ((c.tc : Thread Cert.PromptIdeal.nD Cert.PromptIdeal.τ).loc Cert.PromptIdeal.main_arg3)) (m ((c.tc : Thread Cert.PromptIdeal.nD Cert.PromptIdeal.τ).loc Cert.PromptIdeal.main_arg4)) (m ((c.tc : Thread Cert.PromptIdeal.nD Cert.PromptIdeal.τ).loc Cert.PromptIdeal.main_arg5)) (m ((c.tc : Thread Cert.PromptIdeal.nD Cert.PromptIdeal.τ).loc Cert.PromptIdeal.main_arg6)) (m ((c.tc : Thread Cert.PromptIdeal.nD Cert.PromptIdeal.τ).loc Cert.PromptIdeal.main_arg7)) (m ((c.tc : Thread Cert.PromptIdeal.nD Cert.PromptIdeal.τ).loc Cert.PromptIdeal.main_arg8)) (m ((c.tc : Thread Cert.PromptIdeal.nD Cert.PromptIdeal.τ).loc Cert.PromptIdeal.main_arg9))).2.1 = (fun _ => 1#1)
    ∧ (Cert.Pre_finite.fn (F := Ideal) (m ((c.tc : Thread Cert.PromptIdeal.nD Cert.PromptIdeal.τ).loc Cert.PromptIdeal.main_arg0)) (m ((c.tc : Thread Cert.PromptIdeal.nD Cert.PromptIdeal.τ).loc Cert.PromptIdeal.main_arg1)) (m ((c.tc : Thread Cert.PromptIdeal.nD Cert.PromptIdeal.τ).loc Cert.PromptIdeal.main_arg2)) (m ((c.tc : Thread Cert.PromptIdeal.nD Cert.PromptIdeal.τ).loc Cert.PromptIdeal.main_arg3)) (m ((c.tc : Thread Cert.PromptIdeal.nD Cert.PromptIdeal.τ).loc Cert.PromptIdeal.main_arg4)) (m ((c.tc : Thread Cert.PromptIdeal.nD Cert.PromptIdeal.τ).loc Cert.PromptIdeal.main_arg5)) (m ((c.tc : Thread Cert.PromptIdeal.nD Cert.PromptIdeal.τ).loc Cert.PromptIdeal.main_arg6)) (m ((c.tc : Thread Cert.PromptIdeal.nD Cert.PromptIdeal.τ).loc Cert.PromptIdeal.main_arg7)) (m ((c.tc : Thread Cert.PromptIdeal.nD Cert.PromptIdeal.τ).loc Cert.PromptIdeal.main_arg8)) (m ((c.tc : Thread Cert.PromptIdeal.nD Cert.PromptIdeal.τ).loc Cert.PromptIdeal.main_arg9))).2.2.1 = (fun _ => 1#1)
    ∧ (Cert.Pre_finite.fn (F := Ideal) (m ((c.tc : Thread Cert.PromptIdeal.nD Cert.PromptIdeal.τ).loc Cert.PromptIdeal.main_arg0)) (m ((c.tc : Thread Cert.PromptIdeal.nD Cert.PromptIdeal.τ).loc Cert.PromptIdeal.main_arg1)) (m ((c.tc : Thread Cert.PromptIdeal.nD Cert.PromptIdeal.τ).loc Cert.PromptIdeal.main_arg2)) (m ((c.tc : Thread Cert.PromptIdeal.nD Cert.PromptIdeal.τ).loc Cert.PromptIdeal.main_arg3)) (m ((c.tc : Thread Cert.PromptIdeal.nD Cert.PromptIdeal.τ).loc Cert.PromptIdeal.main_arg4)) (m ((c.tc : Thread Cert.PromptIdeal.nD Cert.PromptIdeal.τ).loc Cert.PromptIdeal.main_arg5)) (m ((c.tc : Thread Cert.PromptIdeal.nD Cert.PromptIdeal.τ).loc Cert.PromptIdeal.main_arg6)) (m ((c.tc : Thread Cert.PromptIdeal.nD Cert.PromptIdeal.τ).loc Cert.PromptIdeal.main_arg7)) (m ((c.tc : Thread Cert.PromptIdeal.nD Cert.PromptIdeal.τ).loc Cert.PromptIdeal.main_arg8)) (m ((c.tc : Thread Cert.PromptIdeal.nD Cert.PromptIdeal.τ).loc Cert.PromptIdeal.main_arg9))).2.2.2.1 = (fun _ => 1#1)
    ∧ (Cert.Pre_finite.fn (F := Ideal) (m ((c.tc : Thread Cert.PromptIdeal.nD Cert.PromptIdeal.τ).loc Cert.PromptIdeal.main_arg0)) (m ((c.tc : Thread Cert.PromptIdeal.nD Cert.PromptIdeal.τ).loc Cert.PromptIdeal.main_arg1)) (m ((c.tc : Thread Cert.PromptIdeal.nD Cert.PromptIdeal.τ).loc Cert.PromptIdeal.main_arg2)) (m ((c.tc : Thread Cert.PromptIdeal.nD Cert.PromptIdeal.τ).loc Cert.PromptIdeal.main_arg3)) (m ((c.tc : Thread Cert.PromptIdeal.nD Cert.PromptIdeal.τ).loc Cert.PromptIdeal.main_arg4)) (m ((c.tc : Thread Cert.PromptIdeal.nD Cert.PromptIdeal.τ).loc Cert.PromptIdeal.main_arg5)) (m ((c.tc : Thread Cert.PromptIdeal.nD Cert.PromptIdeal.τ).loc Cert.PromptIdeal.main_arg6)) (m ((c.tc : Thread Cert.PromptIdeal.nD Cert.PromptIdeal.τ).loc Cert.PromptIdeal.main_arg7)) (m ((c.tc : Thread Cert.PromptIdeal.nD Cert.PromptIdeal.τ).loc Cert.PromptIdeal.main_arg8)) (m ((c.tc : Thread Cert.PromptIdeal.nD Cert.PromptIdeal.τ).loc Cert.PromptIdeal.main_arg9))).2.2.2.2.1 = (fun _ => 1#1)
    ∧ (Cert.Pre_finite.fn (F := Ideal) (m ((c.tc : Thread Cert.PromptIdeal.nD Cert.PromptIdeal.τ).loc Cert.PromptIdeal.main_arg0)) (m ((c.tc : Thread Cert.PromptIdeal.nD Cert.PromptIdeal.τ).loc Cert.PromptIdeal.main_arg1)) (m ((c.tc : Thread Cert.PromptIdeal.nD Cert.PromptIdeal.τ).loc Cert.PromptIdeal.main_arg2)) (m ((c.tc : Thread Cert.PromptIdeal.nD Cert.PromptIdeal.τ).loc Cert.PromptIdeal.main_arg3)) (m ((c.tc : Thread Cert.PromptIdeal.nD Cert.PromptIdeal.τ).loc Cert.PromptIdeal.main_arg4)) (m ((c.tc : Thread Cert.PromptIdeal.nD Cert.PromptIdeal.τ).loc Cert.PromptIdeal.main_arg5)) (m ((c.tc : Thread Cert.PromptIdeal.nD Cert.PromptIdeal.τ).loc Cert.PromptIdeal.main_arg6)) (m ((c.tc : Thread Cert.PromptIdeal.nD Cert.PromptIdeal.τ).loc Cert.PromptIdeal.main_arg7)) (m ((c.tc : Thread Cert.PromptIdeal.nD Cert.PromptIdeal.τ).loc Cert.PromptIdeal.main_arg8)) (m ((c.tc : Thread Cert.PromptIdeal.nD Cert.PromptIdeal.τ).loc Cert.PromptIdeal.main_arg9))).2.2.2.2.2 = (fun _ => 1#1)

def Pre_PromptRefIdeal (m : (ℓ : Loc Cert.PromptRefIdeal.nD Cert.PromptRefIdeal.τ Cert.PromptRefIdeal.sig) → Buf (Elt Ideal) ℓ) : Prop :=
  True

def Pre_PromptRefIdeal_finite [hPre_finite : Cert.Pre_finite.Facts] (m : (ℓ : Loc Cert.PromptRefIdeal.nD Cert.PromptRefIdeal.τ Cert.PromptRefIdeal.sig) → Buf (Elt Ideal) ℓ) : Prop :=
  ∀ c : Dev Cert.PromptRefIdeal.nD,
    (Cert.Pre_finite.fn (F := Ideal) (m ((c.tc : Thread Cert.PromptRefIdeal.nD Cert.PromptRefIdeal.τ).loc Cert.PromptRefIdeal.main_arg0)) (m ((c.tc : Thread Cert.PromptRefIdeal.nD Cert.PromptRefIdeal.τ).loc Cert.PromptRefIdeal.main_arg1)) (m ((c.tc : Thread Cert.PromptRefIdeal.nD Cert.PromptRefIdeal.τ).loc Cert.PromptRefIdeal.main_arg2)) (m ((c.tc : Thread Cert.PromptRefIdeal.nD Cert.PromptRefIdeal.τ).loc Cert.PromptRefIdeal.main_arg3)) (m ((c.tc : Thread Cert.PromptRefIdeal.nD Cert.PromptRefIdeal.τ).loc Cert.PromptRefIdeal.main_arg4)) (m ((c.tc : Thread Cert.PromptRefIdeal.nD Cert.PromptRefIdeal.τ).loc Cert.PromptRefIdeal.main_arg5)) (m ((c.tc : Thread Cert.PromptRefIdeal.nD Cert.PromptRefIdeal.τ).loc Cert.PromptRefIdeal.main_arg6)) (m ((c.tc : Thread Cert.PromptRefIdeal.nD Cert.PromptRefIdeal.τ).loc Cert.PromptRefIdeal.main_arg7)) (m ((c.tc : Thread Cert.PromptRefIdeal.nD Cert.PromptRefIdeal.τ).loc Cert.PromptRefIdeal.main_arg8)) (m ((c.tc : Thread Cert.PromptRefIdeal.nD Cert.PromptRefIdeal.τ).loc Cert.PromptRefIdeal.main_arg9))).1 = (fun _ => 1#1)
    ∧ (Cert.Pre_finite.fn (F := Ideal) (m ((c.tc : Thread Cert.PromptRefIdeal.nD Cert.PromptRefIdeal.τ).loc Cert.PromptRefIdeal.main_arg0)) (m ((c.tc : Thread Cert.PromptRefIdeal.nD Cert.PromptRefIdeal.τ).loc Cert.PromptRefIdeal.main_arg1)) (m ((c.tc : Thread Cert.PromptRefIdeal.nD Cert.PromptRefIdeal.τ).loc Cert.PromptRefIdeal.main_arg2)) (m ((c.tc : Thread Cert.PromptRefIdeal.nD Cert.PromptRefIdeal.τ).loc Cert.PromptRefIdeal.main_arg3)) (m ((c.tc : Thread Cert.PromptRefIdeal.nD Cert.PromptRefIdeal.τ).loc Cert.PromptRefIdeal.main_arg4)) (m ((c.tc : Thread Cert.PromptRefIdeal.nD Cert.PromptRefIdeal.τ).loc Cert.PromptRefIdeal.main_arg5)) (m ((c.tc : Thread Cert.PromptRefIdeal.nD Cert.PromptRefIdeal.τ).loc Cert.PromptRefIdeal.main_arg6)) (m ((c.tc : Thread Cert.PromptRefIdeal.nD Cert.PromptRefIdeal.τ).loc Cert.PromptRefIdeal.main_arg7)) (m ((c.tc : Thread Cert.PromptRefIdeal.nD Cert.PromptRefIdeal.τ).loc Cert.PromptRefIdeal.main_arg8)) (m ((c.tc : Thread Cert.PromptRefIdeal.nD Cert.PromptRefIdeal.τ).loc Cert.PromptRefIdeal.main_arg9))).2.1 = (fun _ => 1#1)
    ∧ (Cert.Pre_finite.fn (F := Ideal) (m ((c.tc : Thread Cert.PromptRefIdeal.nD Cert.PromptRefIdeal.τ).loc Cert.PromptRefIdeal.main_arg0)) (m ((c.tc : Thread Cert.PromptRefIdeal.nD Cert.PromptRefIdeal.τ).loc Cert.PromptRefIdeal.main_arg1)) (m ((c.tc : Thread Cert.PromptRefIdeal.nD Cert.PromptRefIdeal.τ).loc Cert.PromptRefIdeal.main_arg2)) (m ((c.tc : Thread Cert.PromptRefIdeal.nD Cert.PromptRefIdeal.τ).loc Cert.PromptRefIdeal.main_arg3)) (m ((c.tc : Thread Cert.PromptRefIdeal.nD Cert.PromptRefIdeal.τ).loc Cert.PromptRefIdeal.main_arg4)) (m ((c.tc : Thread Cert.PromptRefIdeal.nD Cert.PromptRefIdeal.τ).loc Cert.PromptRefIdeal.main_arg5)) (m ((c.tc : Thread Cert.PromptRefIdeal.nD Cert.PromptRefIdeal.τ).loc Cert.PromptRefIdeal.main_arg6)) (m ((c.tc : Thread Cert.PromptRefIdeal.nD Cert.PromptRefIdeal.τ).loc Cert.PromptRefIdeal.main_arg7)) (m ((c.tc : Thread Cert.PromptRefIdeal.nD Cert.PromptRefIdeal.τ).loc Cert.PromptRefIdeal.main_arg8)) (m ((c.tc : Thread Cert.PromptRefIdeal.nD Cert.PromptRefIdeal.τ).loc Cert.PromptRefIdeal.main_arg9))).2.2.1 = (fun _ => 1#1)
    ∧ (Cert.Pre_finite.fn (F := Ideal) (m ((c.tc : Thread Cert.PromptRefIdeal.nD Cert.PromptRefIdeal.τ).loc Cert.PromptRefIdeal.main_arg0)) (m ((c.tc : Thread Cert.PromptRefIdeal.nD Cert.PromptRefIdeal.τ).loc Cert.PromptRefIdeal.main_arg1)) (m ((c.tc : Thread Cert.PromptRefIdeal.nD Cert.PromptRefIdeal.τ).loc Cert.PromptRefIdeal.main_arg2)) (m ((c.tc : Thread Cert.PromptRefIdeal.nD Cert.PromptRefIdeal.τ).loc Cert.PromptRefIdeal.main_arg3)) (m ((c.tc : Thread Cert.PromptRefIdeal.nD Cert.PromptRefIdeal.τ).loc Cert.PromptRefIdeal.main_arg4)) (m ((c.tc : Thread Cert.PromptRefIdeal.nD Cert.PromptRefIdeal.τ).loc Cert.PromptRefIdeal.main_arg5)) (m ((c.tc : Thread Cert.PromptRefIdeal.nD Cert.PromptRefIdeal.τ).loc Cert.PromptRefIdeal.main_arg6)) (m ((c.tc : Thread Cert.PromptRefIdeal.nD Cert.PromptRefIdeal.τ).loc Cert.PromptRefIdeal.main_arg7)) (m ((c.tc : Thread Cert.PromptRefIdeal.nD Cert.PromptRefIdeal.τ).loc Cert.PromptRefIdeal.main_arg8)) (m ((c.tc : Thread Cert.PromptRefIdeal.nD Cert.PromptRefIdeal.τ).loc Cert.PromptRefIdeal.main_arg9))).2.2.2.1 = (fun _ => 1#1)
    ∧ (Cert.Pre_finite.fn (F := Ideal) (m ((c.tc : Thread Cert.PromptRefIdeal.nD Cert.PromptRefIdeal.τ).loc Cert.PromptRefIdeal.main_arg0)) (m ((c.tc : Thread Cert.PromptRefIdeal.nD Cert.PromptRefIdeal.τ).loc Cert.PromptRefIdeal.main_arg1)) (m ((c.tc : Thread Cert.PromptRefIdeal.nD Cert.PromptRefIdeal.τ).loc Cert.PromptRefIdeal.main_arg2)) (m ((c.tc : Thread Cert.PromptRefIdeal.nD Cert.PromptRefIdeal.τ).loc Cert.PromptRefIdeal.main_arg3)) (m ((c.tc : Thread Cert.PromptRefIdeal.nD Cert.PromptRefIdeal.τ).loc Cert.PromptRefIdeal.main_arg4)) (m ((c.tc : Thread Cert.PromptRefIdeal.nD Cert.PromptRefIdeal.τ).loc Cert.PromptRefIdeal.main_arg5)) (m ((c.tc : Thread Cert.PromptRefIdeal.nD Cert.PromptRefIdeal.τ).loc Cert.PromptRefIdeal.main_arg6)) (m ((c.tc : Thread Cert.PromptRefIdeal.nD Cert.PromptRefIdeal.τ).loc Cert.PromptRefIdeal.main_arg7)) (m ((c.tc : Thread Cert.PromptRefIdeal.nD Cert.PromptRefIdeal.τ).loc Cert.PromptRefIdeal.main_arg8)) (m ((c.tc : Thread Cert.PromptRefIdeal.nD Cert.PromptRefIdeal.τ).loc Cert.PromptRefIdeal.main_arg9))).2.2.2.2.1 = (fun _ => 1#1)
    ∧ (Cert.Pre_finite.fn (F := Ideal) (m ((c.tc : Thread Cert.PromptRefIdeal.nD Cert.PromptRefIdeal.τ).loc Cert.PromptRefIdeal.main_arg0)) (m ((c.tc : Thread Cert.PromptRefIdeal.nD Cert.PromptRefIdeal.τ).loc Cert.PromptRefIdeal.main_arg1)) (m ((c.tc : Thread Cert.PromptRefIdeal.nD Cert.PromptRefIdeal.τ).loc Cert.PromptRefIdeal.main_arg2)) (m ((c.tc : Thread Cert.PromptRefIdeal.nD Cert.PromptRefIdeal.τ).loc Cert.PromptRefIdeal.main_arg3)) (m ((c.tc : Thread Cert.PromptRefIdeal.nD Cert.PromptRefIdeal.τ).loc Cert.PromptRefIdeal.main_arg4)) (m ((c.tc : Thread Cert.PromptRefIdeal.nD Cert.PromptRefIdeal.τ).loc Cert.PromptRefIdeal.main_arg5)) (m ((c.tc : Thread Cert.PromptRefIdeal.nD Cert.PromptRefIdeal.τ).loc Cert.PromptRefIdeal.main_arg6)) (m ((c.tc : Thread Cert.PromptRefIdeal.nD Cert.PromptRefIdeal.τ).loc Cert.PromptRefIdeal.main_arg7)) (m ((c.tc : Thread Cert.PromptRefIdeal.nD Cert.PromptRefIdeal.τ).loc Cert.PromptRefIdeal.main_arg8)) (m ((c.tc : Thread Cert.PromptRefIdeal.nD Cert.PromptRefIdeal.τ).loc Cert.PromptRefIdeal.main_arg9))).2.2.2.2.2 = (fun _ => 1#1)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3)
      ∧ r.2.mem ((c.tc : Thread Cert.Conv.nD Cert.Conv.τ).loc Cert.Conv.main_arg4) = m ((c.tc : Thread Cert.Conv.nD Cert.Conv.τ).loc Cert.Conv.main_arg4)
      ∧ r.2.mem ((c.tc : Thread Cert.Conv.nD Cert.Conv.τ).loc Cert.Conv.main_arg5) = m ((c.tc : Thread Cert.Conv.nD Cert.Conv.τ).loc Cert.Conv.main_arg5)
      ∧ r.2.mem ((c.tc : Thread Cert.Conv.nD Cert.Conv.τ).loc Cert.Conv.main_arg6) = m ((c.tc : Thread Cert.Conv.nD Cert.Conv.τ).loc Cert.Conv.main_arg6)
      ∧ r.2.mem ((c.tc : Thread Cert.Conv.nD Cert.Conv.τ).loc Cert.Conv.main_arg7) = m ((c.tc : Thread Cert.Conv.nD Cert.Conv.τ).loc Cert.Conv.main_arg7)
      ∧ r.2.mem ((c.tc : Thread Cert.Conv.nD Cert.Conv.τ).loc Cert.Conv.main_arg8) = m ((c.tc : Thread Cert.Conv.nD Cert.Conv.τ).loc Cert.Conv.main_arg8)
      ∧ r.2.mem ((c.tc : Thread Cert.Conv.nD Cert.Conv.τ).loc Cert.Conv.main_arg9) = m ((c.tc : Thread Cert.Conv.nD Cert.Conv.τ).loc Cert.Conv.main_arg9)
      ∧ r.2.mem ((c.tc : Thread Cert.Conv.nD Cert.Conv.τ).loc Cert.Conv.main_arg10) = m ((c.tc : Thread Cert.Conv.nD Cert.Conv.τ).loc Cert.Conv.main_arg10))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
      ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
      ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5)
      ∧ r.2.mem ((c.tc : Thread Cert.ConvIdeal.nD Cert.ConvIdeal.τ).loc Cert.ConvIdeal.main_arg6) = m ((c.tc : Thread Cert.ConvIdeal.nD Cert.ConvIdeal.τ).loc Cert.ConvIdeal.main_arg6)
      ∧ r.2.mem ((c.tc : Thread Cert.ConvIdeal.nD Cert.ConvIdeal.τ).loc Cert.ConvIdeal.main_arg7) = m ((c.tc : Thread Cert.ConvIdeal.nD Cert.ConvIdeal.τ).loc Cert.ConvIdeal.main_arg7)
      ∧ r.2.mem ((c.tc : Thread Cert.ConvIdeal.nD Cert.ConvIdeal.τ).loc Cert.ConvIdeal.main_arg8) = m ((c.tc : Thread Cert.ConvIdeal.nD Cert.ConvIdeal.τ).loc Cert.ConvIdeal.main_arg8)
      ∧ r.2.mem ((c.tc : Thread Cert.ConvIdeal.nD Cert.ConvIdeal.τ).loc Cert.ConvIdeal.main_arg9) = m ((c.tc : Thread Cert.ConvIdeal.nD Cert.ConvIdeal.τ).loc Cert.ConvIdeal.main_arg9)
      ∧ r.2.mem ((c.tc : Thread Cert.ConvIdeal.nD Cert.ConvIdeal.τ).loc Cert.ConvIdeal.main_arg10) = m ((c.tc : Thread Cert.ConvIdeal.nD Cert.ConvIdeal.τ).loc Cert.ConvIdeal.main_arg10))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3)
      ∧ r.2.mem ((c.tc : Thread Cert.ConvRefIdeal.nD Cert.ConvRefIdeal.τ).loc Cert.ConvRefIdeal.main_arg4) = m ((c.tc : Thread Cert.ConvRefIdeal.nD Cert.ConvRefIdeal.τ).loc Cert.ConvRefIdeal.main_arg4)
      ∧ r.2.mem ((c.tc : Thread Cert.ConvRefIdeal.nD Cert.ConvRefIdeal.τ).loc Cert.ConvRefIdeal.main_arg5) = m ((c.tc : Thread Cert.ConvRefIdeal.nD Cert.ConvRefIdeal.τ).loc Cert.ConvRefIdeal.main_arg5)
      ∧ r.2.mem ((c.tc : Thread Cert.ConvRefIdeal.nD Cert.ConvRefIdeal.τ).loc Cert.ConvRefIdeal.main_arg6) = m ((c.tc : Thread Cert.ConvRefIdeal.nD Cert.ConvRefIdeal.τ).loc Cert.ConvRefIdeal.main_arg6)
      ∧ r.2.mem ((c.tc : Thread Cert.ConvRefIdeal.nD Cert.ConvRefIdeal.τ).loc Cert.ConvRefIdeal.main_arg7) = m ((c.tc : Thread Cert.ConvRefIdeal.nD Cert.ConvRefIdeal.τ).loc Cert.ConvRefIdeal.main_arg7)
      ∧ r.2.mem ((c.tc : Thread Cert.ConvRefIdeal.nD Cert.ConvRefIdeal.τ).loc Cert.ConvRefIdeal.main_arg8) = m ((c.tc : Thread Cert.ConvRefIdeal.nD Cert.ConvRefIdeal.τ).loc Cert.ConvRefIdeal.main_arg8)
      ∧ r.2.mem ((c.tc : Thread Cert.ConvRefIdeal.nD Cert.ConvRefIdeal.τ).loc Cert.ConvRefIdeal.main_arg9) = m ((c.tc : Thread Cert.ConvRefIdeal.nD Cert.ConvRefIdeal.τ).loc Cert.ConvRefIdeal.main_arg9)
      ∧ r.2.mem ((c.tc : Thread Cert.ConvRefIdeal.nD Cert.ConvRefIdeal.τ).loc Cert.ConvRefIdeal.main_arg10) = m ((c.tc : Thread Cert.ConvRefIdeal.nD Cert.ConvRefIdeal.τ).loc Cert.ConvRefIdeal.main_arg10))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4)
      ∧ r.2.mem ((c.tc : Thread Cert.Mlp.nD Cert.Mlp.τ).loc Cert.Mlp.main_arg5) = m ((c.tc : Thread Cert.Mlp.nD Cert.Mlp.τ).loc Cert.Mlp.main_arg5)
      ∧ r.2.mem ((c.tc : Thread Cert.Mlp.nD Cert.Mlp.τ).loc Cert.Mlp.main_arg6) = m ((c.tc : Thread Cert.Mlp.nD Cert.Mlp.τ).loc Cert.Mlp.main_arg6)
      ∧ r.2.mem ((c.tc : Thread Cert.Mlp.nD Cert.Mlp.τ).loc Cert.Mlp.main_arg7) = m ((c.tc : Thread Cert.Mlp.nD Cert.Mlp.τ).loc Cert.Mlp.main_arg7))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
      ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
      ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4)
      ∧ r.2.mem ((c.tc : Thread Cert.MlpRefIdeal.nD Cert.MlpRefIdeal.τ).loc Cert.MlpRefIdeal.main_arg5) = m ((c.tc : Thread Cert.MlpRefIdeal.nD Cert.MlpRefIdeal.τ).loc Cert.MlpRefIdeal.main_arg5)
      ∧ r.2.mem ((c.tc : Thread Cert.MlpRefIdeal.nD Cert.MlpRefIdeal.τ).loc Cert.MlpRefIdeal.main_arg6) = m ((c.tc : Thread Cert.MlpRefIdeal.nD Cert.MlpRefIdeal.τ).loc Cert.MlpRefIdeal.main_arg6)
      ∧ r.2.mem ((c.tc : Thread Cert.MlpRefIdeal.nD Cert.MlpRefIdeal.τ).loc Cert.MlpRefIdeal.main_arg7) = m ((c.tc : Thread Cert.MlpRefIdeal.nD Cert.MlpRefIdeal.τ).loc Cert.MlpRefIdeal.main_arg7))
      ∧ r.2.sem = fun _ => 0)

def quiescent_First [hFirst : Cert.First.Facts] : Prop :=
  ∀ (m : (ℓ : Loc Cert.First.nD Cert.First.τ Cert.First.sig) → Buf (Elt Bits) ℓ) (g : Dev Cert.First.nD → PrngReg), Pre_First m →
    θ_run (Cert.First.defs (F := Bits)) (onTc (τ := Cert.First.τ) (Cert.First.main (F := Bits))) ⟨m, fun _ => 0, g⟩ (fun r => (∀ c : Dev Cert.First.nD,
      r.2.mem ((c.tc : Thread Cert.First.nD Cert.First.τ).loc Cert.First.main_arg0) = m ((c.tc : Thread Cert.First.nD Cert.First.τ).loc Cert.First.main_arg0)
      ∧ r.2.mem ((c.tc : Thread Cert.First.nD Cert.First.τ).loc Cert.First.main_arg1) = m ((c.tc : Thread Cert.First.nD Cert.First.τ).loc Cert.First.main_arg1)
      ∧ r.2.mem ((c.tc : Thread Cert.First.nD Cert.First.τ).loc Cert.First.main_arg2) = m ((c.tc : Thread Cert.First.nD Cert.First.τ).loc Cert.First.main_arg2)
      ∧ r.2.mem ((c.tc : Thread Cert.First.nD Cert.First.τ).loc Cert.First.main_arg3) = m ((c.tc : Thread Cert.First.nD Cert.First.τ).loc Cert.First.main_arg3)
      ∧ r.2.mem ((c.tc : Thread Cert.First.nD Cert.First.τ).loc Cert.First.main_arg4) = m ((c.tc : Thread Cert.First.nD Cert.First.τ).loc Cert.First.main_arg4)
      ∧ r.2.mem ((c.tc : Thread Cert.First.nD Cert.First.τ).loc Cert.First.main_arg5) = m ((c.tc : Thread Cert.First.nD Cert.First.τ).loc Cert.First.main_arg5)
      ∧ r.2.mem ((c.tc : Thread Cert.First.nD Cert.First.τ).loc Cert.First.main_arg6) = m ((c.tc : Thread Cert.First.nD Cert.First.τ).loc Cert.First.main_arg6)
      ∧ r.2.mem ((c.tc : Thread Cert.First.nD Cert.First.τ).loc Cert.First.main_arg7) = m ((c.tc : Thread Cert.First.nD Cert.First.τ).loc Cert.First.main_arg7)
      ∧ r.2.mem ((c.tc : Thread Cert.First.nD Cert.First.τ).loc Cert.First.main_arg8) = m ((c.tc : Thread Cert.First.nD Cert.First.τ).loc Cert.First.main_arg8)
      ∧ r.2.mem ((c.tc : Thread Cert.First.nD Cert.First.τ).loc Cert.First.main_arg9) = m ((c.tc : Thread Cert.First.nD Cert.First.τ).loc Cert.First.main_arg9)
      ∧ r.2.mem ((c.tc : Thread Cert.First.nD Cert.First.τ).loc Cert.First.main_arg10) = m ((c.tc : Thread Cert.First.nD Cert.First.τ).loc Cert.First.main_arg10))
      ∧ r.2.sem = fun _ => 0)

def quiescent_FirstIdeal [hFirstIdeal : Cert.FirstIdeal.Facts] : Prop :=
  ∀ (m : (ℓ : Loc Cert.FirstIdeal.nD Cert.FirstIdeal.τ Cert.FirstIdeal.sig) → Buf (Elt Ideal) ℓ) (g : Dev Cert.FirstIdeal.nD → PrngReg), Pre_FirstIdeal m →
    θ_run (Cert.FirstIdeal.defs (F := Ideal)) (onTc (τ := Cert.FirstIdeal.τ) (Cert.FirstIdeal.main (F := Ideal))) ⟨m, fun _ => 0, g⟩ (fun r => (∀ c : Dev Cert.FirstIdeal.nD,
      r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
      ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
      ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2)
      ∧ r.2.mem ((c.tc : Thread Cert.FirstIdeal.nD Cert.FirstIdeal.τ).loc Cert.FirstIdeal.main_arg3) = m ((c.tc : Thread Cert.FirstIdeal.nD Cert.FirstIdeal.τ).loc Cert.FirstIdeal.main_arg3)
      ∧ r.2.mem ((c.tc : Thread Cert.FirstIdeal.nD Cert.FirstIdeal.τ).loc Cert.FirstIdeal.main_arg4) = m ((c.tc : Thread Cert.FirstIdeal.nD Cert.FirstIdeal.τ).loc Cert.FirstIdeal.main_arg4)
      ∧ r.2.mem ((c.tc : Thread Cert.FirstIdeal.nD Cert.FirstIdeal.τ).loc Cert.FirstIdeal.main_arg5) = m ((c.tc : Thread Cert.FirstIdeal.nD Cert.FirstIdeal.τ).loc Cert.FirstIdeal.main_arg5)
      ∧ r.2.mem ((c.tc : Thread Cert.FirstIdeal.nD Cert.FirstIdeal.τ).loc Cert.FirstIdeal.main_arg6) = m ((c.tc : Thread Cert.FirstIdeal.nD Cert.FirstIdeal.τ).loc Cert.FirstIdeal.main_arg6)
      ∧ r.2.mem ((c.tc : Thread Cert.FirstIdeal.nD Cert.FirstIdeal.τ).loc Cert.FirstIdeal.main_arg7) = m ((c.tc : Thread Cert.FirstIdeal.nD Cert.FirstIdeal.τ).loc Cert.FirstIdeal.main_arg7)
      ∧ r.2.mem ((c.tc : Thread Cert.FirstIdeal.nD Cert.FirstIdeal.τ).loc Cert.FirstIdeal.main_arg8) = m ((c.tc : Thread Cert.FirstIdeal.nD Cert.FirstIdeal.τ).loc Cert.FirstIdeal.main_arg8)
      ∧ r.2.mem ((c.tc : Thread Cert.FirstIdeal.nD Cert.FirstIdeal.τ).loc Cert.FirstIdeal.main_arg9) = m ((c.tc : Thread Cert.FirstIdeal.nD Cert.FirstIdeal.τ).loc Cert.FirstIdeal.main_arg9)
      ∧ r.2.mem ((c.tc : Thread Cert.FirstIdeal.nD Cert.FirstIdeal.τ).loc Cert.FirstIdeal.main_arg10) = m ((c.tc : Thread Cert.FirstIdeal.nD Cert.FirstIdeal.τ).loc Cert.FirstIdeal.main_arg10))
      ∧ r.2.sem = fun _ => 0)

def quiescent_FirstRefIdeal [hFirstRefIdeal : Cert.FirstRefIdeal.Facts] : Prop :=
  ∀ (m : (ℓ : Loc Cert.FirstRefIdeal.nD Cert.FirstRefIdeal.τ Cert.FirstRefIdeal.sig) → Buf (Elt Ideal) ℓ) (g : Dev Cert.FirstRefIdeal.nD → PrngReg), Pre_FirstRefIdeal m →
    θ_run (Cert.FirstRefIdeal.defs (F := Ideal)) (onTc (τ := Cert.FirstRefIdeal.τ) (Cert.FirstRefIdeal.main (F := Ideal))) ⟨m, fun _ => 0, g⟩ (fun r => (∀ c : Dev Cert.FirstRefIdeal.nD,
      r.2.mem ((c.tc : Thread Cert.FirstRefIdeal.nD Cert.FirstRefIdeal.τ).loc Cert.FirstRefIdeal.main_arg0) = m ((c.tc : Thread Cert.FirstRefIdeal.nD Cert.FirstRefIdeal.τ).loc Cert.FirstRefIdeal.main_arg0)
      ∧ r.2.mem ((c.tc : Thread Cert.FirstRefIdeal.nD Cert.FirstRefIdeal.τ).loc Cert.FirstRefIdeal.main_arg1) = m ((c.tc : Thread Cert.FirstRefIdeal.nD Cert.FirstRefIdeal.τ).loc Cert.FirstRefIdeal.main_arg1)
      ∧ r.2.mem ((c.tc : Thread Cert.FirstRefIdeal.nD Cert.FirstRefIdeal.τ).loc Cert.FirstRefIdeal.main_arg2) = m ((c.tc : Thread Cert.FirstRefIdeal.nD Cert.FirstRefIdeal.τ).loc Cert.FirstRefIdeal.main_arg2)
      ∧ r.2.mem ((c.tc : Thread Cert.FirstRefIdeal.nD Cert.FirstRefIdeal.τ).loc Cert.FirstRefIdeal.main_arg3) = m ((c.tc : Thread Cert.FirstRefIdeal.nD Cert.FirstRefIdeal.τ).loc Cert.FirstRefIdeal.main_arg3)
      ∧ r.2.mem ((c.tc : Thread Cert.FirstRefIdeal.nD Cert.FirstRefIdeal.τ).loc Cert.FirstRefIdeal.main_arg4) = m ((c.tc : Thread Cert.FirstRefIdeal.nD Cert.FirstRefIdeal.τ).loc Cert.FirstRefIdeal.main_arg4)
      ∧ r.2.mem ((c.tc : Thread Cert.FirstRefIdeal.nD Cert.FirstRefIdeal.τ).loc Cert.FirstRefIdeal.main_arg5) = m ((c.tc : Thread Cert.FirstRefIdeal.nD Cert.FirstRefIdeal.τ).loc Cert.FirstRefIdeal.main_arg5)
      ∧ r.2.mem ((c.tc : Thread Cert.FirstRefIdeal.nD Cert.FirstRefIdeal.τ).loc Cert.FirstRefIdeal.main_arg6) = m ((c.tc : Thread Cert.FirstRefIdeal.nD Cert.FirstRefIdeal.τ).loc Cert.FirstRefIdeal.main_arg6)
      ∧ r.2.mem ((c.tc : Thread Cert.FirstRefIdeal.nD Cert.FirstRefIdeal.τ).loc Cert.FirstRefIdeal.main_arg7) = m ((c.tc : Thread Cert.FirstRefIdeal.nD Cert.FirstRefIdeal.τ).loc Cert.FirstRefIdeal.main_arg7)
      ∧ r.2.mem ((c.tc : Thread Cert.FirstRefIdeal.nD Cert.FirstRefIdeal.τ).loc Cert.FirstRefIdeal.main_arg8) = m ((c.tc : Thread Cert.FirstRefIdeal.nD Cert.FirstRefIdeal.τ).loc Cert.FirstRefIdeal.main_arg8)
      ∧ r.2.mem ((c.tc : Thread Cert.FirstRefIdeal.nD Cert.FirstRefIdeal.τ).loc Cert.FirstRefIdeal.main_arg9) = m ((c.tc : Thread Cert.FirstRefIdeal.nD Cert.FirstRefIdeal.τ).loc Cert.FirstRefIdeal.main_arg9)
      ∧ r.2.mem ((c.tc : Thread Cert.FirstRefIdeal.nD Cert.FirstRefIdeal.τ).loc Cert.FirstRefIdeal.main_arg10) = m ((c.tc : Thread Cert.FirstRefIdeal.nD Cert.FirstRefIdeal.τ).loc Cert.FirstRefIdeal.main_arg10))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2)
      ∧ r.2.mem ((c.tc : Thread Cert.Ada.nD Cert.Ada.τ).loc Cert.Ada.main_arg3) = m ((c.tc : Thread Cert.Ada.nD Cert.Ada.τ).loc Cert.Ada.main_arg3))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
      ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2)
      ∧ r.2.mem ((c.tc : Thread Cert.AdaRefIdeal.nD Cert.AdaRefIdeal.τ).loc Cert.AdaRefIdeal.main_arg3) = m ((c.tc : Thread Cert.AdaRefIdeal.nD Cert.AdaRefIdeal.τ).loc Cert.AdaRefIdeal.main_arg3))
      ∧ r.2.sem = fun _ => 0)

def quiescent_Prompt [hPrompt : Cert.Prompt.Facts] : Prop :=
  ∀ (m : (ℓ : Loc Cert.Prompt.nD Cert.Prompt.τ Cert.Prompt.sig) → Buf (Elt Bits) ℓ) (g : Dev Cert.Prompt.nD → PrngReg), Pre_Prompt m →
    θ_run (Cert.Prompt.defs (F := Bits)) (onTc (τ := Cert.Prompt.τ) (Cert.Prompt.main (F := Bits))) ⟨m, fun _ => 0, g⟩ (fun r => (∀ c : Dev Cert.Prompt.nD,
      r.2.mem ((c.tc : Thread Cert.Prompt.nD Cert.Prompt.τ).loc Cert.Prompt.main_arg0) = m ((c.tc : Thread Cert.Prompt.nD Cert.Prompt.τ).loc Cert.Prompt.main_arg0)
      ∧ r.2.mem ((c.tc : Thread Cert.Prompt.nD Cert.Prompt.τ).loc Cert.Prompt.main_arg1) = m ((c.tc : Thread Cert.Prompt.nD Cert.Prompt.τ).loc Cert.Prompt.main_arg1)
      ∧ r.2.mem ((c.tc : Thread Cert.Prompt.nD Cert.Prompt.τ).loc Cert.Prompt.main_arg2) = m ((c.tc : Thread Cert.Prompt.nD Cert.Prompt.τ).loc Cert.Prompt.main_arg2)
      ∧ r.2.mem ((c.tc : Thread Cert.Prompt.nD Cert.Prompt.τ).loc Cert.Prompt.main_arg3) = m ((c.tc : Thread Cert.Prompt.nD Cert.Prompt.τ).loc Cert.Prompt.main_arg3)
      ∧ r.2.mem ((c.tc : Thread Cert.Prompt.nD Cert.Prompt.τ).loc Cert.Prompt.main_arg4) = m ((c.tc : Thread Cert.Prompt.nD Cert.Prompt.τ).loc Cert.Prompt.main_arg4)
      ∧ r.2.mem ((c.tc : Thread Cert.Prompt.nD Cert.Prompt.τ).loc Cert.Prompt.main_arg5) = m ((c.tc : Thread Cert.Prompt.nD Cert.Prompt.τ).loc Cert.Prompt.main_arg5)
      ∧ r.2.mem ((c.tc : Thread Cert.Prompt.nD Cert.Prompt.τ).loc Cert.Prompt.main_arg6) = m ((c.tc : Thread Cert.Prompt.nD Cert.Prompt.τ).loc Cert.Prompt.main_arg6)
      ∧ r.2.mem ((c.tc : Thread Cert.Prompt.nD Cert.Prompt.τ).loc Cert.Prompt.main_arg7) = m ((c.tc : Thread Cert.Prompt.nD Cert.Prompt.τ).loc Cert.Prompt.main_arg7)
      ∧ r.2.mem ((c.tc : Thread Cert.Prompt.nD Cert.Prompt.τ).loc Cert.Prompt.main_arg8) = m ((c.tc : Thread Cert.Prompt.nD Cert.Prompt.τ).loc Cert.Prompt.main_arg8)
      ∧ r.2.mem ((c.tc : Thread Cert.Prompt.nD Cert.Prompt.τ).loc Cert.Prompt.main_arg9) = m ((c.tc : Thread Cert.Prompt.nD Cert.Prompt.τ).loc Cert.Prompt.main_arg9))
      ∧ r.2.sem = fun _ => 0)

def quiescent_PromptIdeal [hPromptIdeal : Cert.PromptIdeal.Facts] : Prop :=
  ∀ (m : (ℓ : Loc Cert.PromptIdeal.nD Cert.PromptIdeal.τ Cert.PromptIdeal.sig) → Buf (Elt Ideal) ℓ) (g : Dev Cert.PromptIdeal.nD → PrngReg), Pre_PromptIdeal m →
    θ_run (Cert.PromptIdeal.defs (F := Ideal)) (onTc (τ := Cert.PromptIdeal.τ) (Cert.PromptIdeal.main (F := Ideal))) ⟨m, fun _ => 0, g⟩ (fun r => (∀ c : Dev Cert.PromptIdeal.nD,
      r.2.mem ((c.tc : Thread Cert.PromptIdeal.nD Cert.PromptIdeal.τ).loc Cert.PromptIdeal.main_arg0) = m ((c.tc : Thread Cert.PromptIdeal.nD Cert.PromptIdeal.τ).loc Cert.PromptIdeal.main_arg0)
      ∧ r.2.mem ((c.tc : Thread Cert.PromptIdeal.nD Cert.PromptIdeal.τ).loc Cert.PromptIdeal.main_arg1) = m ((c.tc : Thread Cert.PromptIdeal.nD Cert.PromptIdeal.τ).loc Cert.PromptIdeal.main_arg1)
      ∧ r.2.mem ((c.tc : Thread Cert.PromptIdeal.nD Cert.PromptIdeal.τ).loc Cert.PromptIdeal.main_arg2) = m ((c.tc : Thread Cert.PromptIdeal.nD Cert.PromptIdeal.τ).loc Cert.PromptIdeal.main_arg2)
      ∧ r.2.mem ((c.tc : Thread Cert.PromptIdeal.nD Cert.PromptIdeal.τ).loc Cert.PromptIdeal.main_arg3) = m ((c.tc : Thread Cert.PromptIdeal.nD Cert.PromptIdeal.τ).loc Cert.PromptIdeal.main_arg3)
      ∧ r.2.mem ((c.tc : Thread Cert.PromptIdeal.nD Cert.PromptIdeal.τ).loc Cert.PromptIdeal.main_arg4) = m ((c.tc : Thread Cert.PromptIdeal.nD Cert.PromptIdeal.τ).loc Cert.PromptIdeal.main_arg4)
      ∧ r.2.mem ((c.tc : Thread Cert.PromptIdeal.nD Cert.PromptIdeal.τ).loc Cert.PromptIdeal.main_arg5) = m ((c.tc : Thread Cert.PromptIdeal.nD Cert.PromptIdeal.τ).loc Cert.PromptIdeal.main_arg5)
      ∧ r.2.mem ((c.tc : Thread Cert.PromptIdeal.nD Cert.PromptIdeal.τ).loc Cert.PromptIdeal.main_arg6) = m ((c.tc : Thread Cert.PromptIdeal.nD Cert.PromptIdeal.τ).loc Cert.PromptIdeal.main_arg6)
      ∧ r.2.mem ((c.tc : Thread Cert.PromptIdeal.nD Cert.PromptIdeal.τ).loc Cert.PromptIdeal.main_arg7) = m ((c.tc : Thread Cert.PromptIdeal.nD Cert.PromptIdeal.τ).loc Cert.PromptIdeal.main_arg7)
      ∧ r.2.mem ((c.tc : Thread Cert.PromptIdeal.nD Cert.PromptIdeal.τ).loc Cert.PromptIdeal.main_arg8) = m ((c.tc : Thread Cert.PromptIdeal.nD Cert.PromptIdeal.τ).loc Cert.PromptIdeal.main_arg8)
      ∧ r.2.mem ((c.tc : Thread Cert.PromptIdeal.nD Cert.PromptIdeal.τ).loc Cert.PromptIdeal.main_arg9) = m ((c.tc : Thread Cert.PromptIdeal.nD Cert.PromptIdeal.τ).loc Cert.PromptIdeal.main_arg9))
      ∧ r.2.sem = fun _ => 0)

def quiescent_PromptIdeal_pre_finite [hPromptIdeal : Cert.PromptIdeal.Facts] [hPre_finite : Cert.Pre_finite.Facts] : Prop :=
  ∀ (m : (ℓ : Loc Cert.PromptIdeal.nD Cert.PromptIdeal.τ Cert.PromptIdeal.sig) → Buf (Elt Ideal) ℓ) (g : Dev Cert.PromptIdeal.nD → PrngReg), Pre_PromptIdeal_finite m →
    θ_run (Cert.PromptIdeal.defs (F := Ideal)) (onTc (τ := Cert.PromptIdeal.τ) (Cert.PromptIdeal.main (F := Ideal))) ⟨m, fun _ => 0, g⟩ (fun r => (∀ c : Dev Cert.PromptIdeal.nD,
      r.2.mem ((c.tc : Thread Cert.PromptIdeal.nD Cert.PromptIdeal.τ).loc Cert.PromptIdeal.main_arg0) = m ((c.tc : Thread Cert.PromptIdeal.nD Cert.PromptIdeal.τ).loc Cert.PromptIdeal.main_arg0)
      ∧ r.2.mem ((c.tc : Thread Cert.PromptIdeal.nD Cert.PromptIdeal.τ).loc Cert.PromptIdeal.main_arg1) = m ((c.tc : Thread Cert.PromptIdeal.nD Cert.PromptIdeal.τ).loc Cert.PromptIdeal.main_arg1)
      ∧ r.2.mem ((c.tc : Thread Cert.PromptIdeal.nD Cert.PromptIdeal.τ).loc Cert.PromptIdeal.main_arg2) = m ((c.tc : Thread Cert.PromptIdeal.nD Cert.PromptIdeal.τ).loc Cert.PromptIdeal.main_arg2)
      ∧ r.2.mem ((c.tc : Thread Cert.PromptIdeal.nD Cert.PromptIdeal.τ).loc Cert.PromptIdeal.main_arg3) = m ((c.tc : Thread Cert.PromptIdeal.nD Cert.PromptIdeal.τ).loc Cert.PromptIdeal.main_arg3)
      ∧ r.2.mem ((c.tc : Thread Cert.PromptIdeal.nD Cert.PromptIdeal.τ).loc Cert.PromptIdeal.main_arg4) = m ((c.tc : Thread Cert.PromptIdeal.nD Cert.PromptIdeal.τ).loc Cert.PromptIdeal.main_arg4)
      ∧ r.2.mem ((c.tc : Thread Cert.PromptIdeal.nD Cert.PromptIdeal.τ).loc Cert.PromptIdeal.main_arg5) = m ((c.tc : Thread Cert.PromptIdeal.nD Cert.PromptIdeal.τ).loc Cert.PromptIdeal.main_arg5)
      ∧ r.2.mem ((c.tc : Thread Cert.PromptIdeal.nD Cert.PromptIdeal.τ).loc Cert.PromptIdeal.main_arg6) = m ((c.tc : Thread Cert.PromptIdeal.nD Cert.PromptIdeal.τ).loc Cert.PromptIdeal.main_arg6)
      ∧ r.2.mem ((c.tc : Thread Cert.PromptIdeal.nD Cert.PromptIdeal.τ).loc Cert.PromptIdeal.main_arg7) = m ((c.tc : Thread Cert.PromptIdeal.nD Cert.PromptIdeal.τ).loc Cert.PromptIdeal.main_arg7)
      ∧ r.2.mem ((c.tc : Thread Cert.PromptIdeal.nD Cert.PromptIdeal.τ).loc Cert.PromptIdeal.main_arg8) = m ((c.tc : Thread Cert.PromptIdeal.nD Cert.PromptIdeal.τ).loc Cert.PromptIdeal.main_arg8)
      ∧ r.2.mem ((c.tc : Thread Cert.PromptIdeal.nD Cert.PromptIdeal.τ).loc Cert.PromptIdeal.main_arg9) = m ((c.tc : Thread Cert.PromptIdeal.nD Cert.PromptIdeal.τ).loc Cert.PromptIdeal.main_arg9))
      ∧ r.2.sem = fun _ => 0)

def quiescent_PromptRefIdeal [hPromptRefIdeal : Cert.PromptRefIdeal.Facts] : Prop :=
  ∀ (m : (ℓ : Loc Cert.PromptRefIdeal.nD Cert.PromptRefIdeal.τ Cert.PromptRefIdeal.sig) → Buf (Elt Ideal) ℓ) (g : Dev Cert.PromptRefIdeal.nD → PrngReg), Pre_PromptRefIdeal m →
    θ_run (Cert.PromptRefIdeal.defs (F := Ideal)) (onTc (τ := Cert.PromptRefIdeal.τ) (Cert.PromptRefIdeal.main (F := Ideal))) ⟨m, fun _ => 0, g⟩ (fun r => (∀ c : Dev Cert.PromptRefIdeal.nD,
      r.2.mem ((c.tc : Thread Cert.PromptRefIdeal.nD Cert.PromptRefIdeal.τ).loc Cert.PromptRefIdeal.main_arg0) = m ((c.tc : Thread Cert.PromptRefIdeal.nD Cert.PromptRefIdeal.τ).loc Cert.PromptRefIdeal.main_arg0)
      ∧ r.2.mem ((c.tc : Thread Cert.PromptRefIdeal.nD Cert.PromptRefIdeal.τ).loc Cert.PromptRefIdeal.main_arg1) = m ((c.tc : Thread Cert.PromptRefIdeal.nD Cert.PromptRefIdeal.τ).loc Cert.PromptRefIdeal.main_arg1)
      ∧ r.2.mem ((c.tc : Thread Cert.PromptRefIdeal.nD Cert.PromptRefIdeal.τ).loc Cert.PromptRefIdeal.main_arg2) = m ((c.tc : Thread Cert.PromptRefIdeal.nD Cert.PromptRefIdeal.τ).loc Cert.PromptRefIdeal.main_arg2)
      ∧ r.2.mem ((c.tc : Thread Cert.PromptRefIdeal.nD Cert.PromptRefIdeal.τ).loc Cert.PromptRefIdeal.main_arg3) = m ((c.tc : Thread Cert.PromptRefIdeal.nD Cert.PromptRefIdeal.τ).loc Cert.PromptRefIdeal.main_arg3)
      ∧ r.2.mem ((c.tc : Thread Cert.PromptRefIdeal.nD Cert.PromptRefIdeal.τ).loc Cert.PromptRefIdeal.main_arg4) = m ((c.tc : Thread Cert.PromptRefIdeal.nD Cert.PromptRefIdeal.τ).loc Cert.PromptRefIdeal.main_arg4)
      ∧ r.2.mem ((c.tc : Thread Cert.PromptRefIdeal.nD Cert.PromptRefIdeal.τ).loc Cert.PromptRefIdeal.main_arg5) = m ((c.tc : Thread Cert.PromptRefIdeal.nD Cert.PromptRefIdeal.τ).loc Cert.PromptRefIdeal.main_arg5)
      ∧ r.2.mem ((c.tc : Thread Cert.PromptRefIdeal.nD Cert.PromptRefIdeal.τ).loc Cert.PromptRefIdeal.main_arg6) = m ((c.tc : Thread Cert.PromptRefIdeal.nD Cert.PromptRefIdeal.τ).loc Cert.PromptRefIdeal.main_arg6)
      ∧ r.2.mem ((c.tc : Thread Cert.PromptRefIdeal.nD Cert.PromptRefIdeal.τ).loc Cert.PromptRefIdeal.main_arg7) = m ((c.tc : Thread Cert.PromptRefIdeal.nD Cert.PromptRefIdeal.τ).loc Cert.PromptRefIdeal.main_arg7)
      ∧ r.2.mem ((c.tc : Thread Cert.PromptRefIdeal.nD Cert.PromptRefIdeal.τ).loc Cert.PromptRefIdeal.main_arg8) = m ((c.tc : Thread Cert.PromptRefIdeal.nD Cert.PromptRefIdeal.τ).loc Cert.PromptRefIdeal.main_arg8)
      ∧ r.2.mem ((c.tc : Thread Cert.PromptRefIdeal.nD Cert.PromptRefIdeal.τ).loc Cert.PromptRefIdeal.main_arg9) = m ((c.tc : Thread Cert.PromptRefIdeal.nD Cert.PromptRefIdeal.τ).loc Cert.PromptRefIdeal.main_arg9))
      ∧ r.2.sem = fun _ => 0)

def quiescent_PromptRefIdeal_pre_finite [hPromptRefIdeal : Cert.PromptRefIdeal.Facts] [hPre_finite : Cert.Pre_finite.Facts] : Prop :=
  ∀ (m : (ℓ : Loc Cert.PromptRefIdeal.nD Cert.PromptRefIdeal.τ Cert.PromptRefIdeal.sig) → Buf (Elt Ideal) ℓ) (g : Dev Cert.PromptRefIdeal.nD → PrngReg), Pre_PromptRefIdeal_finite m →
    θ_run (Cert.PromptRefIdeal.defs (F := Ideal)) (onTc (τ := Cert.PromptRefIdeal.τ) (Cert.PromptRefIdeal.main (F := Ideal))) ⟨m, fun _ => 0, g⟩ (fun r => (∀ c : Dev Cert.PromptRefIdeal.nD,
      r.2.mem ((c.tc : Thread Cert.PromptRefIdeal.nD Cert.PromptRefIdeal.τ).loc Cert.PromptRefIdeal.main_arg0) = m ((c.tc : Thread Cert.PromptRefIdeal.nD Cert.PromptRefIdeal.τ).loc Cert.PromptRefIdeal.main_arg0)
      ∧ r.2.mem ((c.tc : Thread Cert.PromptRefIdeal.nD Cert.PromptRefIdeal.τ).loc Cert.PromptRefIdeal.main_arg1) = m ((c.tc : Thread Cert.PromptRefIdeal.nD Cert.PromptRefIdeal.τ).loc Cert.PromptRefIdeal.main_arg1)
      ∧ r.2.mem ((c.tc : Thread Cert.PromptRefIdeal.nD Cert.PromptRefIdeal.τ).loc Cert.PromptRefIdeal.main_arg2) = m ((c.tc : Thread Cert.PromptRefIdeal.nD Cert.PromptRefIdeal.τ).loc Cert.PromptRefIdeal.main_arg2)
      ∧ r.2.mem ((c.tc : Thread Cert.PromptRefIdeal.nD Cert.PromptRefIdeal.τ).loc Cert.PromptRefIdeal.main_arg3) = m ((c.tc : Thread Cert.PromptRefIdeal.nD Cert.PromptRefIdeal.τ).loc Cert.PromptRefIdeal.main_arg3)
      ∧ r.2.mem ((c.tc : Thread Cert.PromptRefIdeal.nD Cert.PromptRefIdeal.τ).loc Cert.PromptRefIdeal.main_arg4) = m ((c.tc : Thread Cert.PromptRefIdeal.nD Cert.PromptRefIdeal.τ).loc Cert.PromptRefIdeal.main_arg4)
      ∧ r.2.mem ((c.tc : Thread Cert.PromptRefIdeal.nD Cert.PromptRefIdeal.τ).loc Cert.PromptRefIdeal.main_arg5) = m ((c.tc : Thread Cert.PromptRefIdeal.nD Cert.PromptRefIdeal.τ).loc Cert.PromptRefIdeal.main_arg5)
      ∧ r.2.mem ((c.tc : Thread Cert.PromptRefIdeal.nD Cert.PromptRefIdeal.τ).loc Cert.PromptRefIdeal.main_arg6) = m ((c.tc : Thread Cert.PromptRefIdeal.nD Cert.PromptRefIdeal.τ).loc Cert.PromptRefIdeal.main_arg6)
      ∧ r.2.mem ((c.tc : Thread Cert.PromptRefIdeal.nD Cert.PromptRefIdeal.τ).loc Cert.PromptRefIdeal.main_arg7) = m ((c.tc : Thread Cert.PromptRefIdeal.nD Cert.PromptRefIdeal.τ).loc Cert.PromptRefIdeal.main_arg7)
      ∧ r.2.mem ((c.tc : Thread Cert.PromptRefIdeal.nD Cert.PromptRefIdeal.τ).loc Cert.PromptRefIdeal.main_arg8) = m ((c.tc : Thread Cert.PromptRefIdeal.nD Cert.PromptRefIdeal.τ).loc Cert.PromptRefIdeal.main_arg8)
      ∧ r.2.mem ((c.tc : Thread Cert.PromptRefIdeal.nD Cert.PromptRefIdeal.τ).loc Cert.PromptRefIdeal.main_arg9) = m ((c.tc : Thread Cert.PromptRefIdeal.nD Cert.PromptRefIdeal.τ).loc Cert.PromptRefIdeal.main_arg9))
      ∧ r.2.sem = fun _ => 0)

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)
      ∧ m' ((c.tc : Thread Cert.ConvRefIdeal.nD Cert.ConvRefIdeal.τ).loc Cert.ConvRefIdeal.main_arg3) = m ((c.tc : Thread Cert.ConvIdeal.nD Cert.ConvIdeal.τ).loc Cert.ConvIdeal.main_arg3)
      ∧ m' ((c.tc : Thread Cert.ConvRefIdeal.nD Cert.ConvRefIdeal.τ).loc Cert.ConvRefIdeal.main_arg4) = m ((c.tc : Thread Cert.ConvIdeal.nD Cert.ConvIdeal.τ).loc Cert.ConvIdeal.main_arg4)
      ∧ m' ((c.tc : Thread Cert.ConvRefIdeal.nD Cert.ConvRefIdeal.τ).loc Cert.ConvRefIdeal.main_arg5) = m ((c.tc : Thread Cert.ConvIdeal.nD Cert.ConvIdeal.τ).loc Cert.ConvIdeal.main_arg5)
      ∧ m' ((c.tc : Thread Cert.ConvRefIdeal.nD Cert.ConvRefIdeal.τ).loc Cert.ConvRefIdeal.main_arg6) = m ((c.tc : Thread Cert.ConvIdeal.nD Cert.ConvIdeal.τ).loc Cert.ConvIdeal.main_arg6)
      ∧ m' ((c.tc : Thread Cert.ConvRefIdeal.nD Cert.ConvRefIdeal.τ).loc Cert.ConvRefIdeal.main_arg7) = m ((c.tc : Thread Cert.ConvIdeal.nD Cert.ConvIdeal.τ).loc Cert.ConvIdeal.main_arg7)
      ∧ m' ((c.tc : Thread Cert.ConvRefIdeal.nD Cert.ConvRefIdeal.τ).loc Cert.ConvRefIdeal.main_arg8) = m ((c.tc : Thread Cert.ConvIdeal.nD Cert.ConvIdeal.τ).loc Cert.ConvIdeal.main_arg8)
      ∧ m' ((c.tc : Thread Cert.ConvRefIdeal.nD Cert.ConvRefIdeal.τ).loc Cert.ConvRefIdeal.main_arg9) = m ((c.tc : Thread Cert.ConvIdeal.nD Cert.ConvIdeal.τ).loc Cert.ConvIdeal.main_arg9)
      ∧ m' ((c.tc : Thread Cert.ConvRefIdeal.nD Cert.ConvRefIdeal.τ).loc Cert.ConvRefIdeal.main_arg10) = m ((c.tc : Thread Cert.ConvIdeal.nD Cert.ConvIdeal.τ).loc Cert.ConvIdeal.main_arg10)) →
    ∃ (v0 : (c : Dev Cert.ConvIdeal.nD) → Buf (Elt Ideal) ((c.tc : Thread Cert.ConvIdeal.nD Cert.ConvIdeal.τ).loc Cert.ConvIdeal.main_v1_0)) (v1 : (c : Dev Cert.ConvIdeal.nD) → Buf (Elt Ideal) ((c.tc : Thread Cert.ConvIdeal.nD Cert.ConvIdeal.τ).loc Cert.ConvIdeal.main_v1_1)) (v2 : (c : Dev Cert.ConvIdeal.nD) → Buf (Elt Ideal) ((c.tc : Thread Cert.ConvIdeal.nD Cert.ConvIdeal.τ).loc Cert.ConvIdeal.main_v1_2)) (v3 : (c : Dev Cert.ConvIdeal.nD) → Buf (Elt Ideal) ((c.tc : Thread Cert.ConvIdeal.nD Cert.ConvIdeal.τ).loc Cert.ConvIdeal.main_v1_3)) (v4 : (c : Dev Cert.ConvIdeal.nD) → Buf (Elt Ideal) ((c.tc : Thread Cert.ConvIdeal.nD Cert.ConvIdeal.τ).loc Cert.ConvIdeal.main_v1_4)) (v5 : (c : Dev Cert.ConvIdeal.nD) → Buf (Elt Ideal) ((c.tc : Thread Cert.ConvIdeal.nD Cert.ConvIdeal.τ).loc Cert.ConvIdeal.main_v1_5)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v1_0) = v0 c
          ∧ r.2.mem ((c.tc : Thread Cert.ConvIdeal.nD Cert.ConvIdeal.τ).loc Cert.ConvIdeal.main_v1_1) = v1 c
          ∧ r.2.mem ((c.tc : Thread Cert.ConvIdeal.nD Cert.ConvIdeal.τ).loc Cert.ConvIdeal.main_v1_2) = v2 c
          ∧ r.2.mem ((c.tc : Thread Cert.ConvIdeal.nD Cert.ConvIdeal.τ).loc Cert.ConvIdeal.main_v1_3) = v3 c
          ∧ r.2.mem ((c.tc : Thread Cert.ConvIdeal.nD Cert.ConvIdeal.τ).loc Cert.ConvIdeal.main_v1_4) = v4 c
          ∧ r.2.mem ((c.tc : Thread Cert.ConvIdeal.nD Cert.ConvIdeal.τ).loc Cert.ConvIdeal.main_v1_5) = v5 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
          ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
          ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5)
          ∧ r.2.mem ((c.tc : Thread Cert.ConvIdeal.nD Cert.ConvIdeal.τ).loc Cert.ConvIdeal.main_arg6) = m ((c.tc : Thread Cert.ConvIdeal.nD Cert.ConvIdeal.τ).loc Cert.ConvIdeal.main_arg6)
          ∧ r.2.mem ((c.tc : Thread Cert.ConvIdeal.nD Cert.ConvIdeal.τ).loc Cert.ConvIdeal.main_arg7) = m ((c.tc : Thread Cert.ConvIdeal.nD Cert.ConvIdeal.τ).loc Cert.ConvIdeal.main_arg7)
          ∧ r.2.mem ((c.tc : Thread Cert.ConvIdeal.nD Cert.ConvIdeal.τ).loc Cert.ConvIdeal.main_arg8) = m ((c.tc : Thread Cert.ConvIdeal.nD Cert.ConvIdeal.τ).loc Cert.ConvIdeal.main_arg8)
          ∧ r.2.mem ((c.tc : Thread Cert.ConvIdeal.nD Cert.ConvIdeal.τ).loc Cert.ConvIdeal.main_arg9) = m ((c.tc : Thread Cert.ConvIdeal.nD Cert.ConvIdeal.τ).loc Cert.ConvIdeal.main_arg9)
          ∧ r.2.mem ((c.tc : Thread Cert.ConvIdeal.nD Cert.ConvIdeal.τ).loc Cert.ConvIdeal.main_arg10) = m ((c.tc : Thread Cert.ConvIdeal.nD Cert.ConvIdeal.τ).loc Cert.ConvIdeal.main_arg10))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v63) = v0 c
          ∧ r.2.mem ((c.tc : Thread Cert.ConvRefIdeal.nD Cert.ConvRefIdeal.τ).loc Cert.ConvRefIdeal.main_v57) = v1 c
          ∧ r.2.mem ((c.tc : Thread Cert.ConvRefIdeal.nD Cert.ConvRefIdeal.τ).loc Cert.ConvRefIdeal.main_v132) = v2 c
          ∧ r.2.mem ((c.tc : Thread Cert.ConvRefIdeal.nD Cert.ConvRefIdeal.τ).loc Cert.ConvRefIdeal.main_v133) = v3 c
          ∧ r.2.mem ((c.tc : Thread Cert.ConvRefIdeal.nD Cert.ConvRefIdeal.τ).loc Cert.ConvRefIdeal.main_v136) = v4 c
          ∧ r.2.mem ((c.tc : Thread Cert.ConvRefIdeal.nD Cert.ConvRefIdeal.τ).loc Cert.ConvRefIdeal.main_v139) = v5 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3)
          ∧ r.2.mem ((c.tc : Thread Cert.ConvRefIdeal.nD Cert.ConvRefIdeal.τ).loc Cert.ConvRefIdeal.main_arg4) = m' ((c.tc : Thread Cert.ConvRefIdeal.nD Cert.ConvRefIdeal.τ).loc Cert.ConvRefIdeal.main_arg4)
          ∧ r.2.mem ((c.tc : Thread Cert.ConvRefIdeal.nD Cert.ConvRefIdeal.τ).loc Cert.ConvRefIdeal.main_arg5) = m' ((c.tc : Thread Cert.ConvRefIdeal.nD Cert.ConvRefIdeal.τ).loc Cert.ConvRefIdeal.main_arg5)
          ∧ r.2.mem ((c.tc : Thread Cert.ConvRefIdeal.nD Cert.ConvRefIdeal.τ).loc Cert.ConvRefIdeal.main_arg6) = m' ((c.tc : Thread Cert.ConvRefIdeal.nD Cert.ConvRefIdeal.τ).loc Cert.ConvRefIdeal.main_arg6)
          ∧ r.2.mem ((c.tc : Thread Cert.ConvRefIdeal.nD Cert.ConvRefIdeal.τ).loc Cert.ConvRefIdeal.main_arg7) = m' ((c.tc : Thread Cert.ConvRefIdeal.nD Cert.ConvRefIdeal.τ).loc Cert.ConvRefIdeal.main_arg7)
          ∧ r.2.mem ((c.tc : Thread Cert.ConvRefIdeal.nD Cert.ConvRefIdeal.τ).loc Cert.ConvRefIdeal.main_arg8) = m' ((c.tc : Thread Cert.ConvRefIdeal.nD Cert.ConvRefIdeal.τ).loc Cert.ConvRefIdeal.main_arg8)
          ∧ r.2.mem ((c.tc : Thread Cert.ConvRefIdeal.nD Cert.ConvRefIdeal.τ).loc Cert.ConvRefIdeal.main_arg9) = m' ((c.tc : Thread Cert.ConvRefIdeal.nD Cert.ConvRefIdeal.τ).loc Cert.ConvRefIdeal.main_arg9)
          ∧ r.2.mem ((c.tc : Thread Cert.ConvRefIdeal.nD Cert.ConvRefIdeal.τ).loc Cert.ConvRefIdeal.main_arg10) = m' ((c.tc : Thread Cert.ConvRefIdeal.nD Cert.ConvRefIdeal.τ).loc Cert.ConvRefIdeal.main_arg10))

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)
      ∧ m' ((c.tc : Thread Cert.MlpRefIdeal.nD Cert.MlpRefIdeal.τ).loc Cert.MlpRefIdeal.main_arg5) = m ((c.tc : Thread Cert.MlpIdeal.nD Cert.MlpIdeal.τ).loc Cert.MlpIdeal.main_arg5)
      ∧ m' ((c.tc : Thread Cert.MlpRefIdeal.nD Cert.MlpRefIdeal.τ).loc Cert.MlpRefIdeal.main_arg6) = m ((c.tc : Thread Cert.MlpIdeal.nD Cert.MlpIdeal.τ).loc Cert.MlpIdeal.main_arg6)
      ∧ m' ((c.tc : Thread Cert.MlpRefIdeal.nD Cert.MlpRefIdeal.τ).loc Cert.MlpRefIdeal.main_arg7) = m ((c.tc : Thread Cert.MlpIdeal.nD Cert.MlpIdeal.τ).loc Cert.MlpIdeal.main_arg7)) →
    ∃ (v0 : (c : Dev Cert.MlpIdeal.nD) → Buf (Elt Ideal) ((c.tc : Thread Cert.MlpIdeal.nD Cert.MlpIdeal.τ).loc Cert.MlpIdeal.main_v2_0)) (v1 : (c : Dev Cert.MlpIdeal.nD) → Buf (Elt Ideal) ((c.tc : Thread Cert.MlpIdeal.nD Cert.MlpIdeal.τ).loc Cert.MlpIdeal.main_v2_1)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v2_0) = v0 c
          ∧ r.2.mem ((c.tc : Thread Cert.MlpIdeal.nD Cert.MlpIdeal.τ).loc Cert.MlpIdeal.main_v2_1) = v1 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
          ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
          ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
          ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v91) = v0 c
          ∧ r.2.mem ((c.tc : Thread Cert.MlpRefIdeal.nD Cert.MlpRefIdeal.τ).loc Cert.MlpRefIdeal.main_v106) = v1 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4)
          ∧ r.2.mem ((c.tc : Thread Cert.MlpRefIdeal.nD Cert.MlpRefIdeal.τ).loc Cert.MlpRefIdeal.main_arg5) = m' ((c.tc : Thread Cert.MlpRefIdeal.nD Cert.MlpRefIdeal.τ).loc Cert.MlpRefIdeal.main_arg5)
          ∧ r.2.mem ((c.tc : Thread Cert.MlpRefIdeal.nD Cert.MlpRefIdeal.τ).loc Cert.MlpRefIdeal.main_arg6) = m' ((c.tc : Thread Cert.MlpRefIdeal.nD Cert.MlpRefIdeal.τ).loc Cert.MlpRefIdeal.main_arg6)
          ∧ r.2.mem ((c.tc : Thread Cert.MlpRefIdeal.nD Cert.MlpRefIdeal.τ).loc Cert.MlpRefIdeal.main_arg7) = m' ((c.tc : Thread Cert.MlpRefIdeal.nD Cert.MlpRefIdeal.τ).loc Cert.MlpRefIdeal.main_arg7))

def preserves_First_FirstIdeal : Prop :=
  True

def algebraic_FirstIdeal_FirstRefIdeal [hFirstIdeal : Cert.FirstIdeal.Facts] [hFirstRefIdeal : Cert.FirstRefIdeal.Facts] : Prop :=
  ∀ (m : (ℓ : Loc Cert.FirstIdeal.nD Cert.FirstIdeal.τ Cert.FirstIdeal.sig) → Buf (Elt Ideal) ℓ) (g : Dev Cert.FirstIdeal.nD → PrngReg)
    (m' : (ℓ : Loc Cert.FirstRefIdeal.nD Cert.FirstRefIdeal.τ Cert.FirstRefIdeal.sig) → Buf (Elt Ideal) ℓ) (g' : Dev Cert.FirstRefIdeal.nD → PrngReg), Pre_FirstIdeal m →
    (∀ c : Dev Cert.FirstIdeal.nD,
      m' ((c.tc : Thread Cert.FirstRefIdeal.nD Cert.FirstRefIdeal.τ).loc Cert.FirstRefIdeal.main_arg0) = m ((c.tc : Thread Cert.FirstIdeal.nD Cert.FirstIdeal.τ).loc Cert.FirstIdeal.main_arg0)
      ∧ m' ((c.tc : Thread Cert.FirstRefIdeal.nD Cert.FirstRefIdeal.τ).loc Cert.FirstRefIdeal.main_arg1) = m ((c.tc : Thread Cert.FirstIdeal.nD Cert.FirstIdeal.τ).loc Cert.FirstIdeal.main_arg1)
      ∧ m' ((c.tc : Thread Cert.FirstRefIdeal.nD Cert.FirstRefIdeal.τ).loc Cert.FirstRefIdeal.main_arg2) = m ((c.tc : Thread Cert.FirstIdeal.nD Cert.FirstIdeal.τ).loc Cert.FirstIdeal.main_arg2)
      ∧ m' ((c.tc : Thread Cert.FirstRefIdeal.nD Cert.FirstRefIdeal.τ).loc Cert.FirstRefIdeal.main_arg3) = m ((c.tc : Thread Cert.FirstIdeal.nD Cert.FirstIdeal.τ).loc Cert.FirstIdeal.main_arg3)
      ∧ m' ((c.tc : Thread Cert.FirstRefIdeal.nD Cert.FirstRefIdeal.τ).loc Cert.FirstRefIdeal.main_arg4) = m ((c.tc : Thread Cert.FirstIdeal.nD Cert.FirstIdeal.τ).loc Cert.FirstIdeal.main_arg4)
      ∧ m' ((c.tc : Thread Cert.FirstRefIdeal.nD Cert.FirstRefIdeal.τ).loc Cert.FirstRefIdeal.main_arg5) = m ((c.tc : Thread Cert.FirstIdeal.nD Cert.FirstIdeal.τ).loc Cert.FirstIdeal.main_arg5)
      ∧ m' ((c.tc : Thread Cert.FirstRefIdeal.nD Cert.FirstRefIdeal.τ).loc Cert.FirstRefIdeal.main_arg6) = m ((c.tc : Thread Cert.FirstIdeal.nD Cert.FirstIdeal.τ).loc Cert.FirstIdeal.main_arg6)
      ∧ m' ((c.tc : Thread Cert.FirstRefIdeal.nD Cert.FirstRefIdeal.τ).loc Cert.FirstRefIdeal.main_arg7) = m ((c.tc : Thread Cert.FirstIdeal.nD Cert.FirstIdeal.τ).loc Cert.FirstIdeal.main_arg7)
      ∧ m' ((c.tc : Thread Cert.FirstRefIdeal.nD Cert.FirstRefIdeal.τ).loc Cert.FirstRefIdeal.main_arg8) = m ((c.tc : Thread Cert.FirstIdeal.nD Cert.FirstIdeal.τ).loc Cert.FirstIdeal.main_arg8)
      ∧ m' ((c.tc : Thread Cert.FirstRefIdeal.nD Cert.FirstRefIdeal.τ).loc Cert.FirstRefIdeal.main_arg9) = m ((c.tc : Thread Cert.FirstIdeal.nD Cert.FirstIdeal.τ).loc Cert.FirstIdeal.main_arg9)
      ∧ m' ((c.tc : Thread Cert.FirstRefIdeal.nD Cert.FirstRefIdeal.τ).loc Cert.FirstRefIdeal.main_arg10) = m ((c.tc : Thread Cert.FirstIdeal.nD Cert.FirstIdeal.τ).loc Cert.FirstIdeal.main_arg10)) →
    ∃ (v0 : (c : Dev Cert.FirstIdeal.nD) → Buf (Elt Ideal) ((c.tc : Thread Cert.FirstIdeal.nD Cert.FirstIdeal.τ).loc Cert.FirstIdeal.main_v1_0)) (v1 : (c : Dev Cert.FirstIdeal.nD) → Buf (Elt Ideal) ((c.tc : Thread Cert.FirstIdeal.nD Cert.FirstIdeal.τ).loc Cert.FirstIdeal.main_v1_1)) (v2 : (c : Dev Cert.FirstIdeal.nD) → Buf (Elt Ideal) ((c.tc : Thread Cert.FirstIdeal.nD Cert.FirstIdeal.τ).loc Cert.FirstIdeal.main_v1_2)) (v3 : (c : Dev Cert.FirstIdeal.nD) → Buf (Elt Ideal) ((c.tc : Thread Cert.FirstIdeal.nD Cert.FirstIdeal.τ).loc Cert.FirstIdeal.main_v1_3)),
      θ_run (Cert.FirstIdeal.defs (F := Ideal)) (onTc (τ := Cert.FirstIdeal.τ) (Cert.FirstIdeal.main (F := Ideal))) ⟨m, fun _ => 0, g⟩ (fun r => ∀ c : Dev Cert.FirstIdeal.nD,
          r.2.mem ((c.tc : Thread Cert.FirstIdeal.nD Cert.FirstIdeal.τ).loc Cert.FirstIdeal.main_v1_0) = v0 c
          ∧ r.2.mem ((c.tc : Thread Cert.FirstIdeal.nD Cert.FirstIdeal.τ).loc Cert.FirstIdeal.main_v1_1) = v1 c
          ∧ r.2.mem ((c.tc : Thread Cert.FirstIdeal.nD Cert.FirstIdeal.τ).loc Cert.FirstIdeal.main_v1_2) = v2 c
          ∧ r.2.mem ((c.tc : Thread Cert.FirstIdeal.nD Cert.FirstIdeal.τ).loc Cert.FirstIdeal.main_v1_3) = v3 c
          ∧ r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
          ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
          ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2)
          ∧ r.2.mem ((c.tc : Thread Cert.FirstIdeal.nD Cert.FirstIdeal.τ).loc Cert.FirstIdeal.main_arg3) = m ((c.tc : Thread Cert.FirstIdeal.nD Cert.FirstIdeal.τ).loc Cert.FirstIdeal.main_arg3)
          ∧ r.2.mem ((c.tc : Thread Cert.FirstIdeal.nD Cert.FirstIdeal.τ).loc Cert.FirstIdeal.main_arg4) = m ((c.tc : Thread Cert.FirstIdeal.nD Cert.FirstIdeal.τ).loc Cert.FirstIdeal.main_arg4)
          ∧ r.2.mem ((c.tc : Thread Cert.FirstIdeal.nD Cert.FirstIdeal.τ).loc Cert.FirstIdeal.main_arg5) = m ((c.tc : Thread Cert.FirstIdeal.nD Cert.FirstIdeal.τ).loc Cert.FirstIdeal.main_arg5)
          ∧ r.2.mem ((c.tc : Thread Cert.FirstIdeal.nD Cert.FirstIdeal.τ).loc Cert.FirstIdeal.main_arg6) = m ((c.tc : Thread Cert.FirstIdeal.nD Cert.FirstIdeal.τ).loc Cert.FirstIdeal.main_arg6)
          ∧ r.2.mem ((c.tc : Thread Cert.FirstIdeal.nD Cert.FirstIdeal.τ).loc Cert.FirstIdeal.main_arg7) = m ((c.tc : Thread Cert.FirstIdeal.nD Cert.FirstIdeal.τ).loc Cert.FirstIdeal.main_arg7)
          ∧ r.2.mem ((c.tc : Thread Cert.FirstIdeal.nD Cert.FirstIdeal.τ).loc Cert.FirstIdeal.main_arg8) = m ((c.tc : Thread Cert.FirstIdeal.nD Cert.FirstIdeal.τ).loc Cert.FirstIdeal.main_arg8)
          ∧ r.2.mem ((c.tc : Thread Cert.FirstIdeal.nD Cert.FirstIdeal.τ).loc Cert.FirstIdeal.main_arg9) = m ((c.tc : Thread Cert.FirstIdeal.nD Cert.FirstIdeal.τ).loc Cert.FirstIdeal.main_arg9)
          ∧ r.2.mem ((c.tc : Thread Cert.FirstIdeal.nD Cert.FirstIdeal.τ).loc Cert.FirstIdeal.main_arg10) = m ((c.tc : Thread Cert.FirstIdeal.nD Cert.FirstIdeal.τ).loc Cert.FirstIdeal.main_arg10))
      ∧ θ_run (Cert.FirstRefIdeal.defs (F := Ideal)) (onTc (τ := Cert.FirstRefIdeal.τ) (Cert.FirstRefIdeal.main (F := Ideal))) ⟨m', fun _ => 0, g'⟩ (fun r => ∀ c : Dev Cert.FirstRefIdeal.nD,
          r.2.mem ((c.tc : Thread Cert.FirstRefIdeal.nD Cert.FirstRefIdeal.τ).loc Cert.FirstRefIdeal.main_v38) = v0 c
          ∧ r.2.mem ((c.tc : Thread Cert.FirstRefIdeal.nD Cert.FirstRefIdeal.τ).loc Cert.FirstRefIdeal.main_v90) = v1 c
          ∧ r.2.mem ((c.tc : Thread Cert.FirstRefIdeal.nD Cert.FirstRefIdeal.τ).loc Cert.FirstRefIdeal.main_v92) = v2 c
          ∧ r.2.mem ((c.tc : Thread Cert.FirstRefIdeal.nD Cert.FirstRefIdeal.τ).loc Cert.FirstRefIdeal.main_v94) = v3 c
          ∧ r.2.mem ((c.tc : Thread Cert.FirstRefIdeal.nD Cert.FirstRefIdeal.τ).loc Cert.FirstRefIdeal.main_arg0) = m' ((c.tc : Thread Cert.FirstRefIdeal.nD Cert.FirstRefIdeal.τ).loc Cert.FirstRefIdeal.main_arg0)
          ∧ r.2.mem ((c.tc : Thread Cert.FirstRefIdeal.nD Cert.FirstRefIdeal.τ).loc Cert.FirstRefIdeal.main_arg1) = m' ((c.tc : Thread Cert.FirstRefIdeal.nD Cert.FirstRefIdeal.τ).loc Cert.FirstRefIdeal.main_arg1)
          ∧ r.2.mem ((c.tc : Thread Cert.FirstRefIdeal.nD Cert.FirstRefIdeal.τ).loc Cert.FirstRefIdeal.main_arg2) = m' ((c.tc : Thread Cert.FirstRefIdeal.nD Cert.FirstRefIdeal.τ).loc Cert.FirstRefIdeal.main_arg2)
          ∧ r.2.mem ((c.tc : Thread Cert.FirstRefIdeal.nD Cert.FirstRefIdeal.τ).loc Cert.FirstRefIdeal.main_arg3) = m' ((c.tc : Thread Cert.FirstRefIdeal.nD Cert.FirstRefIdeal.τ).loc Cert.FirstRefIdeal.main_arg3)
          ∧ r.2.mem ((c.tc : Thread Cert.FirstRefIdeal.nD Cert.FirstRefIdeal.τ).loc Cert.FirstRefIdeal.main_arg4) = m' ((c.tc : Thread Cert.FirstRefIdeal.nD Cert.FirstRefIdeal.τ).loc Cert.FirstRefIdeal.main_arg4)
          ∧ r.2.mem ((c.tc : Thread Cert.FirstRefIdeal.nD Cert.FirstRefIdeal.τ).loc Cert.FirstRefIdeal.main_arg5) = m' ((c.tc : Thread Cert.FirstRefIdeal.nD Cert.FirstRefIdeal.τ).loc Cert.FirstRefIdeal.main_arg5)
          ∧ r.2.mem ((c.tc : Thread Cert.FirstRefIdeal.nD Cert.FirstRefIdeal.τ).loc Cert.FirstRefIdeal.main_arg6) = m' ((c.tc : Thread Cert.FirstRefIdeal.nD Cert.FirstRefIdeal.τ).loc Cert.FirstRefIdeal.main_arg6)
          ∧ r.2.mem ((c.tc : Thread Cert.FirstRefIdeal.nD Cert.FirstRefIdeal.τ).loc Cert.FirstRefIdeal.main_arg7) = m' ((c.tc : Thread Cert.FirstRefIdeal.nD Cert.FirstRefIdeal.τ).loc Cert.FirstRefIdeal.main_arg7)
          ∧ r.2.mem ((c.tc : Thread Cert.FirstRefIdeal.nD Cert.FirstRefIdeal.τ).loc Cert.FirstRefIdeal.main_arg8) = m' ((c.tc : Thread Cert.FirstRefIdeal.nD Cert.FirstRefIdeal.τ).loc Cert.FirstRefIdeal.main_arg8)
          ∧ r.2.mem ((c.tc : Thread Cert.FirstRefIdeal.nD Cert.FirstRefIdeal.τ).loc Cert.FirstRefIdeal.main_arg9) = m' ((c.tc : Thread Cert.FirstRefIdeal.nD Cert.FirstRefIdeal.τ).loc Cert.FirstRefIdeal.main_arg9)
          ∧ r.2.mem ((c.tc : Thread Cert.FirstRefIdeal.nD Cert.FirstRefIdeal.τ).loc Cert.FirstRefIdeal.main_arg10) = m' ((c.tc : Thread Cert.FirstRefIdeal.nD Cert.FirstRefIdeal.τ).loc Cert.FirstRefIdeal.main_arg10))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)
      ∧ m' ((c.tc : Thread Cert.AdaRefIdeal.nD Cert.AdaRefIdeal.τ).loc Cert.AdaRefIdeal.main_arg3) = m ((c.tc : Thread Cert.AdaIdeal.nD Cert.AdaIdeal.τ).loc Cert.AdaIdeal.main_arg3)) →
    ∃ (v0 : (c : Dev Cert.AdaIdeal.nD) → Buf (Elt Ideal) ((c.tc : Thread Cert.AdaIdeal.nD Cert.AdaIdeal.τ).loc Cert.AdaIdeal.main_v2)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v2) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
          ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v46) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2)
          ∧ r.2.mem ((c.tc : Thread Cert.AdaRefIdeal.nD Cert.AdaRefIdeal.τ).loc Cert.AdaRefIdeal.main_arg3) = m' ((c.tc : Thread Cert.AdaRefIdeal.nD Cert.AdaRefIdeal.τ).loc Cert.AdaRefIdeal.main_arg3))

def preserves_Prompt_PromptIdeal : Prop :=
  True

def algebraic_PromptIdeal_PromptRefIdeal_pre_finite [hPromptIdeal : Cert.PromptIdeal.Facts] [hPromptRefIdeal : Cert.PromptRefIdeal.Facts] [hPre_finite : Cert.Pre_finite.Facts] : Prop :=
  ∀ (m : (ℓ : Loc Cert.PromptIdeal.nD Cert.PromptIdeal.τ Cert.PromptIdeal.sig) → Buf (Elt Ideal) ℓ) (g : Dev Cert.PromptIdeal.nD → PrngReg)
    (m' : (ℓ : Loc Cert.PromptRefIdeal.nD Cert.PromptRefIdeal.τ Cert.PromptRefIdeal.sig) → Buf (Elt Ideal) ℓ) (g' : Dev Cert.PromptRefIdeal.nD → PrngReg), Pre_PromptIdeal_finite m →
    (∀ c : Dev Cert.PromptIdeal.nD,
      m' ((c.tc : Thread Cert.PromptRefIdeal.nD Cert.PromptRefIdeal.τ).loc Cert.PromptRefIdeal.main_arg0) = m ((c.tc : Thread Cert.PromptIdeal.nD Cert.PromptIdeal.τ).loc Cert.PromptIdeal.main_arg0)
      ∧ m' ((c.tc : Thread Cert.PromptRefIdeal.nD Cert.PromptRefIdeal.τ).loc Cert.PromptRefIdeal.main_arg1) = m ((c.tc : Thread Cert.PromptIdeal.nD Cert.PromptIdeal.τ).loc Cert.PromptIdeal.main_arg1)
      ∧ m' ((c.tc : Thread Cert.PromptRefIdeal.nD Cert.PromptRefIdeal.τ).loc Cert.PromptRefIdeal.main_arg2) = m ((c.tc : Thread Cert.PromptIdeal.nD Cert.PromptIdeal.τ).loc Cert.PromptIdeal.main_arg2)
      ∧ m' ((c.tc : Thread Cert.PromptRefIdeal.nD Cert.PromptRefIdeal.τ).loc Cert.PromptRefIdeal.main_arg3) = m ((c.tc : Thread Cert.PromptIdeal.nD Cert.PromptIdeal.τ).loc Cert.PromptIdeal.main_arg3)
      ∧ m' ((c.tc : Thread Cert.PromptRefIdeal.nD Cert.PromptRefIdeal.τ).loc Cert.PromptRefIdeal.main_arg4) = m ((c.tc : Thread Cert.PromptIdeal.nD Cert.PromptIdeal.τ).loc Cert.PromptIdeal.main_arg4)
      ∧ m' ((c.tc : Thread Cert.PromptRefIdeal.nD Cert.PromptRefIdeal.τ).loc Cert.PromptRefIdeal.main_arg5) = m ((c.tc : Thread Cert.PromptIdeal.nD Cert.PromptIdeal.τ).loc Cert.PromptIdeal.main_arg5)
      ∧ m' ((c.tc : Thread Cert.PromptRefIdeal.nD Cert.PromptRefIdeal.τ).loc Cert.PromptRefIdeal.main_arg6) = m ((c.tc : Thread Cert.PromptIdeal.nD Cert.PromptIdeal.τ).loc Cert.PromptIdeal.main_arg6)
      ∧ m' ((c.tc : Thread Cert.PromptRefIdeal.nD Cert.PromptRefIdeal.τ).loc Cert.PromptRefIdeal.main_arg7) = m ((c.tc : Thread Cert.PromptIdeal.nD Cert.PromptIdeal.τ).loc Cert.PromptIdeal.main_arg7)
      ∧ m' ((c.tc : Thread Cert.PromptRefIdeal.nD Cert.PromptRefIdeal.τ).loc Cert.PromptRefIdeal.main_arg8) = m ((c.tc : Thread Cert.PromptIdeal.nD Cert.PromptIdeal.τ).loc Cert.PromptIdeal.main_arg8)
      ∧ m' ((c.tc : Thread Cert.PromptRefIdeal.nD Cert.PromptRefIdeal.τ).loc Cert.PromptRefIdeal.main_arg9) = m ((c.tc : Thread Cert.PromptIdeal.nD Cert.PromptIdeal.τ).loc Cert.PromptIdeal.main_arg9)) →
    ∃ (v0 : (c : Dev Cert.PromptIdeal.nD) → Buf (Elt Ideal) ((c.tc : Thread Cert.PromptIdeal.nD Cert.PromptIdeal.τ).loc Cert.PromptIdeal.main_v4_0)) (v1 : (c : Dev Cert.PromptIdeal.nD) → Buf (Elt Ideal) ((c.tc : Thread Cert.PromptIdeal.nD Cert.PromptIdeal.τ).loc Cert.PromptIdeal.main_v4_1)) (v2 : (c : Dev Cert.PromptIdeal.nD) → Buf (Elt Ideal) ((c.tc : Thread Cert.PromptIdeal.nD Cert.PromptIdeal.τ).loc Cert.PromptIdeal.main_v4_2)) (v3 : (c : Dev Cert.PromptIdeal.nD) → Buf (Elt Ideal) ((c.tc : Thread Cert.PromptIdeal.nD Cert.PromptIdeal.τ).loc Cert.PromptIdeal.main_v4_3)) (v4 : (c : Dev Cert.PromptIdeal.nD) → Buf (Elt Ideal) ((c.tc : Thread Cert.PromptIdeal.nD Cert.PromptIdeal.τ).loc Cert.PromptIdeal.main_v4_4)),
      θ_run (Cert.PromptIdeal.defs (F := Ideal)) (onTc (τ := Cert.PromptIdeal.τ) (Cert.PromptIdeal.main (F := Ideal))) ⟨m, fun _ => 0, g⟩ (fun r => ∀ c : Dev Cert.PromptIdeal.nD,
          r.2.mem ((c.tc : Thread Cert.PromptIdeal.nD Cert.PromptIdeal.τ).loc Cert.PromptIdeal.main_v4_0) = v0 c
          ∧ r.2.mem ((c.tc : Thread Cert.PromptIdeal.nD Cert.PromptIdeal.τ).loc Cert.PromptIdeal.main_v4_1) = v1 c
          ∧ r.2.mem ((c.tc : Thread Cert.PromptIdeal.nD Cert.PromptIdeal.τ).loc Cert.PromptIdeal.main_v4_2) = v2 c
          ∧ r.2.mem ((c.tc : Thread Cert.PromptIdeal.nD Cert.PromptIdeal.τ).loc Cert.PromptIdeal.main_v4_3) = v3 c
          ∧ r.2.mem ((c.tc : Thread Cert.PromptIdeal.nD Cert.PromptIdeal.τ).loc Cert.PromptIdeal.main_v4_4) = v4 c
          ∧ r.2.mem ((c.tc : Thread Cert.PromptIdeal.nD Cert.PromptIdeal.τ).loc Cert.PromptIdeal.main_arg0) = m ((c.tc : Thread Cert.PromptIdeal.nD Cert.PromptIdeal.τ).loc Cert.PromptIdeal.main_arg0)
          ∧ r.2.mem ((c.tc : Thread Cert.PromptIdeal.nD Cert.PromptIdeal.τ).loc Cert.PromptIdeal.main_arg1) = m ((c.tc : Thread Cert.PromptIdeal.nD Cert.PromptIdeal.τ).loc Cert.PromptIdeal.main_arg1)
          ∧ r.2.mem ((c.tc : Thread Cert.PromptIdeal.nD Cert.PromptIdeal.τ).loc Cert.PromptIdeal.main_arg2) = m ((c.tc : Thread Cert.PromptIdeal.nD Cert.PromptIdeal.τ).loc Cert.PromptIdeal.main_arg2)
          ∧ r.2.mem ((c.tc : Thread Cert.PromptIdeal.nD Cert.PromptIdeal.τ).loc Cert.PromptIdeal.main_arg3) = m ((c.tc : Thread Cert.PromptIdeal.nD Cert.PromptIdeal.τ).loc Cert.PromptIdeal.main_arg3)
          ∧ r.2.mem ((c.tc : Thread Cert.PromptIdeal.nD Cert.PromptIdeal.τ).loc Cert.PromptIdeal.main_arg4) = m ((c.tc : Thread Cert.PromptIdeal.nD Cert.PromptIdeal.τ).loc Cert.PromptIdeal.main_arg4)
          ∧ r.2.mem ((c.tc : Thread Cert.PromptIdeal.nD Cert.PromptIdeal.τ).loc Cert.PromptIdeal.main_arg5) = m ((c.tc : Thread Cert.PromptIdeal.nD Cert.PromptIdeal.τ).loc Cert.PromptIdeal.main_arg5)
          ∧ r.2.mem ((c.tc : Thread Cert.PromptIdeal.nD Cert.PromptIdeal.τ).loc Cert.PromptIdeal.main_arg6) = m ((c.tc : Thread Cert.PromptIdeal.nD Cert.PromptIdeal.τ).loc Cert.PromptIdeal.main_arg6)
          ∧ r.2.mem ((c.tc : Thread Cert.PromptIdeal.nD Cert.PromptIdeal.τ).loc Cert.PromptIdeal.main_arg7) = m ((c.tc : Thread Cert.PromptIdeal.nD Cert.PromptIdeal.τ).loc Cert.PromptIdeal.main_arg7)
          ∧ r.2.mem ((c.tc : Thread Cert.PromptIdeal.nD Cert.PromptIdeal.τ).loc Cert.PromptIdeal.main_arg8) = m ((c.tc : Thread Cert.PromptIdeal.nD Cert.PromptIdeal.τ).loc Cert.PromptIdeal.main_arg8)
          ∧ r.2.mem ((c.tc : Thread Cert.PromptIdeal.nD Cert.PromptIdeal.τ).loc Cert.PromptIdeal.main_arg9) = m ((c.tc : Thread Cert.PromptIdeal.nD Cert.PromptIdeal.τ).loc Cert.PromptIdeal.main_arg9))
      ∧ θ_run (Cert.PromptRefIdeal.defs (F := Ideal)) (onTc (τ := Cert.PromptRefIdeal.τ) (Cert.PromptRefIdeal.main (F := Ideal))) ⟨m', fun _ => 0, g'⟩ (fun r => ∀ c : Dev Cert.PromptRefIdeal.nD,
          r.2.mem ((c.tc : Thread Cert.PromptRefIdeal.nD Cert.PromptRefIdeal.τ).loc Cert.PromptRefIdeal.main_v141) = v0 c
          ∧ r.2.mem ((c.tc : Thread Cert.PromptRefIdeal.nD Cert.PromptRefIdeal.τ).loc Cert.PromptRefIdeal.main_v135) = v1 c
          ∧ r.2.mem ((c.tc : Thread Cert.PromptRefIdeal.nD Cert.PromptRefIdeal.τ).loc Cert.PromptRefIdeal.main_v143) = v2 c
          ∧ r.2.mem ((c.tc : Thread Cert.PromptRefIdeal.nD Cert.PromptRefIdeal.τ).loc Cert.PromptRefIdeal.main_v146) = v3 c
          ∧ r.2.mem ((c.tc : Thread Cert.PromptRefIdeal.nD Cert.PromptRefIdeal.τ).loc Cert.PromptRefIdeal.main_v149) = v4 c
          ∧ r.2.mem ((c.tc : Thread Cert.PromptRefIdeal.nD Cert.PromptRefIdeal.τ).loc Cert.PromptRefIdeal.main_arg0) = m' ((c.tc : Thread Cert.PromptRefIdeal.nD Cert.PromptRefIdeal.τ).loc Cert.PromptRefIdeal.main_arg0)
          ∧ r.2.mem ((c.tc : Thread Cert.PromptRefIdeal.nD Cert.PromptRefIdeal.τ).loc Cert.PromptRefIdeal.main_arg1) = m' ((c.tc : Thread Cert.PromptRefIdeal.nD Cert.PromptRefIdeal.τ).loc Cert.PromptRefIdeal.main_arg1)
          ∧ r.2.mem ((c.tc : Thread Cert.PromptRefIdeal.nD Cert.PromptRefIdeal.τ).loc Cert.PromptRefIdeal.main_arg2) = m' ((c.tc : Thread Cert.PromptRefIdeal.nD Cert.PromptRefIdeal.τ).loc Cert.PromptRefIdeal.main_arg2)
          ∧ r.2.mem ((c.tc : Thread Cert.PromptRefIdeal.nD Cert.PromptRefIdeal.τ).loc Cert.PromptRefIdeal.main_arg3) = m' ((c.tc : Thread Cert.PromptRefIdeal.nD Cert.PromptRefIdeal.τ).loc Cert.PromptRefIdeal.main_arg3)
          ∧ r.2.mem ((c.tc : Thread Cert.PromptRefIdeal.nD Cert.PromptRefIdeal.τ).loc Cert.PromptRefIdeal.main_arg4) = m' ((c.tc : Thread Cert.PromptRefIdeal.nD Cert.PromptRefIdeal.τ).loc Cert.PromptRefIdeal.main_arg4)
          ∧ r.2.mem ((c.tc : Thread Cert.PromptRefIdeal.nD Cert.PromptRefIdeal.τ).loc Cert.PromptRefIdeal.main_arg5) = m' ((c.tc : Thread Cert.PromptRefIdeal.nD Cert.PromptRefIdeal.τ).loc Cert.PromptRefIdeal.main_arg5)
          ∧ r.2.mem ((c.tc : Thread Cert.PromptRefIdeal.nD Cert.PromptRefIdeal.τ).loc Cert.PromptRefIdeal.main_arg6) = m' ((c.tc : Thread Cert.PromptRefIdeal.nD Cert.PromptRefIdeal.τ).loc Cert.PromptRefIdeal.main_arg6)
          ∧ r.2.mem ((c.tc : Thread Cert.PromptRefIdeal.nD Cert.PromptRefIdeal.τ).loc Cert.PromptRefIdeal.main_arg7) = m' ((c.tc : Thread Cert.PromptRefIdeal.nD Cert.PromptRefIdeal.τ).loc Cert.PromptRefIdeal.main_arg7)
          ∧ r.2.mem ((c.tc : Thread Cert.PromptRefIdeal.nD Cert.PromptRefIdeal.τ).loc Cert.PromptRefIdeal.main_arg8) = m' ((c.tc : Thread Cert.PromptRefIdeal.nD Cert.PromptRefIdeal.τ).loc Cert.PromptRefIdeal.main_arg8)
          ∧ r.2.mem ((c.tc : Thread Cert.PromptRefIdeal.nD Cert.PromptRefIdeal.τ).loc Cert.PromptRefIdeal.main_arg9) = m' ((c.tc : Thread Cert.PromptRefIdeal.nD Cert.PromptRefIdeal.τ).loc Cert.PromptRefIdeal.main_arg9))

def Claim : Prop :=
  ∃ (hConv : Cert.Conv.Facts) (hConvIdeal : Cert.ConvIdeal.Facts) (hConvRefIdeal : Cert.ConvRefIdeal.Facts) (hMlp : Cert.Mlp.Facts) (hMlpIdeal : Cert.MlpIdeal.Facts) (hMlpRefIdeal : Cert.MlpRefIdeal.Facts) (hFirst : Cert.First.Facts) (hFirstIdeal : Cert.FirstIdeal.Facts) (hFirstRefIdeal : Cert.FirstRefIdeal.Facts) (hAda : Cert.Ada.Facts) (hAdaIdeal : Cert.AdaIdeal.Facts) (hAdaRefIdeal : Cert.AdaRefIdeal.Facts) (hPrompt : Cert.Prompt.Facts) (hPromptIdeal : Cert.PromptIdeal.Facts) (hPromptRefIdeal : Cert.PromptRefIdeal.Facts) (hPre_finite : Cert.Pre_finite.Facts),
    quiescent_Conv (hConv := hConv)
    ∧ quiescent_ConvIdeal (hConvIdeal := hConvIdeal)
    ∧ quiescent_ConvRefIdeal (hConvRefIdeal := hConvRefIdeal)
    ∧ quiescent_Mlp (hMlp := hMlp)
    ∧ quiescent_MlpIdeal (hMlpIdeal := hMlpIdeal)
    ∧ quiescent_MlpRefIdeal (hMlpRefIdeal := hMlpRefIdeal)
    ∧ quiescent_First (hFirst := hFirst)
    ∧ quiescent_FirstIdeal (hFirstIdeal := hFirstIdeal)
    ∧ quiescent_FirstRefIdeal (hFirstRefIdeal := hFirstRefIdeal)
    ∧ quiescent_Ada (hAda := hAda)
    ∧ quiescent_AdaIdeal (hAdaIdeal := hAdaIdeal)
    ∧ quiescent_AdaRefIdeal (hAdaRefIdeal := hAdaRefIdeal)
    ∧ quiescent_Prompt (hPrompt := hPrompt)
    ∧ quiescent_PromptIdeal (hPromptIdeal := hPromptIdeal)
    ∧ quiescent_PromptIdeal_pre_finite (hPromptIdeal := hPromptIdeal) (hPre_finite := hPre_finite)
    ∧ quiescent_PromptRefIdeal (hPromptRefIdeal := hPromptRefIdeal)
    ∧ quiescent_PromptRefIdeal_pre_finite (hPromptRefIdeal := hPromptRefIdeal) (hPre_finite := hPre_finite)
    ∧ preserves_Conv_ConvIdeal
    ∧ algebraic_ConvIdeal_ConvRefIdeal (hConvIdeal := hConvIdeal) (hConvRefIdeal := hConvRefIdeal)
    ∧ preserves_Mlp_MlpIdeal
    ∧ algebraic_MlpIdeal_MlpRefIdeal (hMlpIdeal := hMlpIdeal) (hMlpRefIdeal := hMlpRefIdeal)
    ∧ preserves_First_FirstIdeal
    ∧ algebraic_FirstIdeal_FirstRefIdeal (hFirstIdeal := hFirstIdeal) (hFirstRefIdeal := hFirstRefIdeal)
    ∧ preserves_Ada_AdaIdeal
    ∧ algebraic_AdaIdeal_AdaRefIdeal (hAdaIdeal := hAdaIdeal) (hAdaRefIdeal := hAdaRefIdeal)
    ∧ preserves_Prompt_PromptIdeal
    ∧ algebraic_PromptIdeal_PromptRefIdeal_pre_finite (hPromptIdeal := hPromptIdeal) (hPromptRefIdeal := hPromptRefIdeal) (hPre_finite := hPre_finite)
-- ==== Pre_finite.lean ====
abbrev S8x2048x1024 : Shape := ⟨3, ![8, 2048, 1024]⟩
abbrev S8x6x1x1024 : Shape := ⟨4, ![8, 6, 1, 1024]⟩
abbrev S1024 : Shape := ⟨1, ![1024]⟩
abbrev S1024x2560 : Shape := ⟨2, ![1024, 2560]⟩
abbrev S768x1024 : Shape := ⟨2, ![768, 1024]⟩
abbrev S16 : Shape := ⟨1, ![16]⟩
abbrev S1024x1024 : Shape := ⟨2, ![1024, 1024]⟩
abbrev S2x1024x4096 : Shape := ⟨3, ![2, 1024, 4096]⟩
abbrev S2x4096x1024 : Shape := ⟨3, ![2, 4096, 1024]⟩
abbrev S_ : Shape := ⟨0, ![]⟩

class Facts : Prop where
  bcast_S_S8x2048x1024 : S_.BroadcastsInDim S8x2048x1024 (![] : Fin 0 → Fin S8x2048x1024.rank)
  bcast_S_S8x6x1x1024 : S_.BroadcastsInDim S8x6x1x1024 (![] : Fin 0 → Fin S8x6x1x1024.rank)
  bcast_S_S1024 : S_.BroadcastsInDim S1024 (![] : Fin 0 → Fin S1024.rank)
  bitsLt_bf16_f32 : FTy.bits .bf16 < FTy.bits .f32
  bcast_S_S1024x2560 : S_.BroadcastsInDim S1024x2560 (![] : Fin 0 → Fin S1024x2560.rank)
  bcast_S_S768x1024 : S_.BroadcastsInDim S768x1024 (![] : Fin 0 → Fin S768x1024.rank)
  bcast_S_S16 : S_.BroadcastsInDim S16 (![] : Fin 0 → Fin S16.rank)

variable [Facts]

def fn_part1 {F : FTy → Type} [FloatOps F] (main_v2 : IVec S8x2048x1024 1) (main_v5 : IVec S8x6x1x1024 1) (main_v8 : IVec S1024 1) (main_v12 : IVec S1024x2560 1) (main_v16 : IVec S768x1024 1) (main_v17 : FVec F S16 .f32) (main_cst_4 : FVec F S_ .f32) : IVec S8x2048x1024 1 × IVec S8x6x1x1024 1 × IVec S1024 1 × IVec S1024x2560 1 × IVec S768x1024 1 × IVec S16 1 :=
  let main_v18 : FVec F S16 .f32 := broadcastInDim S16 ![] bcast_S_S16 main_cst_4
  let main_v19 : IVec S16 1 := cmpf .olt main_v17 main_v18
  (main_v2, main_v5, main_v8, main_v12, main_v16, main_v19)

def fn {F : FTy → Type} [FloatOps F] (main_arg0 : FVec F S8x2048x1024 .f32) (main_arg1 : FVec F S8x6x1x1024 .f32) (main_arg2 : FVec F S1024 .f32) (main_arg3 : FVec F S1024x2560 .bf16) (main_arg4 : FVec F S768x1024 .bf16) (main_arg5 : FVec F S16 .f32) (main_arg6 : FVec F S1024 .f32) (main_arg7 : FVec F S1024x1024 .bf16) (main_arg8 : FVec F S2x1024x4096 .f32) (main_arg9 : FVec F S2x4096x1024 .f32) : IVec S8x2048x1024 1 × IVec S8x6x1x1024 1 × IVec S1024 1 × IVec S1024x2560 1 × IVec S768x1024 1 × IVec S16 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_v3 : FVec F S8x6x1x1024 .f32 := Host.absf main_arg1
  let main_cst_0 : FVec F S_ .f32 := constant S_ .f32 0x7F800000#32
  let main_v4 : FVec F S8x6x1x1024 .f32 := broadcastInDim S8x6x1x1024 ![] bcast_S_S8x6x1x1024 main_cst_0
  let main_v5 : IVec S8x6x1x1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S1024x2560 .f32 := (extf .f32 · bitsLt_bf16_f32) main_arg3
  let main_v10 : FVec F S1024x2560 .f32 := Host.absf main_v9
  let main_cst_2 : FVec F S_ .f32 := constant S_ .f32 0x7F800000#32
  let main_v11 : FVec F S1024x2560 .f32 := broadcastInDim S1024x2560 ![] bcast_S_S1024x2560 main_cst_2
  let main_v12 : IVec S1024x2560 1 := cmpf .olt main_v10 main_v11
  let main_v13 : FVec F S768x1024 .f32 := (extf .f32 · bitsLt_bf16_f32) main_arg4
  let main_v14 : FVec F S768x1024 .f32 := Host.absf main_v13
  let main_cst_3 : FVec F S_ .f32 := constant S_ .f32 0x7F800000#32
  let main_v15 : FVec F S768x1024 .f32 := broadcastInDim S768x1024 ![] bcast_S_S768x1024 main_cst_3
  let main_v16 : IVec S768x1024 1 := cmpf .olt main_v14 main_v15
  let main_v17 : FVec F S16 .f32 := Host.absf main_arg5
  let main_cst_4 : FVec F S_ .f32 := constant S_ .f32 0x7F800000#32
  fn_part1 (F := F) main_v2 main_v5 main_v8 main_v12 main_v16 main_v17 main_cst_4
-- ==== Conv.lean ====
abbrev S8x2048x1024 : Shape := ⟨3, ![8, 2048, 1024]⟩
abbrev S8x6x1x1024 : Shape := ⟨4, ![8, 6, 1, 1024]⟩
abbrev S1x512x1024 : Shape := ⟨3, ![1, 512, 1024]⟩
abbrev S2x6x136x1024 : Shape := ⟨4, ![2, 6, 136, 1024]⟩
abbrev S1024 : Shape := ⟨1, ![1024]⟩
abbrev S1024x3072 : Shape := ⟨2, ![1024, 3072]⟩
abbrev S3x1024 : Shape := ⟨2, ![3, 1024]⟩
abbrev S1024x1024 : Shape := ⟨2, ![1024, 1024]⟩
abbrev S2x128x1024 : Shape := ⟨3, ![2, 128, 1024]⟩
abbrev S2x1024x4096 : Shape := ⟨3, ![2, 1024, 4096]⟩
abbrev S2x4096x1024 : Shape := ⟨3, ![2, 4096, 1024]⟩
abbrev S1x1024 : Shape := ⟨2, ![1, 1024]⟩
abbrev S8x2x1024 : Shape := ⟨3, ![8, 2, 1024]⟩
abbrev S1024x4096 : Shape := ⟨2, ![1024, 4096]⟩
abbrev S4096x1024 : Shape := ⟨2, ![4096, 1024]⟩
abbrev S1x6x1x1024 : Shape := ⟨4, ![1, 6, 1, 1024]⟩
abbrev S1x6x128x1024 : Shape := ⟨4, ![1, 6, 128, 1024]⟩
abbrev S1x32x4096 : Shape := ⟨3, ![1, 32, 4096]⟩
abbrev S1x128x1024 : Shape := ⟨3, ![1, 128, 1024]⟩
abbrev S1x2x1024 : Shape := ⟨3, ![1, 2, 1024]⟩
abbrev S32x4096 : Shape := ⟨2, ![32, 4096]⟩
abbrev S128x1024 : Shape := ⟨2, ![128, 1024]⟩
abbrev S2x1024 : Shape := ⟨2, ![2, 1024]⟩
abbrev S512x1024 : Shape := ⟨2, ![512, 1024]⟩
abbrev S1x1x1x1024 : Shape := ⟨4, ![1, 1, 1, 1024]⟩
abbrev S512 : Shape := ⟨1, ![512]⟩
abbrev S512x1 : Shape := ⟨2, ![512, 1]⟩
abbrev S1x1x128x1024 : Shape := ⟨4, ![1, 1, 128, 1024]⟩
abbrev S128 : Shape := ⟨1, ![128]⟩
abbrev S128x1 : Shape := ⟨2, ![128, 1]⟩

abbrev nBuf : Space → Nat
  | .hbm => 18
  | .vmem => 26
  | .smem => 0
  | _ => 0

abbrev bufTy : (tb : Table) → Fin (tcTables nBuf tb) → BufTy
  | .hbm, ⟨0, _⟩ => ⟨S8x2048x1024, .f32⟩
  | .hbm, ⟨1, _⟩ => ⟨S8x6x1x1024, .f32⟩
  | .hbm, ⟨2, _⟩ => ⟨S1x512x1024, .f32⟩
  | .hbm, ⟨3, _⟩ => ⟨S2x6x136x1024, .f32⟩
  | .hbm, ⟨4, _⟩ => ⟨S1024, .f32⟩
  | .hbm, ⟨5, _⟩ => ⟨S1024x3072, .bf16⟩
  | .hbm, ⟨6, _⟩ => ⟨S3x1024, .f32⟩
  | .hbm, ⟨7, _⟩ => ⟨S1024x1024, .bf16⟩
  | .hbm, ⟨8, _⟩ => ⟨S2x128x1024, .f32⟩
  | .hbm, ⟨9, _⟩ => ⟨S2x1024x4096, .f32⟩
  | .hbm, ⟨10, _⟩ => ⟨S2x4096x1024, .f32⟩
  | .hbm, ⟨11, _⟩ => ⟨S1x1024, .f32⟩
  | .hbm, ⟨12, _⟩ => ⟨S8x2048x1024, .f32⟩
  | .hbm, ⟨13, _⟩ => ⟨S8x2x1024, .f32⟩
  | .hbm, ⟨14, _⟩ => ⟨S1x512x1024, .f32⟩
  | .hbm, ⟨15, _⟩ => ⟨S2x128x1024, .f32⟩
  | .hbm, ⟨16, _⟩ => ⟨S1024x4096, .bf16⟩
  | .hbm, ⟨17, _⟩ => ⟨S4096x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1x6x1x1024, .f32⟩
  | .local _ .vmem, ⟨3, _⟩ => ⟨S1x6x1x1024, .f32⟩
  | .local _ .vmem, ⟨4, _⟩ => ⟨S1x512x1024, .f32⟩
  | .local _ .vmem, ⟨5, _⟩ => ⟨S1x6x128x1024, .f32⟩
  | .local _ .vmem, ⟨6, _⟩ => ⟨S1x1024, .f32⟩
  | .local _ .vmem, ⟨7, _⟩ => ⟨S1024x3072, .bf16⟩
  | .local _ .vmem, ⟨8, _⟩ => ⟨S3x1024, .f32⟩
  | .local _ .vmem, ⟨9, _⟩ => ⟨S1024x1024, .bf16⟩
  | .local _ .vmem, ⟨10, _⟩ => ⟨S2x128x1024, .f32⟩
  | .local _ .vmem, ⟨11, _⟩ => ⟨S1x32x4096, .f32⟩
  | .local _ .vmem, ⟨12, _⟩ => ⟨S1x32x4096, .f32⟩
  | .local _ .vmem, ⟨13, _⟩ => ⟨S1x128x1024, .f32⟩
  | .local _ .vmem, ⟨14, _⟩ => ⟨S1x128x1024, .f32⟩
  | .local _ .vmem, ⟨15, _⟩ => ⟨S1x512x1024, .f32⟩
  | .local _ .vmem, ⟨16, _⟩ => ⟨S1x512x1024, .f32⟩
  | .local _ .vmem, ⟨17, _⟩ => ⟨S1x2x1024, .f32⟩
  | .local _ .vmem, ⟨18, _⟩ => ⟨S1x2x1024, .f32⟩
  | .local _ .vmem, ⟨19, _⟩ => ⟨S1x512x1024, .f32⟩
  | .local _ .vmem, ⟨20, _⟩ => ⟨S2x128x1024, .f32⟩
  | .local _ .vmem, ⟨21, _⟩ => ⟨S32x4096, .bf16⟩
  | .local _ .vmem, ⟨22, _⟩ => ⟨S32x4096, .bf16⟩
  | .local _ .vmem, ⟨23, _⟩ => ⟨S128x1024, .bf16⟩
  | .local _ .vmem, ⟨24, _⟩ => ⟨S128x1024, .bf16⟩
  | .local _ .vmem, ⟨25, _⟩ => ⟨S2x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1_0 : Ref sig .tc := ⟨.hbm, 12, rfl⟩
abbrev main_v1_1 : Ref sig .tc := ⟨.hbm, 13, rfl⟩
abbrev main_v1_2 : Ref sig .tc := ⟨.hbm, 14, rfl⟩
abbrev main_v1_3 : Ref sig .tc := ⟨.hbm, 15, rfl⟩
abbrev main_v1_4 : Ref sig .tc := ⟨.hbm, 16, rfl⟩
abbrev main_v1_5 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_scratch0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem14_0 : DmaSem sig := 20
abbrev cc0_sem15_0 : DmaSem sig := 21
abbrev cc0_sem15_1 : DmaSem sig := 22
abbrev cc0_sem16_0 : DmaSem sig := 23
abbrev cc0_sem16_1 : DmaSem sig := 24

abbrev nD : Nat := 1
abbrev τ : Topo := Topo.v7x

variable {F : FTy → Type} [FloatOps F]

abbrev grid0 : Pipeline.Grid := ⟨1, ![33], ![false]⟩

def k0_cond1 (i : grid0.Coords) : BitVec 1 :=
  let arg0 : BitVec 32 := BitVec.ofNat 32 (i 0).val
  let c32_i32 : BitVec 32 := 32#32
  let v8 : BitVec 1 := Scalar.cmpi .slt arg0 c32_i32
  let v9 : BitVec 32 := Scalar.extui v8
  let c0_i32 : BitVec 32 := 0#32
  let v10 : BitVec 1 := Scalar.cmpi .ne v9 c0_i32
  v10

def k0_cond3 (i : grid0.Coords) : BitVec 1 :=
  let arg0 : BitVec 32 := BitVec.ofNat 32 (i 0).val
  let c32_i32_9 : BitVec 32 := 32#32
  let v11 : BitVec 1 := Scalar.cmpi .eq arg0 c32_i32_9
  let v12 : BitVec 32 := Scalar.extui v11
  let c0_i32_10 : BitVec 32 := 0#32
  let v13 : BitVec 1 := Scalar.cmpi .ne v12 c0_i32_10
  v13

def cc0_transform_0 (i : grid0.Coords) : Fin 3 → Nat :=
  let arg0 : BitVec 32 := BitVec.ofNat 32 (i 0).val
  let c31_i32 : BitVec 32 := 31#32
  let v0 : BitVec 32 := Scalar.minsi arg0 c31_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32_4 : BitVec 32 := 4#32
  let c0_i32_5 : BitVec 32 := 0#32
  let v18 : BitVec 1 := Scalar.cmpi .eq c4_i32_4 c0_i32_5
  let c1_i32_6 : BitVec 32 := 1#32
  let v19 : BitVec 32 := Scalar.select v18 c1_i32_6 c4_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, v27.toNat, c0_i32_10.toNat]

def cc0_transform_1 (i : grid0.Coords) : Fin 4 → Nat :=
  let arg0 : BitVec 32 := BitVec.ofNat 32 (i 0).val
  let c31_i32 : BitVec 32 := 31#32
  let v0 : BitVec 32 := Scalar.minsi arg0 c31_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32_4 : BitVec 32 := 4#32
  let c0_i32_5 : BitVec 32 := 0#32
  let v18 : BitVec 1 := Scalar.cmpi .eq c4_i32_4 c0_i32_5
  let c1_i32_6 : BitVec 32 := 1#32
  let v19 : BitVec 32 := Scalar.select v18 c1_i32_6 c4_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  let c0_i32_12 : BitVec 32 := 0#32
  let c0_i32_13 : BitVec 32 := 0#32
  ![v17.toNat, c0_i32_10.toNat, c0_i32_11.toNat, c0_i32_12.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c31_i32 : BitVec 32 := 31#32
  let v0 : BitVec 32 := Scalar.minsi arg0 c31_i32
  let c1_i32 : BitVec 32 := 1#32
  let c0_i32 : BitVec 32 := 0#32
  let c0_i32_0 : BitVec 32 := 0#32
  ![c1_i32.toNat, v0.toNat, c0_i32.toNat]

def cc0_transform_10 (i : grid0.Coords) : Fin 3 → Nat :=
  let arg0 : BitVec 32 := BitVec.ofNat 32 (i 0).val
  let c31_i32 : BitVec 32 := 31#32
  let v0 : BitVec 32 := Scalar.minsi arg0 c31_i32
  let c1_i32 : BitVec 32 := 1#32
  let c0_i32 : BitVec 32 := 0#32
  let c0_i32_0 : BitVec 32 := 0#32
  ![c1_i32.toNat, v0.toNat, c0_i32.toNat]

def cc0_transform_11 (i : grid0.Coords) : Fin 3 → Nat :=
  let arg0 : BitVec 32 := BitVec.ofNat 32 (i 0).val
  let c31_i32 : BitVec 32 := 31#32
  let v0 : BitVec 32 := Scalar.minsi arg0 c31_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32_4 : BitVec 32 := 4#32
  let c0_i32_5 : BitVec 32 := 0#32
  let v18 : BitVec 1 := Scalar.cmpi .eq c4_i32_4 c0_i32_5
  let c1_i32_6 : BitVec 32 := 1#32
  let v19 : BitVec 32 := Scalar.select v18 c1_i32_6 c4_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, v27.toNat, c0_i32_10.toNat]

def cc0_transform_12 (i : grid0.Coords) : Fin 3 → Nat :=
  let arg0 : BitVec 32 := BitVec.ofNat 32 (i 0).val
  let c31_i32 : BitVec 32 := 31#32
  let v0 : BitVec 32 := Scalar.minsi arg0 c31_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32_4 : BitVec 32 := 4#32
  let c0_i32_5 : BitVec 32 := 0#32
  let v18 : BitVec 1 := Scalar.cmpi .eq c4_i32_4 c0_i32_5
  let c1_i32_6 : BitVec 32 := 1#32
  let v19 : BitVec 32 := Scalar.select v18 c1_i32_6 c4_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  let c0_i32_12 : BitVec 32 := 0#32
  ![v17.toNat, c0_i32_10.toNat, c0_i32_11.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_16 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x6x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x3072 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x32x4096 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x128x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x2x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x512x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S2x128x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S32x4096 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S128x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== ConvRefIdeal.lean ====
abbrev S8x2048x1024 : Shape := ⟨3, ![8, 2048, 1024]⟩
abbrev S8x6x1x1024 : Shape := ⟨4, ![8, 6, 1, 1024]⟩
abbrev S1x512x1024 : Shape := ⟨3, ![1, 512, 1024]⟩
abbrev S2x6x136x1024 : Shape := ⟨4, ![2, 6, 136, 1024]⟩
abbrev S1024 : Shape := ⟨1, ![1024]⟩
abbrev S1024x3072 : Shape := ⟨2, ![1024, 3072]⟩
abbrev S3x1024 : Shape := ⟨2, ![3, 1024]⟩
abbrev S1024x1024 : Shape := ⟨2, ![1024, 1024]⟩
abbrev S2x128x1024 : Shape := ⟨3, ![2, 128, 1024]⟩
abbrev S2x1024x4096 : Shape := ⟨3, ![2, 1024, 4096]⟩
abbrev S2x4096x1024 : Shape := ⟨3, ![2, 4096, 1024]⟩
abbrev S8x6x1024 : Shape := ⟨3, ![8, 6, 1024]⟩
abbrev S8x1x1024 : Shape := ⟨3, ![8, 1, 1024]⟩
abbrev S8x1024 : Shape := ⟨2, ![8, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2x1024 : Shape := ⟨3, ![8, 2, 1024]⟩
abbrev S8x2048x3072 : Shape := ⟨3, ![8, 2048, 3072]⟩
abbrev S8x2050x1024 : Shape := ⟨3, ![8, 2050, 1024]⟩
abbrev S1x1024 : Shape := ⟨2, ![1, 1024]⟩
abbrev S4x128x1024 : Shape := ⟨3, ![4, 128, 1024]⟩
abbrev S128x4x1024 : Shape := ⟨3, ![128, 4, 1024]⟩
abbrev S1x6x136x1024 : Shape := ⟨4, ![1, 6, 136, 1024]⟩
abbrev S6x136x1024 : Shape := ⟨3, ![6, 136, 1024]⟩
abbrev S6x128x1024 : Shape := ⟨3, ![6, 128, 1024]⟩
abbrev S128x6x1024 : Shape := ⟨3, ![128, 6, 1024]⟩
abbrev S128x1x1024 : Shape := ⟨3, ![128, 1, 1024]⟩
abbrev S128x1024 : Shape := ⟨2, ![128, 1024]⟩
abbrev S128x4 : Shape := ⟨2, ![128, 4]⟩
abbrev S128x4x1 : Shape := ⟨3, ![128, 4, 1]⟩
abbrev S128x2x1024 : Shape := ⟨3, ![128, 2, 1024]⟩
abbrev S128x4x3072 : Shape := ⟨3, ![128, 4, 3072]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩

abbrev nBuf : Space → Nat
  | .hbm => 160
  | .vmem => 0
  | .smem => 0
  | _ => 0

abbrev hbmTy0_0 (i : Nat) : BufTy := match i % 128 with
  | 0 => ⟨S8x2048x1024, .f32⟩
  | 1 => ⟨S8x6x1x1024, .f32⟩
  | 2 => ⟨S1x512x1024, .f32⟩
  | 3 => ⟨S2x6x136x1024, .f32⟩
  | 4 => ⟨S1024, .f32⟩
  | 5 => ⟨S1024x3072, .bf16⟩
  | 6 => ⟨S3x1024, .f32⟩
  | 7 => ⟨S1024x1024, .bf16⟩
  | 8 => ⟨S2x128x1024, .f32⟩
  | 9 => ⟨S2x1024x4096, .f32⟩
  | 10 => ⟨S2x4096x1024, .f32⟩
  | 11 => ⟨S1024x3072, .f32⟩
  | 12 => ⟨S1024x1024, .f32⟩
  | 13 => ⟨S8x6x1024, .f32⟩
  | 14 => ⟨S8x1x1024, .f32⟩
  | 15 => ⟨S8x1024, .f32⟩
  | 16 => ⟨S8x1x1024, .f32⟩
  | 17 => ⟨S8x1024, .f32⟩
  | 18 => ⟨S8x2048x1024, .f32⟩
  | 19 => ⟨S_, .f32⟩
  | 20 => ⟨S8x2048, .f32⟩
  | 21 => ⟨S8x2048x1, .f32⟩
  | 22 => ⟨S_, .f32⟩
  | 23 => ⟨S8x2048x1, .f32⟩
  | 24 => ⟨S8x2048x1, .f32⟩
  | 25 => ⟨S_, .f32⟩
  | 26 => ⟨S8x2048x1, .f32⟩
  | 27 => ⟨S8x2048x1, .f32⟩
  | 28 => ⟨S8x2048x1, .f32⟩
  | 29 => ⟨S8x2048x1024, .f32⟩
  | 30 => ⟨S8x2048x1024, .f32⟩
  | 31 => ⟨S1x1x1024, .f32⟩
  | 32 => ⟨S8x2048x1024, .f32⟩
  | 33 => ⟨S8x2048x1024, .f32⟩
  | 34 => ⟨S8x1x1024, .f32⟩
  | 35 => ⟨S_, .f32⟩
  | 36 => ⟨S8x1x1024, .f32⟩
  | 37 => ⟨S8x1x1024, .f32⟩
  | 38 => ⟨S8x2048x1024, .f32⟩
  | 39 => ⟨S8x2048x1024, .f32⟩
  | 40 => ⟨S8x1x1024, .f32⟩
  | 41 => ⟨S8x2048x1024, .f32⟩
  | 42 => ⟨S8x2048x1024, .f32⟩
  | 43 => ⟨S_, .f32⟩
  | 44 => ⟨S8x2x1024, .f32⟩
  | 45 => ⟨S8x2048x3072, .f32⟩
  | 46 => ⟨S8x2048x1024, .f32⟩
  | 47 => ⟨S8x2048x1024, .f32⟩
  | 48 => ⟨S8x2048x1024, .f32⟩
  | 49 => ⟨S8x2048x1024, .f32⟩
  | 50 => ⟨S8x2050x1024, .f32⟩
  | 51 => ⟨S1x1024, .f32⟩
  | 52 => ⟨S1024, .f32⟩
  | 53 => ⟨S8x2048x1024, .f32⟩
  | 54 => ⟨S1x1x1024, .f32⟩
  | 55 => ⟨S8x2048x1024, .f32⟩
  | 56 => ⟨S8x2048x1024, .f32⟩
  | 57 => ⟨S1x1024, .f32⟩
  | 58 => ⟨S1024, .f32⟩
  | 59 => ⟨S8x2048x1024, .f32⟩
  | 60 => ⟨S1x1x1024, .f32⟩
  | 61 => ⟨S8x2048x1024, .f32⟩
  | 62 => ⟨S8x2048x1024, .f32⟩
  | 63 => ⟨S8x2048x1024, .f32⟩
  | 64 => ⟨S1x1024, .f32⟩
  | 65 => ⟨S1024, .f32⟩
  | 66 => ⟨S8x2048x1024, .f32⟩
  | 67 => ⟨S1x1x1024, .f32⟩
  | 68 => ⟨S8x2048x1024, .f32⟩
  | 69 => ⟨S8x2048x1024, .f32⟩
  | 70 => ⟨S8x2048x1024, .f32⟩
  | 71 => ⟨S8x2048x1024, .f32⟩
  | 72 => ⟨S8x2048x1024, .f32⟩
  | 73 => ⟨S8x2x1024, .f32⟩
  | 74 => ⟨S8x1x1024, .f32⟩
  | 75 => ⟨S8x1024, .f32⟩
  | 76 => ⟨S8x1x1024, .f32⟩
  | 77 => ⟨S8x2048x1024, .f32⟩
  | 78 => ⟨S8x2048x1024, .f32⟩
  | 79 => ⟨S8x2048x1024, .f32⟩
  | 80 => ⟨S4x128x1024, .f32⟩
  | 81 => ⟨S128x4x1024, .f32⟩
  | 82 => ⟨S1x6x136x1024, .f32⟩
  | 83 => ⟨S6x136x1024, .f32⟩
  | 84 => ⟨S6x128x1024, .f32⟩
  | 85 => ⟨S128x6x1024, .f32⟩
  | 86 => ⟨S128x1x1024, .f32⟩
  | 87 => ⟨S128x1024, .f32⟩
  | 88 => ⟨S128x1x1024, .f32⟩
  | 89 => ⟨S128x1024, .f32⟩
  | 90 => ⟨S128x4x1024, .f32⟩
  | 91 => ⟨S_, .f32⟩
  | 92 => ⟨S128x4, .f32⟩
  | 93 => ⟨S128x4x1, .f32⟩
  | 94 => ⟨S_, .f32⟩
  | 95 => ⟨S128x4x1, .f32⟩
  | 96 => ⟨S128x4x1, .f32⟩
  | 97 => ⟨S_, .f32⟩
  | 98 => ⟨S128x4x1, .f32⟩
  | 99 => ⟨S128x4x1, .f32⟩
  | 100 => ⟨S128x4x1, .f32⟩
  | 101 => ⟨S128x4x1024, .f32⟩
  | 102 => ⟨S128x4x1024, .f32⟩
  | 103 => ⟨S1x1x1024, .f32⟩
  | 104 => ⟨S128x4x1024, .f32⟩
  | 105 => ⟨S128x4x1024, .f32⟩
  | 106 => ⟨S128x1x1024, .f32⟩
  | 107 => ⟨S_, .f32⟩
  | 108 => ⟨S128x1x1024, .f32⟩
  | 109 => ⟨S128x1x1024, .f32⟩
  | 110 => ⟨S128x4x1024, .f32⟩
  | 111 => ⟨S128x4x1024, .f32⟩
  | 112 => ⟨S128x1x1024, .f32⟩
  | 113 => ⟨S128x4x1024, .f32⟩
  | 114 => ⟨S128x4x1024, .f32⟩
  | 115 => ⟨S128x2x1024, .f32⟩
  | 116 => ⟨S128x4x3072, .f32⟩
  | 117 => ⟨S128x4x1024, .f32⟩
  | 118 => ⟨S128x4x1024, .f32⟩
  | 119 => ⟨S128x4x1024, .f32⟩
  | 120 => ⟨S128x4x1024, .f32⟩
  | 121 => ⟨S128x6x1024, .f32⟩
  | 122 => ⟨S1x1024, .f32⟩
  | 123 => ⟨S1024, .f32⟩
  | 124 => ⟨S128x4x1024, .f32⟩
  | 125 => ⟨S1x1x1024, .f32⟩
  | 126 => ⟨S128x4x1024, .f32⟩
  | 127 => ⟨S128x4x1024, .f32⟩
  | _ => ⟨S8x2048x1024, .f32⟩

abbrev hbmTy0_1 (i : Nat) : BufTy := match i % 128 with
  | 0 => ⟨S1x1024, .f32⟩
  | 1 => ⟨S1024, .f32⟩
  | 2 => ⟨S128x4x1024, .f32⟩
  | 3 => ⟨S1x1x1024, .f32⟩
  | 4 => ⟨S128x4x1024, .f32⟩
  | 5 => ⟨S128x4x1024, .f32⟩
  | 6 => ⟨S128x4x1024, .f32⟩
  | 7 => ⟨S1x1024, .f32⟩
  | 8 => ⟨S1024, .f32⟩
  | 9 => ⟨S128x4x1024, .f32⟩
  | 10 => ⟨S1x1x1024, .f32⟩
  | 11 => ⟨S128x4x1024, .f32⟩
  | 12 => ⟨S128x4x1024, .f32⟩
  | 13 => ⟨S128x4x1024, .f32⟩
  | 14 => ⟨S128x4x1024, .f32⟩
  | 15 => ⟨S128x4x1024, .f32⟩
  | 16 => ⟨S128x2x1024, .f32⟩
  | 17 => ⟨S128x1x1024, .f32⟩
  | 18 => ⟨S128x1024, .f32⟩
  | 19 => ⟨S128x1x1024, .f32⟩
  | 20 => ⟨S128x4x1024, .f32⟩
  | 21 => ⟨S128x4x1024, .f32⟩
  | 22 => ⟨S128x4x1024, .f32⟩
  | 23 => ⟨S4x128x1024, .f32⟩
  | 24 => ⟨S1x512x1024, .f32⟩
  | 25 => ⟨S2x128x1024, .f32⟩
  | 26 => ⟨S1x1024x4096, .f32⟩
  | 27 => ⟨S1024x4096, .f32⟩
  | 28 => ⟨S1024x4096, .bf16⟩
  | 29 => ⟨S1x4096x1024, .f32⟩
  | 30 => ⟨S4096x1024, .f32⟩
  | 31 => ⟨S4096x1024, .bf16⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_3 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_cst_4 : Ref sig .tc := ⟨.hbm, 91, rfl⟩
abbrev main_v75 : Ref sig .tc := ⟨.hbm, 92, rfl⟩
abbrev main_v76 : Ref sig .tc := ⟨.hbm, 93, rfl⟩
abbrev main_cst_5 : Ref sig .tc := ⟨.hbm, 94, rfl⟩
abbrev main_v77 : Ref sig .tc := ⟨.hbm, 95, rfl⟩
abbrev main_v78 : Ref sig .tc := ⟨.hbm, 96, rfl⟩
abbrev main_cst_6 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_cst_7 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_v127 : Ref sig .tc := ⟨.hbm, 147, rfl⟩
abbrev main_v128 : Ref sig .tc := ⟨.hbm, 148, rfl⟩
abbrev main_v129 : Ref sig .tc := ⟨.hbm, 149, rfl⟩
abbrev main_v130 : Ref sig .tc := ⟨.hbm, 150, rfl⟩
abbrev main_v131 : Ref sig .tc := ⟨.hbm, 151, rfl⟩
abbrev main_v132 : Ref sig .tc := ⟨.hbm, 152, rfl⟩
abbrev main_v133 : Ref sig .tc := ⟨.hbm, 153, rfl⟩
abbrev main_v134 : Ref sig .tc := ⟨.hbm, 154, rfl⟩
abbrev main_v135 : Ref sig .tc := ⟨.hbm, 155, rfl⟩
abbrev main_v136 : Ref sig .tc := ⟨.hbm, 156, rfl⟩
abbrev main_v137 : Ref sig .tc := ⟨.hbm, 157, rfl⟩
abbrev main_v138 : Ref sig .tc := ⟨.hbm, 158, rfl⟩
abbrev main_v139 : Ref sig .tc := ⟨.hbm, 159, rfl⟩

abbrev nD : Nat := 1
abbrev τ : Topo := Topo.v7x

variable {F : FTy → Type} [FloatOps F]
-- ==== Mlp.lean ====
abbrev S8x2048x1024 : Shape := ⟨3, ![8, 2048, 1024]⟩
abbrev S8x6x1x1024 : Shape := ⟨4, ![8, 6, 1, 1024]⟩
abbrev S1x512x1024 : Shape := ⟨3, ![1, 512, 1024]⟩
abbrev S2x6x136x1024 : Shape := ⟨4, ![2, 6, 136, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S1x6x1x1024 : Shape := ⟨4, ![1, 6, 1, 1024]⟩
abbrev S1x6x128x1024 : Shape := ⟨4, ![1, 6, 128, 1024]⟩
abbrev S512x1024 : Shape := ⟨2, ![512, 1024]⟩
abbrev S1x1x1x1024 : Shape := ⟨4, ![1, 1, 1, 1024]⟩
abbrev S512 : Shape := ⟨1, ![512]⟩
abbrev S512x1 : Shape := ⟨2, ![512, 1]⟩
abbrev S1024x1024 : Shape := ⟨2, ![1024, 1024]⟩
abbrev S1x1x128x1024 : Shape := ⟨4, ![1, 1, 128, 1024]⟩
abbrev S128x1024 : Shape := ⟨2, ![128, 1024]⟩
abbrev S128 : Shape := ⟨1, ![128]⟩
abbrev S128x1 : Shape := ⟨2, ![128, 1]⟩

abbrev nBuf : Space → Nat
  | .hbm => 12
  | .vmem => 13
  | .smem => 0
  | _ => 0

abbrev bufTy : (tb : Table) → Fin (tcTables nBuf tb) → BufTy
  | .hbm, ⟨0, _⟩ => ⟨S8x2048x1024, .f32⟩
  | .hbm, ⟨1, _⟩ => ⟨S8x6x1x1024, .f32⟩
  | .hbm, ⟨2, _⟩ => ⟨S1x512x1024, .f32⟩
  | .hbm, ⟨3, _⟩ => ⟨S2x6x136x1024, .f32⟩
  | .hbm, ⟨4, _⟩ => ⟨S1024, .f32⟩
  | .hbm, ⟨5, _⟩ => ⟨S1024x4096, .bf16⟩
  | .hbm, ⟨6, _⟩ => ⟨S4096x1024, .bf16⟩
  | .hbm, ⟨7, _⟩ => ⟨S1024, .f32⟩
  | .hbm, ⟨8, _⟩ => ⟨S1x1024, .f32⟩
  | .hbm, ⟨9, _⟩ => ⟨S1x1024, .f32⟩
  | .hbm, ⟨10, _⟩ => ⟨S8x2048x1024, .f32⟩
  | .hbm, ⟨11, _⟩ => ⟨S1x512x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x6x1x1024, .f32⟩
  | .local _ .vmem, ⟨3, _⟩ => ⟨S1x6x1x1024, .f32⟩
  | .local _ .vmem, ⟨4, _⟩ => ⟨S1x512x1024, .f32⟩
  | .local _ .vmem, ⟨5, _⟩ => ⟨S1x6x128x1024, .f32⟩
  | .local _ .vmem, ⟨6, _⟩ => ⟨S1x1024, .f32⟩
  | .local _ .vmem, ⟨7, _⟩ => ⟨S1024x4096, .bf16⟩
  | .local _ .vmem, ⟨8, _⟩ => ⟨S4096x1024, .bf16⟩
  | .local _ .vmem, ⟨9, _⟩ => ⟨S1x1024, .f32⟩
  | .local _ .vmem, ⟨10, _⟩ => ⟨S1x512x1024, .f32⟩
  | .local _ .vmem, ⟨11, _⟩ => ⟨S1x512x1024, .f32⟩
  | .local _ .vmem, ⟨12, _⟩ => ⟨S1x512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12

abbrev nD : Nat := 1
abbrev τ : Topo := Topo.v7x

variable {F : FTy → Type} [FloatOps F]

abbrev grid0 : Pipeline.Grid := ⟨1, ![33], ![false]⟩

def k0_cond1 (i : grid0.Coords) : BitVec 1 :=
  let arg0 : BitVec 32 := BitVec.ofNat 32 (i 0).val
  let c32_i32 : BitVec 32 := 32#32
  let v0 : BitVec 1 := Scalar.cmpi .slt arg0 c32_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c32_i32_0 : BitVec 32 := 32#32
  let v3 : BitVec 1 := Scalar.cmpi .eq arg0 c32_i32_0
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let c31_i32 : BitVec 32 := 31#32
  let v0 : BitVec 32 := Scalar.minsi arg0 c31_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32_4 : BitVec 32 := 4#32
  let c0_i32_5 : BitVec 32 := 0#32
  let v18 : BitVec 1 := Scalar.cmpi .eq c4_i32_4 c0_i32_5
  let c1_i32_6 : BitVec 32 := 1#32
  let v19 : BitVec 32 := Scalar.select v18 c1_i32_6 c4_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, v27.toNat, c0_i32_10.toNat]

def cc0_transform_1 (i : grid0.Coords) : Fin 4 → Nat :=
  let arg0 : BitVec 32 := BitVec.ofNat 32 (i 0).val
  let c31_i32 : BitVec 32 := 31#32
  let v0 : BitVec 32 := Scalar.minsi arg0 c31_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32_4 : BitVec 32 := 4#32
  let c0_i32_5 : BitVec 32 := 0#32
  let v18 : BitVec 1 := Scalar.cmpi .eq c4_i32_4 c0_i32_5
  let c1_i32_6 : BitVec 32 := 1#32
  let v19 : BitVec 32 := Scalar.select v18 c1_i32_6 c4_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  let c0_i32_12 : BitVec 32 := 0#32
  let c0_i32_13 : BitVec 32 := 0#32
  ![v17.toNat, c0_i32_10.toNat, c0_i32_11.toNat, c0_i32_12.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c31_i32 : BitVec 32 := 31#32
  let v0 : BitVec 32 := Scalar.minsi arg0 c31_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32_4 : BitVec 32 := 4#32
  let c0_i32_5 : BitVec 32 := 0#32
  let v18 : BitVec 1 := Scalar.cmpi .eq c4_i32_4 c0_i32_5
  let c1_i32_6 : BitVec 32 := 1#32
  let v19 : BitVec 32 := Scalar.select v18 c1_i32_6 c4_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, v27.toNat, c0_i32_10.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x6x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4096x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x512x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== MlpRefIdeal.lean ====
abbrev S8x2048x1024 : Shape := ⟨3, ![8, 2048, 1024]⟩
abbrev S8x6x1x1024 : Shape := ⟨4, ![8, 6, 1, 1024]⟩
abbrev S1x512x1024 : Shape := ⟨3, ![1, 512, 1024]⟩
abbrev S2x6x136x1024 : Shape := ⟨4, ![2, 6, 136, 1024]⟩
abbrev S1024 : Shape := ⟨1, ![1024]⟩
abbrev S1024x4096 : Shape := ⟨2, ![1024, 4096]⟩
abbrev S4096x1024 : Shape := ⟨2, ![4096, 1024]⟩
abbrev S8x6x1024 : Shape := ⟨3, ![8, 6, 1024]⟩
abbrev S8x1x1024 : Shape := ⟨3, ![8, 1, 1024]⟩
abbrev S8x1024 : Shape := ⟨2, ![8, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x4096 : Shape := ⟨3, ![8, 2048, 4096]⟩
abbrev S4x128x1024 : Shape := ⟨3, ![4, 128, 1024]⟩
abbrev S128x4x1024 : Shape := ⟨3, ![128, 4, 1024]⟩
abbrev S1x6x136x1024 : Shape := ⟨4, ![1, 6, 136, 1024]⟩
abbrev S6x136x1024 : Shape := ⟨3, ![6, 136, 1024]⟩
abbrev S6x128x1024 : Shape := ⟨3, ![6, 128, 1024]⟩
abbrev S128x6x1024 : Shape := ⟨3, ![128, 6, 1024]⟩
abbrev S128x1x1024 : Shape := ⟨3, ![128, 1, 1024]⟩
abbrev S128x1024 : Shape := ⟨2, ![128, 1024]⟩
abbrev S128x4 : Shape := ⟨2, ![128, 4]⟩
abbrev S128x4x1 : Shape := ⟨3, ![128, 4, 1]⟩
abbrev S128x4x4096 : Shape := ⟨3, ![128, 4, 4096]⟩

abbrev nBuf : Space → Nat
  | .hbm => 133
  | .vmem => 0
  | .smem => 0
  | _ => 0

abbrev hbmTy0_0 (i : Nat) : BufTy := match i % 128 with
  | 0 => ⟨S8x2048x1024, .f32⟩
  | 1 => ⟨S8x6x1x1024, .f32⟩
  | 2 => ⟨S1x512x1024, .f32⟩
  | 3 => ⟨S2x6x136x1024, .f32⟩
  | 4 => ⟨S1024, .f32⟩
  | 5 => ⟨S1024x4096, .bf16⟩
  | 6 => ⟨S4096x1024, .bf16⟩
  | 7 => ⟨S1024, .f32⟩
  | 8 => ⟨S1024x4096, .f32⟩
  | 9 => ⟨S4096x1024, .f32⟩
  | 10 => ⟨S8x6x1024, .f32⟩
  | 11 => ⟨S8x1x1024, .f32⟩
  | 12 => ⟨S8x1024, .f32⟩
  | 13 => ⟨S8x1x1024, .f32⟩
  | 14 => ⟨S8x1x1024, .f32⟩
  | 15 => ⟨S8x1024, .f32⟩
  | 16 => ⟨S8x1x1024, .f32⟩
  | 17 => ⟨S8x1024, .f32⟩
  | 18 => ⟨S8x2048x1024, .f32⟩
  | 19 => ⟨S_, .f32⟩
  | 20 => ⟨S8x2048, .f32⟩
  | 21 => ⟨S8x2048x1, .f32⟩
  | 22 => ⟨S_, .f32⟩
  | 23 => ⟨S8x2048x1, .f32⟩
  | 24 => ⟨S8x2048x1, .f32⟩
  | 25 => ⟨S_, .f32⟩
  | 26 => ⟨S8x2048x1, .f32⟩
  | 27 => ⟨S8x2048x1, .f32⟩
  | 28 => ⟨S8x2048x1, .f32⟩
  | 29 => ⟨S8x2048x1024, .f32⟩
  | 30 => ⟨S8x2048x1024, .f32⟩
  | 31 => ⟨S1x1x1024, .f32⟩
  | 32 => ⟨S8x2048x1024, .f32⟩
  | 33 => ⟨S8x2048x1024, .f32⟩
  | 34 => ⟨S8x1x1024, .f32⟩
  | 35 => ⟨S_, .f32⟩
  | 36 => ⟨S8x1x1024, .f32⟩
  | 37 => ⟨S8x1x1024, .f32⟩
  | 38 => ⟨S8x2048x1024, .f32⟩
  | 39 => ⟨S8x2048x1024, .f32⟩
  | 40 => ⟨S8x1x1024, .f32⟩
  | 41 => ⟨S8x2048x1024, .f32⟩
  | 42 => ⟨S8x2048x1024, .f32⟩
  | 43 => ⟨S8x2048x4096, .f32⟩
  | 44 => ⟨S_, .f32⟩
  | 45 => ⟨S8x2048x4096, .f32⟩
  | 46 => ⟨S8x2048x4096, .f32⟩
  | 47 => ⟨S8x2048x4096, .f32⟩
  | 48 => ⟨S8x2048x1024, .f32⟩
  | 49 => ⟨S8x2048x1024, .f32⟩
  | 50 => ⟨S8x2048x1024, .f32⟩
  | 51 => ⟨S8x2048x1024, .f32⟩
  | 52 => ⟨S4x128x1024, .f32⟩
  | 53 => ⟨S128x4x1024, .f32⟩
  | 54 => ⟨S1x6x136x1024, .f32⟩
  | 55 => ⟨S6x136x1024, .f32⟩
  | 56 => ⟨S6x128x1024, .f32⟩
  | 57 => ⟨S128x6x1024, .f32⟩
  | 58 => ⟨S128x1x1024, .f32⟩
  | 59 => ⟨S128x1024, .f32⟩
  | 60 => ⟨S128x1x1024, .f32⟩
  | 61 => ⟨S128x1x1024, .f32⟩
  | 62 => ⟨S128x1024, .f32⟩
  | 63 => ⟨S128x1x1024, .f32⟩
  | 64 => ⟨S128x1024, .f32⟩
  | 65 => ⟨S128x4x1024, .f32⟩
  | 66 => ⟨S_, .f32⟩
  | 67 => ⟨S128x4, .f32⟩
  | 68 => ⟨S128x4x1, .f32⟩
  | 69 => ⟨S_, .f32⟩
  | 70 => ⟨S128x4x1, .f32⟩
  | 71 => ⟨S128x4x1, .f32⟩
  | 72 => ⟨S_, .f32⟩
  | 73 => ⟨S128x4x1, .f32⟩
  | 74 => ⟨S128x4x1, .f32⟩
  | 75 => ⟨S128x4x1, .f32⟩
  | 76 => ⟨S128x4x1024, .f32⟩
  | 77 => ⟨S128x4x1024, .f32⟩
  | 78 => ⟨S1x1x1024, .f32⟩
  | 79 => ⟨S128x4x1024, .f32⟩
  | 80 => ⟨S128x4x1024, .f32⟩
  | 81 => ⟨S128x1x1024, .f32⟩
  | 82 => ⟨S_, .f32⟩
  | 83 => ⟨S128x1x1024, .f32⟩
  | 84 => ⟨S128x1x1024, .f32⟩
  | 85 => ⟨S128x4x1024, .f32⟩
  | 86 => ⟨S128x4x1024, .f32⟩
  | 87 => ⟨S128x1x1024, .f32⟩
  | 88 => ⟨S128x4x1024, .f32⟩
  | 89 => ⟨S128x4x1024, .f32⟩
  | 90 => ⟨S128x4x4096, .f32⟩
  | 91 => ⟨S_, .f32⟩
  | 92 => ⟨S128x4x4096, .f32⟩
  | 93 => ⟨S128x4x4096, .f32⟩
  | 94 => ⟨S128x4x4096, .f32⟩
  | 95 => ⟨S128x4x1024, .f32⟩
  | 96 => ⟨S128x4x1024, .f32⟩
  | 97 => ⟨S128x4x1024, .f32⟩
  | 98 => ⟨S128x4x1024, .f32⟩
  | 99 => ⟨S8x2048x1024, .f32⟩
  | 100 => ⟨S_, .f32⟩
  | 101 => ⟨S8x2048, .f32⟩
  | 102 => ⟨S8x2048x1, .f32⟩
  | 103 => ⟨S_, .f32⟩
  | 104 => ⟨S8x2048x1, .f32⟩
  | 105 => ⟨S8x2048x1, .f32⟩
  | 106 => ⟨S_, .f32⟩
  | 107 => ⟨S8x2048x1, .f32⟩
  | 108 => ⟨S8x2048x1, .f32⟩
  | 109 => ⟨S8x2048x1, .f32⟩
  | 110 => ⟨S8x2048x1024, .f32⟩
  | 111 => ⟨S8x2048x1024, .f32⟩
  | 112 => ⟨S1x1x1024, .f32⟩
  | 113 => ⟨S8x2048x1024, .f32⟩
  | 114 => ⟨S8x2048x1024, .f32⟩
  | 115 => ⟨S128x4x1024, .f32⟩
  | 116 => ⟨S_, .f32⟩
  | 117 => ⟨S128x4, .f32⟩
  | 118 => ⟨S128x4x1, .f32⟩
  | 119 => ⟨S_, .f32⟩
  | 120 => ⟨S128x4x1, .f32⟩
  | 121 => ⟨S128x4x1, .f32⟩
  | 122 => ⟨S_, .f32⟩
  | 123 => ⟨S128x4x1, .f32⟩
  | 124 => ⟨S128x4x1, .f32⟩
  | 125 => ⟨S128x4x1, .f32⟩
  | 126 => ⟨S128x4x1024, .f32⟩
  | 127 => ⟨S128x4x1024, .f32⟩
  | _ => ⟨S8x2048x1024, .f32⟩

abbrev hbmTy0_1 (i : Nat) : BufTy := match i % 128 with
  | 0 => ⟨S1x1x1024, .f32⟩
  | 1 => ⟨S128x4x1024, .f32⟩
  | 2 => ⟨S128x4x1024, .f32⟩
  | 3 => ⟨S4x128x1024, .f32⟩
  | 4 => ⟨S1x512x1024, .f32⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_call0_cst : Ref sig .tc := ⟨.hbm, 44, rfl⟩
abbrev main_call0_v0 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_cst_3 : Ref sig .tc := ⟨.hbm, 66, rfl⟩
abbrev main_v52 : Ref sig .tc := ⟨.hbm, 67, rfl⟩
abbrev main_v53 : Ref sig .tc := ⟨.hbm, 68, rfl⟩
abbrev main_cst_4 : Ref sig .tc := ⟨.hbm, 69, rfl⟩
abbrev main_v54 : Ref sig .tc := ⟨.hbm, 70, rfl⟩
abbrev main_v55 : Ref sig .tc := ⟨.hbm, 71, rfl⟩
abbrev main_cst_5 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_cst_6 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_call1_cst : Ref sig .tc := ⟨.hbm, 91, rfl⟩
abbrev main_call1_v0 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_cst_7 : Ref sig .tc := ⟨.hbm, 100, rfl⟩
abbrev main_v80 : Ref sig .tc := ⟨.hbm, 101, rfl⟩
abbrev main_v81 : Ref sig .tc := ⟨.hbm, 102, rfl⟩
abbrev main_cst_8 : Ref sig .tc := ⟨.hbm, 103, rfl⟩
abbrev main_v82 : Ref sig .tc := ⟨.hbm, 104, rfl⟩
abbrev main_v83 : Ref sig .tc := ⟨.hbm, 105, rfl⟩
abbrev main_cst_9 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_cst_10 : Ref sig .tc := ⟨.hbm, 116, rfl⟩
abbrev main_v93 : Ref sig .tc := ⟨.hbm, 117, rfl⟩
abbrev main_v94 : Ref sig .tc := ⟨.hbm, 118, rfl⟩
abbrev main_cst_11 : Ref sig .tc := ⟨.hbm, 119, rfl⟩
abbrev main_v95 : Ref sig .tc := ⟨.hbm, 120, rfl⟩
abbrev main_v96 : Ref sig .tc := ⟨.hbm, 121, rfl⟩
abbrev main_cst_12 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩

abbrev nD : Nat := 1
abbrev τ : Topo := Topo.v7x

variable {F : FTy → Type} [FloatOps F]
-- ==== First.lean ====
abbrev S8x2048x1024 : Shape := ⟨3, ![8, 2048, 1024]⟩
abbrev S8x6x1x1024 : Shape := ⟨4, ![8, 6, 1, 1024]⟩
abbrev S1x512x1024 : Shape := ⟨3, ![1, 512, 1024]⟩
abbrev S1024x1024 : Shape := ⟨2, ![1024, 1024]⟩
abbrev S2x6x136x1024 : Shape := ⟨4, ![2, 6, 136, 1024]⟩
abbrev S1024 : Shape := ⟨1, ![1024]⟩
abbrev S1024x4096 : Shape := ⟨2, ![1024, 4096]⟩
abbrev S4096x1024 : Shape := ⟨2, ![4096, 1024]⟩
abbrev S1x1024x3072 : Shape := ⟨3, ![1, 1024, 3072]⟩
abbrev S1x1024x1024 : Shape := ⟨3, ![1, 1024, 1024]⟩
abbrev S1x1024 : Shape := ⟨2, ![1, 1024]⟩
abbrev S1024x3072 : Shape := ⟨2, ![1024, 3072]⟩
abbrev S1x6x1x1024 : Shape := ⟨4, ![1, 6, 1, 1024]⟩
abbrev S1x6x128x1024 : Shape := ⟨4, ![1, 6, 128, 1024]⟩
abbrev S1x32x3072 : Shape := ⟨3, ![1, 32, 3072]⟩
abbrev S1x32x1024 : Shape := ⟨3, ![1, 32, 1024]⟩
abbrev S32x3072 : Shape := ⟨2, ![32, 3072]⟩
abbrev S32x1024 : Shape := ⟨2, ![32, 1024]⟩
abbrev S512x1024 : Shape := ⟨2, ![512, 1024]⟩
abbrev S1x1x1x1024 : Shape := ⟨4, ![1, 1, 1, 1024]⟩
abbrev S512 : Shape := ⟨1, ![512]⟩
abbrev S512x1 : Shape := ⟨2, ![512, 1]⟩
abbrev S1x1x128x1024 : Shape := ⟨4, ![1, 1, 128, 1024]⟩
abbrev S128x1024 : Shape := ⟨2, ![128, 1024]⟩
abbrev S128 : Shape := ⟨1, ![128]⟩
abbrev S128x1 : Shape := ⟨2, ![128, 1]⟩

abbrev nBuf : Space → Nat
  | .hbm => 16
  | .vmem => 22
  | .smem => 0
  | _ => 0

abbrev bufTy : (tb : Table) → Fin (tcTables nBuf tb) → BufTy
  | .hbm, ⟨0, _⟩ => ⟨S8x2048x1024, .f32⟩
  | .hbm, ⟨1, _⟩ => ⟨S8x6x1x1024, .f32⟩
  | .hbm, ⟨2, _⟩ => ⟨S1x512x1024, .f32⟩
  | .hbm, ⟨3, _⟩ => ⟨S1x512x1024, .f32⟩
  | .hbm, ⟨4, _⟩ => ⟨S1024x1024, .bf16⟩
  | .hbm, ⟨5, _⟩ => ⟨S2x6x136x1024, .f32⟩
  | .hbm, ⟨6, _⟩ => ⟨S1024, .f32⟩
  | .hbm, ⟨7, _⟩ => ⟨S1024x4096, .bf16⟩
  | .hbm, ⟨8, _⟩ => ⟨S4096x1024, .bf16⟩
  | .hbm, ⟨9, _⟩ => ⟨S1x1024x3072, .f32⟩
  | .hbm, ⟨10, _⟩ => ⟨S1x1024x1024, .f32⟩
  | .hbm, ⟨11, _⟩ => ⟨S1x1024, .f32⟩
  | .hbm, ⟨12, _⟩ => ⟨S8x2048x1024, .f32⟩
  | .hbm, ⟨13, _⟩ => ⟨S1x512x1024, .f32⟩
  | .hbm, ⟨14, _⟩ => ⟨S1024x3072, .bf16⟩
  | .hbm, ⟨15, _⟩ => ⟨S1024x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1x6x1x1024, .f32⟩
  | .local _ .vmem, ⟨3, _⟩ => ⟨S1x6x1x1024, .f32⟩
  | .local _ .vmem, ⟨4, _⟩ => ⟨S1x512x1024, .f32⟩
  | .local _ .vmem, ⟨5, _⟩ => ⟨S1x512x1024, .f32⟩
  | .local _ .vmem, ⟨6, _⟩ => ⟨S1024x1024, .bf16⟩
  | .local _ .vmem, ⟨7, _⟩ => ⟨S1x6x128x1024, .f32⟩
  | .local _ .vmem, ⟨8, _⟩ => ⟨S1x1024, .f32⟩
  | .local _ .vmem, ⟨9, _⟩ => ⟨S1024x4096, .bf16⟩
  | .local _ .vmem, ⟨10, _⟩ => ⟨S4096x1024, .bf16⟩
  | .local _ .vmem, ⟨11, _⟩ => ⟨S1x32x3072, .f32⟩
  | .local _ .vmem, ⟨12, _⟩ => ⟨S1x32x3072, .f32⟩
  | .local _ .vmem, ⟨13, _⟩ => ⟨S1x32x1024, .f32⟩
  | .local _ .vmem, ⟨14, _⟩ => ⟨S1x32x1024, .f32⟩
  | .local _ .vmem, ⟨15, _⟩ => ⟨S1x512x1024, .f32⟩
  | .local _ .vmem, ⟨16, _⟩ => ⟨S1x512x1024, .f32⟩
  | .local _ .vmem, ⟨17, _⟩ => ⟨S1x512x1024, .f32⟩
  | .local _ .vmem, ⟨18, _⟩ => ⟨S32x3072, .bf16⟩
  | .local _ .vmem, ⟨19, _⟩ => ⟨S32x3072, .bf16⟩
  | .local _ .vmem, ⟨20, _⟩ => ⟨S32x1024, .bf16⟩
  | .local _ .vmem, ⟨21, _⟩ => ⟨S32x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1_0 : Ref sig .tc := ⟨.hbm, 12, rfl⟩
abbrev main_v1_1 : Ref sig .tc := ⟨.hbm, 13, rfl⟩
abbrev main_v1_2 : Ref sig .tc := ⟨.hbm, 14, rfl⟩
abbrev main_v1_3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem13_0 : DmaSem sig := 18
abbrev cc0_sem13_1 : DmaSem sig := 19
abbrev cc0_sem14_0 : DmaSem sig := 20
abbrev cc0_sem14_1 : DmaSem sig := 21

abbrev nD : Nat := 1
abbrev τ : Topo := Topo.v7x

variable {F : FTy → Type} [FloatOps F]

abbrev grid0 : Pipeline.Grid := ⟨1, ![33], ![false]⟩

def k0_cond1 (i : grid0.Coords) : BitVec 1 :=
  let arg0 : BitVec 32 := BitVec.ofNat 32 (i 0).val
  let c32_i32 : BitVec 32 := 32#32
  let v8 : BitVec 1 := Scalar.cmpi .slt arg0 c32_i32
  let v9 : BitVec 32 := Scalar.extui v8
  let c0_i32 : BitVec 32 := 0#32
  let v10 : BitVec 1 := Scalar.cmpi .ne v9 c0_i32
  v10

def k0_cond2 (i : grid0.Coords) : BitVec 1 :=
  let arg0 : BitVec 32 := BitVec.ofNat 32 (i 0).val
  let c32_i32_9 : BitVec 32 := 32#32
  let v11 : BitVec 1 := Scalar.cmpi .eq arg0 c32_i32_9
  let v12 : BitVec 32 := Scalar.extui v11
  let c0_i32_10 : BitVec 32 := 0#32
  let v13 : BitVec 1 := Scalar.cmpi .ne v12 c0_i32_10
  v13

def cc0_transform_0 (i : grid0.Coords) : Fin 3 → Nat :=
  let arg0 : BitVec 32 := BitVec.ofNat 32 (i 0).val
  let c31_i32 : BitVec 32 := 31#32
  let v0 : BitVec 32 := Scalar.minsi arg0 c31_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32_4 : BitVec 32 := 4#32
  let c0_i32_5 : BitVec 32 := 0#32
  let v18 : BitVec 1 := Scalar.cmpi .eq c4_i32_4 c0_i32_5
  let c1_i32_6 : BitVec 32 := 1#32
  let v19 : BitVec 32 := Scalar.select v18 c1_i32_6 c4_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, v27.toNat, c0_i32_10.toNat]

def cc0_transform_1 (i : grid0.Coords) : Fin 4 → Nat :=
  let arg0 : BitVec 32 := BitVec.ofNat 32 (i 0).val
  let c31_i32 : BitVec 32 := 31#32
  let v0 : BitVec 32 := Scalar.minsi arg0 c31_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32_4 : BitVec 32 := 4#32
  let c0_i32_5 : BitVec 32 := 0#32
  let v18 : BitVec 1 := Scalar.cmpi .eq c4_i32_4 c0_i32_5
  let c1_i32_6 : BitVec 32 := 1#32
  let v19 : BitVec 32 := Scalar.select v18 c1_i32_6 c4_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  let c0_i32_12 : BitVec 32 := 0#32
  let c0_i32_13 : BitVec 32 := 0#32
  ![v17.toNat, c0_i32_10.toNat, c0_i32_11.toNat, c0_i32_12.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  let c0_i32_1 : BitVec 32 := 0#32
  ![c0_i32.toNat, v0.toNat, c0_i32_0.toNat]

def cc0_transform_10 (i : grid0.Coords) : Fin 3 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  let c0_i32_1 : BitVec 32 := 0#32
  ![c0_i32.toNat, v0.toNat, c0_i32_0.toNat]

def cc0_transform_11 (i : grid0.Coords) : Fin 3 → Nat :=
  let arg0 : BitVec 32 := BitVec.ofNat 32 (i 0).val
  let c31_i32 : BitVec 32 := 31#32
  let v0 : BitVec 32 := Scalar.minsi arg0 c31_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32_4 : BitVec 32 := 4#32
  let c0_i32_5 : BitVec 32 := 0#32
  let v18 : BitVec 1 := Scalar.cmpi .eq c4_i32_4 c0_i32_5
  let c1_i32_6 : BitVec 32 := 1#32
  let v19 : BitVec 32 := Scalar.select v18 c1_i32_6 c4_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, v27.toNat, c0_i32_10.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x6x128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4096x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x32x3072 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x32x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x512x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S32x3072 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S32x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== FirstRefIdeal.lean ====
abbrev S8x2048x1024 : Shape := ⟨3, ![8, 2048, 1024]⟩
abbrev S8x6x1x1024 : Shape := ⟨4, ![8, 6, 1, 1024]⟩
abbrev S1x512x1024 : Shape := ⟨3, ![1, 512, 1024]⟩
abbrev S1024x1024 : Shape := ⟨2, ![1024, 1024]⟩
abbrev S2x6x136x1024 : Shape := ⟨4, ![2, 6, 136, 1024]⟩
abbrev S1024 : Shape := ⟨1, ![1024]⟩
abbrev S1024x4096 : Shape := ⟨2, ![1024, 4096]⟩
abbrev S4096x1024 : Shape := ⟨2, ![4096, 1024]⟩
abbrev S1x1024x3072 : Shape := ⟨3, ![1, 1024, 3072]⟩
abbrev S1x1024x1024 : Shape := ⟨3, ![1, 1024, 1024]⟩
abbrev S8x6x1024 : Shape := ⟨3, ![8, 6, 1024]⟩
abbrev S8x1x1024 : Shape := ⟨3, ![8, 1, 1024]⟩
abbrev S8x1024 : Shape := ⟨2, ![8, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x4096 : Shape := ⟨3, ![8, 2048, 4096]⟩
abbrev S4x128x1024 : Shape := ⟨3, ![4, 128, 1024]⟩
abbrev S128x4x1024 : Shape := ⟨3, ![128, 4, 1024]⟩
abbrev S1x6x136x1024 : Shape := ⟨4, ![1, 6, 136, 1024]⟩
abbrev S6x136x1024 : Shape := ⟨3, ![6, 136, 1024]⟩
abbrev S6x128x1024 : Shape := ⟨3, ![6, 128, 1024]⟩
abbrev S128x6x1024 : Shape := ⟨3, ![128, 6, 1024]⟩
abbrev S128x1x1024 : Shape := ⟨3, ![128, 1, 1024]⟩
abbrev S128x1024 : Shape := ⟨2, ![128, 1024]⟩
abbrev S128x4 : Shape := ⟨2, ![128, 4]⟩
abbrev S128x4x1 : Shape := ⟨3, ![128, 4, 1]⟩
abbrev S128x4x4096 : Shape := ⟨3, ![128, 4, 4096]⟩
abbrev S1024x3072 : Shape := ⟨2, ![1024, 3072]⟩

abbrev nBuf : Space → Nat
  | .hbm => 118
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x6x1x1024, .f32⟩
  | .hbm, ⟨2, _⟩ => ⟨S1x512x1024, .f32⟩
  | .hbm, ⟨3, _⟩ => ⟨S1x512x1024, .f32⟩
  | .hbm, ⟨4, _⟩ => ⟨S1024x1024, .bf16⟩
  | .hbm, ⟨5, _⟩ => ⟨S2x6x136x1024, .f32⟩
  | .hbm, ⟨6, _⟩ => ⟨S1024, .f32⟩
  | .hbm, ⟨7, _⟩ => ⟨S1024x4096, .bf16⟩
  | .hbm, ⟨8, _⟩ => ⟨S4096x1024, .bf16⟩
  | .hbm, ⟨9, _⟩ => ⟨S1x1024x3072, .f32⟩
  | .hbm, ⟨10, _⟩ => ⟨S1x1024x1024, .f32⟩
  | .hbm, ⟨11, _⟩ => ⟨S1024x1024, .f32⟩
  | .hbm, ⟨12, _⟩ => ⟨S1024x4096, .f32⟩
  | .hbm, ⟨13, _⟩ => ⟨S4096x1024, .f32⟩
  | .hbm, ⟨14, _⟩ => ⟨S8x6x1024, .f32⟩
  | .hbm, ⟨15, _⟩ => ⟨S8x1x1024, .f32⟩
  | .hbm, ⟨16, _⟩ => ⟨S8x1024, .f32⟩
  | .hbm, ⟨17, _⟩ => ⟨S8x1x1024, .f32⟩
  | .hbm, ⟨18, _⟩ => ⟨S8x1x1024, .f32⟩
  | .hbm, ⟨19, _⟩ => ⟨S8x1024, .f32⟩
  | .hbm, ⟨20, _⟩ => ⟨S8x1x1024, .f32⟩
  | .hbm, ⟨21, _⟩ => ⟨S8x1024, .f32⟩
  | .hbm, ⟨22, _⟩ => ⟨S8x2048x1024, .f32⟩
  | .hbm, ⟨23, _⟩ => ⟨S_, .f32⟩
  | .hbm, ⟨24, _⟩ => ⟨S8x2048, .f32⟩
  | .hbm, ⟨25, _⟩ => ⟨S8x2048x1, .f32⟩
  | .hbm, ⟨26, _⟩ => ⟨S_, .f32⟩
  | .hbm, ⟨27, _⟩ => ⟨S8x2048x1, .f32⟩
  | .hbm, ⟨28, _⟩ => ⟨S8x2048x1, .f32⟩
  | .hbm, ⟨29, _⟩ => ⟨S_, .f32⟩
  | .hbm, ⟨30, _⟩ => ⟨S8x2048x1, .f32⟩
  | .hbm, ⟨31, _⟩ => ⟨S8x2048x1, .f32⟩
  | .hbm, ⟨32, _⟩ => ⟨S8x2048x1, .f32⟩
  | .hbm, ⟨33, _⟩ => ⟨S8x2048x1024, .f32⟩
  | .hbm, ⟨34, _⟩ => ⟨S8x2048x1024, .f32⟩
  | .hbm, ⟨35, _⟩ => ⟨S1x1x1024, .f32⟩
  | .hbm, ⟨36, _⟩ => ⟨S8x2048x1024, .f32⟩
  | .hbm, ⟨37, _⟩ => ⟨S8x2048x1024, .f32⟩
  | .hbm, ⟨38, _⟩ => ⟨S8x1x1024, .f32⟩
  | .hbm, ⟨39, _⟩ => ⟨S_, .f32⟩
  | .hbm, ⟨40, _⟩ => ⟨S8x1x1024, .f32⟩
  | .hbm, ⟨41, _⟩ => ⟨S8x1x1024, .f32⟩
  | .hbm, ⟨42, _⟩ => ⟨S8x2048x1024, .f32⟩
  | .hbm, ⟨43, _⟩ => ⟨S8x2048x1024, .f32⟩
  | .hbm, ⟨44, _⟩ => ⟨S8x1x1024, .f32⟩
  | .hbm, ⟨45, _⟩ => ⟨S8x2048x1024, .f32⟩
  | .hbm, ⟨46, _⟩ => ⟨S8x2048x1024, .f32⟩
  | .hbm, ⟨47, _⟩ => ⟨S8x2048x4096, .f32⟩
  | .hbm, ⟨48, _⟩ => ⟨S_, .f32⟩
  | .hbm, ⟨49, _⟩ => ⟨S8x2048x4096, .f32⟩
  | .hbm, ⟨50, _⟩ => ⟨S8x2048x4096, .f32⟩
  | .hbm, ⟨51, _⟩ => ⟨S8x2048x4096, .f32⟩
  | .hbm, ⟨52, _⟩ => ⟨S8x2048x1024, .f32⟩
  | .hbm, ⟨53, _⟩ => ⟨S8x2048x1024, .f32⟩
  | .hbm, ⟨54, _⟩ => ⟨S8x2048x1024, .f32⟩
  | .hbm, ⟨55, _⟩ => ⟨S8x2048x1024, .f32⟩
  | .hbm, ⟨56, _⟩ => ⟨S4x128x1024, .f32⟩
  | .hbm, ⟨57, _⟩ => ⟨S128x4x1024, .f32⟩
  | .hbm, ⟨58, _⟩ => ⟨S4x128x1024, .f32⟩
  | .hbm, ⟨59, _⟩ => ⟨S128x4x1024, .f32⟩
  | .hbm, ⟨60, _⟩ => ⟨S1x6x136x1024, .f32⟩
  | .hbm, ⟨61, _⟩ => ⟨S6x136x1024, .f32⟩
  | .hbm, ⟨62, _⟩ => ⟨S6x128x1024, .f32⟩
  | .hbm, ⟨63, _⟩ => ⟨S128x6x1024, .f32⟩
  | .hbm, ⟨64, _⟩ => ⟨S128x1x1024, .f32⟩
  | .hbm, ⟨65, _⟩ => ⟨S128x1024, .f32⟩
  | .hbm, ⟨66, _⟩ => ⟨S128x1x1024, .f32⟩
  | .hbm, ⟨67, _⟩ => ⟨S128x4x1024, .f32⟩
  | .hbm, ⟨68, _⟩ => ⟨S128x4x1024, .f32⟩
  | .hbm, ⟨69, _⟩ => ⟨S128x4x1024, .f32⟩
  | .hbm, ⟨70, _⟩ => ⟨S128x4x1024, .f32⟩
  | .hbm, ⟨71, _⟩ => ⟨S128x1x1024, .f32⟩
  | .hbm, ⟨72, _⟩ => ⟨S128x1024, .f32⟩
  | .hbm, ⟨73, _⟩ => ⟨S128x1x1024, .f32⟩
  | .hbm, ⟨74, _⟩ => ⟨S128x1x1024, .f32⟩
  | .hbm, ⟨75, _⟩ => ⟨S128x1024, .f32⟩
  | .hbm, ⟨76, _⟩ => ⟨S128x1x1024, .f32⟩
  | .hbm, ⟨77, _⟩ => ⟨S128x1024, .f32⟩
  | .hbm, ⟨78, _⟩ => ⟨S128x4x1024, .f32⟩
  | .hbm, ⟨79, _⟩ => ⟨S_, .f32⟩
  | .hbm, ⟨80, _⟩ => ⟨S128x4, .f32⟩
  | .hbm, ⟨81, _⟩ => ⟨S128x4x1, .f32⟩
  | .hbm, ⟨82, _⟩ => ⟨S_, .f32⟩
  | .hbm, ⟨83, _⟩ => ⟨S128x4x1, .f32⟩
  | .hbm, ⟨84, _⟩ => ⟨S128x4x1, .f32⟩
  | .hbm, ⟨85, _⟩ => ⟨S_, .f32⟩
  | .hbm, ⟨86, _⟩ => ⟨S128x4x1, .f32⟩
  | .hbm, ⟨87, _⟩ => ⟨S128x4x1, .f32⟩
  | .hbm, ⟨88, _⟩ => ⟨S128x4x1, .f32⟩
  | .hbm, ⟨89, _⟩ => ⟨S128x4x1024, .f32⟩
  | .hbm, ⟨90, _⟩ => ⟨S128x4x1024, .f32⟩
  | .hbm, ⟨91, _⟩ => ⟨S1x1x1024, .f32⟩
  | .hbm, ⟨92, _⟩ => ⟨S128x4x1024, .f32⟩
  | .hbm, ⟨93, _⟩ => ⟨S128x4x1024, .f32⟩
  | .hbm, ⟨94, _⟩ => ⟨S128x1x1024, .f32⟩
  | .hbm, ⟨95, _⟩ => ⟨S_, .f32⟩
  | .hbm, ⟨96, _⟩ => ⟨S128x1x1024, .f32⟩
  | .hbm, ⟨97, _⟩ => ⟨S128x1x1024, .f32⟩
  | .hbm, ⟨98, _⟩ => ⟨S128x4x1024, .f32⟩
  | .hbm, ⟨99, _⟩ => ⟨S128x4x1024, .f32⟩
  | .hbm, ⟨100, _⟩ => ⟨S128x1x1024, .f32⟩
  | .hbm, ⟨101, _⟩ => ⟨S128x4x1024, .f32⟩
  | .hbm, ⟨102, _⟩ => ⟨S128x4x1024, .f32⟩
  | .hbm, ⟨103, _⟩ => ⟨S128x4x4096, .f32⟩
  | .hbm, ⟨104, _⟩ => ⟨S_, .f32⟩
  | .hbm, ⟨105, _⟩ => ⟨S128x4x4096, .f32⟩
  | .hbm, ⟨106, _⟩ => ⟨S128x4x4096, .f32⟩
  | .hbm, ⟨107, _⟩ => ⟨S128x4x4096, .f32⟩
  | .hbm, ⟨108, _⟩ => ⟨S128x4x1024, .f32⟩
  | .hbm, ⟨109, _⟩ => ⟨S128x4x1024, .f32⟩
  | .hbm, ⟨110, _⟩ => ⟨S128x4x1024, .f32⟩
  | .hbm, ⟨111, _⟩ => ⟨S128x4x1024, .f32⟩
  | .hbm, ⟨112, _⟩ => ⟨S4x128x1024, .f32⟩
  | .hbm, ⟨113, _⟩ => ⟨S1x512x1024, .f32⟩
  | .hbm, ⟨114, _⟩ => ⟨S1024x3072, .f32⟩
  | .hbm, ⟨115, _⟩ => ⟨S1024x3072, .bf16⟩
  | .hbm, ⟨116, _⟩ => ⟨S1024x1024, .f32⟩
  | .hbm, ⟨117, _⟩ => ⟨S1024x1024, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst : Ref sig .tc := ⟨.hbm, 23, rfl⟩
abbrev main_v12 : Ref sig .tc := ⟨.hbm, 24, rfl⟩
abbrev main_v13 : Ref sig .tc := ⟨.hbm, 25, rfl⟩
abbrev main_cst_0 : Ref sig .tc := ⟨.hbm, 26, rfl⟩
abbrev main_v14 : Ref sig .tc := ⟨.hbm, 27, rfl⟩
abbrev main_v15 : Ref sig .tc := ⟨.hbm, 28, rfl⟩
abbrev main_cst_1 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_2 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_call0_cst : Ref sig .tc := ⟨.hbm, 48, rfl⟩
abbrev main_call0_v0 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_cst_3 : Ref sig .tc := ⟨.hbm, 79, rfl⟩
abbrev main_v62 : Ref sig .tc := ⟨.hbm, 80, rfl⟩
abbrev main_v63 : Ref sig .tc := ⟨.hbm, 81, rfl⟩
abbrev main_cst_4 : Ref sig .tc := ⟨.hbm, 82, rfl⟩
abbrev main_v64 : Ref sig .tc := ⟨.hbm, 83, rfl⟩
abbrev main_v65 : Ref sig .tc := ⟨.hbm, 84, rfl⟩
abbrev main_cst_5 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_cst_6 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_call1_cst : Ref sig .tc := ⟨.hbm, 104, rfl⟩
abbrev main_call1_v0 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩

abbrev nD : Nat := 1
abbrev τ : Topo := Topo.v7x

variable {F : FTy → Type} [FloatOps F]
-- ==== Ada.lean ====
abbrev S8x1024 : Shape := ⟨2, ![8, 1024]⟩
abbrev S128x1024 : Shape := ⟨2, ![128, 1024]⟩
abbrev S2x1024x6144 : Shape := ⟨3, ![2, 1024, 6144]⟩
abbrev S2x6144 : Shape := ⟨2, ![2, 6144]⟩
abbrev S136x1024 : Shape := ⟨2, ![136, 1024]⟩
abbrev S2x1x6144 : Shape := ⟨3, ![2, 1, 6144]⟩
abbrev S2x6x136x1024 : Shape := ⟨4, ![2, 6, 136, 1024]⟩
abbrev S1x1024x1024 : Shape := ⟨3, ![1, 1024, 1024]⟩
abbrev S1x1x1024 : Shape := ⟨3, ![1, 1, 1024]⟩
abbrev S1x1x136x1024 : Shape := ⟨4, ![1, 1, 136, 1024]⟩
abbrev S1024x1024 : Shape := ⟨2, ![1024, 1024]⟩
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S128x1024, .f32⟩
  | .hbm, ⟨2, _⟩ => ⟨S2x1024x6144, .f32⟩
  | .hbm, ⟨3, _⟩ => ⟨S2x6144, .f32⟩
  | .hbm, ⟨4, _⟩ => ⟨S136x1024, .f32⟩
  | .hbm, ⟨5, _⟩ => ⟨S2x1x6144, .f32⟩
  | .hbm, ⟨6, _⟩ => ⟨S2x6x136x1024, .f32⟩
  | .local _ .vmem, ⟨0, _⟩ => ⟨S136x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x136x1024, .f32⟩
  | .local _ .vmem, ⟨6, _⟩ => ⟨S1x1x136x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 1 → Memref sig .tc .vmem S136x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x136x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AdaRefIdeal.lean ====
abbrev S8x1024 : Shape := ⟨2, ![8, 1024]⟩
abbrev S128x1024 : Shape := ⟨2, ![128, 1024]⟩
abbrev S2x1024x6144 : Shape := ⟨3, ![2, 1024, 6144]⟩
abbrev S2x6144 : Shape := ⟨2, ![2, 6144]⟩
abbrev S_ : Shape := ⟨0, ![]⟩
abbrev S1x1024x6144 : Shape := ⟨3, ![1, 1024, 6144]⟩
abbrev S1024x6144 : Shape := ⟨2, ![1024, 6144]⟩
abbrev S128x6144 : Shape := ⟨2, ![128, 6144]⟩
abbrev S1x6144 : Shape := ⟨2, ![1, 6144]⟩
abbrev S6144 : Shape := ⟨1, ![6144]⟩
abbrev S128x6x1024 : Shape := ⟨3, ![128, 6, 1024]⟩
abbrev S8x6144 : Shape := ⟨2, ![8, 6144]⟩
abbrev S8x6x1024 : Shape := ⟨3, ![8, 6, 1024]⟩
abbrev S136x6x1024 : Shape := ⟨3, ![136, 6, 1024]⟩
abbrev S6x136x1024 : Shape := ⟨3, ![6, 136, 1024]⟩
abbrev S1x6x136x1024 : Shape := ⟨4, ![1, 6, 136, 1024]⟩
abbrev S2x6x136x1024 : Shape := ⟨4, ![2, 6, 136, 1024]⟩

abbrev nBuf : Space → Nat
  | .hbm => 83
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S128x1024, .f32⟩
  | .hbm, ⟨2, _⟩ => ⟨S2x1024x6144, .f32⟩
  | .hbm, ⟨3, _⟩ => ⟨S2x6144, .f32⟩
  | .hbm, ⟨4, _⟩ => ⟨S128x1024, .f32⟩
  | .hbm, ⟨5, _⟩ => ⟨S128x1024, .f32⟩
  | .hbm, ⟨6, _⟩ => ⟨S_, .f32⟩
  | .hbm, ⟨7, _⟩ => ⟨S128x1024, .f32⟩
  | .hbm, ⟨8, _⟩ => ⟨S128x1024, .f32⟩
  | .hbm, ⟨9, _⟩ => ⟨S_, .f32⟩
  | .hbm, ⟨10, _⟩ => ⟨S128x1024, .f32⟩
  | .hbm, ⟨11, _⟩ => ⟨S128x1024, .f32⟩
  | .hbm, ⟨12, _⟩ => ⟨S128x1024, .f32⟩
  | .hbm, ⟨13, _⟩ => ⟨S1x1024x6144, .f32⟩
  | .hbm, ⟨14, _⟩ => ⟨S1024x6144, .f32⟩
  | .hbm, ⟨15, _⟩ => ⟨S128x6144, .f32⟩
  | .hbm, ⟨16, _⟩ => ⟨S1x6144, .f32⟩
  | .hbm, ⟨17, _⟩ => ⟨S6144, .f32⟩
  | .hbm, ⟨18, _⟩ => ⟨S1x6144, .f32⟩
  | .hbm, ⟨19, _⟩ => ⟨S128x6144, .f32⟩
  | .hbm, ⟨20, _⟩ => ⟨S128x6144, .f32⟩
  | .hbm, ⟨21, _⟩ => ⟨S128x6x1024, .f32⟩
  | .hbm, ⟨22, _⟩ => ⟨S8x1024, .f32⟩
  | .hbm, ⟨23, _⟩ => ⟨S8x1024, .f32⟩
  | .hbm, ⟨24, _⟩ => ⟨S_, .f32⟩
  | .hbm, ⟨25, _⟩ => ⟨S8x1024, .f32⟩
  | .hbm, ⟨26, _⟩ => ⟨S8x1024, .f32⟩
  | .hbm, ⟨27, _⟩ => ⟨S_, .f32⟩
  | .hbm, ⟨28, _⟩ => ⟨S8x1024, .f32⟩
  | .hbm, ⟨29, _⟩ => ⟨S8x1024, .f32⟩
  | .hbm, ⟨30, _⟩ => ⟨S8x1024, .f32⟩
  | .hbm, ⟨31, _⟩ => ⟨S1x1024x6144, .f32⟩
  | .hbm, ⟨32, _⟩ => ⟨S1024x6144, .f32⟩
  | .hbm, ⟨33, _⟩ => ⟨S8x6144, .f32⟩
  | .hbm, ⟨34, _⟩ => ⟨S1x6144, .f32⟩
  | .hbm, ⟨35, _⟩ => ⟨S6144, .f32⟩
  | .hbm, ⟨36, _⟩ => ⟨S1x6144, .f32⟩
  | .hbm, ⟨37, _⟩ => ⟨S8x6144, .f32⟩
  | .hbm, ⟨38, _⟩ => ⟨S8x6144, .f32⟩
  | .hbm, ⟨39, _⟩ => ⟨S8x6x1024, .f32⟩
  | .hbm, ⟨40, _⟩ => ⟨S136x6x1024, .f32⟩
  | .hbm, ⟨41, _⟩ => ⟨S6x136x1024, .f32⟩
  | .hbm, ⟨42, _⟩ => ⟨S128x1024, .f32⟩
  | .hbm, ⟨43, _⟩ => ⟨S128x1024, .f32⟩
  | .hbm, ⟨44, _⟩ => ⟨S_, .f32⟩
  | .hbm, ⟨45, _⟩ => ⟨S128x1024, .f32⟩
  | .hbm, ⟨46, _⟩ => ⟨S128x1024, .f32⟩
  | .hbm, ⟨47, _⟩ => ⟨S_, .f32⟩
  | .hbm, ⟨48, _⟩ => ⟨S128x1024, .f32⟩
  | .hbm, ⟨49, _⟩ => ⟨S128x1024, .f32⟩
  | .hbm, ⟨50, _⟩ => ⟨S128x1024, .f32⟩
  | .hbm, ⟨51, _⟩ => ⟨S1x1024x6144, .f32⟩
  | .hbm, ⟨52, _⟩ => ⟨S1024x6144, .f32⟩
  | .hbm, ⟨53, _⟩ => ⟨S128x6144, .f32⟩
  | .hbm, ⟨54, _⟩ => ⟨S1x6144, .f32⟩
  | .hbm, ⟨55, _⟩ => ⟨S6144, .f32⟩
  | .hbm, ⟨56, _⟩ => ⟨S1x6144, .f32⟩
  | .hbm, ⟨57, _⟩ => ⟨S128x6144, .f32⟩
  | .hbm, ⟨58, _⟩ => ⟨S128x6144, .f32⟩
  | .hbm, ⟨59, _⟩ => ⟨S128x6x1024, .f32⟩
  | .hbm, ⟨60, _⟩ => ⟨S8x1024, .f32⟩
  | .hbm, ⟨61, _⟩ => ⟨S8x1024, .f32⟩
  | .hbm, ⟨62, _⟩ => ⟨S_, .f32⟩
  | .hbm, ⟨63, _⟩ => ⟨S8x1024, .f32⟩
  | .hbm, ⟨64, _⟩ => ⟨S8x1024, .f32⟩
  | .hbm, ⟨65, _⟩ => ⟨S_, .f32⟩
  | .hbm, ⟨66, _⟩ => ⟨S8x1024, .f32⟩
  | .hbm, ⟨67, _⟩ => ⟨S8x1024, .f32⟩
  | .hbm, ⟨68, _⟩ => ⟨S8x1024, .f32⟩
  | .hbm, ⟨69, _⟩ => ⟨S1x1024x6144, .f32⟩
  | .hbm, ⟨70, _⟩ => ⟨S1024x6144, .f32⟩
  | .hbm, ⟨71, _⟩ => ⟨S8x6144, .f32⟩
  | .hbm, ⟨72, _⟩ => ⟨S1x6144, .f32⟩
  | .hbm, ⟨73, _⟩ => ⟨S6144, .f32⟩
  | .hbm, ⟨74, _⟩ => ⟨S1x6144, .f32⟩
  | .hbm, ⟨75, _⟩ => ⟨S8x6144, .f32⟩
  | .hbm, ⟨76, _⟩ => ⟨S8x6144, .f32⟩
  | .hbm, ⟨77, _⟩ => ⟨S8x6x1024, .f32⟩
  | .hbm, ⟨78, _⟩ => ⟨S136x6x1024, .f32⟩
  | .hbm, ⟨79, _⟩ => ⟨S6x136x1024, .f32⟩
  | .hbm, ⟨80, _⟩ => ⟨S1x6x136x1024, .f32⟩
  | .hbm, ⟨81, _⟩ => ⟨S1x6x136x1024, .f32⟩
  | .hbm, ⟨82, _⟩ => ⟨S2x6x136x1024, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_call1_v0 : Ref sig .tc := ⟨.hbm, 22, rfl⟩
abbrev main_call1_v1 : Ref sig .tc := ⟨.hbm, 23, rfl⟩
abbrev main_call1_cst : Ref sig .tc := ⟨.hbm, 24, rfl⟩
abbrev main_call1_v2 : Ref sig .tc := ⟨.hbm, 25, rfl⟩
abbrev main_call1_v3 : Ref sig .tc := ⟨.hbm, 26, rfl⟩
abbrev main_call1_cst_0 : Ref sig .tc := ⟨.hbm, 27, rfl⟩
abbrev main_call1_v4 : Ref sig .tc := ⟨.hbm, 28, rfl⟩
abbrev main_call1_v5 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_call2_v0 : Ref sig .tc := ⟨.hbm, 42, rfl⟩
abbrev main_call2_v1 : Ref sig .tc := ⟨.hbm, 43, rfl⟩
abbrev main_call2_cst : Ref sig .tc := ⟨.hbm, 44, rfl⟩
abbrev main_call2_v2 : Ref sig .tc := ⟨.hbm, 45, rfl⟩
abbrev main_call2_v3 : Ref sig .tc := ⟨.hbm, 46, rfl⟩
abbrev main_call2_cst_0 : Ref sig .tc := ⟨.hbm, 47, rfl⟩
abbrev main_call2_v4 : Ref sig .tc := ⟨.hbm, 48, rfl⟩
abbrev main_call2_v5 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_call3_v0 : Ref sig .tc := ⟨.hbm, 60, rfl⟩
abbrev main_call3_v1 : Ref sig .tc := ⟨.hbm, 61, rfl⟩
abbrev main_call3_cst : Ref sig .tc := ⟨.hbm, 62, rfl⟩
abbrev main_call3_v2 : Ref sig .tc := ⟨.hbm, 63, rfl⟩
abbrev main_call3_v3 : Ref sig .tc := ⟨.hbm, 64, rfl⟩
abbrev main_call3_cst_0 : Ref sig .tc := ⟨.hbm, 65, rfl⟩
abbrev main_call3_v4 : Ref sig .tc := ⟨.hbm, 66, rfl⟩
abbrev main_call3_v5 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩

abbrev nD : Nat := 1
abbrev τ : Topo := Topo.v7x

variable {F : FTy → Type} [FloatOps F]
-- ==== Prompt.lean ====
abbrev S8x2048x1024 : Shape := ⟨3, ![8, 2048, 1024]⟩
abbrev S8x6x1x1024 : Shape := ⟨4, ![8, 6, 1, 1024]⟩
abbrev S1024 : Shape := ⟨1, ![1024]⟩
abbrev S1024x2560 : Shape := ⟨2, ![1024, 2560]⟩
abbrev S768x1024 : Shape := ⟨2, ![768, 1024]⟩
abbrev S16 : Shape := ⟨1, ![16]⟩
abbrev S1024x1024 : Shape := ⟨2, ![1024, 1024]⟩
abbrev S2x1024x4096 : Shape := ⟨3, ![2, 1024, 4096]⟩
abbrev S2x4096x1024 : Shape := ⟨3, ![2, 4096, 1024]⟩
abbrev S1x1024 : Shape := ⟨2, ![1, 1024]⟩
abbrev S16x1 : Shape := ⟨2, ![16, 1]⟩
abbrev S16x1024 : Shape := ⟨2, ![16, 1024]⟩
abbrev S8x8x64x256 : Shape := ⟨4, ![8, 8, 64, 256]⟩
abbrev S8x8x128 : Shape := ⟨3, ![8, 8, 128]⟩
abbrev S1024x4096 : Shape := ⟨2, ![1024, 4096]⟩
abbrev S4096x1024 : Shape := ⟨2, ![4096, 1024]⟩
abbrev S1x1024x1024 : Shape := ⟨3, ![1, 1024, 1024]⟩
abbrev S1x6x1x1024 : Shape := ⟨4, ![1, 6, 1, 1024]⟩
abbrev S1x64x4096 : Shape := ⟨3, ![1, 64, 4096]⟩
abbrev S1x256x1024 : Shape := ⟨3, ![1, 256, 1024]⟩
abbrev S1x8x64x256 : Shape := ⟨4, ![1, 8, 64, 256]⟩
abbrev S1x8x128 : Shape := ⟨3, ![1, 8, 128]⟩
abbrev S64x4096 : Shape := ⟨2, ![64, 4096]⟩
abbrev S256x1024 : Shape := ⟨2, ![256, 1024]⟩
abbrev S1x1x1x1024 : Shape := ⟨4, ![1, 1, 1, 1024]⟩
abbrev S1024x1 : Shape := ⟨2, ![1024, 1]⟩
abbrev S512x1024 : Shape := ⟨2, ![512, 1024]⟩
abbrev S8x1024 : Shape := ⟨2, ![8, 1024]⟩
abbrev S528x1024 : Shape := ⟨2, ![528, 1024]⟩
abbrev S128x128 : Shape := ⟨2, ![128, 128]⟩
abbrev S64x128 : Shape := ⟨2, ![64, 128]⟩
abbrev S64x256 : Shape := ⟨2, ![64, 256]⟩
abbrev S112x128 : Shape := ⟨2, ![112, 128]⟩
abbrev S8x128 : Shape := ⟨2, ![8, 128]⟩
abbrev S8x1 : Shape := ⟨2, ![8, 1]⟩
abbrev S128x1 : Shape := ⟨2, ![128, 1]⟩
abbrev S1x128 : Shape := ⟨2, ![1, 128]⟩
abbrev S1x1x64x256 : Shape := ⟨4, ![1, 1, 64, 256]⟩
abbrev S128x256 : Shape := ⟨2, ![128, 256]⟩
abbrev S256x256 : Shape := ⟨2, ![256, 256]⟩
abbrev S128 : Shape := ⟨1, ![128]⟩
abbrev S1x256 : Shape := ⟨2, ![1, 256]⟩

abbrev nBuf : Space → Nat
  | .hbm => 19
  | .vmem => 25
  | .smem => 0
  | _ => 0

abbrev bufTy : (tb : Table) → Fin (tcTables nBuf tb) → BufTy
  | .hbm, ⟨0, _⟩ => ⟨S8x2048x1024, .f32⟩
  | .hbm, ⟨1, _⟩ => ⟨S8x6x1x1024, .f32⟩
  | .hbm, ⟨2, _⟩ => ⟨S1024, .f32⟩
  | .hbm, ⟨3, _⟩ => ⟨S1024x2560, .bf16⟩
  | .hbm, ⟨4, _⟩ => ⟨S768x1024, .bf16⟩
  | .hbm, ⟨5, _⟩ => ⟨S16, .f32⟩
  | .hbm, ⟨6, _⟩ => ⟨S1024, .f32⟩
  | .hbm, ⟨7, _⟩ => ⟨S1024x1024, .bf16⟩
  | .hbm, ⟨8, _⟩ => ⟨S2x1024x4096, .f32⟩
  | .hbm, ⟨9, _⟩ => ⟨S2x4096x1024, .f32⟩
  | .hbm, ⟨10, _⟩ => ⟨S1x1024, .f32⟩
  | .hbm, ⟨11, _⟩ => ⟨S16x1, .f32⟩
  | .hbm, ⟨12, _⟩ => ⟨S16x1024, .f32⟩
  | .hbm, ⟨13, _⟩ => ⟨S1x1024, .f32⟩
  | .hbm, ⟨14, _⟩ => ⟨S8x2048x1024, .f32⟩
  | .hbm, ⟨15, _⟩ => ⟨S8x8x64x256, .f32⟩
  | .hbm, ⟨16, _⟩ => ⟨S8x8x128, .f32⟩
  | .hbm, ⟨17, _⟩ => ⟨S1024x4096, .bf16⟩
  | .hbm, ⟨18, _⟩ => ⟨S4096x1024, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x6x1x1024, .f32⟩
  | .local _ .vmem, ⟨3, _⟩ => ⟨S1x6x1x1024, .f32⟩
  | .local _ .vmem, ⟨4, _⟩ => ⟨S1x1024, .f32⟩
  | .local _ .vmem, ⟨5, _⟩ => ⟨S1024x2560, .bf16⟩
  | .local _ .vmem, ⟨6, _⟩ => ⟨S768x1024, .bf16⟩
  | .local _ .vmem, ⟨7, _⟩ => ⟨S16x1024, .f32⟩
  | .local _ .vmem, ⟨8, _⟩ => ⟨S1x1024, .f32⟩
  | .local _ .vmem, ⟨9, _⟩ => ⟨S1024x1024, .bf16⟩
  | .local _ .vmem, ⟨10, _⟩ => ⟨S1x64x4096, .f32⟩
  | .local _ .vmem, ⟨11, _⟩ => ⟨S1x64x4096, .f32⟩
  | .local _ .vmem, ⟨12, _⟩ => ⟨S1x256x1024, .f32⟩
  | .local _ .vmem, ⟨13, _⟩ => ⟨S1x256x1024, .f32⟩
  | .local _ .vmem, ⟨14, _⟩ => ⟨S1x1024x1024, .f32⟩
  | .local _ .vmem, ⟨15, _⟩ => ⟨S1x1024x1024, .f32⟩
  | .local _ .vmem, ⟨16, _⟩ => ⟨S1x8x64x256, .f32⟩
  | .local _ .vmem, ⟨17, _⟩ => ⟨S1x8x64x256, .f32⟩
  | .local _ .vmem, ⟨18, _⟩ => ⟨S1x8x128, .f32⟩
  | .local _ .vmem, ⟨19, _⟩ => ⟨S1x8x128, .f32⟩
  | .local _ .vmem, ⟨20, _⟩ => ⟨S64x4096, .bf16⟩
  | .local _ .vmem, ⟨21, _⟩ => ⟨S64x4096, .bf16⟩
  | .local _ .vmem, ⟨22, _⟩ => ⟨S256x1024, .bf16⟩
  | .local _ .vmem, ⟨23, _⟩ => ⟨S256x1024, .bf16⟩
  | .local _ .vmem, ⟨24, _⟩ => ⟨S1024x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4_0 : Ref sig .tc := ⟨.hbm, 14, rfl⟩
abbrev main_v4_1 : Ref sig .tc := ⟨.hbm, 15, rfl⟩
abbrev main_v4_2 : Ref sig .tc := ⟨.hbm, 16, rfl⟩
abbrev main_v4_3 : Ref sig .tc := ⟨.hbm, 17, rfl⟩
abbrev main_v4_4 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_9 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_14 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2560 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S768x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S16x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x64x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x8x64x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x8x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S64x4096 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== PromptRefIdeal.lean ====
abbrev S8x2048x1024 : Shape := ⟨3, ![8, 2048, 1024]⟩
abbrev S8x6x1x1024 : Shape := ⟨4, ![8, 6, 1, 1024]⟩
abbrev S1024 : Shape := ⟨1, ![1024]⟩
abbrev S1024x2560 : Shape := ⟨2, ![1024, 2560]⟩
abbrev S768x1024 : Shape := ⟨2, ![768, 1024]⟩
abbrev S16 : Shape := ⟨1, ![16]⟩
abbrev S1024x1024 : Shape := ⟨2, ![1024, 1024]⟩
abbrev S2x1024x4096 : Shape := ⟨3, ![2, 1024, 4096]⟩
abbrev S2x4096x1024 : Shape := ⟨3, ![2, 4096, 1024]⟩
abbrev S8x6x1024 : Shape := ⟨3, ![8, 6, 1024]⟩
abbrev S8x1x1024 : Shape := ⟨3, ![8, 1, 1024]⟩
abbrev S8x1024 : Shape := ⟨2, ![8, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x2560 : Shape := ⟨3, ![8, 2048, 2560]⟩
abbrev S8x2048x512 : Shape := ⟨3, ![8, 2048, 512]⟩
abbrev S8x2048x8x64 : Shape := ⟨4, ![8, 2048, 8, 64]⟩
abbrev S8x8x2048x64 : Shape := ⟨4, ![8, 8, 2048, 64]⟩
abbrev S8x2048x8x128 : Shape := ⟨4, ![8, 2048, 8, 128]⟩
abbrev S8x8x2048x128 : Shape := ⟨4, ![8, 8, 2048, 128]⟩
abbrev S512x1024 : Shape := ⟨2, ![512, 1024]⟩
abbrev S1024x512 : Shape := ⟨2, ![1024, 512]⟩
abbrev S1024x8 : Shape := ⟨2, ![1024, 8]⟩
abbrev S8x2048x8 : Shape := ⟨3, ![8, 2048, 8]⟩
abbrev S8 : Shape := ⟨1, ![8]⟩
abbrev S1x1x8 : Shape := ⟨3, ![1, 1, 8]⟩
abbrev S8x8x2048 : Shape := ⟨3, ![8, 8, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S8x8x1x2048 : Shape := ⟨4, ![8, 8, 1, 2048]⟩
abbrev S8x8x2048x2048 : Shape := ⟨4, ![8, 8, 2048, 2048]⟩
abbrev S8x8x2048x1 : Shape := ⟨4, ![8, 8, 2048, 1]⟩
abbrev S8x8x1 : Shape := ⟨3, ![8, 8, 1]⟩
abbrev S8x8 : Shape := ⟨2, ![8, 8]⟩
abbrev S8x8x64x128 : Shape := ⟨4, ![8, 8, 64, 128]⟩
abbrev S8x8x64 : Shape := ⟨3, ![8, 8, 64]⟩
abbrev S8x8x64x1 : Shape := ⟨4, ![8, 8, 64, 1]⟩
abbrev S8x8x64x256 : Shape := ⟨4, ![8, 8, 64, 256]⟩
abbrev S8x8x128 : Shape := ⟨3, ![8, 8, 128]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩

abbrev nBuf : Space → Nat
  | .hbm => 196
  | .vmem => 0
  | .smem => 0
  | _ => 0

abbrev hbmTy0_0 (i : Nat) : BufTy := match i % 128 with
  | 0 => ⟨S8x2048x1024, .f32⟩
  | 1 => ⟨S8x6x1x1024, .f32⟩
  | 2 => ⟨S1024, .f32⟩
  | 3 => ⟨S1024x2560, .bf16⟩
  | 4 => ⟨S768x1024, .bf16⟩
  | 5 => ⟨S16, .f32⟩
  | 6 => ⟨S1024, .f32⟩
  | 7 => ⟨S1024x1024, .bf16⟩
  | 8 => ⟨S2x1024x4096, .f32⟩
  | 9 => ⟨S2x4096x1024, .f32⟩
  | 10 => ⟨S8x6x1024, .f32⟩
  | 11 => ⟨S1024x2560, .f32⟩
  | 12 => ⟨S768x1024, .f32⟩
  | 13 => ⟨S8x1x1024, .f32⟩
  | 14 => ⟨S8x1024, .f32⟩
  | 15 => ⟨S8x1x1024, .f32⟩
  | 16 => ⟨S8x1024, .f32⟩
  | 17 => ⟨S8x2048x1024, .f32⟩
  | 18 => ⟨S_, .f32⟩
  | 19 => ⟨S8x2048, .f32⟩
  | 20 => ⟨S8x2048x1, .f32⟩
  | 21 => ⟨S_, .f32⟩
  | 22 => ⟨S8x2048x1, .f32⟩
  | 23 => ⟨S8x2048x1, .f32⟩
  | 24 => ⟨S_, .f32⟩
  | 25 => ⟨S8x2048x1, .f32⟩
  | 26 => ⟨S8x2048x1, .f32⟩
  | 27 => ⟨S8x2048x1, .f32⟩
  | 28 => ⟨S8x2048x1024, .f32⟩
  | 29 => ⟨S8x2048x1024, .f32⟩
  | 30 => ⟨S1x1x1024, .f32⟩
  | 31 => ⟨S8x2048x1024, .f32⟩
  | 32 => ⟨S8x2048x1024, .f32⟩
  | 33 => ⟨S8x1x1024, .f32⟩
  | 34 => ⟨S_, .f32⟩
  | 35 => ⟨S8x1x1024, .f32⟩
  | 36 => ⟨S8x1x1024, .f32⟩
  | 37 => ⟨S8x2048x1024, .f32⟩
  | 38 => ⟨S8x2048x1024, .f32⟩
  | 39 => ⟨S8x1x1024, .f32⟩
  | 40 => ⟨S8x2048x1024, .f32⟩
  | 41 => ⟨S8x2048x1024, .f32⟩
  | 42 => ⟨S8x2048x2560, .f32⟩
  | 43 => ⟨S8x2048x512, .f32⟩
  | 44 => ⟨S8x2048x8x64, .f32⟩
  | 45 => ⟨S8x8x2048x64, .f32⟩
  | 46 => ⟨S8x2048x1024, .f32⟩
  | 47 => ⟨S8x2048x8x128, .f32⟩
  | 48 => ⟨S8x8x2048x128, .f32⟩
  | 49 => ⟨S8x2048x1024, .f32⟩
  | 50 => ⟨S512x1024, .f32⟩
  | 51 => ⟨S1024x512, .f32⟩
  | 52 => ⟨S8x2048x512, .f32⟩
  | 53 => ⟨S8x2048x8x64, .f32⟩
  | 54 => ⟨S8x8x2048x64, .f32⟩
  | 55 => ⟨S8x1024, .f32⟩
  | 56 => ⟨S1024x8, .f32⟩
  | 57 => ⟨S8x2048x8, .f32⟩
  | 58 => ⟨S8, .f32⟩
  | 59 => ⟨S1x1x8, .f32⟩
  | 60 => ⟨S8x2048x8, .f32⟩
  | 61 => ⟨S8x2048x8, .f32⟩
  | 62 => ⟨S8x8x2048, .f32⟩
  | 63 => ⟨S8x1024, .f32⟩
  | 64 => ⟨S1024x8, .f32⟩
  | 65 => ⟨S8x2048x8, .f32⟩
  | 66 => ⟨S8, .f32⟩
  | 67 => ⟨S1x1x8, .f32⟩
  | 68 => ⟨S8x2048x8, .f32⟩
  | 69 => ⟨S8x2048x8, .f32⟩
  | 70 => ⟨S8x2048x8, .f32⟩
  | 71 => ⟨S_, .f32⟩
  | 72 => ⟨S8x2048x8, .f32⟩
  | 73 => ⟨S8x2048x8, .f32⟩
  | 74 => ⟨S8x2048x8, .f32⟩
  | 75 => ⟨S8x2048x8, .f32⟩
  | 76 => ⟨S8x2048x8, .i1⟩
  | 77 => ⟨S8x2048x8, .f32⟩
  | 78 => ⟨S8x2048x8, .f32⟩
  | 79 => ⟨S8x2048x8, .f32⟩
  | 80 => ⟨S8x2048x8, .f32⟩
  | 81 => ⟨S8x2048x8, .f32⟩
  | 82 => ⟨S8x2048x8, .f32⟩
  | 83 => ⟨S8x2048x8, .f32⟩
  | 84 => ⟨S8x2048x8, .f32⟩
  | 85 => ⟨S8x2048x8, .f32⟩
  | 86 => ⟨S8x8x2048, .f32⟩
  | 87 => ⟨S2048, .i32⟩
  | 88 => ⟨S2048x1, .i32⟩
  | 89 => ⟨S2048, .i32⟩
  | 90 => ⟨S1x2048, .i32⟩
  | 91 => ⟨S2048x2048, .i32⟩
  | 92 => ⟨S2048x2048, .i32⟩
  | 93 => ⟨S2048x2048, .i1⟩
  | 94 => ⟨S8x8x1x2048, .f32⟩
  | 95 => ⟨S_, .f32⟩
  | 96 => ⟨S_, .f32⟩
  | 97 => ⟨S8x8x2048x2048, .i1⟩
  | 98 => ⟨S8x8x2048x2048, .f32⟩
  | 99 => ⟨S8x8x2048x2048, .f32⟩
  | 100 => ⟨S8x8x2048x2048, .f32⟩
  | 101 => ⟨S_, .f32⟩
  | 102 => ⟨S8x8x2048, .f32⟩
  | 103 => ⟨S8x8x2048x1, .f32⟩
  | 104 => ⟨S8x8x1x2048, .f32⟩
  | 105 => ⟨S8x8x2048x2048, .f32⟩
  | 106 => ⟨S8x8x2048x2048, .f32⟩
  | 107 => ⟨S8x8x2048x2048, .f32⟩
  | 108 => ⟨S8x8x1x2048, .f32⟩
  | 109 => ⟨S8x8x2048x2048, .f32⟩
  | 110 => ⟨S8x8x2048x2048, .f32⟩
  | 111 => ⟨S_, .f32⟩
  | 112 => ⟨S_, .f32⟩
  | 113 => ⟨S8x8x2048x2048, .i1⟩
  | 114 => ⟨S8x8x2048x2048, .f32⟩
  | 115 => ⟨S8x8x2048x2048, .f32⟩
  | 116 => ⟨S_, .f32⟩
  | 117 => ⟨S8x8x2048, .f32⟩
  | 118 => ⟨S8x8x2048, .f32⟩
  | 119 => ⟨S8x8x2048x2048, .f32⟩
  | 120 => ⟨S8x8x2048x1, .f32⟩
  | 121 => ⟨S8x8x2048x2048, .f32⟩
  | 122 => ⟨S8x8x2048x2048, .f32⟩
  | 123 => ⟨S8x8x2048x2048, .f32⟩
  | 124 => ⟨S8x8x2048x2048, .f32⟩
  | 125 => ⟨S8x8x2048x128, .f32⟩
  | 126 => ⟨S_, .f32⟩
  | 127 => ⟨S8x8x2048, .f32⟩
  | _ => ⟨S8x2048x1024, .f32⟩

abbrev hbmTy0_1 (i : Nat) : BufTy := match i % 128 with
  | 0 => ⟨S8x8x2048, .f32⟩
  | 1 => ⟨S8x8x2048, .f32⟩
  | 2 => ⟨S8x8x2048, .f32⟩
  | 3 => ⟨S8x8x2048, .f32⟩
  | 4 => ⟨S8x8x2048x1, .f32⟩
  | 5 => ⟨S8x8x2048x128, .f32⟩
  | 6 => ⟨S8x8x2048x128, .f32⟩
  | 7 => ⟨S8x8x1, .f32⟩
  | 8 => ⟨S8x8, .f32⟩
  | 9 => ⟨S8x8x1, .f32⟩
  | 10 => ⟨S8x8x2048, .f32⟩
  | 11 => ⟨S8x8x2048, .f32⟩
  | 12 => ⟨S8x8x2048, .f32⟩
  | 13 => ⟨S8x8x1, .f32⟩
  | 14 => ⟨S8x8x2048, .f32⟩
  | 15 => ⟨S8x8x2048, .f32⟩
  | 16 => ⟨S8x8x2048, .f32⟩
  | 17 => ⟨S8x8x2048x1, .f32⟩
  | 18 => ⟨S8x8x2048x64, .f32⟩
  | 19 => ⟨S8x8x2048x64, .f32⟩
  | 20 => ⟨S8x8x64x128, .f32⟩
  | 21 => ⟨S8x8x64, .f32⟩
  | 22 => ⟨S8x8x2048x128, .f32⟩
  | 23 => ⟨S_, .f32⟩
  | 24 => ⟨S8x8x2048, .f32⟩
  | 25 => ⟨S8x8x2048x1, .f32⟩
  | 26 => ⟨S_, .f32⟩
  | 27 => ⟨S8x8x2048x1, .f32⟩
  | 28 => ⟨S8x8x2048x1, .f32⟩
  | 29 => ⟨S_, .f32⟩
  | 30 => ⟨S8x8x2048x1, .f32⟩
  | 31 => ⟨S8x8x2048x1, .f32⟩
  | 32 => ⟨S8x8x2048x1, .f32⟩
  | 33 => ⟨S8x8x2048x128, .f32⟩
  | 34 => ⟨S8x8x2048x128, .f32⟩
  | 35 => ⟨S8x2048x8x128, .f32⟩
  | 36 => ⟨S8x2048x1024, .f32⟩
  | 37 => ⟨S1x1x1024, .f32⟩
  | 38 => ⟨S8x2048x1024, .f32⟩
  | 39 => ⟨S8x2048x1024, .f32⟩
  | 40 => ⟨S8x2048x1024, .f32⟩
  | 41 => ⟨S8x2048x1024, .f32⟩
  | 42 => ⟨S_, .f32⟩
  | 43 => ⟨S8x2048x1024, .f32⟩
  | 44 => ⟨S8x2048x1024, .f32⟩
  | 45 => ⟨S_, .f32⟩
  | 46 => ⟨S8x2048x1024, .f32⟩
  | 47 => ⟨S8x2048x1024, .f32⟩
  | 48 => ⟨S8x2048x1024, .f32⟩
  | 49 => ⟨S1024x1024, .f32⟩
  | 50 => ⟨S8x2048x1024, .f32⟩
  | 51 => ⟨S8x8x64x1, .f32⟩
  | 52 => ⟨S8x8x64x128, .f32⟩
  | 53 => ⟨S8x8x64x256, .f32⟩
  | 54 => ⟨S8x1x1024, .f32⟩
  | 55 => ⟨S8x1024, .f32⟩
  | 56 => ⟨S8x1x1024, .f32⟩
  | 57 => ⟨S8x2048x1024, .f32⟩
  | 58 => ⟨S8x2048x1024, .f32⟩
  | 59 => ⟨S8x2048x1024, .f32⟩
  | 60 => ⟨S8x8x1, .f32⟩
  | 61 => ⟨S8x8x128, .f32⟩
  | 62 => ⟨S1x1024x4096, .f32⟩
  | 63 => ⟨S1024x4096, .f32⟩
  | 64 => ⟨S1024x4096, .bf16⟩
  | 65 => ⟨S1x4096x1024, .f32⟩
  | 66 => ⟨S4096x1024, .f32⟩
  | 67 => ⟨S4096x1024, .bf16⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_call0_v0 : Ref sig .tc := ⟨.hbm, 70, rfl⟩
abbrev main_call0_call0_cst : Ref sig .tc := ⟨.hbm, 71, rfl⟩
abbrev main_call0_call0_v0 : Ref sig .tc := ⟨.hbm, 72, rfl⟩
abbrev main_call0_call0_v1 : Ref sig .tc := ⟨.hbm, 73, rfl⟩
abbrev main_call0_call0_v2 : Ref sig .tc := ⟨.hbm, 74, rfl⟩
abbrev main_call0_call0_v3 : Ref sig .tc := ⟨.hbm, 75, rfl⟩
abbrev main_call0_call0_v4 : Ref sig .tc := ⟨.hbm, 76, rfl⟩
abbrev main_call0_call0_v5 : Ref sig .tc := ⟨.hbm, 77, rfl⟩
abbrev main_call0_call0_v6 : Ref sig .tc := ⟨.hbm, 78, rfl⟩
abbrev main_call0_call0_v7 : Ref sig .tc := ⟨.hbm, 79, rfl⟩
abbrev main_call0_call0_v8 : Ref sig .tc := ⟨.hbm, 80, rfl⟩
abbrev main_call0_call0_v9 : Ref sig .tc := ⟨.hbm, 81, rfl⟩
abbrev main_call0_call0_v10 : Ref sig .tc := ⟨.hbm, 82, rfl⟩
abbrev main_call0_call0_v11 : Ref sig .tc := ⟨.hbm, 83, rfl⟩
abbrev main_call0_v1 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_cst_3 : Ref sig .tc := ⟨.hbm, 95, rfl⟩
abbrev main_call1_v0 : Ref sig .tc := ⟨.hbm, 96, rfl⟩
abbrev main_call1_v1 : Ref sig .tc := ⟨.hbm, 97, rfl⟩
abbrev main_call1_v2 : Ref sig .tc := ⟨.hbm, 98, rfl⟩
abbrev main_call1_v3 : Ref sig .tc := ⟨.hbm, 99, rfl⟩
abbrev main_v66 : Ref sig .tc := ⟨.hbm, 100, rfl⟩
abbrev main_cst_4 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_cst_5 : Ref sig .tc := ⟨.hbm, 111, rfl⟩
abbrev main_call2_v0 : Ref sig .tc := ⟨.hbm, 112, rfl⟩
abbrev main_call2_v1 : Ref sig .tc := ⟨.hbm, 113, rfl⟩
abbrev main_call2_v2 : Ref sig .tc := ⟨.hbm, 114, rfl⟩
abbrev main_v76 : Ref sig .tc := ⟨.hbm, 115, rfl⟩
abbrev main_cst_6 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_cst_7 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_cst_8 : Ref sig .tc := ⟨.hbm, 151, rfl⟩
abbrev main_v110 : Ref sig .tc := ⟨.hbm, 152, rfl⟩
abbrev main_v111 : Ref sig .tc := ⟨.hbm, 153, rfl⟩
abbrev main_cst_9 : Ref sig .tc := ⟨.hbm, 154, rfl⟩
abbrev main_v112 : Ref sig .tc := ⟨.hbm, 155, rfl⟩
abbrev main_v113 : Ref sig .tc := ⟨.hbm, 156, rfl⟩
abbrev main_cst_10 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_cst_11 : Ref sig .tc := ⟨.hbm, 170, rfl⟩
abbrev main_v126 : Ref sig .tc := ⟨.hbm, 171, rfl⟩
abbrev main_v127 : Ref sig .tc := ⟨.hbm, 172, rfl⟩
abbrev main_cst_12 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_v145 : Ref sig .tc := ⟨.hbm, 191, rfl⟩
abbrev main_v146 : Ref sig .tc := ⟨.hbm, 192, rfl⟩
abbrev main_v147 : Ref sig .tc := ⟨.hbm, 193, rfl⟩
abbrev main_v148 : Ref sig .tc := ⟨.hbm, 194, rfl⟩
abbrev main_v149 : Ref sig .tc := ⟨.hbm, 195, rfl⟩

abbrev nD : Nat := 1
abbrev τ : Topo := Topo.v7x

variable {F : FTy → Type} [FloatOps F]
-- ==== Proof.ConvRun.Runs.lean ====
/- What the runs of the kernel body share: the branch conditions over the grid points, where the output windows are idle, and the staging memrefs. -/
module

public import proofs.«01_k».proof.Proof.Gen.ConvIdeal.Frame
public import proofs.«01_k».proof.Proof.Gen.ConvIdeal.Launch
public import proofs.«01_k».proof.Proof.Gen.ConvIdeal.Skeleton
public import proofs.«01_k».proof.Proof.Gen.ConvIdeal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

-- the long axes' rectangles are looked at coordinate by coordinate
set_option maxRecDepth 16384

noncomputable section

namespace Cert.ConvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

abbrev cond0_0 (i : grid0.Coords) : Prop := k0_cond1 i = 1#1
theorem hcond0_0 : ∀ t : Fin cfg0.N, cond0_0 (grid0.coords t) ↔ t.val < 32 :=
  (by decide +kernel : ∀ t : Fin grid0.N, cond0_0 (grid0.coords t) ↔ t.val < 32)

abbrev cond0_1 (i : grid0.Coords) : Prop := (Scalar.cmpi .ne (Scalar.extui (Scalar.cmpi .eq (Scalar.select (Scalar.andi (Scalar.xori (Scalar.cmpi .slt (Scalar.remsi (BitVec.ofNat 32 (i 0).val) (Scalar.select (Scalar.cmpi .eq 4#32 0#32) 1#32 4#32)) 0#32) (Scalar.cmpi .slt (Scalar.select (Scalar.cmpi .eq 4#32 0#32) 1#32 4#32) 0#32)) (Scalar.cmpi .ne (Scalar.remsi (BitVec.ofNat 32 (i 0).val) (Scalar.select (Scalar.cmpi .eq 4#32 0#32) 1#32 4#32)) 0#32)) (Scalar.addi (Scalar.remsi (BitVec.ofNat 32 (i 0).val) (Scalar.select (Scalar.cmpi .eq 4#32 0#32) 1#32 4#32)) (Scalar.select (Scalar.cmpi .eq 4#32 0#32) 1#32 4#32)) (Scalar.remsi (BitVec.ofNat 32 (i 0).val) (Scalar.select (Scalar.cmpi .eq 4#32 0#32) 1#32 4#32))) 0#32)) 0#32) = 1#1
theorem hcond0_1 : ∀ t : Fin cfg0.N, cond0_1 (grid0.coords t) ↔ t.val % 4 = 0 :=
  (by decide +kernel : ∀ t : Fin grid0.N, cond0_1 (grid0.coords t) ↔ t.val % 4 = 0)

abbrev cond0_2 (i : grid0.Coords) : Prop := k0_cond3 i = 1#1
theorem hcond0_2 : ∀ t : Fin cfg0.N, cond0_2 (grid0.coords t) ↔ t.val % 33 = 32 :=
  (fun t => by
    have ht : t.val < 33 := Nat.lt_of_lt_of_eq t.isLt N_0
    have e0 : (grid0.coords t 0).val = t.val / 1 % 33 := Pipeline.Grid.coords_val t 0 (by decide) rfl
    simp only [cond0_2, k0_cond3, e0]
    word_cmp
   : ∀ t : Fin grid0.N, cond0_2 (grid0.coords t) ↔ t.val % 33 = 32)

/-! ## Where the windows are idle (the printed configuration's table `Cfg.idle`) -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem liveAt0_7 : ∀ t : Fin cfg0.N, cfg0.idle 7 (grid0.coords t) = false := fun _ => rfl
theorem liveAt0_8 : ∀ t : Fin cfg0.N, cfg0.idle 8 (grid0.coords t) = false := fun _ => rfl
theorem liveAt0_9 : ∀ t : Fin cfg0.N, cfg0.idle 9 (grid0.coords t) = false := fun _ => rfl
theorem liveAt0_10 : ∀ t : Fin cfg0.N, cfg0.idle 10 (grid0.coords t) = false := fun _ => rfl
theorem liveAt0_15 : ∀ t : Fin cfg0.N, cfg0.idle 15 (grid0.coords t) = false := fun _ => rfl
theorem liveAt0_16 : ∀ t : Fin cfg0.N, cfg0.idle 16 (grid0.coords t) = false := fun _ => rfl
def freshTab0_11 : ℕ → Bool
  | 0 => true
  | n + 1 => (0x17fffffff : ℕ).testBit n
theorem freshTab0_11_step : ∀ t : Fin cfg0.N,
    freshTab0_11 (t.val + 1) = ((cfg0.win 11).flush t || (cfg0.idle 11 (cfg0.grid.coords t) && freshTab0_11 t.val)) := by decide +kernel
theorem fresh0_11_eq (t : Fin cfg0.N) : cfg0.fresh 11 t.val = freshTab0_11 t.val :=
  Pipeline.Cfg.fresh_tab cfg0 11 freshTab0_11 rfl freshTab0_11_step t.val (Nat.le_of_lt t.isLt)
theorem liveAt0_11_A : ∀ t : Fin cfg0.N, cond0_0 (grid0.coords t) → cond0_1 (grid0.coords t) → ¬cond0_2 (grid0.coords t) → cfg0.idle 11 (grid0.coords t) = false := by decide +kernel
theorem liveAt0_11_B : ∀ t : Fin cfg0.N, cond0_0 (grid0.coords t) → ¬cond0_1 (grid0.coords t) → ¬cond0_2 (grid0.coords t) → cfg0.idle 11 (grid0.coords t) = false := by decide +kernel
theorem idleAt0_11_C : ∀ t : Fin cfg0.N, ¬cond0_0 (grid0.coords t) → cond0_2 (grid0.coords t) → cfg0.idle 11 (grid0.coords t) = true := by decide +kernel
theorem flushAt0_11_C : ∀ t : Fin cfg0.N, ¬cond0_0 (grid0.coords t) → cond0_2 (grid0.coords t) → (cfg0.win 11).flush t = true := by decide +kernel
theorem notFresh0_11_C : ∀ t : Fin cfg0.N, ¬cond0_0 (grid0.coords t) → cond0_2 (grid0.coords t) → cfg0.fresh 11 t.val = false := by
  intro t; rw [fresh0_11_eq t]; revert t; decide +kernel
def freshTab0_12 : ℕ → Bool
  | 0 => true
  | n + 1 => (0x108888888 : ℕ).testBit n
theorem freshTab0_12_step : ∀ t : Fin cfg0.N,
    freshTab0_12 (t.val + 1) = ((cfg0.win 12).flush t || (cfg0.idle 12 (cfg0.grid.coords t) && freshTab0_12 t.val)) := by decide +kernel
theorem fresh0_12_eq (t : Fin cfg0.N) : cfg0.fresh 12 t.val = freshTab0_12 t.val :=
  Pipeline.Cfg.fresh_tab cfg0 12 freshTab0_12 rfl freshTab0_12_step t.val (Nat.le_of_lt t.isLt)
theorem liveAt0_12_A : ∀ t : Fin cfg0.N, cond0_0 (grid0.coords t) → cond0_1 (grid0.coords t) → ¬cond0_2 (grid0.coords t) → cfg0.idle 12 (grid0.coords t) = false := by decide +kernel
theorem liveAt0_12_B : ∀ t : Fin cfg0.N, cond0_0 (grid0.coords t) → ¬cond0_1 (grid0.coords t) → ¬cond0_2 (grid0.coords t) → cfg0.idle 12 (grid0.coords t) = false := by decide +kernel
theorem idleAt0_12_C : ∀ t : Fin cfg0.N, ¬cond0_0 (grid0.coords t) → cond0_2 (grid0.coords t) → cfg0.idle 12 (grid0.coords t) = true := by decide +kernel
theorem flushAt0_12_C : ∀ t : Fin cfg0.N, ¬cond0_0 (grid0.coords t) → cond0_2 (grid0.coords t) → (cfg0.win 12).flush t = true := by decide +kernel
theorem notFresh0_12_C : ∀ t : Fin cfg0.N, ¬cond0_0 (grid0.coords t) → cond0_2 (grid0.coords t) → cfg0.fresh 12 t.val = false := by
  intro t; rw [fresh0_12_eq t]; revert t; decide +kernel
theorem idleAt0_13_A : ∀ t : Fin cfg0.N, cond0_0 (grid0.coords t) → cond0_1 (grid0.coords t) → ¬cond0_2 (grid0.coords t) → cfg0.idle 13 (grid0.coords t) = true := by decide +kernel
theorem noFlush0_13_A : ∀ t : Fin cfg0.N, cond0_0 (grid0.coords t) → cond0_1 (grid0.coords t) → ¬cond0_2 (grid0.coords t) → (cfg0.win 13).flush t = false := by decide +kernel
theorem idleAt0_13_B : ∀ t : Fin cfg0.N, cond0_0 (grid0.coords t) → ¬cond0_1 (grid0.coords t) → ¬cond0_2 (grid0.coords t) → cfg0.idle 13 (grid0.coords t) = true := by decide +kernel
theorem noFlush0_13_B : ∀ t : Fin cfg0.N, cond0_0 (grid0.coords t) → ¬cond0_1 (grid0.coords t) → ¬cond0_2 (grid0.coords t) → (cfg0.win 13).flush t = false := by decide +kernel
theorem liveAt0_13_C : ∀ t : Fin cfg0.N, ¬cond0_0 (grid0.coords t) → cond0_2 (grid0.coords t) → cfg0.idle 13 (grid0.coords t) = false := by decide +kernel
theorem idleAt0_14_A : ∀ t : Fin cfg0.N, cond0_0 (grid0.coords t) → cond0_1 (grid0.coords t) → ¬cond0_2 (grid0.coords t) → cfg0.idle 14 (grid0.coords t) = true := by decide +kernel
theorem noFlush0_14_A : ∀ t : Fin cfg0.N, cond0_0 (grid0.coords t) → cond0_1 (grid0.coords t) → ¬cond0_2 (grid0.coords t) → (cfg0.win 14).flush t = false := by decide +kernel
theorem idleAt0_14_B : ∀ t : Fin cfg0.N, cond0_0 (grid0.coords t) → ¬cond0_1 (grid0.coords t) → ¬cond0_2 (grid0.coords t) → cfg0.idle 14 (grid0.coords t) = true := by decide +kernel
theorem noFlush0_14_B : ∀ t : Fin cfg0.N, cond0_0 (grid0.coords t) → ¬cond0_1 (grid0.coords t) → ¬cond0_2 (grid0.coords t) → (cfg0.win 14).flush t = false := by decide +kernel
theorem liveAt0_14_C : ∀ t : Fin cfg0.N, ¬cond0_0 (grid0.coords t) → cond0_2 (grid0.coords t) → cfg0.idle 14 (grid0.coords t) = false := by decide +kernel

/-! ## The kernel body on any staging memrefs: a subtype the run finds -/

abbrev VO0_11 : View sig .tc .vmem S1x512x1024 .f32 := (Memref.whole cc0_stg11_0 : Memref sig .tc .vmem S1x512x1024 .f32).view
abbrev VO0_12 : View sig .tc .vmem S1x2x1024 .f32 := (Memref.whole cc0_stg12_0 : Memref sig .tc .vmem S1x2x1024 .f32).view
abbrev VO0_13 : View sig .tc .vmem S1x512x1024 .f32 := (Memref.whole cc0_stg13_0 : Memref sig .tc .vmem S1x512x1024 .f32).view
abbrev VO0_14 : View sig .tc .vmem S2x128x1024 .f32 := (Memref.whole cc0_stg14_0 : Memref sig .tc .vmem S2x128x1024 .f32).view
abbrev VO0_15 : View sig .tc .vmem S32x4096 .bf16 := (Memref.whole cc0_stg15_0 : Memref sig .tc .vmem S32x4096 .bf16).view
abbrev VO0_16 : View sig .tc .vmem S128x1024 .bf16 := (Memref.whole cc0_stg16_0 : Memref sig .tc .vmem S128x1024 .bf16).view
abbrev ms0_0 (t : Fin cfg0.N) : Memref sig .tc .vmem S1x512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x6x1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x6x128x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x3072 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S3x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x1024 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S2x128x1024 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x32x4096 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x128x1024 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x512x1024 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x2x1024 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x512x1024 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S2x128x1024 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S32x4096 .bf16 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S128x1024 .bf16 := win0_16.stage (cfg0.slots t 16)
abbrev hs0_16 (t : Fin cfg0.N) : (ms0_16 t).IsWhole := hstage0_16 ((cfg0.slots t 16).cast nbuf0_16)
abbrev scM0_0 : Memref sig .tc .vmem S2x1024 .f32 := Memref.whole cc0_scratch0
abbrev VS0_0 : View sig .tc .vmem S2x1024 .f32 := scM0_0.view

theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.ConvIdeal.Gen

end
-- ==== Proof.ConvRun.RunA.lean ====
/- The run of the kernel body at the points of case A. -/
module

public import proofs.«01_k».proof.Proof.ConvRun.Runs

@[expose] public section

-- the long axes' rectangles are looked at coordinate by coordinate
set_option maxRecDepth 16384

noncomputable section

namespace Cert.ConvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_A (c : Dev nD) (i : grid0.Coords) (arg1 : Memref sig .tc .vmem S1x512x1024 .f32) (harg1 : arg1.IsWhole) (arg2 : Memref sig .tc .vmem S1x6x1x1024 .f32) (harg2 : arg2.IsWhole) (arg3 : Memref sig .tc .vmem S1x512x1024 .f32) (harg3 : arg3.IsWhole) (arg4 : Memref sig .tc .vmem S1x6x128x1024 .f32) (harg4 : arg4.IsWhole) (arg5 : Memref sig .tc .vmem S1x1024 .f32) (harg5 : arg5.IsWhole) (arg6 : Memref sig .tc .vmem S1024x3072 .bf16) (harg6 : arg6.IsWhole) (arg7 : Memref sig .tc .vmem S3x1024 .f32) (harg7 : arg7.IsWhole) (arg8 : Memref sig .tc .vmem S1024x1024 .bf16) (harg8 : arg8.IsWhole) (arg9 : Memref sig .tc .vmem S2x128x1024 .f32) (harg9 : arg9.IsWhole) (arg10 : Memref sig .tc .vmem S1x32x4096 .f32) (harg10 : arg10.IsWhole) (arg11 : Memref sig .tc .vmem S1x128x1024 .f32) (harg11 : arg11.IsWhole) (arg12 : Memref sig .tc .vmem S1x512x1024 .f32) (harg12 : arg12.IsWhole) (arg13 : Memref sig .tc .vmem S1x2x1024 .f32) (harg13 : arg13.IsWhole) (arg14 : Memref sig .tc .vmem S1x512x1024 .f32) (harg14 : arg14.IsWhole) (arg15 : Memref sig .tc .vmem S2x128x1024 .f32) (harg15 : arg15.IsWhole) (arg16 : Memref sig .tc .vmem S32x4096 .bf16) (harg16 : arg16.IsWhole) (arg17 : Memref sig .tc .vmem S128x1024 .bf16) (harg17 : arg17.IsWhole) (arg18 : Memref sig .tc .vmem S2x1024 .f32) (harg18 : arg18.IsWhole) (hc0 : cond0_0 i) (hc1 : cond0_1 i) (hc2 : ¬cond0_2 i)
    (x0 : Vec F S1x512x1024 .f32) (x1 : Vec F S1x6x1x1024 .f32) (x2 : Vec F S1x512x1024 .f32) (x3 : Vec F S1x6x128x1024 .f32) (x4 : Vec F S1x1024 .f32) (x5 : Vec F S1024x3072 .bf16) (x6 : Vec F S3x1024 .f32) (x7 : Vec F S1024x1024 .bf16) (x8 : Vec F S2x128x1024 .f32) (x9 : Vec F S1x32x4096 .f32) (x10 : Vec F S1x128x1024 .f32) :
    Σ' (L11 : List (View.Piece (Elt F) S1x512x1024 .f32)), Σ' (L12 : List (View.Piece (Elt F) S1x2x1024 .f32)), Σ' (L13 : List (View.Piece (Elt F) S1x512x1024 .f32)), Σ' (L14 : List (View.Piece (Elt F) S2x128x1024 .f32)), Σ' (L15 : List (View.Piece (Elt F) S32x4096 .bf16)), Σ' (L16 : List (View.Piece (Elt F) S128x1024 .bf16)), { LS0 : List (View.Piece (Elt F) S2x1024 .f32) //
      ∀ (xi13 : Vec F S1x512x1024 .f32) (xi14 : Vec F S2x128x1024 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ owns (c : Thread nD τ) arg14 fullShare xi13 ∗ owns (c : Thread nD τ) arg15 fullShare xi14 ∗ (∃ d, owns (c : Thread nD τ) arg16 fullShare d) ∗ (∃ d, owns (c : Thread nD τ) arg17 fullShare d) ∗ (∃ d, owns (c : Thread nD τ) arg18 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ owns (c : Thread nD τ) arg14 fullShare xi13 ∗ owns (c : Thread nD τ) arg15 fullShare xi14 ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f L16) ∗ (∃ f, arg18.view.loc (c : Thread nD τ) ↦[arg18.view.set]{fullShare} arg18.view.writes (Elt F) f LS0)) -∗ K ⟨⟩))
          ⊢ wp frame (wpE (defs₀ (F := F)) Variants.none c none) E (cc0_conv i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, [], [], ?_, ?_, ?_, fun xi13 xi14 E K => ?run⟩
  case run =>
    simp only [cc0_conv_eq_skeleton]; unfold cc0_conv_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%f13, %hf13, H13⟩, ⟨%f14, %hf14, H14⟩, ⟨%d15, %f15, -, H15⟩, ⟨%d16, %f16, -, H16⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg14.eq_unread hf13; obtain rfl := harg15.eq_unread hf14
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]; · iexists _; iexact H11
    isplitl [H12]; · iexists _; iexact H12
    isplitl [H13]
    · iexists _; isplitr; · ipureintro; exact harg14.read_unread _
      iexact H13
    isplitl [H14]
    · iexists _; isplitr; · ipureintro; exact harg15.read_unread _
      iexact H14
    isplitl [H15]; · iexists _; iexact H15
    isplitl [H16]; · iexists _; iexact H16
    iexists _; iexact HS0

end Cert.ConvIdeal.Gen

end
-- ==== Proof.ConvRun.RunB.lean ====
/- The run of the kernel body at the points of case B. -/
module

public import proofs.«01_k».proof.Proof.ConvRun.RunA

@[expose] public section

-- the long axes' rectangles are looked at coordinate by coordinate
set_option maxRecDepth 16384

noncomputable section

namespace Cert.ConvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_B (c : Dev nD) (i : grid0.Coords) (arg1 : Memref sig .tc .vmem S1x512x1024 .f32) (harg1 : arg1.IsWhole) (arg2 : Memref sig .tc .vmem S1x6x1x1024 .f32) (harg2 : arg2.IsWhole) (arg3 : Memref sig .tc .vmem S1x512x1024 .f32) (harg3 : arg3.IsWhole) (arg4 : Memref sig .tc .vmem S1x6x128x1024 .f32) (harg4 : arg4.IsWhole) (arg5 : Memref sig .tc .vmem S1x1024 .f32) (harg5 : arg5.IsWhole) (arg6 : Memref sig .tc .vmem S1024x3072 .bf16) (harg6 : arg6.IsWhole) (arg7 : Memref sig .tc .vmem S3x1024 .f32) (harg7 : arg7.IsWhole) (arg8 : Memref sig .tc .vmem S1024x1024 .bf16) (harg8 : arg8.IsWhole) (arg9 : Memref sig .tc .vmem S2x128x1024 .f32) (harg9 : arg9.IsWhole) (arg10 : Memref sig .tc .vmem S1x32x4096 .f32) (harg10 : arg10.IsWhole) (arg11 : Memref sig .tc .vmem S1x128x1024 .f32) (harg11 : arg11.IsWhole) (arg12 : Memref sig .tc .vmem S1x512x1024 .f32) (harg12 : arg12.IsWhole) (arg13 : Memref sig .tc .vmem S1x2x1024 .f32) (harg13 : arg13.IsWhole) (arg14 : Memref sig .tc .vmem S1x512x1024 .f32) (harg14 : arg14.IsWhole) (arg15 : Memref sig .tc .vmem S2x128x1024 .f32) (harg15 : arg15.IsWhole) (arg16 : Memref sig .tc .vmem S32x4096 .bf16) (harg16 : arg16.IsWhole) (arg17 : Memref sig .tc .vmem S128x1024 .bf16) (harg17 : arg17.IsWhole) (arg18 : Memref sig .tc .vmem S2x1024 .f32) (harg18 : arg18.IsWhole) (hc0 : cond0_0 i) (hc1 : ¬cond0_1 i) (hc2 : ¬cond0_2 i)
    (x0 : Vec F S1x512x1024 .f32) (x1 : Vec F S1x6x1x1024 .f32) (x2 : Vec F S1x512x1024 .f32) (x3 : Vec F S1x6x128x1024 .f32) (x4 : Vec F S1x1024 .f32) (x5 : Vec F S1024x3072 .bf16) (x6 : Vec F S3x1024 .f32) (x7 : Vec F S1024x1024 .bf16) (x8 : Vec F S2x128x1024 .f32) (x9 : Vec F S1x32x4096 .f32) (x10 : Vec F S1x128x1024 .f32) (xs0 : Vec F S2x1024 .f32) :
    Σ' (L11 : List (View.Piece (Elt F) S1x512x1024 .f32)), Σ' (L12 : List (View.Piece (Elt F) S1x2x1024 .f32)), Σ' (L13 : List (View.Piece (Elt F) S1x512x1024 .f32)), Σ' (L14 : List (View.Piece (Elt F) S2x128x1024 .f32)), Σ' (L15 : List (View.Piece (Elt F) S32x4096 .bf16)), Σ' (L16 : List (View.Piece (Elt F) S128x1024 .bf16)), { LS0 : List (View.Piece (Elt F) S2x1024 .f32) //
      ∀ (xi13 : Vec F S1x512x1024 .f32) (xi14 : Vec F S2x128x1024 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ owns (c : Thread nD τ) arg14 fullShare xi13 ∗ owns (c : Thread nD τ) arg15 fullShare xi14 ∗ (∃ d, owns (c : Thread nD τ) arg16 fullShare d) ∗ (∃ d, owns (c : Thread nD τ) arg17 fullShare d) ∗ owns (c : Thread nD τ) arg18 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ owns (c : Thread nD τ) arg14 fullShare xi13 ∗ owns (c : Thread nD τ) arg15 fullShare xi14 ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f L16) ∗ (∃ f, arg18.view.loc (c : Thread nD τ) ↦[arg18.view.set]{fullShare} arg18.view.writes (Elt F) f LS0)) -∗ K ⟨⟩))
          ⊢ wp frame (wpE (defs₀ (F := F)) Variants.none c none) E (cc0_conv i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, [], [], ?_, ?_, ?_, fun xi13 xi14 E K => ?run⟩
  case run =>
    simp only [cc0_conv_eq_skeleton]; unfold cc0_conv_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%f13, %hf13, H13⟩, ⟨%f14, %hf14, H14⟩, ⟨%d15, %f15, -, H15⟩, ⟨%d16, %f16, -, H16⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg14.eq_unread hf13; obtain rfl := harg15.eq_unread hf14; obtain rfl := harg18.eq_unread hfs0
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]; · iexists _; iexact H11
    isplitl [H12]; · iexists _; iexact H12
    isplitl [H13]
    · iexists _; isplitr; · ipureintro; exact harg14.read_unread _
      iexact H13
    isplitl [H14]
    · iexists _; isplitr; · ipureintro; exact harg15.read_unread _
      iexact H14
    isplitl [H15]; · iexists _; iexact H15
    isplitl [H16]; · iexists _; iexact H16
    iexists _; iexact HS0

end Cert.ConvIdeal.Gen

end
-- ==== Proof.ConvRun.RunC.lean ====
/- The run of the kernel body at the points of case C. -/
module

public import proofs.«01_k».proof.Proof.ConvRun.RunB

@[expose] public section

-- the long axes' rectangles are looked at coordinate by coordinate
set_option maxRecDepth 16384

noncomputable section

namespace Cert.ConvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_C (c : Dev nD) (i : grid0.Coords) (arg1 : Memref sig .tc .vmem S1x512x1024 .f32) (harg1 : arg1.IsWhole) (arg2 : Memref sig .tc .vmem S1x6x1x1024 .f32) (harg2 : arg2.IsWhole) (arg3 : Memref sig .tc .vmem S1x512x1024 .f32) (harg3 : arg3.IsWhole) (arg4 : Memref sig .tc .vmem S1x6x128x1024 .f32) (harg4 : arg4.IsWhole) (arg5 : Memref sig .tc .vmem S1x1024 .f32) (harg5 : arg5.IsWhole) (arg6 : Memref sig .tc .vmem S1024x3072 .bf16) (harg6 : arg6.IsWhole) (arg7 : Memref sig .tc .vmem S3x1024 .f32) (harg7 : arg7.IsWhole) (arg8 : Memref sig .tc .vmem S1024x1024 .bf16) (harg8 : arg8.IsWhole) (arg9 : Memref sig .tc .vmem S2x128x1024 .f32) (harg9 : arg9.IsWhole) (arg10 : Memref sig .tc .vmem S1x32x4096 .f32) (harg10 : arg10.IsWhole) (arg11 : Memref sig .tc .vmem S1x128x1024 .f32) (harg11 : arg11.IsWhole) (arg12 : Memref sig .tc .vmem S1x512x1024 .f32) (harg12 : arg12.IsWhole) (arg13 : Memref sig .tc .vmem S1x2x1024 .f32) (harg13 : arg13.IsWhole) (arg14 : Memref sig .tc .vmem S1x512x1024 .f32) (harg14 : arg14.IsWhole) (arg15 : Memref sig .tc .vmem S2x128x1024 .f32) (harg15 : arg15.IsWhole) (arg16 : Memref sig .tc .vmem S32x4096 .bf16) (harg16 : arg16.IsWhole) (arg17 : Memref sig .tc .vmem S128x1024 .bf16) (harg17 : arg17.IsWhole) (arg18 : Memref sig .tc .vmem S2x1024 .f32) (harg18 : arg18.IsWhole) (hc0 : ¬cond0_0 i) (hc2 : cond0_2 i)
    (x0 : Vec F S1x512x1024 .f32) (x1 : Vec F S1x6x1x1024 .f32) (x2 : Vec F S1x512x1024 .f32) (x3 : Vec F S1x6x128x1024 .f32) (x4 : Vec F S1x1024 .f32) (x5 : Vec F S1024x3072 .bf16) (x6 : Vec F S3x1024 .f32) (x7 : Vec F S1024x1024 .bf16) (x8 : Vec F S2x128x1024 .f32) (x9 : Vec F S1x32x4096 .f32) (x10 : Vec F S1x128x1024 .f32) (xo11 : Vec F S1x512x1024 .f32) (xo12 : Vec F S1x2x1024 .f32) (xs0 : Vec F S2x1024 .f32) :
    Σ' (L11 : List (View.Piece (Elt F) S1x512x1024 .f32)), Σ' (L12 : List (View.Piece (Elt F) S1x2x1024 .f32)), Σ' (L13 : List (View.Piece (Elt F) S1x512x1024 .f32)), Σ' (L14 : List (View.Piece (Elt F) S2x128x1024 .f32)), Σ' (L15 : List (View.Piece (Elt F) S32x4096 .bf16)), Σ' (L16 : List (View.Piece (Elt F) S128x1024 .bf16)), { LS0 : List (View.Piece (Elt F) S2x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare xo11 ∗ owns (c : Thread nD τ) arg13 fullShare xo12 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ owns (c : Thread nD τ) arg18 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare xo11 ∗ owns (c : Thread nD τ) arg13 fullShare xo12 ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f L16) ∗ owns (c : Thread nD τ) arg18 fullShare xs0) -∗ K ⟨⟩))
          ⊢ wp frame (wpE (defs₀ (F := F)) Variants.none c none) E (cc0_conv i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨[], [], ?_, ?_, ?_, ?_, [], fun E K => ?run⟩
  case run =>
    simp only [cc0_conv_eq_skeleton]; unfold cc0_conv_skel
    simp only [k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg18.eq_unread hfs0
    sl_exec (disch := first | sl_exact hc0 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]; · iexists _; iexact H13
    isplitl [H14]; · iexists _; iexact H14
    isplitl [H15]; · iexists _; iexact H15
    isplitl [H16]; · iexists _; iexact H16
    iexists _; isplitr; · ipureintro; exact harg18.read_unread _
    iexact HS0

end Cert.ConvIdeal.Gen

end
-- ==== Proof.ConvRun.Outs.lean ====
/- What the kernel body leaves in each output window, case by case. -/
module

public import proofs.«01_k».proof.Proof.ConvRun.RunC
public import Idealize.ShloMosaic.Lib.Claim

@[expose] public section

-- the long axes' rectangles are looked at coordinate by coordinate
set_option maxRecDepth 16384

noncomputable section

namespace Cert.ConvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem cover0_A_11 (c : Dev nD) (i : grid0.Coords) (arg1 : Memref sig .tc .vmem S1x512x1024 .f32) (harg1 : arg1.IsWhole) (arg2 : Memref sig .tc .vmem S1x6x1x1024 .f32) (harg2 : arg2.IsWhole) (arg3 : Memref sig .tc .vmem S1x512x1024 .f32) (harg3 : arg3.IsWhole) (arg4 : Memref sig .tc .vmem S1x6x128x1024 .f32) (harg4 : arg4.IsWhole) (arg5 : Memref sig .tc .vmem S1x1024 .f32) (harg5 : arg5.IsWhole) (arg6 : Memref sig .tc .vmem S1024x3072 .bf16) (harg6 : arg6.IsWhole) (arg7 : Memref sig .tc .vmem S3x1024 .f32) (harg7 : arg7.IsWhole) (arg8 : Memref sig .tc .vmem S1024x1024 .bf16) (harg8 : arg8.IsWhole) (arg9 : Memref sig .tc .vmem S2x128x1024 .f32) (harg9 : arg9.IsWhole) (arg10 : Memref sig .tc .vmem S1x32x4096 .f32) (harg10 : arg10.IsWhole) (arg11 : Memref sig .tc .vmem S1x128x1024 .f32) (harg11 : arg11.IsWhole) (arg12 : Memref sig .tc .vmem S1x512x1024 .f32) (harg12 : arg12.IsWhole) (arg13 : Memref sig .tc .vmem S1x2x1024 .f32) (harg13 : arg13.IsWhole) (arg14 : Memref sig .tc .vmem S1x512x1024 .f32) (harg14 : arg14.IsWhole) (arg15 : Memref sig .tc .vmem S2x128x1024 .f32) (harg15 : arg15.IsWhole) (arg16 : Memref sig .tc .vmem S32x4096 .bf16) (harg16 : arg16.IsWhole) (arg17 : Memref sig .tc .vmem S128x1024 .bf16) (harg17 : arg17.IsWhole) (arg18 : Memref sig .tc .vmem S2x1024 .f32) (harg18 : arg18.IsWhole) (hc0 : cond0_0 i) (hc1 : cond0_1 i) (hc2 : ¬cond0_2 i)
    (x0 : Vec F S1x512x1024 .f32) (x1 : Vec F S1x6x1x1024 .f32) (x2 : Vec F S1x512x1024 .f32) (x3 : Vec F S1x6x128x1024 .f32) (x4 : Vec F S1x1024 .f32) (x5 : Vec F S1024x3072 .bf16) (x6 : Vec F S3x1024 .f32) (x7 : Vec F S1024x1024 .bf16) (x8 : Vec F S2x128x1024 .f32) (x9 : Vec F S1x32x4096 .f32) (x10 : Vec F S1x128x1024 .f32) (y : S1x512x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10).1 S1x512x1024.size (by sl_kernel_rfl) y

def out0_A_11 (c : Dev nD) (i : grid0.Coords) (arg1 : Memref sig .tc .vmem S1x512x1024 .f32) (harg1 : arg1.IsWhole) (arg2 : Memref sig .tc .vmem S1x6x1x1024 .f32) (harg2 : arg2.IsWhole) (arg3 : Memref sig .tc .vmem S1x512x1024 .f32) (harg3 : arg3.IsWhole) (arg4 : Memref sig .tc .vmem S1x6x128x1024 .f32) (harg4 : arg4.IsWhole) (arg5 : Memref sig .tc .vmem S1x1024 .f32) (harg5 : arg5.IsWhole) (arg6 : Memref sig .tc .vmem S1024x3072 .bf16) (harg6 : arg6.IsWhole) (arg7 : Memref sig .tc .vmem S3x1024 .f32) (harg7 : arg7.IsWhole) (arg8 : Memref sig .tc .vmem S1024x1024 .bf16) (harg8 : arg8.IsWhole) (arg9 : Memref sig .tc .vmem S2x128x1024 .f32) (harg9 : arg9.IsWhole) (arg10 : Memref sig .tc .vmem S1x32x4096 .f32) (harg10 : arg10.IsWhole) (arg11 : Memref sig .tc .vmem S1x128x1024 .f32) (harg11 : arg11.IsWhole) (arg12 : Memref sig .tc .vmem S1x512x1024 .f32) (harg12 : arg12.IsWhole) (arg13 : Memref sig .tc .vmem S1x2x1024 .f32) (harg13 : arg13.IsWhole) (arg14 : Memref sig .tc .vmem S1x512x1024 .f32) (harg14 : arg14.IsWhole) (arg15 : Memref sig .tc .vmem S2x128x1024 .f32) (harg15 : arg15.IsWhole) (arg16 : Memref sig .tc .vmem S32x4096 .bf16) (harg16 : arg16.IsWhole) (arg17 : Memref sig .tc .vmem S128x1024 .bf16) (harg17 : arg17.IsWhole) (arg18 : Memref sig .tc .vmem S2x1024 .f32) (harg18 : arg18.IsWhole) (hc0 : cond0_0 i) (hc1 : cond0_1 i) (hc2 : ¬cond0_2 i)
    (x0 : Vec F S1x512x1024 .f32) (x1 : Vec F S1x6x1x1024 .f32) (x2 : Vec F S1x512x1024 .f32) (x3 : Vec F S1x6x128x1024 .f32) (x4 : Vec F S1x1024 .f32) (x5 : Vec F S1024x3072 .bf16) (x6 : Vec F S3x1024 .f32) (x7 : Vec F S1024x1024 .bf16) (x8 : Vec F S2x128x1024 .f32) (x9 : Vec F S1x32x4096 .f32) (x10 : Vec F S1x128x1024 .f32) : Vec F S1x512x1024 .f32 :=
  VO0_11.read (Elt F) (VO0_11.writes (Elt F) VO0_11.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10).1)

theorem cover0_A_12 (c : Dev nD) (i : grid0.Coords) (arg1 : Memref sig .tc .vmem S1x512x1024 .f32) (harg1 : arg1.IsWhole) (arg2 : Memref sig .tc .vmem S1x6x1x1024 .f32) (harg2 : arg2.IsWhole) (arg3 : Memref sig .tc .vmem S1x512x1024 .f32) (harg3 : arg3.IsWhole) (arg4 : Memref sig .tc .vmem S1x6x128x1024 .f32) (harg4 : arg4.IsWhole) (arg5 : Memref sig .tc .vmem S1x1024 .f32) (harg5 : arg5.IsWhole) (arg6 : Memref sig .tc .vmem S1024x3072 .bf16) (harg6 : arg6.IsWhole) (arg7 : Memref sig .tc .vmem S3x1024 .f32) (harg7 : arg7.IsWhole) (arg8 : Memref sig .tc .vmem S1024x1024 .bf16) (harg8 : arg8.IsWhole) (arg9 : Memref sig .tc .vmem S2x128x1024 .f32) (harg9 : arg9.IsWhole) (arg10 : Memref sig .tc .vmem S1x32x4096 .f32) (harg10 : arg10.IsWhole) (arg11 : Memref sig .tc .vmem S1x128x1024 .f32) (harg11 : arg11.IsWhole) (arg12 : Memref sig .tc .vmem S1x512x1024 .f32) (harg12 : arg12.IsWhole) (arg13 : Memref sig .tc .vmem S1x2x1024 .f32) (harg13 : arg13.IsWhole) (arg14 : Memref sig .tc .vmem S1x512x1024 .f32) (harg14 : arg14.IsWhole) (arg15 : Memref sig .tc .vmem S2x128x1024 .f32) (harg15 : arg15.IsWhole) (arg16 : Memref sig .tc .vmem S32x4096 .bf16) (harg16 : arg16.IsWhole) (arg17 : Memref sig .tc .vmem S128x1024 .bf16) (harg17 : arg17.IsWhole) (arg18 : Memref sig .tc .vmem S2x1024 .f32) (harg18 : arg18.IsWhole) (hc0 : cond0_0 i) (hc1 : cond0_1 i) (hc2 : ¬cond0_2 i)
    (x0 : Vec F S1x512x1024 .f32) (x1 : Vec F S1x6x1x1024 .f32) (x2 : Vec F S1x512x1024 .f32) (x3 : Vec F S1x6x128x1024 .f32) (x4 : Vec F S1x1024 .f32) (x5 : Vec F S1024x3072 .bf16) (x6 : Vec F S3x1024 .f32) (x7 : Vec F S1024x1024 .bf16) (x8 : Vec F S2x128x1024 .f32) (x9 : Vec F S1x32x4096 .f32) (x10 : Vec F S1x128x1024 .f32) (y : S1x2x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10).2.1 S1x2x1024.size (by sl_kernel_rfl) y

def out0_A_12 (c : Dev nD) (i : grid0.Coords) (arg1 : Memref sig .tc .vmem S1x512x1024 .f32) (harg1 : arg1.IsWhole) (arg2 : Memref sig .tc .vmem S1x6x1x1024 .f32) (harg2 : arg2.IsWhole) (arg3 : Memref sig .tc .vmem S1x512x1024 .f32) (harg3 : arg3.IsWhole) (arg4 : Memref sig .tc .vmem S1x6x128x1024 .f32) (harg4 : arg4.IsWhole) (arg5 : Memref sig .tc .vmem S1x1024 .f32) (harg5 : arg5.IsWhole) (arg6 : Memref sig .tc .vmem S1024x3072 .bf16) (harg6 : arg6.IsWhole) (arg7 : Memref sig .tc .vmem S3x1024 .f32) (harg7 : arg7.IsWhole) (arg8 : Memref sig .tc .vmem S1024x1024 .bf16) (harg8 : arg8.IsWhole) (arg9 : Memref sig .tc .vmem S2x128x1024 .f32) (harg9 : arg9.IsWhole) (arg10 : Memref sig .tc .vmem S1x32x4096 .f32) (harg10 : arg10.IsWhole) (arg11 : Memref sig .tc .vmem S1x128x1024 .f32) (harg11 : arg11.IsWhole) (arg12 : Memref sig .tc .vmem S1x512x1024 .f32) (harg12 : arg12.IsWhole) (arg13 : Memref sig .tc .vmem S1x2x1024 .f32) (harg13 : arg13.IsWhole) (arg14 : Memref sig .tc .vmem S1x512x1024 .f32) (harg14 : arg14.IsWhole) (arg15 : Memref sig .tc .vmem S2x128x1024 .f32) (harg15 : arg15.IsWhole) (arg16 : Memref sig .tc .vmem S32x4096 .bf16) (harg16 : arg16.IsWhole) (arg17 : Memref sig .tc .vmem S128x1024 .bf16) (harg17 : arg17.IsWhole) (arg18 : Memref sig .tc .vmem S2x1024 .f32) (harg18 : arg18.IsWhole) (hc0 : cond0_0 i) (hc1 : cond0_1 i) (hc2 : ¬cond0_2 i)
    (x0 : Vec F S1x512x1024 .f32) (x1 : Vec F S1x6x1x1024 .f32) (x2 : Vec F S1x512x1024 .f32) (x3 : Vec F S1x6x128x1024 .f32) (x4 : Vec F S1x1024 .f32) (x5 : Vec F S1024x3072 .bf16) (x6 : Vec F S3x1024 .f32) (x7 : Vec F S1024x1024 .bf16) (x8 : Vec F S2x128x1024 .f32) (x9 : Vec F S1x32x4096 .f32) (x10 : Vec F S1x128x1024 .f32) : Vec F S1x2x1024 .f32 :=
  VO0_12.read (Elt F) (VO0_12.writes (Elt F) VO0_12.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10).2.1)

def out0_A_13 (c : Dev nD) (i : grid0.Coords) (arg1 : Memref sig .tc .vmem S1x512x1024 .f32) (harg1 : arg1.IsWhole) (arg2 : Memref sig .tc .vmem S1x6x1x1024 .f32) (harg2 : arg2.IsWhole) (arg3 : Memref sig .tc .vmem S1x512x1024 .f32) (harg3 : arg3.IsWhole) (arg4 : Memref sig .tc .vmem S1x6x128x1024 .f32) (harg4 : arg4.IsWhole) (arg5 : Memref sig .tc .vmem S1x1024 .f32) (harg5 : arg5.IsWhole) (arg6 : Memref sig .tc .vmem S1024x3072 .bf16) (harg6 : arg6.IsWhole) (arg7 : Memref sig .tc .vmem S3x1024 .f32) (harg7 : arg7.IsWhole) (arg8 : Memref sig .tc .vmem S1024x1024 .bf16) (harg8 : arg8.IsWhole) (arg9 : Memref sig .tc .vmem S2x128x1024 .f32) (harg9 : arg9.IsWhole) (arg10 : Memref sig .tc .vmem S1x32x4096 .f32) (harg10 : arg10.IsWhole) (arg11 : Memref sig .tc .vmem S1x128x1024 .f32) (harg11 : arg11.IsWhole) (arg12 : Memref sig .tc .vmem S1x512x1024 .f32) (harg12 : arg12.IsWhole) (arg13 : Memref sig .tc .vmem S1x2x1024 .f32) (harg13 : arg13.IsWhole) (arg14 : Memref sig .tc .vmem S1x512x1024 .f32) (harg14 : arg14.IsWhole) (arg15 : Memref sig .tc .vmem S2x128x1024 .f32) (harg15 : arg15.IsWhole) (arg16 : Memref sig .tc .vmem S32x4096 .bf16) (harg16 : arg16.IsWhole) (arg17 : Memref sig .tc .vmem S128x1024 .bf16) (harg17 : arg17.IsWhole) (arg18 : Memref sig .tc .vmem S2x1024 .f32) (harg18 : arg18.IsWhole) (hc0 : cond0_0 i) (hc1 : cond0_1 i) (hc2 : ¬cond0_2 i)
    (x0 : Vec F S1x512x1024 .f32) (x1 : Vec F S1x6x1x1024 .f32) (x2 : Vec F S1x512x1024 .f32) (x3 : Vec F S1x6x128x1024 .f32) (x4 : Vec F S1x1024 .f32) (x5 : Vec F S1024x3072 .bf16) (x6 : Vec F S3x1024 .f32) (x7 : Vec F S1024x1024 .bf16) (x8 : Vec F S2x128x1024 .f32) (x9 : Vec F S1x32x4096 .f32) (x10 : Vec F S1x128x1024 .f32) : Vec F S1x512x1024 .f32 :=
  VO0_13.read (Elt F) (VO0_13.writes (Elt F) VO0_13.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10).2.2.1)

def out0_A_14 (c : Dev nD) (i : grid0.Coords) (arg1 : Memref sig .tc .vmem S1x512x1024 .f32) (harg1 : arg1.IsWhole) (arg2 : Memref sig .tc .vmem S1x6x1x1024 .f32) (harg2 : arg2.IsWhole) (arg3 : Memref sig .tc .vmem S1x512x1024 .f32) (harg3 : arg3.IsWhole) (arg4 : Memref sig .tc .vmem S1x6x128x1024 .f32) (harg4 : arg4.IsWhole) (arg5 : Memref sig .tc .vmem S1x1024 .f32) (harg5 : arg5.IsWhole) (arg6 : Memref sig .tc .vmem S1024x3072 .bf16) (harg6 : arg6.IsWhole) (arg7 : Memref sig .tc .vmem S3x1024 .f32) (harg7 : arg7.IsWhole) (arg8 : Memref sig .tc .vmem S1024x1024 .bf16) (harg8 : arg8.IsWhole) (arg9 : Memref sig .tc .vmem S2x128x1024 .f32) (harg9 : arg9.IsWhole) (arg10 : Memref sig .tc .vmem S1x32x4096 .f32) (harg10 : arg10.IsWhole) (arg11 : Memref sig .tc .vmem S1x128x1024 .f32) (harg11 : arg11.IsWhole) (arg12 : Memref sig .tc .vmem S1x512x1024 .f32) (harg12 : arg12.IsWhole) (arg13 : Memref sig .tc .vmem S1x2x1024 .f32) (harg13 : arg13.IsWhole) (arg14 : Memref sig .tc .vmem S1x512x1024 .f32) (harg14 : arg14.IsWhole) (arg15 : Memref sig .tc .vmem S2x128x1024 .f32) (harg15 : arg15.IsWhole) (arg16 : Memref sig .tc .vmem S32x4096 .bf16) (harg16 : arg16.IsWhole) (arg17 : Memref sig .tc .vmem S128x1024 .bf16) (harg17 : arg17.IsWhole) (arg18 : Memref sig .tc .vmem S2x1024 .f32) (harg18 : arg18.IsWhole) (hc0 : cond0_0 i) (hc1 : cond0_1 i) (hc2 : ¬cond0_2 i)
    (x0 : Vec F S1x512x1024 .f32) (x1 : Vec F S1x6x1x1024 .f32) (x2 : Vec F S1x512x1024 .f32) (x3 : Vec F S1x6x128x1024 .f32) (x4 : Vec F S1x1024 .f32) (x5 : Vec F S1024x3072 .bf16) (x6 : Vec F S3x1024 .f32) (x7 : Vec F S1024x1024 .bf16) (x8 : Vec F S2x128x1024 .f32) (x9 : Vec F S1x32x4096 .f32) (x10 : Vec F S1x128x1024 .f32) : Vec F S2x128x1024 .f32 :=
  VO0_14.read (Elt F) (VO0_14.writes (Elt F) VO0_14.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10).2.2.2.1)

theorem cover0_A_15 (c : Dev nD) (i : grid0.Coords) (arg1 : Memref sig .tc .vmem S1x512x1024 .f32) (harg1 : arg1.IsWhole) (arg2 : Memref sig .tc .vmem S1x6x1x1024 .f32) (harg2 : arg2.IsWhole) (arg3 : Memref sig .tc .vmem S1x512x1024 .f32) (harg3 : arg3.IsWhole) (arg4 : Memref sig .tc .vmem S1x6x128x1024 .f32) (harg4 : arg4.IsWhole) (arg5 : Memref sig .tc .vmem S1x1024 .f32) (harg5 : arg5.IsWhole) (arg6 : Memref sig .tc .vmem S1024x3072 .bf16) (harg6 : arg6.IsWhole) (arg7 : Memref sig .tc .vmem S3x1024 .f32) (harg7 : arg7.IsWhole) (arg8 : Memref sig .tc .vmem S1024x1024 .bf16) (harg8 : arg8.IsWhole) (arg9 : Memref sig .tc .vmem S2x128x1024 .f32) (harg9 : arg9.IsWhole) (arg10 : Memref sig .tc .vmem S1x32x4096 .f32) (harg10 : arg10.IsWhole) (arg11 : Memref sig .tc .vmem S1x128x1024 .f32) (harg11 : arg11.IsWhole) (arg12 : Memref sig .tc .vmem S1x512x1024 .f32) (harg12 : arg12.IsWhole) (arg13 : Memref sig .tc .vmem S1x2x1024 .f32) (harg13 : arg13.IsWhole) (arg14 : Memref sig .tc .vmem S1x512x1024 .f32) (harg14 : arg14.IsWhole) (arg15 : Memref sig .tc .vmem S2x128x1024 .f32) (harg15 : arg15.IsWhole) (arg16 : Memref sig .tc .vmem S32x4096 .bf16) (harg16 : arg16.IsWhole) (arg17 : Memref sig .tc .vmem S128x1024 .bf16) (harg17 : arg17.IsWhole) (arg18 : Memref sig .tc .vmem S2x1024 .f32) (harg18 : arg18.IsWhole) (hc0 : cond0_0 i) (hc1 : cond0_1 i) (hc2 : ¬cond0_2 i)
    (x0 : Vec F S1x512x1024 .f32) (x1 : Vec F S1x6x1x1024 .f32) (x2 : Vec F S1x512x1024 .f32) (x3 : Vec F S1x6x128x1024 .f32) (x4 : Vec F S1x1024 .f32) (x5 : Vec F S1024x3072 .bf16) (x6 : Vec F S3x1024 .f32) (x7 : Vec F S1024x1024 .bf16) (x8 : Vec F S2x128x1024 .f32) (x9 : Vec F S1x32x4096 .f32) (x10 : Vec F S1x128x1024 .f32) (y : S32x4096.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10).2.2.2.2.1 S32x4096.size (by sl_kernel_rfl) y

def out0_A_15 (c : Dev nD) (i : grid0.Coords) (arg1 : Memref sig .tc .vmem S1x512x1024 .f32) (harg1 : arg1.IsWhole) (arg2 : Memref sig .tc .vmem S1x6x1x1024 .f32) (harg2 : arg2.IsWhole) (arg3 : Memref sig .tc .vmem S1x512x1024 .f32) (harg3 : arg3.IsWhole) (arg4 : Memref sig .tc .vmem S1x6x128x1024 .f32) (harg4 : arg4.IsWhole) (arg5 : Memref sig .tc .vmem S1x1024 .f32) (harg5 : arg5.IsWhole) (arg6 : Memref sig .tc .vmem S1024x3072 .bf16) (harg6 : arg6.IsWhole) (arg7 : Memref sig .tc .vmem S3x1024 .f32) (harg7 : arg7.IsWhole) (arg8 : Memref sig .tc .vmem S1024x1024 .bf16) (harg8 : arg8.IsWhole) (arg9 : Memref sig .tc .vmem S2x128x1024 .f32) (harg9 : arg9.IsWhole) (arg10 : Memref sig .tc .vmem S1x32x4096 .f32) (harg10 : arg10.IsWhole) (arg11 : Memref sig .tc .vmem S1x128x1024 .f32) (harg11 : arg11.IsWhole) (arg12 : Memref sig .tc .vmem S1x512x1024 .f32) (harg12 : arg12.IsWhole) (arg13 : Memref sig .tc .vmem S1x2x1024 .f32) (harg13 : arg13.IsWhole) (arg14 : Memref sig .tc .vmem S1x512x1024 .f32) (harg14 : arg14.IsWhole) (arg15 : Memref sig .tc .vmem S2x128x1024 .f32) (harg15 : arg15.IsWhole) (arg16 : Memref sig .tc .vmem S32x4096 .bf16) (harg16 : arg16.IsWhole) (arg17 : Memref sig .tc .vmem S128x1024 .bf16) (harg17 : arg17.IsWhole) (arg18 : Memref sig .tc .vmem S2x1024 .f32) (harg18 : arg18.IsWhole) (hc0 : cond0_0 i) (hc1 : cond0_1 i) (hc2 : ¬cond0_2 i)
    (x0 : Vec F S1x512x1024 .f32) (x1 : Vec F S1x6x1x1024 .f32) (x2 : Vec F S1x512x1024 .f32) (x3 : Vec F S1x6x128x1024 .f32) (x4 : Vec F S1x1024 .f32) (x5 : Vec F S1024x3072 .bf16) (x6 : Vec F S3x1024 .f32) (x7 : Vec F S1024x1024 .bf16) (x8 : Vec F S2x128x1024 .f32) (x9 : Vec F S1x32x4096 .f32) (x10 : Vec F S1x128x1024 .f32) : Vec F S32x4096 .bf16 :=
  VO0_15.read (Elt F) (VO0_15.writes (Elt F) VO0_15.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10).2.2.2.2.1)

theorem cover0_A_16 (c : Dev nD) (i : grid0.Coords) (arg1 : Memref sig .tc .vmem S1x512x1024 .f32) (harg1 : arg1.IsWhole) (arg2 : Memref sig .tc .vmem S1x6x1x1024 .f32) (harg2 : arg2.IsWhole) (arg3 : Memref sig .tc .vmem S1x512x1024 .f32) (harg3 : arg3.IsWhole) (arg4 : Memref sig .tc .vmem S1x6x128x1024 .f32) (harg4 : arg4.IsWhole) (arg5 : Memref sig .tc .vmem S1x1024 .f32) (harg5 : arg5.IsWhole) (arg6 : Memref sig .tc .vmem S1024x3072 .bf16) (harg6 : arg6.IsWhole) (arg7 : Memref sig .tc .vmem S3x1024 .f32) (harg7 : arg7.IsWhole) (arg8 : Memref sig .tc .vmem S1024x1024 .bf16) (harg8 : arg8.IsWhole) (arg9 : Memref sig .tc .vmem S2x128x1024 .f32) (harg9 : arg9.IsWhole) (arg10 : Memref sig .tc .vmem S1x32x4096 .f32) (harg10 : arg10.IsWhole) (arg11 : Memref sig .tc .vmem S1x128x1024 .f32) (harg11 : arg11.IsWhole) (arg12 : Memref sig .tc .vmem S1x512x1024 .f32) (harg12 : arg12.IsWhole) (arg13 : Memref sig .tc .vmem S1x2x1024 .f32) (harg13 : arg13.IsWhole) (arg14 : Memref sig .tc .vmem S1x512x1024 .f32) (harg14 : arg14.IsWhole) (arg15 : Memref sig .tc .vmem S2x128x1024 .f32) (harg15 : arg15.IsWhole) (arg16 : Memref sig .tc .vmem S32x4096 .bf16) (harg16 : arg16.IsWhole) (arg17 : Memref sig .tc .vmem S128x1024 .bf16) (harg17 : arg17.IsWhole) (arg18 : Memref sig .tc .vmem S2x1024 .f32) (harg18 : arg18.IsWhole) (hc0 : cond0_0 i) (hc1 : cond0_1 i) (hc2 : ¬cond0_2 i)
    (x0 : Vec F S1x512x1024 .f32) (x1 : Vec F S1x6x1x1024 .f32) (x2 : Vec F S1x512x1024 .f32) (x3 : Vec F S1x6x128x1024 .f32) (x4 : Vec F S1x1024 .f32) (x5 : Vec F S1024x3072 .bf16) (x6 : Vec F S3x1024 .f32) (x7 : Vec F S1024x1024 .bf16) (x8 : Vec F S2x128x1024 .f32) (x9 : Vec F S1x32x4096 .f32) (x10 : Vec F S1x128x1024 .f32) (y : S128x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10).2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10).2.2.2.2.2.1 S128x1024.size (by sl_kernel_rfl) y

def out0_A_16 (c : Dev nD) (i : grid0.Coords) (arg1 : Memref sig .tc .vmem S1x512x1024 .f32) (harg1 : arg1.IsWhole) (arg2 : Memref sig .tc .vmem S1x6x1x1024 .f32) (harg2 : arg2.IsWhole) (arg3 : Memref sig .tc .vmem S1x512x1024 .f32) (harg3 : arg3.IsWhole) (arg4 : Memref sig .tc .vmem S1x6x128x1024 .f32) (harg4 : arg4.IsWhole) (arg5 : Memref sig .tc .vmem S1x1024 .f32) (harg5 : arg5.IsWhole) (arg6 : Memref sig .tc .vmem S1024x3072 .bf16) (harg6 : arg6.IsWhole) (arg7 : Memref sig .tc .vmem S3x1024 .f32) (harg7 : arg7.IsWhole) (arg8 : Memref sig .tc .vmem S1024x1024 .bf16) (harg8 : arg8.IsWhole) (arg9 : Memref sig .tc .vmem S2x128x1024 .f32) (harg9 : arg9.IsWhole) (arg10 : Memref sig .tc .vmem S1x32x4096 .f32) (harg10 : arg10.IsWhole) (arg11 : Memref sig .tc .vmem S1x128x1024 .f32) (harg11 : arg11.IsWhole) (arg12 : Memref sig .tc .vmem S1x512x1024 .f32) (harg12 : arg12.IsWhole) (arg13 : Memref sig .tc .vmem S1x2x1024 .f32) (harg13 : arg13.IsWhole) (arg14 : Memref sig .tc .vmem S1x512x1024 .f32) (harg14 : arg14.IsWhole) (arg15 : Memref sig .tc .vmem S2x128x1024 .f32) (harg15 : arg15.IsWhole) (arg16 : Memref sig .tc .vmem S32x4096 .bf16) (harg16 : arg16.IsWhole) (arg17 : Memref sig .tc .vmem S128x1024 .bf16) (harg17 : arg17.IsWhole) (arg18 : Memref sig .tc .vmem S2x1024 .f32) (harg18 : arg18.IsWhole) (hc0 : cond0_0 i) (hc1 : cond0_1 i) (hc2 : ¬cond0_2 i)
    (x0 : Vec F S1x512x1024 .f32) (x1 : Vec F S1x6x1x1024 .f32) (x2 : Vec F S1x512x1024 .f32) (x3 : Vec F S1x6x128x1024 .f32) (x4 : Vec F S1x1024 .f32) (x5 : Vec F S1024x3072 .bf16) (x6 : Vec F S3x1024 .f32) (x7 : Vec F S1024x1024 .bf16) (x8 : Vec F S2x128x1024 .f32) (x9 : Vec F S1x32x4096 .f32) (x10 : Vec F S1x128x1024 .f32) : Vec F S128x1024 .bf16 :=
  VO0_16.read (Elt F) (VO0_16.writes (Elt F) VO0_16.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10).2.2.2.2.2.1)

theorem scover0_A_0 (c : Dev nD) (i : grid0.Coords) (arg1 : Memref sig .tc .vmem S1x512x1024 .f32) (harg1 : arg1.IsWhole) (arg2 : Memref sig .tc .vmem S1x6x1x1024 .f32) (harg2 : arg2.IsWhole) (arg3 : Memref sig .tc .vmem S1x512x1024 .f32) (harg3 : arg3.IsWhole) (arg4 : Memref sig .tc .vmem S1x6x128x1024 .f32) (harg4 : arg4.IsWhole) (arg5 : Memref sig .tc .vmem S1x1024 .f32) (harg5 : arg5.IsWhole) (arg6 : Memref sig .tc .vmem S1024x3072 .bf16) (harg6 : arg6.IsWhole) (arg7 : Memref sig .tc .vmem S3x1024 .f32) (harg7 : arg7.IsWhole) (arg8 : Memref sig .tc .vmem S1024x1024 .bf16) (harg8 : arg8.IsWhole) (arg9 : Memref sig .tc .vmem S2x128x1024 .f32) (harg9 : arg9.IsWhole) (arg10 : Memref sig .tc .vmem S1x32x4096 .f32) (harg10 : arg10.IsWhole) (arg11 : Memref sig .tc .vmem S1x128x1024 .f32) (harg11 : arg11.IsWhole) (arg12 : Memref sig .tc .vmem S1x512x1024 .f32) (harg12 : arg12.IsWhole) (arg13 : Memref sig .tc .vmem S1x2x1024 .f32) (harg13 : arg13.IsWhole) (arg14 : Memref sig .tc .vmem S1x512x1024 .f32) (harg14 : arg14.IsWhole) (arg15 : Memref sig .tc .vmem S2x128x1024 .f32) (harg15 : arg15.IsWhole) (arg16 : Memref sig .tc .vmem S32x4096 .bf16) (harg16 : arg16.IsWhole) (arg17 : Memref sig .tc .vmem S128x1024 .bf16) (harg17 : arg17.IsWhole) (arg18 : Memref sig .tc .vmem S2x1024 .f32) (harg18 : arg18.IsWhole) (hc0 : cond0_0 i) (hc1 : cond0_1 i) (hc2 : ¬cond0_2 i)
    (x0 : Vec F S1x512x1024 .f32) (x1 : Vec F S1x6x1x1024 .f32) (x2 : Vec F S1x512x1024 .f32) (x3 : Vec F S1x6x128x1024 .f32) (x4 : Vec F S1x1024 .f32) (x5 : Vec F S1024x3072 .bf16) (x6 : Vec F S3x1024 .f32) (x7 : Vec F S1024x1024 .bf16) (x8 : Vec F S2x128x1024 .f32) (x9 : Vec F S1x32x4096 .f32) (x10 : Vec F S1x128x1024 .f32) (y : S2x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10).2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10).2.2.2.2.2.2.1 S2x1024.size (by sl_kernel_rfl) y

def sout0_A_0 (c : Dev nD) (i : grid0.Coords) (arg1 : Memref sig .tc .vmem S1x512x1024 .f32) (harg1 : arg1.IsWhole) (arg2 : Memref sig .tc .vmem S1x6x1x1024 .f32) (harg2 : arg2.IsWhole) (arg3 : Memref sig .tc .vmem S1x512x1024 .f32) (harg3 : arg3.IsWhole) (arg4 : Memref sig .tc .vmem S1x6x128x1024 .f32) (harg4 : arg4.IsWhole) (arg5 : Memref sig .tc .vmem S1x1024 .f32) (harg5 : arg5.IsWhole) (arg6 : Memref sig .tc .vmem S1024x3072 .bf16) (harg6 : arg6.IsWhole) (arg7 : Memref sig .tc .vmem S3x1024 .f32) (harg7 : arg7.IsWhole) (arg8 : Memref sig .tc .vmem S1024x1024 .bf16) (harg8 : arg8.IsWhole) (arg9 : Memref sig .tc .vmem S2x128x1024 .f32) (harg9 : arg9.IsWhole) (arg10 : Memref sig .tc .vmem S1x32x4096 .f32) (harg10 : arg10.IsWhole) (arg11 : Memref sig .tc .vmem S1x128x1024 .f32) (harg11 : arg11.IsWhole) (arg12 : Memref sig .tc .vmem S1x512x1024 .f32) (harg12 : arg12.IsWhole) (arg13 : Memref sig .tc .vmem S1x2x1024 .f32) (harg13 : arg13.IsWhole) (arg14 : Memref sig .tc .vmem S1x512x1024 .f32) (harg14 : arg14.IsWhole) (arg15 : Memref sig .tc .vmem S2x128x1024 .f32) (harg15 : arg15.IsWhole) (arg16 : Memref sig .tc .vmem S32x4096 .bf16) (harg16 : arg16.IsWhole) (arg17 : Memref sig .tc .vmem S128x1024 .bf16) (harg17 : arg17.IsWhole) (arg18 : Memref sig .tc .vmem S2x1024 .f32) (harg18 : arg18.IsWhole) (hc0 : cond0_0 i) (hc1 : cond0_1 i) (hc2 : ¬cond0_2 i)
    (x0 : Vec F S1x512x1024 .f32) (x1 : Vec F S1x6x1x1024 .f32) (x2 : Vec F S1x512x1024 .f32) (x3 : Vec F S1x6x128x1024 .f32) (x4 : Vec F S1x1024 .f32) (x5 : Vec F S1024x3072 .bf16) (x6 : Vec F S3x1024 .f32) (x7 : Vec F S1024x1024 .bf16) (x8 : Vec F S2x128x1024 .f32) (x9 : Vec F S1x32x4096 .f32) (x10 : Vec F S1x128x1024 .f32) : Vec F S2x1024 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10).2.2.2.2.2.2.1)

theorem cover0_B_11 (c : Dev nD) (i : grid0.Coords) (arg1 : Memref sig .tc .vmem S1x512x1024 .f32) (harg1 : arg1.IsWhole) (arg2 : Memref sig .tc .vmem S1x6x1x1024 .f32) (harg2 : arg2.IsWhole) (arg3 : Memref sig .tc .vmem S1x512x1024 .f32) (harg3 : arg3.IsWhole) (arg4 : Memref sig .tc .vmem S1x6x128x1024 .f32) (harg4 : arg4.IsWhole) (arg5 : Memref sig .tc .vmem S1x1024 .f32) (harg5 : arg5.IsWhole) (arg6 : Memref sig .tc .vmem S1024x3072 .bf16) (harg6 : arg6.IsWhole) (arg7 : Memref sig .tc .vmem S3x1024 .f32) (harg7 : arg7.IsWhole) (arg8 : Memref sig .tc .vmem S1024x1024 .bf16) (harg8 : arg8.IsWhole) (arg9 : Memref sig .tc .vmem S2x128x1024 .f32) (harg9 : arg9.IsWhole) (arg10 : Memref sig .tc .vmem S1x32x4096 .f32) (harg10 : arg10.IsWhole) (arg11 : Memref sig .tc .vmem S1x128x1024 .f32) (harg11 : arg11.IsWhole) (arg12 : Memref sig .tc .vmem S1x512x1024 .f32) (harg12 : arg12.IsWhole) (arg13 : Memref sig .tc .vmem S1x2x1024 .f32) (harg13 : arg13.IsWhole) (arg14 : Memref sig .tc .vmem S1x512x1024 .f32) (harg14 : arg14.IsWhole) (arg15 : Memref sig .tc .vmem S2x128x1024 .f32) (harg15 : arg15.IsWhole) (arg16 : Memref sig .tc .vmem S32x4096 .bf16) (harg16 : arg16.IsWhole) (arg17 : Memref sig .tc .vmem S128x1024 .bf16) (harg17 : arg17.IsWhole) (arg18 : Memref sig .tc .vmem S2x1024 .f32) (harg18 : arg18.IsWhole) (hc0 : cond0_0 i) (hc1 : ¬cond0_1 i) (hc2 : ¬cond0_2 i)
    (x0 : Vec F S1x512x1024 .f32) (x1 : Vec F S1x6x1x1024 .f32) (x2 : Vec F S1x512x1024 .f32) (x3 : Vec F S1x6x128x1024 .f32) (x4 : Vec F S1x1024 .f32) (x5 : Vec F S1024x3072 .bf16) (x6 : Vec F S3x1024 .f32) (x7 : Vec F S1024x1024 .bf16) (x8 : Vec F S2x128x1024 .f32) (x9 : Vec F S1x32x4096 .f32) (x10 : Vec F S1x128x1024 .f32) (xs0 : Vec F S2x1024 .f32) (y : S1x512x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 xs0).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 xs0).1 S1x512x1024.size (by sl_kernel_rfl) y

def out0_B_11 (c : Dev nD) (i : grid0.Coords) (arg1 : Memref sig .tc .vmem S1x512x1024 .f32) (harg1 : arg1.IsWhole) (arg2 : Memref sig .tc .vmem S1x6x1x1024 .f32) (harg2 : arg2.IsWhole) (arg3 : Memref sig .tc .vmem S1x512x1024 .f32) (harg3 : arg3.IsWhole) (arg4 : Memref sig .tc .vmem S1x6x128x1024 .f32) (harg4 : arg4.IsWhole) (arg5 : Memref sig .tc .vmem S1x1024 .f32) (harg5 : arg5.IsWhole) (arg6 : Memref sig .tc .vmem S1024x3072 .bf16) (harg6 : arg6.IsWhole) (arg7 : Memref sig .tc .vmem S3x1024 .f32) (harg7 : arg7.IsWhole) (arg8 : Memref sig .tc .vmem S1024x1024 .bf16) (harg8 : arg8.IsWhole) (arg9 : Memref sig .tc .vmem S2x128x1024 .f32) (harg9 : arg9.IsWhole) (arg10 : Memref sig .tc .vmem S1x32x4096 .f32) (harg10 : arg10.IsWhole) (arg11 : Memref sig .tc .vmem S1x128x1024 .f32) (harg11 : arg11.IsWhole) (arg12 : Memref sig .tc .vmem S1x512x1024 .f32) (harg12 : arg12.IsWhole) (arg13 : Memref sig .tc .vmem S1x2x1024 .f32) (harg13 : arg13.IsWhole) (arg14 : Memref sig .tc .vmem S1x512x1024 .f32) (harg14 : arg14.IsWhole) (arg15 : Memref sig .tc .vmem S2x128x1024 .f32) (harg15 : arg15.IsWhole) (arg16 : Memref sig .tc .vmem S32x4096 .bf16) (harg16 : arg16.IsWhole) (arg17 : Memref sig .tc .vmem S128x1024 .bf16) (harg17 : arg17.IsWhole) (arg18 : Memref sig .tc .vmem S2x1024 .f32) (harg18 : arg18.IsWhole) (hc0 : cond0_0 i) (hc1 : ¬cond0_1 i) (hc2 : ¬cond0_2 i)
    (x0 : Vec F S1x512x1024 .f32) (x1 : Vec F S1x6x1x1024 .f32) (x2 : Vec F S1x512x1024 .f32) (x3 : Vec F S1x6x128x1024 .f32) (x4 : Vec F S1x1024 .f32) (x5 : Vec F S1024x3072 .bf16) (x6 : Vec F S3x1024 .f32) (x7 : Vec F S1024x1024 .bf16) (x8 : Vec F S2x128x1024 .f32) (x9 : Vec F S1x32x4096 .f32) (x10 : Vec F S1x128x1024 .f32) (xs0 : Vec F S2x1024 .f32) : Vec F S1x512x1024 .f32 :=
  VO0_11.read (Elt F) (VO0_11.writes (Elt F) VO0_11.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 xs0).1)

theorem cover0_B_12 (c : Dev nD) (i : grid0.Coords) (arg1 : Memref sig .tc .vmem S1x512x1024 .f32) (harg1 : arg1.IsWhole) (arg2 : Memref sig .tc .vmem S1x6x1x1024 .f32) (harg2 : arg2.IsWhole) (arg3 : Memref sig .tc .vmem S1x512x1024 .f32) (harg3 : arg3.IsWhole) (arg4 : Memref sig .tc .vmem S1x6x128x1024 .f32) (harg4 : arg4.IsWhole) (arg5 : Memref sig .tc .vmem S1x1024 .f32) (harg5 : arg5.IsWhole) (arg6 : Memref sig .tc .vmem S1024x3072 .bf16) (harg6 : arg6.IsWhole) (arg7 : Memref sig .tc .vmem S3x1024 .f32) (harg7 : arg7.IsWhole) (arg8 : Memref sig .tc .vmem S1024x1024 .bf16) (harg8 : arg8.IsWhole) (arg9 : Memref sig .tc .vmem S2x128x1024 .f32) (harg9 : arg9.IsWhole) (arg10 : Memref sig .tc .vmem S1x32x4096 .f32) (harg10 : arg10.IsWhole) (arg11 : Memref sig .tc .vmem S1x128x1024 .f32) (harg11 : arg11.IsWhole) (arg12 : Memref sig .tc .vmem S1x512x1024 .f32) (harg12 : arg12.IsWhole) (arg13 : Memref sig .tc .vmem S1x2x1024 .f32) (harg13 : arg13.IsWhole) (arg14 : Memref sig .tc .vmem S1x512x1024 .f32) (harg14 : arg14.IsWhole) (arg15 : Memref sig .tc .vmem S2x128x1024 .f32) (harg15 : arg15.IsWhole) (arg16 : Memref sig .tc .vmem S32x4096 .bf16) (harg16 : arg16.IsWhole) (arg17 : Memref sig .tc .vmem S128x1024 .bf16) (harg17 : arg17.IsWhole) (arg18 : Memref sig .tc .vmem S2x1024 .f32) (harg18 : arg18.IsWhole) (hc0 : cond0_0 i) (hc1 : ¬cond0_1 i) (hc2 : ¬cond0_2 i)
    (x0 : Vec F S1x512x1024 .f32) (x1 : Vec F S1x6x1x1024 .f32) (x2 : Vec F S1x512x1024 .f32) (x3 : Vec F S1x6x128x1024 .f32) (x4 : Vec F S1x1024 .f32) (x5 : Vec F S1024x3072 .bf16) (x6 : Vec F S3x1024 .f32) (x7 : Vec F S1024x1024 .bf16) (x8 : Vec F S2x128x1024 .f32) (x9 : Vec F S1x32x4096 .f32) (x10 : Vec F S1x128x1024 .f32) (xs0 : Vec F S2x1024 .f32) (y : S1x2x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 xs0).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 xs0).2.1 S1x2x1024.size (by sl_kernel_rfl) y

def out0_B_12 (c : Dev nD) (i : grid0.Coords) (arg1 : Memref sig .tc .vmem S1x512x1024 .f32) (harg1 : arg1.IsWhole) (arg2 : Memref sig .tc .vmem S1x6x1x1024 .f32) (harg2 : arg2.IsWhole) (arg3 : Memref sig .tc .vmem S1x512x1024 .f32) (harg3 : arg3.IsWhole) (arg4 : Memref sig .tc .vmem S1x6x128x1024 .f32) (harg4 : arg4.IsWhole) (arg5 : Memref sig .tc .vmem S1x1024 .f32) (harg5 : arg5.IsWhole) (arg6 : Memref sig .tc .vmem S1024x3072 .bf16) (harg6 : arg6.IsWhole) (arg7 : Memref sig .tc .vmem S3x1024 .f32) (harg7 : arg7.IsWhole) (arg8 : Memref sig .tc .vmem S1024x1024 .bf16) (harg8 : arg8.IsWhole) (arg9 : Memref sig .tc .vmem S2x128x1024 .f32) (harg9 : arg9.IsWhole) (arg10 : Memref sig .tc .vmem S1x32x4096 .f32) (harg10 : arg10.IsWhole) (arg11 : Memref sig .tc .vmem S1x128x1024 .f32) (harg11 : arg11.IsWhole) (arg12 : Memref sig .tc .vmem S1x512x1024 .f32) (harg12 : arg12.IsWhole) (arg13 : Memref sig .tc .vmem S1x2x1024 .f32) (harg13 : arg13.IsWhole) (arg14 : Memref sig .tc .vmem S1x512x1024 .f32) (harg14 : arg14.IsWhole) (arg15 : Memref sig .tc .vmem S2x128x1024 .f32) (harg15 : arg15.IsWhole) (arg16 : Memref sig .tc .vmem S32x4096 .bf16) (harg16 : arg16.IsWhole) (arg17 : Memref sig .tc .vmem S128x1024 .bf16) (harg17 : arg17.IsWhole) (arg18 : Memref sig .tc .vmem S2x1024 .f32) (harg18 : arg18.IsWhole) (hc0 : cond0_0 i) (hc1 : ¬cond0_1 i) (hc2 : ¬cond0_2 i)
    (x0 : Vec F S1x512x1024 .f32) (x1 : Vec F S1x6x1x1024 .f32) (x2 : Vec F S1x512x1024 .f32) (x3 : Vec F S1x6x128x1024 .f32) (x4 : Vec F S1x1024 .f32) (x5 : Vec F S1024x3072 .bf16) (x6 : Vec F S3x1024 .f32) (x7 : Vec F S1024x1024 .bf16) (x8 : Vec F S2x128x1024 .f32) (x9 : Vec F S1x32x4096 .f32) (x10 : Vec F S1x128x1024 .f32) (xs0 : Vec F S2x1024 .f32) : Vec F S1x2x1024 .f32 :=
  VO0_12.read (Elt F) (VO0_12.writes (Elt F) VO0_12.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 xs0).2.1)

def out0_B_13 (c : Dev nD) (i : grid0.Coords) (arg1 : Memref sig .tc .vmem S1x512x1024 .f32) (harg1 : arg1.IsWhole) (arg2 : Memref sig .tc .vmem S1x6x1x1024 .f32) (harg2 : arg2.IsWhole) (arg3 : Memref sig .tc .vmem S1x512x1024 .f32) (harg3 : arg3.IsWhole) (arg4 : Memref sig .tc .vmem S1x6x128x1024 .f32) (harg4 : arg4.IsWhole) (arg5 : Memref sig .tc .vmem S1x1024 .f32) (harg5 : arg5.IsWhole) (arg6 : Memref sig .tc .vmem S1024x3072 .bf16) (harg6 : arg6.IsWhole) (arg7 : Memref sig .tc .vmem S3x1024 .f32) (harg7 : arg7.IsWhole) (arg8 : Memref sig .tc .vmem S1024x1024 .bf16) (harg8 : arg8.IsWhole) (arg9 : Memref sig .tc .vmem S2x128x1024 .f32) (harg9 : arg9.IsWhole) (arg10 : Memref sig .tc .vmem S1x32x4096 .f32) (harg10 : arg10.IsWhole) (arg11 : Memref sig .tc .vmem S1x128x1024 .f32) (harg11 : arg11.IsWhole) (arg12 : Memref sig .tc .vmem S1x512x1024 .f32) (harg12 : arg12.IsWhole) (arg13 : Memref sig .tc .vmem S1x2x1024 .f32) (harg13 : arg13.IsWhole) (arg14 : Memref sig .tc .vmem S1x512x1024 .f32) (harg14 : arg14.IsWhole) (arg15 : Memref sig .tc .vmem S2x128x1024 .f32) (harg15 : arg15.IsWhole) (arg16 : Memref sig .tc .vmem S32x4096 .bf16) (harg16 : arg16.IsWhole) (arg17 : Memref sig .tc .vmem S128x1024 .bf16) (harg17 : arg17.IsWhole) (arg18 : Memref sig .tc .vmem S2x1024 .f32) (harg18 : arg18.IsWhole) (hc0 : cond0_0 i) (hc1 : ¬cond0_1 i) (hc2 : ¬cond0_2 i)
    (x0 : Vec F S1x512x1024 .f32) (x1 : Vec F S1x6x1x1024 .f32) (x2 : Vec F S1x512x1024 .f32) (x3 : Vec F S1x6x128x1024 .f32) (x4 : Vec F S1x1024 .f32) (x5 : Vec F S1024x3072 .bf16) (x6 : Vec F S3x1024 .f32) (x7 : Vec F S1024x1024 .bf16) (x8 : Vec F S2x128x1024 .f32) (x9 : Vec F S1x32x4096 .f32) (x10 : Vec F S1x128x1024 .f32) (xs0 : Vec F S2x1024 .f32) : Vec F S1x512x1024 .f32 :=
  VO0_13.read (Elt F) (VO0_13.writes (Elt F) VO0_13.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 xs0).2.2.1)

def out0_B_14 (c : Dev nD) (i : grid0.Coords) (arg1 : Memref sig .tc .vmem S1x512x1024 .f32) (harg1 : arg1.IsWhole) (arg2 : Memref sig .tc .vmem S1x6x1x1024 .f32) (harg2 : arg2.IsWhole) (arg3 : Memref sig .tc .vmem S1x512x1024 .f32) (harg3 : arg3.IsWhole) (arg4 : Memref sig .tc .vmem S1x6x128x1024 .f32) (harg4 : arg4.IsWhole) (arg5 : Memref sig .tc .vmem S1x1024 .f32) (harg5 : arg5.IsWhole) (arg6 : Memref sig .tc .vmem S1024x3072 .bf16) (harg6 : arg6.IsWhole) (arg7 : Memref sig .tc .vmem S3x1024 .f32) (harg7 : arg7.IsWhole) (arg8 : Memref sig .tc .vmem S1024x1024 .bf16) (harg8 : arg8.IsWhole) (arg9 : Memref sig .tc .vmem S2x128x1024 .f32) (harg9 : arg9.IsWhole) (arg10 : Memref sig .tc .vmem S1x32x4096 .f32) (harg10 : arg10.IsWhole) (arg11 : Memref sig .tc .vmem S1x128x1024 .f32) (harg11 : arg11.IsWhole) (arg12 : Memref sig .tc .vmem S1x512x1024 .f32) (harg12 : arg12.IsWhole) (arg13 : Memref sig .tc .vmem S1x2x1024 .f32) (harg13 : arg13.IsWhole) (arg14 : Memref sig .tc .vmem S1x512x1024 .f32) (harg14 : arg14.IsWhole) (arg15 : Memref sig .tc .vmem S2x128x1024 .f32) (harg15 : arg15.IsWhole) (arg16 : Memref sig .tc .vmem S32x4096 .bf16) (harg16 : arg16.IsWhole) (arg17 : Memref sig .tc .vmem S128x1024 .bf16) (harg17 : arg17.IsWhole) (arg18 : Memref sig .tc .vmem S2x1024 .f32) (harg18 : arg18.IsWhole) (hc0 : cond0_0 i) (hc1 : ¬cond0_1 i) (hc2 : ¬cond0_2 i)
    (x0 : Vec F S1x512x1024 .f32) (x1 : Vec F S1x6x1x1024 .f32) (x2 : Vec F S1x512x1024 .f32) (x3 : Vec F S1x6x128x1024 .f32) (x4 : Vec F S1x1024 .f32) (x5 : Vec F S1024x3072 .bf16) (x6 : Vec F S3x1024 .f32) (x7 : Vec F S1024x1024 .bf16) (x8 : Vec F S2x128x1024 .f32) (x9 : Vec F S1x32x4096 .f32) (x10 : Vec F S1x128x1024 .f32) (xs0 : Vec F S2x1024 .f32) : Vec F S2x128x1024 .f32 :=
  VO0_14.read (Elt F) (VO0_14.writes (Elt F) VO0_14.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 xs0).2.2.2.1)

theorem cover0_B_15 (c : Dev nD) (i : grid0.Coords) (arg1 : Memref sig .tc .vmem S1x512x1024 .f32) (harg1 : arg1.IsWhole) (arg2 : Memref sig .tc .vmem S1x6x1x1024 .f32) (harg2 : arg2.IsWhole) (arg3 : Memref sig .tc .vmem S1x512x1024 .f32) (harg3 : arg3.IsWhole) (arg4 : Memref sig .tc .vmem S1x6x128x1024 .f32) (harg4 : arg4.IsWhole) (arg5 : Memref sig .tc .vmem S1x1024 .f32) (harg5 : arg5.IsWhole) (arg6 : Memref sig .tc .vmem S1024x3072 .bf16) (harg6 : arg6.IsWhole) (arg7 : Memref sig .tc .vmem S3x1024 .f32) (harg7 : arg7.IsWhole) (arg8 : Memref sig .tc .vmem S1024x1024 .bf16) (harg8 : arg8.IsWhole) (arg9 : Memref sig .tc .vmem S2x128x1024 .f32) (harg9 : arg9.IsWhole) (arg10 : Memref sig .tc .vmem S1x32x4096 .f32) (harg10 : arg10.IsWhole) (arg11 : Memref sig .tc .vmem S1x128x1024 .f32) (harg11 : arg11.IsWhole) (arg12 : Memref sig .tc .vmem S1x512x1024 .f32) (harg12 : arg12.IsWhole) (arg13 : Memref sig .tc .vmem S1x2x1024 .f32) (harg13 : arg13.IsWhole) (arg14 : Memref sig .tc .vmem S1x512x1024 .f32) (harg14 : arg14.IsWhole) (arg15 : Memref sig .tc .vmem S2x128x1024 .f32) (harg15 : arg15.IsWhole) (arg16 : Memref sig .tc .vmem S32x4096 .bf16) (harg16 : arg16.IsWhole) (arg17 : Memref sig .tc .vmem S128x1024 .bf16) (harg17 : arg17.IsWhole) (arg18 : Memref sig .tc .vmem S2x1024 .f32) (harg18 : arg18.IsWhole) (hc0 : cond0_0 i) (hc1 : ¬cond0_1 i) (hc2 : ¬cond0_2 i)
    (x0 : Vec F S1x512x1024 .f32) (x1 : Vec F S1x6x1x1024 .f32) (x2 : Vec F S1x512x1024 .f32) (x3 : Vec F S1x6x128x1024 .f32) (x4 : Vec F S1x1024 .f32) (x5 : Vec F S1024x3072 .bf16) (x6 : Vec F S3x1024 .f32) (x7 : Vec F S1024x1024 .bf16) (x8 : Vec F S2x128x1024 .f32) (x9 : Vec F S1x32x4096 .f32) (x10 : Vec F S1x128x1024 .f32) (xs0 : Vec F S2x1024 .f32) (y : S32x4096.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 xs0).2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 xs0).2.2.2.2.1 S32x4096.size (by sl_kernel_rfl) y

def out0_B_15 (c : Dev nD) (i : grid0.Coords) (arg1 : Memref sig .tc .vmem S1x512x1024 .f32) (harg1 : arg1.IsWhole) (arg2 : Memref sig .tc .vmem S1x6x1x1024 .f32) (harg2 : arg2.IsWhole) (arg3 : Memref sig .tc .vmem S1x512x1024 .f32) (harg3 : arg3.IsWhole) (arg4 : Memref sig .tc .vmem S1x6x128x1024 .f32) (harg4 : arg4.IsWhole) (arg5 : Memref sig .tc .vmem S1x1024 .f32) (harg5 : arg5.IsWhole) (arg6 : Memref sig .tc .vmem S1024x3072 .bf16) (harg6 : arg6.IsWhole) (arg7 : Memref sig .tc .vmem S3x1024 .f32) (harg7 : arg7.IsWhole) (arg8 : Memref sig .tc .vmem S1024x1024 .bf16) (harg8 : arg8.IsWhole) (arg9 : Memref sig .tc .vmem S2x128x1024 .f32) (harg9 : arg9.IsWhole) (arg10 : Memref sig .tc .vmem S1x32x4096 .f32) (harg10 : arg10.IsWhole) (arg11 : Memref sig .tc .vmem S1x128x1024 .f32) (harg11 : arg11.IsWhole) (arg12 : Memref sig .tc .vmem S1x512x1024 .f32) (harg12 : arg12.IsWhole) (arg13 : Memref sig .tc .vmem S1x2x1024 .f32) (harg13 : arg13.IsWhole) (arg14 : Memref sig .tc .vmem S1x512x1024 .f32) (harg14 : arg14.IsWhole) (arg15 : Memref sig .tc .vmem S2x128x1024 .f32) (harg15 : arg15.IsWhole) (arg16 : Memref sig .tc .vmem S32x4096 .bf16) (harg16 : arg16.IsWhole) (arg17 : Memref sig .tc .vmem S128x1024 .bf16) (harg17 : arg17.IsWhole) (arg18 : Memref sig .tc .vmem S2x1024 .f32) (harg18 : arg18.IsWhole) (hc0 : cond0_0 i) (hc1 : ¬cond0_1 i) (hc2 : ¬cond0_2 i)
    (x0 : Vec F S1x512x1024 .f32) (x1 : Vec F S1x6x1x1024 .f32) (x2 : Vec F S1x512x1024 .f32) (x3 : Vec F S1x6x128x1024 .f32) (x4 : Vec F S1x1024 .f32) (x5 : Vec F S1024x3072 .bf16) (x6 : Vec F S3x1024 .f32) (x7 : Vec F S1024x1024 .bf16) (x8 : Vec F S2x128x1024 .f32) (x9 : Vec F S1x32x4096 .f32) (x10 : Vec F S1x128x1024 .f32) (xs0 : Vec F S2x1024 .f32) : Vec F S32x4096 .bf16 :=
  VO0_15.read (Elt F) (VO0_15.writes (Elt F) VO0_15.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 xs0).2.2.2.2.1)

theorem cover0_B_16 (c : Dev nD) (i : grid0.Coords) (arg1 : Memref sig .tc .vmem S1x512x1024 .f32) (harg1 : arg1.IsWhole) (arg2 : Memref sig .tc .vmem S1x6x1x1024 .f32) (harg2 : arg2.IsWhole) (arg3 : Memref sig .tc .vmem S1x512x1024 .f32) (harg3 : arg3.IsWhole) (arg4 : Memref sig .tc .vmem S1x6x128x1024 .f32) (harg4 : arg4.IsWhole) (arg5 : Memref sig .tc .vmem S1x1024 .f32) (harg5 : arg5.IsWhole) (arg6 : Memref sig .tc .vmem S1024x3072 .bf16) (harg6 : arg6.IsWhole) (arg7 : Memref sig .tc .vmem S3x1024 .f32) (harg7 : arg7.IsWhole) (arg8 : Memref sig .tc .vmem S1024x1024 .bf16) (harg8 : arg8.IsWhole) (arg9 : Memref sig .tc .vmem S2x128x1024 .f32) (harg9 : arg9.IsWhole) (arg10 : Memref sig .tc .vmem S1x32x4096 .f32) (harg10 : arg10.IsWhole) (arg11 : Memref sig .tc .vmem S1x128x1024 .f32) (harg11 : arg11.IsWhole) (arg12 : Memref sig .tc .vmem S1x512x1024 .f32) (harg12 : arg12.IsWhole) (arg13 : Memref sig .tc .vmem S1x2x1024 .f32) (harg13 : arg13.IsWhole) (arg14 : Memref sig .tc .vmem S1x512x1024 .f32) (harg14 : arg14.IsWhole) (arg15 : Memref sig .tc .vmem S2x128x1024 .f32) (harg15 : arg15.IsWhole) (arg16 : Memref sig .tc .vmem S32x4096 .bf16) (harg16 : arg16.IsWhole) (arg17 : Memref sig .tc .vmem S128x1024 .bf16) (harg17 : arg17.IsWhole) (arg18 : Memref sig .tc .vmem S2x1024 .f32) (harg18 : arg18.IsWhole) (hc0 : cond0_0 i) (hc1 : ¬cond0_1 i) (hc2 : ¬cond0_2 i)
    (x0 : Vec F S1x512x1024 .f32) (x1 : Vec F S1x6x1x1024 .f32) (x2 : Vec F S1x512x1024 .f32) (x3 : Vec F S1x6x128x1024 .f32) (x4 : Vec F S1x1024 .f32) (x5 : Vec F S1024x3072 .bf16) (x6 : Vec F S3x1024 .f32) (x7 : Vec F S1024x1024 .bf16) (x8 : Vec F S2x128x1024 .f32) (x9 : Vec F S1x32x4096 .f32) (x10 : Vec F S1x128x1024 .f32) (xs0 : Vec F S2x1024 .f32) (y : S128x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 xs0).2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 xs0).2.2.2.2.2.1 S128x1024.size (by sl_kernel_rfl) y

def out0_B_16 (c : Dev nD) (i : grid0.Coords) (arg1 : Memref sig .tc .vmem S1x512x1024 .f32) (harg1 : arg1.IsWhole) (arg2 : Memref sig .tc .vmem S1x6x1x1024 .f32) (harg2 : arg2.IsWhole) (arg3 : Memref sig .tc .vmem S1x512x1024 .f32) (harg3 : arg3.IsWhole) (arg4 : Memref sig .tc .vmem S1x6x128x1024 .f32) (harg4 : arg4.IsWhole) (arg5 : Memref sig .tc .vmem S1x1024 .f32) (harg5 : arg5.IsWhole) (arg6 : Memref sig .tc .vmem S1024x3072 .bf16) (harg6 : arg6.IsWhole) (arg7 : Memref sig .tc .vmem S3x1024 .f32) (harg7 : arg7.IsWhole) (arg8 : Memref sig .tc .vmem S1024x1024 .bf16) (harg8 : arg8.IsWhole) (arg9 : Memref sig .tc .vmem S2x128x1024 .f32) (harg9 : arg9.IsWhole) (arg10 : Memref sig .tc .vmem S1x32x4096 .f32) (harg10 : arg10.IsWhole) (arg11 : Memref sig .tc .vmem S1x128x1024 .f32) (harg11 : arg11.IsWhole) (arg12 : Memref sig .tc .vmem S1x512x1024 .f32) (harg12 : arg12.IsWhole) (arg13 : Memref sig .tc .vmem S1x2x1024 .f32) (harg13 : arg13.IsWhole) (arg14 : Memref sig .tc .vmem S1x512x1024 .f32) (harg14 : arg14.IsWhole) (arg15 : Memref sig .tc .vmem S2x128x1024 .f32) (harg15 : arg15.IsWhole) (arg16 : Memref sig .tc .vmem S32x4096 .bf16) (harg16 : arg16.IsWhole) (arg17 : Memref sig .tc .vmem S128x1024 .bf16) (harg17 : arg17.IsWhole) (arg18 : Memref sig .tc .vmem S2x1024 .f32) (harg18 : arg18.IsWhole) (hc0 : cond0_0 i) (hc1 : ¬cond0_1 i) (hc2 : ¬cond0_2 i)
    (x0 : Vec F S1x512x1024 .f32) (x1 : Vec F S1x6x1x1024 .f32) (x2 : Vec F S1x512x1024 .f32) (x3 : Vec F S1x6x128x1024 .f32) (x4 : Vec F S1x1024 .f32) (x5 : Vec F S1024x3072 .bf16) (x6 : Vec F S3x1024 .f32) (x7 : Vec F S1024x1024 .bf16) (x8 : Vec F S2x128x1024 .f32) (x9 : Vec F S1x32x4096 .f32) (x10 : Vec F S1x128x1024 .f32) (xs0 : Vec F S2x1024 .f32) : Vec F S128x1024 .bf16 :=
  VO0_16.read (Elt F) (VO0_16.writes (Elt F) VO0_16.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 xs0).2.2.2.2.2.1)

theorem scover0_B_0 (c : Dev nD) (i : grid0.Coords) (arg1 : Memref sig .tc .vmem S1x512x1024 .f32) (harg1 : arg1.IsWhole) (arg2 : Memref sig .tc .vmem S1x6x1x1024 .f32) (harg2 : arg2.IsWhole) (arg3 : Memref sig .tc .vmem S1x512x1024 .f32) (harg3 : arg3.IsWhole) (arg4 : Memref sig .tc .vmem S1x6x128x1024 .f32) (harg4 : arg4.IsWhole) (arg5 : Memref sig .tc .vmem S1x1024 .f32) (harg5 : arg5.IsWhole) (arg6 : Memref sig .tc .vmem S1024x3072 .bf16) (harg6 : arg6.IsWhole) (arg7 : Memref sig .tc .vmem S3x1024 .f32) (harg7 : arg7.IsWhole) (arg8 : Memref sig .tc .vmem S1024x1024 .bf16) (harg8 : arg8.IsWhole) (arg9 : Memref sig .tc .vmem S2x128x1024 .f32) (harg9 : arg9.IsWhole) (arg10 : Memref sig .tc .vmem S1x32x4096 .f32) (harg10 : arg10.IsWhole) (arg11 : Memref sig .tc .vmem S1x128x1024 .f32) (harg11 : arg11.IsWhole) (arg12 : Memref sig .tc .vmem S1x512x1024 .f32) (harg12 : arg12.IsWhole) (arg13 : Memref sig .tc .vmem S1x2x1024 .f32) (harg13 : arg13.IsWhole) (arg14 : Memref sig .tc .vmem S1x512x1024 .f32) (harg14 : arg14.IsWhole) (arg15 : Memref sig .tc .vmem S2x128x1024 .f32) (harg15 : arg15.IsWhole) (arg16 : Memref sig .tc .vmem S32x4096 .bf16) (harg16 : arg16.IsWhole) (arg17 : Memref sig .tc .vmem S128x1024 .bf16) (harg17 : arg17.IsWhole) (arg18 : Memref sig .tc .vmem S2x1024 .f32) (harg18 : arg18.IsWhole) (hc0 : cond0_0 i) (hc1 : ¬cond0_1 i) (hc2 : ¬cond0_2 i)
    (x0 : Vec F S1x512x1024 .f32) (x1 : Vec F S1x6x1x1024 .f32) (x2 : Vec F S1x512x1024 .f32) (x3 : Vec F S1x6x128x1024 .f32) (x4 : Vec F S1x1024 .f32) (x5 : Vec F S1024x3072 .bf16) (x6 : Vec F S3x1024 .f32) (x7 : Vec F S1024x1024 .bf16) (x8 : Vec F S2x128x1024 .f32) (x9 : Vec F S1x32x4096 .f32) (x10 : Vec F S1x128x1024 .f32) (xs0 : Vec F S2x1024 .f32) (y : S2x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 xs0).2.2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 xs0).2.2.2.2.2.2.1 S2x1024.size (by sl_kernel_rfl) y

def sout0_B_0 (c : Dev nD) (i : grid0.Coords) (arg1 : Memref sig .tc .vmem S1x512x1024 .f32) (harg1 : arg1.IsWhole) (arg2 : Memref sig .tc .vmem S1x6x1x1024 .f32) (harg2 : arg2.IsWhole) (arg3 : Memref sig .tc .vmem S1x512x1024 .f32) (harg3 : arg3.IsWhole) (arg4 : Memref sig .tc .vmem S1x6x128x1024 .f32) (harg4 : arg4.IsWhole) (arg5 : Memref sig .tc .vmem S1x1024 .f32) (harg5 : arg5.IsWhole) (arg6 : Memref sig .tc .vmem S1024x3072 .bf16) (harg6 : arg6.IsWhole) (arg7 : Memref sig .tc .vmem S3x1024 .f32) (harg7 : arg7.IsWhole) (arg8 : Memref sig .tc .vmem S1024x1024 .bf16) (harg8 : arg8.IsWhole) (arg9 : Memref sig .tc .vmem S2x128x1024 .f32) (harg9 : arg9.IsWhole) (arg10 : Memref sig .tc .vmem S1x32x4096 .f32) (harg10 : arg10.IsWhole) (arg11 : Memref sig .tc .vmem S1x128x1024 .f32) (harg11 : arg11.IsWhole) (arg12 : Memref sig .tc .vmem S1x512x1024 .f32) (harg12 : arg12.IsWhole) (arg13 : Memref sig .tc .vmem S1x2x1024 .f32) (harg13 : arg13.IsWhole) (arg14 : Memref sig .tc .vmem S1x512x1024 .f32) (harg14 : arg14.IsWhole) (arg15 : Memref sig .tc .vmem S2x128x1024 .f32) (harg15 : arg15.IsWhole) (arg16 : Memref sig .tc .vmem S32x4096 .bf16) (harg16 : arg16.IsWhole) (arg17 : Memref sig .tc .vmem S128x1024 .bf16) (harg17 : arg17.IsWhole) (arg18 : Memref sig .tc .vmem S2x1024 .f32) (harg18 : arg18.IsWhole) (hc0 : cond0_0 i) (hc1 : ¬cond0_1 i) (hc2 : ¬cond0_2 i)
    (x0 : Vec F S1x512x1024 .f32) (x1 : Vec F S1x6x1x1024 .f32) (x2 : Vec F S1x512x1024 .f32) (x3 : Vec F S1x6x128x1024 .f32) (x4 : Vec F S1x1024 .f32) (x5 : Vec F S1024x3072 .bf16) (x6 : Vec F S3x1024 .f32) (x7 : Vec F S1024x1024 .bf16) (x8 : Vec F S2x128x1024 .f32) (x9 : Vec F S1x32x4096 .f32) (x10 : Vec F S1x128x1024 .f32) (xs0 : Vec F S2x1024 .f32) : Vec F S2x1024 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 xs0).2.2.2.2.2.2.1)

def out0_C_11 (c : Dev nD) (i : grid0.Coords) (arg1 : Memref sig .tc .vmem S1x512x1024 .f32) (harg1 : arg1.IsWhole) (arg2 : Memref sig .tc .vmem S1x6x1x1024 .f32) (harg2 : arg2.IsWhole) (arg3 : Memref sig .tc .vmem S1x512x1024 .f32) (harg3 : arg3.IsWhole) (arg4 : Memref sig .tc .vmem S1x6x128x1024 .f32) (harg4 : arg4.IsWhole) (arg5 : Memref sig .tc .vmem S1x1024 .f32) (harg5 : arg5.IsWhole) (arg6 : Memref sig .tc .vmem S1024x3072 .bf16) (harg6 : arg6.IsWhole) (arg7 : Memref sig .tc .vmem S3x1024 .f32) (harg7 : arg7.IsWhole) (arg8 : Memref sig .tc .vmem S1024x1024 .bf16) (harg8 : arg8.IsWhole) (arg9 : Memref sig .tc .vmem S2x128x1024 .f32) (harg9 : arg9.IsWhole) (arg10 : Memref sig .tc .vmem S1x32x4096 .f32) (harg10 : arg10.IsWhole) (arg11 : Memref sig .tc .vmem S1x128x1024 .f32) (harg11 : arg11.IsWhole) (arg12 : Memref sig .tc .vmem S1x512x1024 .f32) (harg12 : arg12.IsWhole) (arg13 : Memref sig .tc .vmem S1x2x1024 .f32) (harg13 : arg13.IsWhole) (arg14 : Memref sig .tc .vmem S1x512x1024 .f32) (harg14 : arg14.IsWhole) (arg15 : Memref sig .tc .vmem S2x128x1024 .f32) (harg15 : arg15.IsWhole) (arg16 : Memref sig .tc .vmem S32x4096 .bf16) (harg16 : arg16.IsWhole) (arg17 : Memref sig .tc .vmem S128x1024 .bf16) (harg17 : arg17.IsWhole) (arg18 : Memref sig .tc .vmem S2x1024 .f32) (harg18 : arg18.IsWhole) (hc0 : ¬cond0_0 i) (hc2 : cond0_2 i)
    (x0 : Vec F S1x512x1024 .f32) (x1 : Vec F S1x6x1x1024 .f32) (x2 : Vec F S1x512x1024 .f32) (x3 : Vec F S1x6x128x1024 .f32) (x4 : Vec F S1x1024 .f32) (x5 : Vec F S1024x3072 .bf16) (x6 : Vec F S3x1024 .f32) (x7 : Vec F S1024x1024 .bf16) (x8 : Vec F S2x128x1024 .f32) (x9 : Vec F S1x32x4096 .f32) (x10 : Vec F S1x128x1024 .f32) (xo11 : Vec F S1x512x1024 .f32) (xo12 : Vec F S1x2x1024 .f32) (xs0 : Vec F S2x1024 .f32) : Vec F S1x512x1024 .f32 := xo11

def out0_C_12 (c : Dev nD) (i : grid0.Coords) (arg1 : Memref sig .tc .vmem S1x512x1024 .f32) (harg1 : arg1.IsWhole) (arg2 : Memref sig .tc .vmem S1x6x1x1024 .f32) (harg2 : arg2.IsWhole) (arg3 : Memref sig .tc .vmem S1x512x1024 .f32) (harg3 : arg3.IsWhole) (arg4 : Memref sig .tc .vmem S1x6x128x1024 .f32) (harg4 : arg4.IsWhole) (arg5 : Memref sig .tc .vmem S1x1024 .f32) (harg5 : arg5.IsWhole) (arg6 : Memref sig .tc .vmem S1024x3072 .bf16) (harg6 : arg6.IsWhole) (arg7 : Memref sig .tc .vmem S3x1024 .f32) (harg7 : arg7.IsWhole) (arg8 : Memref sig .tc .vmem S1024x1024 .bf16) (harg8 : arg8.IsWhole) (arg9 : Memref sig .tc .vmem S2x128x1024 .f32) (harg9 : arg9.IsWhole) (arg10 : Memref sig .tc .vmem S1x32x4096 .f32) (harg10 : arg10.IsWhole) (arg11 : Memref sig .tc .vmem S1x128x1024 .f32) (harg11 : arg11.IsWhole) (arg12 : Memref sig .tc .vmem S1x512x1024 .f32) (harg12 : arg12.IsWhole) (arg13 : Memref sig .tc .vmem S1x2x1024 .f32) (harg13 : arg13.IsWhole) (arg14 : Memref sig .tc .vmem S1x512x1024 .f32) (harg14 : arg14.IsWhole) (arg15 : Memref sig .tc .vmem S2x128x1024 .f32) (harg15 : arg15.IsWhole) (arg16 : Memref sig .tc .vmem S32x4096 .bf16) (harg16 : arg16.IsWhole) (arg17 : Memref sig .tc .vmem S128x1024 .bf16) (harg17 : arg17.IsWhole) (arg18 : Memref sig .tc .vmem S2x1024 .f32) (harg18 : arg18.IsWhole) (hc0 : ¬cond0_0 i) (hc2 : cond0_2 i)
    (x0 : Vec F S1x512x1024 .f32) (x1 : Vec F S1x6x1x1024 .f32) (x2 : Vec F S1x512x1024 .f32) (x3 : Vec F S1x6x128x1024 .f32) (x4 : Vec F S1x1024 .f32) (x5 : Vec F S1024x3072 .bf16) (x6 : Vec F S3x1024 .f32) (x7 : Vec F S1024x1024 .bf16) (x8 : Vec F S2x128x1024 .f32) (x9 : Vec F S1x32x4096 .f32) (x10 : Vec F S1x128x1024 .f32) (xo11 : Vec F S1x512x1024 .f32) (xo12 : Vec F S1x2x1024 .f32) (xs0 : Vec F S2x1024 .f32) : Vec F S1x2x1024 .f32 := xo12

theorem cover0_C_13 (c : Dev nD) (i : grid0.Coords) (arg1 : Memref sig .tc .vmem S1x512x1024 .f32) (harg1 : arg1.IsWhole) (arg2 : Memref sig .tc .vmem S1x6x1x1024 .f32) (harg2 : arg2.IsWhole) (arg3 : Memref sig .tc .vmem S1x512x1024 .f32) (harg3 : arg3.IsWhole) (arg4 : Memref sig .tc .vmem S1x6x128x1024 .f32) (harg4 : arg4.IsWhole) (arg5 : Memref sig .tc .vmem S1x1024 .f32) (harg5 : arg5.IsWhole) (arg6 : Memref sig .tc .vmem S1024x3072 .bf16) (harg6 : arg6.IsWhole) (arg7 : Memref sig .tc .vmem S3x1024 .f32) (harg7 : arg7.IsWhole) (arg8 : Memref sig .tc .vmem S1024x1024 .bf16) (harg8 : arg8.IsWhole) (arg9 : Memref sig .tc .vmem S2x128x1024 .f32) (harg9 : arg9.IsWhole) (arg10 : Memref sig .tc .vmem S1x32x4096 .f32) (harg10 : arg10.IsWhole) (arg11 : Memref sig .tc .vmem S1x128x1024 .f32) (harg11 : arg11.IsWhole) (arg12 : Memref sig .tc .vmem S1x512x1024 .f32) (harg12 : arg12.IsWhole) (arg13 : Memref sig .tc .vmem S1x2x1024 .f32) (harg13 : arg13.IsWhole) (arg14 : Memref sig .tc .vmem S1x512x1024 .f32) (harg14 : arg14.IsWhole) (arg15 : Memref sig .tc .vmem S2x128x1024 .f32) (harg15 : arg15.IsWhole) (arg16 : Memref sig .tc .vmem S32x4096 .bf16) (harg16 : arg16.IsWhole) (arg17 : Memref sig .tc .vmem S128x1024 .bf16) (harg17 : arg17.IsWhole) (arg18 : Memref sig .tc .vmem S2x1024 .f32) (harg18 : arg18.IsWhole) (hc0 : ¬cond0_0 i) (hc2 : cond0_2 i)
    (x0 : Vec F S1x512x1024 .f32) (x1 : Vec F S1x6x1x1024 .f32) (x2 : Vec F S1x512x1024 .f32) (x3 : Vec F S1x6x128x1024 .f32) (x4 : Vec F S1x1024 .f32) (x5 : Vec F S1024x3072 .bf16) (x6 : Vec F S3x1024 .f32) (x7 : Vec F S1024x1024 .bf16) (x8 : Vec F S2x128x1024 .f32) (x9 : Vec F S1x32x4096 .f32) (x10 : Vec F S1x128x1024 .f32) (xo11 : Vec F S1x512x1024 .f32) (xo12 : Vec F S1x2x1024 .f32) (xs0 : Vec F S2x1024 .f32) (y : S1x512x1024.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc2 x0 x1 x2 x3 x4 x5 x6 x7 x8 x9 x10 xo11 xo12 xs0).2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc2 x0 x1 x2 x3 x4 x5 x6 x7 x8 x9 x10 xo11 xo12 xs0).2.2.1 S1x512x1024.size (by sl_kernel_rfl) y

def out0_C_13 (c : Dev nD) (i : grid0.Coords) (arg1 : Memref sig .tc .vmem S1x512x1024 .f32) (harg1 : arg1.IsWhole) (arg2 : Memref sig .tc .vmem S1x6x1x1024 .f32) (harg2 : arg2.IsWhole) (arg3 : Memref sig .tc .vmem S1x512x1024 .f32) (harg3 : arg3.IsWhole) (arg4 : Memref sig .tc .vmem S1x6x128x1024 .f32) (harg4 : arg4.IsWhole) (arg5 : Memref sig .tc .vmem S1x1024 .f32) (harg5 : arg5.IsWhole) (arg6 : Memref sig .tc .vmem S1024x3072 .bf16) (harg6 : arg6.IsWhole) (arg7 : Memref sig .tc .vmem S3x1024 .f32) (harg7 : arg7.IsWhole) (arg8 : Memref sig .tc .vmem S1024x1024 .bf16) (harg8 : arg8.IsWhole) (arg9 : Memref sig .tc .vmem S2x128x1024 .f32) (harg9 : arg9.IsWhole) (arg10 : Memref sig .tc .vmem S1x32x4096 .f32) (harg10 : arg10.IsWhole) (arg11 : Memref sig .tc .vmem S1x128x1024 .f32) (harg11 : arg11.IsWhole) (arg12 : Memref sig .tc .vmem S1x512x1024 .f32) (harg12 : arg12.IsWhole) (arg13 : Memref sig .tc .vmem S1x2x1024 .f32) (harg13 : arg13.IsWhole) (arg14 : Memref sig .tc .vmem S1x512x1024 .f32) (harg14 : arg14.IsWhole) (arg15 : Memref sig .tc .vmem S2x128x1024 .f32) (harg15 : arg15.IsWhole) (arg16 : Memref sig .tc .vmem S32x4096 .bf16) (harg16 : arg16.IsWhole) (arg17 : Memref sig .tc .vmem S128x1024 .bf16) (harg17 : arg17.IsWhole) (arg18 : Memref sig .tc .vmem S2x1024 .f32) (harg18 : arg18.IsWhole) (hc0 : ¬cond0_0 i) (hc2 : cond0_2 i)
    (x0 : Vec F S1x512x1024 .f32) (x1 : Vec F S1x6x1x1024 .f32) (x2 : Vec F S1x512x1024 .f32) (x3 : Vec F S1x6x128x1024 .f32) (x4 : Vec F S1x1024 .f32) (x5 : Vec F S1024x3072 .bf16) (x6 : Vec F S3x1024 .f32) (x7 : Vec F S1024x1024 .bf16) (x8 : Vec F S2x128x1024 .f32) (x9 : Vec F S1x32x4096 .f32) (x10 : Vec F S1x128x1024 .f32) (xo11 : Vec F S1x512x1024 .f32) (xo12 : Vec F S1x2x1024 .f32) (xs0 : Vec F S2x1024 .f32) : Vec F S1x512x1024 .f32 :=
  VO0_13.read (Elt F) (VO0_13.writes (Elt F) VO0_13.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc2 x0 x1 x2 x3 x4 x5 x6 x7 x8 x9 x10 xo11 xo12 xs0).2.2.1)

theorem cover0_C_14 (c : Dev nD) (i : grid0.Coords) (arg1 : Memref sig .tc .vmem S1x512x1024 .f32) (harg1 : arg1.IsWhole) (arg2 : Memref sig .tc .vmem S1x6x1x1024 .f32) (harg2 : arg2.IsWhole) (arg3 : Memref sig .tc .vmem S1x512x1024 .f32) (harg3 : arg3.IsWhole) (arg4 : Memref sig .tc .vmem S1x6x128x1024 .f32) (harg4 : arg4.IsWhole) (arg5 : Memref sig .tc .vmem S1x1024 .f32) (harg5 : arg5.IsWhole) (arg6 : Memref sig .tc .vmem S1024x3072 .bf16) (harg6 : arg6.IsWhole) (arg7 : Memref sig .tc .vmem S3x1024 .f32) (harg7 : arg7.IsWhole) (arg8 : Memref sig .tc .vmem S1024x1024 .bf16) (harg8 : arg8.IsWhole) (arg9 : Memref sig .tc .vmem S2x128x1024 .f32) (harg9 : arg9.IsWhole) (arg10 : Memref sig .tc .vmem S1x32x4096 .f32) (harg10 : arg10.IsWhole) (arg11 : Memref sig .tc .vmem S1x128x1024 .f32) (harg11 : arg11.IsWhole) (arg12 : Memref sig .tc .vmem S1x512x1024 .f32) (harg12 : arg12.IsWhole) (arg13 : Memref sig .tc .vmem S1x2x1024 .f32) (harg13 : arg13.IsWhole) (arg14 : Memref sig .tc .vmem S1x512x1024 .f32) (harg14 : arg14.IsWhole) (arg15 : Memref sig .tc .vmem S2x128x1024 .f32) (harg15 : arg15.IsWhole) (arg16 : Memref sig .tc .vmem S32x4096 .bf16) (harg16 : arg16.IsWhole) (arg17 : Memref sig .tc .vmem S128x1024 .bf16) (harg17 : arg17.IsWhole) (arg18 : Memref sig .tc .vmem S2x1024 .f32) (harg18 : arg18.IsWhole) (hc0 : ¬cond0_0 i) (hc2 : cond0_2 i)
    (x0 : Vec F S1x512x1024 .f32) (x1 : Vec F S1x6x1x1024 .f32) (x2 : Vec F S1x512x1024 .f32) (x3 : Vec F S1x6x128x1024 .f32) (x4 : Vec F S1x1024 .f32) (x5 : Vec F S1024x3072 .bf16) (x6 : Vec F S3x1024 .f32) (x7 : Vec F S1024x1024 .bf16) (x8 : Vec F S2x128x1024 .f32) (x9 : Vec F S1x32x4096 .f32) (x10 : Vec F S1x128x1024 .f32) (xo11 : Vec F S1x512x1024 .f32) (xo12 : Vec F S1x2x1024 .f32) (xs0 : Vec F S2x1024 .f32) (y : S2x128x1024.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc2 x0 x1 x2 x3 x4 x5 x6 x7 x8 x9 x10 xo11 xo12 xs0).2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc2 x0 x1 x2 x3 x4 x5 x6 x7 x8 x9 x10 xo11 xo12 xs0).2.2.2.1 S1x128x1024.size (by sl_kernel_rfl) y

def out0_C_14 (c : Dev nD) (i : grid0.Coords) (arg1 : Memref sig .tc .vmem S1x512x1024 .f32) (harg1 : arg1.IsWhole) (arg2 : Memref sig .tc .vmem S1x6x1x1024 .f32) (harg2 : arg2.IsWhole) (arg3 : Memref sig .tc .vmem S1x512x1024 .f32) (harg3 : arg3.IsWhole) (arg4 : Memref sig .tc .vmem S1x6x128x1024 .f32) (harg4 : arg4.IsWhole) (arg5 : Memref sig .tc .vmem S1x1024 .f32) (harg5 : arg5.IsWhole) (arg6 : Memref sig .tc .vmem S1024x3072 .bf16) (harg6 : arg6.IsWhole) (arg7 : Memref sig .tc .vmem S3x1024 .f32) (harg7 : arg7.IsWhole) (arg8 : Memref sig .tc .vmem S1024x1024 .bf16) (harg8 : arg8.IsWhole) (arg9 : Memref sig .tc .vmem S2x128x1024 .f32) (harg9 : arg9.IsWhole) (arg10 : Memref sig .tc .vmem S1x32x4096 .f32) (harg10 : arg10.IsWhole) (arg11 : Memref sig .tc .vmem S1x128x1024 .f32) (harg11 : arg11.IsWhole) (arg12 : Memref sig .tc .vmem S1x512x1024 .f32) (harg12 : arg12.IsWhole) (arg13 : Memref sig .tc .vmem S1x2x1024 .f32) (harg13 : arg13.IsWhole) (arg14 : Memref sig .tc .vmem S1x512x1024 .f32) (harg14 : arg14.IsWhole) (arg15 : Memref sig .tc .vmem S2x128x1024 .f32) (harg15 : arg15.IsWhole) (arg16 : Memref sig .tc .vmem S32x4096 .bf16) (harg16 : arg16.IsWhole) (arg17 : Memref sig .tc .vmem S128x1024 .bf16) (harg17 : arg17.IsWhole) (arg18 : Memref sig .tc .vmem S2x1024 .f32) (harg18 : arg18.IsWhole) (hc0 : ¬cond0_0 i) (hc2 : cond0_2 i)
    (x0 : Vec F S1x512x1024 .f32) (x1 : Vec F S1x6x1x1024 .f32) (x2 : Vec F S1x512x1024 .f32) (x3 : Vec F S1x6x128x1024 .f32) (x4 : Vec F S1x1024 .f32) (x5 : Vec F S1024x3072 .bf16) (x6 : Vec F S3x1024 .f32) (x7 : Vec F S1024x1024 .bf16) (x8 : Vec F S2x128x1024 .f32) (x9 : Vec F S1x32x4096 .f32) (x10 : Vec F S1x128x1024 .f32) (xo11 : Vec F S1x512x1024 .f32) (xo12 : Vec F S1x2x1024 .f32) (xs0 : Vec F S2x1024 .f32) : Vec F S2x128x1024 .f32 :=
  VO0_14.read (Elt F) (VO0_14.writes (Elt F) VO0_14.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc2 x0 x1 x2 x3 x4 x5 x6 x7 x8 x9 x10 xo11 xo12 xs0).2.2.2.1)

theorem cover0_C_15 (c : Dev nD) (i : grid0.Coords) (arg1 : Memref sig .tc .vmem S1x512x1024 .f32) (harg1 : arg1.IsWhole) (arg2 : Memref sig .tc .vmem S1x6x1x1024 .f32) (harg2 : arg2.IsWhole) (arg3 : Memref sig .tc .vmem S1x512x1024 .f32) (harg3 : arg3.IsWhole) (arg4 : Memref sig .tc .vmem S1x6x128x1024 .f32) (harg4 : arg4.IsWhole) (arg5 : Memref sig .tc .vmem S1x1024 .f32) (harg5 : arg5.IsWhole) (arg6 : Memref sig .tc .vmem S1024x3072 .bf16) (harg6 : arg6.IsWhole) (arg7 : Memref sig .tc .vmem S3x1024 .f32) (harg7 : arg7.IsWhole) (arg8 : Memref sig .tc .vmem S1024x1024 .bf16) (harg8 : arg8.IsWhole) (arg9 : Memref sig .tc .vmem S2x128x1024 .f32) (harg9 : arg9.IsWhole) (arg10 : Memref sig .tc .vmem S1x32x4096 .f32) (harg10 : arg10.IsWhole) (arg11 : Memref sig .tc .vmem S1x128x1024 .f32) (harg11 : arg11.IsWhole) (arg12 : Memref sig .tc .vmem S1x512x1024 .f32) (harg12 : arg12.IsWhole) (arg13 : Memref sig .tc .vmem S1x2x1024 .f32) (harg13 : arg13.IsWhole) (arg14 : Memref sig .tc .vmem S1x512x1024 .f32) (harg14 : arg14.IsWhole) (arg15 : Memref sig .tc .vmem S2x128x1024 .f32) (harg15 : arg15.IsWhole) (arg16 : Memref sig .tc .vmem S32x4096 .bf16) (harg16 : arg16.IsWhole) (arg17 : Memref sig .tc .vmem S128x1024 .bf16) (harg17 : arg17.IsWhole) (arg18 : Memref sig .tc .vmem S2x1024 .f32) (harg18 : arg18.IsWhole) (hc0 : ¬cond0_0 i) (hc2 : cond0_2 i)
    (x0 : Vec F S1x512x1024 .f32) (x1 : Vec F S1x6x1x1024 .f32) (x2 : Vec F S1x512x1024 .f32) (x3 : Vec F S1x6x128x1024 .f32) (x4 : Vec F S1x1024 .f32) (x5 : Vec F S1024x3072 .bf16) (x6 : Vec F S3x1024 .f32) (x7 : Vec F S1024x1024 .bf16) (x8 : Vec F S2x128x1024 .f32) (x9 : Vec F S1x32x4096 .f32) (x10 : Vec F S1x128x1024 .f32) (xo11 : Vec F S1x512x1024 .f32) (xo12 : Vec F S1x2x1024 .f32) (xs0 : Vec F S2x1024 .f32) (y : S32x4096.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc2 x0 x1 x2 x3 x4 x5 x6 x7 x8 x9 x10 xo11 xo12 xs0).2.2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc2 x0 x1 x2 x3 x4 x5 x6 x7 x8 x9 x10 xo11 xo12 xs0).2.2.2.2.1 S32x4096.size (by sl_kernel_rfl) y

def out0_C_15 (c : Dev nD) (i : grid0.Coords) (arg1 : Memref sig .tc .vmem S1x512x1024 .f32) (harg1 : arg1.IsWhole) (arg2 : Memref sig .tc .vmem S1x6x1x1024 .f32) (harg2 : arg2.IsWhole) (arg3 : Memref sig .tc .vmem S1x512x1024 .f32) (harg3 : arg3.IsWhole) (arg4 : Memref sig .tc .vmem S1x6x128x1024 .f32) (harg4 : arg4.IsWhole) (arg5 : Memref sig .tc .vmem S1x1024 .f32) (harg5 : arg5.IsWhole) (arg6 : Memref sig .tc .vmem S1024x3072 .bf16) (harg6 : arg6.IsWhole) (arg7 : Memref sig .tc .vmem S3x1024 .f32) (harg7 : arg7.IsWhole) (arg8 : Memref sig .tc .vmem S1024x1024 .bf16) (harg8 : arg8.IsWhole) (arg9 : Memref sig .tc .vmem S2x128x1024 .f32) (harg9 : arg9.IsWhole) (arg10 : Memref sig .tc .vmem S1x32x4096 .f32) (harg10 : arg10.IsWhole) (arg11 : Memref sig .tc .vmem S1x128x1024 .f32) (harg11 : arg11.IsWhole) (arg12 : Memref sig .tc .vmem S1x512x1024 .f32) (harg12 : arg12.IsWhole) (arg13 : Memref sig .tc .vmem S1x2x1024 .f32) (harg13 : arg13.IsWhole) (arg14 : Memref sig .tc .vmem S1x512x1024 .f32) (harg14 : arg14.IsWhole) (arg15 : Memref sig .tc .vmem S2x128x1024 .f32) (harg15 : arg15.IsWhole) (arg16 : Memref sig .tc .vmem S32x4096 .bf16) (harg16 : arg16.IsWhole) (arg17 : Memref sig .tc .vmem S128x1024 .bf16) (harg17 : arg17.IsWhole) (arg18 : Memref sig .tc .vmem S2x1024 .f32) (harg18 : arg18.IsWhole) (hc0 : ¬cond0_0 i) (hc2 : cond0_2 i)
    (x0 : Vec F S1x512x1024 .f32) (x1 : Vec F S1x6x1x1024 .f32) (x2 : Vec F S1x512x1024 .f32) (x3 : Vec F S1x6x128x1024 .f32) (x4 : Vec F S1x1024 .f32) (x5 : Vec F S1024x3072 .bf16) (x6 : Vec F S3x1024 .f32) (x7 : Vec F S1024x1024 .bf16) (x8 : Vec F S2x128x1024 .f32) (x9 : Vec F S1x32x4096 .f32) (x10 : Vec F S1x128x1024 .f32) (xo11 : Vec F S1x512x1024 .f32) (xo12 : Vec F S1x2x1024 .f32) (xs0 : Vec F S2x1024 .f32) : Vec F S32x4096 .bf16 :=
  VO0_15.read (Elt F) (VO0_15.writes (Elt F) VO0_15.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc2 x0 x1 x2 x3 x4 x5 x6 x7 x8 x9 x10 xo11 xo12 xs0).2.2.2.2.1)

theorem cover0_C_16 (c : Dev nD) (i : grid0.Coords) (arg1 : Memref sig .tc .vmem S1x512x1024 .f32) (harg1 : arg1.IsWhole) (arg2 : Memref sig .tc .vmem S1x6x1x1024 .f32) (harg2 : arg2.IsWhole) (arg3 : Memref sig .tc .vmem S1x512x1024 .f32) (harg3 : arg3.IsWhole) (arg4 : Memref sig .tc .vmem S1x6x128x1024 .f32) (harg4 : arg4.IsWhole) (arg5 : Memref sig .tc .vmem S1x1024 .f32) (harg5 : arg5.IsWhole) (arg6 : Memref sig .tc .vmem S1024x3072 .bf16) (harg6 : arg6.IsWhole) (arg7 : Memref sig .tc .vmem S3x1024 .f32) (harg7 : arg7.IsWhole) (arg8 : Memref sig .tc .vmem S1024x1024 .bf16) (harg8 : arg8.IsWhole) (arg9 : Memref sig .tc .vmem S2x128x1024 .f32) (harg9 : arg9.IsWhole) (arg10 : Memref sig .tc .vmem S1x32x4096 .f32) (harg10 : arg10.IsWhole) (arg11 : Memref sig .tc .vmem S1x128x1024 .f32) (harg11 : arg11.IsWhole) (arg12 : Memref sig .tc .vmem S1x512x1024 .f32) (harg12 : arg12.IsWhole) (arg13 : Memref sig .tc .vmem S1x2x1024 .f32) (harg13 : arg13.IsWhole) (arg14 : Memref sig .tc .vmem S1x512x1024 .f32) (harg14 : arg14.IsWhole) (arg15 : Memref sig .tc .vmem S2x128x1024 .f32) (harg15 : arg15.IsWhole) (arg16 : Memref sig .tc .vmem S32x4096 .bf16) (harg16 : arg16.IsWhole) (arg17 : Memref sig .tc .vmem S128x1024 .bf16) (harg17 : arg17.IsWhole) (arg18 : Memref sig .tc .vmem S2x1024 .f32) (harg18 : arg18.IsWhole) (hc0 : ¬cond0_0 i) (hc2 : cond0_2 i)
    (x0 : Vec F S1x512x1024 .f32) (x1 : Vec F S1x6x1x1024 .f32) (x2 : Vec F S1x512x1024 .f32) (x3 : Vec F S1x6x128x1024 .f32) (x4 : Vec F S1x1024 .f32) (x5 : Vec F S1024x3072 .bf16) (x6 : Vec F S3x1024 .f32) (x7 : Vec F S1024x1024 .bf16) (x8 : Vec F S2x128x1024 .f32) (x9 : Vec F S1x32x4096 .f32) (x10 : Vec F S1x128x1024 .f32) (xo11 : Vec F S1x512x1024 .f32) (xo12 : Vec F S1x2x1024 .f32) (xs0 : Vec F S2x1024 .f32) (y : S128x1024.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc2 x0 x1 x2 x3 x4 x5 x6 x7 x8 x9 x10 xo11 xo12 xs0).2.2.2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc2 x0 x1 x2 x3 x4 x5 x6 x7 x8 x9 x10 xo11 xo12 xs0).2.2.2.2.2.1 S128x1024.size (by sl_kernel_rfl) y

def out0_C_16 (c : Dev nD) (i : grid0.Coords) (arg1 : Memref sig .tc .vmem S1x512x1024 .f32) (harg1 : arg1.IsWhole) (arg2 : Memref sig .tc .vmem S1x6x1x1024 .f32) (harg2 : arg2.IsWhole) (arg3 : Memref sig .tc .vmem S1x512x1024 .f32) (harg3 : arg3.IsWhole) (arg4 : Memref sig .tc .vmem S1x6x128x1024 .f32) (harg4 : arg4.IsWhole) (arg5 : Memref sig .tc .vmem S1x1024 .f32) (harg5 : arg5.IsWhole) (arg6 : Memref sig .tc .vmem S1024x3072 .bf16) (harg6 : arg6.IsWhole) (arg7 : Memref sig .tc .vmem S3x1024 .f32) (harg7 : arg7.IsWhole) (arg8 : Memref sig .tc .vmem S1024x1024 .bf16) (harg8 : arg8.IsWhole) (arg9 : Memref sig .tc .vmem S2x128x1024 .f32) (harg9 : arg9.IsWhole) (arg10 : Memref sig .tc .vmem S1x32x4096 .f32) (harg10 : arg10.IsWhole) (arg11 : Memref sig .tc .vmem S1x128x1024 .f32) (harg11 : arg11.IsWhole) (arg12 : Memref sig .tc .vmem S1x512x1024 .f32) (harg12 : arg12.IsWhole) (arg13 : Memref sig .tc .vmem S1x2x1024 .f32) (harg13 : arg13.IsWhole) (arg14 : Memref sig .tc .vmem S1x512x1024 .f32) (harg14 : arg14.IsWhole) (arg15 : Memref sig .tc .vmem S2x128x1024 .f32) (harg15 : arg15.IsWhole) (arg16 : Memref sig .tc .vmem S32x4096 .bf16) (harg16 : arg16.IsWhole) (arg17 : Memref sig .tc .vmem S128x1024 .bf16) (harg17 : arg17.IsWhole) (arg18 : Memref sig .tc .vmem S2x1024 .f32) (harg18 : arg18.IsWhole) (hc0 : ¬cond0_0 i) (hc2 : cond0_2 i)
    (x0 : Vec F S1x512x1024 .f32) (x1 : Vec F S1x6x1x1024 .f32) (x2 : Vec F S1x512x1024 .f32) (x3 : Vec F S1x6x128x1024 .f32) (x4 : Vec F S1x1024 .f32) (x5 : Vec F S1024x3072 .bf16) (x6 : Vec F S3x1024 .f32) (x7 : Vec F S1024x1024 .bf16) (x8 : Vec F S2x128x1024 .f32) (x9 : Vec F S1x32x4096 .f32) (x10 : Vec F S1x128x1024 .f32) (xo11 : Vec F S1x512x1024 .f32) (xo12 : Vec F S1x2x1024 .f32) (xs0 : Vec F S2x1024 .f32) : Vec F S128x1024 .bf16 :=
  VO0_16.read (Elt F) (VO0_16.writes (Elt F) VO0_16.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc2 x0 x1 x2 x3 x4 x5 x6 x7 x8 x9 x10 xo11 xo12 xs0).2.2.2.2.2.1)

def sout0_C_0 (c : Dev nD) (i : grid0.Coords) (arg1 : Memref sig .tc .vmem S1x512x1024 .f32) (harg1 : arg1.IsWhole) (arg2 : Memref sig .tc .vmem S1x6x1x1024 .f32) (harg2 : arg2.IsWhole) (arg3 : Memref sig .tc .vmem S1x512x1024 .f32) (harg3 : arg3.IsWhole) (arg4 : Memref sig .tc .vmem S1x6x128x1024 .f32) (harg4 : arg4.IsWhole) (arg5 : Memref sig .tc .vmem S1x1024 .f32) (harg5 : arg5.IsWhole) (arg6 : Memref sig .tc .vmem S1024x3072 .bf16) (harg6 : arg6.IsWhole) (arg7 : Memref sig .tc .vmem S3x1024 .f32) (harg7 : arg7.IsWhole) (arg8 : Memref sig .tc .vmem S1024x1024 .bf16) (harg8 : arg8.IsWhole) (arg9 : Memref sig .tc .vmem S2x128x1024 .f32) (harg9 : arg9.IsWhole) (arg10 : Memref sig .tc .vmem S1x32x4096 .f32) (harg10 : arg10.IsWhole) (arg11 : Memref sig .tc .vmem S1x128x1024 .f32) (harg11 : arg11.IsWhole) (arg12 : Memref sig .tc .vmem S1x512x1024 .f32) (harg12 : arg12.IsWhole) (arg13 : Memref sig .tc .vmem S1x2x1024 .f32) (harg13 : arg13.IsWhole) (arg14 : Memref sig .tc .vmem S1x512x1024 .f32) (harg14 : arg14.IsWhole) (arg15 : Memref sig .tc .vmem S2x128x1024 .f32) (harg15 : arg15.IsWhole) (arg16 : Memref sig .tc .vmem S32x4096 .bf16) (harg16 : arg16.IsWhole) (arg17 : Memref sig .tc .vmem S128x1024 .bf16) (harg17 : arg17.IsWhole) (arg18 : Memref sig .tc .vmem S2x1024 .f32) (harg18 : arg18.IsWhole) (hc0 : ¬cond0_0 i) (hc2 : cond0_2 i)
    (x0 : Vec F S1x512x1024 .f32) (x1 : Vec F S1x6x1x1024 .f32) (x2 : Vec F S1x512x1024 .f32) (x3 : Vec F S1x6x128x1024 .f32) (x4 : Vec F S1x1024 .f32) (x5 : Vec F S1024x3072 .bf16) (x6 : Vec F S3x1024 .f32) (x7 : Vec F S1024x1024 .bf16) (x8 : Vec F S2x128x1024 .f32) (x9 : Vec F S1x32x4096 .f32) (x10 : Vec F S1x128x1024 .f32) (xo11 : Vec F S1x512x1024 .f32) (xo12 : Vec F S1x2x1024 .f32) (xs0 : Vec F S2x1024 .f32) : Vec F S2x1024 .f32 := xs0

/-! ## What the outputs hold after each point -/

end Cert.ConvIdeal.Gen

end
-- ==== Proof.ConvRun.Frame.lean ====
/- What the output windows hold point by point, the proof data, the body obligation and the run, for the windows named below. -/
module

public import proofs.«01_k».proof.Proof.ConvRun.Outs

@[expose] public section

-- the long axes' rectangles are looked at coordinate by coordinate
set_option maxRecDepth 16384

noncomputable section

namespace Cert.ConvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

def outsAt0 (c : Dev nD) : (n : ℕ) → n < cfg0.N → Vec F S1x512x1024 .f32 × Vec F S1x2x1024 .f32 × Vec F S1x512x1024 .f32 × Vec F S2x128x1024 .f32 × Vec F S32x4096 .bf16 × Vec F S128x1024 .bf16 × Vec F S2x1024 .f32
  | 0, hn => (out0_A_11 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) scM0_0 (Memref.isWhole_whole _) ((hcond0_0 ⟨0, hn⟩).mpr (by (try dsimp only); omega)) ((hcond0_1 ⟨0, hn⟩).mpr (Nat.zero_mod _)) (fun h => (fun h => by (try dsimp only at h); omega) ((hcond0_2 ⟨0, hn⟩).mp h)) (iblk m c 0 ⟨0, hn⟩) (iblk m c 1 ⟨0, hn⟩) (iblk m c 2 ⟨0, hn⟩) (X0_3 m c ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩), out0_A_12 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) scM0_0 (Memref.isWhole_whole _) ((hcond0_0 ⟨0, hn⟩).mpr (by (try dsimp only); omega)) ((hcond0_1 ⟨0, hn⟩).mpr (Nat.zero_mod _)) (fun h => (fun h => by (try dsimp only at h); omega) ((hcond0_2 ⟨0, hn⟩).mp h)) (iblk m c 0 ⟨0, hn⟩) (iblk m c 1 ⟨0, hn⟩) (iblk m c 2 ⟨0, hn⟩) (X0_3 m c ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩), out0_A_13 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) scM0_0 (Memref.isWhole_whole _) ((hcond0_0 ⟨0, hn⟩).mpr (by (try dsimp only); omega)) ((hcond0_1 ⟨0, hn⟩).mpr (Nat.zero_mod _)) (fun h => (fun h => by (try dsimp only at h); omega) ((hcond0_2 ⟨0, hn⟩).mp h)) (iblk m c 0 ⟨0, hn⟩) (iblk m c 1 ⟨0, hn⟩) (iblk m c 2 ⟨0, hn⟩) (X0_3 m c ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩), out0_A_14 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) scM0_0 (Memref.isWhole_whole _) ((hcond0_0 ⟨0, hn⟩).mpr (by (try dsimp only); omega)) ((hcond0_1 ⟨0, hn⟩).mpr (Nat.zero_mod _)) (fun h => (fun h => by (try dsimp only at h); omega) ((hcond0_2 ⟨0, hn⟩).mp h)) (iblk m c 0 ⟨0, hn⟩) (iblk m c 1 ⟨0, hn⟩) (iblk m c 2 ⟨0, hn⟩) (X0_3 m c ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩), out0_A_15 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) scM0_0 (Memref.isWhole_whole _) ((hcond0_0 ⟨0, hn⟩).mpr (by (try dsimp only); omega)) ((hcond0_1 ⟨0, hn⟩).mpr (Nat.zero_mod _)) (fun h => (fun h => by (try dsimp only at h); omega) ((hcond0_2 ⟨0, hn⟩).mp h)) (iblk m c 0 ⟨0, hn⟩) (iblk m c 1 ⟨0, hn⟩) (iblk m c 2 ⟨0, hn⟩) (X0_3 m c ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩), out0_A_16 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) scM0_0 (Memref.isWhole_whole _) ((hcond0_0 ⟨0, hn⟩).mpr (by (try dsimp only); omega)) ((hcond0_1 ⟨0, hn⟩).mpr (Nat.zero_mod _)) (fun h => (fun h => by (try dsimp only at h); omega) ((hcond0_2 ⟨0, hn⟩).mp h)) (iblk m c 0 ⟨0, hn⟩) (iblk m c 1 ⟨0, hn⟩) (iblk m c 2 ⟨0, hn⟩) (X0_3 m c ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) scM0_0 (Memref.isWhole_whole _) ((hcond0_0 ⟨0, hn⟩).mpr (by (try dsimp only); omega)) ((hcond0_1 ⟨0, hn⟩).mpr (Nat.zero_mod _)) (fun h => (fun h => by (try dsimp only at h); omega) ((hcond0_2 ⟨0, hn⟩).mp h)) (iblk m c 0 ⟨0, hn⟩) (iblk m c 1 ⟨0, hn⟩) (iblk m c 2 ⟨0, hn⟩) (X0_3 m c ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩))
  | n + 1, hn =>
    if h0 : (n + 1) < 32 then
      if h1 : (n + 1) % 4 = 0 then
        if h2 : (n + 1) % 33 = 32 then
          False.elim (by have hN : n + 1 < 33 := lt_of_lt_of_eq hn (show cfg0.N = 33 from N_0); omega)
        else
          (out0_A_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (X0_3 m c ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩), out0_A_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (X0_3 m c ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩), out0_A_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (X0_3 m c ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩), out0_A_14 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (X0_3 m c ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩), out0_A_15 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (X0_3 m c ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩), out0_A_16 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (X0_3 m c ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (X0_3 m c ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩))
      else
        if h2 : (n + 1) % 33 = 32 then
          False.elim (by have hN : n + 1 < 33 := lt_of_lt_of_eq hn (show cfg0.N = 33 from N_0); omega)
        else
          (out0_B_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) ((hcond0_0 ⟨n + 1, hn⟩).mpr h0) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (X0_3 m c ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (outsAt0 c n (Nat.lt_of_succ_lt hn)).2.2.2.2.2.2, out0_B_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) ((hcond0_0 ⟨n + 1, hn⟩).mpr h0) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (X0_3 m c ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (outsAt0 c n (Nat.lt_of_succ_lt hn)).2.2.2.2.2.2, out0_B_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) ((hcond0_0 ⟨n + 1, hn⟩).mpr h0) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (X0_3 m c ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (outsAt0 c n (Nat.lt_of_succ_lt hn)).2.2.2.2.2.2, out0_B_14 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) ((hcond0_0 ⟨n + 1, hn⟩).mpr h0) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (X0_3 m c ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (outsAt0 c n (Nat.lt_of_succ_lt hn)).2.2.2.2.2.2, out0_B_15 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) ((hcond0_0 ⟨n + 1, hn⟩).mpr h0) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (X0_3 m c ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (outsAt0 c n (Nat.lt_of_succ_lt hn)).2.2.2.2.2.2, out0_B_16 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) ((hcond0_0 ⟨n + 1, hn⟩).mpr h0) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (X0_3 m c ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (outsAt0 c n (Nat.lt_of_succ_lt hn)).2.2.2.2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) ((hcond0_0 ⟨n + 1, hn⟩).mpr h0) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (X0_3 m c ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (outsAt0 c n (Nat.lt_of_succ_lt hn)).2.2.2.2.2.2)
    else
      if h2 : (n + 1) % 33 = 32 then
        (out0_C_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) (fun h => h0 ((hcond0_0 ⟨n + 1, hn⟩).mp h)) ((hcond0_2 ⟨n + 1, hn⟩).mpr h2) (iblk m c 0 ⟨n + 1, hn⟩) (iblk m c 1 ⟨n + 1, hn⟩) (iblk m c 2 ⟨n + 1, hn⟩) (X0_3 m c ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (outsAt0 c n (Nat.lt_of_succ_lt hn)).1 (outsAt0 c n (Nat.lt_of_succ_lt hn)).2.1 (outsAt0 c n (Nat.lt_of_succ_lt hn)).2.2.2.2.2.2, out0_C_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) (fun h => h0 ((hcond0_0 ⟨n + 1, hn⟩).mp h)) ((hcond0_2 ⟨n + 1, hn⟩).mpr h2) (iblk m c 0 ⟨n + 1, hn⟩) (iblk m c 1 ⟨n + 1, hn⟩) (iblk m c 2 ⟨n + 1, hn⟩) (X0_3 m c ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (outsAt0 c n (Nat.lt_of_succ_lt hn)).1 (outsAt0 c n (Nat.lt_of_succ_lt hn)).2.1 (outsAt0 c n (Nat.lt_of_succ_lt hn)).2.2.2.2.2.2, out0_C_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) (fun h => h0 ((hcond0_0 ⟨n + 1, hn⟩).mp h)) ((hcond0_2 ⟨n + 1, hn⟩).mpr h2) (iblk m c 0 ⟨n + 1, hn⟩) (iblk m c 1 ⟨n + 1, hn⟩) (iblk m c 2 ⟨n + 1, hn⟩) (X0_3 m c ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (outsAt0 c n (Nat.lt_of_succ_lt hn)).1 (outsAt0 c n (Nat.lt_of_succ_lt hn)).2.1 (outsAt0 c n (Nat.lt_of_succ_lt hn)).2.2.2.2.2.2, out0_C_14 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) (fun h => h0 ((hcond0_0 ⟨n + 1, hn⟩).mp h)) ((hcond0_2 ⟨n + 1, hn⟩).mpr h2) (iblk m c 0 ⟨n + 1, hn⟩) (iblk m c 1 ⟨n + 1, hn⟩) (iblk m c 2 ⟨n + 1, hn⟩) (X0_3 m c ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (outsAt0 c n (Nat.lt_of_succ_lt hn)).1 (outsAt0 c n (Nat.lt_of_succ_lt hn)).2.1 (outsAt0 c n (Nat.lt_of_succ_lt hn)).2.2.2.2.2.2, out0_C_15 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) (fun h => h0 ((hcond0_0 ⟨n + 1, hn⟩).mp h)) ((hcond0_2 ⟨n + 1, hn⟩).mpr h2) (iblk m c 0 ⟨n + 1, hn⟩) (iblk m c 1 ⟨n + 1, hn⟩) (iblk m c 2 ⟨n + 1, hn⟩) (X0_3 m c ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (outsAt0 c n (Nat.lt_of_succ_lt hn)).1 (outsAt0 c n (Nat.lt_of_succ_lt hn)).2.1 (outsAt0 c n (Nat.lt_of_succ_lt hn)).2.2.2.2.2.2, out0_C_16 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) (fun h => h0 ((hcond0_0 ⟨n + 1, hn⟩).mp h)) ((hcond0_2 ⟨n + 1, hn⟩).mpr h2) (iblk m c 0 ⟨n + 1, hn⟩) (iblk m c 1 ⟨n + 1, hn⟩) (iblk m c 2 ⟨n + 1, hn⟩) (X0_3 m c ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (outsAt0 c n (Nat.lt_of_succ_lt hn)).1 (outsAt0 c n (Nat.lt_of_succ_lt hn)).2.1 (outsAt0 c n (Nat.lt_of_succ_lt hn)).2.2.2.2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) (fun h => h0 ((hcond0_0 ⟨n + 1, hn⟩).mp h)) ((hcond0_2 ⟨n + 1, hn⟩).mpr h2) (iblk m c 0 ⟨n + 1, hn⟩) (iblk m c 1 ⟨n + 1, hn⟩) (iblk m c 2 ⟨n + 1, hn⟩) (X0_3 m c ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (outsAt0 c n (Nat.lt_of_succ_lt hn)).1 (outsAt0 c n (Nat.lt_of_succ_lt hn)).2.1 (outsAt0 c n (Nat.lt_of_succ_lt hn)).2.2.2.2.2.2)
      else
        False.elim (by have hN : n + 1 < 33 := lt_of_lt_of_eq hn (show cfg0.N = 33 from N_0); omega)

theorem outsAt0_A (c : Dev nD) (t : Fin cfg0.N) (h0 : t.val < 32) (h1 : t.val % 4 = 0) (h2 : ¬t.val % 33 = 32) :
    outsAt0 m c t.val t.isLt = (out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) ((hcond0_0 t).mpr h0) ((hcond0_1 t).mpr h1) (fun h => h2 ((hcond0_2 t).mp h)) (iblk m c 0 t) (iblk m c 1 t) (iblk m c 2 t) (X0_3 m c t) (iblk m c 4 t) (iblk m c 5 t) (iblk m c 6 t) (iblk m c 7 t) (iblk m c 8 t) (iblk m c 9 t) (iblk m c 10 t), out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) ((hcond0_0 t).mpr h0) ((hcond0_1 t).mpr h1) (fun h => h2 ((hcond0_2 t).mp h)) (iblk m c 0 t) (iblk m c 1 t) (iblk m c 2 t) (X0_3 m c t) (iblk m c 4 t) (iblk m c 5 t) (iblk m c 6 t) (iblk m c 7 t) (iblk m c 8 t) (iblk m c 9 t) (iblk m c 10 t), out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) ((hcond0_0 t).mpr h0) ((hcond0_1 t).mpr h1) (fun h => h2 ((hcond0_2 t).mp h)) (iblk m c 0 t) (iblk m c 1 t) (iblk m c 2 t) (X0_3 m c t) (iblk m c 4 t) (iblk m c 5 t) (iblk m c 6 t) (iblk m c 7 t) (iblk m c 8 t) (iblk m c 9 t) (iblk m c 10 t), out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) ((hcond0_0 t).mpr h0) ((hcond0_1 t).mpr h1) (fun h => h2 ((hcond0_2 t).mp h)) (iblk m c 0 t) (iblk m c 1 t) (iblk m c 2 t) (X0_3 m c t) (iblk m c 4 t) (iblk m c 5 t) (iblk m c 6 t) (iblk m c 7 t) (iblk m c 8 t) (iblk m c 9 t) (iblk m c 10 t), out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) ((hcond0_0 t).mpr h0) ((hcond0_1 t).mpr h1) (fun h => h2 ((hcond0_2 t).mp h)) (iblk m c 0 t) (iblk m c 1 t) (iblk m c 2 t) (X0_3 m c t) (iblk m c 4 t) (iblk m c 5 t) (iblk m c 6 t) (iblk m c 7 t) (iblk m c 8 t) (iblk m c 9 t) (iblk m c 10 t), out0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) ((hcond0_0 t).mpr h0) ((hcond0_1 t).mpr h1) (fun h => h2 ((hcond0_2 t).mp h)) (iblk m c 0 t) (iblk m c 1 t) (iblk m c 2 t) (X0_3 m c t) (iblk m c 4 t) (iblk m c 5 t) (iblk m c 6 t) (iblk m c 7 t) (iblk m c 8 t) (iblk m c 9 t) (iblk m c 10 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) ((hcond0_0 t).mpr h0) ((hcond0_1 t).mpr h1) (fun h => h2 ((hcond0_2 t).mp h)) (iblk m c 0 t) (iblk m c 1 t) (iblk m c 2 t) (X0_3 m c t) (iblk m c 4 t) (iblk m c 5 t) (iblk m c 6 t) (iblk m c 7 t) (iblk m c 8 t) (iblk m c 9 t) (iblk m c 10 t)) := by
  obtain ⟨n, hn⟩ := t
  cases n with
  | zero => exact rfl
  | succ n => exact (dif_pos h0).trans ((dif_pos h1).trans ((dif_neg h2).trans rfl))

theorem outsAt0_B (c : Dev nD) (t : Fin cfg0.N) (h0 : t.val < 32) (h1 : ¬t.val % 4 = 0) (h2 : ¬t.val % 33 = 32) :
    outsAt0 m c t.val t.isLt = (out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) ((hcond0_0 t).mpr h0) (fun h => h1 ((hcond0_1 t).mp h)) (fun h => h2 ((hcond0_2 t).mp h)) (iblk m c 0 t) (iblk m c 1 t) (iblk m c 2 t) (X0_3 m c t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.2.2.2.2, out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) ((hcond0_0 t).mpr h0) (fun h => h1 ((hcond0_1 t).mp h)) (fun h => h2 ((hcond0_2 t).mp h)) (iblk m c 0 t) (iblk m c 1 t) (iblk m c 2 t) (X0_3 m c t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.2.2.2.2, out0_B_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) ((hcond0_0 t).mpr h0) (fun h => h1 ((hcond0_1 t).mp h)) (fun h => h2 ((hcond0_2 t).mp h)) (iblk m c 0 t) (iblk m c 1 t) (iblk m c 2 t) (X0_3 m c t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.2.2.2.2, out0_B_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) ((hcond0_0 t).mpr h0) (fun h => h1 ((hcond0_1 t).mp h)) (fun h => h2 ((hcond0_2 t).mp h)) (iblk m c 0 t) (iblk m c 1 t) (iblk m c 2 t) (X0_3 m c t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.2.2.2.2, out0_B_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) ((hcond0_0 t).mpr h0) (fun h => h1 ((hcond0_1 t).mp h)) (fun h => h2 ((hcond0_2 t).mp h)) (iblk m c 0 t) (iblk m c 1 t) (iblk m c 2 t) (X0_3 m c t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.2.2.2.2, out0_B_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) ((hcond0_0 t).mpr h0) (fun h => h1 ((hcond0_1 t).mp h)) (fun h => h2 ((hcond0_2 t).mp h)) (iblk m c 0 t) (iblk m c 1 t) (iblk m c 2 t) (X0_3 m c t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) ((hcond0_0 t).mpr h0) (fun h => h1 ((hcond0_1 t).mp h)) (fun h => h2 ((hcond0_2 t).mp h)) (iblk m c 0 t) (iblk m c 1 t) (iblk m c 2 t) (X0_3 m c t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.2.2.2.2) := by
  obtain ⟨n, hn⟩ := t
  cases n with
  | zero => exact (by exfalso; (try dsimp only at h1); exact absurd (Nat.zero_mod _) h1)
  | succ n => exact (dif_pos h0).trans ((dif_neg h1).trans ((dif_neg h2).trans rfl))

theorem outsAt0_C (c : Dev nD) (t : Fin cfg0.N) (h0 : ¬t.val < 32) (h2 : t.val % 33 = 32) :
    outsAt0 m c t.val t.isLt = (out0_C_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) (fun h => h0 ((hcond0_0 t).mp h)) ((hcond0_2 t).mpr h2) (iblk m c 0 t) (iblk m c 1 t) (iblk m c 2 t) (X0_3 m c t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.2.2.2.2, out0_C_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) (fun h => h0 ((hcond0_0 t).mp h)) ((hcond0_2 t).mpr h2) (iblk m c 0 t) (iblk m c 1 t) (iblk m c 2 t) (X0_3 m c t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.2.2.2.2, out0_C_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) (fun h => h0 ((hcond0_0 t).mp h)) ((hcond0_2 t).mpr h2) (iblk m c 0 t) (iblk m c 1 t) (iblk m c 2 t) (X0_3 m c t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.2.2.2.2, out0_C_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) (fun h => h0 ((hcond0_0 t).mp h)) ((hcond0_2 t).mpr h2) (iblk m c 0 t) (iblk m c 1 t) (iblk m c 2 t) (X0_3 m c t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.2.2.2.2, out0_C_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) (fun h => h0 ((hcond0_0 t).mp h)) ((hcond0_2 t).mpr h2) (iblk m c 0 t) (iblk m c 1 t) (iblk m c 2 t) (X0_3 m c t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.2.2.2.2, out0_C_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) (fun h => h0 ((hcond0_0 t).mp h)) ((hcond0_2 t).mpr h2) (iblk m c 0 t) (iblk m c 1 t) (iblk m c 2 t) (X0_3 m c t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.2.2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) (fun h => h0 ((hcond0_0 t).mp h)) ((hcond0_2 t).mpr h2) (iblk m c 0 t) (iblk m c 1 t) (iblk m c 2 t) (X0_3 m c t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.2.2.2.2) := by
  obtain ⟨n, hn⟩ := t
  cases n with
  | zero => exact (by exfalso; (try dsimp only at h0); exact by omega)
  | succ n => exact (dif_neg h0).trans ((dif_pos h2).trans rfl)

def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2.2.2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.2.2)) ∗ (∃ r, prngReg c r)) := by
  cases n with
  | zero => exact absurd rfl hz
  | succ n => rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => X0_3 m c t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => (outsAt0 m c t.val t.isLt).1
    | ⟨12, _⟩ => (outsAt0 m c t.val t.isLt).2.1
    | ⟨13, _⟩ => (outsAt0 m c t.val t.isLt).2.2.1
    | ⟨14, _⟩ => (outsAt0 m c t.val t.isLt).2.2.2.1
    | ⟨15, _⟩ => (outsAt0 m c t.val t.isLt).2.2.2.2.1
    | ⟨16, _⟩ => (outsAt0 m c t.val t.isLt).2.2.2.2.2.1
    | ⟨_ + 17, h⟩ => absurd h (Nat.not_lt.2 (Nat.le_add_left _ _))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = X0_3 m c t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = (outsAt0 m c t.val t.isLt).1 := by dsimp only [dats]
theorem after0_12 (c : Dev nD) (t : Fin cfg0.N) : (dats m 0 c).after 12 t = (outsAt0 m c t.val t.isLt).2.1 := by dsimp only [dats]
theorem after0_13 (c : Dev nD) (t : Fin cfg0.N) : (dats m 0 c).after 13 t = (outsAt0 m c t.val t.isLt).2.2.1 := by dsimp only [dats]
theorem after0_14 (c : Dev nD) (t : Fin cfg0.N) : (dats m 0 c).after 14 t = (outsAt0 m c t.val t.isLt).2.2.2.1 := by dsimp only [dats]
theorem after0_15 (c : Dev nD) (t : Fin cfg0.N) : (dats m 0 c).after 15 t = (outsAt0 m c t.val t.isLt).2.2.2.2.1 := by dsimp only [dats]
theorem after0_16 (c : Dev nD) (t : Fin cfg0.N) : (dats m 0 c).after 16 t = (outsAt0 m c t.val t.isLt).2.2.2.2.2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = X0_3 m c t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

theorem hcarry0_11 (c : Dev nD) : ∀ (t : Fin cfg0.N) (_ : t.val ≠ 0), cfg0.idle 11 (grid0.coords t) = true → cfg0.fresh 11 t.val = false →
    (dats m 0 c).after 11 t = (dats m 0 c).after 11 ⟨t.val - 1, by omega⟩ := by
  intro t _ hi _
  have hN : t.val < 33 := lt_of_lt_of_eq t.isLt (show cfg0.N = 33 from N_0)
  rw [after0_11, after0_11]
  by_cases h0 : t.val < 32
  · by_cases h1 : t.val % 4 = 0
    · by_cases h2 : t.val % 33 = 32
      · exfalso; omega
      · rw [liveAt0_11_A t ((hcond0_0 t).mpr h0) ((hcond0_1 t).mpr h1) (fun h => h2 ((hcond0_2 t).mp h))] at hi
        exact absurd hi Bool.false_ne_true
    · by_cases h2 : t.val % 33 = 32
      · exfalso; omega
      · rw [liveAt0_11_B t ((hcond0_0 t).mpr h0) (fun h => h1 ((hcond0_1 t).mp h)) (fun h => h2 ((hcond0_2 t).mp h))] at hi
        exact absurd hi Bool.false_ne_true
  · by_cases h2 : t.val % 33 = 32
    · rw [outsAt0_C m c t h0 h2]
      rfl
    · exfalso; omega

theorem hcarry0_12 (c : Dev nD) : ∀ (t : Fin cfg0.N) (_ : t.val ≠ 0), cfg0.idle 12 (grid0.coords t) = true → cfg0.fresh 12 t.val = false →
    (dats m 0 c).after 12 t = (dats m 0 c).after 12 ⟨t.val - 1, by omega⟩ := by
  intro t _ hi _
  have hN : t.val < 33 := lt_of_lt_of_eq t.isLt (show cfg0.N = 33 from N_0)
  rw [after0_12, after0_12]
  by_cases h0 : t.val < 32
  · by_cases h1 : t.val % 4 = 0
    · by_cases h2 : t.val % 33 = 32
      · exfalso; omega
      · rw [liveAt0_12_A t ((hcond0_0 t).mpr h0) ((hcond0_1 t).mpr h1) (fun h => h2 ((hcond0_2 t).mp h))] at hi
        exact absurd hi Bool.false_ne_true
    · by_cases h2 : t.val % 33 = 32
      · exfalso; omega
      · rw [liveAt0_12_B t ((hcond0_0 t).mpr h0) (fun h => h1 ((hcond0_1 t).mp h)) (fun h => h2 ((hcond0_2 t).mp h))] at hi
        exact absurd hi Bool.false_ne_true
  · by_cases h2 : t.val % 33 = 32
    · rw [outsAt0_C m c t h0 h2]
      rfl
    · exfalso; omega
theorem before0_11_C (c : Dev nD) (t : Fin cfg0.N) (h0 : ¬t.val < 32) (h2 : t.val % 33 = 32) (d) :
    (dats m 0 c).before 11 t d = (outsAt0 m c (t.val - 1) (Nat.lt_of_le_of_lt (Nat.sub_le _ _) t.isLt)).1 := by
  rw [Dat.before_out_traj _ 11 rfl (fun _ _ => rfl) (hcarry0_11 m c) t.val t rfl d,
    if_neg (by rw [notFresh0_11_C t (fun h => h0 ((hcond0_0 t).mp h)) ((hcond0_2 t).mpr h2)]; exact Bool.false_ne_true)]
  dsimp only [dats]
theorem before0_12_C (c : Dev nD) (t : Fin cfg0.N) (h0 : ¬t.val < 32) (h2 : t.val % 33 = 32) (d) :
    (dats m 0 c).before 12 t d = (outsAt0 m c (t.val - 1) (Nat.lt_of_le_of_lt (Nat.sub_le _ _) t.isLt)).2.1 := by
  rw [Dat.before_out_traj _ 12 rfl (fun _ _ => rfl) (hcarry0_12 m c) t.val t rfl d,
    if_neg (by rw [notFresh0_12_C t (fun h => h0 ((hcond0_0 t).mp h)) ((hcond0_2 t).mpr h2)]; exact Bool.false_ne_true)]
  dsimp only [dats]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t)

set_option maxHeartbeats 19200000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).owesAt () t.succ = (dats m 0 c).owesAt () t.castSucc from rfl]
  rw [show (dats m 0 c).Φ t.succ = PhiS m c (t.val + 1) t.isLt from rfl, PhiS_succ]
  have hN : t.val < 33 := lt_of_lt_of_eq t.isLt (show cfg0.N = 33 from N_0)
  by_cases h0 : t.val < 32
  · by_cases h1 : t.val % 4 = 0
    · by_cases h2 : t.val % 33 = 32
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 8 t = owns (c : Thread nD τ) (ms0_8 t) fullShare ((dats m 0 c).after 8 t) from by
      unfold Dat.leavesExact; rw [liveAt0_8 t], after0_8]
        rw [show (dats m 0 c).leavesExact 9 t = owns (c : Thread nD τ) (ms0_9 t) fullShare ((dats m 0 c).after 9 t) from by
      unfold Dat.leavesExact; rw [liveAt0_9 t], after0_9]
        rw [show (dats m 0 c).leavesExact 10 t = owns (c : Thread nD τ) (ms0_10 t) fullShare ((dats m 0 c).after 10 t) from by
      unfold Dat.leavesExact; rw [liveAt0_10 t], after0_10]
        rw [show (dats m 0 c).leavesExact 11 t = owns (c : Thread nD τ) (ms0_11 t) fullShare ((dats m 0 c).after 11 t) from by
      unfold Dat.leavesExact; rw [liveAt0_11_A t ((hcond0_0 t).mpr h0) ((hcond0_1 t).mpr h1) (fun h => h2 ((hcond0_2 t).mp h))], after0_11]
        rw [show (dats m 0 c).leavesExact 12 t = owns (c : Thread nD τ) (ms0_12 t) fullShare ((dats m 0 c).after 12 t) from by
      unfold Dat.leavesExact; rw [liveAt0_12_A t ((hcond0_0 t).mpr h0) ((hcond0_1 t).mpr h1) (fun h => h2 ((hcond0_2 t).mp h))], after0_12]
        rw [Dat.leavesExact_idle (dats m 0 c) 13 t (idleAt0_13_A t ((hcond0_0 t).mpr h0) ((hcond0_1 t).mpr h1) (fun h => h2 ((hcond0_2 t).mp h))) (noFlush0_13_A t ((hcond0_0 t).mpr h0) ((hcond0_1 t).mpr h1) (fun h => h2 ((hcond0_2 t).mp h)))]
        rw [Dat.leavesExact_idle (dats m 0 c) 14 t (idleAt0_14_A t ((hcond0_0 t).mpr h0) ((hcond0_1 t).mpr h1) (fun h => h2 ((hcond0_2 t).mp h))) (noFlush0_14_A t ((hcond0_0 t).mpr h0) ((hcond0_1 t).mpr h1) (fun h => h2 ((hcond0_2 t).mp h)))]
        rw [show (dats m 0 c).leavesExact 15 t = owns (c : Thread nD τ) (ms0_15 t) fullShare ((dats m 0 c).after 15 t) from by
      unfold Dat.leavesExact; rw [liveAt0_15 t], after0_15]
        rw [show (dats m 0 c).leavesExact 16 t = owns (c : Thread nD τ) (ms0_16 t) fullShare ((dats m 0 c).after 16 t) from by
      unfold Dat.leavesExact; rw [liveAt0_16 t], after0_16]
        by_cases hz : t.val = 0
        · rw [PhiS_castSucc m c t, PhiS_zero m c _ _ hz, PhiA0_eq]
          rw [outsAt0_A m c t h0 h1 h2]
          unfold out0_A_11 out0_A_12 out0_A_15 out0_A_16 sout0_A_0; (try dsimp only)
          iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
          iapply ((kernelRun0_A c (grid0.coords t) _ _ _ _ _ _ _ _ _ _ _ _ _ _ _ _ _ _ _ _ _ _ _ _ _ _ _ _ _ _ _ _ _ _ _ _ ((hcond0_0 t).mpr h0) ((hcond0_1 t).mpr h1) (fun h => h2 ((hcond0_2 t).mp h)) (iblk m c 0 t) (iblk m c 1 t) (iblk m c 2 t) (X0_3 m c t) (iblk m c 4 t) (iblk m c 5 t) (iblk m c 6 t) (iblk m c 7 t) (iblk m c 8 t) (iblk m c 9 t) (iblk m c 10 t)).2.2.2.2.2.2.2 _ _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexists _; iexact H11
          isplitl [H12]; · iexists _; iexact H12
          isplitl [H13]; · iexact H13
          isplitl [H14]; · iexact H14
          isplitl [H15]; · iexists _; iexact H15
          isplitl [H16]; · iexists _; iexact H16
          isplitl [HS0]; · iexact HS0
          iintro ⟨H0, H1, H2, H3, H4, H5, H6, H7, H8, H9, H10, ⟨%e11, H11⟩, ⟨%e12, H12⟩, H13, H14, ⟨%e15, H15⟩, ⟨%e16, H16⟩, ⟨%es0, HS0⟩⟩
          isplitl [HS0 Hg]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]
          · unfold owns; iexists _; isplitr
            swap; · iexact H11
            ipureintro; exact View.read_writes_of_cover _ _ _ _ _ (cover0_A_11 c _ _ _ _ _ _ _ _ _ _ _ _ _ _ _ _ _ _ _ _ _ _ _ _ _ _ _ _ _ _ _ _ _ _ _ _ _ _ _ _ _ _ _ _ _ _ _ _ _ _ _)
          isplitl [H12]
          · unfold owns; iexists _; isplitr
            swap; · iexact H12
            ipureintro; exact View.read_writes_of_cover _ _ _ _ _ (cover0_A_12 c _ _ _ _ _ _ _ _ _ _ _ _ _ _ _ _ _ _ _ _ _ _ _ _ _ _ _ _ _ _ _ _ _ _ _ _ _ _ _ _ _ _ _ _ _ _ _ _ _ _ _)
          isplitl [H13]; · iexists _; iexact H13
          isplitl [H14]; · iexists _; iexact H14
          isplitl [H15]
          · unfold owns; iexists _; isplitr
            swap; · iexact H15
            ipureintro; exact View.read_writes_of_cover _ _ _ _ _ (cover0_A_15 c _ _ _ _ _ _ _ _ _ _ _ _ _ _ _ _ _ _ _ _ _ _ _ _ _ _ _ _ _ _ _ _ _ _ _ _ _ _ _ _ _ _ _ _ _ _ _ _ _ _ _)
          unfold owns; iexists _; isplitr
          swap; · iexact H16
          ipureintro; exact View.read_writes_of_cover _ _ _ _ _ (cover0_A_16 c _ _ _ _ _ _ _ _ _ _ _ _ _ _ _ _ _ _ _ _ _ _ _ _ _ _ _ _ _ _ _ _ _ _ _ _ _ _ _ _ _ _ _ _ _ _ _ _ _ _ _)
        · rw [PhiS_castSucc m c t, PhiS_pos m c _ _ hz]
          rw [outsAt0_A m c t h0 h1 h2]
          unfold out0_A_11 out0_A_12 out0_A_15 out0_A_16 sout0_A_0; (try dsimp only)
          iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
          iapply ((kernelRun0_A c (grid0.coords t) _ _ _ _ _ _ _ _ _ _ _ _ _ _ _ _ _ _ _ _ _ _ _ _ _ _ _ _ _ _ _ _ _ _ _ _ ((hcond0_0 t).mpr h0) ((hcond0_1 t).mpr h1) (fun h => h2 ((hcond0_2 t).mp h)) (iblk m c 0 t) (iblk m c 1 t) (iblk m c 2 t) (X0_3 m c t) (iblk m c 4 t) (iblk m c 5 t) (iblk m c 6 t) (iblk m c 7 t) (iblk m c 8 t) (iblk m c 9 t) (iblk m c 10 t)).2.2.2.2.2.2.2 _ _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexists _; iexact H11
          isplitl [H12]; · iexists _; iexact H12
          isplitl [H13]; · iexact H13
          isplitl [H14]; · iexact H14
          isplitl [H15]; · iexists _; iexact H15
          isplitl [H16]; · iexists _; iexact H16
          isplitl [HS0]; · iexists _; iexact HS0
          iintro ⟨H0, H1, H2, H3, H4, H5, H6, H7, H8, H9, H10, ⟨%e11, H11⟩, ⟨%e12, H12⟩, H13, H14, ⟨%e15, H15⟩, ⟨%e16, H16⟩, ⟨%es0, HS0⟩⟩
          isplitl [HS0 Hg]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]
          · unfold owns; iexists _; isplitr
            swap; · iexact H11
            ipureintro; exact View.read_writes_of_cover _ _ _ _ _ (cover0_A_11 c _ _ _ _ _ _ _ _ _ _ _ _ _ _ _ _ _ _ _ _ _ _ _ _ _ _ _ _ _ _ _ _ _ _ _ _ _ _ _ _ _ _ _ _ _ _ _ _ _ _ _)
          isplitl [H12]
          · unfold owns; iexists _; isplitr
            swap; · iexact H12
            ipureintro; exact View.read_writes_of_cover _ _ _ _ _ (cover0_A_12 c _ _ _ _ _ _ _ _ _ _ _ _ _ _ _ _ _ _ _ _ _ _ _ _ _ _ _ _ _ _ _ _ _ _ _ _ _ _ _ _ _ _ _ _ _ _ _ _ _ _ _)
          isplitl [H13]; · iexists _; iexact H13
          isplitl [H14]; · iexists _; iexact H14
          isplitl [H15]
          · unfold owns; iexists _; isplitr
            swap; · iexact H15
            ipureintro; exact View.read_writes_of_cover _ _ _ _ _ (cover0_A_15 c _ _ _ _ _ _ _ _ _ _ _ _ _ _ _ _ _ _ _ _ _ _ _ _ _ _ _ _ _ _ _ _ _ _ _ _ _ _ _ _ _ _ _ _ _ _ _ _ _ _ _)
          unfold owns; iexists _; isplitr
          swap; · iexact H16
          ipureintro; exact View.read_writes_of_cover _ _ _ _ _ (cover0_A_16 c _ _ _ _ _ _ _ _ _ _ _ _ _ _ _ _ _ _ _ _ _ _ _ _ _ _ _ _ _ _ _ _ _ _ _ _ _ _ _ _ _ _ _ _ _ _ _ _ _ _ _)
    · by_cases h2 : t.val % 33 = 32
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 8 t = owns (c : Thread nD τ) (ms0_8 t) fullShare ((dats m 0 c).after 8 t) from by
      unfold Dat.leavesExact; rw [liveAt0_8 t], after0_8]
        rw [show (dats m 0 c).leavesExact 9 t = owns (c : Thread nD τ) (ms0_9 t) fullShare ((dats m 0 c).after 9 t) from by
      unfold Dat.leavesExact; rw [liveAt0_9 t], after0_9]
        rw [show (dats m 0 c).leavesExact 10 t = owns (c : Thread nD τ) (ms0_10 t) fullShare ((dats m 0 c).after 10 t) from by
      unfold Dat.leavesExact; rw [liveAt0_10 t], after0_10]
        rw [show (dats m 0 c).leavesExact 11 t = owns (c : Thread nD τ) (ms0_11 t) fullShare ((dats m 0 c).after 11 t) from by
      unfold Dat.leavesExact; rw [liveAt0_11_B t ((hcond0_0 t).mpr h0) (fun h => h1 ((hcond0_1 t).mp h)) (fun h => h2 ((hcond0_2 t).mp h))], after0_11]
        rw [show (dats m 0 c).leavesExact 12 t = owns (c : Thread nD τ) (ms0_12 t) fullShare ((dats m 0 c).after 12 t) from by
      unfold Dat.leavesExact; rw [liveAt0_12_B t ((hcond0_0 t).mpr h0) (fun h => h1 ((hcond0_1 t).mp h)) (fun h => h2 ((hcond0_2 t).mp h))], after0_12]
        rw [Dat.leavesExact_idle (dats m 0 c) 13 t (idleAt0_13_B t ((hcond0_0 t).mpr h0) (fun h => h1 ((hcond0_1 t).mp h)) (fun h => h2 ((hcond0_2 t).mp h))) (noFlush0_13_B t ((hcond0_0 t).mpr h0) (fun h => h1 ((hcond0_1 t).mp h)) (fun h => h2 ((hcond0_2 t).mp h)))]
        rw [Dat.leavesExact_idle (dats m 0 c) 14 t (idleAt0_14_B t ((hcond0_0 t).mpr h0) (fun h => h1 ((hcond0_1 t).mp h)) (fun h => h2 ((hcond0_2 t).mp h))) (noFlush0_14_B t ((hcond0_0 t).mpr h0) (fun h => h1 ((hcond0_1 t).mp h)) (fun h => h2 ((hcond0_2 t).mp h)))]
        rw [show (dats m 0 c).leavesExact 15 t = owns (c : Thread nD τ) (ms0_15 t) fullShare ((dats m 0 c).after 15 t) from by
      unfold Dat.leavesExact; rw [liveAt0_15 t], after0_15]
        rw [show (dats m 0 c).leavesExact 16 t = owns (c : Thread nD τ) (ms0_16 t) fullShare ((dats m 0 c).after 16 t) from by
      unfold Dat.leavesExact; rw [liveAt0_16 t], after0_16]
        by_cases hz : t.val = 0
        · exfalso; have hN : t.val < 33 := lt_of_lt_of_eq t.isLt (show cfg0.N = 33 from N_0); omega
        · rw [PhiS_castSucc m c t, PhiS_pos m c _ _ hz]
          rw [outsAt0_B m c t h0 h1 h2]
          unfold out0_B_11 out0_B_12 out0_B_15 out0_B_16 sout0_B_0; (try dsimp only)
          iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
          iapply ((kernelRun0_B c (grid0.coords t) _ _ _ _ _ _ _ _ _ _ _ _ _ _ _ _ _ _ _ _ _ _ _ _ _ _ _ _ _ _ _ _ _ _ _ _ ((hcond0_0 t).mpr h0) (fun h => h1 ((hcond0_1 t).mp h)) (fun h => h2 ((hcond0_2 t).mp h)) (iblk m c 0 t) (iblk m c 1 t) (iblk m c 2 t) (X0_3 m c t) (iblk m c 4 t) (iblk m c 5 t) (iblk m c 6 t) (iblk m c 7 t) (iblk m c 8 t) (iblk m c 9 t) (iblk m c 10 t) _).2.2.2.2.2.2.2 _ _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexists _; iexact H11
          isplitl [H12]; · iexists _; iexact H12
          isplitl [H13]; · iexact H13
          isplitl [H14]; · iexact H14
          isplitl [H15]; · iexists _; iexact H15
          isplitl [H16]; · iexists _; iexact H16
          isplitl [HS0]; · iexact HS0
          iintro ⟨H0, H1, H2, H3, H4, H5, H6, H7, H8, H9, H10, ⟨%e11, H11⟩, ⟨%e12, H12⟩, H13, H14, ⟨%e15, H15⟩, ⟨%e16, H16⟩, ⟨%es0, HS0⟩⟩
          isplitl [HS0 Hg]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]
          · unfold owns; iexists _; isplitr
            swap; · iexact H11
            ipureintro; exact View.read_writes_of_cover _ _ _ _ _ (cover0_B_11 c _ _ _ _ _ _ _ _ _ _ _ _ _ _ _ _ _ _ _ _ _ _ _ _ _ _ _ _ _ _ _ _ _ _ _ _ _ _ _ _ _ _ _ _ _ _ _ _ _ _ _ _)
          isplitl [H12]
          · unfold owns; iexists _; isplitr
            swap; · iexact H12
            ipureintro; exact View.read_writes_of_cover _ _ _ _ _ (cover0_B_12 c _ _ _ _ _ _ _ _ _ _ _ _ _ _ _ _ _ _ _ _ _ _ _ _ _ _ _ _ _ _ _ _ _ _ _ _ _ _ _ _ _ _ _ _ _ _ _ _ _ _ _ _)
          isplitl [H13]; · iexists _; iexact H13
          isplitl [H14]; · iexists _; iexact H14
          isplitl [H15]
          · unfold owns; iexists _; isplitr
            swap; · iexact H15
            ipureintro; exact View.read_writes_of_cover _ _ _ _ _ (cover0_B_15 c _ _ _ _ _ _ _ _ _ _ _ _ _ _ _ _ _ _ _ _ _ _ _ _ _ _ _ _ _ _ _ _ _ _ _ _ _ _ _ _ _ _ _ _ _ _ _ _ _ _ _ _)
          unfold owns; iexists _; isplitr
          swap; · iexact H16
          ipureintro; exact View.read_writes_of_cover _ _ _ _ _ (cover0_B_16 c _ _ _ _ _ _ _ _ _ _ _ _ _ _ _ _ _ _ _ _ _ _ _ _ _ _ _ _ _ _ _ _ _ _ _ _ _ _ _ _ _ _ _ _ _ _ _ _ _ _ _ _)
  · by_cases h2 : t.val % 33 = 32
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10 t], after0_10]
      rw [show (dats m 0 c).leavesExact 11 t = owns (c : Thread nD τ) (ms0_11 t) fullShare ((dats m 0 c).after 11 t) from by
      unfold Dat.leavesExact; rw [idleAt0_11_C t (fun h => h0 ((hcond0_0 t).mp h)) ((hcond0_2 t).mpr h2), flushAt0_11_C t (fun h => h0 ((hcond0_0 t).mp h)) ((hcond0_2 t).mpr h2)], after0_11]
      rw [show (dats m 0 c).leavesExact 12 t = owns (c : Thread nD τ) (ms0_12 t) fullShare ((dats m 0 c).after 12 t) from by
      unfold Dat.leavesExact; rw [idleAt0_12_C t (fun h => h0 ((hcond0_0 t).mp h)) ((hcond0_2 t).mpr h2), flushAt0_12_C t (fun h => h0 ((hcond0_0 t).mp h)) ((hcond0_2 t).mpr h2)], after0_12]
      rw [show (dats m 0 c).leavesExact 13 t = owns (c : Thread nD τ) (ms0_13 t) fullShare ((dats m 0 c).after 13 t) from by
      unfold Dat.leavesExact; rw [liveAt0_13_C t (fun h => h0 ((hcond0_0 t).mp h)) ((hcond0_2 t).mpr h2)], after0_13]
      rw [show (dats m 0 c).leavesExact 14 t = owns (c : Thread nD τ) (ms0_14 t) fullShare ((dats m 0 c).after 14 t) from by
      unfold Dat.leavesExact; rw [liveAt0_14_C t (fun h => h0 ((hcond0_0 t).mp h)) ((hcond0_2 t).mpr h2)], after0_14]
      rw [show (dats m 0 c).leavesExact 15 t = owns (c : Thread nD τ) (ms0_15 t) fullShare ((dats m 0 c).after 15 t) from by
      unfold Dat.leavesExact; rw [liveAt0_15 t], after0_15]
      rw [show (dats m 0 c).leavesExact 16 t = owns (c : Thread nD τ) (ms0_16 t) fullShare ((dats m 0 c).after 16 t) from by
      unfold Dat.leavesExact; rw [liveAt0_16 t], after0_16]
      by_cases hz : t.val = 0
      · exfalso; have hN : t.val < 33 := lt_of_lt_of_eq t.isLt (show cfg0.N = 33 from N_0); omega
      · rw [PhiS_castSucc m c t, PhiS_pos m c _ _ hz]
        rw [outsAt0_C m c t h0 h2]
        simp only [before0_11_C m c t h0 h2, before0_12_C m c t h0 h2]
        unfold out0_C_11 out0_C_12 out0_C_13 out0_C_14 out0_C_15 out0_C_16 sout0_C_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
        iapply ((kernelRun0_C c (grid0.coords t) _ _ _ _ _ _ _ _ _ _ _ _ _ _ _ _ _ _ _ _ _ _ _ _ _ _ _ _ _ _ _ _ _ _ _ _ (fun h => h0 ((hcond0_0 t).mp h)) ((hcond0_2 t).mpr h2) (iblk m c 0 t) (iblk m c 1 t) (iblk m c 2 t) (X0_3 m c t) (iblk m c 4 t) (iblk m c 5 t) (iblk m c 6 t) (iblk m c 7 t) (iblk m c 8 t) (iblk m c 9 t) (iblk m c 10 t) _ _ _).2.2.2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexists _; iexact H13
        isplitl [H14]; · iexists _; iexact H14
        isplitl [H15]; · iexists _; iexact H15
        isplitl [H16]; · iexists _; iexact H16
        isplitl [HS0]; · iexact HS0
        iintro ⟨H0, H1, H2, H3, H4, H5, H6, H7, H8, H9, H10, H11, H12, ⟨%e13, H13⟩, ⟨%e14, H14⟩, ⟨%e15, H15⟩, ⟨%e16, H16⟩, HS0⟩
        isplitl [HS0 Hg]
        · isplitl [HS0]
          · iexact HS0
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]
        · unfold owns; iexists _; isplitr
          swap; · iexact H13
          ipureintro; exact View.read_writes_of_cover _ _ _ _ _ (cover0_C_13 c _ _ _ _ _ _ _ _ _ _ _ _ _ _ _ _ _ _ _ _ _ _ _ _ _ _ _ _ _ _ _ _ _ _ _ _ _ _ _ _ _ _ _ _ _ _ _ _ _ _ _ _ _)
        isplitl [H14]
        · unfold owns; iexists _; isplitr
          swap; · iexact H14
          ipureintro; exact View.read_writes_of_cover _ _ _ _ _ (cover0_C_14 c _ _ _ _ _ _ _ _ _ _ _ _ _ _ _ _ _ _ _ _ _ _ _ _ _ _ _ _ _ _ _ _ _ _ _ _ _ _ _ _ _ _ _ _ _ _ _ _ _ _ _ _ _)
        isplitl [H15]
        · unfold owns; iexists _; isplitr
          swap; · iexact H15
          ipureintro; exact View.read_writes_of_cover _ _ _ _ _ (cover0_C_15 c _ _ _ _ _ _ _ _ _ _ _ _ _ _ _ _ _ _ _ _ _ _ _ _ _ _ _ _ _ _ _ _ _ _ _ _ _ _ _ _ _ _ _ _ _ _ _ _ _ _ _ _ _)
        unfold owns; iexists _; isplitr
        swap; · iexact H16
        ipureintro; exact View.read_writes_of_cover _ _ _ _ _ (cover0_C_16 c _ _ _ _ _ _ _ _ _ _ _ _ _ _ _ _ _ _ _ _ _ _ _ _ _ _ _ _ _ _ _ _ _ _ _ _ _ _ _ _ _ _ _ _ _ _ _ _ _ _ _ _ _)
    · exfalso; omega

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 33 := N_0; omega)

/-! ## The run and the frame -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (unchanged m ρ) ((θ_run defs _ _).mono (fun _ h => h.2) (run_main_quiescent m ρ))

end Cert.ConvIdeal.Gen

end
-- ==== Proof.ConvRun.Value.lean ====
/- Each output array after the run, as what the grid points write back. -/
module

public import proofs.«01_k».proof.Proof.ConvRun.Frame
public import Idealize.ShloMosaic.Lib.Pipeline.Value

@[expose] public section

noncomputable section

namespace Cert.ConvIdeal.Value

open Cert.ConvIdeal Cert.ConvIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem flushed11 (c : Dev nD) (t : Fin cfg0.N) :
    (dats m 0 c).flushed 11 t = (cfg0.win 11).cut (grid0.coords t) ((outsAt0 m c t.val t.isLt).1) := by
  show (cfg0.win 11).cut (grid0.coords t) ((dats m 0 c).after 11 t) = _
  rw [after0_11]

theorem flushed12 (c : Dev nD) (t : Fin cfg0.N) :
    (dats m 0 c).flushed 12 t = (cfg0.win 12).cut (grid0.coords t) ((outsAt0 m c t.val t.isLt).2.1) := by
  show (cfg0.win 12).cut (grid0.coords t) ((dats m 0 c).after 12 t) = _
  rw [after0_12]

theorem flushed13 (c : Dev nD) (t : Fin cfg0.N) :
    (dats m 0 c).flushed 13 t = (cfg0.win 13).cut (grid0.coords t) ((outsAt0 m c t.val t.isLt).2.2.1) := by
  show (cfg0.win 13).cut (grid0.coords t) ((dats m 0 c).after 13 t) = _
  rw [after0_13]

theorem flushed14 (c : Dev nD) (t : Fin cfg0.N) :
    (dats m 0 c).flushed 14 t = (cfg0.win 14).cut (grid0.coords t) ((outsAt0 m c t.val t.isLt).2.2.2.1) := by
  show (cfg0.win 14).cut (grid0.coords t) ((dats m 0 c).after 14 t) = _
  rw [after0_14]

theorem flushed15 (c : Dev nD) (t : Fin cfg0.N) :
    (dats m 0 c).flushed 15 t = (cfg0.win 15).cut (grid0.coords t) ((outsAt0 m c t.val t.isLt).2.2.2.2.1) := by
  show (cfg0.win 15).cut (grid0.coords t) ((dats m 0 c).after 15 t) = _
  rw [after0_15]

theorem flushed16 (c : Dev nD) (t : Fin cfg0.N) :
    (dats m 0 c).flushed 16 t = (cfg0.win 16).cut (grid0.coords t) ((outsAt0 m c t.val t.isLt).2.2.2.2.2.1) := by
  show (cfg0.win 16).cut (grid0.coords t) ((dats m 0 c).after 16 t) = _
  rw [after0_16]

theorem post11 (r : PUnit × MemSt nD τ sig (Elt F)) (h : Pipeline.FramePost cfgs (dats m) 0 (V m) r) (c : Dev nD) :
    r.2.mem ((c : Thread nD τ).loc main_v1_0) = (dats m 0 c).arrAt 11 cfg0.N :=
  (h c).1 11

theorem post12 (r : PUnit × MemSt nD τ sig (Elt F)) (h : Pipeline.FramePost cfgs (dats m) 0 (V m) r) (c : Dev nD) :
    r.2.mem ((c : Thread nD τ).loc main_v1_1) = (dats m 0 c).arrAt 12 cfg0.N :=
  (h c).1 12

theorem post13 (r : PUnit × MemSt nD τ sig (Elt F)) (h : Pipeline.FramePost cfgs (dats m) 0 (V m) r) (c : Dev nD) :
    r.2.mem ((c : Thread nD τ).loc main_v1_2) = (dats m 0 c).arrAt 13 cfg0.N :=
  (h c).1 13

theorem post14 (r : PUnit × MemSt nD τ sig (Elt F)) (h : Pipeline.FramePost cfgs (dats m) 0 (V m) r) (c : Dev nD) :
    r.2.mem ((c : Thread nD τ).loc main_v1_3) = (dats m 0 c).arrAt 14 cfg0.N :=
  (h c).1 14

theorem post15 (r : PUnit × MemSt nD τ sig (Elt F)) (h : Pipeline.FramePost cfgs (dats m) 0 (V m) r) (c : Dev nD) :
    r.2.mem ((c : Thread nD τ).loc main_v1_4) = (dats m 0 c).arrAt 15 cfg0.N :=
  (h c).1 15

theorem post16 (r : PUnit × MemSt nD τ sig (Elt F)) (h : Pipeline.FramePost cfgs (dats m) 0 (V m) r) (c : Dev nD) :
    r.2.mem ((c : Thread nD τ).loc main_v1_5) = (dats m 0 c).arrAt 16 cfg0.N :=
  (h c).1 16

theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))

theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).1 6).trans (((dats m 0 c).arrAt_in 6 rfl _).trans ((A_eq m c 6).trans (V_main_arg6 m c)))

theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).1 7).trans (((dats m 0 c).arrAt_in 7 rfl _).trans ((A_eq m c 7).trans (V_main_arg7 m c)))

theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).1 8).trans (((dats m 0 c).arrAt_in 8 rfl _).trans ((A_eq m c 8).trans (V_main_arg8 m c)))

theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).1 9).trans (((dats m 0 c).arrAt_in 9 rfl _).trans ((A_eq m c 9).trans (V_main_arg9 m c)))

theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).1 10).trans (((dats m 0 c).arrAt_in 10 rfl _).trans ((A_eq m c 10).trans (V_main_arg10 m c)))

theorem run_blocks : θ_run defs (onTc (τ := τ) (main (F := F))) ⟨m, fun _ => 0, ρ⟩ fun r => ∀ c : Dev nD,
      r.2.mem ((c : Thread nD τ).loc main_v1_0) = (dats m 0 c).arrAt 11 cfg0.N
      ∧ r.2.mem ((c : Thread nD τ).loc main_v1_1) = (dats m 0 c).arrAt 12 cfg0.N
      ∧ r.2.mem ((c : Thread nD τ).loc main_v1_2) = (dats m 0 c).arrAt 13 cfg0.N
      ∧ r.2.mem ((c : Thread nD τ).loc main_v1_3) = (dats m 0 c).arrAt 14 cfg0.N
      ∧ r.2.mem ((c : Thread nD τ).loc main_v1_4) = (dats m 0 c).arrAt 15 cfg0.N
      ∧ r.2.mem ((c : Thread nD τ).loc main_v1_5) = (dats m 0 c).arrAt 16 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨post11 m r h c,
      post12 m r h c,
      post13 m r h c,
      post14 m r h c,
      post15 m r h c,
      post16 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c⟩)
    (run_main m ρ)

end Cert.ConvIdeal.Value

end
-- ==== Proof.ConvRun.Same.lean ====
/- The program `Conv` and its ideal are the same text: nothing was rewritten. So their bodies, read at the machine's floats, are
   the same programs, and the run proved for one is the run of the other. -/
module

public import proofs.«01_k».proof.Defs
public import proofs.«01_k».proof.Proof.Gen.Conv
public import proofs.«01_k».proof.Proof.ConvRun.Value

@[expose] public section

namespace Cert.Proof

open Idealize.ShloMosaic Idealize.SL.Sem

set_option maxRecDepth 20000

theorem conv_body : @Cert.Conv.cc0_conv Bits _ _ = @Cert.ConvIdeal.cc0_conv Bits _ _ := rfl

set_option maxHeartbeats 4000000 in
theorem conv_defs₀ : @Cert.Conv.defs₀ Bits _ _ = @Cert.ConvIdeal.defs₀ Bits _ _ := by
  unfold Cert.Conv.defs₀ Cert.ConvIdeal.defs₀
  refine congrArg (Defs.onTc (nD := Cert.Conv.nD) (τ := Cert.Conv.τ) (sig := Cert.Conv.sig) (Val := Elt Bits) (Λ := Cert.Conv.Λ₀)) ?_
  funext l a
  obtain ⟨_ | n, hl⟩ := l
  · obtain ⟨t, s⟩ := a
    dsimp only
    rw [conv_body]
    rfl
  · exact absurd hl (Nat.not_lt.2 (Nat.le_add_left _ _))

theorem conv_defs : @Cert.Conv.defs Bits _ _ = @Cert.ConvIdeal.defs Bits _ _ :=
  congrArg (Pipeline.defs (Cert.Conv.pcfgs (F := Bits))) conv_defs₀

theorem conv_frame : Cert.quiescent_Conv := fun m ρ _ => by
  rw [conv_defs]
  exact Cert.ConvIdeal.Gen.frame (F := Bits) m ρ

end Cert.Proof

end
-- ==== Proof.ConvValue.Spec.lean ====
module

public import Idealize.ShloMosaic.Lib.Pipeline.ValueKit
public import Idealize.ShloMosaic.Lib.Pointwise

@[expose] public section
noncomputable section

/-! The layer's rows on the extended reals: the modulated norm of a row, its projections, the gated input of the
short convolution and the residual the mixer leaves. Both programs are read to these. -/
namespace Cert.Layer
open Idealize.ShloMosaic

/-- A vector over the model's 1024 channels. -/
abbrev Row := Fin 1024 → EReal

/-- The reciprocal root mean square of a row, the epsilon inside. -/
def rrms (x : Row) : EReal :=
  Ideal.rsqrt (Ideal.div (∑ j, x j * x j) (Ideal.ofBits .f32 0x44800000#32) + Ideal.ofBits .f32 0x358637BD#32)

/-- The normalised row, scaled by `g`, modulated by `1 + sc` and shifted by `sh`. -/
def modRow (x g sh sc : Row) : Row := fun k =>
  x k * rrms x * g k * (Ideal.ofBits .f32 0x3F800000#32 + sc k) + sh k

/-- One entry of a row times a matrix column. -/
def proj (h : Row) (w : Row) : EReal := ∑ k, h k * w k

/-- Column `o + d` of a matrix with 3072 columns. -/
def col (W : Fin 1024 → Fin 3072 → EReal) (o : ℕ) (ho : o ≤ 2048) (d : Fin 1024) : Row :=
  fun j => W j ⟨o + d.val, by omega⟩

/-- The short convolution's input at a row: the product of the second and the third projection. -/
def gated (h : Row) (W : Fin 1024 → Fin 3072 → EReal) : Row := fun d =>
  proj h (col W 1024 (by omega) d) * proj h (col W 2048 (by omega) d)

/-- What the mixer leaves at a row: the residual plus the gate times the output projection of the first projection
times the three taps of the convolution. -/
def mixed (x ga h : Row) (W : Fin 1024 → Fin 3072 → EReal) (wc : Fin 3 → Row) (Wo : Fin 1024 → Fin 1024 → EReal)
    (u0 u1 u2 : Row) : Row := fun d =>
  x d + ga d * ∑ k, (proj h (col W 0 (by omega) k) * (wc 0 k * u0 k + wc 1 k * u1 k + wc 2 k * u2 k)) * Wo k d

/-- The gated rows of a prompt sequence with two rows of zeros in front. -/
def front (u : Fin 2048 → Row) (n : Fin 2050) : Row :=
  if h : n.val < 2 then fun _ => 0 else u ⟨n.val - 2, by omega⟩

/-- The rows of the sample block: step `t`, lane `l`. -/
abbrev srow (t : Fin 4) (l : Fin 128) : Fin 512 := ⟨128 * t.val + l.val, by omega⟩

/-- The gated rows of a sample sequence with the two remembered rows `p`, `q` in front. -/
def seq (p q : Row) (u : Fin 4 → Row) (n : Fin 6) : Row :=
  if n.val = 0 then p else if n.val = 1 then q else u ⟨n.val - 2, by omega⟩

theorem front_add (u : Fin 2048 → Row) (n : Fin 2050) (s : Fin 2048) (h : n.val = s.val + 2) : front u n = u s := by
  rw [front, dif_neg (Nat.not_lt.mpr (by omega))]
  exact congrArg u (Fin.ext (Nat.sub_eq_of_eq_add h))

theorem front_zero (u : Fin 2048 → Row) (n : Fin 2050) (h : n.val < 2) : front u n = fun _ => 0 := by
  rw [front, dif_pos h]

theorem seq_add (p q : Row) (u : Fin 4 → Row) (n : Fin 6) (t : Fin 4) (h : n.val = t.val + 2) : seq p q u n = u t := by
  rw [seq, if_neg (fun e => by omega), if_neg (fun e => by omega)]
  exact congrArg u (Fin.ext (Nat.sub_eq_of_eq_add h))

/-- The row `n` rows above row `r` of a tile, the rows above the tile being `c0` and `c1` (the last two). -/
def shifted (c0 c1 : Row) (u : Fin 512 → Row) (n : ℕ) (r : Fin 512) : Row :=
  if h : n ≤ r.val then u ⟨r.val - n, by omega⟩ else if r.val + 2 = n then c0 else c1

/-- The rows above a row of tile `q` are the rows of the sequence with two zero rows in front. -/
theorem shifted_front (u : Fin 2048 → Row) (q : ℕ) (hq : q < 4) (c0 c1 : Row) (v : Fin 512 → Row)
    (hv : ∀ r, v r = u ⟨512 * q + r.val, by omega⟩) (h0 : c0 = front u ⟨512 * q, by omega⟩) (h1 : c1 = front u ⟨512 * q + 1, by omega⟩)
    (n : ℕ) (hn : n = 1 ∨ n = 2) (r : Fin 512) : shifted c0 c1 v n r = front u ⟨512 * q + r.val + 2 - n, by omega⟩ := by
  unfold shifted
  by_cases a : n ≤ r.val
  · rw [dif_pos a, hv]
    exact (front_add u _ _ (by simp; omega)).symm
  · rw [dif_neg a]
    by_cases b : r.val + 2 = n
    · rw [if_pos b, h0]
      exact congrArg _ (Fin.ext (by simp; omega))
    · rw [if_neg b, h1]
      exact congrArg _ (Fin.ext (by simp; omega))

end Cert.Layer
end
-- ==== Proof.ConvValue.Pay.lean ====
module

public import proofs.«01_k».proof.Proof.ConvValue.Spec
public import proofs.«01_k».proof.Proof.Gen.ConvIdeal.Skeleton
public import Idealize.ShloMosaic.Lib.WordCmp

@[expose] public section
set_option maxRecDepth 16384
noncomputable section
namespace Cert.ConvValue
open Cert.ConvIdeal Cert.ConvIdeal.Gen Idealize.ShloMosaic Idealize.ShloMosaic.TcCoe Idealize.SL.Sem Cert.Layer

theorem pay15_at (x : FVec Ideal S1x512x1024 .f32) (g : FVec Ideal S1x1024 .f32) (sh sc : FVec Ideal S1x1x1x1024 .f32)
    (r : Fin 512) (k : Fin 1024) :
    (k0_pay15 (k0_pay11 sh) (k0_pay12 sc) (k0_pay13 x g) (k0_pay14 (F := Ideal)) (ix2 r k) : EReal)
      = modRow (fun k => x (ix3 0 r k)) (fun k => g (ix2 0 k)) (fun k => sh (ix4 0 0 0 k)) (fun k => sc (ix4 0 0 0 k)) k := by
  pointwise [k0_pay10, k0_pay11, k0_pay12, k0_pay13, k0_pay14, k0_pay15, modRow, rrms]

theorem pay16_at (a b : FVec Ideal S1024x1024 .bf16) (v32 v34 v47 : FVec Ideal S1x1024 .f32)
    (v46 : FVec Ideal S512x1024 .f32) (r : Fin 512) (k : Fin 1024) :
    (k0_pay16 v32 v34 v46 v47 a b (ix2 r k) : EReal)
      = proj (fun j => k0_pay15 v32 v34 v46 v47 (ix2 r j)) (fun j => a (ix2 j k))
        * proj (fun j => k0_pay15 v32 v34 v46 v47 (ix2 r j)) (fun j => b (ix2 j k)) := by
  pointwise [k0_pay16, proj]

theorem pay17_at (a b : FVec Ideal S1024x1024 .bf16) (v32 v34 v47 : FVec Ideal S1x1024 .f32)
    (v46 : FVec Ideal S512x1024 .f32) (c0 c1 w0 w1 : FVec Ideal S1x1024 .f32) (r : Fin 512) (k : Fin 1024) :
    (k0_pay17 v32 v34 v46 v47 a b c0 c1 w0 w1 (ix2 r k) : EReal)
      = w0 (ix2 0 k) * shifted (fun k => c0 (ix2 0 k)) (fun k => c1 (ix2 0 k)) (fun r k => k0_pay16 v32 v34 v46 v47 a b (ix2 r k)) 2 r k
        + w1 (ix2 0 k) * shifted (fun k => c0 (ix2 0 k)) (fun k => c1 (ix2 0 k)) (fun r k => k0_pay16 v32 v34 v46 v47 a b (ix2 r k)) 1 r k := by
  pointwise [k0_pay17]
  rw [WordCmp.cmpi_eq_ofNat (a := r.val) (b := 0) (w := 32) (by omega) (by omega),
    WordCmp.cmpi_eq_ofNat (a := r.val) (b := 1) (w := 32) (by omega) (by omega)]
  unfold shifted
  have e2 : 2 ≤ r.val → (r.val + 512 - 2) % 512 = r.val - 2 := by omega
  have e1 : 1 ≤ r.val → (r.val + 512 - 1) % 512 = r.val - 1 := by omega
  by_cases a0 : r.val = 0
  · simp [a0, Scalar.select]
  by_cases a1 : r.val = 1
  · simp [a1, Scalar.select]
  · have b2 : 2 ≤ r.val := by omega
    have b1 : 1 ≤ r.val := by omega
    simp only [a0, a1, b1, b2, e1 b1, e2 b2, Scalar.select]
    rfl

theorem pay3_at (x : FVec Ideal S1x512x1024 .f32) (h : FVec Ideal S512x1024 .bf16) (u y : FVec Ideal S512x1024 .f32)
    (w2 : FVec Ideal S1x1024 .f32) (Wg Wo : FVec Ideal S1024x1024 .bf16) (ga : FVec Ideal S1x1x1x1024 .f32)
    (r : Fin 512) (d : Fin 1024) :
    (k0_pay3 (k0_pay10 x) h u y w2 Wg ga Wo (ix3 0 r d) : EReal)
      = x (ix3 0 r d) + ga (ix4 0 0 0 d) * ∑ k, (proj (fun j => h (ix2 r j)) (fun j => Wg (ix2 j k)) * (y (ix2 r k) + w2 (ix2 0 k) * u (ix2 r k))) * Wo (ix2 k d) := by
  pointwise [k0_pay3, k0_pay10, proj]

theorem pay4_at (u : FVec Ideal S512x1024 .f32) (r : Fin 2) (d : Fin 1024) :
    (k0_pay4 u (ix2 r d) : EReal) = u (ix2 ⟨510 + r.val, by omega⟩ d) := by
  pointwise [k0_pay4]

theorem pay5_at (u : FVec Ideal S512x1024 .f32) (r : Fin 2) (d : Fin 1024) :
    (k0_pay5 u (ix3 0 r d) : EReal) = u (ix2 ⟨510 + r.val, by omega⟩ d) := by
  pointwise [k0_pay5]

theorem pay24_at (x : FVec Ideal S1x512x1024 .f32) (g : FVec Ideal S1x1024 .f32) (sh sc : FVec Ideal S1x1x128x1024 .f32)
    (t : Fin 4) (l : Fin 128) (k : Fin 1024) :
    (k0_pay24 (F := Ideal) (k0_pay18 x) (k0_pay19 sh) (k0_pay20 sc) (k0_pay21 x sh sc g) (k0_pay22 g) (k0_pay23 x) g g (ix2 (srow t l) k) : EReal)
      = modRow (fun k => x (ix3 0 (srow t l) k)) (fun k => g (ix2 0 k)) (fun k => sh (ix4 0 0 l k)) (fun k => sc (ix4 0 0 l k)) k := by
  pointwise [k0_pay18, k0_pay19, k0_pay20, k0_pay21, k0_pay22, k0_pay23, k0_pay24, modRow, rrms]
  have := t.isLt
  have := l.isLt
  split_ifs <;> blk_point [srow]

theorem pay25_at (h : FVec Ideal S512x1024 .bf16) (a b : FVec Ideal S1024x1024 .bf16) (r : Fin 512) (k : Fin 1024) :
    (k0_pay25 h a b (ix2 r k) : EReal)
      = proj (fun j => h (ix2 r j)) (fun j => a (ix2 j k)) * proj (fun j => h (ix2 r j)) (fun j => b (ix2 j k)) := by
  pointwise [k0_pay25, proj]

theorem pay33_at (h : FVec Ideal S512x1024 .bf16) (a b Wg Wo : FVec Ideal S1024x1024 .bf16) (p q : FVec Ideal S1x128x1024 .f32)
    (w0 w1 w2 : FVec Ideal S1x1024 .f32) (t : Fin 4) (l : Fin 128) (d : Fin 1024) (u : Fin 4 → Row)
    (hu : ∀ t k, k0_pay25 h a b (ix2 (srow t l) k) = u t k) :
    (k0_pay33 h (k0_pay27 h a b) (k0_pay28 h a b) (k0_pay29 h a b) (k0_pay30 h a b) (k0_pay31 h a b p q w0 w1 w2)
        (k0_pay32 h a b q w0 w1 w2) w0 w1 w2 w0 w1 w2 Wg Wo (ix2 (srow t l) d) : EReal)
      = ∑ k, (proj (fun j => h (ix2 (srow t l) j)) (fun j => Wg (ix2 j k))
          * (w0 (ix2 0 k) * seq (fun k => p (ix3 0 l k)) (fun k => q (ix3 0 l k)) u ⟨t.val, by omega⟩ k
            + w1 (ix2 0 k) * seq (fun k => p (ix3 0 l k)) (fun k => q (ix3 0 l k)) u ⟨t.val + 1, by omega⟩ k
            + w2 (ix2 0 k) * seq (fun k => p (ix3 0 l k)) (fun k => q (ix3 0 l k)) u ⟨t.val + 2, by omega⟩ k)) * Wo (ix2 k d) := by
  pointwise [k0_pay26, k0_pay27, k0_pay28, k0_pay29, k0_pay30, k0_pay31, k0_pay32, k0_pay33, proj]
  refine Finset.sum_congr rfl fun k _ => ?_
  have hl := l.isLt
  have hs : ∀ (n : ℕ) (hn : n < 512) (t : Fin 4), n = 128 * t.val + l.val → k0_pay25 h a b (ix2 ⟨n, hn⟩ k) = u t k := by
    rintro n hn t rfl
    exact hu t k
  obtain ⟨t, ht⟩ := t
  congr 2
  have e : t = 0 ∨ t = 1 ∨ t = 2 ∨ t = 3 := by omega
  rcases e with rfl | rfl | rfl | rfl
  · rw [dif_pos (by simp)]
    rw [hs _ _ 0 (by simp)]
    simp [seq]
  · rw [dif_neg (by simp), dif_pos (by simp)]
    rw [hs _ _ 0 (by simp), hs _ _ 1 (by simp)]
    simp [seq]
  · rw [dif_neg (by simp; omega), dif_neg (by simp; omega), dif_pos (by simp; omega)]
    rw [hs _ _ 0 (by simp; omega), hs _ _ 1 (by simp; omega), hs _ _ 2 (by simp; omega)]
    simp [seq]
  · rw [dif_neg (by simp; omega), dif_neg (by simp; omega), dif_neg (by simp; omega)]
    rw [hs _ _ 1 (by simp; omega), hs _ _ 2 (by simp; omega), hs _ _ 3 (by simp; omega)]
    simp [seq]

theorem pay6_at (x : FVec Ideal S1x512x1024 .f32) (h : FVec Ideal S512x1024 .bf16) (v107 v108 v109 v110 v121 v132 : FVec Ideal S128x1024 .f32)
    (w0 w1 w2 w3 w4 w5 : FVec Ideal S1x1024 .f32) (Wg Wo : FVec Ideal S1024x1024 .bf16) (G : FVec Ideal S1x1x128x1024 .f32)
    (t : Fin 4) (l : Fin 128) (d : Fin 1024) (y : FVec Ideal S512x1024 .f32)
    (hy : k0_pay33 h v107 v108 v109 v110 v121 v132 w0 w1 w2 w3 w4 w5 Wg Wo = y) :
    (k0_pay6 (k0_pay18 x) (k0_pay33 h v107 v108 v109 v110 v121 v132 w0 w1 w2 w3 w4 w5 Wg Wo) (k0_pay34 G)
        (k0_pay35 (k0_pay18 x) h v107 v108 v109 v110 v121 v132 w0 w1 w2 w3 w4 w5 Wg Wo G)
        (k0_pay36 (k0_pay18 x) h v107 v108 v109 v110 v121 v132 w0 w1 w2 w3 w4 w5 Wg Wo G) (k0_pay37 (k0_pay18 x)) (ix3 0 (srow t l) d) : EReal)
      = x (ix3 0 (srow t l) d) + G (ix4 0 0 l d) * y (ix2 (srow t l) d) := by
  unfold k0_pay35 k0_pay36
  simp only [hy]
  clear hy
  pointwise [k0_pay6, k0_pay18, k0_pay34, k0_pay37]
  have := t.isLt
  have := l.isLt
  split_ifs <;> blk_point [srow]

theorem pay78_at (v : FVec Ideal S128x1024 .f32) (l : Fin 128) (d : Fin 1024) :
    (k0_pay7 v (ix3 0 l d) : EReal) = v (ix2 l d) ∧ (k0_pay8 v (ix3 0 l d) : EReal) = v (ix2 l d) := by
  constructor <;> pointwise [k0_pay7, k0_pay8]

theorem pay2930_at (h : FVec Ideal S512x1024 .bf16) (a b : FVec Ideal S1024x1024 .bf16) (l : Fin 128) (d : Fin 1024) :
    (k0_pay29 h a b (ix2 l d) : EReal) = k0_pay25 h a b (ix2 (srow 2 l) d)
      ∧ (k0_pay30 h a b (ix2 l d) : EReal) = k0_pay25 h a b (ix2 (srow 3 l) d) := by
  constructor <;> pointwise [k0_pay29, k0_pay30, srow]

end Cert.ConvValue
end
-- ==== Proof.ConvValue.Ref.lean ====
module

public import proofs.«01_k».proof.Proof.ConvValue.Spec
public import proofs.«01_k».proof.Proof.Gen.ConvRefIdeal.Read
public import Idealize.ShloMosaic.Lib.Pointwise

@[expose] public section
set_option maxRecDepth 16384
noncomputable section
namespace Cert.ConvRefValue
open Cert.ConvRefIdeal Cert.ConvRefIdeal.Read Idealize.ShloMosaic Idealize.ShloMosaic.TcCoe Idealize.SL.Sem Cert.Layer

/-- The modulated row `s` of prompt sequence `b`. -/
def hP (x0 : (⟨S8x2048x1024, .f32⟩ : BufTy).Contents (Elt Ideal)) (x1 : (⟨S8x6x1x1024, .f32⟩ : BufTy).Contents (Elt Ideal)) (x4 : (⟨S1024, .f32⟩ : BufTy).Contents (Elt Ideal)) (b : Fin 8) (s : Fin 2048) : Row :=
  modRow (fun k => x0 (ix3 b s k)) (fun k => x4 (ix1 k)) (fun k => x1 (ix4 b 0 0 k)) (fun k => x1 (ix4 b 1 0 k))

/-- The gated row `s` of prompt sequence `b`. -/
def uP (x0 : (⟨S8x2048x1024, .f32⟩ : BufTy).Contents (Elt Ideal)) (x1 : (⟨S8x6x1x1024, .f32⟩ : BufTy).Contents (Elt Ideal)) (x4 : (⟨S1024, .f32⟩ : BufTy).Contents (Elt Ideal)) (x5 : (⟨S1024x3072, .bf16⟩ : BufTy).Contents (Elt Ideal)) (b : Fin 8) (s : Fin 2048) : Row :=
  gated (hP x0 x1 x4 b s) (fun j c => x5 (ix2 j c))

/-- The modulated row of step `t` of sample sequence `l`. -/
def hS (x2 : (⟨S1x512x1024, .f32⟩ : BufTy).Contents (Elt Ideal)) (x3 : (⟨S2x6x136x1024, .f32⟩ : BufTy).Contents (Elt Ideal)) (x4 : (⟨S1024, .f32⟩ : BufTy).Contents (Elt Ideal)) (l : Fin 128) (t : Fin 4) : Row :=
  modRow (fun k => x2 (ix3 0 (srow t l) k)) (fun k => x4 (ix1 k))
    (fun k => x3 (ix4 1 0 ⟨l.val, by omega⟩ k)) (fun k => x3 (ix4 1 1 ⟨l.val, by omega⟩ k))

/-- The gated row of step `t` of sample sequence `l`. -/
def uS (x2 : (⟨S1x512x1024, .f32⟩ : BufTy).Contents (Elt Ideal)) (x3 : (⟨S2x6x136x1024, .f32⟩ : BufTy).Contents (Elt Ideal)) (x4 : (⟨S1024, .f32⟩ : BufTy).Contents (Elt Ideal)) (x5 : (⟨S1024x3072, .bf16⟩ : BufTy).Contents (Elt Ideal)) (l : Fin 128) (t : Fin 4) : Row :=
  gated (hS x2 x3 x4 l t) (fun j c => x5 (ix2 j c))

theorem v27_at (x0 : (⟨S8x2048x1024, .f32⟩ : BufTy).Contents (Elt Ideal)) (x1 : (⟨S8x6x1x1024, .f32⟩ : BufTy).Contents (Elt Ideal)) (x4 : (⟨S1024, .f32⟩ : BufTy).Contents (Elt Ideal)) (b : Fin 8) (s : Fin 2048) (k : Fin 1024) :
    (val_main_v27 x0 x1 x4 (ix3 b s k) : EReal) = hP x0 x1 x4 b s k := by
  pointwise [val_main_v2, val_main_v3, val_main_v4, val_main_v5, val_main_v6, val_main_v7, val_main_cst, val_main_v8, val_main_v9, val_main_cst_0, val_main_v10, val_main_v11, val_main_cst_1, val_main_v12, val_main_v13, val_main_v14, val_main_v15, val_main_v16, val_main_v17, val_main_v18, val_main_v19, val_main_v20, val_main_cst_2, val_main_v21, val_main_v22, val_main_v23, val_main_v24, val_main_v25, val_main_v26, val_main_v27, hP, modRow, rrms]

theorem v33_at (x0 : (⟨S8x2048x1024, .f32⟩ : BufTy).Contents (Elt Ideal)) (x1 : (⟨S8x6x1x1024, .f32⟩ : BufTy).Contents (Elt Ideal)) (x4 : (⟨S1024, .f32⟩ : BufTy).Contents (Elt Ideal)) (x5 : (⟨S1024x3072, .bf16⟩ : BufTy).Contents (Elt Ideal)) (b : Fin 8) (s : Fin 2048) (k : Fin 1024) :
    (val_main_v33 x0 x1 x4 x5 (ix3 b s k) : EReal) = uP x0 x1 x4 x5 b s k := by
  pointwise [val_main_v0, val_main_v29, val_main_v30, val_main_v31, val_main_v32, val_main_v33, uP, gated, proj, col]
  simp only [v27_at]

theorem v34_at (x0 : (⟨S8x2048x1024, .f32⟩ : BufTy).Contents (Elt Ideal)) (x1 : (⟨S8x6x1x1024, .f32⟩ : BufTy).Contents (Elt Ideal)) (x4 : (⟨S1024, .f32⟩ : BufTy).Contents (Elt Ideal)) (x5 : (⟨S1024x3072, .bf16⟩ : BufTy).Contents (Elt Ideal)) (b : Fin 8) (n : Fin 2050) (k : Fin 1024) :
    (val_main_v34 x0 x1 x4 x5 (ix3 b n k) : EReal) = front (uP x0 x1 x4 x5 b) n k := by
  pointwise [val_main_cst_3, val_main_v28, val_main_v34]
  unfold front
  by_cases h : n.val < 2
  · rw [dif_pos h, dif_pos h]
  · rw [dif_neg h, dif_neg h, v33_at]

theorem v63_at (x0 : (⟨S8x2048x1024, .f32⟩ : BufTy).Contents (Elt Ideal)) (x1 : (⟨S8x6x1x1024, .f32⟩ : BufTy).Contents (Elt Ideal)) (x4 : (⟨S1024, .f32⟩ : BufTy).Contents (Elt Ideal)) (x5 : (⟨S1024x3072, .bf16⟩ : BufTy).Contents (Elt Ideal)) (x6 : (⟨S3x1024, .f32⟩ : BufTy).Contents (Elt Ideal)) (x7 : (⟨S1024x1024, .bf16⟩ : BufTy).Contents (Elt Ideal)) (b : Fin 8) (s : Fin 2048) (d : Fin 1024) :
    (val_main_v63 x0 x1 x4 x5 x6 x7 (ix3 b s d) : EReal)
      = mixed (fun k => x0 (ix3 b s k)) (fun k => x1 (ix4 b 2 0 k)) (hP x0 x1 x4 b s) (fun j c => x5 (ix2 j c))
          (fun n k => x6 (ix2 n k)) (fun j c => x7 (ix2 j c)) (front (uP x0 x1 x4 x5 b) ⟨s.val, by omega⟩)
          (front (uP x0 x1 x4 x5 b) ⟨s.val + 1, by omega⟩) (front (uP x0 x1 x4 x5 b) ⟨s.val + 2, by omega⟩) d := by
  pointwise [val_main_v0, val_main_v1, val_main_v2, val_main_v29, val_main_v30, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v58, val_main_v59, val_main_v60, val_main_v61, val_main_v62, val_main_v63, mixed, proj, col]
  simp only [v27_at, v34_at]
  simp only [Nat.add_comm 1, Nat.add_comm 2]

theorem v57_at (x0 : (⟨S8x2048x1024, .f32⟩ : BufTy).Contents (Elt Ideal)) (x1 : (⟨S8x6x1x1024, .f32⟩ : BufTy).Contents (Elt Ideal)) (x4 : (⟨S1024, .f32⟩ : BufTy).Contents (Elt Ideal)) (x5 : (⟨S1024x3072, .bf16⟩ : BufTy).Contents (Elt Ideal)) (b : Fin 8) (n : Fin 2) (d : Fin 1024) :
    (val_main_v57 x0 x1 x4 x5 (ix3 b n d) : EReal) = uP x0 x1 x4 x5 b ⟨2046 + n.val, by omega⟩ d := by
  refine Eq.trans (b := (val_main_v34 x0 x1 x4 x5 (ix3 b ⟨2048 + n.val, by omega⟩ d) : EReal)) ?_ ?_
  · pointwise [val_main_v57]
  · rw [v34_at, front_add _ _ ⟨2046 + n.val, by omega⟩ (by simp; omega)]

theorem v94_at (x2 : (⟨S1x512x1024, .f32⟩ : BufTy).Contents (Elt Ideal)) (x3 : (⟨S2x6x136x1024, .f32⟩ : BufTy).Contents (Elt Ideal)) (x4 : (⟨S1024, .f32⟩ : BufTy).Contents (Elt Ideal)) (l : Fin 128) (t : Fin 4) (k : Fin 1024) :
    (val_main_v94 x2 x3 x4 (ix3 l t k) : EReal) = hS x2 x3 x4 l t k := by
  pointwise [val_main_v64, val_main_v65, val_main_v66, val_main_v67, val_main_v68, val_main_v69, val_main_v70, val_main_v71, val_main_v72, val_main_v73, val_main_v74, val_main_cst_4, val_main_v75, val_main_v76, val_main_cst_5, val_main_v77, val_main_v78, val_main_cst_6, val_main_v79, val_main_v80, val_main_v81, val_main_v82, val_main_v83, val_main_v84, val_main_v85, val_main_v86, val_main_v87, val_main_cst_7, val_main_v88, val_main_v89, val_main_v90, val_main_v91, val_main_v92, val_main_v93, val_main_v94, hS, modRow, rrms]
  have e : (⟨t.val * 128 + l.val, by omega⟩ : Fin 512) = srow t l := Fin.ext (by simp [srow]; omega)
  simp only [e]

theorem v100_at (x2 : (⟨S1x512x1024, .f32⟩ : BufTy).Contents (Elt Ideal)) (x3 : (⟨S2x6x136x1024, .f32⟩ : BufTy).Contents (Elt Ideal)) (x4 : (⟨S1024, .f32⟩ : BufTy).Contents (Elt Ideal)) (x5 : (⟨S1024x3072, .bf16⟩ : BufTy).Contents (Elt Ideal)) (l : Fin 128) (t : Fin 4) (k : Fin 1024) :
    (val_main_v100 x2 x3 x4 x5 (ix3 l t k) : EReal) = uS x2 x3 x4 x5 l t k := by
  pointwise [val_main_v0, val_main_v96, val_main_v97, val_main_v98, val_main_v99, val_main_v100, uS, gated, proj, col]
  simp only [v94_at]

theorem v101_at (x2 : (⟨S1x512x1024, .f32⟩ : BufTy).Contents (Elt Ideal)) (x3 : (⟨S2x6x136x1024, .f32⟩ : BufTy).Contents (Elt Ideal)) (x4 : (⟨S1024, .f32⟩ : BufTy).Contents (Elt Ideal)) (x5 : (⟨S1024x3072, .bf16⟩ : BufTy).Contents (Elt Ideal)) (x8 : (⟨S2x128x1024, .f32⟩ : BufTy).Contents (Elt Ideal)) (l : Fin 128) (n : Fin 6) (k : Fin 1024) :
    (val_main_v101 x2 x3 x4 x5 x8 (ix3 l n k) : EReal)
      = seq (fun k => x8 (ix3 0 l k)) (fun k => x8 (ix3 1 l k)) (uS x2 x3 x4 x5 l) n k := by
  pointwise [val_main_v95, val_main_v101]
  unfold seq
  simp only [v100_at]
  obtain ⟨n, hn⟩ := n
  by_cases a : n = 0
  · subst a
    simp
  by_cases b : n = 1
  · subst b
    simp
  · simp [a, b, show ¬ n < 2 by omega]

theorem v132_at (x2 : (⟨S1x512x1024, .f32⟩ : BufTy).Contents (Elt Ideal)) (x3 : (⟨S2x6x136x1024, .f32⟩ : BufTy).Contents (Elt Ideal)) (x4 : (⟨S1024, .f32⟩ : BufTy).Contents (Elt Ideal)) (x5 : (⟨S1024x3072, .bf16⟩ : BufTy).Contents (Elt Ideal)) (x6 : (⟨S3x1024, .f32⟩ : BufTy).Contents (Elt Ideal)) (x7 : (⟨S1024x1024, .bf16⟩ : BufTy).Contents (Elt Ideal)) (x8 : (⟨S2x128x1024, .f32⟩ : BufTy).Contents (Elt Ideal)) (l : Fin 128) (t : Fin 4) (d : Fin 1024) :
    (val_main_v132 x2 x3 x4 x5 x6 x7 x8 (ix3 0 (srow t l) d) : EReal)
      = mixed (fun k => x2 (ix3 0 (srow t l) k)) (fun k => x3 (ix4 1 2 ⟨l.val, by omega⟩ k)) (hS x2 x3 x4 l t) (fun j c => x5 (ix2 j c))
          (fun n k => x6 (ix2 n k)) (fun j c => x7 (ix2 j c))
          (seq (fun k => x8 (ix3 0 l k)) (fun k => x8 (ix3 1 l k)) (uS x2 x3 x4 x5 l) ⟨t.val, by omega⟩)
          (seq (fun k => x8 (ix3 0 l k)) (fun k => x8 (ix3 1 l k)) (uS x2 x3 x4 x5 l) ⟨t.val + 1, by omega⟩)
          (seq (fun k => x8 (ix3 0 l k)) (fun k => x8 (ix3 1 l k)) (uS x2 x3 x4 x5 l) ⟨t.val + 2, by omega⟩) d := by
  pointwise [val_main_v0, val_main_v1, val_main_v64, val_main_v65, val_main_v66, val_main_v67, val_main_v68, val_main_v69, val_main_v96, val_main_v97, val_main_v102, val_main_v103, val_main_v104, val_main_v105, val_main_v106, val_main_v107, val_main_v108, val_main_v109, val_main_v110, val_main_v111, val_main_v112, val_main_v113, val_main_v114, val_main_v115, val_main_v116, val_main_v117, val_main_v118, val_main_v119, val_main_v120, val_main_v121, val_main_v122, val_main_v123, val_main_v125, val_main_v126, val_main_v127, val_main_v128, val_main_v129, val_main_v130, val_main_v131, val_main_v132, mixed, proj, col]
  simp only [v94_at, v101_at]
  have e1 : (128 * t.val + l.val) / 128 = t.val := by omega
  have e2 : (128 * t.val + l.val) % 128 = l.val := by omega
  have e3 : (⟨t.val * 128 + l.val, by omega⟩ : Fin 512) = srow t l := Fin.ext (by simp [srow]; omega)
  simp only [e1, e2, e3, Nat.add_comm 1, Nat.add_comm 2, Fin.eta]

theorem v133_at (x2 : (⟨S1x512x1024, .f32⟩ : BufTy).Contents (Elt Ideal)) (x3 : (⟨S2x6x136x1024, .f32⟩ : BufTy).Contents (Elt Ideal)) (x4 : (⟨S1024, .f32⟩ : BufTy).Contents (Elt Ideal)) (x5 : (⟨S1024x3072, .bf16⟩ : BufTy).Contents (Elt Ideal)) (x8 : (⟨S2x128x1024, .f32⟩ : BufTy).Contents (Elt Ideal)) (n : Fin 2) (l : Fin 128) (d : Fin 1024) :
    (val_main_v133 x2 x3 x4 x5 x8 (ix3 n l d) : EReal) = uS x2 x3 x4 x5 l ⟨2 + n.val, by omega⟩ d := by
  pointwise [val_main_v124, val_main_v133]
  rw [v101_at, seq_add _ _ _ _ ⟨2 + n.val, by omega⟩ (by simp; omega)]

end Cert.ConvRefValue
-- ==== Proof.ConvValue.Final.lean ====
module

public import proofs.«01_k».proof.Proof.ConvValue.Pay
public import proofs.«01_k».proof.Proof.ConvValue.Ref
public import proofs.«01_k».proof.Proof.ConvRun.Frame
public import Idealize.ShloMosaic.Lib.Pipeline.ValueKit
public import Idealize.ShloMosaic.Lib.Pointwise

@[expose] public section
set_option maxRecDepth 16384
noncomputable section
namespace Cert.ConvValue
open Cert.ConvIdeal Cert.ConvIdeal.Gen Idealize.ShloMosaic Idealize.ShloMosaic.TcCoe Idealize.SL.Sem Cert.Layer Cert.ConvRefValue

variable (m : (ℓ : Loc nD τ sig) → Buf (Elt Ideal) ℓ) (c : Dev nD)

theorem idx0 : ∀ t : Fin cfg0.N, win0_0.index t = ![(min t.val 31) / 4, (min t.val 31) % 4, 0] ∧ win0_1.index t = ![(min t.val 31) / 4, 0, 0, 0]
    ∧ win0_11.index t = ![(min t.val 31) / 4, (min t.val 31) % 4, 0] ∧ win0_12.index t = ![(min t.val 31) / 4, 0, 0] :=
  (by decide +kernel : ∀ t : Fin grid0.N, _)

theorem idx1 : ∀ t : Fin cfg0.N, win0_2.index t = ![0, 0, 0] ∧ win0_3.index t = ![1, 0, 0, 0]
    ∧ win0_4.index t = ![0, 0] ∧ win0_5.index t = ![0, 0] ∧ win0_6.index t = ![0, 0] ∧ win0_7.index t = ![0, 0] ∧ win0_8.index t = ![0, 0, 0]
    ∧ win0_13.index t = ![0, 0, 0] ∧ win0_14.index t = ![0, 0, 0] :=
  (by decide +kernel : ∀ t : Fin grid0.N, _)

theorem idx2 : ∀ t : Fin cfg0.N, win0_9.index t = ![1, min t.val 31, 0] ∧ win0_10.index t = ![1, min t.val 31, 0]
    ∧ win0_15.index t = ![min t.val 31, 0] ∧ win0_16.index t = ![min t.val 31, 0] :=
  (by decide +kernel : ∀ t : Fin grid0.N, _)

/-- The arguments read as arrays. -/
abbrev a0 : FVec Ideal S8x2048x1024 .f32 := m ((c.tc : Thread nD τ).loc main_arg0)
abbrev a1 : FVec Ideal S8x6x1x1024 .f32 := m ((c.tc : Thread nD τ).loc main_arg1)
abbrev a2 : FVec Ideal S1x512x1024 .f32 := m ((c.tc : Thread nD τ).loc main_arg2)
abbrev a3 : FVec Ideal S2x6x136x1024 .f32 := m ((c.tc : Thread nD τ).loc main_arg3)
abbrev a4 : FVec Ideal S1024 .f32 := m ((c.tc : Thread nD τ).loc main_arg4)
abbrev a5 : FVec Ideal S1024x3072 .bf16 := m ((c.tc : Thread nD τ).loc main_arg5)
abbrev a6 : FVec Ideal S3x1024 .f32 := m ((c.tc : Thread nD τ).loc main_arg6)
abbrev a7 : FVec Ideal S1024x1024 .bf16 := m ((c.tc : Thread nD τ).loc main_arg7)
abbrev a8 : FVec Ideal S2x128x1024 .f32 := m ((c.tc : Thread nD τ).loc main_arg8)

theorem rd0 (t : Fin cfg0.N) (ht : t.val < 32) (r : Fin 512) (k : Fin 1024) :
    (iblk m c 0 t (ix3 0 r k) : EReal) = a0 m c (ix3 ⟨t.val / 4, by omega⟩ ⟨512 * (t.val % 4) + r.val, by omega⟩ k) := by
  have e : min t.val 31 = t.val := by omega
  blk_simp [iblk, idx0 t, e]
  entry_read
  blk_ext [idx0 t, e]

theorem rd1 (t : Fin cfg0.N) (ht : t.val < 32) (j : Fin 6) (k : Fin 1024) :
    (iblk m c 1 t (ix4 0 j 0 k) : EReal) = a1 m c (ix4 ⟨t.val / 4, by omega⟩ j 0 k) := by
  have e : min t.val 31 = t.val := by omega
  blk_simp [iblk, idx0 t, e]
  entry_read
  blk_ext [idx0 t, e]

theorem rd2 (t : Fin cfg0.N) (r : Fin 512) (k : Fin 1024) :
    (iblk m c 2 t (ix3 0 r k) : EReal) = a2 m c (ix3 0 r k) := by
  blk_simp [iblk, idx1 t]
  entry_read
  blk_ext [idx1 t]

theorem rd3 (t : Fin cfg0.N) (j : Fin 6) (l : Fin 128) (k : Fin 1024) :
    (X0_3 m c t (ix4 0 j l k) : EReal) = a3 m c (ix4 1 j ⟨l.val, by omega⟩ k) := by
  unfold X0_3 Pipeline.Window.fill
  rw [dif_pos (moved0_3 t _)]
  blk_simp [iblk, idx1 t]
  entry_read
  blk_ext [idx1 t]

theorem rd4 (t : Fin cfg0.N) (k : Fin 1024) :
    (iblk m c 4 t (ix2 0 k) : EReal) = a4 m c (ix1 k) := by
  blk_simp [iblk, idx1 t]
  entry_read
  refine Eq.trans (b := (shapeCast S1x1024 (a4 m c) shapeCasts_S1024_S1x1024 (ix2 0 k) : EReal)) ?_ ?_
  · blk_ext [idx1 t]
  · pointwise []

theorem rd5 (t : Fin cfg0.N) (j : Fin 1024) (k : Fin 3072) :
    (iblk m c 5 t (ix2 j k) : EReal) = a5 m c (ix2 j k) := by
  blk_simp [iblk, idx1 t]
  entry_read
  blk_ext [idx1 t]

theorem rd6 (t : Fin cfg0.N) (j : Fin 3) (k : Fin 1024) :
    (iblk m c 6 t (ix2 j k) : EReal) = a6 m c (ix2 j k) := by
  blk_simp [iblk, idx1 t]
  entry_read
  blk_ext [idx1 t]

theorem rd7 (t : Fin cfg0.N) (j : Fin 1024) (k : Fin 1024) :
    (iblk m c 7 t (ix2 j k) : EReal) = a7 m c (ix2 j k) := by
  blk_simp [iblk, idx1 t]
  entry_read
  blk_ext [idx1 t]

theorem rd8 (t : Fin cfg0.N) (j : Fin 2) (l : Fin 128) (k : Fin 1024) :
    (iblk m c 8 t (ix3 j l k) : EReal) = a8 m c (ix3 j l k) := by
  blk_simp [iblk, idx1 t]
  entry_read
  blk_ext [idx1 t]

/-- The modulated rows of prompt tile `t`. -/
def hT (t : Fin cfg0.N) : FVec Ideal S512x1024 .bf16 :=
  k0_pay15 (k0_pay11 (View.ld (iblk m c 1 t) (Rect.unit ![0, 0, 0, 0] ![1, 1, 1, 1024] inb_S1x6x1x1024_S1x1x1x1024_0_0_0_0)))
    (k0_pay12 (View.ld (iblk m c 1 t) (Rect.unit ![0, 1, 0, 0] ![1, 1, 1, 1024] inb_S1x6x1x1024_S1x1x1x1024_0_1_0_0)))
    (k0_pay13 (iblk m c 0 t) (iblk m c 4 t)) (k0_pay14 (F := Ideal))

/-- The gated rows of prompt tile `t`. -/
def uT (t : Fin cfg0.N) : FVec Ideal S512x1024 .f32 :=
  k0_pay16 (k0_pay11 (View.ld (iblk m c 1 t) (Rect.unit ![0, 0, 0, 0] ![1, 1, 1, 1024] inb_S1x6x1x1024_S1x1x1x1024_0_0_0_0)))
    (k0_pay12 (View.ld (iblk m c 1 t) (Rect.unit ![0, 1, 0, 0] ![1, 1, 1, 1024] inb_S1x6x1x1024_S1x1x1x1024_0_1_0_0)))
    (k0_pay13 (iblk m c 0 t) (iblk m c 4 t)) (k0_pay14 (F := Ideal))
    (View.ld (iblk m c 5 t) (Rect.unit ![0, 1024] ![1024, 1024] inb_S1024x3072_S1024x1024_0_1024))
    (View.ld (iblk m c 5 t) (Rect.unit ![0, 2048] ![1024, 1024] inb_S1024x3072_S1024x1024_0_2048))

abbrev HP (b : Fin 8) (s : Fin 2048) : Row := hP (a0 m c) (a1 m c) (a4 m c) b s
abbrev UP (b : Fin 8) (s : Fin 2048) : Row := uP (a0 m c) (a1 m c) (a4 m c) (a5 m c) b s

theorem hT_at (t : Fin cfg0.N) (ht : t.val < 32) (r : Fin 512) (k : Fin 1024) :
    (hT m c t (ix2 r k) : EReal) = HP m c ⟨t.val / 4, by omega⟩ ⟨512 * (t.val % 4) + r.val, by omega⟩ k := by
  unfold hT HP hP
  rw [pay15_at]
  simp only [rd0 m c t ht, rd4 m c t]
  pointwise []
  simp only [rd1 m c t ht]

theorem uT_at (t : Fin cfg0.N) (ht : t.val < 32) (r : Fin 512) (k : Fin 1024) :
    (uT m c t (ix2 r k) : EReal) = UP m c ⟨t.val / 4, by omega⟩ ⟨512 * (t.val % 4) + r.val, by omega⟩ k := by
  unfold uT UP uP gated
  rw [pay16_at]
  have := fun k => hT_at m c t ht r k
  unfold hT at this
  simp only [this]
  pointwise [proj, col]
  simp only [rd5 m c t]

theorem scr (t : Fin cfg0.N) (h0 : t.val < 32) : (outsAt0 m c t.val t.isLt).2.2.2.2.2.2 = k0_pay4 (uT m c t) := by
  have h2 : ¬ t.val % 33 = 32 := by omega
  unfold uT
  by_cases h1 : t.val % 4 = 0
  · rw [outsAt0_A m c t h0 h1 h2]; frame_out; rfl
  · rw [outsAt0_B m c t h0 h1 h2]; frame_out; rfl

theorem out12 (t : Fin cfg0.N) (h0 : t.val < 32) : (outsAt0 m c t.val t.isLt).2.1 = k0_pay5 (uT m c t) := by
  have h2 : ¬ t.val % 33 = 32 := by omega
  unfold uT
  by_cases h1 : t.val % 4 = 0
  · rw [outsAt0_A m c t h0 h1 h2]; frame_out; rfl
  · rw [outsAt0_B m c t h0 h1 h2]; frame_out; rfl

theorem tile11 (t : Fin cfg0.N) (h0 : t.val < 32) (r : Fin 512) (d : Fin 1024) (c0 c1 : FVec Ideal S1x1024 .f32)
    (e0 : (fun k => (c0 (ix2 0 k) : EReal)) = front (UP m c ⟨t.val / 4, by omega⟩) ⟨512 * (t.val % 4), by omega⟩)
    (e1 : (fun k => (c1 (ix2 0 k) : EReal)) = front (UP m c ⟨t.val / 4, by omega⟩) ⟨512 * (t.val % 4) + 1, by omega⟩) :
    (k0_pay3 (k0_pay10 (iblk m c 0 t)) (hT m c t) (uT m c t)
      (k0_pay17 (k0_pay11 (View.ld (iblk m c 1 t) (Rect.unit ![0, 0, 0, 0] ![1, 1, 1, 1024] inb_S1x6x1x1024_S1x1x1x1024_0_0_0_0)))
        (k0_pay12 (View.ld (iblk m c 1 t) (Rect.unit ![0, 1, 0, 0] ![1, 1, 1, 1024] inb_S1x6x1x1024_S1x1x1x1024_0_1_0_0)))
        (k0_pay13 (iblk m c 0 t) (iblk m c 4 t)) (k0_pay14 (F := Ideal))
        (View.ld (iblk m c 5 t) (Rect.unit ![0, 1024] ![1024, 1024] inb_S1024x3072_S1024x1024_0_1024))
        (View.ld (iblk m c 5 t) (Rect.unit ![0, 2048] ![1024, 1024] inb_S1024x3072_S1024x1024_0_2048)) c0 c1
        (View.ld (iblk m c 6 t) (Rect.unit ![0, 0] ![1, 1024] inb_S3x1024_S1x1024_0_0))
        (View.ld (iblk m c 6 t) (Rect.unit ![1, 0] ![1, 1024] inb_S3x1024_S1x1024_1_0)))
      (View.ld (iblk m c 6 t) (Rect.unit ![2, 0] ![1, 1024] inb_S3x1024_S1x1024_2_0))
      (View.ld (iblk m c 5 t) (Rect.unit ![0, 0] ![1024, 1024] inb_S1024x3072_S1024x1024_0_0))
      (View.ld (iblk m c 1 t) (Rect.unit ![0, 2, 0, 0] ![1, 1, 1, 1024] inb_S1x6x1x1024_S1x1x1x1024_0_2_0_0))
      (iblk m c 7 t) (ix3 0 r d) : EReal)
    = (Cert.ConvRefIdeal.Read.val_main_v63 (F := Ideal) (a0 m c) (a1 m c) (a4 m c) (a5 m c) (a6 m c) (a7 m c)
      (ix3 ⟨t.val / 4, by omega⟩ ⟨512 * (t.val % 4) + r.val, by omega⟩ d) : EReal) := by
  rw [pay3_at, v63_at]
  have hv : ∀ r : Fin 512, (fun k => (uT m c t (ix2 r k) : EReal)) = UP m c ⟨t.val / 4, by omega⟩ ⟨512 * (t.val % 4) + r.val, by omega⟩ :=
    fun r => funext fun k => uT_at m c t h0 r k
  have key := shifted_front (UP m c ⟨t.val / 4, by omega⟩) (t.val % 4) (by omega) _ _ _ hv e0 e1
  unfold uT at key
  unfold mixed
  simp only [pay17_at, key _ (Or.inl rfl), key _ (Or.inr rfl), hT_at m c t h0, uT_at m c t h0, rd0 m c t h0, rd7]
  rw [front_add _ ⟨512 * (t.val % 4) + r.val + 2, by omega⟩ ⟨512 * (t.val % 4) + r.val, by omega⟩ rfl]
  pointwise [proj, col]
  simp only [rd1 m c t h0, rd5, rd6, Nat.add_sub_cancel, show ∀ a : ℕ, a + 2 - 1 = a + 1 from fun _ => rfl]

theorem canon_zero (w : FVec Ideal S2x1024 .f32) :
    View.canon [(⟨Rect.unit ![0, 0] ![2, 1024] inb_S2x1024_S2x1024_0_0, w⟩ : View.Piece (Elt Ideal) S2x1024 .f32)] = w := by
  frame_out

theorem carry_zero (w : FVec Ideal S2x1024 .f32) (r : Rect S2x1024) :
    (View.whole cc0_scratch0).readCov [(⟨Rect.unit ![0, 0] ![2, 1024] inb_S2x1024_S2x1024_0_0, w⟩ : View.Piece (Elt Ideal) S2x1024 .f32)] r.toLoadRect
      = View.ld w r := by
  unfold View.readCov
  rw [View.readAt_eq_ld]
  rw [View.read_writes_junk_eq_canon]
  exact congrArg (fun z => View.ld z r) (canon_zero w)

theorem out11 (t : Fin cfg0.N) (h0 : t.val < 32) (r : Fin 512) (d : Fin 1024) :
    ((outsAt0 m c t.val t.isLt).1 (ix3 0 r d) : EReal) = (Cert.ConvRefIdeal.Read.val_main_v63 (F := Ideal) (a0 m c) (a1 m c) (a4 m c) (a5 m c) (a6 m c) (a7 m c)
      (ix3 ⟨t.val / 4, by omega⟩ ⟨512 * (t.val % 4) + r.val, by omega⟩ d) : EReal) := by
  have h2 : ¬ t.val % 33 = 32 := by omega
  by_cases h1 : t.val % 4 = 0
  · rw [outsAt0_A m c t h0 h1 h2]; frame_out
    rw [carry_zero, carry_zero]
    refine tile11 m c t h0 r d _ _ ?_ ?_
    · rw [front_zero _ _ (by simp; omega)]
      pointwise [k0_pay9]
    · rw [front_zero _ _ (by simp; omega)]
      pointwise [k0_pay9]
  · rw [outsAt0_B m c t h0 h1 h2]; frame_out
    erw [Memref.IsWhole.read_unread]
    have hs := scr m c ⟨t.val - 1, by omega⟩ (by simp; omega)
    have hu := uT_at m c ⟨t.val - 1, by omega⟩ (by simp; omega)
    dsimp only at hs hu
    rw [hs]
    have eb : (t.val - 1) / 4 = t.val / 4 := by omega
    refine tile11 m c t h0 r d _ _ ?_ ?_
    · funext k
      refine Eq.trans (b := (k0_pay4 (uT m c ⟨t.val - 1, by omega⟩) (ix2 0 k) : EReal)) ?_ ?_
      · pointwise []
      · rw [pay4_at, hu, front_add _ _ ⟨512 * ((t.val - 1) % 4) + 510, by omega⟩ (by simp; omega)]
        simp only [eb]
        rfl
    · funext k
      refine Eq.trans (b := (k0_pay4 (uT m c ⟨t.val - 1, by omega⟩) (ix2 1 k) : EReal)) ?_ ?_
      · pointwise []
      · rw [pay4_at, hu, front_add _ _ ⟨512 * ((t.val - 1) % 4) + 511, by omega⟩ (by simp; omega)]
        simp only [eb]
        rfl

/-- The modulated rows of the sample block. -/
def hB (t : Fin cfg0.N) : FVec Ideal S512x1024 .bf16 :=
  k0_pay24 (F := Ideal) (k0_pay18 (iblk m c 2 t))
    (k0_pay19 (View.ld (X0_3 m c t) (Rect.unit ![0, 0, 0, 0] ![1, 1, 128, 1024] inb_S1x6x128x1024_S1x1x128x1024_0_0_0_0)))
    (k0_pay20 (View.ld (X0_3 m c t) (Rect.unit ![0, 1, 0, 0] ![1, 1, 128, 1024] inb_S1x6x128x1024_S1x1x128x1024_0_1_0_0)))
    (k0_pay21 (iblk m c 2 t) (View.ld (X0_3 m c t) (Rect.unit ![0, 0, 0, 0] ![1, 1, 128, 1024] inb_S1x6x128x1024_S1x1x128x1024_0_0_0_0))
      (View.ld (X0_3 m c t) (Rect.unit ![0, 1, 0, 0] ![1, 1, 128, 1024] inb_S1x6x128x1024_S1x1x128x1024_0_1_0_0)) (iblk m c 4 t))
    (k0_pay22 (iblk m c 4 t)) (k0_pay23 (iblk m c 2 t)) (iblk m c 4 t) (iblk m c 4 t)

abbrev WB (t : Fin cfg0.N) : FVec Ideal S1024x1024 .bf16 :=
  View.ld (iblk m c 5 t) (Rect.unit ![0, 1024] ![1024, 1024] inb_S1024x3072_S1024x1024_0_1024)
abbrev WC (t : Fin cfg0.N) : FVec Ideal S1024x1024 .bf16 :=
  View.ld (iblk m c 5 t) (Rect.unit ![0, 2048] ![1024, 1024] inb_S1024x3072_S1024x1024_0_2048)

abbrev US (l : Fin 128) (t : Fin 4) : Row := uS (a2 m c) (a3 m c) (a4 m c) (a5 m c) l t

theorem hB_at (t : Fin cfg0.N) (q : Fin 4) (l : Fin 128) (k : Fin 1024) :
    (hB m c t (ix2 (srow q l) k) : EReal) = hS (a2 m c) (a3 m c) (a4 m c) l q k := by
  unfold hB hS
  rw [pay24_at]
  simp only [rd2 m c t, rd4 m c t]
  pointwise []
  simp only [rd3 m c t]

theorem uB_at (t : Fin cfg0.N) (q : Fin 4) (l : Fin 128) (k : Fin 1024) :
    (k0_pay25 (hB m c t) (WB m c t) (WC m c t) (ix2 (srow q l) k) : EReal) = US m c l q k := by
  unfold US uS gated
  rw [pay25_at]
  simp only [hB_at]
  pointwise [WB, WC, proj, col]
  simp only [rd5 m c t]

theorem out13 (t : Fin cfg0.N) (h0 : ¬ t.val < 32) (h2 : t.val % 33 = 32) (q : Fin 4) (l : Fin 128) (d : Fin 1024) :
    ((outsAt0 m c t.val t.isLt).2.2.1 (ix3 0 (srow q l) d) : EReal)
      = (Cert.ConvRefIdeal.Read.val_main_v132 (F := Ideal) (a2 m c) (a3 m c) (a4 m c) (a5 m c) (a6 m c) (a7 m c) (a8 m c) (ix3 0 (srow q l) d) : EReal) := by
  rw [outsAt0_C m c t h0 h2]; frame_out
  rw [v132_at]
  refine (pay6_at (iblk m c 2 t) (hB m c t) _ _ _ _ _ _ _ _ _ _ _ _ _ _ _ q l d _ rfl).trans ?_
  have e := pay33_at (hB m c t) (WB m c t) (WC m c t)
    (View.ld (iblk m c 5 t) (Rect.unit ![0, 0] ![1024, 1024] inb_S1024x3072_S1024x1024_0_0)) (iblk m c 7 t)
    (View.ld (iblk m c 8 t) (Rect.unit ![0, 0, 0] ![1, 128, 1024] inb_S2x128x1024_S1x128x1024_0_0_0))
    (View.ld (iblk m c 8 t) (Rect.unit ![1, 0, 0] ![1, 128, 1024] inb_S2x128x1024_S1x128x1024_1_0_0))
    (View.ld (iblk m c 6 t) (Rect.unit ![0, 0] ![1, 1024] inb_S3x1024_S1x1024_0_0))
    (View.ld (iblk m c 6 t) (Rect.unit ![1, 0] ![1, 1024] inb_S3x1024_S1x1024_1_0))
    (View.ld (iblk m c 6 t) (Rect.unit ![2, 0] ![1, 1024] inb_S3x1024_S1x1024_2_0))
    q l d (US m c l) (fun q k => uB_at m c t q l k)
  refine (congrArg (fun z : EReal => _ + _ * z) e).trans ?_
  simp only [hB_at, rd2, rd7]
  pointwise [mixed, proj, col]
  simp only [rd3, rd5, rd6, rd8]

theorem canon14 (u v : FVec Ideal S128x1024 .f32) (n : Fin 2) (l : Fin 128) (d : Fin 1024) :
    (View.canon [(⟨Rect.unit ![1, 0, 0] ![1, 128, 1024] inb_S2x128x1024_S1x128x1024_1_0_0, k0_pay8 v⟩ : View.Piece (Elt Ideal) S2x128x1024 .f32),
      ⟨Rect.unit ![0, 0, 0] ![1, 128, 1024] inb_S2x128x1024_S1x128x1024_0_0_0, k0_pay7 u⟩] (ix3 n l d) : EReal)
      = if n.val = 0 then u (ix2 l d) else v (ix2 l d) := by
  have at_ix : ∀ x : S1x128x1024.Idx, (l.val : ℕ) = (x 1).val → (d.val : ℕ) = (x 2).val → x = ix3 0 l d := fun x e1 e2 => by
    rw [eq_ix3 x]
    congr 1
    · exact Subsingleton.elim (α := Fin 1) _ _
    · exact Fin.ext e1.symm
    · exact Fin.ext e2.symm
  canon_tiles
  · rw [at_ix x h1 h2, (pay78_at v l d).2, if_neg (fun e => by have : (n.val : ℕ) = 1 + (x 0).val := h0; omega)]
  · rw [at_ix x h1 h2, (pay78_at u l d).1, if_pos (by have : (n.val : ℕ) = (x 0).val := h0; omega)]

theorem out14 (t : Fin cfg0.N) (h0 : ¬ t.val < 32) (h2 : t.val % 33 = 32) (n : Fin 2) (l : Fin 128) (d : Fin 1024) :
    ((outsAt0 m c t.val t.isLt).2.2.2.1 (ix3 n l d) : EReal)
      = (Cert.ConvRefIdeal.Read.val_main_v133 (F := Ideal) (a2 m c) (a3 m c) (a4 m c) (a5 m c) (a8 m c) (ix3 n l d) : EReal) := by
  rw [outsAt0_C m c t h0 h2]; frame_out
  rw [v133_at]
  refine Eq.trans (b := ((if n.val = 0 then k0_pay29 (hB m c t) (WB m c t) (WC m c t) (ix2 l d)
    else k0_pay30 (hB m c t) (WB m c t) (WC m c t) (ix2 l d)) : EReal)) ?_ ?_
  · exact canon14 _ _ n l d
  · rw [(pay2930_at _ _ _ l d).1, (pay2930_at _ _ _ l d).2, uB_at, uB_at]
    by_cases e : n.val = 0
    · rw [if_pos e]
      exact congrArg (fun z => US m c l z d) (Fin.ext (by simp; omega))
    · rw [if_neg e]
      exact congrArg (fun z => US m c l z d) (Fin.ext (by simp; omega))

theorem out15 (t : Fin cfg0.N) : (outsAt0 m c t.val t.isLt).2.2.2.2.1 = k0_pay1 (iblk m c 9 t) := by
  by_cases h0 : t.val < 32
  · have h2 : ¬ t.val % 33 = 32 := by omega
    by_cases h1 : t.val % 4 = 0
    · rw [outsAt0_A m c t h0 h1 h2]; frame_out
    · rw [outsAt0_B m c t h0 h1 h2]; frame_out
  · have h2 : t.val % 33 = 32 := by have := t.isLt; have : cfg0.N = 33 := rfl; omega
    rw [outsAt0_C m c t h0 h2]; frame_out

theorem out16 (t : Fin cfg0.N) : (outsAt0 m c t.val t.isLt).2.2.2.2.2.1 = k0_pay2 (iblk m c 10 t) := by
  by_cases h0 : t.val < 32
  · have h2 : ¬ t.val % 33 = 32 := by omega
    by_cases h1 : t.val % 4 = 0
    · rw [outsAt0_A m c t h0 h1 h2]; frame_out
    · rw [outsAt0_B m c t h0 h1 h2]; frame_out
  · have h2 : t.val % 33 = 32 := by have := t.isLt; have : cfg0.N = 33 := rfl; omega
    rw [outsAt0_C m c t h0 h2]; frame_out

theorem kept11 (t : Fin cfg0.N) (s : Fin cfg0.N) (hs : s.val = min t.val 31) :
    (outsAt0 m c t.val t.isLt).1 = (outsAt0 m c s.val s.isLt).1 ∧ (outsAt0 m c t.val t.isLt).2.1 = (outsAt0 m c s.val s.isLt).2.1 := by
  have hN : cfg0.N = 33 := rfl
  have ht := t.isLt
  obtain ⟨t, h⟩ := t
  obtain ⟨s, h'⟩ := s
  dsimp only at hs ht ⊢
  by_cases h0 : t < 32
  · obtain rfl : s = t := by omega
    exact ⟨rfl, rfl⟩
  · obtain rfl : s = t - 1 := by omega
    rw [outsAt0_C m c ⟨t, h⟩ h0 (by dsimp only; omega)]
    exact ⟨rfl, rfl⟩

theorem fin11 : (dats m 0 c).arrAt 11 cfg0.N
    = Cert.ConvRefIdeal.Read.val_main_v63 (F := Ideal) (a0 m c) (a1 m c) (a4 m c) (a5 m c) (a6 m c) (a7 m c) := by
  refine (dats m 0 c).arrAt_eq_of_covers 11 _ (by decide +kernel) fun t _ y => ?_
  have ht : t.val < 33 := t.isLt
  blk_simp
  rw [after0_11, (kept11 m c t ⟨min t.val 31, by show _ < 33; omega⟩ rfl).1]
  refine Eq.trans ?_ ((out11 m c ⟨min t.val 31, by show _ < 33; omega⟩ (by dsimp only; omega) (y 1) (y 2)).trans ?_)
  · refine congrArg _ ?_
    blk_ext [idx0 t]
  · blk_ext [idx0 t]

theorem last12 : ∀ t : Fin cfg0.N, (cfg0.win 12).flush t = true → min t.val 31 % 4 = 3 :=
  (by decide +kernel : ∀ t : Fin grid0.N, win0_12.flush t = true → min t.val 31 % 4 = 3)

theorem fin12 : (dats m 0 c).arrAt 12 cfg0.N
    = Cert.ConvRefIdeal.Read.val_main_v57 (F := Ideal) (a0 m c) (a1 m c) (a4 m c) (a5 m c) := by
  refine (dats m 0 c).arrAt_eq_of_covers 12 _ (by decide +kernel) fun t hf y => ?_
  have ht : t.val < 33 := t.isLt
  blk_simp
  rw [after0_12, (kept11 m c t ⟨min t.val 31, by show _ < 33; omega⟩ rfl).2]
  have e3 := last12 t hf
  rw [out12 m c ⟨min t.val 31, by show _ < 33; omega⟩ (by dsimp only; omega)]
  refine Eq.trans (b := (k0_pay5 (uT m c ⟨min t.val 31, by show _ < 33; omega⟩) (ix3 0 (y 1) (y 2)) : EReal)) ?_ ?_
  · refine congrArg _ ?_
    blk_ext [idx0 t]
  · refine (pay5_at (uT m c ⟨min t.val 31, by show _ < 33; omega⟩) (y 1) (y 2)).trans
      ((uT_at m c ⟨min t.val 31, by show _ < 33; omega⟩ (by dsimp only; omega) _ (y 2)).trans ?_)
    refine Eq.trans ?_ ((v57_at (a0 m c) (a1 m c) (a4 m c) (a5 m c) ⟨min t.val 31 / 4, by omega⟩ (y 1) (y 2)).symm.trans ?_)
    · refine congrArg (fun z => UP m c ⟨min t.val 31 / 4, by omega⟩ z (y 2)) (Fin.ext ?_)
      show 512 * (min t.val 31 % 4) + (510 + (y 1).val) = 2046 + (y 1).val
      omega
    · blk_ext [idx0 t]

theorem fin13 : (dats m 0 c).arrAt 13 cfg0.N
    = Cert.ConvRefIdeal.Read.val_main_v132 (F := Ideal) (a2 m c) (a3 m c) (a4 m c) (a5 m c) (a6 m c) (a7 m c) (a8 m c) := by
  refine (dats m 0 c).arrAt_eq_of_covers 13 _ (by decide +kernel) fun t hf y => ?_
  have ht : t.val < 33 := t.isLt
  have e32 : t.val = 32 := by have := (flush0_13 t).mp hf; omega
  have hy : (y 1).val < 512 := (y 1).isLt
  blk_simp
  rw [after0_13]
  refine Eq.trans ?_ ((out13 m c t (by omega) (by omega) ⟨(y 1).val / 128, by omega⟩ ⟨(y 1).val % 128, by omega⟩ (y 2)).trans ?_)
  · refine congrArg _ ?_
    blk_ext [idx1 t, srow]
  · blk_ext [idx1 t, srow]

theorem fin14 : (dats m 0 c).arrAt 14 cfg0.N
    = Cert.ConvRefIdeal.Read.val_main_v133 (F := Ideal) (a2 m c) (a3 m c) (a4 m c) (a5 m c) (a8 m c) := by
  refine (dats m 0 c).arrAt_eq_of_covers 14 _ (by decide +kernel) fun t hf y => ?_
  have ht : t.val < 33 := t.isLt
  have e32 : t.val = 32 := by have := (flush0_14 t).mp hf; omega
  blk_simp
  rw [after0_14]
  refine Eq.trans ?_ ((out14 m c t (by omega) (by omega) (y 0) (y 1) (y 2)).trans ?_)
  · refine congrArg _ ?_
    blk_ext [idx1 t]
  · blk_ext [idx1 t]

theorem fin15 : (dats m 0 c).arrAt 15 cfg0.N
    = Cert.ConvRefIdeal.Read.val_main_v136 (F := Ideal) (m ((c.tc : Thread nD τ).loc main_arg9)) := by
  refine (dats m 0 c).arrAt_eq_of_covers 15 _ (by decide +kernel) fun t hf y => ?_
  blk_simp
  rw [after0_15, out15]
  pointwise [k0_pay1, Cert.ConvRefIdeal.Read.val_main_v134, Cert.ConvRefIdeal.Read.val_main_v135, Cert.ConvRefIdeal.Read.val_main_v136]
  blk_point [iblk, V, idx2 t]

theorem fin16 : (dats m 0 c).arrAt 16 cfg0.N
    = Cert.ConvRefIdeal.Read.val_main_v139 (F := Ideal) (m ((c.tc : Thread nD τ).loc main_arg10)) := by
  refine (dats m 0 c).arrAt_eq_of_covers 16 _ (by decide +kernel) fun t hf y => ?_
  blk_simp
  rw [after0_16, out16]
  pointwise [k0_pay2, Cert.ConvRefIdeal.Read.val_main_v137, Cert.ConvRefIdeal.Read.val_main_v138, Cert.ConvRefIdeal.Read.val_main_v139]
  blk_point [iblk, V, idx2 t]

end Cert.ConvValue
-- ==== Proof.MlpRun.Runs.lean ====
/- What the runs of the kernel body share: the branch conditions over the grid points, where the output windows are idle, and the staging memrefs. -/
module

public import proofs.«01_k».proof.Proof.Gen.MlpIdeal.Frame
public import proofs.«01_k».proof.Proof.Gen.MlpIdeal.Launch
public import proofs.«01_k».proof.Proof.Gen.MlpIdeal.Skeleton
public import proofs.«01_k».proof.Proof.Gen.MlpIdeal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

-- the long axes' rectangles are looked at coordinate by coordinate
set_option maxRecDepth 16384

noncomputable section

namespace Cert.MlpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

abbrev cond0_0 (i : grid0.Coords) : Prop := k0_cond1 i = 1#1
theorem hcond0_0 : ∀ t : Fin cfg0.N, cond0_0 (grid0.coords t) ↔ t.val < 32 :=
  (by decide +kernel : ∀ t : Fin grid0.N, cond0_0 (grid0.coords t) ↔ t.val < 32)

abbrev cond0_1 (i : grid0.Coords) : Prop := k0_cond2 i = 1#1
theorem hcond0_1 : ∀ t : Fin cfg0.N, cond0_1 (grid0.coords t) ↔ t.val % 33 = 32 :=
  (fun t => by
    have ht : t.val < 33 := Nat.lt_of_lt_of_eq t.isLt N_0
    have e0 : (grid0.coords t 0).val = t.val / 1 % 33 := Pipeline.Grid.coords_val t 0 (by decide) rfl
    simp only [cond0_1, k0_cond2, e0]
    word_cmp
   : ∀ t : Fin grid0.N, cond0_1 (grid0.coords t) ↔ t.val % 33 = 32)

/-! ## Where the windows are idle (the printed configuration's table `Cfg.idle`) -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem liveAt0_7 : ∀ t : Fin cfg0.N, cfg0.idle 7 (grid0.coords t) = false := fun _ => rfl
def freshTab0_8 : ℕ → Bool
  | 0 => true
  | n + 1 => (0x17fffffff : ℕ).testBit n
theorem freshTab0_8_step : ∀ t : Fin cfg0.N,
    freshTab0_8 (t.val + 1) = ((cfg0.win 8).flush t || (cfg0.idle 8 (cfg0.grid.coords t) && freshTab0_8 t.val)) := by decide +kernel
theorem fresh0_8_eq (t : Fin cfg0.N) : cfg0.fresh 8 t.val = freshTab0_8 t.val :=
  Pipeline.Cfg.fresh_tab cfg0 8 freshTab0_8 rfl freshTab0_8_step t.val (Nat.le_of_lt t.isLt)
theorem liveAt0_8_A : ∀ t : Fin cfg0.N, cond0_0 (grid0.coords t) → ¬cond0_1 (grid0.coords t) → cfg0.idle 8 (grid0.coords t) = false := by decide +kernel
theorem idleAt0_8_B : ∀ t : Fin cfg0.N, ¬cond0_0 (grid0.coords t) → cond0_1 (grid0.coords t) → cfg0.idle 8 (grid0.coords t) = true := by decide +kernel
theorem flushAt0_8_B : ∀ t : Fin cfg0.N, ¬cond0_0 (grid0.coords t) → cond0_1 (grid0.coords t) → (cfg0.win 8).flush t = true := by decide +kernel
theorem notFresh0_8_B : ∀ t : Fin cfg0.N, ¬cond0_0 (grid0.coords t) → cond0_1 (grid0.coords t) → cfg0.fresh 8 t.val = false := by
  intro t; rw [fresh0_8_eq t]; revert t; decide +kernel
theorem idleAt0_9_A : ∀ t : Fin cfg0.N, cond0_0 (grid0.coords t) → ¬cond0_1 (grid0.coords t) → cfg0.idle 9 (grid0.coords t) = true := by decide +kernel
theorem noFlush0_9_A : ∀ t : Fin cfg0.N, cond0_0 (grid0.coords t) → ¬cond0_1 (grid0.coords t) → (cfg0.win 9).flush t = false := by decide +kernel
theorem liveAt0_9_B : ∀ t : Fin cfg0.N, ¬cond0_0 (grid0.coords t) → cond0_1 (grid0.coords t) → cfg0.idle 9 (grid0.coords t) = false := by decide +kernel

/-! ## The kernel body on any staging memrefs: a subtype the run finds -/

abbrev VO0_8 : View sig .tc .vmem S1x512x1024 .f32 := (Memref.whole cc0_stg8_0 : Memref sig .tc .vmem S1x512x1024 .f32).view
abbrev VO0_9 : View sig .tc .vmem S1x512x1024 .f32 := (Memref.whole cc0_stg9_0 : Memref sig .tc .vmem S1x512x1024 .f32).view
abbrev ms0_0 (t : Fin cfg0.N) : Memref sig .tc .vmem S1x512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x6x1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x6x128x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x4096 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S4096x1024 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1024 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x512x1024 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x512x1024 .f32 := win0_9.stage (cfg0.slots t 9)
abbrev hs0_9 (t : Fin cfg0.N) : (ms0_9 t).IsWhole := hstage0_9 ((cfg0.slots t 9).cast nbuf0_9)

end Cert.MlpIdeal.Gen

end
-- ==== Proof.MlpRun.RunA.lean ====
/- The run of the kernel body at the points of case A. -/
module

public import proofs.«01_k».proof.Proof.MlpRun.Runs

@[expose] public section

-- the long axes' rectangles are looked at coordinate by coordinate
set_option maxRecDepth 16384

noncomputable section

namespace Cert.MlpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_A (c : Dev nD) (i : grid0.Coords) (arg1 : Memref sig .tc .vmem S1x512x1024 .f32) (harg1 : arg1.IsWhole) (arg2 : Memref sig .tc .vmem S1x6x1x1024 .f32) (harg2 : arg2.IsWhole) (arg3 : Memref sig .tc .vmem S1x512x1024 .f32) (harg3 : arg3.IsWhole) (arg4 : Memref sig .tc .vmem S1x6x128x1024 .f32) (harg4 : arg4.IsWhole) (arg5 : Memref sig .tc .vmem S1x1024 .f32) (harg5 : arg5.IsWhole) (arg6 : Memref sig .tc .vmem S1024x4096 .bf16) (harg6 : arg6.IsWhole) (arg7 : Memref sig .tc .vmem S4096x1024 .bf16) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S1x512x1024 .f32) (harg10 : arg10.IsWhole) (hc0 : cond0_0 i) (hc1 : ¬cond0_1 i)
    (x0 : Vec F S1x512x1024 .f32) (x1 : Vec F S1x6x1x1024 .f32) (x2 : Vec F S1x512x1024 .f32) (x3 : Vec F S1x6x128x1024 .f32) (x4 : Vec F S1x1024 .f32) (x5 : Vec F S1024x4096 .bf16) (x6 : Vec F S4096x1024 .bf16) (x7 : Vec F S1x1024 .f32) :
    Σ' (L8 : List (View.Piece (Elt F) S1x512x1024 .f32)), { L9 : List (View.Piece (Elt F) S1x512x1024 .f32) //
      ∀ (xi9 : Vec F S1x512x1024 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ owns (c : Thread nD τ) arg10 fullShare xi9
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ owns (c : Thread nD τ) arg10 fullShare xi9) -∗ K ⟨⟩))
          ⊢ wp frame (wpE (defs₀ (F := F)) Variants.none c none) E (cc0_mlp i arg1 harg1 arg2 harg2 arg3 harg3 arg4 harg4 arg5 harg5 arg6 harg6 arg7 harg7 arg8 harg8 arg9 harg9 arg10 harg10) K } := by
  refine ⟨?_, [], fun xi9 E K => ?run⟩
  case run =>
    simp only [cc0_mlp_eq_skeleton]; unfold cc0_mlp_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg10.eq_unread hf9
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    iexists _; isplitr; · ipureintro; exact harg10.read_unread _
    iexact H9

end Cert.MlpIdeal.Gen

end
-- ==== Proof.MlpRun.RunB.lean ====
/- The run of the kernel body at the points of case B. -/
module

public import proofs.«01_k».proof.Proof.MlpRun.RunA

@[expose] public section

-- the long axes' rectangles are looked at coordinate by coordinate
set_option maxRecDepth 16384

noncomputable section

namespace Cert.MlpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_B (c : Dev nD) (i : grid0.Coords) (arg1 : Memref sig .tc .vmem S1x512x1024 .f32) (harg1 : arg1.IsWhole) (arg2 : Memref sig .tc .vmem S1x6x1x1024 .f32) (harg2 : arg2.IsWhole) (arg3 : Memref sig .tc .vmem S1x512x1024 .f32) (harg3 : arg3.IsWhole) (arg4 : Memref sig .tc .vmem S1x6x128x1024 .f32) (harg4 : arg4.IsWhole) (arg5 : Memref sig .tc .vmem S1x1024 .f32) (harg5 : arg5.IsWhole) (arg6 : Memref sig .tc .vmem S1024x4096 .bf16) (harg6 : arg6.IsWhole) (arg7 : Memref sig .tc .vmem S4096x1024 .bf16) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S1x512x1024 .f32) (harg10 : arg10.IsWhole) (hc0 : ¬cond0_0 i) (hc1 : cond0_1 i)
    (x0 : Vec F S1x512x1024 .f32) (x1 : Vec F S1x6x1x1024 .f32) (x2 : Vec F S1x512x1024 .f32) (x3 : Vec F S1x6x128x1024 .f32) (x4 : Vec F S1x1024 .f32) (x5 : Vec F S1024x4096 .bf16) (x6 : Vec F S4096x1024 .bf16) (x7 : Vec F S1x1024 .f32) (xo8 : Vec F S1x512x1024 .f32) :
    Σ' (L8 : List (View.Piece (Elt F) S1x512x1024 .f32)), { L9 : List (View.Piece (Elt F) S1x512x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare xo8 ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare xo8 ∗ (∃ f, arg10.view.loc (c : Thread nD τ) ↦[arg10.view.set]{fullShare} arg10.view.writes (Elt F) f L9)) -∗ K ⟨⟩))
          ⊢ wp frame (wpE (defs₀ (F := F)) Variants.none c none) E (cc0_mlp i arg1 harg1 arg2 harg2 arg3 harg3 arg4 harg4 arg5 harg5 arg6 harg6 arg7 harg7 arg8 harg8 arg9 harg9 arg10 harg10) K } := by
  refine ⟨[], ?_, fun E K => ?run⟩
  case run =>
    simp only [cc0_mlp_eq_skeleton]; unfold cc0_mlp_skel
    simp only [k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    iexists _; iexact H9

end Cert.MlpIdeal.Gen

end
-- ==== Proof.MlpRun.Outs.lean ====
/- What the kernel body leaves in each output window, case by case. -/
module

public import proofs.«01_k».proof.Proof.MlpRun.RunB
public import Idealize.ShloMosaic.Lib.Claim

@[expose] public section

-- the long axes' rectangles are looked at coordinate by coordinate
set_option maxRecDepth 16384

noncomputable section

namespace Cert.MlpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem cover0_A_8 (c : Dev nD) (i : grid0.Coords) (arg1 : Memref sig .tc .vmem S1x512x1024 .f32) (harg1 : arg1.IsWhole) (arg2 : Memref sig .tc .vmem S1x6x1x1024 .f32) (harg2 : arg2.IsWhole) (arg3 : Memref sig .tc .vmem S1x512x1024 .f32) (harg3 : arg3.IsWhole) (arg4 : Memref sig .tc .vmem S1x6x128x1024 .f32) (harg4 : arg4.IsWhole) (arg5 : Memref sig .tc .vmem S1x1024 .f32) (harg5 : arg5.IsWhole) (arg6 : Memref sig .tc .vmem S1024x4096 .bf16) (harg6 : arg6.IsWhole) (arg7 : Memref sig .tc .vmem S4096x1024 .bf16) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S1x512x1024 .f32) (harg10 : arg10.IsWhole) (hc0 : cond0_0 i) (hc1 : ¬cond0_1 i)
    (x0 : Vec F S1x512x1024 .f32) (x1 : Vec F S1x6x1x1024 .f32) (x2 : Vec F S1x512x1024 .f32) (x3 : Vec F S1x6x128x1024 .f32) (x4 : Vec F S1x1024 .f32) (x5 : Vec F S1024x4096 .bf16) (x6 : Vec F S4096x1024 .bf16) (x7 : Vec F S1x1024 .f32) (y : S1x512x1024.Idx) :
    ∃ pc ∈ (kernelRun0_A c i arg1 harg1 arg2 harg2 arg3 harg3 arg4 harg4 arg5 harg5 arg6 harg6 arg7 harg7 arg8 harg8 arg9 harg9 arg10 harg10 hc0 hc1 x0 x1 x2 x3 x4 x5 x6 x7).1, y ∈ pc.1.set :=
  View.cover_of_tiledL (kernelRun0_A c i arg1 harg1 arg2 harg2 arg3 harg3 arg4 harg4 arg5 harg5 arg6 harg6 arg7 harg7 arg8 harg8 arg9 harg9 arg10 harg10 hc0 hc1 x0 x1 x2 x3 x4 x5 x6 x7).1 S1x512x1024.size (by sl_kernel_rfl) y

def out0_A_8 (c : Dev nD) (i : grid0.Coords) (arg1 : Memref sig .tc .vmem S1x512x1024 .f32) (harg1 : arg1.IsWhole) (arg2 : Memref sig .tc .vmem S1x6x1x1024 .f32) (harg2 : arg2.IsWhole) (arg3 : Memref sig .tc .vmem S1x512x1024 .f32) (harg3 : arg3.IsWhole) (arg4 : Memref sig .tc .vmem S1x6x128x1024 .f32) (harg4 : arg4.IsWhole) (arg5 : Memref sig .tc .vmem S1x1024 .f32) (harg5 : arg5.IsWhole) (arg6 : Memref sig .tc .vmem S1024x4096 .bf16) (harg6 : arg6.IsWhole) (arg7 : Memref sig .tc .vmem S4096x1024 .bf16) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S1x512x1024 .f32) (harg10 : arg10.IsWhole) (hc0 : cond0_0 i) (hc1 : ¬cond0_1 i)
    (x0 : Vec F S1x512x1024 .f32) (x1 : Vec F S1x6x1x1024 .f32) (x2 : Vec F S1x512x1024 .f32) (x3 : Vec F S1x6x128x1024 .f32) (x4 : Vec F S1x1024 .f32) (x5 : Vec F S1024x4096 .bf16) (x6 : Vec F S4096x1024 .bf16) (x7 : Vec F S1x1024 .f32) : Vec F S1x512x1024 .f32 :=
  VO0_8.read (Elt F) (VO0_8.writes (Elt F) VO0_8.junk (kernelRun0_A c i arg1 harg1 arg2 harg2 arg3 harg3 arg4 harg4 arg5 harg5 arg6 harg6 arg7 harg7 arg8 harg8 arg9 harg9 arg10 harg10 hc0 hc1 x0 x1 x2 x3 x4 x5 x6 x7).1)

def out0_A_9 (c : Dev nD) (i : grid0.Coords) (arg1 : Memref sig .tc .vmem S1x512x1024 .f32) (harg1 : arg1.IsWhole) (arg2 : Memref sig .tc .vmem S1x6x1x1024 .f32) (harg2 : arg2.IsWhole) (arg3 : Memref sig .tc .vmem S1x512x1024 .f32) (harg3 : arg3.IsWhole) (arg4 : Memref sig .tc .vmem S1x6x128x1024 .f32) (harg4 : arg4.IsWhole) (arg5 : Memref sig .tc .vmem S1x1024 .f32) (harg5 : arg5.IsWhole) (arg6 : Memref sig .tc .vmem S1024x4096 .bf16) (harg6 : arg6.IsWhole) (arg7 : Memref sig .tc .vmem S4096x1024 .bf16) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S1x512x1024 .f32) (harg10 : arg10.IsWhole) (hc0 : cond0_0 i) (hc1 : ¬cond0_1 i)
    (x0 : Vec F S1x512x1024 .f32) (x1 : Vec F S1x6x1x1024 .f32) (x2 : Vec F S1x512x1024 .f32) (x3 : Vec F S1x6x128x1024 .f32) (x4 : Vec F S1x1024 .f32) (x5 : Vec F S1024x4096 .bf16) (x6 : Vec F S4096x1024 .bf16) (x7 : Vec F S1x1024 .f32) : Vec F S1x512x1024 .f32 :=
  VO0_9.read (Elt F) (VO0_9.writes (Elt F) VO0_9.junk (kernelRun0_A c i arg1 harg1 arg2 harg2 arg3 harg3 arg4 harg4 arg5 harg5 arg6 harg6 arg7 harg7 arg8 harg8 arg9 harg9 arg10 harg10 hc0 hc1 x0 x1 x2 x3 x4 x5 x6 x7).2.1)

def out0_B_8 (c : Dev nD) (i : grid0.Coords) (arg1 : Memref sig .tc .vmem S1x512x1024 .f32) (harg1 : arg1.IsWhole) (arg2 : Memref sig .tc .vmem S1x6x1x1024 .f32) (harg2 : arg2.IsWhole) (arg3 : Memref sig .tc .vmem S1x512x1024 .f32) (harg3 : arg3.IsWhole) (arg4 : Memref sig .tc .vmem S1x6x128x1024 .f32) (harg4 : arg4.IsWhole) (arg5 : Memref sig .tc .vmem S1x1024 .f32) (harg5 : arg5.IsWhole) (arg6 : Memref sig .tc .vmem S1024x4096 .bf16) (harg6 : arg6.IsWhole) (arg7 : Memref sig .tc .vmem S4096x1024 .bf16) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S1x512x1024 .f32) (harg10 : arg10.IsWhole) (hc0 : ¬cond0_0 i) (hc1 : cond0_1 i)
    (x0 : Vec F S1x512x1024 .f32) (x1 : Vec F S1x6x1x1024 .f32) (x2 : Vec F S1x512x1024 .f32) (x3 : Vec F S1x6x128x1024 .f32) (x4 : Vec F S1x1024 .f32) (x5 : Vec F S1024x4096 .bf16) (x6 : Vec F S4096x1024 .bf16) (x7 : Vec F S1x1024 .f32) (xo8 : Vec F S1x512x1024 .f32) : Vec F S1x512x1024 .f32 := xo8

theorem cover0_B_9 (c : Dev nD) (i : grid0.Coords) (arg1 : Memref sig .tc .vmem S1x512x1024 .f32) (harg1 : arg1.IsWhole) (arg2 : Memref sig .tc .vmem S1x6x1x1024 .f32) (harg2 : arg2.IsWhole) (arg3 : Memref sig .tc .vmem S1x512x1024 .f32) (harg3 : arg3.IsWhole) (arg4 : Memref sig .tc .vmem S1x6x128x1024 .f32) (harg4 : arg4.IsWhole) (arg5 : Memref sig .tc .vmem S1x1024 .f32) (harg5 : arg5.IsWhole) (arg6 : Memref sig .tc .vmem S1024x4096 .bf16) (harg6 : arg6.IsWhole) (arg7 : Memref sig .tc .vmem S4096x1024 .bf16) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S1x512x1024 .f32) (harg10 : arg10.IsWhole) (hc0 : ¬cond0_0 i) (hc1 : cond0_1 i)
    (x0 : Vec F S1x512x1024 .f32) (x1 : Vec F S1x6x1x1024 .f32) (x2 : Vec F S1x512x1024 .f32) (x3 : Vec F S1x6x128x1024 .f32) (x4 : Vec F S1x1024 .f32) (x5 : Vec F S1024x4096 .bf16) (x6 : Vec F S4096x1024 .bf16) (x7 : Vec F S1x1024 .f32) (xo8 : Vec F S1x512x1024 .f32) (y : S1x512x1024.Idx) :
    ∃ pc ∈ (kernelRun0_B c i arg1 harg1 arg2 harg2 arg3 harg3 arg4 harg4 arg5 harg5 arg6 harg6 arg7 harg7 arg8 harg8 arg9 harg9 arg10 harg10 hc0 hc1 x0 x1 x2 x3 x4 x5 x6 x7 xo8).2.1, y ∈ pc.1.set :=
  View.cover_of_tiledL (kernelRun0_B c i arg1 harg1 arg2 harg2 arg3 harg3 arg4 harg4 arg5 harg5 arg6 harg6 arg7 harg7 arg8 harg8 arg9 harg9 arg10 harg10 hc0 hc1 x0 x1 x2 x3 x4 x5 x6 x7 xo8).2.1 S1x512x1024.size (by sl_kernel_rfl) y

def out0_B_9 (c : Dev nD) (i : grid0.Coords) (arg1 : Memref sig .tc .vmem S1x512x1024 .f32) (harg1 : arg1.IsWhole) (arg2 : Memref sig .tc .vmem S1x6x1x1024 .f32) (harg2 : arg2.IsWhole) (arg3 : Memref sig .tc .vmem S1x512x1024 .f32) (harg3 : arg3.IsWhole) (arg4 : Memref sig .tc .vmem S1x6x128x1024 .f32) (harg4 : arg4.IsWhole) (arg5 : Memref sig .tc .vmem S1x1024 .f32) (harg5 : arg5.IsWhole) (arg6 : Memref sig .tc .vmem S1024x4096 .bf16) (harg6 : arg6.IsWhole) (arg7 : Memref sig .tc .vmem S4096x1024 .bf16) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S1x512x1024 .f32) (harg10 : arg10.IsWhole) (hc0 : ¬cond0_0 i) (hc1 : cond0_1 i)
    (x0 : Vec F S1x512x1024 .f32) (x1 : Vec F S1x6x1x1024 .f32) (x2 : Vec F S1x512x1024 .f32) (x3 : Vec F S1x6x128x1024 .f32) (x4 : Vec F S1x1024 .f32) (x5 : Vec F S1024x4096 .bf16) (x6 : Vec F S4096x1024 .bf16) (x7 : Vec F S1x1024 .f32) (xo8 : Vec F S1x512x1024 .f32) : Vec F S1x512x1024 .f32 :=
  VO0_9.read (Elt F) (VO0_9.writes (Elt F) VO0_9.junk (kernelRun0_B c i arg1 harg1 arg2 harg2 arg3 harg3 arg4 harg4 arg5 harg5 arg6 harg6 arg7 harg7 arg8 harg8 arg9 harg9 arg10 harg10 hc0 hc1 x0 x1 x2 x3 x4 x5 x6 x7 xo8).2.1)

/-! ## What the outputs hold after each point -/

end Cert.MlpIdeal.Gen

end
-- ==== Proof.MlpRun.Frame.lean ====
/- What the output windows hold point by point, the proof data, the body obligation and the run, for the windows named below. -/
module

public import proofs.«01_k».proof.Proof.MlpRun.Outs

@[expose] public section

-- the long axes' rectangles are looked at coordinate by coordinate
set_option maxRecDepth 16384

noncomputable section

namespace Cert.MlpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

def outsAt0 (c : Dev nD) : (n : ℕ) → n < cfg0.N → Vec F S1x512x1024 .f32 × Vec F S1x512x1024 .f32
  | 0, hn => (out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) ((hcond0_0 ⟨0, hn⟩).mpr (by (try dsimp only); omega)) (fun h => (fun h => by (try dsimp only at h); omega) ((hcond0_1 ⟨0, hn⟩).mp h)) (iblk m c 0 ⟨0, hn⟩) (iblk m c 1 ⟨0, hn⟩) (iblk m c 2 ⟨0, hn⟩) (X0_3 m c ⟨0, hn⟩) (iblk m c 4 ⟨0, hn⟩) (iblk m c 5 ⟨0, hn⟩) (iblk m c 6 ⟨0, hn⟩) (iblk m c 7 ⟨0, hn⟩), out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) ((hcond0_0 ⟨0, hn⟩).mpr (by (try dsimp only); omega)) (fun h => (fun h => by (try dsimp only at h); omega) ((hcond0_1 ⟨0, hn⟩).mp h)) (iblk m c 0 ⟨0, hn⟩) (iblk m c 1 ⟨0, hn⟩) (iblk m c 2 ⟨0, hn⟩) (X0_3 m c ⟨0, hn⟩) (iblk m c 4 ⟨0, hn⟩) (iblk m c 5 ⟨0, hn⟩) (iblk m c 6 ⟨0, hn⟩) (iblk m c 7 ⟨0, hn⟩))
  | n + 1, hn =>
    if h0 : (n + 1) < 32 then
      if h1 : (n + 1) % 33 = 32 then
        False.elim (by have hN : n + 1 < 33 := lt_of_lt_of_eq hn (show cfg0.N = 33 from N_0); omega)
      else
        (out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (X0_3 m c ⟨n + 1, hn⟩) (iblk m c 4 ⟨n + 1, hn⟩) (iblk m c 5 ⟨n + 1, hn⟩) (iblk m c 6 ⟨n + 1, hn⟩) (iblk m c 7 ⟨n + 1, hn⟩), out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (X0_3 m c ⟨n + 1, hn⟩) (iblk m c 4 ⟨n + 1, hn⟩) (iblk m c 5 ⟨n + 1, hn⟩) (iblk m c 6 ⟨n + 1, hn⟩) (iblk m c 7 ⟨n + 1, hn⟩))
    else
      if h1 : (n + 1) % 33 = 32 then
        (out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (X0_3 m c ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).1, out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (X0_3 m c ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).1)
      else
        False.elim (by have hN : n + 1 < 33 := lt_of_lt_of_eq hn (show cfg0.N = 33 from N_0); omega)

theorem outsAt0_A (c : Dev nD) (t : Fin cfg0.N) (h0 : t.val < 32) (h1 : ¬t.val % 33 = 32) :
    outsAt0 m c t.val t.isLt = (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) (fun h => h1 ((hcond0_1 t).mp h)) (iblk m c 0 t) (iblk m c 1 t) (iblk m c 2 t) (X0_3 m c t) (iblk m c 4 t) (iblk m c 5 t) (iblk m c 6 t) (iblk m c 7 t), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) (fun h => h1 ((hcond0_1 t).mp h)) (iblk m c 0 t) (iblk m c 1 t) (iblk m c 2 t) (X0_3 m c t) (iblk m c 4 t) (iblk m c 5 t) (iblk m c 6 t) (iblk m c 7 t)) := by
  obtain ⟨n, hn⟩ := t
  cases n with
  | zero => exact rfl
  | succ n => exact (dif_pos h0).trans ((dif_neg h1).trans rfl)

theorem outsAt0_B (c : Dev nD) (t : Fin cfg0.N) (h0 : ¬t.val < 32) (h1 : t.val % 33 = 32) :
    outsAt0 m c t.val t.isLt = (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) ((hcond0_1 t).mpr h1) (iblk m c 0 t) (iblk m c 1 t) (iblk m c 2 t) (X0_3 m c t) (iblk m c 4 t) (iblk m c 5 t) (iblk m c 6 t) (iblk m c 7 t) (outsAt0 m c (t.val - 1) (Nat.lt_of_le_of_lt (Nat.sub_le _ _) t.isLt)).1, out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) ((hcond0_1 t).mpr h1) (iblk m c 0 t) (iblk m c 1 t) (iblk m c 2 t) (X0_3 m c t) (iblk m c 4 t) (iblk m c 5 t) (iblk m c 6 t) (iblk m c 7 t) (outsAt0 m c (t.val - 1) (Nat.lt_of_le_of_lt (Nat.sub_le _ _) t.isLt)).1) := by
  obtain ⟨n, hn⟩ := t
  cases n with
  | zero => exact (by exfalso; (try dsimp only at h0); exact by omega)
  | succ n => exact (dif_neg h0).trans ((dif_pos h1).trans rfl)

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => X0_3 m c t
    | ⟨4, _⟩ => iblk m c 4 t
    | ⟨5, _⟩ => iblk m c 5 t
    | ⟨6, _⟩ => iblk m c 6 t
    | ⟨7, _⟩ => iblk m c 7 t
    | ⟨8, _⟩ => (outsAt0 m c t.val t.isLt).1
    | ⟨9, _⟩ => (outsAt0 m c t.val t.isLt).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = X0_3 m c t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outsAt0 m c t.val t.isLt).1 := by dsimp only [dats]
theorem after0_9 (c : Dev nD) (t : Fin cfg0.N) : (dats m 0 c).after 9 t = (outsAt0 m c t.val t.isLt).2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = X0_3 m c t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

theorem hcarry0_8 (c : Dev nD) : ∀ (t : Fin cfg0.N) (_ : t.val ≠ 0), cfg0.idle 8 (grid0.coords t) = true → cfg0.fresh 8 t.val = false →
    (dats m 0 c).after 8 t = (dats m 0 c).after 8 ⟨t.val - 1, by omega⟩ := by
  intro t _ hi _
  have hN : t.val < 33 := lt_of_lt_of_eq t.isLt (show cfg0.N = 33 from N_0)
  rw [after0_8, after0_8]
  by_cases h0 : t.val < 32
  · by_cases h1 : t.val % 33 = 32
    · exfalso; omega
    · rw [liveAt0_8_A t ((hcond0_0 t).mpr h0) (fun h => h1 ((hcond0_1 t).mp h))] at hi
      exact absurd hi Bool.false_ne_true
  · by_cases h1 : t.val % 33 = 32
    · rw [outsAt0_B m c t h0 h1]
      rfl
    · exfalso; omega
theorem before0_8_B (c : Dev nD) (t : Fin cfg0.N) (h0 : ¬t.val < 32) (h1 : t.val % 33 = 32) (d) :
    (dats m 0 c).before 8 t d = (outsAt0 m c (t.val - 1) (Nat.lt_of_le_of_lt (Nat.sub_le _ _) t.isLt)).1 := by
  rw [Dat.before_out_traj _ 8 rfl (fun _ _ => rfl) (hcarry0_8 m c) t.val t rfl d,
    if_neg (by rw [notFresh0_8_B t (fun h => h0 ((hcond0_0 t).mp h)) ((hcond0_1 t).mpr h1)]; exact Bool.false_ne_true)]
  dsimp only [dats]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl]
  have hN : t.val < 33 := lt_of_lt_of_eq t.isLt (show cfg0.N = 33 from N_0)
  by_cases h0 : t.val < 32
  · by_cases h1 : t.val % 33 = 32
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8_A t ((hcond0_0 t).mpr h0) (fun h => h1 ((hcond0_1 t).mp h))], after0_8]
      rw [Dat.leavesExact_idle (dats m 0 c) 9 t (idleAt0_9_A t ((hcond0_0 t).mpr h0) (fun h => h1 ((hcond0_1 t).mp h))) (noFlush0_9_A t ((hcond0_0 t).mpr h0) (fun h => h1 ((hcond0_1 t).mp h)))]
      rw [outsAt0_A m c t h0 h1]
      unfold out0_A_8; (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun0_A c (grid0.coords t) _ _ _ _ _ _ _ _ _ _ _ _ _ _ _ _ _ _ _ _ ((hcond0_0 t).mpr h0) (fun h => h1 ((hcond0_1 t).mp h)) (iblk m c 0 t) (iblk m c 1 t) (iblk m c 2 t) (X0_3 m c t) (iblk m c 4 t) (iblk m c 5 t) (iblk m c 6 t) (iblk m c 7 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexact H9
      iintro ⟨H0, H1, H2, H3, H4, H5, H6, H7, ⟨%e8, H8⟩, H9⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro; exact View.read_writes_of_cover _ _ _ _ _ (cover0_A_8 c _ _ _ _ _ _ _ _ _ _ _ _ _ _ _ _ _ _ _ _ _ _ _ _ _ _ _ _ _ _ _)
      iexists _; iexact H9
  · by_cases h1 : t.val % 33 = 32
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [idleAt0_8_B t (fun h => h0 ((hcond0_0 t).mp h)) ((hcond0_1 t).mpr h1), flushAt0_8_B t (fun h => h0 ((hcond0_0 t).mp h)) ((hcond0_1 t).mpr h1)], after0_8]
      rw [show (dats m 0 c).leavesExact 9 t = owns (c : Thread nD τ) (ms0_9 t) fullShare ((dats m 0 c).after 9 t) from by
      unfold Dat.leavesExact; rw [liveAt0_9_B t (fun h => h0 ((hcond0_0 t).mp h)) ((hcond0_1 t).mpr h1)], after0_9]
      rw [outsAt0_B m c t h0 h1]
      simp only [before0_8_B m c t h0 h1]
      unfold out0_B_8 out0_B_9; (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun0_B c (grid0.coords t) _ _ _ _ _ _ _ _ _ _ _ _ _ _ _ _ _ _ _ _ (fun h => h0 ((hcond0_0 t).mp h)) ((hcond0_1 t).mpr h1) (iblk m c 0 t) (iblk m c 1 t) (iblk m c 2 t) (X0_3 m c t) (iblk m c 4 t) (iblk m c 5 t) (iblk m c 6 t) (iblk m c 7 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      iintro ⟨H0, H1, H2, H3, H4, H5, H6, H7, H8, ⟨%e9, H9⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      unfold owns; iexists _; isplitr
      swap; · iexact H9
      ipureintro; exact View.read_writes_of_cover _ _ _ _ _ (cover0_B_9 c _ _ _ _ _ _ _ _ _ _ _ _ _ _ _ _ _ _ _ _ _ _ _ _ _ _ _ _ _ _ _ _)
    · exfalso; omega

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.MlpIdeal.Gen

end
-- ==== Proof.MlpRun.Value.lean ====
/- Each output array after the run, as what the grid points write back. -/
module

public import proofs.«01_k».proof.Proof.MlpRun.Frame
public import Idealize.ShloMosaic.Lib.Pipeline.Value

@[expose] public section

noncomputable section

namespace Cert.MlpIdeal.Value

open Cert.MlpIdeal Cert.MlpIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem flushed8 (c : Dev nD) (t : Fin cfg0.N) :
    (dats m 0 c).flushed 8 t = (cfg0.win 8).cut (grid0.coords t) ((outsAt0 m c t.val t.isLt).1) := by
  show (cfg0.win 8).cut (grid0.coords t) ((dats m 0 c).after 8 t) = _
  rw [after0_8]

theorem flushed9 (c : Dev nD) (t : Fin cfg0.N) :
    (dats m 0 c).flushed 9 t = (cfg0.win 9).cut (grid0.coords t) ((outsAt0 m c t.val t.isLt).2) := by
  show (cfg0.win 9).cut (grid0.coords t) ((dats m 0 c).after 9 t) = _
  rw [after0_9]

theorem post8 (r : PUnit × MemSt nD τ sig (Elt F)) (h : Pipeline.FramePost cfgs (dats m) 0 (V m) r) (c : Dev nD) :
    r.2.mem ((c : Thread nD τ).loc main_v2_0) = (dats m 0 c).arrAt 8 cfg0.N :=
  (h c).1 8

theorem post9 (r : PUnit × MemSt nD τ sig (Elt F)) (h : Pipeline.FramePost cfgs (dats m) 0 (V m) r) (c : Dev nD) :
    r.2.mem ((c : Thread nD τ).loc main_v2_1) = (dats m 0 c).arrAt 9 cfg0.N :=
  (h c).1 9

theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))

theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).1 6).trans (((dats m 0 c).arrAt_in 6 rfl _).trans ((A_eq m c 6).trans (V_main_arg6 m c)))

theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

theorem run_blocks : θ_run defs (onTc (τ := τ) (main (F := F))) ⟨m, fun _ => 0, ρ⟩ fun r => ∀ c : Dev nD,
      r.2.mem ((c : Thread nD τ).loc main_v2_0) = (dats m 0 c).arrAt 8 cfg0.N
      ∧ r.2.mem ((c : Thread nD τ).loc main_v2_1) = (dats m 0 c).arrAt 9 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨post8 m r h c,
      post9 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c⟩)
    (run_main m ρ)

end Cert.MlpIdeal.Value

end
-- ==== Proof.MlpRun.Same.lean ====
/- The program `Mlp` and its ideal are the same text: nothing was rewritten. So their bodies, read at the machine's floats, are
   the same programs, and the run proved for one is the run of the other. -/
module

public import proofs.«01_k».proof.Defs
public import proofs.«01_k».proof.Proof.Gen.Mlp
public import proofs.«01_k».proof.Proof.MlpRun.Value

@[expose] public section

namespace Cert.Proof

open Idealize.ShloMosaic Idealize.SL.Sem

set_option maxRecDepth 20000

theorem mlp_body : @Cert.Mlp.cc0_mlp Bits _ _ = @Cert.MlpIdeal.cc0_mlp Bits _ _ := rfl

set_option maxHeartbeats 4000000 in
theorem mlp_defs₀ : @Cert.Mlp.defs₀ Bits _ _ = @Cert.MlpIdeal.defs₀ Bits _ _ := by
  unfold Cert.Mlp.defs₀ Cert.MlpIdeal.defs₀
  refine congrArg (Defs.onTc (nD := Cert.Mlp.nD) (τ := Cert.Mlp.τ) (sig := Cert.Mlp.sig) (Val := Elt Bits) (Λ := Cert.Mlp.Λ₀)) ?_
  funext l a
  obtain ⟨_ | n, hl⟩ := l
  · obtain ⟨t, s⟩ := a
    dsimp only
    rw [mlp_body]
    rfl
  · exact absurd hl (Nat.not_lt.2 (Nat.le_add_left _ _))

theorem mlp_defs : @Cert.Mlp.defs Bits _ _ = @Cert.MlpIdeal.defs Bits _ _ :=
  congrArg (Pipeline.defs (Cert.Mlp.pcfgs (F := Bits))) mlp_defs₀

theorem mlp_frame : Cert.quiescent_Mlp := fun m ρ _ => by
  rw [mlp_defs]
  exact Cert.MlpIdeal.Gen.frame (F := Bits) m ρ

end Cert.Proof

end
-- ==== Proof.MlpValue.Spec.lean ====
module

public import proofs.«01_k».proof.Proof.ConvValue.Spec

@[expose] public section
noncomputable section

/-! The MLP's rows on the extended reals: the squared rectifier between two projections, the residual it is added to, and
the final norm. -/
namespace Cert.Layer
open Idealize.ShloMosaic

/-- The squared rectifier of one projection. -/
def act (h w : Row) : EReal := max (proj h w) 0 * max (proj h w) 0

/-- The MLP at a row: 4096 hidden units. -/
def ffn (h : Row) (U : Fin 1024 → Fin 4096 → EReal) (V : Fin 4096 → Fin 1024 → EReal) : Row := fun d =>
  ∑ n, act h (fun j => U j n) * V n d

/-- The part of the MLP that 1024 of its hidden units make. -/
def quarter (h : Row) (A B : Fin 1024 → Fin 1024 → EReal) : Row := fun d => ∑ k, act h (fun j => A j k) * B k d

/-- The hidden units `o` to `o + 1023`, as columns of the first matrix and as rows of the second. -/
def colsFrom (U : Fin 1024 → Fin 4096 → EReal) (o : ℕ) (ho : o ≤ 3072) : Fin 1024 → Fin 1024 → EReal := fun j k => U j ⟨o + k.val, by omega⟩
def rowsFrom (V : Fin 4096 → Fin 1024 → EReal) (o : ℕ) (ho : o ≤ 3072) : Fin 1024 → Fin 1024 → EReal := fun k d => V ⟨o + k.val, by omega⟩ d

/-- A sum over the hidden units is the sum of its four quarters. -/
theorem sum_quarters (f : Fin 4096 → EReal) :
    ∑ n, f n = ∑ k : Fin 1024, f ⟨0 + k.val, by omega⟩ + ∑ k : Fin 1024, f ⟨1024 + k.val, by omega⟩
      + ∑ k : Fin 1024, f ⟨2048 + k.val, by omega⟩ + ∑ k : Fin 1024, f ⟨3072 + k.val, by omega⟩ := by
  refine (Fin.sum_univ_add (a := 3072) (b := 1024) f).trans (congrArg₂ (· + ·) ?_ rfl)
  refine (Fin.sum_univ_add (a := 2048) (b := 1024) _).trans (congrArg₂ (· + ·) ?_ rfl)
  refine (Fin.sum_univ_add (a := 1024) (b := 1024) _).trans (congrArg₂ (· + ·) ?_ rfl)
  exact Finset.sum_congr rfl fun k _ => congrArg f (Fin.ext (by simp))

theorem ffn_quarters (h : Row) (U : Fin 1024 → Fin 4096 → EReal) (V : Fin 4096 → Fin 1024 → EReal) (d : Fin 1024) :
    ffn h U V d = quarter h (colsFrom U 0 (by omega)) (rowsFrom V 0 (by omega)) d
      + quarter h (colsFrom U 1024 (by omega)) (rowsFrom V 1024 (by omega)) d
      + quarter h (colsFrom U 2048 (by omega)) (rowsFrom V 2048 (by omega)) d
      + quarter h (colsFrom U 3072 (by omega)) (rowsFrom V 3072 (by omega)) d :=
  sum_quarters fun n => act h (fun j => U j n) * V n d

/-- A residual: the row plus the gate times what the sub-layer makes of it. -/
def resid (x ga f : Row) : Row := fun d => x d + ga d * f d

/-- A row normalised and scaled. -/
def normed (x g : Row) : Row := fun d => x d * rrms x * g d

end Cert.Layer
end
-- ==== Proof.MlpValue.Pay.lean ====
module

public import proofs.«01_k».proof.Proof.MlpValue.Spec
public import proofs.«01_k».proof.Proof.Gen.MlpIdeal.Skeleton

@[expose] public section
set_option maxRecDepth 16384
noncomputable section
namespace Cert.MlpValue
open Cert.MlpIdeal Cert.MlpIdeal.Gen Idealize.ShloMosaic Idealize.ShloMosaic.TcCoe Idealize.SL.Sem Cert.Layer

theorem pay4_at (x : FVec Ideal S1x512x1024 .f32) (g : FVec Ideal S1x1024 .f32) (sh sc : FVec Ideal S1x1x1x1024 .f32)
    (r : Fin 512) (k : Fin 1024) :
    (k0_pay4 (F := Ideal) x sh sc g (ix2 r k) : EReal)
      = modRow (fun k => x (ix3 0 r k)) (fun k => g (ix2 0 k)) (fun k => sh (ix4 0 0 0 k)) (fun k => sc (ix4 0 0 0 k)) k := by
  pointwise [k0_pay3, k0_pay4, modRow, rrms]

theorem pay7_at (x : FVec Ideal S1x512x1024 .f32) (g : FVec Ideal S1x1024 .f32) (sh sc ga : FVec Ideal S1x1x1x1024 .f32)
    (a0 a1 a2 a3 b0 b1 b2 b3 : FVec Ideal S1024x1024 .bf16) (r : Fin 512) (d : Fin 1024) (h : FVec Ideal S512x1024 .bf16)
    (hh : k0_pay4 (F := Ideal) x sh sc g = h) :
    (k0_pay7 (k0_pay3 x) (k0_pay4 x sh sc g) (k0_pay5 (F := Ideal)) (k0_pay6 x sh sc g a0) b0 (constant S512x1024 .f32 0x00000000#32) a1 b1 a2 b2 a3 b3 ga (ix2 r d) : EReal)
      = resid (fun k => x (ix3 0 r k)) (fun k => ga (ix4 0 0 0 k)) (fun d =>
          quarter (fun j => h (ix2 r j)) (fun j k => a0 (ix2 j k)) (fun k d => b0 (ix2 k d)) d
          + quarter (fun j => h (ix2 r j)) (fun j k => a1 (ix2 j k)) (fun k d => b1 (ix2 k d)) d
          + quarter (fun j => h (ix2 r j)) (fun j k => a2 (ix2 j k)) (fun k d => b2 (ix2 k d)) d
          + quarter (fun j => h (ix2 r j)) (fun j k => a3 (ix2 j k)) (fun k d => b3 (ix2 k d)) d) d := by
  unfold k0_pay6
  rw [hh]
  clear hh
  pointwise [k0_pay3, k0_pay5, k0_pay7, resid, quarter, act, proj]

theorem pay1_at (v w : FVec Ideal S512x1024 .f32) (fg : FVec Ideal S1x1024 .f32) (hw : w = mulf v v) (r : Fin 512) (d : Fin 1024) :
    (k0_pay1 v w fg (ix3 0 r d) : EReal) = normed (fun k => v (ix2 r k)) (fun k => fg (ix2 0 k)) d := by
  subst hw
  pointwise [k0_pay1, normed, rrms]

theorem pay15_at (x : FVec Ideal S1x512x1024 .f32) (g : FVec Ideal S1x1024 .f32) (sh sc : FVec Ideal S1x1x128x1024 .f32)
    (t : Fin 4) (l : Fin 128) (k : Fin 1024) :
    (k0_pay15 (F := Ideal) (k0_pay9 x) (k0_pay10 sh) (k0_pay11 sc) (k0_pay12 x sh sc g) (k0_pay13 g) (k0_pay14 x) g g (ix2 (srow t l) k) : EReal)
      = modRow (fun k => x (ix3 0 (srow t l) k)) (fun k => g (ix2 0 k)) (fun k => sh (ix4 0 0 l k)) (fun k => sc (ix4 0 0 l k)) k := by
  pointwise [k0_pay9, k0_pay10, k0_pay11, k0_pay12, k0_pay13, k0_pay14, k0_pay15, modRow, rrms]
  have := t.isLt
  have := l.isLt
  split_ifs <;> blk_point [srow]

theorem pay2_at (x : FVec Ideal S1x512x1024 .f32) (fg : FVec Ideal S1x1024 .f32) (h : FVec Ideal S512x1024 .bf16) (ga : FVec Ideal S1x1x128x1024 .f32)
    (a0 a1 a2 a3 b0 b1 b2 b3 : FVec Ideal S1024x1024 .bf16) (t : Fin 4) (l : Fin 128) (d : Fin 1024) :
    (k0_pay2 (k0_pay9 x) (k0_pay16 h (Scalar.ofBits (F := Ideal) .f32 0x00000000#32) a0 b0 a1 b1 a2 b2) (k0_pay17 h a3) b3 ga fg (ix3 0 (srow t l) d) : EReal)
      = normed (resid (fun k => x (ix3 0 (srow t l) k)) (fun k => ga (ix4 0 0 l k)) (fun d =>
          quarter (fun j => h (ix2 (srow t l) j)) (fun j k => a0 (ix2 j k)) (fun k d => b0 (ix2 k d)) d
          + quarter (fun j => h (ix2 (srow t l) j)) (fun j k => a1 (ix2 j k)) (fun k d => b1 (ix2 k d)) d
          + quarter (fun j => h (ix2 (srow t l) j)) (fun j k => a2 (ix2 j k)) (fun k d => b2 (ix2 k d)) d
          + quarter (fun j => h (ix2 (srow t l) j)) (fun j k => a3 (ix2 j k)) (fun k d => b3 (ix2 k d)) d)) (fun k => fg (ix2 0 k)) d := by
  pointwise [k0_pay2, k0_pay9, k0_pay16, k0_pay17, normed, rrms, resid, quarter, act, proj]
  have := t.isLt
  have := l.isLt
  split_ifs <;> blk_point [srow]

end Cert.MlpValue
end
-- ==== Proof.MlpValue.Ref.lean ====
module

public import proofs.«01_k».proof.Proof.MlpValue.Spec
public import proofs.«01_k».proof.Proof.Gen.MlpRefIdeal.Read
public import Idealize.ShloMosaic.Lib.Pointwise

@[expose] public section
set_option maxRecDepth 16384
noncomputable section
namespace Cert.MlpRefValue
open Cert.MlpRefIdeal Cert.MlpRefIdeal.Read Idealize.ShloMosaic Idealize.ShloMosaic.TcCoe Idealize.SL.Sem Cert.Layer

/-- The modulated row `s` of prompt sequence `b`. -/
def hP (x0 : (⟨S8x2048x1024, .f32⟩ : BufTy).Contents (Elt Ideal)) (x1 : (⟨S8x6x1x1024, .f32⟩ : BufTy).Contents (Elt Ideal)) (x4 : (⟨S1024, .f32⟩ : BufTy).Contents (Elt Ideal)) (b : Fin 8) (s : Fin 2048) : Row :=
  modRow (fun k => x0 (ix3 b s k)) (fun k => x4 (ix1 k)) (fun k => x1 (ix4 b 3 0 k)) (fun k => x1 (ix4 b 4 0 k))

/-- The modulated row of step `t` of sample sequence `l`. -/
def hS (x2 : (⟨S1x512x1024, .f32⟩ : BufTy).Contents (Elt Ideal)) (x3 : (⟨S2x6x136x1024, .f32⟩ : BufTy).Contents (Elt Ideal)) (x4 : (⟨S1024, .f32⟩ : BufTy).Contents (Elt Ideal)) (l : Fin 128) (t : Fin 4) : Row :=
  modRow (fun k => x2 (ix3 0 (srow t l) k)) (fun k => x4 (ix1 k))
    (fun k => x3 (ix4 1 3 ⟨l.val, by omega⟩ k)) (fun k => x3 (ix4 1 4 ⟨l.val, by omega⟩ k))

/-- The row the MLP leaves at row `s` of prompt sequence `b`. -/
def zP (x0 : (⟨S8x2048x1024, .f32⟩ : BufTy).Contents (Elt Ideal)) (x1 : (⟨S8x6x1x1024, .f32⟩ : BufTy).Contents (Elt Ideal)) (x4 : (⟨S1024, .f32⟩ : BufTy).Contents (Elt Ideal)) (x5 : (⟨S1024x4096, .bf16⟩ : BufTy).Contents (Elt Ideal)) (x6 : (⟨S4096x1024, .bf16⟩ : BufTy).Contents (Elt Ideal)) (b : Fin 8) (s : Fin 2048) : Row :=
  resid (fun k => x0 (ix3 b s k)) (fun k => x1 (ix4 b 5 0 k)) (ffn (hP x0 x1 x4 b s) (fun j n => x5 (ix2 j n)) (fun n d => x6 (ix2 n d)))

/-- The row the MLP leaves at step `t` of sample sequence `l`. -/
def zS (x2 : (⟨S1x512x1024, .f32⟩ : BufTy).Contents (Elt Ideal)) (x3 : (⟨S2x6x136x1024, .f32⟩ : BufTy).Contents (Elt Ideal)) (x4 : (⟨S1024, .f32⟩ : BufTy).Contents (Elt Ideal)) (x5 : (⟨S1024x4096, .bf16⟩ : BufTy).Contents (Elt Ideal)) (x6 : (⟨S4096x1024, .bf16⟩ : BufTy).Contents (Elt Ideal)) (l : Fin 128) (t : Fin 4) : Row :=
  resid (fun k => x2 (ix3 0 (srow t l) k)) (fun k => x3 (ix4 1 5 ⟨l.val, by omega⟩ k)) (ffn (hS x2 x3 x4 l t) (fun j n => x5 (ix2 j n)) (fun n d => x6 (ix2 n d)))

theorem v30_at (x0 : (⟨S8x2048x1024, .f32⟩ : BufTy).Contents (Elt Ideal)) (x1 : (⟨S8x6x1x1024, .f32⟩ : BufTy).Contents (Elt Ideal)) (x4 : (⟨S1024, .f32⟩ : BufTy).Contents (Elt Ideal)) (b : Fin 8) (s : Fin 2048) (k : Fin 1024) :
    (val_main_v30 x0 x1 x4 (ix3 b s k) : EReal) = hP x0 x1 x4 b s k := by
  pointwise [val_main_v2, val_main_v3, val_main_v4, val_main_v5, val_main_v6, val_main_v7, val_main_v8, val_main_v9, val_main_v10, val_main_cst, val_main_v11, val_main_v12, val_main_cst_0, val_main_v13, val_main_v14, val_main_cst_1, val_main_v15, val_main_v16, val_main_v17, val_main_v18, val_main_v19, val_main_v20, val_main_v21, val_main_v22, val_main_v23, val_main_cst_2, val_main_v24, val_main_v25, val_main_v26, val_main_v27, val_main_v28, val_main_v29, val_main_v30, hP, modRow, rrms]

theorem v33_at (x0 : (⟨S8x2048x1024, .f32⟩ : BufTy).Contents (Elt Ideal)) (x1 : (⟨S8x6x1x1024, .f32⟩ : BufTy).Contents (Elt Ideal)) (x4 : (⟨S1024, .f32⟩ : BufTy).Contents (Elt Ideal)) (x5 : (⟨S1024x4096, .bf16⟩ : BufTy).Contents (Elt Ideal)) (b : Fin 8) (s : Fin 2048) (n : Fin 4096) :
    (val_main_v33 x0 x1 x4 x5 (ix3 b s n) : EReal) = act (hP x0 x1 x4 b s) (fun j => x5 (ix2 j n)) := by
  pointwise [val_main_v0, val_main_v31, val_main_call0_cst, val_main_call0_v0, val_main_v32, val_main_v33, act, proj]
  simp only [v30_at]

theorem v37_at (x0 : (⟨S8x2048x1024, .f32⟩ : BufTy).Contents (Elt Ideal)) (x1 : (⟨S8x6x1x1024, .f32⟩ : BufTy).Contents (Elt Ideal)) (x4 : (⟨S1024, .f32⟩ : BufTy).Contents (Elt Ideal)) (x5 : (⟨S1024x4096, .bf16⟩ : BufTy).Contents (Elt Ideal)) (x6 : (⟨S4096x1024, .bf16⟩ : BufTy).Contents (Elt Ideal)) (b : Fin 8) (s : Fin 2048) (d : Fin 1024) :
    (val_main_v37 x0 x1 x4 x5 x6 (ix3 b s d) : EReal) = zP x0 x1 x4 x5 x6 b s d := by
  pointwise [val_main_v1, val_main_v2, val_main_v3, val_main_v4, val_main_v5, val_main_v6, val_main_v7, val_main_v8, val_main_v9, val_main_v34, val_main_v35, val_main_v36, val_main_v37, zP, resid, ffn]
  simp only [v33_at]

theorem v91_at (x0 : (⟨S8x2048x1024, .f32⟩ : BufTy).Contents (Elt Ideal)) (x1 : (⟨S8x6x1x1024, .f32⟩ : BufTy).Contents (Elt Ideal)) (x4 : (⟨S1024, .f32⟩ : BufTy).Contents (Elt Ideal)) (x5 : (⟨S1024x4096, .bf16⟩ : BufTy).Contents (Elt Ideal)) (x6 : (⟨S4096x1024, .bf16⟩ : BufTy).Contents (Elt Ideal)) (x7 : (⟨S1024, .f32⟩ : BufTy).Contents (Elt Ideal)) (b : Fin 8) (s : Fin 2048) (d : Fin 1024) :
    (val_main_v91 x0 x1 x4 x5 x6 x7 (ix3 b s d) : EReal) = normed (zP x0 x1 x4 x5 x6 b s) (fun k => x7 (ix1 k)) d := by
  pointwise [val_main_v79, val_main_cst_7, val_main_v80, val_main_v81, val_main_cst_8, val_main_v82, val_main_v83, val_main_cst_9, val_main_v84, val_main_v85, val_main_v86, val_main_v87, val_main_v88, val_main_v89, val_main_v90, val_main_v91, normed, rrms]
  simp only [v37_at]

theorem v71_at (x2 : (⟨S1x512x1024, .f32⟩ : BufTy).Contents (Elt Ideal)) (x3 : (⟨S2x6x136x1024, .f32⟩ : BufTy).Contents (Elt Ideal)) (x4 : (⟨S1024, .f32⟩ : BufTy).Contents (Elt Ideal)) (l : Fin 128) (t : Fin 4) (k : Fin 1024) :
    (val_main_v71 x2 x3 x4 (ix3 l t k) : EReal) = hS x2 x3 x4 l t k := by
  pointwise [val_main_v38, val_main_v39, val_main_v40, val_main_v41, val_main_v42, val_main_v43, val_main_v44, val_main_v45, val_main_v46, val_main_v47, val_main_v48, val_main_v49, val_main_v50, val_main_v51, val_main_cst_3, val_main_v52, val_main_v53, val_main_cst_4, val_main_v54, val_main_v55, val_main_cst_5, val_main_v56, val_main_v57, val_main_v58, val_main_v59, val_main_v60, val_main_v61, val_main_v62, val_main_v63, val_main_v64, val_main_cst_6, val_main_v65, val_main_v66, val_main_v67, val_main_v68, val_main_v69, val_main_v70, val_main_v71, hS, modRow, rrms]
  have e : (⟨t.val * 128 + l.val, by omega⟩ : Fin 512) = srow t l := Fin.ext (by simp [srow]; omega)
  simp only [e]

theorem v74_at (x2 : (⟨S1x512x1024, .f32⟩ : BufTy).Contents (Elt Ideal)) (x3 : (⟨S2x6x136x1024, .f32⟩ : BufTy).Contents (Elt Ideal)) (x4 : (⟨S1024, .f32⟩ : BufTy).Contents (Elt Ideal)) (x5 : (⟨S1024x4096, .bf16⟩ : BufTy).Contents (Elt Ideal)) (l : Fin 128) (t : Fin 4) (n : Fin 4096) :
    (val_main_v74 x2 x3 x4 x5 (ix3 l t n) : EReal) = act (hS x2 x3 x4 l t) (fun j => x5 (ix2 j n)) := by
  pointwise [val_main_v0, val_main_v72, val_main_call1_cst, val_main_call1_v0, val_main_v73, val_main_v74, act, proj]
  simp only [v71_at]

theorem v78_at (x2 : (⟨S1x512x1024, .f32⟩ : BufTy).Contents (Elt Ideal)) (x3 : (⟨S2x6x136x1024, .f32⟩ : BufTy).Contents (Elt Ideal)) (x4 : (⟨S1024, .f32⟩ : BufTy).Contents (Elt Ideal)) (x5 : (⟨S1024x4096, .bf16⟩ : BufTy).Contents (Elt Ideal)) (x6 : (⟨S4096x1024, .bf16⟩ : BufTy).Contents (Elt Ideal)) (l : Fin 128) (t : Fin 4) (d : Fin 1024) :
    (val_main_v78 x2 x3 x4 x5 x6 (ix3 l t d) : EReal) = zS x2 x3 x4 x5 x6 l t d := by
  pointwise [val_main_v1, val_main_v38, val_main_v39, val_main_v40, val_main_v41, val_main_v42, val_main_v43, val_main_v44, val_main_v45, val_main_v46, val_main_v47, val_main_v48, val_main_v49, val_main_v50, val_main_v75, val_main_v76, val_main_v77, val_main_v78, zS, resid, ffn]
  have e : (⟨t.val * 128 + l.val, by omega⟩ : Fin 512) = srow t l := Fin.ext (by simp [srow]; omega)
  simp only [v74_at, e]

theorem v106_at (x2 : (⟨S1x512x1024, .f32⟩ : BufTy).Contents (Elt Ideal)) (x3 : (⟨S2x6x136x1024, .f32⟩ : BufTy).Contents (Elt Ideal)) (x4 : (⟨S1024, .f32⟩ : BufTy).Contents (Elt Ideal)) (x5 : (⟨S1024x4096, .bf16⟩ : BufTy).Contents (Elt Ideal)) (x6 : (⟨S4096x1024, .bf16⟩ : BufTy).Contents (Elt Ideal)) (x7 : (⟨S1024, .f32⟩ : BufTy).Contents (Elt Ideal)) (l : Fin 128) (t : Fin 4) (d : Fin 1024) :
    (val_main_v106 x2 x3 x4 x5 x6 x7 (ix3 0 (srow t l) d) : EReal) = normed (zS x2 x3 x4 x5 x6 l t) (fun k => x7 (ix1 k)) d := by
  pointwise [val_main_v92, val_main_cst_10, val_main_v93, val_main_v94, val_main_cst_11, val_main_v95, val_main_v96, val_main_cst_12, val_main_v97, val_main_v98, val_main_v99, val_main_v100, val_main_v101, val_main_v102, val_main_v103, val_main_v104, val_main_v105, val_main_v106, normed, rrms]
  have e1 : (128 * t.val + l.val) / 128 = t.val := by omega
  have e2 : (128 * t.val + l.val) % 128 = l.val := by omega
  simp only [v78_at, e1, e2, Fin.eta]

end Cert.MlpRefValue
end
-- ==== Proof.MlpValue.Final.lean ====
module

public import proofs.«01_k».proof.Proof.MlpValue.Pay
public import proofs.«01_k».proof.Proof.MlpValue.Ref
public import proofs.«01_k».proof.Proof.MlpRun.Frame
public import Idealize.ShloMosaic.Lib.Pipeline.ValueKit
public import Idealize.ShloMosaic.Lib.Pointwise

@[expose] public section
set_option maxRecDepth 16384
noncomputable section
namespace Cert.MlpValue
open Cert.MlpIdeal Cert.MlpIdeal.Gen Idealize.ShloMosaic Idealize.ShloMosaic.TcCoe Idealize.SL.Sem Cert.Layer Cert.MlpRefValue

variable (m : (ℓ : Loc nD τ sig) → Buf (Elt Ideal) ℓ) (c : Dev nD)

theorem idx0 : ∀ t : Fin cfg0.N, win0_0.index t = ![(min t.val 31) / 4, (min t.val 31) % 4, 0] ∧ win0_1.index t = ![(min t.val 31) / 4, 0, 0, 0]
    ∧ win0_8.index t = ![(min t.val 31) / 4, (min t.val 31) % 4, 0] :=
  (by decide +kernel : ∀ t : Fin grid0.N, _)

theorem idx1 : ∀ t : Fin cfg0.N, win0_2.index t = ![0, 0, 0] ∧ win0_3.index t = ![1, 0, 0, 0]
    ∧ win0_4.index t = ![0, 0] ∧ win0_5.index t = ![0, 0] ∧ win0_6.index t = ![0, 0] ∧ win0_7.index t = ![0, 0]
    ∧ win0_9.index t = ![0, 0, 0] :=
  (by decide +kernel : ∀ t : Fin grid0.N, _)

/-- The arguments read as arrays. -/
abbrev a0 : FVec Ideal S8x2048x1024 .f32 := m ((c.tc : Thread nD τ).loc main_arg0)
abbrev a1 : FVec Ideal S8x6x1x1024 .f32 := m ((c.tc : Thread nD τ).loc main_arg1)
abbrev a2 : FVec Ideal S1x512x1024 .f32 := m ((c.tc : Thread nD τ).loc main_arg2)
abbrev a3 : FVec Ideal S2x6x136x1024 .f32 := m ((c.tc : Thread nD τ).loc main_arg3)
abbrev a4 : FVec Ideal S1024 .f32 := m ((c.tc : Thread nD τ).loc main_arg4)
abbrev a5 : FVec Ideal S1024x4096 .bf16 := m ((c.tc : Thread nD τ).loc main_arg5)
abbrev a6 : FVec Ideal S4096x1024 .bf16 := m ((c.tc : Thread nD τ).loc main_arg6)
abbrev a7 : FVec Ideal S1024 .f32 := m ((c.tc : Thread nD τ).loc main_arg7)

theorem rd0 (t : Fin cfg0.N) (ht : t.val < 32) (r : Fin 512) (k : Fin 1024) :
    (iblk m c 0 t (ix3 0 r k) : EReal) = a0 m c (ix3 ⟨t.val / 4, by omega⟩ ⟨512 * (t.val % 4) + r.val, by omega⟩ k) := by
  have e : min t.val 31 = t.val := by omega
  blk_simp [iblk, idx0 t, e]
  entry_read
  blk_ext [idx0 t, e]

theorem rd1 (t : Fin cfg0.N) (ht : t.val < 32) (j : Fin 6) (k : Fin 1024) :
    (iblk m c 1 t (ix4 0 j 0 k) : EReal) = a1 m c (ix4 ⟨t.val / 4, by omega⟩ j 0 k) := by
  have e : min t.val 31 = t.val := by omega
  blk_simp [iblk, idx0 t, e]
  entry_read
  blk_ext [idx0 t, e]

theorem rd2 (t : Fin cfg0.N) (r : Fin 512) (k : Fin 1024) :
    (iblk m c 2 t (ix3 0 r k) : EReal) = a2 m c (ix3 0 r k) := by
  blk_simp [iblk, idx1 t]
  entry_read
  blk_ext [idx1 t]

theorem rd3 (t : Fin cfg0.N) (j : Fin 6) (l : Fin 128) (k : Fin 1024) :
    (X0_3 m c t (ix4 0 j l k) : EReal) = a3 m c (ix4 1 j ⟨l.val, by omega⟩ k) := by
  unfold X0_3 Pipeline.Window.fill
  rw [dif_pos (moved0_3 t _)]
  blk_simp [iblk, idx1 t]
  entry_read
  blk_ext [idx1 t]

theorem rd4 (t : Fin cfg0.N) (k : Fin 1024) :
    (iblk m c 4 t (ix2 0 k) : EReal) = a4 m c (ix1 k) := by
  blk_simp [iblk, idx1 t]
  entry_read
  refine Eq.trans (b := (shapeCast S1x1024 (a4 m c) shapeCasts_S1024_S1x1024 (ix2 0 k) : EReal)) ?_ ?_
  · blk_ext [idx1 t]
  · pointwise []

theorem rd5 (t : Fin cfg0.N) (j : Fin 1024) (k : Fin 4096) :
    (iblk m c 5 t (ix2 j k) : EReal) = a5 m c (ix2 j k) := by
  blk_simp [iblk, idx1 t]
  entry_read
  blk_ext [idx1 t]

theorem rd6 (t : Fin cfg0.N) (j : Fin 4096) (k : Fin 1024) :
    (iblk m c 6 t (ix2 j k) : EReal) = a6 m c (ix2 j k) := by
  blk_simp [iblk, idx1 t]
  entry_read
  blk_ext [idx1 t]

theorem rd7 (t : Fin cfg0.N) (k : Fin 1024) :
    (iblk m c 7 t (ix2 0 k) : EReal) = a7 m c (ix1 k) := by
  blk_simp [iblk, idx1 t]
  entry_read
  refine Eq.trans (b := (shapeCast S1x1024 (a7 m c) shapeCasts_S1024_S1x1024 (ix2 0 k) : EReal)) ?_ ?_
  · blk_ext [idx1 t]
  · pointwise []

/-- The modulated rows of prompt tile `t`. -/
def hT (t : Fin cfg0.N) : FVec Ideal S512x1024 .bf16 :=
  k0_pay4 (F := Ideal) (iblk m c 0 t) (View.ld (iblk m c 1 t) (Rect.unit ![0, 3, 0, 0] ![1, 1, 1, 1024] inb_S1x6x1x1024_S1x1x1x1024_0_3_0_0))
    (View.ld (iblk m c 1 t) (Rect.unit ![0, 4, 0, 0] ![1, 1, 1, 1024] inb_S1x6x1x1024_S1x1x1x1024_0_4_0_0)) (iblk m c 4 t)

theorem hT_at (t : Fin cfg0.N) (ht : t.val < 32) (r : Fin 512) (k : Fin 1024) :
    (hT m c t (ix2 r k) : EReal) = hP (a0 m c) (a1 m c) (a4 m c) ⟨t.val / 4, by omega⟩ ⟨512 * (t.val % 4) + r.val, by omega⟩ k := by
  unfold hT hP
  rw [pay4_at]
  simp only [rd0 m c t ht, rd4 m c t]
  pointwise []
  simp only [rd1 m c t ht]

theorem out8 (t : Fin cfg0.N) (h0 : t.val < 32) (r : Fin 512) (d : Fin 1024) :
    ((outsAt0 m c t.val t.isLt).1 (ix3 0 r d) : EReal) = (Cert.MlpRefIdeal.Read.val_main_v91 (F := Ideal) (a0 m c) (a1 m c) (a4 m c) (a5 m c) (a6 m c) (a7 m c)
      (ix3 ⟨t.val / 4, by omega⟩ ⟨512 * (t.val % 4) + r.val, by omega⟩ d) : EReal) := by
  have h2 : ¬ t.val % 33 = 32 := by omega
  rw [outsAt0_A m c t h0 h2]; frame_out
  rw [v91_at]
  refine (pay1_at _ _ _ rfl r d).trans ?_
  refine congrArg₂ (fun a b => normed a b d) (funext fun k => ?_) (funext fun k => rd7 m c t k)
  refine (pay7_at _ _ _ _ _ _ _ _ _ _ _ _ _ r k (hT m c t) rfl).trans ?_
  unfold zP resid
  rw [ffn_quarters]
  simp only [rd0 m c t h0, hT_at m c t h0]
  pointwise [quarter, colsFrom, rowsFrom]
  simp only [rd1 m c t h0, rd5, rd6]

/-- The modulated rows of the sample block. -/
def hB (t : Fin cfg0.N) : FVec Ideal S512x1024 .bf16 :=
  k0_pay15 (F := Ideal) (k0_pay9 (iblk m c 2 t))
    (k0_pay10 (View.ld (X0_3 m c t) (Rect.unit ![0, 3, 0, 0] ![1, 1, 128, 1024] inb_S1x6x128x1024_S1x1x128x1024_0_3_0_0)))
    (k0_pay11 (View.ld (X0_3 m c t) (Rect.unit ![0, 4, 0, 0] ![1, 1, 128, 1024] inb_S1x6x128x1024_S1x1x128x1024_0_4_0_0)))
    (k0_pay12 (iblk m c 2 t) (View.ld (X0_3 m c t) (Rect.unit ![0, 3, 0, 0] ![1, 1, 128, 1024] inb_S1x6x128x1024_S1x1x128x1024_0_3_0_0))
      (View.ld (X0_3 m c t) (Rect.unit ![0, 4, 0, 0] ![1, 1, 128, 1024] inb_S1x6x128x1024_S1x1x128x1024_0_4_0_0)) (iblk m c 4 t))
    (k0_pay13 (iblk m c 4 t)) (k0_pay14 (iblk m c 2 t)) (iblk m c 4 t) (iblk m c 4 t)

theorem hB_at (t : Fin cfg0.N) (q : Fin 4) (l : Fin 128) (k : Fin 1024) :
    (hB m c t (ix2 (srow q l) k) : EReal) = hS (a2 m c) (a3 m c) (a4 m c) l q k := by
  unfold hB hS
  rw [pay15_at]
  simp only [rd2 m c t, rd4 m c t]
  pointwise []
  simp only [rd3 m c t]

theorem out9 (t : Fin cfg0.N) (h0 : ¬ t.val < 32) (h2 : t.val % 33 = 32) (q : Fin 4) (l : Fin 128) (d : Fin 1024) :
    ((outsAt0 m c t.val t.isLt).2 (ix3 0 (srow q l) d) : EReal)
      = (Cert.MlpRefIdeal.Read.val_main_v106 (F := Ideal) (a2 m c) (a3 m c) (a4 m c) (a5 m c) (a6 m c) (a7 m c) (ix3 0 (srow q l) d) : EReal) := by
  rw [outsAt0_B m c t h0 h2]; frame_out
  rw [v106_at]
  refine (pay2_at _ _ (hB m c t) _ _ _ _ _ _ _ _ _ q l d).trans ?_
  refine congrArg₂ (fun a b => normed a b d) (funext fun k => ?_) (funext fun k => rd7 m c t k)
  unfold zS resid
  rw [ffn_quarters]
  simp only [rd2, hB_at]
  pointwise [quarter, colsFrom, rowsFrom]
  simp only [rd3, rd5, rd6]

theorem kept8 (t : Fin cfg0.N) (s : Fin cfg0.N) (hs : s.val = min t.val 31) :
    (outsAt0 m c t.val t.isLt).1 = (outsAt0 m c s.val s.isLt).1 := by
  have hN : cfg0.N = 33 := rfl
  have ht := t.isLt
  obtain ⟨t, h⟩ := t
  obtain ⟨s, h'⟩ := s
  dsimp only at hs ht ⊢
  by_cases h0 : t < 32
  · obtain rfl : s = t := by omega
    rfl
  · obtain rfl : s = t - 1 := by omega
    rw [outsAt0_B m c ⟨t, h⟩ h0 (by dsimp only; omega)]
    rfl

theorem fin8 : (dats m 0 c).arrAt 8 cfg0.N
    = Cert.MlpRefIdeal.Read.val_main_v91 (F := Ideal) (a0 m c) (a1 m c) (a4 m c) (a5 m c) (a6 m c) (a7 m c) := by
  refine (dats m 0 c).arrAt_eq_of_covers 8 _ (by decide +kernel) fun t _ y => ?_
  have ht : t.val < 33 := t.isLt
  blk_simp
  rw [after0_8, kept8 m c t ⟨min t.val 31, by show _ < 33; omega⟩ rfl]
  refine Eq.trans ?_ ((out8 m c ⟨min t.val 31, by show _ < 33; omega⟩ (by dsimp only; omega) (y 1) (y 2)).trans ?_)
  · refine congrArg _ ?_
    blk_ext [idx0 t]
  · blk_ext [idx0 t]

theorem fin9 : (dats m 0 c).arrAt 9 cfg0.N
    = Cert.MlpRefIdeal.Read.val_main_v106 (F := Ideal) (a2 m c) (a3 m c) (a4 m c) (a5 m c) (a6 m c) (a7 m c) := by
  refine (dats m 0 c).arrAt_eq_of_covers 9 _ (by decide +kernel) fun t hf y => ?_
  have ht : t.val < 33 := t.isLt
  have e32 : t.val = 32 := by have := (flush0_9 t).mp hf; omega
  have hy : (y 1).val < 512 := (y 1).isLt
  blk_simp
  rw [after0_9]
  refine Eq.trans ?_ ((out9 m c t (by omega) (by omega) ⟨(y 1).val / 128, by omega⟩ ⟨(y 1).val % 128, by omega⟩ (y 2)).trans ?_)
  · refine congrArg _ ?_
    blk_ext [idx1 t, srow]
  · blk_ext [idx1 t, srow]

end Cert.MlpValue
-- ==== Proof.FirstRun.Runs.lean ====
/- What the runs of the kernel body share: the branch conditions over the grid points, where the output windows are idle, and the staging memrefs. -/
module

public import proofs.«01_k».proof.Proof.Gen.FirstIdeal.Frame
public import proofs.«01_k».proof.Proof.Gen.FirstIdeal.Launch
public import proofs.«01_k».proof.Proof.Gen.FirstIdeal.Skeleton
public import proofs.«01_k».proof.Proof.Gen.FirstIdeal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

-- the long axes' rectangles are looked at coordinate by coordinate
set_option maxRecDepth 16384

noncomputable section

namespace Cert.FirstIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

abbrev cond0_0 (i : grid0.Coords) : Prop := k0_cond1 i = 1#1
theorem hcond0_0 : ∀ t : Fin cfg0.N, cond0_0 (grid0.coords t) ↔ t.val < 32 :=
  (by decide +kernel : ∀ t : Fin grid0.N, cond0_0 (grid0.coords t) ↔ t.val < 32)

abbrev cond0_1 (i : grid0.Coords) : Prop := k0_cond2 i = 1#1
theorem hcond0_1 : ∀ t : Fin cfg0.N, cond0_1 (grid0.coords t) ↔ t.val % 33 = 32 :=
  (fun t => by
    have ht : t.val < 33 := Nat.lt_of_lt_of_eq t.isLt N_0
    have e0 : (grid0.coords t 0).val = t.val / 1 % 33 := Pipeline.Grid.coords_val t 0 (by decide) rfl
    simp only [cond0_1, k0_cond2, e0]
    word_cmp
   : ∀ t : Fin grid0.N, cond0_1 (grid0.coords t) ↔ t.val % 33 = 32)

/-! ## Where the windows are idle (the printed configuration's table `Cfg.idle`) -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem liveAt0_7 : ∀ t : Fin cfg0.N, cfg0.idle 7 (grid0.coords t) = false := fun _ => rfl
theorem liveAt0_8 : ∀ t : Fin cfg0.N, cfg0.idle 8 (grid0.coords t) = false := fun _ => rfl
theorem liveAt0_9 : ∀ t : Fin cfg0.N, cfg0.idle 9 (grid0.coords t) = false := fun _ => rfl
theorem liveAt0_10 : ∀ t : Fin cfg0.N, cfg0.idle 10 (grid0.coords t) = false := fun _ => rfl
theorem liveAt0_13 : ∀ t : Fin cfg0.N, cfg0.idle 13 (grid0.coords t) = false := fun _ => rfl
theorem liveAt0_14 : ∀ t : Fin cfg0.N, cfg0.idle 14 (grid0.coords t) = false := fun _ => rfl
def freshTab0_11 : ℕ → Bool
  | 0 => true
  | n + 1 => (0x17fffffff : ℕ).testBit n
theorem freshTab0_11_step : ∀ t : Fin cfg0.N,
    freshTab0_11 (t.val + 1) = ((cfg0.win 11).flush t || (cfg0.idle 11 (cfg0.grid.coords t) && freshTab0_11 t.val)) := by decide +kernel
theorem fresh0_11_eq (t : Fin cfg0.N) : cfg0.fresh 11 t.val = freshTab0_11 t.val :=
  Pipeline.Cfg.fresh_tab cfg0 11 freshTab0_11 rfl freshTab0_11_step t.val (Nat.le_of_lt t.isLt)
theorem liveAt0_11_A : ∀ t : Fin cfg0.N, cond0_0 (grid0.coords t) → ¬cond0_1 (grid0.coords t) → cfg0.idle 11 (grid0.coords t) = false := by decide +kernel
theorem idleAt0_11_B : ∀ t : Fin cfg0.N, ¬cond0_0 (grid0.coords t) → cond0_1 (grid0.coords t) → cfg0.idle 11 (grid0.coords t) = true := by decide +kernel
theorem flushAt0_11_B : ∀ t : Fin cfg0.N, ¬cond0_0 (grid0.coords t) → cond0_1 (grid0.coords t) → (cfg0.win 11).flush t = true := by decide +kernel
theorem notFresh0_11_B : ∀ t : Fin cfg0.N, ¬cond0_0 (grid0.coords t) → cond0_1 (grid0.coords t) → cfg0.fresh 11 t.val = false := by
  intro t; rw [fresh0_11_eq t]; revert t; decide +kernel
theorem idleAt0_12_A : ∀ t : Fin cfg0.N, cond0_0 (grid0.coords t) → ¬cond0_1 (grid0.coords t) → cfg0.idle 12 (grid0.coords t) = true := by decide +kernel
theorem noFlush0_12_A : ∀ t : Fin cfg0.N, cond0_0 (grid0.coords t) → ¬cond0_1 (grid0.coords t) → (cfg0.win 12).flush t = false := by decide +kernel
theorem liveAt0_12_B : ∀ t : Fin cfg0.N, ¬cond0_0 (grid0.coords t) → cond0_1 (grid0.coords t) → cfg0.idle 12 (grid0.coords t) = false := by decide +kernel

/-! ## The kernel body on any staging memrefs: a subtype the run finds -/

abbrev VO0_11 : View sig .tc .vmem S1x512x1024 .f32 := (Memref.whole cc0_stg11_0 : Memref sig .tc .vmem S1x512x1024 .f32).view
abbrev VO0_12 : View sig .tc .vmem S1x512x1024 .f32 := (Memref.whole cc0_stg12_0 : Memref sig .tc .vmem S1x512x1024 .f32).view
abbrev VO0_13 : View sig .tc .vmem S32x3072 .bf16 := (Memref.whole cc0_stg13_0 : Memref sig .tc .vmem S32x3072 .bf16).view
abbrev VO0_14 : View sig .tc .vmem S32x1024 .bf16 := (Memref.whole cc0_stg14_0 : Memref sig .tc .vmem S32x1024 .bf16).view
abbrev ms0_0 (t : Fin cfg0.N) : Memref sig .tc .vmem S1x512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x6x1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x6x128x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x4096 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S4096x1024 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x32x3072 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x32x1024 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x512x1024 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x512x1024 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S32x3072 .bf16 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S32x1024 .bf16 := win0_14.stage (cfg0.slots t 14)
abbrev hs0_14 (t : Fin cfg0.N) : (ms0_14 t).IsWhole := hstage0_14 ((cfg0.slots t 14).cast nbuf0_14)

end Cert.FirstIdeal.Gen

end
-- ==== Proof.FirstRun.RunA.lean ====
/- The run of the kernel body at the points of case A. -/
module

public import proofs.«01_k».proof.Proof.FirstRun.Runs

@[expose] public section

-- the long axes' rectangles are looked at coordinate by coordinate
set_option maxRecDepth 16384

noncomputable section

namespace Cert.FirstIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_A (c : Dev nD) (i : grid0.Coords) (arg1 : Memref sig .tc .vmem S1x512x1024 .f32) (harg1 : arg1.IsWhole) (arg2 : Memref sig .tc .vmem S1x6x1x1024 .f32) (harg2 : arg2.IsWhole) (arg3 : Memref sig .tc .vmem S1x512x1024 .f32) (harg3 : arg3.IsWhole) (arg4 : Memref sig .tc .vmem S1x512x1024 .f32) (harg4 : arg4.IsWhole) (arg5 : Memref sig .tc .vmem S1024x1024 .bf16) (harg5 : arg5.IsWhole) (arg6 : Memref sig .tc .vmem S1x6x128x1024 .f32) (harg6 : arg6.IsWhole) (arg7 : Memref sig .tc .vmem S1x1024 .f32) (harg7 : arg7.IsWhole) (arg8 : Memref sig .tc .vmem S1024x4096 .bf16) (harg8 : arg8.IsWhole) (arg9 : Memref sig .tc .vmem S4096x1024 .bf16) (harg9 : arg9.IsWhole) (arg10 : Memref sig .tc .vmem S1x32x3072 .f32) (harg10 : arg10.IsWhole) (arg11 : Memref sig .tc .vmem S1x32x1024 .f32) (harg11 : arg11.IsWhole) (arg12 : Memref sig .tc .vmem S1x512x1024 .f32) (harg12 : arg12.IsWhole) (arg13 : Memref sig .tc .vmem S1x512x1024 .f32) (harg13 : arg13.IsWhole) (arg14 : Memref sig .tc .vmem S32x3072 .bf16) (harg14 : arg14.IsWhole) (arg15 : Memref sig .tc .vmem S32x1024 .bf16) (harg15 : arg15.IsWhole) (hc0 : cond0_0 i) (hc1 : ¬cond0_1 i)
    (x0 : Vec F S1x512x1024 .f32) (x1 : Vec F S1x6x1x1024 .f32) (x2 : Vec F S1x512x1024 .f32) (x3 : Vec F S1x512x1024 .f32) (x4 : Vec F S1024x1024 .bf16) (x5 : Vec F S1x6x128x1024 .f32) (x6 : Vec F S1x1024 .f32) (x7 : Vec F S1024x4096 .bf16) (x8 : Vec F S4096x1024 .bf16) (x9 : Vec F S1x32x3072 .f32) (x10 : Vec F S1x32x1024 .f32) :
    Σ' (L11 : List (View.Piece (Elt F) S1x512x1024 .f32)), Σ' (L12 : List (View.Piece (Elt F) S1x512x1024 .f32)), Σ' (L13 : List (View.Piece (Elt F) S32x3072 .bf16)), { L14 : List (View.Piece (Elt F) S32x1024 .bf16) //
      ∀ (xi12 : Vec F S1x512x1024 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ owns (c : Thread nD τ) arg13 fullShare xi12 ∗ (∃ d, owns (c : Thread nD τ) arg14 fullShare d) ∗ (∃ d, owns (c : Thread nD τ) arg15 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ f, arg12.view.loc (c : Thread nD τ) ↦[arg12.view.set]{fullShare} arg12.view.writes (Elt F) f L11) ∗ owns (c : Thread nD τ) arg13 fullShare xi12 ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f L14)) -∗ K ⟨⟩))
          ⊢ wp frame (wpE (defs₀ (F := F)) Variants.none c none) E (cc0_mlp i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, [], ?_, ?_, fun xi12 E K => ?run⟩
  case run =>
    simp only [cc0_mlp_eq_skeleton]; unfold cc0_mlp_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%f12, %hf12, H12⟩, ⟨%d13, %f13, -, H13⟩, ⟨%d14, %f14, -, H14⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg13.eq_unread hf12
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]; · iexists _; iexact H11
    isplitl [H12]
    · iexists _; isplitr; · ipureintro; exact harg13.read_unread _
      iexact H12
    isplitl [H13]; · iexists _; iexact H13
    iexists _; iexact H14

end Cert.FirstIdeal.Gen

end
-- ==== Proof.FirstRun.RunB.lean ====
/- The run of the kernel body at the points of case B. -/
module

public import proofs.«01_k».proof.Proof.FirstRun.RunA

@[expose] public section

-- the long axes' rectangles are looked at coordinate by coordinate
set_option maxRecDepth 16384

noncomputable section

namespace Cert.FirstIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_B (c : Dev nD) (i : grid0.Coords) (arg1 : Memref sig .tc .vmem S1x512x1024 .f32) (harg1 : arg1.IsWhole) (arg2 : Memref sig .tc .vmem S1x6x1x1024 .f32) (harg2 : arg2.IsWhole) (arg3 : Memref sig .tc .vmem S1x512x1024 .f32) (harg3 : arg3.IsWhole) (arg4 : Memref sig .tc .vmem S1x512x1024 .f32) (harg4 : arg4.IsWhole) (arg5 : Memref sig .tc .vmem S1024x1024 .bf16) (harg5 : arg5.IsWhole) (arg6 : Memref sig .tc .vmem S1x6x128x1024 .f32) (harg6 : arg6.IsWhole) (arg7 : Memref sig .tc .vmem S1x1024 .f32) (harg7 : arg7.IsWhole) (arg8 : Memref sig .tc .vmem S1024x4096 .bf16) (harg8 : arg8.IsWhole) (arg9 : Memref sig .tc .vmem S4096x1024 .bf16) (harg9 : arg9.IsWhole) (arg10 : Memref sig .tc .vmem S1x32x3072 .f32) (harg10 : arg10.IsWhole) (arg11 : Memref sig .tc .vmem S1x32x1024 .f32) (harg11 : arg11.IsWhole) (arg12 : Memref sig .tc .vmem S1x512x1024 .f32) (harg12 : arg12.IsWhole) (arg13 : Memref sig .tc .vmem S1x512x1024 .f32) (harg13 : arg13.IsWhole) (arg14 : Memref sig .tc .vmem S32x3072 .bf16) (harg14 : arg14.IsWhole) (arg15 : Memref sig .tc .vmem S32x1024 .bf16) (harg15 : arg15.IsWhole) (hc0 : ¬cond0_0 i) (hc1 : cond0_1 i)
    (x0 : Vec F S1x512x1024 .f32) (x1 : Vec F S1x6x1x1024 .f32) (x2 : Vec F S1x512x1024 .f32) (x3 : Vec F S1x512x1024 .f32) (x4 : Vec F S1024x1024 .bf16) (x5 : Vec F S1x6x128x1024 .f32) (x6 : Vec F S1x1024 .f32) (x7 : Vec F S1024x4096 .bf16) (x8 : Vec F S4096x1024 .bf16) (x9 : Vec F S1x32x3072 .f32) (x10 : Vec F S1x32x1024 .f32) (xo11 : Vec F S1x512x1024 .f32) :
    Σ' (L11 : List (View.Piece (Elt F) S1x512x1024 .f32)), Σ' (L12 : List (View.Piece (Elt F) S1x512x1024 .f32)), Σ' (L13 : List (View.Piece (Elt F) S32x3072 .bf16)), { L14 : List (View.Piece (Elt F) S32x1024 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare xo11 ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare xo11 ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f L14)) -∗ K ⟨⟩))
          ⊢ wp frame (wpE (defs₀ (F := F)) Variants.none c none) E (cc0_mlp i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨[], ?_, ?_, ?_, fun E K => ?run⟩
  case run =>
    simp only [cc0_mlp_eq_skeleton]; unfold cc0_mlp_skel
    simp only [k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]; · iexists _; iexact H12
    isplitl [H13]; · iexists _; iexact H13
    iexists _; iexact H14

end Cert.FirstIdeal.Gen

end
-- ==== Proof.FirstRun.Outs.lean ====
/- What the kernel body leaves in each output window, case by case. -/
module

public import proofs.«01_k».proof.Proof.FirstRun.RunB
public import Idealize.ShloMosaic.Lib.Claim

@[expose] public section

-- the long axes' rectangles are looked at coordinate by coordinate
set_option maxRecDepth 16384

noncomputable section

namespace Cert.FirstIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem cover0_A_11 (c : Dev nD) (i : grid0.Coords) (arg1 : Memref sig .tc .vmem S1x512x1024 .f32) (harg1 : arg1.IsWhole) (arg2 : Memref sig .tc .vmem S1x6x1x1024 .f32) (harg2 : arg2.IsWhole) (arg3 : Memref sig .tc .vmem S1x512x1024 .f32) (harg3 : arg3.IsWhole) (arg4 : Memref sig .tc .vmem S1x512x1024 .f32) (harg4 : arg4.IsWhole) (arg5 : Memref sig .tc .vmem S1024x1024 .bf16) (harg5 : arg5.IsWhole) (arg6 : Memref sig .tc .vmem S1x6x128x1024 .f32) (harg6 : arg6.IsWhole) (arg7 : Memref sig .tc .vmem S1x1024 .f32) (harg7 : arg7.IsWhole) (arg8 : Memref sig .tc .vmem S1024x4096 .bf16) (harg8 : arg8.IsWhole) (arg9 : Memref sig .tc .vmem S4096x1024 .bf16) (harg9 : arg9.IsWhole) (arg10 : Memref sig .tc .vmem S1x32x3072 .f32) (harg10 : arg10.IsWhole) (arg11 : Memref sig .tc .vmem S1x32x1024 .f32) (harg11 : arg11.IsWhole) (arg12 : Memref sig .tc .vmem S1x512x1024 .f32) (harg12 : arg12.IsWhole) (arg13 : Memref sig .tc .vmem S1x512x1024 .f32) (harg13 : arg13.IsWhole) (arg14 : Memref sig .tc .vmem S32x3072 .bf16) (harg14 : arg14.IsWhole) (arg15 : Memref sig .tc .vmem S32x1024 .bf16) (harg15 : arg15.IsWhole) (hc0 : cond0_0 i) (hc1 : ¬cond0_1 i)
    (x0 : Vec F S1x512x1024 .f32) (x1 : Vec F S1x6x1x1024 .f32) (x2 : Vec F S1x512x1024 .f32) (x3 : Vec F S1x512x1024 .f32) (x4 : Vec F S1024x1024 .bf16) (x5 : Vec F S1x6x128x1024 .f32) (x6 : Vec F S1x1024 .f32) (x7 : Vec F S1024x4096 .bf16) (x8 : Vec F S4096x1024 .bf16) (x9 : Vec F S1x32x3072 .f32) (x10 : Vec F S1x32x1024 .f32) (y : S1x512x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10).1 S1x512x1024.size (by sl_kernel_rfl) y

def out0_A_11 (c : Dev nD) (i : grid0.Coords) (arg1 : Memref sig .tc .vmem S1x512x1024 .f32) (harg1 : arg1.IsWhole) (arg2 : Memref sig .tc .vmem S1x6x1x1024 .f32) (harg2 : arg2.IsWhole) (arg3 : Memref sig .tc .vmem S1x512x1024 .f32) (harg3 : arg3.IsWhole) (arg4 : Memref sig .tc .vmem S1x512x1024 .f32) (harg4 : arg4.IsWhole) (arg5 : Memref sig .tc .vmem S1024x1024 .bf16) (harg5 : arg5.IsWhole) (arg6 : Memref sig .tc .vmem S1x6x128x1024 .f32) (harg6 : arg6.IsWhole) (arg7 : Memref sig .tc .vmem S1x1024 .f32) (harg7 : arg7.IsWhole) (arg8 : Memref sig .tc .vmem S1024x4096 .bf16) (harg8 : arg8.IsWhole) (arg9 : Memref sig .tc .vmem S4096x1024 .bf16) (harg9 : arg9.IsWhole) (arg10 : Memref sig .tc .vmem S1x32x3072 .f32) (harg10 : arg10.IsWhole) (arg11 : Memref sig .tc .vmem S1x32x1024 .f32) (harg11 : arg11.IsWhole) (arg12 : Memref sig .tc .vmem S1x512x1024 .f32) (harg12 : arg12.IsWhole) (arg13 : Memref sig .tc .vmem S1x512x1024 .f32) (harg13 : arg13.IsWhole) (arg14 : Memref sig .tc .vmem S32x3072 .bf16) (harg14 : arg14.IsWhole) (arg15 : Memref sig .tc .vmem S32x1024 .bf16) (harg15 : arg15.IsWhole) (hc0 : cond0_0 i) (hc1 : ¬cond0_1 i)
    (x0 : Vec F S1x512x1024 .f32) (x1 : Vec F S1x6x1x1024 .f32) (x2 : Vec F S1x512x1024 .f32) (x3 : Vec F S1x512x1024 .f32) (x4 : Vec F S1024x1024 .bf16) (x5 : Vec F S1x6x128x1024 .f32) (x6 : Vec F S1x1024 .f32) (x7 : Vec F S1024x4096 .bf16) (x8 : Vec F S4096x1024 .bf16) (x9 : Vec F S1x32x3072 .f32) (x10 : Vec F S1x32x1024 .f32) : Vec F S1x512x1024 .f32 :=
  VO0_11.read (Elt F) (VO0_11.writes (Elt F) VO0_11.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10).1)

def out0_A_12 (c : Dev nD) (i : grid0.Coords) (arg1 : Memref sig .tc .vmem S1x512x1024 .f32) (harg1 : arg1.IsWhole) (arg2 : Memref sig .tc .vmem S1x6x1x1024 .f32) (harg2 : arg2.IsWhole) (arg3 : Memref sig .tc .vmem S1x512x1024 .f32) (harg3 : arg3.IsWhole) (arg4 : Memref sig .tc .vmem S1x512x1024 .f32) (harg4 : arg4.IsWhole) (arg5 : Memref sig .tc .vmem S1024x1024 .bf16) (harg5 : arg5.IsWhole) (arg6 : Memref sig .tc .vmem S1x6x128x1024 .f32) (harg6 : arg6.IsWhole) (arg7 : Memref sig .tc .vmem S1x1024 .f32) (harg7 : arg7.IsWhole) (arg8 : Memref sig .tc .vmem S1024x4096 .bf16) (harg8 : arg8.IsWhole) (arg9 : Memref sig .tc .vmem S4096x1024 .bf16) (harg9 : arg9.IsWhole) (arg10 : Memref sig .tc .vmem S1x32x3072 .f32) (harg10 : arg10.IsWhole) (arg11 : Memref sig .tc .vmem S1x32x1024 .f32) (harg11 : arg11.IsWhole) (arg12 : Memref sig .tc .vmem S1x512x1024 .f32) (harg12 : arg12.IsWhole) (arg13 : Memref sig .tc .vmem S1x512x1024 .f32) (harg13 : arg13.IsWhole) (arg14 : Memref sig .tc .vmem S32x3072 .bf16) (harg14 : arg14.IsWhole) (arg15 : Memref sig .tc .vmem S32x1024 .bf16) (harg15 : arg15.IsWhole) (hc0 : cond0_0 i) (hc1 : ¬cond0_1 i)
    (x0 : Vec F S1x512x1024 .f32) (x1 : Vec F S1x6x1x1024 .f32) (x2 : Vec F S1x512x1024 .f32) (x3 : Vec F S1x512x1024 .f32) (x4 : Vec F S1024x1024 .bf16) (x5 : Vec F S1x6x128x1024 .f32) (x6 : Vec F S1x1024 .f32) (x7 : Vec F S1024x4096 .bf16) (x8 : Vec F S4096x1024 .bf16) (x9 : Vec F S1x32x3072 .f32) (x10 : Vec F S1x32x1024 .f32) : Vec F S1x512x1024 .f32 :=
  VO0_12.read (Elt F) (VO0_12.writes (Elt F) VO0_12.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10).2.1)

theorem cover0_A_13 (c : Dev nD) (i : grid0.Coords) (arg1 : Memref sig .tc .vmem S1x512x1024 .f32) (harg1 : arg1.IsWhole) (arg2 : Memref sig .tc .vmem S1x6x1x1024 .f32) (harg2 : arg2.IsWhole) (arg3 : Memref sig .tc .vmem S1x512x1024 .f32) (harg3 : arg3.IsWhole) (arg4 : Memref sig .tc .vmem S1x512x1024 .f32) (harg4 : arg4.IsWhole) (arg5 : Memref sig .tc .vmem S1024x1024 .bf16) (harg5 : arg5.IsWhole) (arg6 : Memref sig .tc .vmem S1x6x128x1024 .f32) (harg6 : arg6.IsWhole) (arg7 : Memref sig .tc .vmem S1x1024 .f32) (harg7 : arg7.IsWhole) (arg8 : Memref sig .tc .vmem S1024x4096 .bf16) (harg8 : arg8.IsWhole) (arg9 : Memref sig .tc .vmem S4096x1024 .bf16) (harg9 : arg9.IsWhole) (arg10 : Memref sig .tc .vmem S1x32x3072 .f32) (harg10 : arg10.IsWhole) (arg11 : Memref sig .tc .vmem S1x32x1024 .f32) (harg11 : arg11.IsWhole) (arg12 : Memref sig .tc .vmem S1x512x1024 .f32) (harg12 : arg12.IsWhole) (arg13 : Memref sig .tc .vmem S1x512x1024 .f32) (harg13 : arg13.IsWhole) (arg14 : Memref sig .tc .vmem S32x3072 .bf16) (harg14 : arg14.IsWhole) (arg15 : Memref sig .tc .vmem S32x1024 .bf16) (harg15 : arg15.IsWhole) (hc0 : cond0_0 i) (hc1 : ¬cond0_1 i)
    (x0 : Vec F S1x512x1024 .f32) (x1 : Vec F S1x6x1x1024 .f32) (x2 : Vec F S1x512x1024 .f32) (x3 : Vec F S1x512x1024 .f32) (x4 : Vec F S1024x1024 .bf16) (x5 : Vec F S1x6x128x1024 .f32) (x6 : Vec F S1x1024 .f32) (x7 : Vec F S1024x4096 .bf16) (x8 : Vec F S4096x1024 .bf16) (x9 : Vec F S1x32x3072 .f32) (x10 : Vec F S1x32x1024 .f32) (y : S32x3072.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10).2.2.1 S32x3072.size (by sl_kernel_rfl) y

def out0_A_13 (c : Dev nD) (i : grid0.Coords) (arg1 : Memref sig .tc .vmem S1x512x1024 .f32) (harg1 : arg1.IsWhole) (arg2 : Memref sig .tc .vmem S1x6x1x1024 .f32) (harg2 : arg2.IsWhole) (arg3 : Memref sig .tc .vmem S1x512x1024 .f32) (harg3 : arg3.IsWhole) (arg4 : Memref sig .tc .vmem S1x512x1024 .f32) (harg4 : arg4.IsWhole) (arg5 : Memref sig .tc .vmem S1024x1024 .bf16) (harg5 : arg5.IsWhole) (arg6 : Memref sig .tc .vmem S1x6x128x1024 .f32) (harg6 : arg6.IsWhole) (arg7 : Memref sig .tc .vmem S1x1024 .f32) (harg7 : arg7.IsWhole) (arg8 : Memref sig .tc .vmem S1024x4096 .bf16) (harg8 : arg8.IsWhole) (arg9 : Memref sig .tc .vmem S4096x1024 .bf16) (harg9 : arg9.IsWhole) (arg10 : Memref sig .tc .vmem S1x32x3072 .f32) (harg10 : arg10.IsWhole) (arg11 : Memref sig .tc .vmem S1x32x1024 .f32) (harg11 : arg11.IsWhole) (arg12 : Memref sig .tc .vmem S1x512x1024 .f32) (harg12 : arg12.IsWhole) (arg13 : Memref sig .tc .vmem S1x512x1024 .f32) (harg13 : arg13.IsWhole) (arg14 : Memref sig .tc .vmem S32x3072 .bf16) (harg14 : arg14.IsWhole) (arg15 : Memref sig .tc .vmem S32x1024 .bf16) (harg15 : arg15.IsWhole) (hc0 : cond0_0 i) (hc1 : ¬cond0_1 i)
    (x0 : Vec F S1x512x1024 .f32) (x1 : Vec F S1x6x1x1024 .f32) (x2 : Vec F S1x512x1024 .f32) (x3 : Vec F S1x512x1024 .f32) (x4 : Vec F S1024x1024 .bf16) (x5 : Vec F S1x6x128x1024 .f32) (x6 : Vec F S1x1024 .f32) (x7 : Vec F S1024x4096 .bf16) (x8 : Vec F S4096x1024 .bf16) (x9 : Vec F S1x32x3072 .f32) (x10 : Vec F S1x32x1024 .f32) : Vec F S32x3072 .bf16 :=
  VO0_13.read (Elt F) (VO0_13.writes (Elt F) VO0_13.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10).2.2.1)

theorem cover0_A_14 (c : Dev nD) (i : grid0.Coords) (arg1 : Memref sig .tc .vmem S1x512x1024 .f32) (harg1 : arg1.IsWhole) (arg2 : Memref sig .tc .vmem S1x6x1x1024 .f32) (harg2 : arg2.IsWhole) (arg3 : Memref sig .tc .vmem S1x512x1024 .f32) (harg3 : arg3.IsWhole) (arg4 : Memref sig .tc .vmem S1x512x1024 .f32) (harg4 : arg4.IsWhole) (arg5 : Memref sig .tc .vmem S1024x1024 .bf16) (harg5 : arg5.IsWhole) (arg6 : Memref sig .tc .vmem S1x6x128x1024 .f32) (harg6 : arg6.IsWhole) (arg7 : Memref sig .tc .vmem S1x1024 .f32) (harg7 : arg7.IsWhole) (arg8 : Memref sig .tc .vmem S1024x4096 .bf16) (harg8 : arg8.IsWhole) (arg9 : Memref sig .tc .vmem S4096x1024 .bf16) (harg9 : arg9.IsWhole) (arg10 : Memref sig .tc .vmem S1x32x3072 .f32) (harg10 : arg10.IsWhole) (arg11 : Memref sig .tc .vmem S1x32x1024 .f32) (harg11 : arg11.IsWhole) (arg12 : Memref sig .tc .vmem S1x512x1024 .f32) (harg12 : arg12.IsWhole) (arg13 : Memref sig .tc .vmem S1x512x1024 .f32) (harg13 : arg13.IsWhole) (arg14 : Memref sig .tc .vmem S32x3072 .bf16) (harg14 : arg14.IsWhole) (arg15 : Memref sig .tc .vmem S32x1024 .bf16) (harg15 : arg15.IsWhole) (hc0 : cond0_0 i) (hc1 : ¬cond0_1 i)
    (x0 : Vec F S1x512x1024 .f32) (x1 : Vec F S1x6x1x1024 .f32) (x2 : Vec F S1x512x1024 .f32) (x3 : Vec F S1x512x1024 .f32) (x4 : Vec F S1024x1024 .bf16) (x5 : Vec F S1x6x128x1024 .f32) (x6 : Vec F S1x1024 .f32) (x7 : Vec F S1024x4096 .bf16) (x8 : Vec F S4096x1024 .bf16) (x9 : Vec F S1x32x3072 .f32) (x10 : Vec F S1x32x1024 .f32) (y : S32x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10).2.2.2.1 S32x1024.size (by sl_kernel_rfl) y

def out0_A_14 (c : Dev nD) (i : grid0.Coords) (arg1 : Memref sig .tc .vmem S1x512x1024 .f32) (harg1 : arg1.IsWhole) (arg2 : Memref sig .tc .vmem S1x6x1x1024 .f32) (harg2 : arg2.IsWhole) (arg3 : Memref sig .tc .vmem S1x512x1024 .f32) (harg3 : arg3.IsWhole) (arg4 : Memref sig .tc .vmem S1x512x1024 .f32) (harg4 : arg4.IsWhole) (arg5 : Memref sig .tc .vmem S1024x1024 .bf16) (harg5 : arg5.IsWhole) (arg6 : Memref sig .tc .vmem S1x6x128x1024 .f32) (harg6 : arg6.IsWhole) (arg7 : Memref sig .tc .vmem S1x1024 .f32) (harg7 : arg7.IsWhole) (arg8 : Memref sig .tc .vmem S1024x4096 .bf16) (harg8 : arg8.IsWhole) (arg9 : Memref sig .tc .vmem S4096x1024 .bf16) (harg9 : arg9.IsWhole) (arg10 : Memref sig .tc .vmem S1x32x3072 .f32) (harg10 : arg10.IsWhole) (arg11 : Memref sig .tc .vmem S1x32x1024 .f32) (harg11 : arg11.IsWhole) (arg12 : Memref sig .tc .vmem S1x512x1024 .f32) (harg12 : arg12.IsWhole) (arg13 : Memref sig .tc .vmem S1x512x1024 .f32) (harg13 : arg13.IsWhole) (arg14 : Memref sig .tc .vmem S32x3072 .bf16) (harg14 : arg14.IsWhole) (arg15 : Memref sig .tc .vmem S32x1024 .bf16) (harg15 : arg15.IsWhole) (hc0 : cond0_0 i) (hc1 : ¬cond0_1 i)
    (x0 : Vec F S1x512x1024 .f32) (x1 : Vec F S1x6x1x1024 .f32) (x2 : Vec F S1x512x1024 .f32) (x3 : Vec F S1x512x1024 .f32) (x4 : Vec F S1024x1024 .bf16) (x5 : Vec F S1x6x128x1024 .f32) (x6 : Vec F S1x1024 .f32) (x7 : Vec F S1024x4096 .bf16) (x8 : Vec F S4096x1024 .bf16) (x9 : Vec F S1x32x3072 .f32) (x10 : Vec F S1x32x1024 .f32) : Vec F S32x1024 .bf16 :=
  VO0_14.read (Elt F) (VO0_14.writes (Elt F) VO0_14.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10).2.2.2.1)

def out0_B_11 (c : Dev nD) (i : grid0.Coords) (arg1 : Memref sig .tc .vmem S1x512x1024 .f32) (harg1 : arg1.IsWhole) (arg2 : Memref sig .tc .vmem S1x6x1x1024 .f32) (harg2 : arg2.IsWhole) (arg3 : Memref sig .tc .vmem S1x512x1024 .f32) (harg3 : arg3.IsWhole) (arg4 : Memref sig .tc .vmem S1x512x1024 .f32) (harg4 : arg4.IsWhole) (arg5 : Memref sig .tc .vmem S1024x1024 .bf16) (harg5 : arg5.IsWhole) (arg6 : Memref sig .tc .vmem S1x6x128x1024 .f32) (harg6 : arg6.IsWhole) (arg7 : Memref sig .tc .vmem S1x1024 .f32) (harg7 : arg7.IsWhole) (arg8 : Memref sig .tc .vmem S1024x4096 .bf16) (harg8 : arg8.IsWhole) (arg9 : Memref sig .tc .vmem S4096x1024 .bf16) (harg9 : arg9.IsWhole) (arg10 : Memref sig .tc .vmem S1x32x3072 .f32) (harg10 : arg10.IsWhole) (arg11 : Memref sig .tc .vmem S1x32x1024 .f32) (harg11 : arg11.IsWhole) (arg12 : Memref sig .tc .vmem S1x512x1024 .f32) (harg12 : arg12.IsWhole) (arg13 : Memref sig .tc .vmem S1x512x1024 .f32) (harg13 : arg13.IsWhole) (arg14 : Memref sig .tc .vmem S32x3072 .bf16) (harg14 : arg14.IsWhole) (arg15 : Memref sig .tc .vmem S32x1024 .bf16) (harg15 : arg15.IsWhole) (hc0 : ¬cond0_0 i) (hc1 : cond0_1 i)
    (x0 : Vec F S1x512x1024 .f32) (x1 : Vec F S1x6x1x1024 .f32) (x2 : Vec F S1x512x1024 .f32) (x3 : Vec F S1x512x1024 .f32) (x4 : Vec F S1024x1024 .bf16) (x5 : Vec F S1x6x128x1024 .f32) (x6 : Vec F S1x1024 .f32) (x7 : Vec F S1024x4096 .bf16) (x8 : Vec F S4096x1024 .bf16) (x9 : Vec F S1x32x3072 .f32) (x10 : Vec F S1x32x1024 .f32) (xo11 : Vec F S1x512x1024 .f32) : Vec F S1x512x1024 .f32 := xo11

theorem cover0_B_12 (c : Dev nD) (i : grid0.Coords) (arg1 : Memref sig .tc .vmem S1x512x1024 .f32) (harg1 : arg1.IsWhole) (arg2 : Memref sig .tc .vmem S1x6x1x1024 .f32) (harg2 : arg2.IsWhole) (arg3 : Memref sig .tc .vmem S1x512x1024 .f32) (harg3 : arg3.IsWhole) (arg4 : Memref sig .tc .vmem S1x512x1024 .f32) (harg4 : arg4.IsWhole) (arg5 : Memref sig .tc .vmem S1024x1024 .bf16) (harg5 : arg5.IsWhole) (arg6 : Memref sig .tc .vmem S1x6x128x1024 .f32) (harg6 : arg6.IsWhole) (arg7 : Memref sig .tc .vmem S1x1024 .f32) (harg7 : arg7.IsWhole) (arg8 : Memref sig .tc .vmem S1024x4096 .bf16) (harg8 : arg8.IsWhole) (arg9 : Memref sig .tc .vmem S4096x1024 .bf16) (harg9 : arg9.IsWhole) (arg10 : Memref sig .tc .vmem S1x32x3072 .f32) (harg10 : arg10.IsWhole) (arg11 : Memref sig .tc .vmem S1x32x1024 .f32) (harg11 : arg11.IsWhole) (arg12 : Memref sig .tc .vmem S1x512x1024 .f32) (harg12 : arg12.IsWhole) (arg13 : Memref sig .tc .vmem S1x512x1024 .f32) (harg13 : arg13.IsWhole) (arg14 : Memref sig .tc .vmem S32x3072 .bf16) (harg14 : arg14.IsWhole) (arg15 : Memref sig .tc .vmem S32x1024 .bf16) (harg15 : arg15.IsWhole) (hc0 : ¬cond0_0 i) (hc1 : cond0_1 i)
    (x0 : Vec F S1x512x1024 .f32) (x1 : Vec F S1x6x1x1024 .f32) (x2 : Vec F S1x512x1024 .f32) (x3 : Vec F S1x512x1024 .f32) (x4 : Vec F S1024x1024 .bf16) (x5 : Vec F S1x6x128x1024 .f32) (x6 : Vec F S1x1024 .f32) (x7 : Vec F S1024x4096 .bf16) (x8 : Vec F S4096x1024 .bf16) (x9 : Vec F S1x32x3072 .f32) (x10 : Vec F S1x32x1024 .f32) (xo11 : Vec F S1x512x1024 .f32) (y : S1x512x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xo11).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xo11).2.1 S1x512x1024.size (by sl_kernel_rfl) y

def out0_B_12 (c : Dev nD) (i : grid0.Coords) (arg1 : Memref sig .tc .vmem S1x512x1024 .f32) (harg1 : arg1.IsWhole) (arg2 : Memref sig .tc .vmem S1x6x1x1024 .f32) (harg2 : arg2.IsWhole) (arg3 : Memref sig .tc .vmem S1x512x1024 .f32) (harg3 : arg3.IsWhole) (arg4 : Memref sig .tc .vmem S1x512x1024 .f32) (harg4 : arg4.IsWhole) (arg5 : Memref sig .tc .vmem S1024x1024 .bf16) (harg5 : arg5.IsWhole) (arg6 : Memref sig .tc .vmem S1x6x128x1024 .f32) (harg6 : arg6.IsWhole) (arg7 : Memref sig .tc .vmem S1x1024 .f32) (harg7 : arg7.IsWhole) (arg8 : Memref sig .tc .vmem S1024x4096 .bf16) (harg8 : arg8.IsWhole) (arg9 : Memref sig .tc .vmem S4096x1024 .bf16) (harg9 : arg9.IsWhole) (arg10 : Memref sig .tc .vmem S1x32x3072 .f32) (harg10 : arg10.IsWhole) (arg11 : Memref sig .tc .vmem S1x32x1024 .f32) (harg11 : arg11.IsWhole) (arg12 : Memref sig .tc .vmem S1x512x1024 .f32) (harg12 : arg12.IsWhole) (arg13 : Memref sig .tc .vmem S1x512x1024 .f32) (harg13 : arg13.IsWhole) (arg14 : Memref sig .tc .vmem S32x3072 .bf16) (harg14 : arg14.IsWhole) (arg15 : Memref sig .tc .vmem S32x1024 .bf16) (harg15 : arg15.IsWhole) (hc0 : ¬cond0_0 i) (hc1 : cond0_1 i)
    (x0 : Vec F S1x512x1024 .f32) (x1 : Vec F S1x6x1x1024 .f32) (x2 : Vec F S1x512x1024 .f32) (x3 : Vec F S1x512x1024 .f32) (x4 : Vec F S1024x1024 .bf16) (x5 : Vec F S1x6x128x1024 .f32) (x6 : Vec F S1x1024 .f32) (x7 : Vec F S1024x4096 .bf16) (x8 : Vec F S4096x1024 .bf16) (x9 : Vec F S1x32x3072 .f32) (x10 : Vec F S1x32x1024 .f32) (xo11 : Vec F S1x512x1024 .f32) : Vec F S1x512x1024 .f32 :=
  VO0_12.read (Elt F) (VO0_12.writes (Elt F) VO0_12.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xo11).2.1)

theorem cover0_B_13 (c : Dev nD) (i : grid0.Coords) (arg1 : Memref sig .tc .vmem S1x512x1024 .f32) (harg1 : arg1.IsWhole) (arg2 : Memref sig .tc .vmem S1x6x1x1024 .f32) (harg2 : arg2.IsWhole) (arg3 : Memref sig .tc .vmem S1x512x1024 .f32) (harg3 : arg3.IsWhole) (arg4 : Memref sig .tc .vmem S1x512x1024 .f32) (harg4 : arg4.IsWhole) (arg5 : Memref sig .tc .vmem S1024x1024 .bf16) (harg5 : arg5.IsWhole) (arg6 : Memref sig .tc .vmem S1x6x128x1024 .f32) (harg6 : arg6.IsWhole) (arg7 : Memref sig .tc .vmem S1x1024 .f32) (harg7 : arg7.IsWhole) (arg8 : Memref sig .tc .vmem S1024x4096 .bf16) (harg8 : arg8.IsWhole) (arg9 : Memref sig .tc .vmem S4096x1024 .bf16) (harg9 : arg9.IsWhole) (arg10 : Memref sig .tc .vmem S1x32x3072 .f32) (harg10 : arg10.IsWhole) (arg11 : Memref sig .tc .vmem S1x32x1024 .f32) (harg11 : arg11.IsWhole) (arg12 : Memref sig .tc .vmem S1x512x1024 .f32) (harg12 : arg12.IsWhole) (arg13 : Memref sig .tc .vmem S1x512x1024 .f32) (harg13 : arg13.IsWhole) (arg14 : Memref sig .tc .vmem S32x3072 .bf16) (harg14 : arg14.IsWhole) (arg15 : Memref sig .tc .vmem S32x1024 .bf16) (harg15 : arg15.IsWhole) (hc0 : ¬cond0_0 i) (hc1 : cond0_1 i)
    (x0 : Vec F S1x512x1024 .f32) (x1 : Vec F S1x6x1x1024 .f32) (x2 : Vec F S1x512x1024 .f32) (x3 : Vec F S1x512x1024 .f32) (x4 : Vec F S1024x1024 .bf16) (x5 : Vec F S1x6x128x1024 .f32) (x6 : Vec F S1x1024 .f32) (x7 : Vec F S1024x4096 .bf16) (x8 : Vec F S4096x1024 .bf16) (x9 : Vec F S1x32x3072 .f32) (x10 : Vec F S1x32x1024 .f32) (xo11 : Vec F S1x512x1024 .f32) (y : S32x3072.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xo11).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xo11).2.2.1 S32x3072.size (by sl_kernel_rfl) y

def out0_B_13 (c : Dev nD) (i : grid0.Coords) (arg1 : Memref sig .tc .vmem S1x512x1024 .f32) (harg1 : arg1.IsWhole) (arg2 : Memref sig .tc .vmem S1x6x1x1024 .f32) (harg2 : arg2.IsWhole) (arg3 : Memref sig .tc .vmem S1x512x1024 .f32) (harg3 : arg3.IsWhole) (arg4 : Memref sig .tc .vmem S1x512x1024 .f32) (harg4 : arg4.IsWhole) (arg5 : Memref sig .tc .vmem S1024x1024 .bf16) (harg5 : arg5.IsWhole) (arg6 : Memref sig .tc .vmem S1x6x128x1024 .f32) (harg6 : arg6.IsWhole) (arg7 : Memref sig .tc .vmem S1x1024 .f32) (harg7 : arg7.IsWhole) (arg8 : Memref sig .tc .vmem S1024x4096 .bf16) (harg8 : arg8.IsWhole) (arg9 : Memref sig .tc .vmem S4096x1024 .bf16) (harg9 : arg9.IsWhole) (arg10 : Memref sig .tc .vmem S1x32x3072 .f32) (harg10 : arg10.IsWhole) (arg11 : Memref sig .tc .vmem S1x32x1024 .f32) (harg11 : arg11.IsWhole) (arg12 : Memref sig .tc .vmem S1x512x1024 .f32) (harg12 : arg12.IsWhole) (arg13 : Memref sig .tc .vmem S1x512x1024 .f32) (harg13 : arg13.IsWhole) (arg14 : Memref sig .tc .vmem S32x3072 .bf16) (harg14 : arg14.IsWhole) (arg15 : Memref sig .tc .vmem S32x1024 .bf16) (harg15 : arg15.IsWhole) (hc0 : ¬cond0_0 i) (hc1 : cond0_1 i)
    (x0 : Vec F S1x512x1024 .f32) (x1 : Vec F S1x6x1x1024 .f32) (x2 : Vec F S1x512x1024 .f32) (x3 : Vec F S1x512x1024 .f32) (x4 : Vec F S1024x1024 .bf16) (x5 : Vec F S1x6x128x1024 .f32) (x6 : Vec F S1x1024 .f32) (x7 : Vec F S1024x4096 .bf16) (x8 : Vec F S4096x1024 .bf16) (x9 : Vec F S1x32x3072 .f32) (x10 : Vec F S1x32x1024 .f32) (xo11 : Vec F S1x512x1024 .f32) : Vec F S32x3072 .bf16 :=
  VO0_13.read (Elt F) (VO0_13.writes (Elt F) VO0_13.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xo11).2.2.1)

theorem cover0_B_14 (c : Dev nD) (i : grid0.Coords) (arg1 : Memref sig .tc .vmem S1x512x1024 .f32) (harg1 : arg1.IsWhole) (arg2 : Memref sig .tc .vmem S1x6x1x1024 .f32) (harg2 : arg2.IsWhole) (arg3 : Memref sig .tc .vmem S1x512x1024 .f32) (harg3 : arg3.IsWhole) (arg4 : Memref sig .tc .vmem S1x512x1024 .f32) (harg4 : arg4.IsWhole) (arg5 : Memref sig .tc .vmem S1024x1024 .bf16) (harg5 : arg5.IsWhole) (arg6 : Memref sig .tc .vmem S1x6x128x1024 .f32) (harg6 : arg6.IsWhole) (arg7 : Memref sig .tc .vmem S1x1024 .f32) (harg7 : arg7.IsWhole) (arg8 : Memref sig .tc .vmem S1024x4096 .bf16) (harg8 : arg8.IsWhole) (arg9 : Memref sig .tc .vmem S4096x1024 .bf16) (harg9 : arg9.IsWhole) (arg10 : Memref sig .tc .vmem S1x32x3072 .f32) (harg10 : arg10.IsWhole) (arg11 : Memref sig .tc .vmem S1x32x1024 .f32) (harg11 : arg11.IsWhole) (arg12 : Memref sig .tc .vmem S1x512x1024 .f32) (harg12 : arg12.IsWhole) (arg13 : Memref sig .tc .vmem S1x512x1024 .f32) (harg13 : arg13.IsWhole) (arg14 : Memref sig .tc .vmem S32x3072 .bf16) (harg14 : arg14.IsWhole) (arg15 : Memref sig .tc .vmem S32x1024 .bf16) (harg15 : arg15.IsWhole) (hc0 : ¬cond0_0 i) (hc1 : cond0_1 i)
    (x0 : Vec F S1x512x1024 .f32) (x1 : Vec F S1x6x1x1024 .f32) (x2 : Vec F S1x512x1024 .f32) (x3 : Vec F S1x512x1024 .f32) (x4 : Vec F S1024x1024 .bf16) (x5 : Vec F S1x6x128x1024 .f32) (x6 : Vec F S1x1024 .f32) (x7 : Vec F S1024x4096 .bf16) (x8 : Vec F S4096x1024 .bf16) (x9 : Vec F S1x32x3072 .f32) (x10 : Vec F S1x32x1024 .f32) (xo11 : Vec F S1x512x1024 .f32) (y : S32x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xo11).2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xo11).2.2.2.1 S32x1024.size (by sl_kernel_rfl) y

def out0_B_14 (c : Dev nD) (i : grid0.Coords) (arg1 : Memref sig .tc .vmem S1x512x1024 .f32) (harg1 : arg1.IsWhole) (arg2 : Memref sig .tc .vmem S1x6x1x1024 .f32) (harg2 : arg2.IsWhole) (arg3 : Memref sig .tc .vmem S1x512x1024 .f32) (harg3 : arg3.IsWhole) (arg4 : Memref sig .tc .vmem S1x512x1024 .f32) (harg4 : arg4.IsWhole) (arg5 : Memref sig .tc .vmem S1024x1024 .bf16) (harg5 : arg5.IsWhole) (arg6 : Memref sig .tc .vmem S1x6x128x1024 .f32) (harg6 : arg6.IsWhole) (arg7 : Memref sig .tc .vmem S1x1024 .f32) (harg7 : arg7.IsWhole) (arg8 : Memref sig .tc .vmem S1024x4096 .bf16) (harg8 : arg8.IsWhole) (arg9 : Memref sig .tc .vmem S4096x1024 .bf16) (harg9 : arg9.IsWhole) (arg10 : Memref sig .tc .vmem S1x32x3072 .f32) (harg10 : arg10.IsWhole) (arg11 : Memref sig .tc .vmem S1x32x1024 .f32) (harg11 : arg11.IsWhole) (arg12 : Memref sig .tc .vmem S1x512x1024 .f32) (harg12 : arg12.IsWhole) (arg13 : Memref sig .tc .vmem S1x512x1024 .f32) (harg13 : arg13.IsWhole) (arg14 : Memref sig .tc .vmem S32x3072 .bf16) (harg14 : arg14.IsWhole) (arg15 : Memref sig .tc .vmem S32x1024 .bf16) (harg15 : arg15.IsWhole) (hc0 : ¬cond0_0 i) (hc1 : cond0_1 i)
    (x0 : Vec F S1x512x1024 .f32) (x1 : Vec F S1x6x1x1024 .f32) (x2 : Vec F S1x512x1024 .f32) (x3 : Vec F S1x512x1024 .f32) (x4 : Vec F S1024x1024 .bf16) (x5 : Vec F S1x6x128x1024 .f32) (x6 : Vec F S1x1024 .f32) (x7 : Vec F S1024x4096 .bf16) (x8 : Vec F S4096x1024 .bf16) (x9 : Vec F S1x32x3072 .f32) (x10 : Vec F S1x32x1024 .f32) (xo11 : Vec F S1x512x1024 .f32) : Vec F S32x1024 .bf16 :=
  VO0_14.read (Elt F) (VO0_14.writes (Elt F) VO0_14.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 x10 xo11).2.2.2.1)

/-! ## What the outputs hold after each point -/

end Cert.FirstIdeal.Gen

end
-- ==== Proof.FirstRun.Frame.lean ====
/- What the output windows hold point by point, the proof data, the body obligation and the run, for the windows named below. -/
module

public import proofs.«01_k».proof.Proof.FirstRun.Outs

@[expose] public section

-- the long axes' rectangles are looked at coordinate by coordinate
set_option maxRecDepth 16384

noncomputable section

namespace Cert.FirstIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

def outsAt0 (c : Dev nD) : (n : ℕ) → n < cfg0.N → Vec F S1x512x1024 .f32 × Vec F S1x512x1024 .f32 × Vec F S32x3072 .bf16 × Vec F S32x1024 .bf16
  | 0, hn => (out0_A_11 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) ((hcond0_0 ⟨0, hn⟩).mpr (by (try dsimp only); omega)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (X0_5 m c ⟨0, hn⟩) (iblk m c 6 ⟨0, hn⟩) (iblk m c 7 ⟨0, hn⟩) (iblk m c 8 ⟨0, hn⟩) (iblk m c 9 ⟨0, hn⟩) (iblk m c 10 ⟨0, hn⟩), out0_A_12 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) ((hcond0_0 ⟨0, hn⟩).mpr (by (try dsimp only); omega)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (X0_5 m c ⟨0, hn⟩) (iblk m c 6 ⟨0, hn⟩) (iblk m c 7 ⟨0, hn⟩) (iblk m c 8 ⟨0, hn⟩) (iblk m c 9 ⟨0, hn⟩) (iblk m c 10 ⟨0, hn⟩), out0_A_13 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) ((hcond0_0 ⟨0, hn⟩).mpr (by (try dsimp only); omega)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (X0_5 m c ⟨0, hn⟩) (iblk m c 6 ⟨0, hn⟩) (iblk m c 7 ⟨0, hn⟩) (iblk m c 8 ⟨0, hn⟩) (iblk m c 9 ⟨0, hn⟩) (iblk m c 10 ⟨0, hn⟩), out0_A_14 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) ((hcond0_0 ⟨0, hn⟩).mpr (by (try dsimp only); omega)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (X0_5 m c ⟨0, hn⟩) (iblk m c 6 ⟨0, hn⟩) (iblk m c 7 ⟨0, hn⟩) (iblk m c 8 ⟨0, hn⟩) (iblk m c 9 ⟨0, hn⟩) (iblk m c 10 ⟨0, hn⟩))
  | n + 1, hn =>
    if h0 : (n + 1) < 32 then
      if h1 : (n + 1) % 33 = 32 then
        False.elim (by have hN : n + 1 < 33 := lt_of_lt_of_eq hn (show cfg0.N = 33 from N_0); omega)
      else
        (out0_A_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (X0_5 m c ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩), out0_A_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (X0_5 m c ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩), out0_A_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (X0_5 m c ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩), out0_A_14 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (X0_5 m c ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩))
    else
      if h1 : (n + 1) % 33 = 32 then
        (out0_B_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (X0_5 m c ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (outsAt0 c n (Nat.lt_of_succ_lt hn)).1, out0_B_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (X0_5 m c ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (outsAt0 c n (Nat.lt_of_succ_lt hn)).1, out0_B_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (X0_5 m c ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (outsAt0 c n (Nat.lt_of_succ_lt hn)).1, out0_B_14 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (X0_5 m c ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (outsAt0 c n (Nat.lt_of_succ_lt hn)).1)
      else
        False.elim (by have hN : n + 1 < 33 := lt_of_lt_of_eq hn (show cfg0.N = 33 from N_0); omega)

theorem outsAt0_A (c : Dev nD) (t : Fin cfg0.N) (h0 : t.val < 32) (h1 : ¬t.val % 33 = 32) :
    outsAt0 m c t.val t.isLt = (out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) ((hcond0_0 t).mpr h0) (fun h => h1 ((hcond0_1 t).mp h)) (iblk m c 0 t) (iblk m c 1 t) (iblk m c 2 t) (iblk m c 3 t) (iblk m c 4 t) (X0_5 m c t) (iblk m c 6 t) (iblk m c 7 t) (iblk m c 8 t) (iblk m c 9 t) (iblk m c 10 t), out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) ((hcond0_0 t).mpr h0) (fun h => h1 ((hcond0_1 t).mp h)) (iblk m c 0 t) (iblk m c 1 t) (iblk m c 2 t) (iblk m c 3 t) (iblk m c 4 t) (X0_5 m c t) (iblk m c 6 t) (iblk m c 7 t) (iblk m c 8 t) (iblk m c 9 t) (iblk m c 10 t), out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) ((hcond0_0 t).mpr h0) (fun h => h1 ((hcond0_1 t).mp h)) (iblk m c 0 t) (iblk m c 1 t) (iblk m c 2 t) (iblk m c 3 t) (iblk m c 4 t) (X0_5 m c t) (iblk m c 6 t) (iblk m c 7 t) (iblk m c 8 t) (iblk m c 9 t) (iblk m c 10 t), out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) ((hcond0_0 t).mpr h0) (fun h => h1 ((hcond0_1 t).mp h)) (iblk m c 0 t) (iblk m c 1 t) (iblk m c 2 t) (iblk m c 3 t) (iblk m c 4 t) (X0_5 m c t) (iblk m c 6 t) (iblk m c 7 t) (iblk m c 8 t) (iblk m c 9 t) (iblk m c 10 t)) := by
  obtain ⟨n, hn⟩ := t
  cases n with
  | zero => exact rfl
  | succ n => exact (dif_pos h0).trans ((dif_neg h1).trans rfl)

theorem outsAt0_B (c : Dev nD) (t : Fin cfg0.N) (h0 : ¬t.val < 32) (h1 : t.val % 33 = 32) :
    outsAt0 m c t.val t.isLt = (out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (fun h => h0 ((hcond0_0 t).mp h)) ((hcond0_1 t).mpr h1) (iblk m c 0 t) (iblk m c 1 t) (iblk m c 2 t) (iblk m c 3 t) (iblk m c 4 t) (X0_5 m c t) (iblk m c 6 t) (iblk m c 7 t) (iblk m c 8 t) (iblk m c 9 t) (iblk m c 10 t) (outsAt0 m c (t.val - 1) (Nat.lt_of_le_of_lt (Nat.sub_le _ _) t.isLt)).1, out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (fun h => h0 ((hcond0_0 t).mp h)) ((hcond0_1 t).mpr h1) (iblk m c 0 t) (iblk m c 1 t) (iblk m c 2 t) (iblk m c 3 t) (iblk m c 4 t) (X0_5 m c t) (iblk m c 6 t) (iblk m c 7 t) (iblk m c 8 t) (iblk m c 9 t) (iblk m c 10 t) (outsAt0 m c (t.val - 1) (Nat.lt_of_le_of_lt (Nat.sub_le _ _) t.isLt)).1, out0_B_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (fun h => h0 ((hcond0_0 t).mp h)) ((hcond0_1 t).mpr h1) (iblk m c 0 t) (iblk m c 1 t) (iblk m c 2 t) (iblk m c 3 t) (iblk m c 4 t) (X0_5 m c t) (iblk m c 6 t) (iblk m c 7 t) (iblk m c 8 t) (iblk m c 9 t) (iblk m c 10 t) (outsAt0 m c (t.val - 1) (Nat.lt_of_le_of_lt (Nat.sub_le _ _) t.isLt)).1, out0_B_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (fun h => h0 ((hcond0_0 t).mp h)) ((hcond0_1 t).mpr h1) (iblk m c 0 t) (iblk m c 1 t) (iblk m c 2 t) (iblk m c 3 t) (iblk m c 4 t) (X0_5 m c t) (iblk m c 6 t) (iblk m c 7 t) (iblk m c 8 t) (iblk m c 9 t) (iblk m c 10 t) (outsAt0 m c (t.val - 1) (Nat.lt_of_le_of_lt (Nat.sub_le _ _) t.isLt)).1) := by
  obtain ⟨n, hn⟩ := t
  cases n with
  | zero => exact (by exfalso; (try dsimp only at h0); exact by omega)
  | succ n => exact (dif_neg h0).trans ((dif_pos h1).trans rfl)

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => X0_5 m c t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => (outsAt0 m c t.val t.isLt).1
    | ⟨12, _⟩ => (outsAt0 m c t.val t.isLt).2.1
    | ⟨13, _⟩ => (outsAt0 m c t.val t.isLt).2.2.1
    | ⟨14, _⟩ => (outsAt0 m c t.val t.isLt).2.2.2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = X0_5 m c t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = (outsAt0 m c t.val t.isLt).1 := by dsimp only [dats]
theorem after0_12 (c : Dev nD) (t : Fin cfg0.N) : (dats m 0 c).after 12 t = (outsAt0 m c t.val t.isLt).2.1 := by dsimp only [dats]
theorem after0_13 (c : Dev nD) (t : Fin cfg0.N) : (dats m 0 c).after 13 t = (outsAt0 m c t.val t.isLt).2.2.1 := by dsimp only [dats]
theorem after0_14 (c : Dev nD) (t : Fin cfg0.N) : (dats m 0 c).after 14 t = (outsAt0 m c t.val t.isLt).2.2.2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = X0_5 m c t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

theorem hcarry0_11 (c : Dev nD) : ∀ (t : Fin cfg0.N) (_ : t.val ≠ 0), cfg0.idle 11 (grid0.coords t) = true → cfg0.fresh 11 t.val = false →
    (dats m 0 c).after 11 t = (dats m 0 c).after 11 ⟨t.val - 1, by omega⟩ := by
  intro t _ hi _
  have hN : t.val < 33 := lt_of_lt_of_eq t.isLt (show cfg0.N = 33 from N_0)
  rw [after0_11, after0_11]
  by_cases h0 : t.val < 32
  · by_cases h1 : t.val % 33 = 32
    · exfalso; omega
    · rw [liveAt0_11_A t ((hcond0_0 t).mpr h0) (fun h => h1 ((hcond0_1 t).mp h))] at hi
      exact absurd hi Bool.false_ne_true
  · by_cases h1 : t.val % 33 = 32
    · rw [outsAt0_B m c t h0 h1]
      rfl
    · exfalso; omega
theorem before0_11_B (c : Dev nD) (t : Fin cfg0.N) (h0 : ¬t.val < 32) (h1 : t.val % 33 = 32) (d) :
    (dats m 0 c).before 11 t d = (outsAt0 m c (t.val - 1) (Nat.lt_of_le_of_lt (Nat.sub_le _ _) t.isLt)).1 := by
  rw [Dat.before_out_traj _ 11 rfl (fun _ _ => rfl) (hcarry0_11 m c) t.val t rfl d,
    if_neg (by rw [notFresh0_11_B t (fun h => h0 ((hcond0_0 t).mp h)) ((hcond0_1 t).mpr h1)]; exact Bool.false_ne_true)]
  dsimp only [dats]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t)

set_option maxHeartbeats 2400000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.succ = (dats m 0 c).Φ t.castSucc from rfl,
    show (dats m 0 c).owesAt () t.succ = (dats m 0 c).owesAt () t.castSucc from rfl]
  have hN : t.val < 33 := lt_of_lt_of_eq t.isLt (show cfg0.N = 33 from N_0)
  by_cases h0 : t.val < 32
  · by_cases h1 : t.val % 33 = 32
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10 t], after0_10]
      rw [show (dats m 0 c).leavesExact 11 t = owns (c : Thread nD τ) (ms0_11 t) fullShare ((dats m 0 c).after 11 t) from by
      unfold Dat.leavesExact; rw [liveAt0_11_A t ((hcond0_0 t).mpr h0) (fun h => h1 ((hcond0_1 t).mp h))], after0_11]
      rw [Dat.leavesExact_idle (dats m 0 c) 12 t (idleAt0_12_A t ((hcond0_0 t).mpr h0) (fun h => h1 ((hcond0_1 t).mp h))) (noFlush0_12_A t ((hcond0_0 t).mpr h0) (fun h => h1 ((hcond0_1 t).mp h)))]
      rw [show (dats m 0 c).leavesExact 13 t = owns (c : Thread nD τ) (ms0_13 t) fullShare ((dats m 0 c).after 13 t) from by
      unfold Dat.leavesExact; rw [liveAt0_13 t], after0_13]
      rw [show (dats m 0 c).leavesExact 14 t = owns (c : Thread nD τ) (ms0_14 t) fullShare ((dats m 0 c).after 14 t) from by
      unfold Dat.leavesExact; rw [liveAt0_14 t], after0_14]
      rw [outsAt0_A m c t h0 h1]
      unfold out0_A_11 out0_A_13 out0_A_14; (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
      iapply ((kernelRun0_A c (grid0.coords t) _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (X0_5 m c t) (iblk m c 6 t) (iblk m c 7 t) (iblk m c 8 t) (iblk m c 9 t) (iblk m c 10 t)).2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [H12]; · iexact H12
      isplitl [H13]; · iexists _; iexact H13
      isplitl [H14]; · iexists _; iexact H14
      iintro ⟨H0, H1, H2, H3, H4, H5, H6, H7, H8, H9, H10, ⟨%e11, H11⟩, H12, ⟨%e13, H13⟩, ⟨%e14, H14⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]
      · unfold owns; iexists _; isplitr
        swap; · iexact H11
        ipureintro; exact View.read_writes_of_cover _ _ _ _ _ (cover0_A_11 c _ _ _ _ _ _ _ _ _ _ _ _ _ _ _ _ _ _ _ _ _ _ _ _ _ _ _ _ _ _ _ _ _ _ _ _ _ _ _ _ _ _ _ _)
      isplitl [H12]; · iexists _; iexact H12
      isplitl [H13]
      · unfold owns; iexists _; isplitr
        swap; · iexact H13
        ipureintro; exact View.read_writes_of_cover _ _ _ _ _ (cover0_A_13 c _ _ _ _ _ _ _ _ _ _ _ _ _ _ _ _ _ _ _ _ _ _ _ _ _ _ _ _ _ _ _ _ _ _ _ _ _ _ _ _ _ _ _ _)
      unfold owns; iexists _; isplitr
      swap; · iexact H14
      ipureintro; exact View.read_writes_of_cover _ _ _ _ _ (cover0_A_14 c _ _ _ _ _ _ _ _ _ _ _ _ _ _ _ _ _ _ _ _ _ _ _ _ _ _ _ _ _ _ _ _ _ _ _ _ _ _ _ _ _ _ _ _)
  · by_cases h1 : t.val % 33 = 32
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10 t], after0_10]
      rw [show (dats m 0 c).leavesExact 11 t = owns (c : Thread nD τ) (ms0_11 t) fullShare ((dats m 0 c).after 11 t) from by
      unfold Dat.leavesExact; rw [idleAt0_11_B t (fun h => h0 ((hcond0_0 t).mp h)) ((hcond0_1 t).mpr h1), flushAt0_11_B t (fun h => h0 ((hcond0_0 t).mp h)) ((hcond0_1 t).mpr h1)], after0_11]
      rw [show (dats m 0 c).leavesExact 12 t = owns (c : Thread nD τ) (ms0_12 t) fullShare ((dats m 0 c).after 12 t) from by
      unfold Dat.leavesExact; rw [liveAt0_12_B t (fun h => h0 ((hcond0_0 t).mp h)) ((hcond0_1 t).mpr h1)], after0_12]
      rw [show (dats m 0 c).leavesExact 13 t = owns (c : Thread nD τ) (ms0_13 t) fullShare ((dats m 0 c).after 13 t) from by
      unfold Dat.leavesExact; rw [liveAt0_13 t], after0_13]
      rw [show (dats m 0 c).leavesExact 14 t = owns (c : Thread nD τ) (ms0_14 t) fullShare ((dats m 0 c).after 14 t) from by
      unfold Dat.leavesExact; rw [liveAt0_14 t], after0_14]
      rw [outsAt0_B m c t h0 h1]
      simp only [before0_11_B m c t h0 h1]
      unfold out0_B_11 out0_B_12 out0_B_13 out0_B_14; (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
      iapply ((kernelRun0_B c (grid0.coords t) _ _ _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (X0_5 m c t) (iblk m c 6 t) (iblk m c 7 t) (iblk m c 8 t) (iblk m c 9 t) (iblk m c 10 t) _).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexists _; iexact H12
      isplitl [H13]; · iexists _; iexact H13
      isplitl [H14]; · iexists _; iexact H14
      iintro ⟨H0, H1, H2, H3, H4, H5, H6, H7, H8, H9, H10, H11, ⟨%e12, H12⟩, ⟨%e13, H13⟩, ⟨%e14, H14⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]
      · unfold owns; iexists _; isplitr
        swap; · iexact H12
        ipureintro; exact View.read_writes_of_cover _ _ _ _ _ (cover0_B_12 c _ _ _ _ _ _ _ _ _ _ _ _ _ _ _ _ _ _ _ _ _ _ _ _ _ _ _ _ _ _ _ _ _ _ _ _ _ _ _ _ _ _ _ _ _)
      isplitl [H13]
      · unfold owns; iexists _; isplitr
        swap; · iexact H13
        ipureintro; exact View.read_writes_of_cover _ _ _ _ _ (cover0_B_13 c _ _ _ _ _ _ _ _ _ _ _ _ _ _ _ _ _ _ _ _ _ _ _ _ _ _ _ _ _ _ _ _ _ _ _ _ _ _ _ _ _ _ _ _ _)
      unfold owns; iexists _; isplitr
      swap; · iexact H14
      ipureintro; exact View.read_writes_of_cover _ _ _ _ _ (cover0_B_14 c _ _ _ _ _ _ _ _ _ _ _ _ _ _ _ _ _ _ _ _ _ _ _ _ _ _ _ _ _ _ _ _ _ _ _ _ _ _ _ _ _ _ _ _ _)
    · exfalso; omega

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (unchanged m ρ) ((θ_run defs _ _).mono (fun _ h => h.2) (run_main_quiescent m ρ))

end Cert.FirstIdeal.Gen

end
-- ==== Proof.FirstRun.Value.lean ====
/- Each output array after the run, as what the grid points write back. -/
module

public import proofs.«01_k».proof.Proof.FirstRun.Frame
public import Idealize.ShloMosaic.Lib.Pipeline.Value

@[expose] public section

noncomputable section

namespace Cert.FirstIdeal.Value

open Cert.FirstIdeal Cert.FirstIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem flushed11 (c : Dev nD) (t : Fin cfg0.N) :
    (dats m 0 c).flushed 11 t = (cfg0.win 11).cut (grid0.coords t) ((outsAt0 m c t.val t.isLt).1) := by
  show (cfg0.win 11).cut (grid0.coords t) ((dats m 0 c).after 11 t) = _
  rw [after0_11]

theorem flushed12 (c : Dev nD) (t : Fin cfg0.N) :
    (dats m 0 c).flushed 12 t = (cfg0.win 12).cut (grid0.coords t) ((outsAt0 m c t.val t.isLt).2.1) := by
  show (cfg0.win 12).cut (grid0.coords t) ((dats m 0 c).after 12 t) = _
  rw [after0_12]

theorem flushed13 (c : Dev nD) (t : Fin cfg0.N) :
    (dats m 0 c).flushed 13 t = (cfg0.win 13).cut (grid0.coords t) ((outsAt0 m c t.val t.isLt).2.2.1) := by
  show (cfg0.win 13).cut (grid0.coords t) ((dats m 0 c).after 13 t) = _
  rw [after0_13]

theorem flushed14 (c : Dev nD) (t : Fin cfg0.N) :
    (dats m 0 c).flushed 14 t = (cfg0.win 14).cut (grid0.coords t) ((outsAt0 m c t.val t.isLt).2.2.2) := by
  show (cfg0.win 14).cut (grid0.coords t) ((dats m 0 c).after 14 t) = _
  rw [after0_14]

theorem post11 (r : PUnit × MemSt nD τ sig (Elt F)) (h : Pipeline.FramePost cfgs (dats m) 0 (V m) r) (c : Dev nD) :
    r.2.mem ((c : Thread nD τ).loc main_v1_0) = (dats m 0 c).arrAt 11 cfg0.N :=
  (h c).1 11

theorem post12 (r : PUnit × MemSt nD τ sig (Elt F)) (h : Pipeline.FramePost cfgs (dats m) 0 (V m) r) (c : Dev nD) :
    r.2.mem ((c : Thread nD τ).loc main_v1_1) = (dats m 0 c).arrAt 12 cfg0.N :=
  (h c).1 12

theorem post13 (r : PUnit × MemSt nD τ sig (Elt F)) (h : Pipeline.FramePost cfgs (dats m) 0 (V m) r) (c : Dev nD) :
    r.2.mem ((c : Thread nD τ).loc main_v1_2) = (dats m 0 c).arrAt 13 cfg0.N :=
  (h c).1 13

theorem post14 (r : PUnit × MemSt nD τ sig (Elt F)) (h : Pipeline.FramePost cfgs (dats m) 0 (V m) r) (c : Dev nD) :
    r.2.mem ((c : Thread nD τ).loc main_v1_3) = (dats m 0 c).arrAt 14 cfg0.N :=
  (h c).1 14

theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))

theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).1 7).trans (((dats m 0 c).arrAt_in 7 rfl _).trans ((A_eq m c 7).trans (V_main_arg7 m c)))

theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).1 8).trans (((dats m 0 c).arrAt_in 8 rfl _).trans ((A_eq m c 8).trans (V_main_arg8 m c)))

theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).1 9).trans (((dats m 0 c).arrAt_in 9 rfl _).trans ((A_eq m c 9).trans (V_main_arg9 m c)))

theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).1 10).trans (((dats m 0 c).arrAt_in 10 rfl _).trans ((A_eq m c 10).trans (V_main_arg10 m c)))

theorem run_blocks : θ_run defs (onTc (τ := τ) (main (F := F))) ⟨m, fun _ => 0, ρ⟩ fun r => ∀ c : Dev nD,
      r.2.mem ((c : Thread nD τ).loc main_v1_0) = (dats m 0 c).arrAt 11 cfg0.N
      ∧ r.2.mem ((c : Thread nD τ).loc main_v1_1) = (dats m 0 c).arrAt 12 cfg0.N
      ∧ r.2.mem ((c : Thread nD τ).loc main_v1_2) = (dats m 0 c).arrAt 13 cfg0.N
      ∧ r.2.mem ((c : Thread nD τ).loc main_v1_3) = (dats m 0 c).arrAt 14 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨post11 m r h c,
      post12 m r h c,
      post13 m r h c,
      post14 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c⟩)
    (run_main m ρ)

end Cert.FirstIdeal.Value

end
-- ==== Proof.FirstRun.Same.lean ====
/- The program `First` and its ideal are the same text: nothing was rewritten. So their bodies, read at the machine's floats, are
   the same programs, and the run proved for one is the run of the other. -/
module

public import proofs.«01_k».proof.Defs
public import proofs.«01_k».proof.Proof.Gen.First
public import proofs.«01_k».proof.Proof.FirstRun.Value

@[expose] public section

namespace Cert.Proof

open Idealize.ShloMosaic Idealize.SL.Sem

set_option maxRecDepth 20000

theorem first_body : @Cert.First.cc0_mlp Bits _ _ = @Cert.FirstIdeal.cc0_mlp Bits _ _ := rfl

set_option maxHeartbeats 4000000 in
theorem first_defs₀ : @Cert.First.defs₀ Bits _ _ = @Cert.FirstIdeal.defs₀ Bits _ _ := by
  unfold Cert.First.defs₀ Cert.FirstIdeal.defs₀
  refine congrArg (Defs.onTc (nD := Cert.First.nD) (τ := Cert.First.τ) (sig := Cert.First.sig) (Val := Elt Bits) (Λ := Cert.First.Λ₀)) ?_
  funext l a
  obtain ⟨_ | n, hl⟩ := l
  · obtain ⟨t, s⟩ := a
    dsimp only
    rw [first_body]
    rfl
  · exact absurd hl (Nat.not_lt.2 (Nat.le_add_left _ _))

theorem first_defs : @Cert.First.defs Bits _ _ = @Cert.FirstIdeal.defs Bits _ _ :=
  congrArg (Pipeline.defs (Cert.First.pcfgs (F := Bits))) first_defs₀

theorem first_frame : Cert.quiescent_First := fun m ρ _ => by
  rw [first_defs]
  exact Cert.FirstIdeal.Gen.frame (F := Bits) m ρ

end Cert.Proof

end
-- ==== Proof.FirstValue.Pay.lean ====
module

public import proofs.«01_k».proof.Proof.MlpValue.Spec
public import proofs.«01_k».proof.Proof.Gen.FirstIdeal.Skeleton

@[expose] public section
set_option maxRecDepth 16384
noncomputable section
namespace Cert.FirstValue
open Cert.FirstIdeal Cert.FirstIdeal.Gen Idealize.ShloMosaic Idealize.ShloMosaic.TcCoe Idealize.SL.Sem Cert.Layer

theorem pay6_at (x : FVec Ideal S1x512x1024 .f32) (g : FVec Ideal S1x1024 .f32) (sh sc : FVec Ideal S1x1x1x1024 .f32)
    (r : Fin 512) (k : Fin 1024) :
    (k0_pay6 (F := Ideal) x sh sc g (ix2 r k) : EReal)
      = modRow (fun k => x (ix3 0 r k)) (fun k => g (ix2 0 k)) (fun k => sh (ix4 0 0 0 k)) (fun k => sc (ix4 0 0 0 k)) k := by
  pointwise [k0_pay5, k0_pay6, modRow, rrms]

theorem pay9_at (x : FVec Ideal S1x512x1024 .f32) (g : FVec Ideal S1x1024 .f32) (sh sc ga : FVec Ideal S1x1x1x1024 .f32)
    (a0 a1 a2 a3 b0 b1 b2 b3 : FVec Ideal S1024x1024 .bf16) (r : Fin 512) (d : Fin 1024) (h : FVec Ideal S512x1024 .bf16)
    (hh : k0_pay6 (F := Ideal) x sh sc g = h) :
    (k0_pay3 (k0_pay9 (k0_pay5 x) (k0_pay6 x sh sc g) (k0_pay7 (F := Ideal)) (k0_pay8 x sh sc g a0) b0 (constant S512x1024 .f32 0x00000000#32) a1 b1 a2 b2 a3 b3 ga) (ix3 0 r d) : EReal)
      = resid (fun k => x (ix3 0 r k)) (fun k => ga (ix4 0 0 0 k)) (fun d =>
          quarter (fun j => h (ix2 r j)) (fun j k => a0 (ix2 j k)) (fun k d => b0 (ix2 k d)) d
          + quarter (fun j => h (ix2 r j)) (fun j k => a1 (ix2 j k)) (fun k d => b1 (ix2 k d)) d
          + quarter (fun j => h (ix2 r j)) (fun j k => a2 (ix2 j k)) (fun k d => b2 (ix2 k d)) d
          + quarter (fun j => h (ix2 r j)) (fun j k => a3 (ix2 j k)) (fun k d => b3 (ix2 k d)) d) d := by
  unfold k0_pay8
  rw [hh]
  clear hh
  pointwise [k0_pay3, k0_pay5, k0_pay7, k0_pay9, resid, quarter, act, proj]

theorem pay10_at (x y : FVec Ideal S1x512x1024 .f32) (w : FVec Ideal S1024x1024 .bf16) (ga : FVec Ideal S1x1x128x1024 .f32)
    (t : Fin 4) (l : Fin 128) (d : Fin 1024) :
    (k0_pay10 (F := Ideal) x y w ga (ix2 (srow t l) d) : EReal)
      = resid (fun k => x (ix3 0 (srow t l) k)) (fun k => ga (ix4 0 0 l k))
          (fun d => proj (fun j => y (ix3 0 (srow t l) j)) (fun j => w (ix2 j d))) d := by
  pointwise [k0_pay10, resid, proj]
  have := t.isLt
  have := l.isLt
  split_ifs <;> blk_point [srow]

theorem pay20_at (x y : FVec Ideal S1x512x1024 .f32) (w : FVec Ideal S1024x1024 .bf16) (g : FVec Ideal S1x1024 .f32)
    (sh sc ga : FVec Ideal S1x1x128x1024 .f32) (t : Fin 4) (l : Fin 128) (k : Fin 1024) (R : FVec Ideal S512x1024 .f32)
    (hR : k0_pay10 (F := Ideal) x y w ga = R) :
    (k0_pay20 (F := Ideal) (k0_pay10 x y w ga) (k0_pay11 sh) (k0_pay12 sc)
        (k0_pay16 (k0_pay11 sh) (k0_pay12 sc) (k0_pay13 x y w ga) (k0_pay14 g) (k0_pay15 x y w ga))
        (k0_pay17 (k0_pay10 x y w ga) (k0_pay11 sh) (k0_pay12 sc) g) (k0_pay18 (k0_pay10 x y w ga)) (k0_pay19 g) g (ix2 (srow t l) k) : EReal)
      = modRow (fun k => R (ix2 (srow t l) k)) (fun k => g (ix2 0 k)) (fun k => sh (ix4 0 0 l k)) (fun k => sc (ix4 0 0 l k)) k := by
  unfold k0_pay15 k0_pay13
  rw [hR]
  clear hR
  pointwise [k0_pay11, k0_pay12, k0_pay14, k0_pay16, k0_pay17, k0_pay18, k0_pay19, k0_pay20, modRow, rrms]
  have := t.isLt
  have := l.isLt
  split_ifs <;> blk_point [srow]

theorem pay21_at (v39 : FVec Ideal S512x1024 .f32) (v41 v43 v62 v81 v94 v95 : FVec Ideal S128x1024 .f32) (g : FVec Ideal S1x1024 .f32)
    (a b : FVec Ideal S1024x1024 .bf16) (r : Fin 512) (d : Fin 1024) (h : FVec Ideal S512x1024 .bf16)
    (hh : k0_pay20 v39 v41 v43 v62 v81 v94 v95 g = h) :
    (k0_pay21 v39 v41 v43 v62 v81 v94 v95 g a b (ix2 r d) : EReal)
      = quarter (fun j => h (ix2 r j)) (fun j k => a (ix2 j k)) (fun k d => b (ix2 k d)) d := by
  unfold k0_pay21
  rw [hh]
  clear hh
  pointwise [quarter, act, proj]

theorem pay22_at (v39 : FVec Ideal S512x1024 .f32) (v41 v43 v62 v81 v94 v95 : FVec Ideal S128x1024 .f32) (g : FVec Ideal S1x1024 .f32)
    (a : FVec Ideal S1024x1024 .bf16) (r : Fin 512) (k : Fin 1024) (h : FVec Ideal S512x1024 .bf16)
    (hh : k0_pay20 v39 v41 v43 v62 v81 v94 v95 g = h) :
    (k0_pay22 v39 v41 v43 v62 v81 v94 v95 g a (ix2 r k) : EReal) = act (fun j => h (ix2 r j)) (fun j => a (ix2 j k)) := by
  unfold k0_pay22
  rw [hh]
  clear hh
  pointwise [act, proj]

theorem pay23_at (h : FVec Ideal S512x1024 .bf16) (p q : FVec Ideal S512x1024 .f32)
    (a2 a3 b1 b2 b3 : FVec Ideal S1024x1024 .bf16) (r : Fin 512) (d : Fin 1024) :
    (k0_pay23 h p q b1 a2 b2 a3 b3 (ix2 r d) : EReal)
      = p (ix2 r d) + (∑ k, q (ix2 r k) * b1 (ix2 k d))
          + quarter (fun j => h (ix2 r j)) (fun j k => a2 (ix2 j k)) (fun k d => b2 (ix2 k d)) d
          + quarter (fun j => h (ix2 r j)) (fun j k => a3 (ix2 j k)) (fun k d => b3 (ix2 k d)) d := by
  pointwise [k0_pay23, quarter, act, proj]

theorem pay4_at (R : FVec Ideal S512x1024 .f32) (h : FVec Ideal S512x1024 .bf16) (p q : FVec Ideal S512x1024 .f32)
    (a2 a3 b1 b2 b3 : FVec Ideal S1024x1024 .bf16) (G : FVec Ideal S1x1x128x1024 .f32)
    (t : Fin 4) (l : Fin 128) (d : Fin 1024) (y : FVec Ideal S512x1024 .f32) (hy : k0_pay23 h p q b1 a2 b2 a3 b3 = y) :
    (k0_pay4 (k0_pay25 R h p q b1 a2 b2 a3 b3 G) (k0_pay26 R h p q b1 a2 b2 a3 b3 G) (k0_pay27 R h p q b1 a2 b2 a3 b3 G)
        (k0_pay28 R) (k0_pay29 h p q b1 a2 b2 a3 b3 G) (ix3 0 (srow t l) d) : EReal)
      = R (ix2 (srow t l) d) + G (ix4 0 0 l d) * y (ix2 (srow t l) d) := by
  unfold k0_pay25 k0_pay26 k0_pay27 k0_pay29
  simp only [hy]
  clear hy
  pointwise [k0_pay4, k0_pay24, k0_pay28]
  have := t.isLt
  have := l.isLt
  split_ifs <;> blk_point [srow]

end Cert.FirstValue
end
-- ==== Proof.FirstValue.Ref.lean ====
module

public import proofs.«01_k».proof.Proof.MlpValue.Spec
public import proofs.«01_k».proof.Proof.Gen.FirstRefIdeal.Read
public import Idealize.ShloMosaic.Lib.Pointwise

@[expose] public section
set_option maxRecDepth 16384
noncomputable section
namespace Cert.FirstRefValue
open Cert.FirstRefIdeal Cert.FirstRefIdeal.Read Idealize.ShloMosaic Idealize.ShloMosaic.TcCoe Idealize.SL.Sem Cert.Layer

/-- The modulated row `s` of prompt sequence `b`. -/
def hP (x0 : (⟨S8x2048x1024, .f32⟩ : BufTy).Contents (Elt Ideal)) (x1 : (⟨S8x6x1x1024, .f32⟩ : BufTy).Contents (Elt Ideal)) (x6 : (⟨S1024, .f32⟩ : BufTy).Contents (Elt Ideal)) (b : Fin 8) (s : Fin 2048) : Row :=
  modRow (fun k => x0 (ix3 b s k)) (fun k => x6 (ix1 k)) (fun k => x1 (ix4 b 3 0 k)) (fun k => x1 (ix4 b 4 0 k))

/-- The row the MLP leaves at row `s` of prompt sequence `b`. -/
def zP (x0 : (⟨S8x2048x1024, .f32⟩ : BufTy).Contents (Elt Ideal)) (x1 : (⟨S8x6x1x1024, .f32⟩ : BufTy).Contents (Elt Ideal)) (x6 : (⟨S1024, .f32⟩ : BufTy).Contents (Elt Ideal)) (x7 : (⟨S1024x4096, .bf16⟩ : BufTy).Contents (Elt Ideal)) (x8 : (⟨S4096x1024, .bf16⟩ : BufTy).Contents (Elt Ideal)) (b : Fin 8) (s : Fin 2048) : Row :=
  resid (fun k => x0 (ix3 b s k)) (fun k => x1 (ix4 b 5 0 k)) (ffn (hP x0 x1 x6 b s) (fun j n => x7 (ix2 j n)) (fun n d => x8 (ix2 n d)))

/-- The residual before the MLP at step `t` of sample sequence `l`: the row plus the gate times the mixer's output projection. -/
def rS (x2 x3 : (⟨S1x512x1024, .f32⟩ : BufTy).Contents (Elt Ideal)) (x4 : (⟨S1024x1024, .bf16⟩ : BufTy).Contents (Elt Ideal)) (x5 : (⟨S2x6x136x1024, .f32⟩ : BufTy).Contents (Elt Ideal)) (l : Fin 128) (t : Fin 4) : Row :=
  resid (fun k => x2 (ix3 0 (srow t l) k)) (fun k => x5 (ix4 0 2 ⟨l.val, by omega⟩ k))
    (fun d => proj (fun j => x3 (ix3 0 (srow t l) j)) (fun j => x4 (ix2 j d)))

/-- The modulated row of step `t` of sample sequence `l`. -/
def hS (x2 x3 : (⟨S1x512x1024, .f32⟩ : BufTy).Contents (Elt Ideal)) (x4 : (⟨S1024x1024, .bf16⟩ : BufTy).Contents (Elt Ideal)) (x5 : (⟨S2x6x136x1024, .f32⟩ : BufTy).Contents (Elt Ideal)) (x6 : (⟨S1024, .f32⟩ : BufTy).Contents (Elt Ideal)) (l : Fin 128) (t : Fin 4) : Row :=
  modRow (rS x2 x3 x4 x5 l t) (fun k => x6 (ix1 k))
    (fun k => x5 (ix4 0 3 ⟨l.val, by omega⟩ k)) (fun k => x5 (ix4 0 4 ⟨l.val, by omega⟩ k))

/-- The row the MLP leaves at step `t` of sample sequence `l`. -/
def zS (x2 x3 : (⟨S1x512x1024, .f32⟩ : BufTy).Contents (Elt Ideal)) (x4 : (⟨S1024x1024, .bf16⟩ : BufTy).Contents (Elt Ideal)) (x5 : (⟨S2x6x136x1024, .f32⟩ : BufTy).Contents (Elt Ideal)) (x6 : (⟨S1024, .f32⟩ : BufTy).Contents (Elt Ideal)) (x7 : (⟨S1024x4096, .bf16⟩ : BufTy).Contents (Elt Ideal)) (x8 : (⟨S4096x1024, .bf16⟩ : BufTy).Contents (Elt Ideal)) (l : Fin 128) (t : Fin 4) : Row :=
  resid (rS x2 x3 x4 x5 l t) (fun k => x5 (ix4 0 5 ⟨l.val, by omega⟩ k)) (ffn (hS x2 x3 x4 x5 x6 l t) (fun j n => x7 (ix2 j n)) (fun n d => x8 (ix2 n d)))

theorem v31_at (x0 : (⟨S8x2048x1024, .f32⟩ : BufTy).Contents (Elt Ideal)) (x1 : (⟨S8x6x1x1024, .f32⟩ : BufTy).Contents (Elt Ideal)) (x6 : (⟨S1024, .f32⟩ : BufTy).Contents (Elt Ideal)) (b : Fin 8) (s : Fin 2048) (k : Fin 1024) :
    (val_main_v31 x0 x1 x6 (ix3 b s k) : EReal) = hP x0 x1 x6 b s k := by
  pointwise [val_main_v3, val_main_v4, val_main_v5, val_main_v6, val_main_v7, val_main_v8, val_main_v9, val_main_v10, val_main_v11, val_main_cst, val_main_v12, val_main_v13, val_main_cst_0, val_main_v14, val_main_v15, val_main_cst_1, val_main_v16, val_main_v17, val_main_v18, val_main_v19, val_main_v20, val_main_v21, val_main_v22, val_main_v23, val_main_v24, val_main_cst_2, val_main_v25, val_main_v26, val_main_v27, val_main_v28, val_main_v29, val_main_v30, val_main_v31, hP, modRow, rrms]

theorem v34_at (x0 : (⟨S8x2048x1024, .f32⟩ : BufTy).Contents (Elt Ideal)) (x1 : (⟨S8x6x1x1024, .f32⟩ : BufTy).Contents (Elt Ideal)) (x6 : (⟨S1024, .f32⟩ : BufTy).Contents (Elt Ideal)) (x7 : (⟨S1024x4096, .bf16⟩ : BufTy).Contents (Elt Ideal)) (b : Fin 8) (s : Fin 2048) (n : Fin 4096) :
    (val_main_v34 x0 x1 x6 x7 (ix3 b s n) : EReal) = act (hP x0 x1 x6 b s) (fun j => x7 (ix2 j n)) := by
  pointwise [val_main_v1, val_main_v32, val_main_call0_cst, val_main_call0_v0, val_main_v33, val_main_v34, act, proj]
  simp only [v31_at]

theorem v38_at (x0 : (⟨S8x2048x1024, .f32⟩ : BufTy).Contents (Elt Ideal)) (x1 : (⟨S8x6x1x1024, .f32⟩ : BufTy).Contents (Elt Ideal)) (x6 : (⟨S1024, .f32⟩ : BufTy).Contents (Elt Ideal)) (x7 : (⟨S1024x4096, .bf16⟩ : BufTy).Contents (Elt Ideal)) (x8 : (⟨S4096x1024, .bf16⟩ : BufTy).Contents (Elt Ideal)) (b : Fin 8) (s : Fin 2048) (d : Fin 1024) :
    (val_main_v38 x0 x1 x6 x7 x8 (ix3 b s d) : EReal) = zP x0 x1 x6 x7 x8 b s d := by
  pointwise [val_main_v2, val_main_v3, val_main_v4, val_main_v5, val_main_v6, val_main_v35, val_main_v36, val_main_v37, val_main_v38, zP, resid, ffn]
  simp only [v34_at]

theorem v53_at (x2 x3 : (⟨S1x512x1024, .f32⟩ : BufTy).Contents (Elt Ideal)) (x4 : (⟨S1024x1024, .bf16⟩ : BufTy).Contents (Elt Ideal)) (x5 : (⟨S2x6x136x1024, .f32⟩ : BufTy).Contents (Elt Ideal)) (l : Fin 128) (t : Fin 4) (k : Fin 1024) :
    (val_main_v53 x2 x3 x4 x5 (ix3 l t k) : EReal) = rS x2 x3 x4 x5 l t k := by
  pointwise [val_main_v0, val_main_v39, val_main_v40, val_main_v41, val_main_v42, val_main_v43, val_main_v44, val_main_v45, val_main_v46, val_main_v47, val_main_v48, val_main_v49, val_main_v50, val_main_v51, val_main_v52, val_main_v53, rS, resid, proj]
  have e : (⟨t.val * 128 + l.val, by omega⟩ : Fin 512) = srow t l := Fin.ext (by simp [srow]; omega)
  simp only [e]

theorem v81_at (x2 x3 : (⟨S1x512x1024, .f32⟩ : BufTy).Contents (Elt Ideal)) (x4 : (⟨S1024x1024, .bf16⟩ : BufTy).Contents (Elt Ideal)) (x5 : (⟨S2x6x136x1024, .f32⟩ : BufTy).Contents (Elt Ideal)) (x6 : (⟨S1024, .f32⟩ : BufTy).Contents (Elt Ideal)) (l : Fin 128) (t : Fin 4) (k : Fin 1024) :
    (val_main_v81 x2 x3 x4 x5 x6 (ix3 l t k) : EReal) = hS x2 x3 x4 x5 x6 l t k := by
  pointwise [val_main_v43, val_main_v44, val_main_v45, val_main_v46, val_main_v57, val_main_v58, val_main_v59, val_main_v60, val_main_v61, val_main_cst_3, val_main_v62, val_main_v63, val_main_cst_4, val_main_v64, val_main_v65, val_main_cst_5, val_main_v66, val_main_v67, val_main_v68, val_main_v69, val_main_v70, val_main_v71, val_main_v72, val_main_v73, val_main_v74, val_main_cst_6, val_main_v75, val_main_v76, val_main_v77, val_main_v78, val_main_v79, val_main_v80, val_main_v81, hS, modRow, rrms]
  simp only [v53_at]

theorem v84_at (x2 x3 : (⟨S1x512x1024, .f32⟩ : BufTy).Contents (Elt Ideal)) (x4 : (⟨S1024x1024, .bf16⟩ : BufTy).Contents (Elt Ideal)) (x5 : (⟨S2x6x136x1024, .f32⟩ : BufTy).Contents (Elt Ideal)) (x6 : (⟨S1024, .f32⟩ : BufTy).Contents (Elt Ideal)) (x7 : (⟨S1024x4096, .bf16⟩ : BufTy).Contents (Elt Ideal)) (l : Fin 128) (t : Fin 4) (n : Fin 4096) :
    (val_main_v84 x2 x3 x4 x5 x6 x7 (ix3 l t n) : EReal) = act (hS x2 x3 x4 x5 x6 l t) (fun j => x7 (ix2 j n)) := by
  pointwise [val_main_v1, val_main_v82, val_main_call1_cst, val_main_call1_v0, val_main_v83, val_main_v84, act, proj]
  simp only [v81_at]

theorem v88_at (x2 x3 : (⟨S1x512x1024, .f32⟩ : BufTy).Contents (Elt Ideal)) (x4 : (⟨S1024x1024, .bf16⟩ : BufTy).Contents (Elt Ideal)) (x5 : (⟨S2x6x136x1024, .f32⟩ : BufTy).Contents (Elt Ideal)) (x6 : (⟨S1024, .f32⟩ : BufTy).Contents (Elt Ideal)) (x7 : (⟨S1024x4096, .bf16⟩ : BufTy).Contents (Elt Ideal)) (x8 : (⟨S4096x1024, .bf16⟩ : BufTy).Contents (Elt Ideal)) (l : Fin 128) (t : Fin 4) (d : Fin 1024) :
    (val_main_v88 x2 x3 x4 x5 x6 x7 x8 (ix3 l t d) : EReal) = zS x2 x3 x4 x5 x6 x7 x8 l t d := by
  pointwise [val_main_v2, val_main_v43, val_main_v44, val_main_v45, val_main_v46, val_main_v54, val_main_v55, val_main_v56, val_main_v85, val_main_v86, val_main_v87, val_main_v88, zS, resid, ffn]
  simp only [v84_at, v53_at, resid]

theorem v90_at (x2 x3 : (⟨S1x512x1024, .f32⟩ : BufTy).Contents (Elt Ideal)) (x4 : (⟨S1024x1024, .bf16⟩ : BufTy).Contents (Elt Ideal)) (x5 : (⟨S2x6x136x1024, .f32⟩ : BufTy).Contents (Elt Ideal)) (x6 : (⟨S1024, .f32⟩ : BufTy).Contents (Elt Ideal)) (x7 : (⟨S1024x4096, .bf16⟩ : BufTy).Contents (Elt Ideal)) (x8 : (⟨S4096x1024, .bf16⟩ : BufTy).Contents (Elt Ideal)) (l : Fin 128) (t : Fin 4) (d : Fin 1024) :
    (val_main_v90 x2 x3 x4 x5 x6 x7 x8 (ix3 0 (srow t l) d) : EReal) = zS x2 x3 x4 x5 x6 x7 x8 l t d := by
  pointwise [val_main_v89, val_main_v90]
  have e1 : (128 * t.val + l.val) / 128 = t.val := by omega
  have e2 : (128 * t.val + l.val) % 128 = l.val := by omega
  simp only [v88_at, e1, e2, Fin.eta]

end Cert.FirstRefValue
end
-- ==== Proof.FirstValue.Final.lean ====
module

public import proofs.«01_k».proof.Proof.FirstValue.Pay
public import proofs.«01_k».proof.Proof.FirstValue.Ref
public import proofs.«01_k».proof.Proof.FirstRun.Frame
public import Idealize.ShloMosaic.Lib.Pipeline.ValueKit
public import Idealize.ShloMosaic.Lib.Pointwise

@[expose] public section
set_option maxRecDepth 16384
noncomputable section
namespace Cert.FirstValue
open Cert.FirstIdeal Cert.FirstIdeal.Gen Idealize.ShloMosaic Idealize.ShloMosaic.TcCoe Idealize.SL.Sem Cert.Layer Cert.FirstRefValue

variable (m : (ℓ : Loc nD τ sig) → Buf (Elt Ideal) ℓ) (c : Dev nD)

theorem idx0 : ∀ t : Fin cfg0.N, win0_0.index t = ![(min t.val 31) / 4, (min t.val 31) % 4, 0] ∧ win0_1.index t = ![(min t.val 31) / 4, 0, 0, 0]
    ∧ win0_11.index t = ![(min t.val 31) / 4, (min t.val 31) % 4, 0] :=
  (by decide +kernel : ∀ t : Fin grid0.N, _)

theorem idx1 : ∀ t : Fin cfg0.N, win0_2.index t = ![0, 0, 0] ∧ win0_3.index t = ![0, 0, 0] ∧ win0_4.index t = ![0, 0]
    ∧ win0_5.index t = ![0, 0, 0, 0] ∧ win0_6.index t = ![0, 0] ∧ win0_7.index t = ![0, 0] ∧ win0_8.index t = ![0, 0]
    ∧ win0_12.index t = ![0, 0, 0] :=
  (by decide +kernel : ∀ t : Fin grid0.N, _)

theorem idx2 : ∀ t : Fin cfg0.N, win0_9.index t = ![0, min t.val 31, 0] ∧ win0_10.index t = ![0, min t.val 31, 0]
    ∧ win0_13.index t = ![min t.val 31, 0] ∧ win0_14.index t = ![min t.val 31, 0] :=
  (by decide +kernel : ∀ t : Fin grid0.N, _)

/-- The arguments read as arrays. -/
abbrev a0 : FVec Ideal S8x2048x1024 .f32 := m ((c.tc : Thread nD τ).loc main_arg0)
abbrev a1 : FVec Ideal S8x6x1x1024 .f32 := m ((c.tc : Thread nD τ).loc main_arg1)
abbrev a2 : FVec Ideal S1x512x1024 .f32 := m ((c.tc : Thread nD τ).loc main_arg2)
abbrev a3 : FVec Ideal S1x512x1024 .f32 := m ((c.tc : Thread nD τ).loc main_arg3)
abbrev a4 : FVec Ideal S1024x1024 .bf16 := m ((c.tc : Thread nD τ).loc main_arg4)
abbrev a5 : FVec Ideal S2x6x136x1024 .f32 := m ((c.tc : Thread nD τ).loc main_arg5)
abbrev a6 : FVec Ideal S1024 .f32 := m ((c.tc : Thread nD τ).loc main_arg6)
abbrev a7 : FVec Ideal S1024x4096 .bf16 := m ((c.tc : Thread nD τ).loc main_arg7)
abbrev a8 : FVec Ideal S4096x1024 .bf16 := m ((c.tc : Thread nD τ).loc main_arg8)

theorem rd0 (t : Fin cfg0.N) (ht : t.val < 32) (r : Fin 512) (k : Fin 1024) :
    (iblk m c 0 t (ix3 0 r k) : EReal) = a0 m c (ix3 ⟨t.val / 4, by omega⟩ ⟨512 * (t.val % 4) + r.val, by omega⟩ k) := by
  have e : min t.val 31 = t.val := by omega
  blk_simp [iblk, idx0 t, e]
  entry_read
  blk_ext [idx0 t, e]

theorem rd1 (t : Fin cfg0.N) (ht : t.val < 32) (j : Fin 6) (k : Fin 1024) :
    (iblk m c 1 t (ix4 0 j 0 k) : EReal) = a1 m c (ix4 ⟨t.val / 4, by omega⟩ j 0 k) := by
  have e : min t.val 31 = t.val := by omega
  blk_simp [iblk, idx0 t, e]
  entry_read
  blk_ext [idx0 t, e]

theorem rd2 (t : Fin cfg0.N) (r : Fin 512) (k : Fin 1024) :
    (iblk m c 2 t (ix3 0 r k) : EReal) = a2 m c (ix3 0 r k) := by
  blk_simp [iblk, idx1 t]
  entry_read
  blk_ext [idx1 t]

theorem rd3 (t : Fin cfg0.N) (r : Fin 512) (k : Fin 1024) :
    (iblk m c 3 t (ix3 0 r k) : EReal) = a3 m c (ix3 0 r k) := by
  blk_simp [iblk, idx1 t]
  entry_read
  blk_ext [idx1 t]

theorem rd4 (t : Fin cfg0.N) (j k : Fin 1024) :
    (iblk m c 4 t (ix2 j k) : EReal) = a4 m c (ix2 j k) := by
  blk_simp [iblk, idx1 t]
  entry_read
  blk_ext [idx1 t]

theorem rd5 (t : Fin cfg0.N) (j : Fin 6) (l : Fin 128) (k : Fin 1024) :
    (X0_5 m c t (ix4 0 j l k) : EReal) = a5 m c (ix4 0 j ⟨l.val, by omega⟩ k) := by
  unfold X0_5 Pipeline.Window.fill
  rw [dif_pos (moved0_5 t _)]
  blk_simp [iblk, idx1 t]
  entry_read
  blk_ext [idx1 t]

theorem rd6 (t : Fin cfg0.N) (k : Fin 1024) :
    (iblk m c 6 t (ix2 0 k) : EReal) = a6 m c (ix1 k) := by
  blk_simp [iblk, idx1 t]
  entry_read
  refine Eq.trans (b := (shapeCast S1x1024 (a6 m c) shapeCasts_S1024_S1x1024 (ix2 0 k) : EReal)) ?_ ?_
  · blk_ext [idx1 t]
  · pointwise []

theorem rd7 (t : Fin cfg0.N) (j : Fin 1024) (k : Fin 4096) :
    (iblk m c 7 t (ix2 j k) : EReal) = a7 m c (ix2 j k) := by
  blk_simp [iblk, idx1 t]
  entry_read
  blk_ext [idx1 t]

theorem rd8 (t : Fin cfg0.N) (j : Fin 4096) (k : Fin 1024) :
    (iblk m c 8 t (ix2 j k) : EReal) = a8 m c (ix2 j k) := by
  blk_simp [iblk, idx1 t]
  entry_read
  blk_ext [idx1 t]

/-- The modulated rows of prompt tile `t`. -/
def hT (t : Fin cfg0.N) : FVec Ideal S512x1024 .bf16 :=
  k0_pay6 (F := Ideal) (iblk m c 0 t) (View.ld (iblk m c 1 t) (Rect.unit ![0, 3, 0, 0] ![1, 1, 1, 1024] inb_S1x6x1x1024_S1x1x1x1024_0_3_0_0))
    (View.ld (iblk m c 1 t) (Rect.unit ![0, 4, 0, 0] ![1, 1, 1, 1024] inb_S1x6x1x1024_S1x1x1x1024_0_4_0_0)) (iblk m c 6 t)

theorem hT_at (t : Fin cfg0.N) (ht : t.val < 32) (r : Fin 512) (k : Fin 1024) :
    (hT m c t (ix2 r k) : EReal) = hP (a0 m c) (a1 m c) (a6 m c) ⟨t.val / 4, by omega⟩ ⟨512 * (t.val % 4) + r.val, by omega⟩ k := by
  unfold hT hP
  rw [pay6_at]
  simp only [rd0 m c t ht, rd6 m c t]
  pointwise []
  simp only [rd1 m c t ht]

theorem out11 (t : Fin cfg0.N) (h0 : t.val < 32) (r : Fin 512) (d : Fin 1024) :
    ((outsAt0 m c t.val t.isLt).1 (ix3 0 r d) : EReal) = (Cert.FirstRefIdeal.Read.val_main_v38 (F := Ideal) (a0 m c) (a1 m c) (a6 m c) (a7 m c) (a8 m c)
      (ix3 ⟨t.val / 4, by omega⟩ ⟨512 * (t.val % 4) + r.val, by omega⟩ d) : EReal) := by
  have h2 : ¬ t.val % 33 = 32 := by omega
  rw [outsAt0_A m c t h0 h2]; frame_out
  rw [v38_at]
  refine (pay9_at _ _ _ _ _ _ _ _ _ _ _ _ _ r d (hT m c t) rfl).trans ?_
  unfold zP resid
  rw [ffn_quarters]
  simp only [rd0 m c t h0, hT_at m c t h0]
  pointwise [quarter, colsFrom, rowsFrom]
  simp only [rd1 m c t h0, rd7, rd8]

abbrev md2 (t : Fin cfg0.N) : FVec Ideal S1x1x128x1024 .f32 :=
  View.ld (X0_5 m c t) (Rect.unit ![0, 2, 0, 0] ![1, 1, 128, 1024] inb_S1x6x128x1024_S1x1x128x1024_0_2_0_0)
abbrev md3 (t : Fin cfg0.N) : FVec Ideal S1x1x128x1024 .f32 :=
  View.ld (X0_5 m c t) (Rect.unit ![0, 3, 0, 0] ![1, 1, 128, 1024] inb_S1x6x128x1024_S1x1x128x1024_0_3_0_0)
abbrev md4 (t : Fin cfg0.N) : FVec Ideal S1x1x128x1024 .f32 :=
  View.ld (X0_5 m c t) (Rect.unit ![0, 4, 0, 0] ![1, 1, 128, 1024] inb_S1x6x128x1024_S1x1x128x1024_0_4_0_0)

/-- The residual the sample block carries into the MLP. -/
def rB (t : Fin cfg0.N) : FVec Ideal S512x1024 .f32 :=
  k0_pay10 (F := Ideal) (iblk m c 2 t) (iblk m c 3 t) (iblk m c 4 t) (md2 m c t)

theorem rB_at (t : Fin cfg0.N) (q : Fin 4) (l : Fin 128) (k : Fin 1024) :
    (rB m c t (ix2 (srow q l) k) : EReal) = rS (a2 m c) (a3 m c) (a4 m c) (a5 m c) l q k := by
  unfold rB rS
  rw [pay10_at]
  simp only [rd2 m c t, rd3 m c t, rd4 m c t]
  pointwise [resid, md2]
  simp only [rd5 m c t]

/-- The modulated rows of the sample block. -/
def hB (t : Fin cfg0.N) : FVec Ideal S512x1024 .bf16 :=
  k0_pay20 (F := Ideal) (rB m c t) (k0_pay11 (md3 m c t)) (k0_pay12 (md4 m c t))
    (k0_pay16 (k0_pay11 (md3 m c t)) (k0_pay12 (md4 m c t)) (k0_pay13 (iblk m c 2 t) (iblk m c 3 t) (iblk m c 4 t) (md2 m c t))
      (k0_pay14 (iblk m c 6 t)) (k0_pay15 (iblk m c 2 t) (iblk m c 3 t) (iblk m c 4 t) (md2 m c t)))
    (k0_pay17 (rB m c t) (k0_pay11 (md3 m c t)) (k0_pay12 (md4 m c t)) (iblk m c 6 t)) (k0_pay18 (rB m c t)) (k0_pay19 (iblk m c 6 t)) (iblk m c 6 t)

theorem hB_at (t : Fin cfg0.N) (q : Fin 4) (l : Fin 128) (k : Fin 1024) :
    (hB m c t (ix2 (srow q l) k) : EReal) = hS (a2 m c) (a3 m c) (a4 m c) (a5 m c) (a6 m c) l q k := by
  unfold hS
  refine (pay20_at _ _ _ _ _ _ _ q l k (rB m c t) rfl).trans ?_
  simp only [rB_at, rd6 m c t]
  pointwise [md3, md4]
  simp only [rd5 m c t]

theorem out12 (t : Fin cfg0.N) (h0 : ¬ t.val < 32) (h2 : t.val % 33 = 32) (q : Fin 4) (l : Fin 128) (d : Fin 1024) :
    ((outsAt0 m c t.val t.isLt).2.1 (ix3 0 (srow q l) d) : EReal)
      = (Cert.FirstRefIdeal.Read.val_main_v90 (F := Ideal) (a2 m c) (a3 m c) (a4 m c) (a5 m c) (a6 m c) (a7 m c) (a8 m c) (ix3 0 (srow q l) d) : EReal) := by
  rw [outsAt0_B m c t h0 h2]; frame_out
  rw [v90_at]
  refine (pay4_at (rB m c t) (hB m c t) _ _ _ _ _ _ _ _ q l d _ rfl).trans ?_
  unfold zS resid
  rw [ffn_quarters]
  have e1 := pay21_at (rB m c t) (k0_pay11 (md3 m c t)) (k0_pay12 (md4 m c t)) _ _ _ _ (iblk m c 6 t)
    (View.ld (iblk m c 7 t) (Rect.unit ![0, 0] ![1024, 1024] inb_S1024x4096_S1024x1024_0_0))
    (View.ld (iblk m c 8 t) (Rect.unit ![0, 0] ![1024, 1024] inb_S4096x1024_S1024x1024_0_0)) (srow q l) d (hB m c t) rfl
  have e2 := fun k => pay22_at (rB m c t) (k0_pay11 (md3 m c t)) (k0_pay12 (md4 m c t)) _ _ _ _ (iblk m c 6 t)
    (View.ld (iblk m c 7 t) (Rect.unit ![0, 1024] ![1024, 1024] inb_S1024x4096_S1024x1024_0_1024)) (srow q l) k (hB m c t) rfl
  refine congrArg₂ (fun a b : EReal => a + b) (rB_at m c t q l d) (congrArg₂ (fun a b : EReal => a * b) ?_ ((pay23_at _ _ _ _ _ _ _ _ _ _).trans
    ((congrArg₂ (fun a b : EReal => a + b) (congrArg₂ (fun a b : EReal => a + b) (congrArg₂ (fun a b : EReal => a + b) e1
      (Finset.sum_congr rfl fun k _ => congrArg (fun a : EReal => a * _) (e2 k))) rfl) rfl).trans ?_)))
  · pointwise []
    simp only [rd5]
  · simp only [hB_at]
    pointwise [quarter, colsFrom, rowsFrom]
    simp only [rd7, rd8]

theorem out13 (t : Fin cfg0.N) : (outsAt0 m c t.val t.isLt).2.2.1 = k0_pay1 (iblk m c 9 t) ∧ (outsAt0 m c t.val t.isLt).2.2.2 = k0_pay2 (iblk m c 10 t) := by
  by_cases h0 : t.val < 32
  · rw [outsAt0_A m c t h0 (by omega)]
    constructor <;> frame_out
  · have h2 : t.val % 33 = 32 := by have := t.isLt; have : cfg0.N = 33 := rfl; omega
    rw [outsAt0_B m c t h0 h2]
    constructor <;> frame_out

theorem kept11 (t : Fin cfg0.N) (s : Fin cfg0.N) (hs : s.val = min t.val 31) :
    (outsAt0 m c t.val t.isLt).1 = (outsAt0 m c s.val s.isLt).1 := by
  have hN : cfg0.N = 33 := rfl
  have ht := t.isLt
  obtain ⟨t, h⟩ := t
  obtain ⟨s, h'⟩ := s
  dsimp only at hs ht ⊢
  by_cases h0 : t < 32
  · obtain rfl : s = t := by omega
    rfl
  · obtain rfl : s = t - 1 := by omega
    rw [outsAt0_B m c ⟨t, h⟩ h0 (by dsimp only; omega)]
    rfl

theorem fin11 : (dats m 0 c).arrAt 11 cfg0.N
    = Cert.FirstRefIdeal.Read.val_main_v38 (F := Ideal) (a0 m c) (a1 m c) (a6 m c) (a7 m c) (a8 m c) := by
  refine (dats m 0 c).arrAt_eq_of_covers 11 _ (by decide +kernel) fun t _ y => ?_
  have ht : t.val < 33 := t.isLt
  blk_simp
  rw [after0_11, kept11 m c t ⟨min t.val 31, by show _ < 33; omega⟩ rfl]
  refine Eq.trans ?_ ((out11 m c ⟨min t.val 31, by show _ < 33; omega⟩ (by dsimp only; omega) (y 1) (y 2)).trans ?_)
  · refine congrArg _ ?_
    blk_ext [idx0 t]
  · blk_ext [idx0 t]

theorem fin12 : (dats m 0 c).arrAt 12 cfg0.N
    = Cert.FirstRefIdeal.Read.val_main_v90 (F := Ideal) (a2 m c) (a3 m c) (a4 m c) (a5 m c) (a6 m c) (a7 m c) (a8 m c) := by
  refine (dats m 0 c).arrAt_eq_of_covers 12 _ (by decide +kernel) fun t hf y => ?_
  have ht : t.val < 33 := t.isLt
  have e32 : t.val = 32 := by have := (flush0_12 t).mp hf; omega
  have hy : (y 1).val < 512 := (y 1).isLt
  blk_simp
  rw [after0_12]
  refine Eq.trans ?_ ((out12 m c t (by omega) (by omega) ⟨(y 1).val / 128, by omega⟩ ⟨(y 1).val % 128, by omega⟩ (y 2)).trans ?_)
  · refine congrArg _ ?_
    blk_ext [idx1 t, srow]
  · blk_ext [idx1 t, srow]

theorem fin13 : (dats m 0 c).arrAt 13 cfg0.N
    = Cert.FirstRefIdeal.Read.val_main_v92 (F := Ideal) (m ((c.tc : Thread nD τ).loc main_arg9)) := by
  refine (dats m 0 c).arrAt_eq_of_covers 13 _ (by decide +kernel) fun t hf y => ?_
  blk_simp
  rw [after0_13, (out13 m c t).1]
  pointwise [k0_pay1, Cert.FirstRefIdeal.Read.val_main_v91, Cert.FirstRefIdeal.Read.val_main_v92]
  blk_point [iblk, V, idx2 t]

theorem fin14 : (dats m 0 c).arrAt 14 cfg0.N
    = Cert.FirstRefIdeal.Read.val_main_v94 (F := Ideal) (m ((c.tc : Thread nD τ).loc main_arg10)) := by
  refine (dats m 0 c).arrAt_eq_of_covers 14 _ (by decide +kernel) fun t hf y => ?_
  blk_simp
  rw [after0_14, (out13 m c t).2]
  pointwise [k0_pay2, Cert.FirstRefIdeal.Read.val_main_v93, Cert.FirstRefIdeal.Read.val_main_v94]
  blk_point [iblk, V, idx2 t]

end Cert.FirstValue
-- ==== Proof.AdaValue.Pay.lean ====
module

public import proofs.«01_k».proof.Proof.MlpValue.Spec
public import proofs.«01_k».proof.Proof.Gen.AdaIdeal.Skeleton

@[expose] public section
set_option maxRecDepth 16384
noncomputable section
namespace Cert.Layer
open Idealize.ShloMosaic Idealize.SL.Sem

/-- An entry of the conditioning times its own logistic value. -/
def swish (x : EReal) : EReal := x * Ideal.div 1 (1 + Ideal.exp (-x))

/-- One modulation entry: the conditioning row through `swish`, times a weight column, plus the bias. -/
def modEntry (c w : Row) (b : EReal) : EReal := proj (fun k => swish (c k)) w + b

end Cert.Layer
namespace Cert.AdaValue
open Cert.AdaIdeal Cert.AdaIdeal.Gen Idealize.ShloMosaic Idealize.ShloMosaic.TcCoe Idealize.SL.Sem Cert.Layer

theorem pay1_at (x : FVec Ideal S136x1024 .f32) (w : FVec Ideal S1x1024x1024 .f32) (b : FVec Ideal S1x1x1024 .f32)
    (r : Fin 136) (d : Fin 1024) :
    (k0_pay1 (F := Ideal) x w b (ix4 0 0 r d) : EReal)
      = modEntry (fun k => x (ix2 r k)) (fun k => w (ix3 0 k d)) (b (ix3 0 0 d)) := by
  pointwise [k0_pay1, modEntry, proj, swish, Ideal.logistic]

end Cert.AdaValue
end
-- ==== Proof.AdaValue.Ref.lean ====
module

public import proofs.«01_k».proof.Proof.AdaValue.Pay
public import proofs.«01_k».proof.Proof.Gen.AdaRefIdeal.Read
public import Idealize.ShloMosaic.Lib.Pointwise

@[expose] public section
set_option maxRecDepth 16384
noncomputable section
namespace Cert.AdaRefValue
open Cert.AdaRefIdeal Cert.AdaRefIdeal.Read Idealize.ShloMosaic Idealize.ShloMosaic.TcCoe Idealize.SL.Sem Cert.Layer

/-- The conditioning row `r` of both batches: the 128 sample sequences, then the 8 prompt sequences. -/
def condRow (x0 : (⟨S8x1024, .f32⟩ : BufTy).Contents (Elt Ideal)) (x1 : (⟨S128x1024, .f32⟩ : BufTy).Contents (Elt Ideal)) (r : Fin 136) : Row := fun k =>
  if h : r.val < 128 then x1 (ix2 ⟨r.val, h⟩ k) else x0 (ix2 ⟨r.val - 128, by omega⟩ k)

theorem v9_at (x1 : (⟨S128x1024, .f32⟩ : BufTy).Contents (Elt Ideal)) (x2 : (⟨S2x1024x6144, .f32⟩ : BufTy).Contents (Elt Ideal)) (x3 : (⟨S2x6144, .f32⟩ : BufTy).Contents (Elt Ideal)) (r : Fin 128) (j : Fin 6) (d : Fin 1024) :
    (val_main_v9 x1 x2 x3 (ix3 r j d) : EReal)
      = modEntry (fun k => x1 (ix2 r k)) (fun k => x2 (ix3 0 k ⟨j.val * 1024 + d.val, by omega⟩)) (x3 (ix2 0 ⟨j.val * 1024 + d.val, by omega⟩)) := by
  pointwise [val_main_call0_v0, val_main_call0_v1, val_main_call0_cst, val_main_call0_v2, val_main_call0_v3, val_main_call0_cst_0, val_main_call0_v4, val_main_call0_v5, val_main_v0, val_main_v1, val_main_v2, val_main_v3, val_main_v4, val_main_v5, val_main_v6, val_main_v7, val_main_v8, val_main_v9, modEntry, proj, swish]

theorem v19_at (x0 : (⟨S8x1024, .f32⟩ : BufTy).Contents (Elt Ideal)) (x2 : (⟨S2x1024x6144, .f32⟩ : BufTy).Contents (Elt Ideal)) (x3 : (⟨S2x6144, .f32⟩ : BufTy).Contents (Elt Ideal)) (r : Fin 8) (j : Fin 6) (d : Fin 1024) :
    (val_main_v19 x0 x2 x3 (ix3 r j d) : EReal)
      = modEntry (fun k => x0 (ix2 r k)) (fun k => x2 (ix3 0 k ⟨j.val * 1024 + d.val, by omega⟩)) (x3 (ix2 0 ⟨j.val * 1024 + d.val, by omega⟩)) := by
  pointwise [val_main_call1_v0, val_main_call1_v1, val_main_call1_cst, val_main_call1_v2, val_main_call1_v3, val_main_call1_cst_0, val_main_call1_v4, val_main_call1_v5, val_main_v10, val_main_v11, val_main_v12, val_main_v13, val_main_v14, val_main_v15, val_main_v16, val_main_v17, val_main_v18, val_main_v19, modEntry, proj, swish]

theorem v31_at (x1 : (⟨S128x1024, .f32⟩ : BufTy).Contents (Elt Ideal)) (x2 : (⟨S2x1024x6144, .f32⟩ : BufTy).Contents (Elt Ideal)) (x3 : (⟨S2x6144, .f32⟩ : BufTy).Contents (Elt Ideal)) (r : Fin 128) (j : Fin 6) (d : Fin 1024) :
    (val_main_v31 x1 x2 x3 (ix3 r j d) : EReal)
      = modEntry (fun k => x1 (ix2 r k)) (fun k => x2 (ix3 1 k ⟨j.val * 1024 + d.val, by omega⟩)) (x3 (ix2 1 ⟨j.val * 1024 + d.val, by omega⟩)) := by
  pointwise [val_main_call2_v0, val_main_call2_v1, val_main_call2_cst, val_main_call2_v2, val_main_call2_v3, val_main_call2_cst_0, val_main_call2_v4, val_main_call2_v5, val_main_v22, val_main_v23, val_main_v24, val_main_v25, val_main_v26, val_main_v27, val_main_v28, val_main_v29, val_main_v30, val_main_v31, modEntry, proj, swish]

theorem v41_at (x0 : (⟨S8x1024, .f32⟩ : BufTy).Contents (Elt Ideal)) (x2 : (⟨S2x1024x6144, .f32⟩ : BufTy).Contents (Elt Ideal)) (x3 : (⟨S2x6144, .f32⟩ : BufTy).Contents (Elt Ideal)) (r : Fin 8) (j : Fin 6) (d : Fin 1024) :
    (val_main_v41 x0 x2 x3 (ix3 r j d) : EReal)
      = modEntry (fun k => x0 (ix2 r k)) (fun k => x2 (ix3 1 k ⟨j.val * 1024 + d.val, by omega⟩)) (x3 (ix2 1 ⟨j.val * 1024 + d.val, by omega⟩)) := by
  pointwise [val_main_call3_v0, val_main_call3_v1, val_main_call3_cst, val_main_call3_v2, val_main_call3_v3, val_main_call3_cst_0, val_main_call3_v4, val_main_call3_v5, val_main_v32, val_main_v33, val_main_v34, val_main_v35, val_main_v36, val_main_v37, val_main_v38, val_main_v39, val_main_v40, val_main_v41, modEntry, proj, swish]

theorem v46_at (x0 : (⟨S8x1024, .f32⟩ : BufTy).Contents (Elt Ideal)) (x1 : (⟨S128x1024, .f32⟩ : BufTy).Contents (Elt Ideal)) (x2 : (⟨S2x1024x6144, .f32⟩ : BufTy).Contents (Elt Ideal)) (x3 : (⟨S2x6144, .f32⟩ : BufTy).Contents (Elt Ideal)) (i : Fin 2) (j : Fin 6) (r : Fin 136) (d : Fin 1024) :
    (val_main_v46 x0 x1 x2 x3 (ix4 i j r d) : EReal)
      = modEntry (condRow x0 x1 r) (fun k => x2 (ix3 i k ⟨j.val * 1024 + d.val, by omega⟩)) (x3 (ix2 i ⟨j.val * 1024 + d.val, by omega⟩)) := by
  pointwise [val_main_v20, val_main_v21, val_main_v42, val_main_v43, val_main_v44, val_main_v45, val_main_v46]
  by_cases hr : r.val < 128
  · have hc : condRow x0 x1 r = fun k => x1 (ix2 ⟨r.val, hr⟩ k) := funext fun k => by simp [condRow, hr]
    rw [hc]
    fin_cases i <;> simp [hr, v9_at, v31_at]
  · have hc : condRow x0 x1 r = fun k => x0 (ix2 ⟨r.val - 128, by omega⟩ k) := funext fun k => by simp [condRow, hr]
    rw [hc]
    fin_cases i <;> simp [hr, v19_at, v41_at]

end Cert.AdaRefValue
end
-- ==== Proof.AdaValue.Final.lean ====
module

public import proofs.«01_k».proof.Proof.AdaValue.Ref
public import proofs.«01_k».proof.Proof.Gen.AdaIdeal.Frame
public import Idealize.ShloMosaic.Lib.Pipeline.ValueKit
public import Idealize.ShloMosaic.Lib.Pointwise

@[expose] public section
set_option maxRecDepth 16384
noncomputable section
namespace Cert.AdaValue
open Cert.AdaIdeal Cert.AdaIdeal.Gen Idealize.ShloMosaic Idealize.ShloMosaic.TcCoe Idealize.SL.Sem Cert.Layer Cert.AdaRefValue

variable (m : (ℓ : Loc nD τ sig) → Buf (Elt Ideal) ℓ) (c : Dev nD)

theorem idx0 : ∀ t : Fin cfg0.N, win0_0.index t = ![0, 0] ∧ win0_1.index t = ![t.val / 6, 0, t.val % 6]
    ∧ win0_2.index t = ![t.val / 6, 0, t.val % 6] ∧ win0_3.index t = ![t.val / 6, t.val % 6, 0, 0] :=
  (by decide +kernel : ∀ t : Fin grid0.N, _)

/-- The arguments read as arrays. -/
abbrev a0 : FVec Ideal S8x1024 .f32 := m ((c.tc : Thread nD τ).loc main_arg0)
abbrev a1 : FVec Ideal S128x1024 .f32 := m ((c.tc : Thread nD τ).loc main_arg1)
abbrev a2 : FVec Ideal S2x1024x6144 .f32 := m ((c.tc : Thread nD τ).loc main_arg2)
abbrev a3 : FVec Ideal S2x6144 .f32 := m ((c.tc : Thread nD τ).loc main_arg3)

theorem rd0 (t : Fin cfg0.N) (r : Fin 136) (k : Fin 1024) :
    (iblk m c 0 t (ix2 r k) : EReal) = condRow (a0 m c) (a1 m c) r k := by
  blk_simp [iblk, idx0 t]
  entry_read
  refine Eq.trans (b := (concatenate S136x1024 0 [⟨S128x1024, a1 m c⟩, ⟨S8x1024, a0 m c⟩] concatenates_S128x1024_S8x1024_S136x1024_d0 (ix2 r k) : EReal)) ?_ ?_
  · blk_ext [idx0 t]
  · pointwise [condRow]

theorem rd1 (t : Fin cfg0.N) (k d : Fin 1024) (ht : t.val < 12) :
    (iblk m c 1 t (ix3 0 k d) : EReal) = a2 m c (ix3 ⟨t.val / 6, by omega⟩ k ⟨t.val % 6 * 1024 + d.val, by omega⟩) := by
  blk_simp [iblk, idx0 t]
  entry_read
  blk_ext [idx0 t]

theorem rd2 (t : Fin cfg0.N) (d : Fin 1024) (ht : t.val < 12) :
    (iblk m c 2 t (ix3 0 0 d) : EReal) = a3 m c (ix2 ⟨t.val / 6, by omega⟩ ⟨t.val % 6 * 1024 + d.val, by omega⟩) := by
  blk_simp [iblk, idx0 t]
  entry_read
  refine Eq.trans (b := (shapeCast S2x1x6144 (a3 m c) shapeCasts_S2x6144_S2x1x6144 (ix3 ⟨t.val / 6, by omega⟩ 0 ⟨t.val % 6 * 1024 + d.val, by omega⟩) : EReal)) ?_ ?_
  · blk_ext [idx0 t]
  · pointwise []

theorem out3 (t : Fin cfg0.N) (ht : t.val < 12) (r : Fin 136) (d : Fin 1024) :
    (out0_3 (iblk m c 0 t) (iblk m c 1 t) (iblk m c 2 t) (ix4 0 0 r d) : EReal)
      = (Cert.AdaRefIdeal.Read.val_main_v46 (F := Ideal) (a0 m c) (a1 m c) (a2 m c) (a3 m c)
          (ix4 ⟨t.val / 6, by omega⟩ ⟨t.val % 6, by omega⟩ r d) : EReal) := by
  unfold out0_3; frame_out
  rw [v46_at]
  refine (pay1_at _ _ _ r d).trans ?_
  simp only [rd0, rd1 m c t _ _ ht, rd2 m c t _ ht]

theorem fin3 : (dats m 0 c).arrAt 3 cfg0.N
    = Cert.AdaRefIdeal.Read.val_main_v46 (F := Ideal) (a0 m c) (a1 m c) (a2 m c) (a3 m c) := by
  refine (dats m 0 c).arrAt_eq_of_covers 3 _ (by decide +kernel) fun t _ y => ?_
  have ht : t.val < 12 := t.isLt
  blk_simp
  rw [after0_3]
  refine Eq.trans ?_ ((out3 m c t ht (y 2) (y 3)).trans ?_)
  · refine congrArg _ ?_
    blk_ext [idx0 t]
  · blk_ext [idx0 t]

end Cert.AdaValue
end
-- ==== Proof.PromptValue.Units.lean ====
module

public import proofs.«01_k».proof.Proof.Gen.PromptIdeal.Frame

@[expose] public section
set_option maxRecDepth 65536
noncomputable section

/-! The carried state of the prompt's recurrence as the body writes it: a chunk of 128 tokens at a time, and in each
chunk a head at a time. -/
namespace Cert.PromptValue
open Cert.PromptIdeal Cert.PromptIdeal.Gen Idealize.ShloMosaic Idealize.ShloMosaic.TcCoe Idealize.SL.Sem

variable {F : FTy → Type} [FloatOps F]

theorem inbH {h : ℕ} (hh : h < 8) : ∀ a, (![0, h, 0, 0] : Fin 4 → ℕ) a + S1x1x64x256.size a ≤ S1x8x64x256.size a := by
  intro a; fin_cases a <;> simp [Shape.size] <;> omega
theorem slcC {j : ℕ} (hj : j < 8) : S8x1024.Slices ![0, 128 * j] S8x128 := by
  refine ⟨rfl, fun a => ?_⟩; fin_cases a <;> simp [Shape.size] <;> omega
theorem slcH {h : ℕ} (hh : h < 8) : S8x128.Slices ![h, 0] S1x128 := by
  refine ⟨rfl, fun a => ?_⟩; fin_cases a <;> simp [Shape.size] <;> omega
theorem slcK {h j : ℕ} (hh : h < 8) (hj : j < 8) : S528x1024.Slices ![64 * h, 128 * j] S64x128 := by
  refine ⟨rfl, fun a => ?_⟩; fin_cases a <;> simp [Shape.size] <;> omega
theorem slcV {h j : ℕ} (hh : h < 8) (hj : j < 8) : S1024x2560.Slices ![128 * j, 512 + 128 * h] S128x128 := by
  refine ⟨rfl, fun a => ?_⟩; fin_cases a <;> simp [Shape.size] <;> omega

/-- A lane that stands for the whole row: its last. -/
def last (x : FVec F S8x128 .f32) : FVec F S8x128 .f32 :=
  broadcastTo S8x128 (shapeCast S8x1 (extractStridedSlice S8x1 ![0, 127] x slices_S8x128_o0_127_S8x1) shapeCasts_S8x1_S8x1) broadcasts_S8x1_S8x128
/-- The stabiliser of a chunk, less its decay. -/
def mxC (C : FVec F S8x1024 .f32) (M : Vec F S1x8x128 .f32) {j : ℕ} (hj : j < 8) : FVec F S8x128 .f32 :=
  maximumf (shapeCast S8x128 M shapeCasts_S1x8x128_S8x128) (extractStridedSlice S8x128 ![0, 128 * j] C (slcC hj))
/-- The weights of a chunk's tokens. -/
def aC (R C : FVec F S8x1024 .f32) (M : Vec F S1x8x128 .f32) {j : ℕ} (hj : j < 8) : FVec F S8x128 .f32 :=
  exp (subf (extractStridedSlice S8x128 ![0, 128 * j] R (slcC hj)) (last (mxC C M hj)))
/-- The decay of the state over a chunk. -/
def dC (C : FVec F S8x1024 .f32) (M : Vec F S1x8x128 .f32) {j : ℕ} (hj : j < 8) : FVec F S8x128 .f32 :=
  exp (subf (shapeCast S8x128 M shapeCasts_S1x8x128_S8x128) (last (mxC C M hj)))
/-- The stabiliser after a chunk. -/
def mNew (B C : FVec F S8x1024 .f32) (M : Vec F S1x8x128 .f32) {j : ℕ} (hj : j < 8) : FVec F S1x8x128 .f32 :=
  shapeCast S1x8x128 (last (addf (extractStridedSlice S8x128 ![0, 128 * j] B (slcC hj)) (mxC C M hj))) shapeCasts_S8x128_S1x8x128
/-- A head's state after a chunk. -/
def unit (PC : FVec F S528x1024 .f32) (PR : FVec F S1024x2560 .f32) (a d : FVec F S8x128 .f32) {j h : ℕ} (hj : j < 8) (hh : h < 8)
    (st : Vec F S1x1x64x256 .f32) : FVec F S1x1x64x256 .f32 :=
  shapeCast S1x1x64x256 (addf
    (mulf (broadcastTo S64x256 (concatenate S1x256 1 [⟨S1x128, extractStridedSlice S1x128 ![h, 0] d (slcH hh)⟩, ⟨S1x128, extractStridedSlice S1x128 ![h, 0] d (slcH hh)⟩] concatenates_S1x128_S1x128_S1x256_d1) broadcasts_S1x256_S64x256)
      (shapeCast S64x256 st shapeCasts_S1x1x64x256_S64x256))
    (matmul dot_S64x128_S128x256_S64x256_1_0_0_1_n_n none
      (truncf .bf16 (mulf (extractStridedSlice S64x128 ![64 * h, 128 * j] PC (slcK hh hj)) (broadcastTo S64x128 (extractStridedSlice S1x128 ![h, 0] a (slcH hh)) broadcasts_S1x128_S64x128)) bitsLt_bf16_f32)
      (concatenate S128x256 1 [⟨S128x128, truncf .bf16 (extractStridedSlice S128x128 ![128 * j, 512 + 128 * h] PR (slcV hh hj)) bitsLt_bf16_f32⟩, ⟨S128x128, k0_pay35⟩] concatenates_S128x128_S128x128_S128x256_d1)
      (constant S64x256 .f32 0x00000000#32))) shapeCasts_S64x256_S1x1x64x256

abbrev PieceM (F : FTy → Type) := View.Piece (Elt F) S1x8x128 .f32
abbrev PieceS (F : FTy → Type) := View.Piece (Elt F) S1x8x64x256 .f32
abbrev rM : Rect S1x8x128 := Rect.unit ![0, 0, 0] S1x8x128.size inb_S1x8x128_S1x8x128_0_0_0
abbrev rS {h : ℕ} (hh : h < 8) : Rect S1x8x64x256 := Rect.unit ![0, h, 0, 0] S1x1x64x256.size (inbH hh)

/-- What a chunk writes of the stabiliser. -/
def mPut (B C : FVec F S8x1024 .f32) (M : Vec F S1x8x128 .f32) {j : ℕ} (hj : j < 8) (L : List (PieceM F)) : List (PieceM F) :=
  ⟨rM, mNew B C M hj⟩ :: L
/-- What a chunk writes of a head's state, from what was read of it. -/
def sPut (PC : FVec F S528x1024 .f32) (PR : FVec F S1024x2560 .f32) (a d : FVec F S8x128 .f32) {j h : ℕ} (hj : j < 8) (hh : h < 8)
    (ld : List (PieceS F) → (r : LoadRect S1x8x64x256) → r.shape.Idx → Elt F .f32) (L : List (PieceS F)) : List (PieceS F) :=
  ⟨rS hh, unit PC PR a d hj hh (ld L (rS hh).toLoadRect)⟩ :: L
/-- What a chunk writes of the state. -/
def chunkS (PC : FVec F S528x1024 .f32) (PR : FVec F S1024x2560 .f32) (R C : FVec F S8x1024 .f32) (M : Vec F S1x8x128 .f32) {j : ℕ} (hj : j < 8)
    (ld : List (PieceS F) → (r : LoadRect S1x8x64x256) → r.shape.Idx → Elt F .f32) (L : List (PieceS F)) : List (PieceS F) :=
  sPut PC PR (aC R C M hj) (dC C M hj) hj (h := 7) (by omega) ld <| sPut PC PR (aC R C M hj) (dC C M hj) hj (h := 6) (by omega) ld <|
  sPut PC PR (aC R C M hj) (dC C M hj) hj (h := 5) (by omega) ld <| sPut PC PR (aC R C M hj) (dC C M hj) hj (h := 4) (by omega) ld <|
  sPut PC PR (aC R C M hj) (dC C M hj) hj (h := 3) (by omega) ld <| sPut PC PR (aC R C M hj) (dC C M hj) hj (h := 2) (by omega) ld <|
  sPut PC PR (aC R C M hj) (dC C M hj) hj (h := 1) (by omega) ld <| sPut PC PR (aC R C M hj) (dC C M hj) hj (h := 0) (by omega) ld L

variable (PC : FVec F S528x1024 .f32) (PR : FVec F S1024x2560 .f32) (B R C : FVec F S8x1024 .f32) (M0 : Vec F S1x8x128 .f32) (L0 : List (PieceM F))
  (ldM : List (PieceM F) → (r : LoadRect S1x8x128) → r.shape.Idx → Elt F .f32)
  (ld0 ld : List (PieceS F) → (r : LoadRect S1x8x64x256) → r.shape.Idx → Elt F .f32) (L1 : List (PieceS F))

/-- The stabiliser's writes over the first chunks, and what is read after them. -/
def mIter : ℕ → List (PieceM F) × Vec F S1x8x128 .f32
  | 0 => (L0, M0)
  | j + 1 => (mPut B C (mIter j).2 (j := j % 8) (by omega) (mIter j).1, ldM (mPut B C (mIter j).2 (j := j % 8) (by omega) (mIter j).1) rM.toLoadRect)
/-- The state's writes over the chunks up to one. -/
def sIter : ℕ → List (PieceS F)
  | 0 => chunkS PC PR R C M0 (j := 0) (by omega) ld0 L1
  | j + 1 => chunkS PC PR R C (mIter B C M0 L0 ldM (j + 1)).2 (j := (j + 1) % 8) (by omega) ld (sIter j)

variable {PC PR B R C M0 L0 ldM ld0 ld L1}

theorem mIter_next {j : ℕ} {L L' : List (PieceM F)} {M M' : Vec F S1x8x128 .f32} (e : (L, M) = mIter B C M0 L0 ldM j)
    (hL : L' = mPut B C M (j := j % 8) (by omega) L) (hM : M' = ldM L' rM.toLoadRect) : (L', M') = mIter B C M0 L0 ldM (j + 1) := by
  rw [mIter, ← e, hM, hL]

theorem sIter_next {j : ℕ} {L L' : List (PieceS F)} {Lm : List (PieceM F)} {M : Vec F S1x8x128 .f32} (em : (Lm, M) = mIter B C M0 L0 ldM (j + 1))
    (e : L = sIter PC PR B R C M0 L0 ldM ld0 ld L1 j) (h : L' = chunkS PC PR R C M (j := (j + 1) % 8) (by omega) ld L) :
    L' = sIter PC PR B R C M0 L0 ldM ld0 ld L1 (j + 1) := by
  rw [sIter, ← em, ← e, h]

end Cert.PromptValue
end
-- ==== Proof.PromptValue.Rows.lean ====
module

public import proofs.«01_k».proof.Proof.PromptValue.Units

@[expose] public section
set_option maxRecDepth 65536
noncomputable section

/-! The rows the body writes into its scratch: a chunk of 128 tokens at a time, and in each chunk a head at a time. -/
namespace Cert.PromptValue
open Cert.PromptIdeal Cert.PromptIdeal.Gen Idealize.ShloMosaic Idealize.ShloMosaic.TcCoe Idealize.SL.Sem

variable {F : FTy → Type} [FloatOps F]

theorem inbY {j h : ℕ} (hj : j < 8) (hh : h < 8) : ∀ a, (![128 * j, 128 * h] : Fin 2 → ℕ) a + S128x128.size a ≤ S1024x1024.size a := by
  intro a; fin_cases a <;> simp [Shape.size] <;> omega
theorem slcO {o : ℕ} (ho : o < 16) : S128x128.Slices ![0, o] S128x1 := by
  refine ⟨rfl, fun a => ?_⟩; fin_cases a <;> simp [Shape.size] <;> omega
theorem slcQ {h j : ℕ} (hh : h < 8) (hj : j < 8) : S1024x2560.Slices ![128 * j, 128 * (h / 2)] S128x128 := by
  refine ⟨rfl, fun a => ?_⟩; fin_cases a <;> simp [Shape.size] <;> omega

/-- The stabilisers and their floors, a token to a row. -/
def colsC (B C : FVec F S8x1024 .f32) (M : Vec F S1x8x128 .f32) {j : ℕ} (hj : j < 8) : FVec F S128x128 .f32 :=
  transpose S128x128 [1, 0] (concatenate S128x128 0 [⟨S8x128, mxC C M hj⟩,
    ⟨S8x128, exp (subf (broadcast S8x128 (Scalar.ofBits .f32 0x00000000#32)) (addf (extractStridedSlice S8x128 ![0, 128 * j] B (slcC hj)) (mxC C M hj)))⟩,
    ⟨S112x128, k0_pay36⟩] concatenates_S8x128_S8x128_S112x128_S128x128_d0) transposes_S128x128_p1_0_S128x128
/-- One column beside itself. -/
def colB (X : FVec F S128x128 .f32) {o : ℕ} (ho : o < 16) : FVec F S128x128 .f32 :=
  broadcastTo S128x128 (shapeCast S128x1 (extractStridedSlice S128x1 ![0, o] X (slcO ho)) shapeCasts_S128x1_S128x1) broadcasts_S128x1_S128x128
/-- One row under itself. -/
def rowB (X : FVec F S8x128 .f32) {h : ℕ} (hh : h < 8) : FVec F S128x128 .f32 :=
  broadcastTo S128x128 (extractStridedSlice S1x128 ![h, 0] X (slcH hh)) broadcasts_S1x128_S128x128
/-- The scores of a chunk. -/
def scoreC (PC : FVec F S528x1024 .f32) (PR : FVec F S1024x2560 .f32) (R : FVec F S8x1024 .f32) (cols : FVec F S128x128 .f32) {j h : ℕ} (hj : j < 8) (hh : h < 8) : FVec F S128x128 .f32 :=
  mulf (matmul dot_S128x128_S128x128_S128x128_1_0_0_1_n_n none
      (truncf .bf16 (extractStridedSlice S128x128 ![128 * j, 128 * (h / 2)] PR (slcQ hh hj)) bitsLt_bf16_f32)
      (if h % 2 = 0 then
        concatenate S128x128 0 [⟨S64x128, truncf .bf16 (extractStridedSlice S64x128 ![64 * h, 128 * j] PC (slcK hh hj)) bitsLt_bf16_f32⟩, ⟨S64x128, k0_pay32⟩] concatenates_S64x128_S64x128_S128x128_d0
      else
        concatenate S128x128 0 [⟨S64x128, k0_pay32⟩, ⟨S64x128, truncf .bf16 (extractStridedSlice S64x128 ![64 * h, 128 * j] PC (slcK hh hj)) bitsLt_bf16_f32⟩] concatenates_S64x128_S64x128_S128x128_d0)
      (constant S128x128 .f32 0x00000000#32))
    (exp (select k0_pay31 (subf (rowB (extractStridedSlice S8x128 ![0, 128 * j] R (slcC hj)) hh) (colB cols (o := h) (by omega)))
      (broadcast S128x128 (Scalar.ofBits .f32 0xFF800000#32))))
/-- The sums of a chunk, of the scores and of the state it takes over. -/
def resC (PR : FVec F S1024x2560 .f32) (M : Vec F S1x8x128 .f32) (cols S : FVec F S128x128 .f32) {j h : ℕ} (hj : j < 8) (hh : h < 8)
    (st : Vec F S1x1x64x256 .f32) : FVec F S128x256 .f32 :=
  matmul dot_S128x256_S256x256_S128x256_1_0_0_1_n_n none
    (concatenate S128x256 1 [⟨S128x128, truncf .bf16 S bitsLt_bf16_f32⟩,
      ⟨S128x128, truncf .bf16 (mulf (extractStridedSlice S128x128 ![128 * j, 128 * (h / 2)] PR (slcQ hh hj))
        (exp (subf (rowB (shapeCast S8x128 M shapeCasts_S1x8x128_S8x128) hh) (colB cols (o := h) (by omega))))) bitsLt_bf16_f32⟩] concatenates_S128x128_S128x128_S128x256_d1)
    (if h % 2 = 0 then
      concatenate S256x256 0 [⟨S128x256, concatenate S128x256 1 [⟨S128x128, truncf .bf16 (extractStridedSlice S128x128 ![128 * j, 512 + 128 * h] PR (slcV hh hj)) bitsLt_bf16_f32⟩, ⟨S128x128, k0_pay34⟩] concatenates_S128x128_S128x128_S128x256_d1⟩,
        ⟨S64x256, truncf .bf16 (shapeCast S64x256 st shapeCasts_S1x1x64x256_S64x256) bitsLt_bf16_f32⟩, ⟨S64x256, k0_pay33⟩] concatenates_S128x256_S64x256_S64x256_S256x256_d0
    else
      concatenate S256x256 0 [⟨S128x256, concatenate S128x256 1 [⟨S128x128, truncf .bf16 (extractStridedSlice S128x128 ![128 * j, 512 + 128 * h] PR (slcV hh hj)) bitsLt_bf16_f32⟩, ⟨S128x128, k0_pay34⟩] concatenates_S128x128_S128x128_S128x256_d1⟩,
        ⟨S64x256, k0_pay33⟩, ⟨S64x256, truncf .bf16 (shapeCast S64x256 st shapeCasts_S1x1x64x256_S64x256) bitsLt_bf16_f32⟩] concatenates_S128x256_S64x256_S64x256_S256x256_d0)
    (constant S128x256 .f32 0x00000000#32)
/-- A head's rows before their norm. -/
def quoC (S : FVec F S128x128 .f32) (res : FVec F S128x256 .f32) (fl : FVec F S128x128 .f32) : FVec F S128x128 .f32 :=
  divf (extractStridedSlice S128x128 ![0, 0] res slices_S128x256_o0_0_S128x128)
    (maximumf (absf (addf (broadcastTo S128x128 (shapeCast S128x1 (multiReduction .add [1] S128 S 0x00000000#32 reduces_S128x128_S128 (.inl rfl) rfl) shapeCasts_S128_S128x1) broadcasts_S128x1_S128x128)
      (extractStridedSlice S128x128 ![0, 128] res slices_S128x256_o0_128_S128x128))) fl)
/-- The norm of a head's rows. -/
def nrmC (x : FVec F S128x128 .f32) : FVec F S128x128 .f32 :=
  shapeCast S128x128 (mulf x (broadcastTo S128x128 (rsqrt (addf
    (divf (shapeCast S128x1 (multiReduction .add [1] S128 (mulf x x) 0x00000000#32 reduces_S128x128_S128 (.inl rfl) rfl) shapeCasts_S128_S128x1) (broadcast S128x1 (Scalar.ofBits .f32 0x43000000#32)))
    (broadcast S128x1 (Scalar.ofBits .f32 0x358637BD#32)))) broadcasts_S128x1_S128x128)) shapeCasts_S128x128_S128x128
/-- A head's rows of a chunk. -/
def tile (PC : FVec F S528x1024 .f32) (PR : FVec F S1024x2560 .f32) (B R C : FVec F S8x1024 .f32) (M : Vec F S1x8x128 .f32) {j h : ℕ} (hj : j < 8) (hh : h < 8)
    (st : Vec F S1x1x64x256 .f32) : FVec F S128x128 .f32 :=
  nrmC (quoC (scoreC PC PR R (colsC B C M hj) hj hh) (resC PR M (colsC B C M hj) (scoreC PC PR R (colsC B C M hj) hj hh) hj hh st) (colB (colsC B C M hj) (o := 8 + h) (by omega)))

abbrev PieceY (F : FTy → Type) := View.Piece (Elt F) S1024x1024 .f32
abbrev rY {j h : ℕ} (hj : j < 8) (hh : h < 8) : Rect S1024x1024 := Rect.unit ![128 * j, 128 * h] S128x128.size (inbY hj hh)

/-- The state's writes of a chunk up to one head. -/
def headS (PC : FVec F S528x1024 .f32) (PR : FVec F S1024x2560 .f32) (R C : FVec F S8x1024 .f32) (M : Vec F S1x8x128 .f32) {j : ℕ} (hj : j < 8)
    (ld : List (PieceS F) → (r : LoadRect S1x8x64x256) → r.shape.Idx → Elt F .f32) (L : List (PieceS F)) : ℕ → List (PieceS F)
  | 0 => L
  | h + 1 => sPut PC PR (aC R C M hj) (dC C M hj) hj (h := h % 8) (by omega) ld (headS PC PR R C M hj ld L h)
/-- The rows' writes of a chunk up to one head. -/
def headY (PC : FVec F S528x1024 .f32) (PR : FVec F S1024x2560 .f32) (B R C : FVec F S8x1024 .f32) (M : Vec F S1x8x128 .f32) {j : ℕ} (hj : j < 8)
    (ld : List (PieceS F) → (r : LoadRect S1x8x64x256) → r.shape.Idx → Elt F .f32) (L : List (PieceS F)) (Y : List (PieceY F)) : ℕ → List (PieceY F)
  | 0 => Y
  | h + 1 => ⟨rY hj (h := h % 8) (by omega), tile PC PR B R C M hj (h := h % 8) (by omega) (ld (headS PC PR R C M hj ld L h) (rS (h := h % 8) (by omega)).toLoadRect)⟩
      :: headY PC PR B R C M hj ld L Y h

variable (PC : FVec F S528x1024 .f32) (PR : FVec F S1024x2560 .f32) (B R C : FVec F S8x1024 .f32) (M0 : Vec F S1x8x128 .f32) (L0 : List (PieceM F))
  (ldM : List (PieceM F) → (r : LoadRect S1x8x128) → r.shape.Idx → Elt F .f32)
  (ld0 ld : List (PieceS F) → (r : LoadRect S1x8x64x256) → r.shape.Idx → Elt F .f32) (L1 : List (PieceS F))

/-- The rows' writes over the chunks up to one. -/
def yIter : ℕ → List (PieceY F)
  | 0 => headY PC PR B R C M0 (j := 0) (by omega) ld0 L1 [] 8
  | j + 1 => headY PC PR B R C (mIter B C M0 L0 ldM (j + 1)).2 (j := (j + 1) % 8) (by omega) ld (sIter PC PR B R C M0 L0 ldM ld0 ld L1 j) (yIter j) 8

variable {PC PR B R C M0 L0 ldM ld0 ld L1}

theorem yIter_next {j : ℕ} {L : List (PieceS F)} {Lm : List (PieceM F)} {M : Vec F S1x8x128 .f32} {Y Y' : List (PieceY F)} (em : (Lm, M) = mIter B C M0 L0 ldM (j + 1))
    (e : L = sIter PC PR B R C M0 L0 ldM ld0 ld L1 j) (ey : Y = yIter PC PR B R C M0 L0 ldM ld0 ld L1 j)
    (h : Y' = headY PC PR B R C M (j := (j + 1) % 8) (by omega) ld L Y 8) :
    Y' = yIter PC PR B R C M0 L0 ldM ld0 ld L1 (j + 1) := by
  rw [yIter, ← em, ← e, ← ey, h]

end Cert.PromptValue
end
-- ==== Proof.PromptValue.RowLists.lean ====
module

public import proofs.«01_k».proof.Proof.PromptValue.Rows

@[expose] public section
set_option maxRecDepth 65536
set_option maxHeartbeats 0
noncomputable section

/-! The rows the body writes are the chunks', in order. -/
namespace Cert.PromptValue
open Cert.PromptIdeal Cert.PromptIdeal.Gen Idealize.ShloMosaic Idealize.ShloMosaic.TcCoe Idealize.SL.Sem

variable {F : FTy → Type} [FloatOps F]

theorem rowsA (c : Dev nD) (i : grid0.Coords) (arg2 : Memref sig .tc .vmem S1x1024x1024 .f32) (harg2 : arg2.IsWhole) (arg3 : Memref sig .tc .vmem S1x6x1x1024 .f32) (harg3 : arg3.IsWhole) (arg4 : Memref sig .tc .vmem S1x1024 .f32) (harg4 : arg4.IsWhole) (arg5 : Memref sig .tc .vmem S1024x2560 .bf16) (harg5 : arg5.IsWhole) (arg6 : Memref sig .tc .vmem S768x1024 .bf16) (harg6 : arg6.IsWhole) (arg7 : Memref sig .tc .vmem S16x1024 .f32) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S1x64x4096 .f32) (harg10 : arg10.IsWhole) (arg11 : Memref sig .tc .vmem S1x256x1024 .f32) (harg11 : arg11.IsWhole) (arg12 : Memref sig .tc .vmem S1x1024x1024 .f32) (harg12 : arg12.IsWhole) (arg13 : Memref sig .tc .vmem S1x8x64x256 .f32) (harg13 : arg13.IsWhole) (arg14 : Memref sig .tc .vmem S1x8x128 .f32) (harg14 : arg14.IsWhole) (arg15 : Memref sig .tc .vmem S64x4096 .bf16) (harg15 : arg15.IsWhole) (arg16 : Memref sig .tc .vmem S256x1024 .bf16) (harg16 : arg16.IsWhole) (arg17 : Memref sig .tc .vmem S1024x1024 .f32) (harg17 : arg17.IsWhole) (hc0 : cond0_0 i)
    (x0 : Vec F S1x1024x1024 .f32) (x1 : Vec F S1x6x1x1024 .f32) (x2 : Vec F S1x1024 .f32) (x3 : Vec F S1024x2560 .bf16) (x4 : Vec F S768x1024 .bf16) (x5 : Vec F S16x1024 .f32) (x6 : Vec F S1x1024 .f32) (x7 : Vec F S1024x1024 .bf16) (x8 : Vec F S1x64x4096 .f32) (x9 : Vec F S1x256x1024 .f32) :
    (kernelRun0_A.sl.HS0_64 c arg2 harg2 arg3 harg3 arg4 harg4 arg5 harg5 arg6 harg6 arg7 harg7 arg13 arg14 x0 x1 x2 x3 x4 x5) = yIter (kernelRun0_A.sl.r_6 c arg2 harg2 arg3 harg3 arg4 harg4 arg6 harg6 x0 x1 x2 x4) (kernelRun0_A.sl.r_18 c arg2 harg2 arg3 harg3 arg4 harg4 arg5 harg5 x0 x1 x2 x3) (kernelRun0_A.sl.r_13 c arg2 harg2 arg3 harg3 arg4 harg4 arg6 harg6 arg7 harg7 x0 x1 x2 x4 x5) (kernelRun0_A.sl.r_14 c arg2 harg2 arg3 harg3 arg4 harg4 arg6 harg6 arg7 harg7 x0 x1 x2 x4 x5) (kernelRun0_A.sl.r_17 c arg2 harg2 arg3 harg3 arg4 harg4 arg6 harg6 arg7 harg7 x0 x1 x2 x4 x5) (kernelRun0_A.sl.v189 c arg14) (kernelRun0_A.sl.H12_1 (F := F)) (fun L => View.readCov (Memref.view arg14) L) (fun L => View.readCov (Memref.view arg13) L) (fun L => View.readCov (Memref.view arg13) L) (kernelRun0_A.sl.H11_1 (F := F)) 7 := by
  have m0 : ((kernelRun0_A.sl.H12_1 (F := F)), (kernelRun0_A.sl.v189 c arg14)) = mIter (kernelRun0_A.sl.r_13 c arg2 harg2 arg3 harg3 arg4 harg4 arg6 harg6 arg7 harg7 x0 x1 x2 x4 x5) (kernelRun0_A.sl.r_17 c arg2 harg2 arg3 harg3 arg4 harg4 arg6 harg6 arg7 harg7 x0 x1 x2 x4 x5) (kernelRun0_A.sl.v189 c arg14) (kernelRun0_A.sl.H12_1 (F := F)) (fun L => View.readCov (Memref.view arg14) L) 0 := rfl
  have m1 := mIter_next (L' := (kernelRun0_A.sl.H12_2 c arg2 harg2 arg3 harg3 arg4 harg4 arg6 harg6 arg7 harg7 arg14 x0 x1 x2 x4 x5)) (M' := (kernelRun0_A.sl.v774 c arg2 harg2 arg3 harg3 arg4 harg4 arg6 harg6 arg7 harg7 arg14 x0 x1 x2 x4 x5)) m0 rfl rfl
  have m2 := mIter_next (L' := (kernelRun0_A.sl.H12_3 c arg2 harg2 arg3 harg3 arg4 harg4 arg6 harg6 arg7 harg7 arg14 x0 x1 x2 x4 x5)) (M' := (kernelRun0_A.sl.v1359 c arg2 harg2 arg3 harg3 arg4 harg4 arg6 harg6 arg7 harg7 arg14 x0 x1 x2 x4 x5)) m1 rfl rfl
  have m3 := mIter_next (L' := (kernelRun0_A.sl.H12_4 c arg2 harg2 arg3 harg3 arg4 harg4 arg6 harg6 arg7 harg7 arg14 x0 x1 x2 x4 x5)) (M' := (kernelRun0_A.sl.v1944 c arg2 harg2 arg3 harg3 arg4 harg4 arg6 harg6 arg7 harg7 arg14 x0 x1 x2 x4 x5)) m2 rfl rfl
  have m4 := mIter_next (L' := (kernelRun0_A.sl.H12_5 c arg2 harg2 arg3 harg3 arg4 harg4 arg6 harg6 arg7 harg7 arg14 x0 x1 x2 x4 x5)) (M' := (kernelRun0_A.sl.v2529 c arg2 harg2 arg3 harg3 arg4 harg4 arg6 harg6 arg7 harg7 arg14 x0 x1 x2 x4 x5)) m3 rfl rfl
  have m5 := mIter_next (L' := (kernelRun0_A.sl.H12_6 c arg2 harg2 arg3 harg3 arg4 harg4 arg6 harg6 arg7 harg7 arg14 x0 x1 x2 x4 x5)) (M' := (kernelRun0_A.sl.v3114 c arg2 harg2 arg3 harg3 arg4 harg4 arg6 harg6 arg7 harg7 arg14 x0 x1 x2 x4 x5)) m4 rfl rfl
  have m6 := mIter_next (L' := (kernelRun0_A.sl.H12_7 c arg2 harg2 arg3 harg3 arg4 harg4 arg6 harg6 arg7 harg7 arg14 x0 x1 x2 x4 x5)) (M' := (kernelRun0_A.sl.v3699 c arg2 harg2 arg3 harg3 arg4 harg4 arg6 harg6 arg7 harg7 arg14 x0 x1 x2 x4 x5)) m5 rfl rfl
  have m7 := mIter_next (L' := (kernelRun0_A.sl.H12_8 c arg2 harg2 arg3 harg3 arg4 harg4 arg6 harg6 arg7 harg7 arg14 x0 x1 x2 x4 x5)) (M' := (kernelRun0_A.sl.v4284 c arg2 harg2 arg3 harg3 arg4 harg4 arg6 harg6 arg7 harg7 arg14 x0 x1 x2 x4 x5)) m6 rfl rfl
  have s0 : (kernelRun0_A.sl.H11_9 c arg2 harg2 arg3 harg3 arg4 harg4 arg5 harg5 arg6 harg6 arg7 harg7 arg13 arg14 x0 x1 x2 x3 x4 x5) = sIter (kernelRun0_A.sl.r_6 c arg2 harg2 arg3 harg3 arg4 harg4 arg6 harg6 x0 x1 x2 x4) (kernelRun0_A.sl.r_18 c arg2 harg2 arg3 harg3 arg4 harg4 arg5 harg5 x0 x1 x2 x3) (kernelRun0_A.sl.r_13 c arg2 harg2 arg3 harg3 arg4 harg4 arg6 harg6 arg7 harg7 x0 x1 x2 x4 x5) (kernelRun0_A.sl.r_14 c arg2 harg2 arg3 harg3 arg4 harg4 arg6 harg6 arg7 harg7 x0 x1 x2 x4 x5) (kernelRun0_A.sl.r_17 c arg2 harg2 arg3 harg3 arg4 harg4 arg6 harg6 arg7 harg7 x0 x1 x2 x4 x5) (kernelRun0_A.sl.v189 c arg14) (kernelRun0_A.sl.H12_1 (F := F)) (fun L => View.readCov (Memref.view arg14) L) (fun L => View.readCov (Memref.view arg13) L) (fun L => View.readCov (Memref.view arg13) L) (kernelRun0_A.sl.H11_1 (F := F)) 0 := rfl
  have s1 := sIter_next (L' := (kernelRun0_A.sl.H11_17 c arg2 harg2 arg3 harg3 arg4 harg4 arg5 harg5 arg6 harg6 arg7 harg7 arg13 arg14 x0 x1 x2 x3 x4 x5)) m1 s0 rfl
  have s2 := sIter_next (L' := (kernelRun0_A.sl.H11_25 c arg2 harg2 arg3 harg3 arg4 harg4 arg5 harg5 arg6 harg6 arg7 harg7 arg13 arg14 x0 x1 x2 x3 x4 x5)) m2 s1 rfl
  have s3 := sIter_next (L' := (kernelRun0_A.sl.H11_33 c arg2 harg2 arg3 harg3 arg4 harg4 arg5 harg5 arg6 harg6 arg7 harg7 arg13 arg14 x0 x1 x2 x3 x4 x5)) m3 s2 rfl
  have s4 := sIter_next (L' := (kernelRun0_A.sl.H11_41 c arg2 harg2 arg3 harg3 arg4 harg4 arg5 harg5 arg6 harg6 arg7 harg7 arg13 arg14 x0 x1 x2 x3 x4 x5)) m4 s3 rfl
  have s5 := sIter_next (L' := (kernelRun0_A.sl.H11_49 c arg2 harg2 arg3 harg3 arg4 harg4 arg5 harg5 arg6 harg6 arg7 harg7 arg13 arg14 x0 x1 x2 x3 x4 x5)) m5 s4 rfl
  have s6 := sIter_next (L' := (kernelRun0_A.sl.H11_57 c arg2 harg2 arg3 harg3 arg4 harg4 arg5 harg5 arg6 harg6 arg7 harg7 arg13 arg14 x0 x1 x2 x3 x4 x5)) m6 s5 rfl
  have y0 : (List.drop 56 (kernelRun0_A.sl.HS0_64 c arg2 harg2 arg3 harg3 arg4 harg4 arg5 harg5 arg6 harg6 arg7 harg7 arg13 arg14 x0 x1 x2 x3 x4 x5)) = yIter (kernelRun0_A.sl.r_6 c arg2 harg2 arg3 harg3 arg4 harg4 arg6 harg6 x0 x1 x2 x4) (kernelRun0_A.sl.r_18 c arg2 harg2 arg3 harg3 arg4 harg4 arg5 harg5 x0 x1 x2 x3) (kernelRun0_A.sl.r_13 c arg2 harg2 arg3 harg3 arg4 harg4 arg6 harg6 arg7 harg7 x0 x1 x2 x4 x5) (kernelRun0_A.sl.r_14 c arg2 harg2 arg3 harg3 arg4 harg4 arg6 harg6 arg7 harg7 x0 x1 x2 x4 x5) (kernelRun0_A.sl.r_17 c arg2 harg2 arg3 harg3 arg4 harg4 arg6 harg6 arg7 harg7 x0 x1 x2 x4 x5) (kernelRun0_A.sl.v189 c arg14) (kernelRun0_A.sl.H12_1 (F := F)) (fun L => View.readCov (Memref.view arg14) L) (fun L => View.readCov (Memref.view arg13) L) (fun L => View.readCov (Memref.view arg13) L) (kernelRun0_A.sl.H11_1 (F := F)) 0 := rfl
  have y1 := yIter_next (Y' := List.drop 48 (kernelRun0_A.sl.HS0_64 c arg2 harg2 arg3 harg3 arg4 harg4 arg5 harg5 arg6 harg6 arg7 harg7 arg13 arg14 x0 x1 x2 x3 x4 x5)) m1 s0 y0 rfl
  have y2 := yIter_next (Y' := List.drop 40 (kernelRun0_A.sl.HS0_64 c arg2 harg2 arg3 harg3 arg4 harg4 arg5 harg5 arg6 harg6 arg7 harg7 arg13 arg14 x0 x1 x2 x3 x4 x5)) m2 s1 y1 rfl
  have y3 := yIter_next (Y' := List.drop 32 (kernelRun0_A.sl.HS0_64 c arg2 harg2 arg3 harg3 arg4 harg4 arg5 harg5 arg6 harg6 arg7 harg7 arg13 arg14 x0 x1 x2 x3 x4 x5)) m3 s2 y2 rfl
  have y4 := yIter_next (Y' := List.drop 24 (kernelRun0_A.sl.HS0_64 c arg2 harg2 arg3 harg3 arg4 harg4 arg5 harg5 arg6 harg6 arg7 harg7 arg13 arg14 x0 x1 x2 x3 x4 x5)) m4 s3 y3 rfl
  have y5 := yIter_next (Y' := List.drop 16 (kernelRun0_A.sl.HS0_64 c arg2 harg2 arg3 harg3 arg4 harg4 arg5 harg5 arg6 harg6 arg7 harg7 arg13 arg14 x0 x1 x2 x3 x4 x5)) m5 s4 y4 rfl
  have y6 := yIter_next (Y' := List.drop 8 (kernelRun0_A.sl.HS0_64 c arg2 harg2 arg3 harg3 arg4 harg4 arg5 harg5 arg6 harg6 arg7 harg7 arg13 arg14 x0 x1 x2 x3 x4 x5)) m6 s5 y5 rfl
  exact yIter_next m7 s6 y6 rfl

theorem rowsB (c : Dev nD) (i : grid0.Coords) (arg2 : Memref sig .tc .vmem S1x1024x1024 .f32) (harg2 : arg2.IsWhole) (arg3 : Memref sig .tc .vmem S1x6x1x1024 .f32) (harg3 : arg3.IsWhole) (arg4 : Memref sig .tc .vmem S1x1024 .f32) (harg4 : arg4.IsWhole) (arg5 : Memref sig .tc .vmem S1024x2560 .bf16) (harg5 : arg5.IsWhole) (arg6 : Memref sig .tc .vmem S768x1024 .bf16) (harg6 : arg6.IsWhole) (arg7 : Memref sig .tc .vmem S16x1024 .f32) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S1x64x4096 .f32) (harg10 : arg10.IsWhole) (arg11 : Memref sig .tc .vmem S1x256x1024 .f32) (harg11 : arg11.IsWhole) (arg12 : Memref sig .tc .vmem S1x1024x1024 .f32) (harg12 : arg12.IsWhole) (arg13 : Memref sig .tc .vmem S1x8x64x256 .f32) (harg13 : arg13.IsWhole) (arg14 : Memref sig .tc .vmem S1x8x128 .f32) (harg14 : arg14.IsWhole) (arg15 : Memref sig .tc .vmem S64x4096 .bf16) (harg15 : arg15.IsWhole) (arg16 : Memref sig .tc .vmem S256x1024 .bf16) (harg16 : arg16.IsWhole) (arg17 : Memref sig .tc .vmem S1024x1024 .f32) (harg17 : arg17.IsWhole) (hc0 : ¬cond0_0 i)
    (x0 : Vec F S1x1024x1024 .f32) (x1 : Vec F S1x6x1x1024 .f32) (x2 : Vec F S1x1024 .f32) (x3 : Vec F S1024x2560 .bf16) (x4 : Vec F S768x1024 .bf16) (x5 : Vec F S16x1024 .f32) (x6 : Vec F S1x1024 .f32) (x7 : Vec F S1024x1024 .bf16) (x8 : Vec F S1x64x4096 .f32) (x9 : Vec F S1x256x1024 .f32) (xo11 : Vec F S1x8x64x256 .f32) (xo12 : Vec F S1x8x128 .f32) :
    (kernelRun0_B.sl.HS0_64 c arg2 harg2 arg3 harg3 arg4 harg4 arg5 harg5 arg6 harg6 arg7 harg7 arg13 harg13 arg14 harg14 x0 x1 x2 x3 x4 x5 xo11 xo12) = yIter (kernelRun0_B.sl.r_6 c arg2 harg2 arg3 harg3 arg4 harg4 arg6 harg6 x0 x1 x2 x4) (kernelRun0_B.sl.r_18 c arg2 harg2 arg3 harg3 arg4 harg4 arg5 harg5 x0 x1 x2 x3) (kernelRun0_B.sl.r_13 c arg2 harg2 arg3 harg3 arg4 harg4 arg6 harg6 arg7 harg7 x0 x1 x2 x4 x5) (kernelRun0_B.sl.r_14 c arg2 harg2 arg3 harg3 arg4 harg4 arg6 harg6 arg7 harg7 x0 x1 x2 x4 x5) (kernelRun0_B.sl.r_17 c arg2 harg2 arg3 harg3 arg4 harg4 arg6 harg6 arg7 harg7 x0 x1 x2 x4 x5) (View.readAt (Elt F) (Memref.view arg14) rM.toLoadRect (harg14.unread xo12)) [] (fun L => View.readCov (Memref.view arg14) L) (fun _ r => View.readAt (Elt F) (Memref.view arg13) r (harg13.unread xo11)) (fun L => View.readCov (Memref.view arg13) L) [] 7 := by
  have m0 : ([], (View.readAt (Elt F) (Memref.view arg14) rM.toLoadRect (harg14.unread xo12))) = mIter (kernelRun0_B.sl.r_13 c arg2 harg2 arg3 harg3 arg4 harg4 arg6 harg6 arg7 harg7 x0 x1 x2 x4 x5) (kernelRun0_B.sl.r_17 c arg2 harg2 arg3 harg3 arg4 harg4 arg6 harg6 arg7 harg7 x0 x1 x2 x4 x5) (View.readAt (Elt F) (Memref.view arg14) rM.toLoadRect (harg14.unread xo12)) [] (fun L => View.readCov (Memref.view arg14) L) 0 := rfl
  have m1 := mIter_next (L' := (kernelRun0_B.sl.H12_1 c arg2 harg2 arg3 harg3 arg4 harg4 arg6 harg6 arg7 harg7 arg14 harg14 x0 x1 x2 x4 x5 xo12)) (M' := (kernelRun0_B.sl.v774 c arg2 harg2 arg3 harg3 arg4 harg4 arg6 harg6 arg7 harg7 arg14 harg14 x0 x1 x2 x4 x5 xo12)) m0 rfl rfl
  have m2 := mIter_next (L' := (kernelRun0_B.sl.H12_2 c arg2 harg2 arg3 harg3 arg4 harg4 arg6 harg6 arg7 harg7 arg14 harg14 x0 x1 x2 x4 x5 xo12)) (M' := (kernelRun0_B.sl.v1359 c arg2 harg2 arg3 harg3 arg4 harg4 arg6 harg6 arg7 harg7 arg14 harg14 x0 x1 x2 x4 x5 xo12)) m1 rfl rfl
  have m3 := mIter_next (L' := (kernelRun0_B.sl.H12_3 c arg2 harg2 arg3 harg3 arg4 harg4 arg6 harg6 arg7 harg7 arg14 harg14 x0 x1 x2 x4 x5 xo12)) (M' := (kernelRun0_B.sl.v1944 c arg2 harg2 arg3 harg3 arg4 harg4 arg6 harg6 arg7 harg7 arg14 harg14 x0 x1 x2 x4 x5 xo12)) m2 rfl rfl
  have m4 := mIter_next (L' := (kernelRun0_B.sl.H12_4 c arg2 harg2 arg3 harg3 arg4 harg4 arg6 harg6 arg7 harg7 arg14 harg14 x0 x1 x2 x4 x5 xo12)) (M' := (kernelRun0_B.sl.v2529 c arg2 harg2 arg3 harg3 arg4 harg4 arg6 harg6 arg7 harg7 arg14 harg14 x0 x1 x2 x4 x5 xo12)) m3 rfl rfl
  have m5 := mIter_next (L' := (kernelRun0_B.sl.H12_5 c arg2 harg2 arg3 harg3 arg4 harg4 arg6 harg6 arg7 harg7 arg14 harg14 x0 x1 x2 x4 x5 xo12)) (M' := (kernelRun0_B.sl.v3114 c arg2 harg2 arg3 harg3 arg4 harg4 arg6 harg6 arg7 harg7 arg14 harg14 x0 x1 x2 x4 x5 xo12)) m4 rfl rfl
  have m6 := mIter_next (L' := (kernelRun0_B.sl.H12_6 c arg2 harg2 arg3 harg3 arg4 harg4 arg6 harg6 arg7 harg7 arg14 harg14 x0 x1 x2 x4 x5 xo12)) (M' := (kernelRun0_B.sl.v3699 c arg2 harg2 arg3 harg3 arg4 harg4 arg6 harg6 arg7 harg7 arg14 harg14 x0 x1 x2 x4 x5 xo12)) m5 rfl rfl
  have m7 := mIter_next (L' := (kernelRun0_B.sl.H12_7 c arg2 harg2 arg3 harg3 arg4 harg4 arg6 harg6 arg7 harg7 arg14 harg14 x0 x1 x2 x4 x5 xo12)) (M' := (kernelRun0_B.sl.v4284 c arg2 harg2 arg3 harg3 arg4 harg4 arg6 harg6 arg7 harg7 arg14 harg14 x0 x1 x2 x4 x5 xo12)) m6 rfl rfl
  have s0 : (kernelRun0_B.sl.H11_8 c arg2 harg2 arg3 harg3 arg4 harg4 arg5 harg5 arg6 harg6 arg7 harg7 arg13 harg13 arg14 harg14 x0 x1 x2 x3 x4 x5 xo11 xo12) = sIter (kernelRun0_B.sl.r_6 c arg2 harg2 arg3 harg3 arg4 harg4 arg6 harg6 x0 x1 x2 x4) (kernelRun0_B.sl.r_18 c arg2 harg2 arg3 harg3 arg4 harg4 arg5 harg5 x0 x1 x2 x3) (kernelRun0_B.sl.r_13 c arg2 harg2 arg3 harg3 arg4 harg4 arg6 harg6 arg7 harg7 x0 x1 x2 x4 x5) (kernelRun0_B.sl.r_14 c arg2 harg2 arg3 harg3 arg4 harg4 arg6 harg6 arg7 harg7 x0 x1 x2 x4 x5) (kernelRun0_B.sl.r_17 c arg2 harg2 arg3 harg3 arg4 harg4 arg6 harg6 arg7 harg7 x0 x1 x2 x4 x5) (View.readAt (Elt F) (Memref.view arg14) rM.toLoadRect (harg14.unread xo12)) [] (fun L => View.readCov (Memref.view arg14) L) (fun _ r => View.readAt (Elt F) (Memref.view arg13) r (harg13.unread xo11)) (fun L => View.readCov (Memref.view arg13) L) [] 0 := rfl
  have s1 := sIter_next (L' := (kernelRun0_B.sl.H11_16 c arg2 harg2 arg3 harg3 arg4 harg4 arg5 harg5 arg6 harg6 arg7 harg7 arg13 harg13 arg14 harg14 x0 x1 x2 x3 x4 x5 xo11 xo12)) m1 s0 rfl
  have s2 := sIter_next (L' := (kernelRun0_B.sl.H11_24 c arg2 harg2 arg3 harg3 arg4 harg4 arg5 harg5 arg6 harg6 arg7 harg7 arg13 harg13 arg14 harg14 x0 x1 x2 x3 x4 x5 xo11 xo12)) m2 s1 rfl
  have s3 := sIter_next (L' := (kernelRun0_B.sl.H11_32 c arg2 harg2 arg3 harg3 arg4 harg4 arg5 harg5 arg6 harg6 arg7 harg7 arg13 harg13 arg14 harg14 x0 x1 x2 x3 x4 x5 xo11 xo12)) m3 s2 rfl
  have s4 := sIter_next (L' := (kernelRun0_B.sl.H11_40 c arg2 harg2 arg3 harg3 arg4 harg4 arg5 harg5 arg6 harg6 arg7 harg7 arg13 harg13 arg14 harg14 x0 x1 x2 x3 x4 x5 xo11 xo12)) m4 s3 rfl
  have s5 := sIter_next (L' := (kernelRun0_B.sl.H11_48 c arg2 harg2 arg3 harg3 arg4 harg4 arg5 harg5 arg6 harg6 arg7 harg7 arg13 harg13 arg14 harg14 x0 x1 x2 x3 x4 x5 xo11 xo12)) m5 s4 rfl
  have s6 := sIter_next (L' := (kernelRun0_B.sl.H11_56 c arg2 harg2 arg3 harg3 arg4 harg4 arg5 harg5 arg6 harg6 arg7 harg7 arg13 harg13 arg14 harg14 x0 x1 x2 x3 x4 x5 xo11 xo12)) m6 s5 rfl
  have y0 : (List.drop 56 (kernelRun0_B.sl.HS0_64 c arg2 harg2 arg3 harg3 arg4 harg4 arg5 harg5 arg6 harg6 arg7 harg7 arg13 harg13 arg14 harg14 x0 x1 x2 x3 x4 x5 xo11 xo12)) = yIter (kernelRun0_B.sl.r_6 c arg2 harg2 arg3 harg3 arg4 harg4 arg6 harg6 x0 x1 x2 x4) (kernelRun0_B.sl.r_18 c arg2 harg2 arg3 harg3 arg4 harg4 arg5 harg5 x0 x1 x2 x3) (kernelRun0_B.sl.r_13 c arg2 harg2 arg3 harg3 arg4 harg4 arg6 harg6 arg7 harg7 x0 x1 x2 x4 x5) (kernelRun0_B.sl.r_14 c arg2 harg2 arg3 harg3 arg4 harg4 arg6 harg6 arg7 harg7 x0 x1 x2 x4 x5) (kernelRun0_B.sl.r_17 c arg2 harg2 arg3 harg3 arg4 harg4 arg6 harg6 arg7 harg7 x0 x1 x2 x4 x5) (View.readAt (Elt F) (Memref.view arg14) rM.toLoadRect (harg14.unread xo12)) [] (fun L => View.readCov (Memref.view arg14) L) (fun _ r => View.readAt (Elt F) (Memref.view arg13) r (harg13.unread xo11)) (fun L => View.readCov (Memref.view arg13) L) [] 0 := rfl
  have y1 := yIter_next (Y' := List.drop 48 (kernelRun0_B.sl.HS0_64 c arg2 harg2 arg3 harg3 arg4 harg4 arg5 harg5 arg6 harg6 arg7 harg7 arg13 harg13 arg14 harg14 x0 x1 x2 x3 x4 x5 xo11 xo12)) m1 s0 y0 rfl
  have y2 := yIter_next (Y' := List.drop 40 (kernelRun0_B.sl.HS0_64 c arg2 harg2 arg3 harg3 arg4 harg4 arg5 harg5 arg6 harg6 arg7 harg7 arg13 harg13 arg14 harg14 x0 x1 x2 x3 x4 x5 xo11 xo12)) m2 s1 y1 rfl
  have y3 := yIter_next (Y' := List.drop 32 (kernelRun0_B.sl.HS0_64 c arg2 harg2 arg3 harg3 arg4 harg4 arg5 harg5 arg6 harg6 arg7 harg7 arg13 harg13 arg14 harg14 x0 x1 x2 x3 x4 x5 xo11 xo12)) m3 s2 y2 rfl
  have y4 := yIter_next (Y' := List.drop 24 (kernelRun0_B.sl.HS0_64 c arg2 harg2 arg3 harg3 arg4 harg4 arg5 harg5 arg6 harg6 arg7 harg7 arg13 harg13 arg14 harg14 x0 x1 x2 x3 x4 x5 xo11 xo12)) m4 s3 y3 rfl
  have y5 := yIter_next (Y' := List.drop 16 (kernelRun0_B.sl.HS0_64 c arg2 harg2 arg3 harg3 arg4 harg4 arg5 harg5 arg6 harg6 arg7 harg7 arg13 harg13 arg14 harg14 x0 x1 x2 x3 x4 x5 xo11 xo12)) m5 s4 y4 rfl
  have y6 := yIter_next (Y' := List.drop 8 (kernelRun0_B.sl.HS0_64 c arg2 harg2 arg3 harg3 arg4 harg4 arg5 harg5 arg6 harg6 arg7 harg7 arg13 harg13 arg14 harg14 x0 x1 x2 x3 x4 x5 xo11 xo12)) m6 s5 y5 rfl
  exact yIter_next m7 s6 y6 rfl

end Cert.PromptValue
end
-- ==== Proof.PromptValue.Lists.lean ====
module

public import proofs.«01_k».proof.Proof.PromptValue.Units

@[expose] public section
set_option maxRecDepth 65536
set_option maxHeartbeats 0
noncomputable section

/-! The writes of the body are the chunks', in order. -/
namespace Cert.PromptValue
open Cert.PromptIdeal Cert.PromptIdeal.Gen Idealize.ShloMosaic Idealize.ShloMosaic.TcCoe Idealize.SL.Sem

variable {F : FTy → Type} [FloatOps F]

theorem listA (c : Dev nD) (i : grid0.Coords) (arg2 : Memref sig .tc .vmem S1x1024x1024 .f32) (harg2 : arg2.IsWhole) (arg3 : Memref sig .tc .vmem S1x6x1x1024 .f32) (harg3 : arg3.IsWhole) (arg4 : Memref sig .tc .vmem S1x1024 .f32) (harg4 : arg4.IsWhole) (arg5 : Memref sig .tc .vmem S1024x2560 .bf16) (harg5 : arg5.IsWhole) (arg6 : Memref sig .tc .vmem S768x1024 .bf16) (harg6 : arg6.IsWhole) (arg7 : Memref sig .tc .vmem S16x1024 .f32) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S1x64x4096 .f32) (harg10 : arg10.IsWhole) (arg11 : Memref sig .tc .vmem S1x256x1024 .f32) (harg11 : arg11.IsWhole) (arg12 : Memref sig .tc .vmem S1x1024x1024 .f32) (harg12 : arg12.IsWhole) (arg13 : Memref sig .tc .vmem S1x8x64x256 .f32) (harg13 : arg13.IsWhole) (arg14 : Memref sig .tc .vmem S1x8x128 .f32) (harg14 : arg14.IsWhole) (arg15 : Memref sig .tc .vmem S64x4096 .bf16) (harg15 : arg15.IsWhole) (arg16 : Memref sig .tc .vmem S256x1024 .bf16) (harg16 : arg16.IsWhole) (arg17 : Memref sig .tc .vmem S1024x1024 .f32) (harg17 : arg17.IsWhole) (hc0 : cond0_0 i)
    (x0 : Vec F S1x1024x1024 .f32) (x1 : Vec F S1x6x1x1024 .f32) (x2 : Vec F S1x1024 .f32) (x3 : Vec F S1024x2560 .bf16) (x4 : Vec F S768x1024 .bf16) (x5 : Vec F S16x1024 .f32) (x6 : Vec F S1x1024 .f32) (x7 : Vec F S1024x1024 .bf16) (x8 : Vec F S1x64x4096 .f32) (x9 : Vec F S1x256x1024 .f32) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9).2.1 = sIter (kernelRun0_A.sl.r_6 c arg2 harg2 arg3 harg3 arg4 harg4 arg6 harg6 x0 x1 x2 x4) (kernelRun0_A.sl.r_18 c arg2 harg2 arg3 harg3 arg4 harg4 arg5 harg5 x0 x1 x2 x3) (kernelRun0_A.sl.r_13 c arg2 harg2 arg3 harg3 arg4 harg4 arg6 harg6 arg7 harg7 x0 x1 x2 x4 x5) (kernelRun0_A.sl.r_14 c arg2 harg2 arg3 harg3 arg4 harg4 arg6 harg6 arg7 harg7 x0 x1 x2 x4 x5) (kernelRun0_A.sl.r_17 c arg2 harg2 arg3 harg3 arg4 harg4 arg6 harg6 arg7 harg7 x0 x1 x2 x4 x5) (kernelRun0_A.sl.v189 c arg14) (kernelRun0_A.sl.H12_1 (F := F)) (fun L => View.readCov (Memref.view arg14) L) (fun L => View.readCov (Memref.view arg13) L) (fun L => View.readCov (Memref.view arg13) L) (kernelRun0_A.sl.H11_1 (F := F)) 7 := by
  have m0 : ((kernelRun0_A.sl.H12_1 (F := F)), (kernelRun0_A.sl.v189 c arg14)) = mIter (kernelRun0_A.sl.r_13 c arg2 harg2 arg3 harg3 arg4 harg4 arg6 harg6 arg7 harg7 x0 x1 x2 x4 x5) (kernelRun0_A.sl.r_17 c arg2 harg2 arg3 harg3 arg4 harg4 arg6 harg6 arg7 harg7 x0 x1 x2 x4 x5) (kernelRun0_A.sl.v189 c arg14) (kernelRun0_A.sl.H12_1 (F := F)) (fun L => View.readCov (Memref.view arg14) L) 0 := rfl
  have m1 := mIter_next (L' := (kernelRun0_A.sl.H12_2 c arg2 harg2 arg3 harg3 arg4 harg4 arg6 harg6 arg7 harg7 arg14 x0 x1 x2 x4 x5)) (M' := (kernelRun0_A.sl.v774 c arg2 harg2 arg3 harg3 arg4 harg4 arg6 harg6 arg7 harg7 arg14 x0 x1 x2 x4 x5)) m0 rfl rfl
  have m2 := mIter_next (L' := (kernelRun0_A.sl.H12_3 c arg2 harg2 arg3 harg3 arg4 harg4 arg6 harg6 arg7 harg7 arg14 x0 x1 x2 x4 x5)) (M' := (kernelRun0_A.sl.v1359 c arg2 harg2 arg3 harg3 arg4 harg4 arg6 harg6 arg7 harg7 arg14 x0 x1 x2 x4 x5)) m1 rfl rfl
  have m3 := mIter_next (L' := (kernelRun0_A.sl.H12_4 c arg2 harg2 arg3 harg3 arg4 harg4 arg6 harg6 arg7 harg7 arg14 x0 x1 x2 x4 x5)) (M' := (kernelRun0_A.sl.v1944 c arg2 harg2 arg3 harg3 arg4 harg4 arg6 harg6 arg7 harg7 arg14 x0 x1 x2 x4 x5)) m2 rfl rfl
  have m4 := mIter_next (L' := (kernelRun0_A.sl.H12_5 c arg2 harg2 arg3 harg3 arg4 harg4 arg6 harg6 arg7 harg7 arg14 x0 x1 x2 x4 x5)) (M' := (kernelRun0_A.sl.v2529 c arg2 harg2 arg3 harg3 arg4 harg4 arg6 harg6 arg7 harg7 arg14 x0 x1 x2 x4 x5)) m3 rfl rfl
  have m5 := mIter_next (L' := (kernelRun0_A.sl.H12_6 c arg2 harg2 arg3 harg3 arg4 harg4 arg6 harg6 arg7 harg7 arg14 x0 x1 x2 x4 x5)) (M' := (kernelRun0_A.sl.v3114 c arg2 harg2 arg3 harg3 arg4 harg4 arg6 harg6 arg7 harg7 arg14 x0 x1 x2 x4 x5)) m4 rfl rfl
  have m6 := mIter_next (L' := (kernelRun0_A.sl.H12_7 c arg2 harg2 arg3 harg3 arg4 harg4 arg6 harg6 arg7 harg7 arg14 x0 x1 x2 x4 x5)) (M' := (kernelRun0_A.sl.v3699 c arg2 harg2 arg3 harg3 arg4 harg4 arg6 harg6 arg7 harg7 arg14 x0 x1 x2 x4 x5)) m5 rfl rfl
  have m7 := mIter_next (L' := (kernelRun0_A.sl.H12_8 c arg2 harg2 arg3 harg3 arg4 harg4 arg6 harg6 arg7 harg7 arg14 x0 x1 x2 x4 x5)) (M' := (kernelRun0_A.sl.v4284 c arg2 harg2 arg3 harg3 arg4 harg4 arg6 harg6 arg7 harg7 arg14 x0 x1 x2 x4 x5)) m6 rfl rfl
  have s0 : (kernelRun0_A.sl.H11_9 c arg2 harg2 arg3 harg3 arg4 harg4 arg5 harg5 arg6 harg6 arg7 harg7 arg13 arg14 x0 x1 x2 x3 x4 x5) = sIter (kernelRun0_A.sl.r_6 c arg2 harg2 arg3 harg3 arg4 harg4 arg6 harg6 x0 x1 x2 x4) (kernelRun0_A.sl.r_18 c arg2 harg2 arg3 harg3 arg4 harg4 arg5 harg5 x0 x1 x2 x3) (kernelRun0_A.sl.r_13 c arg2 harg2 arg3 harg3 arg4 harg4 arg6 harg6 arg7 harg7 x0 x1 x2 x4 x5) (kernelRun0_A.sl.r_14 c arg2 harg2 arg3 harg3 arg4 harg4 arg6 harg6 arg7 harg7 x0 x1 x2 x4 x5) (kernelRun0_A.sl.r_17 c arg2 harg2 arg3 harg3 arg4 harg4 arg6 harg6 arg7 harg7 x0 x1 x2 x4 x5) (kernelRun0_A.sl.v189 c arg14) (kernelRun0_A.sl.H12_1 (F := F)) (fun L => View.readCov (Memref.view arg14) L) (fun L => View.readCov (Memref.view arg13) L) (fun L => View.readCov (Memref.view arg13) L) (kernelRun0_A.sl.H11_1 (F := F)) 0 := rfl
  have s1 := sIter_next (L' := (kernelRun0_A.sl.H11_17 c arg2 harg2 arg3 harg3 arg4 harg4 arg5 harg5 arg6 harg6 arg7 harg7 arg13 arg14 x0 x1 x2 x3 x4 x5)) m1 s0 rfl
  have s2 := sIter_next (L' := (kernelRun0_A.sl.H11_25 c arg2 harg2 arg3 harg3 arg4 harg4 arg5 harg5 arg6 harg6 arg7 harg7 arg13 arg14 x0 x1 x2 x3 x4 x5)) m2 s1 rfl
  have s3 := sIter_next (L' := (kernelRun0_A.sl.H11_33 c arg2 harg2 arg3 harg3 arg4 harg4 arg5 harg5 arg6 harg6 arg7 harg7 arg13 arg14 x0 x1 x2 x3 x4 x5)) m3 s2 rfl
  have s4 := sIter_next (L' := (kernelRun0_A.sl.H11_41 c arg2 harg2 arg3 harg3 arg4 harg4 arg5 harg5 arg6 harg6 arg7 harg7 arg13 arg14 x0 x1 x2 x3 x4 x5)) m4 s3 rfl
  have s5 := sIter_next (L' := (kernelRun0_A.sl.H11_49 c arg2 harg2 arg3 harg3 arg4 harg4 arg5 harg5 arg6 harg6 arg7 harg7 arg13 arg14 x0 x1 x2 x3 x4 x5)) m5 s4 rfl
  have s6 := sIter_next (L' := (kernelRun0_A.sl.H11_57 c arg2 harg2 arg3 harg3 arg4 harg4 arg5 harg5 arg6 harg6 arg7 harg7 arg13 arg14 x0 x1 x2 x3 x4 x5)) m6 s5 rfl
  exact sIter_next m7 s6 rfl

theorem listB (c : Dev nD) (i : grid0.Coords) (arg2 : Memref sig .tc .vmem S1x1024x1024 .f32) (harg2 : arg2.IsWhole) (arg3 : Memref sig .tc .vmem S1x6x1x1024 .f32) (harg3 : arg3.IsWhole) (arg4 : Memref sig .tc .vmem S1x1024 .f32) (harg4 : arg4.IsWhole) (arg5 : Memref sig .tc .vmem S1024x2560 .bf16) (harg5 : arg5.IsWhole) (arg6 : Memref sig .tc .vmem S768x1024 .bf16) (harg6 : arg6.IsWhole) (arg7 : Memref sig .tc .vmem S16x1024 .f32) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S1x64x4096 .f32) (harg10 : arg10.IsWhole) (arg11 : Memref sig .tc .vmem S1x256x1024 .f32) (harg11 : arg11.IsWhole) (arg12 : Memref sig .tc .vmem S1x1024x1024 .f32) (harg12 : arg12.IsWhole) (arg13 : Memref sig .tc .vmem S1x8x64x256 .f32) (harg13 : arg13.IsWhole) (arg14 : Memref sig .tc .vmem S1x8x128 .f32) (harg14 : arg14.IsWhole) (arg15 : Memref sig .tc .vmem S64x4096 .bf16) (harg15 : arg15.IsWhole) (arg16 : Memref sig .tc .vmem S256x1024 .bf16) (harg16 : arg16.IsWhole) (arg17 : Memref sig .tc .vmem S1024x1024 .f32) (harg17 : arg17.IsWhole) (hc0 : ¬cond0_0 i)
    (x0 : Vec F S1x1024x1024 .f32) (x1 : Vec F S1x6x1x1024 .f32) (x2 : Vec F S1x1024 .f32) (x3 : Vec F S1024x2560 .bf16) (x4 : Vec F S768x1024 .bf16) (x5 : Vec F S16x1024 .f32) (x6 : Vec F S1x1024 .f32) (x7 : Vec F S1024x1024 .bf16) (x8 : Vec F S1x64x4096 .f32) (x9 : Vec F S1x256x1024 .f32) (xo11 : Vec F S1x8x64x256 .f32) (xo12 : Vec F S1x8x128 .f32) :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xo11 xo12).2.1 = sIter (kernelRun0_B.sl.r_6 c arg2 harg2 arg3 harg3 arg4 harg4 arg6 harg6 x0 x1 x2 x4) (kernelRun0_B.sl.r_18 c arg2 harg2 arg3 harg3 arg4 harg4 arg5 harg5 x0 x1 x2 x3) (kernelRun0_B.sl.r_13 c arg2 harg2 arg3 harg3 arg4 harg4 arg6 harg6 arg7 harg7 x0 x1 x2 x4 x5) (kernelRun0_B.sl.r_14 c arg2 harg2 arg3 harg3 arg4 harg4 arg6 harg6 arg7 harg7 x0 x1 x2 x4 x5) (kernelRun0_B.sl.r_17 c arg2 harg2 arg3 harg3 arg4 harg4 arg6 harg6 arg7 harg7 x0 x1 x2 x4 x5) (View.readAt (Elt F) (Memref.view arg14) rM.toLoadRect (harg14.unread xo12)) [] (fun L => View.readCov (Memref.view arg14) L) (fun _ r => View.readAt (Elt F) (Memref.view arg13) r (harg13.unread xo11)) (fun L => View.readCov (Memref.view arg13) L) [] 7 := by
  have m0 : ([], (View.readAt (Elt F) (Memref.view arg14) rM.toLoadRect (harg14.unread xo12))) = mIter (kernelRun0_B.sl.r_13 c arg2 harg2 arg3 harg3 arg4 harg4 arg6 harg6 arg7 harg7 x0 x1 x2 x4 x5) (kernelRun0_B.sl.r_17 c arg2 harg2 arg3 harg3 arg4 harg4 arg6 harg6 arg7 harg7 x0 x1 x2 x4 x5) (View.readAt (Elt F) (Memref.view arg14) rM.toLoadRect (harg14.unread xo12)) [] (fun L => View.readCov (Memref.view arg14) L) 0 := rfl
  have m1 := mIter_next (L' := (kernelRun0_B.sl.H12_1 c arg2 harg2 arg3 harg3 arg4 harg4 arg6 harg6 arg7 harg7 arg14 harg14 x0 x1 x2 x4 x5 xo12)) (M' := (kernelRun0_B.sl.v774 c arg2 harg2 arg3 harg3 arg4 harg4 arg6 harg6 arg7 harg7 arg14 harg14 x0 x1 x2 x4 x5 xo12)) m0 rfl rfl
  have m2 := mIter_next (L' := (kernelRun0_B.sl.H12_2 c arg2 harg2 arg3 harg3 arg4 harg4 arg6 harg6 arg7 harg7 arg14 harg14 x0 x1 x2 x4 x5 xo12)) (M' := (kernelRun0_B.sl.v1359 c arg2 harg2 arg3 harg3 arg4 harg4 arg6 harg6 arg7 harg7 arg14 harg14 x0 x1 x2 x4 x5 xo12)) m1 rfl rfl
  have m3 := mIter_next (L' := (kernelRun0_B.sl.H12_3 c arg2 harg2 arg3 harg3 arg4 harg4 arg6 harg6 arg7 harg7 arg14 harg14 x0 x1 x2 x4 x5 xo12)) (M' := (kernelRun0_B.sl.v1944 c arg2 harg2 arg3 harg3 arg4 harg4 arg6 harg6 arg7 harg7 arg14 harg14 x0 x1 x2 x4 x5 xo12)) m2 rfl rfl
  have m4 := mIter_next (L' := (kernelRun0_B.sl.H12_4 c arg2 harg2 arg3 harg3 arg4 harg4 arg6 harg6 arg7 harg7 arg14 harg14 x0 x1 x2 x4 x5 xo12)) (M' := (kernelRun0_B.sl.v2529 c arg2 harg2 arg3 harg3 arg4 harg4 arg6 harg6 arg7 harg7 arg14 harg14 x0 x1 x2 x4 x5 xo12)) m3 rfl rfl
  have m5 := mIter_next (L' := (kernelRun0_B.sl.H12_5 c arg2 harg2 arg3 harg3 arg4 harg4 arg6 harg6 arg7 harg7 arg14 harg14 x0 x1 x2 x4 x5 xo12)) (M' := (kernelRun0_B.sl.v3114 c arg2 harg2 arg3 harg3 arg4 harg4 arg6 harg6 arg7 harg7 arg14 harg14 x0 x1 x2 x4 x5 xo12)) m4 rfl rfl
  have m6 := mIter_next (L' := (kernelRun0_B.sl.H12_6 c arg2 harg2 arg3 harg3 arg4 harg4 arg6 harg6 arg7 harg7 arg14 harg14 x0 x1 x2 x4 x5 xo12)) (M' := (kernelRun0_B.sl.v3699 c arg2 harg2 arg3 harg3 arg4 harg4 arg6 harg6 arg7 harg7 arg14 harg14 x0 x1 x2 x4 x5 xo12)) m5 rfl rfl
  have m7 := mIter_next (L' := (kernelRun0_B.sl.H12_7 c arg2 harg2 arg3 harg3 arg4 harg4 arg6 harg6 arg7 harg7 arg14 harg14 x0 x1 x2 x4 x5 xo12)) (M' := (kernelRun0_B.sl.v4284 c arg2 harg2 arg3 harg3 arg4 harg4 arg6 harg6 arg7 harg7 arg14 harg14 x0 x1 x2 x4 x5 xo12)) m6 rfl rfl
  have s0 : (kernelRun0_B.sl.H11_8 c arg2 harg2 arg3 harg3 arg4 harg4 arg5 harg5 arg6 harg6 arg7 harg7 arg13 harg13 arg14 harg14 x0 x1 x2 x3 x4 x5 xo11 xo12) = sIter (kernelRun0_B.sl.r_6 c arg2 harg2 arg3 harg3 arg4 harg4 arg6 harg6 x0 x1 x2 x4) (kernelRun0_B.sl.r_18 c arg2 harg2 arg3 harg3 arg4 harg4 arg5 harg5 x0 x1 x2 x3) (kernelRun0_B.sl.r_13 c arg2 harg2 arg3 harg3 arg4 harg4 arg6 harg6 arg7 harg7 x0 x1 x2 x4 x5) (kernelRun0_B.sl.r_14 c arg2 harg2 arg3 harg3 arg4 harg4 arg6 harg6 arg7 harg7 x0 x1 x2 x4 x5) (kernelRun0_B.sl.r_17 c arg2 harg2 arg3 harg3 arg4 harg4 arg6 harg6 arg7 harg7 x0 x1 x2 x4 x5) (View.readAt (Elt F) (Memref.view arg14) rM.toLoadRect (harg14.unread xo12)) [] (fun L => View.readCov (Memref.view arg14) L) (fun _ r => View.readAt (Elt F) (Memref.view arg13) r (harg13.unread xo11)) (fun L => View.readCov (Memref.view arg13) L) [] 0 := rfl
  have s1 := sIter_next (L' := (kernelRun0_B.sl.H11_16 c arg2 harg2 arg3 harg3 arg4 harg4 arg5 harg5 arg6 harg6 arg7 harg7 arg13 harg13 arg14 harg14 x0 x1 x2 x3 x4 x5 xo11 xo12)) m1 s0 rfl
  have s2 := sIter_next (L' := (kernelRun0_B.sl.H11_24 c arg2 harg2 arg3 harg3 arg4 harg4 arg5 harg5 arg6 harg6 arg7 harg7 arg13 harg13 arg14 harg14 x0 x1 x2 x3 x4 x5 xo11 xo12)) m2 s1 rfl
  have s3 := sIter_next (L' := (kernelRun0_B.sl.H11_32 c arg2 harg2 arg3 harg3 arg4 harg4 arg5 harg5 arg6 harg6 arg7 harg7 arg13 harg13 arg14 harg14 x0 x1 x2 x3 x4 x5 xo11 xo12)) m3 s2 rfl
  have s4 := sIter_next (L' := (kernelRun0_B.sl.H11_40 c arg2 harg2 arg3 harg3 arg4 harg4 arg5 harg5 arg6 harg6 arg7 harg7 arg13 harg13 arg14 harg14 x0 x1 x2 x3 x4 x5 xo11 xo12)) m4 s3 rfl
  have s5 := sIter_next (L' := (kernelRun0_B.sl.H11_48 c arg2 harg2 arg3 harg3 arg4 harg4 arg5 harg5 arg6 harg6 arg7 harg7 arg13 harg13 arg14 harg14 x0 x1 x2 x3 x4 x5 xo11 xo12)) m5 s4 rfl
  have s6 := sIter_next (L' := (kernelRun0_B.sl.H11_56 c arg2 harg2 arg3 harg3 arg4 harg4 arg5 harg5 arg6 harg6 arg7 harg7 arg13 harg13 arg14 harg14 x0 x1 x2 x3 x4 x5 xo11 xo12)) m6 s5 rfl
  exact sIter_next m7 s6 rfl

end Cert.PromptValue
end
-- ==== Proof.PromptValue.Scan.lean ====
module

public import proofs.«01_k».proof.Proof.MlpValue.Spec

@[expose] public section
noncomputable section

/-! The gates of the prompt's recurrence on the extended reals: doubling scans inside a chunk of 128 lanes, and the
stabiliser of the recurrence carried from chunk to chunk. -/
namespace Cert.Gate
open Finset

/-- The sum of the last `k` entries up to `l`, none before the chunk of 128 that `l` lies in. -/
def winSum (f : ℕ → EReal) (k l : ℕ) : EReal := ∑ i ∈ range (min k (l % 128 + 1)), f (l - i)
/-- The largest of the same entries. -/
def winMax (f : ℕ → EReal) (k l : ℕ) : EReal := (range (min k (l % 128 + 1))).sup fun i => f (l - i)

theorem sup_range_add (f : ℕ → EReal) (n k : ℕ) :
    (range (n + k)).sup f = (range n).sup f ⊔ (range k).sup fun i => f (n + i) := by
  refine le_antisymm (Finset.sup_le fun i hi => ?_) (sup_le (Finset.sup_le fun i hi => ?_) (Finset.sup_le fun i hi => ?_))
  · rw [mem_range] at hi
    by_cases h : i < n
    · exact le_sup_of_le_left (Finset.le_sup (f := f) (mem_range.2 h))
    · refine le_sup_of_le_right ?_
      have := Finset.le_sup (f := fun i => f (n + i)) (mem_range.2 (show i - n < k by omega))
      rwa [show n + (i - n) = i by omega] at this
  · rw [mem_range] at hi; exact Finset.le_sup (f := f) (mem_range.2 (by omega))
  · rw [mem_range] at hi; exact Finset.le_sup (f := f) (mem_range.2 (show n + i < n + k by omega))

theorem winSum_one (f : ℕ → EReal) (l : ℕ) : winSum f 1 l = f l := by
  rw [winSum, show min 1 (l % 128 + 1) = 1 by omega]; simp

theorem winMax_one (f : ℕ → EReal) (l : ℕ) : winMax f 1 l = f l := by
  rw [winMax, show min 1 (l % 128 + 1) = 1 by omega]; simp

/-- One doubling step of a scan, for sums. -/
theorem winSum_two (f : ℕ → EReal) (k l : ℕ) :
    winSum f k l + (if k ≤ l % 128 then winSum f k (l - k) else 0) = winSum f (2 * k) l := by
  unfold winSum
  split
  · rename_i h
    rw [show min (2 * k) (l % 128 + 1) = min k (l % 128 + 1) + min k ((l - k) % 128 + 1) by omega, sum_range_add]
    refine congrArg₂ (· + ·) rfl (sum_congr rfl fun i _ => ?_)
    rw [show min k (l % 128 + 1) = k by omega, Nat.sub_sub]
  · rw [add_zero, show min (2 * k) (l % 128 + 1) = min k (l % 128 + 1) by omega]

theorem winMax_two (f : ℕ → EReal) (k l : ℕ) :
    max (winMax f k l) (if k ≤ l % 128 then winMax f k (l - k) else ⊥) = winMax f (2 * k) l := by
  unfold winMax
  split
  · rename_i h
    rw [show min (2 * k) (l % 128 + 1) = min k (l % 128 + 1) + min k ((l - k) % 128 + 1) by omega, sup_range_add]
    refine congrArg₂ max rfl (sup_congr rfl fun i _ => ?_)
    rw [show min k (l % 128 + 1) = k by omega, Nat.sub_sub]
  · rw [max_bot_right, show min (2 * k) (l % 128 + 1) = min k (l % 128 + 1) by omega]

/-- The running sum of reals, the entry itself included. -/
def run (f : ℕ → ℝ) (t : ℕ) : ℝ := ∑ i ∈ range t, f i

theorem run_add (f : ℕ → ℝ) (n k : ℕ) : run f (n + k) = run f n + ∑ i ∈ range k, f (n + i) := sum_range_add f n k

theorem coe_sum {ι : Type} (s : Finset ι) (f : ι → ℝ) : ((∑ i ∈ s, f i : ℝ) : EReal) = ∑ i ∈ s, (f i : EReal) := by
  classical
  induction s using Finset.induction with
  | empty => simp
  | insert a s h ih => rw [sum_insert h, sum_insert h, EReal.coe_add, ih]

/-- A scan's last step: the running sum since the chunk began. -/
theorem winSum_run (f : ℕ → ℝ) (c r : ℕ) (hr : r < 128) :
    winSum (fun i => (f i : EReal)) 128 (128 * c + r) = ((run f (128 * c + r + 1) - run f (128 * c) : ℝ) : EReal) := by
  rw [winSum, show min 128 ((128 * c + r) % 128 + 1) = r + 1 by omega, add_assoc, run_add, add_sub_cancel_left,
    ← coe_sum, ← sum_range_reflect (fun i => f (128 * c + i)) (r + 1)]
  refine congrArg _ (sum_congr rfl fun i hi => ?_)
  rw [mem_range] at hi
  exact congrArg f (by omega)

theorem winMax_last (f : ℕ → EReal) (c : ℕ) :
    winMax f 128 (128 * c + 127) = (range 128).sup fun i => f (128 * c + i) := by
  rw [winMax, show min 128 ((128 * c + 127) % 128 + 1) = 128 by omega]
  refine le_antisymm (Finset.sup_le fun i hi => ?_) (Finset.sup_le fun i hi => ?_) <;> rw [mem_range] at hi
  · have := Finset.le_sup (f := fun i => f (128 * c + i)) (mem_range.2 (show 127 - i < 128 by omega))
    rwa [show 128 * c + (127 - i) = 128 * c + 127 - i by omega] at this
  · have := Finset.le_sup (f := fun i => f (128 * c + 127 - i)) (mem_range.2 (show 127 - i < 128 by omega))
    rwa [show 128 * c + 127 - (127 - i) = 128 * c + i by omega] at this

/-- The stabiliser after `t` entries: the larger of the whole decay and the largest entry, each decayed since. -/
def stab (f : ℕ → ℝ) (g : ℕ → EReal) (t : ℕ) : EReal :=
  max (run f t : EReal) ((range t).sup fun s => ((run f t - run f (s + 1) : ℝ) : EReal) + g s)

theorem coe_add_sup (x : ℝ) (n : ℕ) (f : ℕ → EReal) : (x : EReal) + (range n).sup f = (range n).sup fun i => (x : EReal) + f i :=
  comp_sup_eq_sup_comp (fun y => (x : EReal) + y) (fun a b => (max_add_add_left (x : EReal) a b).symm) (EReal.add_bot _)

theorem stab_zero (f : ℕ → ℝ) (g : ℕ → EReal) : stab f g 0 = 0 := by simp [stab, run]

/-- The recurrence from a chunk to the next, as the scans write it. -/
theorem stab_next (f : ℕ → ℝ) (g : ℕ → EReal) (c : ℕ) :
    winSum (fun i => (f i : EReal)) 128 (128 * c + 127)
      + max (stab f g (128 * c)) (winMax (fun i => g i - winSum (fun i => (f i : EReal)) 128 i) 128 (128 * c + 127))
      = stab f g (128 * (c + 1)) := by
  rw [winMax_last, winSum_run f c 127 (by omega)]
  have e : ∀ i ∈ range 128, g (128 * c + i) - winSum (fun i => (f i : EReal)) 128 (128 * c + i)
      = ((run f (128 * c) - run f (128 * c + i + 1) : ℝ) : EReal) + g (128 * c + i) := fun i hi => by
    rw [winSum_run f c i (mem_range.1 hi), sub_eq_add_neg, ← EReal.coe_neg, neg_sub, add_comm]
  rw [sup_congr rfl e, stab, ← max_add_add_left, ← max_add_add_left, coe_add_sup, coe_add_sup, stab,
    show 128 * (c + 1) = 128 * c + 128 by omega, sup_range_add, ← max_assoc]
  have h : ∀ x : ℝ, ∀ y : EReal, ((run f (128 * c + 127 + 1) - run f (128 * c) : ℝ) : EReal) + ((run f (128 * c) - x : ℝ) + y)
      = ((run f (128 * c + 128) - x : ℝ) : EReal) + y := fun x y => by
    rw [← add_assoc, ← EReal.coe_add]; congr 2; ring
  refine congrArg₂ max (congrArg₂ max ?_ (sup_congr rfl fun s _ => h _ _)) (sup_congr rfl fun s _ => h _ _)
  rw [← EReal.coe_add]; congr 1; ring

end Cert.Gate
end
-- ==== Proof.PromptValue.Gates.lean ====
module

public import proofs.«01_k».proof.Proof.PromptValue.Scan
public import proofs.«01_k».proof.Proof.Gen.PromptIdeal.Skeleton
public import Idealize.ShloMosaic.Lib.Pointwise

@[expose] public section
set_option maxRecDepth 16384
noncomputable section
namespace Cert.PromptValue
open Cert.PromptIdeal Cert.PromptIdeal.Gen Idealize.ShloMosaic Idealize.ShloMosaic.TcCoe Idealize.SL.Sem Cert.Gate

/-- The running sums of the forget gates, chunk by chunk, as the body makes them. -/
def decays (lf : FVec Ideal S8x1024 .f32) : FVec Ideal S8x1024 .f32 :=
  k0_pay23 (k0_pay19 128#32 k0_pay16 k0_pay17 k0_pay18) (k0_pay20 lf 128#32 k0_pay16 k0_pay17 k0_pay18)
    (k0_pay21 128#32 k0_pay16 k0_pay17 k0_pay18) (k0_pay22 lf 128#32 k0_pay16 k0_pay17 k0_pay18) (FloatOps.ofBits FTy.f32 0#32)

/-- The input gates over the running sums. -/
def ratios (ig lf : FVec Ideal S8x1024 .f32) : FVec Ideal S8x1024 .f32 :=
  k0_pay24 ig (k0_pay19 128#32 k0_pay16 k0_pay17 k0_pay18) (k0_pay20 lf 128#32 k0_pay16 k0_pay17 k0_pay18)
    (k0_pay21 128#32 k0_pay16 k0_pay17 k0_pay18) (k0_pay22 lf 128#32 k0_pay16 k0_pay17 k0_pay18) (FloatOps.ofBits FTy.f32 0#32)

/-- Their running maxima, chunk by chunk. -/
def maxes (ig lf : FVec Ideal S8x1024 .f32) : FVec Ideal S8x1024 .f32 :=
  k0_pay29 k0_pay25 (k0_pay26 ig (k0_pay19 128#32 k0_pay16 k0_pay17 k0_pay18) (k0_pay20 lf 128#32 k0_pay16 k0_pay17 k0_pay18)
    (k0_pay21 128#32 k0_pay16 k0_pay17 k0_pay18) (k0_pay22 lf 128#32 k0_pay16 k0_pay17 k0_pay18) (FloatOps.ofBits FTy.f32 0#32))
    k0_pay27 (k0_pay28 ig (k0_pay19 128#32 k0_pay16 k0_pay17 k0_pay18) (k0_pay20 lf 128#32 k0_pay16 k0_pay17 k0_pay18)
    (k0_pay21 128#32 k0_pay16 k0_pay17 k0_pay18) (k0_pay22 lf 128#32 k0_pay16 k0_pay17 k0_pay18) (FloatOps.ofBits FTy.f32 0#32))
    (FloatOps.ofBits FTy.f32 0xFF800000#32)

/-- One doubling step, `d` lanes back. -/
def stepSum (d : BitVec 32) (x : FVec Ideal S8x1024 .f32) : FVec Ideal S8x1024 .f32 :=
  addf x (select (cmpi .sge k0_pay25 (broadcast S8x1024 d)) (dynamicRotate 1 d none x rotates_S8x1024_d1) (broadcast S8x1024 (FloatOps.ofBits FTy.f32 0#32)))
def stepMax (d : BitVec 32) (x : FVec Ideal S8x1024 .f32) : FVec Ideal S8x1024 .f32 :=
  maximumf x (select (cmpi .sge k0_pay25 (broadcast S8x1024 d)) (dynamicRotate 1 d none x rotates_S8x1024_d1) (broadcast S8x1024 (FloatOps.ofBits FTy.f32 0xFF800000#32)))

theorem decays_eq (lf : FVec Ideal S8x1024 .f32) :
    decays lf = stepSum 64#32 (stepSum 32#32 (stepSum 16#32 (stepSum 8#32 (stepSum 4#32 (stepSum 2#32 (stepSum 1#32 lf)))))) := rfl

theorem ratios_eq (ig lf : FVec Ideal S8x1024 .f32) : ratios ig lf = subf ig (decays lf) := rfl

theorem maxes_eq (ig lf : FVec Ideal S8x1024 .f32) :
    maxes ig lf = stepMax 64#32 (stepMax 32#32 (stepMax 16#32 (stepMax 8#32 (stepMax 4#32 (stepMax 2#32 (stepMax 1#32 (ratios ig lf))))))) := rfl

theorem lane_at (r : Fin 8) (l : Fin 1024) : k0_pay25 (ix2 r l) = BitVec.ofNat 32 (l.val % 128) := by
  pointwise [k0_pay25]
  revert l
  decide +kernel

theorem lane_ge (k : Fin 65) (q : Fin 128) :
    IntOp.cmpi .sge (BitVec.ofNat 32 q.val) (BitVec.ofNat 32 k.val) = if k.val ≤ q.val then 1#1 else 0#1 := by
  revert k q
  decide +kernel

theorem stepSum_at (f : ℕ → EReal) (x : FVec Ideal S8x1024 .f32) (r : Fin 8) (k : ℕ) (hk : k ≤ 64)
    (hx : ∀ l : Fin 1024, (x (ix2 r l) : EReal) = winSum f k l.val) (l : Fin 1024) :
    (stepSum (BitVec.ofNat 32 k) x (ix2 r l) : EReal) = winSum f (2 * k) l.val := by
  pointwise [stepSum]
  rw [lane_at, lane_ge ⟨k, by omega⟩ ⟨l.val % 128, by omega⟩, hx, hx, ← winSum_two]
  refine congrArg₂ (· + ·) rfl ?_
  have := l.isLt
  by_cases h : k ≤ l.val % 128
  · simp only [h, if_true]
    refine congrArg (winSum f k) ?_
    simp only [BitVec.toNat_ofNat]
    omega
  · simp only [h, if_false]
    rfl

theorem stepMax_at (f : ℕ → EReal) (x : FVec Ideal S8x1024 .f32) (r : Fin 8) (k : ℕ) (hk : k ≤ 64)
    (hx : ∀ l : Fin 1024, (x (ix2 r l) : EReal) = winMax f k l.val) (l : Fin 1024) :
    (stepMax (BitVec.ofNat 32 k) x (ix2 r l) : EReal) = winMax f (2 * k) l.val := by
  pointwise [stepMax]
  rw [lane_at, lane_ge ⟨k, by omega⟩ ⟨l.val % 128, by omega⟩, hx, hx, ← winMax_two]
  refine congrArg₂ max rfl ?_
  have := l.isLt
  by_cases h : k ≤ l.val % 128
  · simp only [h, if_true]
    refine congrArg (winMax f k) ?_
    simp only [BitVec.toNat_ofNat]
    omega
  · simp only [h, if_false]
    rfl

/-- A row of lanes as a sequence. -/
def lanes (x : FVec Ideal S8x1024 .f32) (r : Fin 8) (i : ℕ) : EReal := x (ix2 r ⟨i % 1024, Nat.mod_lt _ (by omega)⟩)

theorem lanes_at (x : FVec Ideal S8x1024 .f32) (r : Fin 8) (l : Fin 1024) : (x (ix2 r l) : EReal) = lanes x r l.val :=
  congrArg (fun j => (x (ix2 r j) : EReal)) (Fin.ext (Nat.mod_eq_of_lt l.isLt).symm)

theorem decays_at (lf : FVec Ideal S8x1024 .f32) (r : Fin 8) (l : Fin 1024) :
    (decays lf (ix2 r l) : EReal) = winSum (lanes lf r) 128 l.val := by
  rw [decays_eq]
  refine stepSum_at _ _ r 64 (by omega) ?_ l
  refine stepSum_at _ _ r 32 (by omega) ?_
  refine stepSum_at _ _ r 16 (by omega) ?_
  refine stepSum_at _ _ r 8 (by omega) ?_
  refine stepSum_at _ _ r 4 (by omega) ?_
  refine stepSum_at _ _ r 2 (by omega) ?_
  refine stepSum_at _ _ r 1 (by omega) fun l => ?_
  rw [winSum_one, lanes_at lf]

theorem ratios_at (ig lf : FVec Ideal S8x1024 .f32) (r : Fin 8) (l : Fin 1024) :
    (ratios ig lf (ix2 r l) : EReal) = lanes ig r l.val - winSum (lanes lf r) 128 l.val := by
  rw [ratios_eq, ← decays_at, ← lanes_at]
  rfl

theorem maxes_at (ig lf : FVec Ideal S8x1024 .f32) (r : Fin 8) (l : Fin 1024) :
    (maxes ig lf (ix2 r l) : EReal) = winMax (fun i => lanes ig r i - winSum (lanes lf r) 128 i) 128 l.val := by
  rw [maxes_eq]
  refine stepMax_at _ _ r 64 (by omega) ?_ l
  refine stepMax_at _ _ r 32 (by omega) ?_
  refine stepMax_at _ _ r 16 (by omega) ?_
  refine stepMax_at _ _ r 8 (by omega) ?_
  refine stepMax_at _ _ r 4 (by omega) ?_
  refine stepMax_at _ _ r 2 (by omega) ?_
  refine stepMax_at _ _ r 1 (by omega) fun l => ?_
  rw [winMax_one, ratios_at]

/-! ### The stabiliser stored after each of a step's eight chunks -/

variable (B C : FVec Ideal S8x1024 .f32) (M : FVec Ideal S1x8x128 .f32) (r : Fin 8) (l : Fin 128)

theorem pay44_at : (k0_pay44 (F := Ideal) B C M (ix3 0 r l) : EReal) = B (ix2 r 127) + max (M (ix3 0 r 127)) (C (ix2 r 127)) := by
  pointwise [k0_pay44, k0_pay40, k0_pay39, k0_pay38]
theorem pay130_at : (k0_pay130 (F := Ideal) B C M (ix3 0 r l) : EReal) = B (ix2 r 255) + max (M (ix3 0 r 127)) (C (ix2 r 255)) := by
  pointwise [k0_pay130, k0_pay125, k0_pay124, k0_pay123]
theorem pay215_at : (k0_pay215 (F := Ideal) B C M (ix3 0 r l) : EReal) = B (ix2 r 383) + max (M (ix3 0 r 127)) (C (ix2 r 383)) := by
  pointwise [k0_pay215, k0_pay211, k0_pay210, k0_pay209]
theorem pay306_at : (k0_pay306 (F := Ideal) (k0_pay305 B C M) (ix3 0 r l) : EReal) = B (ix2 r 511) + max (M (ix3 0 r 127)) (C (ix2 r 511)) := by
  pointwise [k0_pay306, k0_pay305, k0_pay300, k0_pay299, k0_pay298]
theorem pay411_at : (k0_pay411 (F := Ideal) B C M (ix3 0 r l) : EReal) = B (ix2 r 639) + max (M (ix3 0 r 127)) (C (ix2 r 639)) := by
  pointwise [k0_pay411, k0_pay407, k0_pay406, k0_pay405]
theorem pay518_at : (k0_pay518 (F := Ideal) (k0_pay512 B C M) (ix3 0 r l) : EReal) = B (ix2 r 767) + max (M (ix3 0 r 127)) (C (ix2 r 767)) := by
  pointwise [k0_pay518, k0_pay512, k0_pay511, k0_pay510]
theorem pay619_at : (k0_pay619 (F := Ideal) B C M (ix3 0 r l) : EReal) = B (ix2 r 895) + max (M (ix3 0 r 127)) (C (ix2 r 895)) := by
  pointwise [k0_pay619, k0_pay615, k0_pay614, k0_pay613]
theorem pay709_at : (k0_pay709 (F := Ideal) (k0_pay704 B C M) (ix3 0 r l) : EReal) = B (ix2 r 1023) + max (M (ix3 0 r 127)) (C (ix2 r 1023)) := by
  pointwise [k0_pay709, k0_pay704, k0_pay703, k0_pay702]

end Cert.PromptValue
end
-- ==== Proof.PromptValue.Step.lean ====
module

public import proofs.«01_k».proof.Proof.PromptValue.Gates

@[expose] public section
set_option maxRecDepth 16384
noncomputable section

/-! The stabiliser after a step of the prompt's grid, from the stabiliser before it. -/
namespace Cert.PromptValue
open Cert.PromptIdeal Cert.PromptIdeal.Gen Idealize.ShloMosaic Idealize.ShloMosaic.TcCoe Idealize.SL.Sem Cert.Gate

theorem winSum_shift (f f' : ℕ → EReal) (o : ℕ) (ho : o % 128 = 0) (h : ∀ i < 1024, f' i = f (o + i)) (k l : ℕ) (hl : l < 1024) :
    winSum f' k l = winSum f k (o + l) := by
  unfold winSum
  rw [show (o + l) % 128 = l % 128 by omega]
  refine Finset.sum_congr rfl fun i hi => ?_
  rw [Finset.mem_range] at hi
  rw [h _ (by omega)]
  exact congrArg f (by omega)

theorem winMax_shift (f f' : ℕ → EReal) (o : ℕ) (ho : o % 128 = 0) (h : ∀ i < 1024, f' i = f (o + i)) (k l : ℕ) (hl : l < 1024) :
    winMax f' k l = winMax f k (o + l) := by
  unfold winMax
  rw [show (o + l) % 128 = l % 128 by omega]
  refine Finset.sup_congr rfl fun i hi => ?_
  rw [Finset.mem_range] at hi
  rw [h _ (by omega)]
  exact congrArg f (by omega)

variable (f : ℕ → ℝ) (g : ℕ → EReal) (IG LF : FVec Ideal S8x1024 .f32) (r : Fin 8) (h : ℕ)
  (hf : ∀ l : Fin 1024, (LF (ix2 r l) : EReal) = (f (1024 * h + l.val) : EReal))
  (hg : ∀ l : Fin 1024, (IG (ix2 r l) : EReal) = g (1024 * h + l.val))
include hf

theorem lanes_f (i : ℕ) (hi : i < 1024) : lanes LF r i = (fun i => (f i : EReal)) (1024 * h + i) :=
  (lanes_at LF r ⟨i, hi⟩).symm.trans (hf ⟨i, hi⟩)

theorem decay_f (l : Fin 1024) : (decays LF (ix2 r l) : EReal) = winSum (fun i => (f i : EReal)) 128 (1024 * h + l.val) := by
  rw [decays_at, winSum_shift (fun i => (f i : EReal)) _ (1024 * h) (by omega) (lanes_f f LF r h hf) _ _ l.isLt]

include hg

theorem ratio_f (i : ℕ) (hi : i < 1024) : lanes IG r i - winSum (lanes LF r) 128 i
    = (fun i => g i - winSum (fun i => (f i : EReal)) 128 i) (1024 * h + i) := by
  rw [winSum_shift (fun i => (f i : EReal)) _ (1024 * h) (by omega) (lanes_f f LF r h hf) _ _ hi]
  exact congrArg (· - _) ((lanes_at IG r ⟨i, hi⟩).symm.trans (hg ⟨i, hi⟩))

theorem max_f (l : Fin 1024) : (maxes IG LF (ix2 r l) : EReal)
    = winMax (fun i => g i - winSum (fun i => (f i : EReal)) 128 i) 128 (1024 * h + l.val) := by
  rw [maxes_at, winMax_shift (fun i => g i - winSum (fun i => (f i : EReal)) 128 i) _ (1024 * h) (by omega) (ratio_f f g IG LF r h hf hg) _ _ l.isLt]

/-- A chunk of the step. -/
theorem chunk (j : ℕ) (l : Fin 1024) (hl : l.val = 128 * j + 127) (x : EReal) (hx : x = stab f g (128 * (8 * h + j))) :
    (decays LF (ix2 r l) : EReal) + max x (maxes IG LF (ix2 r l)) = stab f g (128 * (8 * h + (j + 1))) := by
  rw [decay_f f LF r h hf, max_f f g IG LF r h hf hg, hx, hl, show 1024 * h + (128 * j + 127) = 128 * (8 * h + j) + 127 by omega]
  exact stab_next f g (8 * h + j)

/-- The eight chunks of the step. -/
theorem step_at (M : FVec Ideal S1x8x128 .f32) (hM : (M (ix3 0 r 127) : EReal) = stab f g (1024 * h)) (l : Fin 128) :
    (k0_pay709 (F := Ideal) (k0_pay704 (decays LF) (maxes IG LF) (k0_pay619 (decays LF) (maxes IG LF)
      (k0_pay518 (k0_pay512 (decays LF) (maxes IG LF) (k0_pay411 (decays LF) (maxes IG LF)
        (k0_pay306 (k0_pay305 (decays LF) (maxes IG LF) (k0_pay215 (decays LF) (maxes IG LF)
          (k0_pay130 (decays LF) (maxes IG LF) (k0_pay44 (decays LF) (maxes IG LF) M)))))))))) (ix3 0 r l) : EReal)
      = stab f g (1024 * (h + 1)) := by
  rw [pay709_at, pay619_at, pay518_at, pay411_at, pay306_at, pay215_at, pay130_at, pay44_at, show 1024 * (h + 1) = 128 * (8 * h + 8) by omega]
  refine chunk f g IG LF r h hf hg 7 _ rfl _ ?_
  refine chunk f g IG LF r h hf hg 6 _ rfl _ ?_
  refine chunk f g IG LF r h hf hg 5 _ rfl _ ?_
  refine chunk f g IG LF r h hf hg 4 _ rfl _ ?_
  refine chunk f g IG LF r h hf hg 3 _ rfl _ ?_
  refine chunk f g IG LF r h hf hg 2 _ rfl _ ?_
  refine chunk f g IG LF r h hf hg 1 _ rfl _ ?_
  refine chunk f g IG LF r h hf hg 0 _ rfl _ ?_
  exact hM.trans (congrArg (stab f g) (by omega))

end Cert.PromptValue
end
-- ==== Proof.PromptValue.Real.lean ====
module

public import proofs.«01_k».proof.Proof.MlpValue.Spec
public import proofs.«01_k».proof.Proof.PromptValue.Scan

@[expose] public section
noncomputable section

/-! Which entries of the prompt's recurrence are real numbers when the arguments are, and the logarithm of the
sigmoid there. -/
namespace Cert.Gate
open Idealize.ShloMosaic Cert.Layer

/-- The extended real is a real number. -/
def IsReal (x : EReal) : Prop := ∃ r : ℝ, x = (r : EReal)

namespace IsReal

theorem coe (r : ℝ) : IsReal (r : EReal) := ⟨r, rfl⟩

theorem add {x y : EReal} : IsReal x → IsReal y → IsReal (x + y) := by
  rintro ⟨a, rfl⟩ ⟨b, rfl⟩; exact ⟨a + b, (EReal.coe_add a b).symm⟩

theorem sub {x y : EReal} : IsReal x → IsReal y → IsReal (x - y) := by
  rintro ⟨a, rfl⟩ ⟨b, rfl⟩; exact ⟨a - b, (EReal.coe_sub a b).symm⟩

theorem mul {x y : EReal} : IsReal x → IsReal y → IsReal (x * y) := by
  rintro ⟨a, rfl⟩ ⟨b, rfl⟩; exact ⟨a * b, (EReal.coe_mul a b).symm⟩

theorem sum {ι : Type} (s : Finset ι) {f : ι → EReal} (h : ∀ i, IsReal (f i)) : IsReal (∑ i ∈ s, f i) := by
  choose g hg using h
  exact ⟨∑ i ∈ s, g i, by rw [coe_sum]; exact Finset.sum_congr rfl fun i _ => hg i⟩

theorem one_bits : IsReal (Ideal.ofBits .f32 0x3F800000#32) := ⟨1, by simp [Ideal.ofBits, Ideal.ieee, -EReal.coe_mul]; norm_num⟩

/-- An entry below infinity in absolute value is real. -/
theorem of_abs_lt {x : EReal} (h : max x (-x) < ⊤) : IsReal x := by
  induction x with
  | bot => simp at h
  | coe r => exact ⟨r, rfl⟩
  | top => simp at h

end IsReal

theorem bits_1024 : Ideal.ofBits .f32 0x44800000#32 = ((1024 : ℝ) : EReal) := by
  simp [Ideal.ofBits, Ideal.ieee, -EReal.coe_mul]; norm_num

theorem bits_eps : ∃ e : ℝ, 0 < e ∧ Ideal.ofBits .f32 0x358637BD#32 = (e : EReal) := by
  refine ⟨8796093 * 2 ^ (-43 : ℤ), by positivity, ?_⟩
  simp [Ideal.ofBits, Ideal.ieee, -EReal.coe_mul]

theorem rrms_real {x : Row} (h : ∀ k, IsReal (x k)) : IsReal (rrms x) := by
  choose g hg using h
  obtain ⟨e, he, hb⟩ := bits_eps
  have hs : (∑ j, x j * x j : EReal) = ((∑ j, g j * g j : ℝ) : EReal) := by
    rw [coe_sum]; exact Finset.sum_congr rfl fun j _ => by rw [hg, EReal.coe_mul]
  have h0 : (0 : ℝ) ≤ ∑ j, g j * g j := Finset.sum_nonneg fun j _ => mul_self_nonneg _
  have h1 : 0 < (∑ j, g j * g j) * (1024 : ℝ)⁻¹ + e := by positivity
  refine ⟨(Real.sqrt ((∑ j, g j * g j) * (1024 : ℝ)⁻¹ + e))⁻¹, ?_⟩
  rw [rrms, hs, bits_1024, hb, Ideal.div, if_neg (by norm_num [EReal.coe_eq_zero]), ← EReal.coe_inv, ← EReal.coe_mul,
    ← EReal.coe_add]
  show (if _ then _ else if _ then _ else _) = _
  rw [if_neg (not_lt.mpr h1.le), if_neg h1.ne']

theorem modRow_real {x g sh sc : Row} (hx : ∀ k, IsReal (x k)) (hg : ∀ k, IsReal (g k)) (hs : ∀ k, IsReal (sh k))
    (hc : ∀ k, IsReal (sc k)) (k : Fin 1024) : IsReal (modRow x g sh sc k) :=
  ((((hx k).mul (rrms_real hx)).mul (hg k)).mul (IsReal.one_bits.add (hc k))).add (hs k)

theorem proj_real {h w : Row} (hh : ∀ k, IsReal (h k)) (hw : ∀ k, IsReal (w k)) : IsReal (proj h w) :=
  IsReal.sum _ fun k => (hh k).mul (hw k)

/-- The logarithm of the sigmoid of a real number. -/
def logSig (z : ℝ) : ℝ := min z 0 - Real.log (1 + Real.exp (-|z|))

theorem log1p_exp (y : ℝ) : Ideal.log1p (Ideal.exp (y : EReal)) = ((Real.log (1 + Real.exp y) : ℝ) : EReal) := by
  have h : 0 < 1 + Real.exp y := by positivity
  show Ideal.log (1 + ((Real.exp y : ℝ) : EReal)) = _
  rw [← EReal.coe_one, ← EReal.coe_add]
  show (if _ then _ else _) = _
  rw [if_neg (not_le.mpr h)]

theorem coe_max (a b : ℝ) : ((max a b : ℝ) : EReal) = max (a : EReal) b := EReal.coe_strictMono.monotone.map_max
theorem coe_min (a b : ℝ) : ((min a b : ℝ) : EReal) = min (a : EReal) b := EReal.coe_strictMono.monotone.map_min

/-- The kernel's form. -/
theorem logSig_min (z : ℝ) :
    min (z : EReal) 0 - Ideal.log1p (Ideal.exp (0 - max (z : EReal) (-(z : EReal)))) = (logSig z : EReal) := by
  rw [zero_sub, ← EReal.coe_neg, ← coe_max, ← EReal.coe_neg, log1p_exp, ← EReal.coe_zero, ← coe_min, ← EReal.coe_sub]
  rfl

/-- The reference's form. -/
theorem logSig_neg (z : ℝ) :
    -(max (-(z : EReal)) 0 + Ideal.log1p (Ideal.exp (-max (-(z : EReal)) (- -(z : EReal))))) = (logSig z : EReal) := by
  rw [← EReal.coe_neg z, ← EReal.coe_neg (-z), ← coe_max, ← EReal.coe_neg, log1p_exp, ← EReal.coe_zero, ← coe_max, ← EReal.coe_add, ← EReal.coe_neg,
    neg_add, ← min_neg_neg, neg_neg, neg_zero, ← sub_eq_add_neg, logSig, abs, max_comm (-z)]
-- ==== Proof.PromptValue.State.lean ====
module

public import proofs.«01_k».proof.Proof.PromptValue.Units
public import proofs.«01_k».proof.Proof.PromptValue.Step
public import proofs.«01_k».proof.Proof.PromptValue.Real
public import Idealize.ShloMosaic.Lib.Pointwise

@[expose] public section
set_option maxRecDepth 16384
noncomputable section

/-! The chunks' writes read at a point. -/
namespace Cert.PromptValue
open Cert.PromptIdeal Cert.PromptIdeal.Gen Idealize.ShloMosaic Idealize.ShloMosaic.TcCoe Idealize.SL.Sem Cert.Gate

section
variable (PC : FVec Ideal S528x1024 .f32) (PR : FVec Ideal S1024x2560 .f32) (B R C : FVec Ideal S8x1024 .f32) (M : Vec Ideal S1x8x128 .f32)

theorem mxC_at (j : ℕ) (hj : j < 8) (r : Fin 8) (l : Fin 128) :
    (mxC (F := Ideal) C M hj (ix2 r l) : EReal) = max (M (ix3 0 r l)) (C (ix2 r ⟨128 * j + l.val, by omega⟩)) := by
  pointwise [mxC]

theorem aC_at (j : ℕ) (hj : j < 8) (r : Fin 8) (l : Fin 128) :
    (aC (F := Ideal) R C M hj (ix2 r l) : EReal) = Ideal.exp (R (ix2 r ⟨128 * j + l.val, by omega⟩) - max (M (ix3 0 r 127)) (C (ix2 r ⟨128 * j + 127, by omega⟩))) := by
  pointwise [aC, last, mxC]

theorem dC_at (j : ℕ) (hj : j < 8) (r : Fin 8) (l : Fin 128) :
    (dC (F := Ideal) C M hj (ix2 r l) : EReal) = Ideal.exp (M (ix3 0 r l) - max (M (ix3 0 r 127)) (C (ix2 r ⟨128 * j + 127, by omega⟩))) := by
  pointwise [dC, last, mxC]

theorem mNew_at (j : ℕ) (hj : j < 8) (r : Fin 8) (l : Fin 128) :
    (mNew (F := Ideal) B C M hj (ix3 0 r l) : EReal) = B (ix2 r ⟨128 * j + 127, by omega⟩) + max (M (ix3 0 r 127)) (C (ix2 r ⟨128 * j + 127, by omega⟩)) := by
  pointwise [mNew, last, mxC]

/-- The values beside ones: what a head's state sums. -/
def vOne (PR : FVec Ideal S1024x2560 .f32) (h : Fin 8) (l : Fin 1024) (e : Fin 256) : EReal :=
  if he : e.val < 128 then PR (ix2 l ⟨512 + 128 * h.val + e.val, by omega⟩) else 1

theorem one_bf16 : Ideal.ofBits .bf16 0x3F80#16 = (1 : EReal) := by
  simp [Ideal.ofBits, Ideal.ieee, -EReal.coe_mul]; norm_num

theorem unit_at (a d : FVec Ideal S8x128 .f32) (j : ℕ) (hj : j < 8) (h : Fin 8) (st : Vec Ideal S1x1x64x256 .f32) (y : Fin 64) (e : Fin 256) :
    (unit (F := Ideal) PC PR a d hj h.isLt st (ix4 0 0 y e) : EReal)
      = d (ix2 h ⟨e.val % 128, by omega⟩) * st (ix4 0 0 y e)
        + ∑ s : Fin 128, PC (ix2 ⟨64 * h.val + y.val, by omega⟩ ⟨128 * j + s.val, by omega⟩) * a (ix2 h s) * vOne PR h ⟨128 * j + s.val, by omega⟩ e := by
  pointwise [unit, k0_pay35]
  refine congrArg₂ (· + ·) (congrArg₂ (· * ·) ?_ rfl) rfl
  have := e.isLt
  split
  · exact congrArg (fun l => (d (ix2 h l) : EReal)) (Fin.ext (by dsimp only; omega))
  · exact congrArg (fun l => (d (ix2 h l) : EReal)) (Fin.ext (by dsimp only; omega))

/-- A head's entry after a chunk, from the entry before. -/
def unitV (a d : FVec Ideal S8x128 .f32) (j : ℕ) (hj : j < 8) (h : Fin 8) (y : Fin 64) (e : Fin 256) (x : EReal) : EReal :=
  d (ix2 h ⟨e.val % 128, by omega⟩) * x
    + ∑ s : Fin 128, PC (ix2 ⟨64 * h.val + y.val, by omega⟩ ⟨128 * j + s.val, by omega⟩) * a (ix2 h s) * vOne PR h ⟨128 * j + s.val, by omega⟩ e

theorem rS_idx {k : ℕ} (hk : k < 8) (y : Fin 64) (e : Fin 256) : (rS hk).idx (ix4 0 0 y e) = ix4 0 ⟨k, hk⟩ y e := by
  funext a
  fin_cases a <;> refine Fin.ext ?_ <;> simp [LoadRect.idx, Rect.unit]

theorem rS_mem {k : ℕ} (hk : k < 8) (h : Fin 8) (hne : h.val ≠ k) (y : Fin 64) (e : Fin 256) : ix4 0 h y e ∉ (rS hk).set := by
  rw [Rect.mem_set_unit]
  intro hm
  obtain ⟨h1, h2⟩ := hm 1
  change k ≤ h.val at h1
  change h.val < k + 1 at h2
  omega

variable (a d : FVec Ideal S8x128 .f32) (j : ℕ) (hj : j < 8)
  (ld : List (PieceS Ideal) → (r : LoadRect S1x8x64x256) → r.shape.Idx → Elt Ideal .f32) (L : List (PieceS Ideal))
  (W : List (PieceS Ideal) → S1x8x64x256.Idx → Elt Ideal .f32) (hld : ∀ L r x, ld L r x = W L (r.idx x))

include hld in
theorem sPut_at (k : ℕ) (hk : k < 8) (h : Fin 8) (y : Fin 64) (e : Fin 256) :
    (View.canon (sPut (F := Ideal) PC PR a d hj hk ld L) (ix4 0 h y e) : EReal)
      = if h.val = k then unitV PC PR a d j hj h y e (W L (ix4 0 h y e)) else View.canon L (ix4 0 h y e) := by
  split
  · rename_i hh
    subst hh
    have e1 := View.canon_cons_emb (Val := Elt Ideal) (rS h.isLt) (unit PC PR a d hj h.isLt (ld L (rS h.isLt).toLoadRect)) L (ix4 0 0 y e)
    refine Eq.trans ?_ ((e1.trans (unit_at PC PR a d j hj h _ y e)).trans ?_)
    · exact congrArg _ (rS_idx h.isLt y e).symm
    · rw [hld, rS_idx]
      rfl
  · rename_i hh
    exact View.canon_cons_of_not_mem _ _ (rS_mem hk h hh y e)

/-- A chunk's writes, where the state is read back through them. -/
theorem chunkS_at (hc : ∀ L r x, ld L r x = View.canon L (r.idx x)) (h : Fin 8) (y : Fin 64) (e : Fin 256) :
    (View.canon (chunkS (F := Ideal) PC PR R C M hj ld L) (ix4 0 h y e) : EReal)
      = unitV PC PR (aC R C M hj) (dC C M hj) j hj h y e (View.canon L (ix4 0 h y e)) := by
  fin_cases h <;> simp only [chunkS, sPut_at _ _ _ _ _ _ _ _ _ hc, reduceIte, Nat.reduceEqDiff]

/-- A chunk's writes, where the state is read as it was before them. -/
theorem chunkS_at0 (X : S1x8x64x256.Idx → Elt Ideal .f32) (hc : ∀ L r x, ld L r x = X (r.idx x)) (h : Fin 8) (y : Fin 64) (e : Fin 256) :
    (View.canon (chunkS (F := Ideal) PC PR R C M hj ld L) (ix4 0 h y e) : EReal)
      = unitV PC PR (aC R C M hj) (dC C M hj) j hj h y e (X (ix4 0 h y e)) := by
  fin_cases h <;> simp only [chunkS, sPut_at _ _ _ _ _ _ _ _ (fun _ => X) hc, reduceIte, Nat.reduceEqDiff]

end

/-! ### The state as a sum over the sequence -/

section
variable (f u K V : ℕ → ℝ)

/-- The state's entry after `t` tokens: each weighed by what the gates leave of it, over the stabiliser. -/
def wsum (S : ℝ) (t : ℕ) : ℝ := ∑ s ∈ Finset.range t, K s * Real.exp (run f t - run f (s + 1) + u s - S) * V s

theorem wsum_zero (S : ℝ) : wsum f u K V S 0 = 0 := by simp [wsum]

theorem wsum_next (S S' : ℝ) (t k : ℕ) :
    Real.exp (S - (S' - (run f (t + k) - run f t))) * wsum f u K V S t
      + ∑ s ∈ Finset.range k, K (t + s) * Real.exp (u (t + s) - (run f (t + s + 1) - run f t) - (S' - (run f (t + k) - run f t))) * V (t + s)
      = wsum f u K V S' (t + k) := by
  rw [wsum, wsum, Finset.sum_range_add, Finset.mul_sum]
  refine congrArg₂ (· + ·) (Finset.sum_congr rfl fun s _ => ?_) (Finset.sum_congr rfl fun s _ => ?_)
  · rw [show run f (t + k) - run f (s + 1) + u s - S' = (S - (S' - (run f (t + k) - run f t))) + (run f t - run f (s + 1) + u s - S) by ring, Real.exp_add]
    ring
  · exact congrArg (fun x => K (t + s) * Real.exp x * V (t + s)) (by ring)

theorem sup_real (x : ℝ) (v : ℕ → ℝ) (n : ℕ) : IsReal (max (x : EReal) ((Finset.range n).sup fun s => (v s : EReal))) := by
  induction n with
  | zero => exact ⟨x, by simp⟩
  | succ n ih =>
    obtain ⟨z, hz⟩ := ih
    refine ⟨max z (v n), ?_⟩
    rw [Finset.range_add_one, Finset.sup_insert, coe_max, ← hz, max_assoc, max_comm (v n : EReal)]

theorem stab_real (g : ℕ → EReal) (hu : ∀ s, g s = (u s : EReal)) (t : ℕ) : stab f g t = ((stab f g t).toReal : EReal) := by
  have : IsReal (stab f g t) := by
    rw [stab]
    simp only [hu, ← EReal.coe_add]
    exact sup_real _ _ _
  obtain ⟨z, hz⟩ := this
  rw [hz, EReal.toReal_coe]

theorem exp_coe (x : ℝ) : Ideal.exp (x : EReal) = ((Real.exp x : ℝ) : EReal) := rfl

variable (g : ℕ → EReal) (hu : ∀ s, g s = (u s : EReal)) (IG LF : FVec Ideal S8x1024 .f32) (r : Fin 8) (h : ℕ)
  (hf : ∀ l : Fin 1024, (LF (ix2 r l) : EReal) = (f (1024 * h + l.val) : EReal))
  (hg : ∀ l : Fin 1024, (IG (ix2 r l) : EReal) = g (1024 * h + l.val))
include hu hf hg

/-- The stabiliser of a chunk, less its decay. -/
theorem mx_f (j : ℕ) (l : Fin 1024) (hl : l.val = 128 * j + 127) (x : EReal) (hx : x = stab f g (128 * (8 * h + j))) :
    max x (maxes IG LF (ix2 r l)) = (((stab f g (128 * (8 * h + j) + 128)).toReal - (run f (128 * (8 * h + j) + 128) - run f (128 * (8 * h + j))) : ℝ) : EReal) := by
  have e := chunk f g IG LF r h hf hg j l hl x hx
  rw [decay_f f LF r h hf, hl, show 1024 * h + (128 * j + 127) = 128 * (8 * h + j) + 127 by omega, winSum_run f (8 * h + j) 127 (by omega),
    show 128 * (8 * h + (j + 1)) = 128 * (8 * h + j) + 128 by omega, stab_real f u g hu] at e
  generalize max x (maxes IG LF (ix2 r l)) = z at e ⊢
  induction z with
  | bot => simp at e
  | top => rw [EReal.coe_add_top] at e; exact absurd e.symm (EReal.coe_ne_top _)
  | coe z =>
    rw [← EReal.coe_add] at e
    exact congrArg _ (by have := EReal.coe_injective e; linarith)

theorem ratio_at (j : ℕ) (s : Fin 128) (l : Fin 1024) (hl : l.val = 128 * j + s.val) :
    (ratios IG LF (ix2 r l) : EReal) = ((u (128 * (8 * h + j) + s.val) - (run f (128 * (8 * h + j) + s.val + 1) - run f (128 * (8 * h + j))) : ℝ) : EReal) := by
  rw [ratios_at, ratio_f f g IG LF r h hf hg l.val l.isLt, hl]
  dsimp only
  rw [show 1024 * h + (128 * j + s.val) = 128 * (8 * h + j) + s.val by omega, winSum_run f (8 * h + j) s.val s.isLt, hu, ← EReal.coe_sub]

/-- A head's entry from a chunk to the next. -/
theorem unit_next (PC : FVec Ideal S528x1024 .f32) (PR : FVec Ideal S1024x2560 .f32) (M : Vec Ideal S1x8x128 .f32) (j : ℕ) (hj : j < 8) (y : Fin 64) (e : Fin 256)
    (hK : ∀ l : Fin 1024, (PC (ix2 ⟨64 * r.val + y.val, by omega⟩ l) : EReal) = (K (1024 * h + l.val) : EReal))
    (hV : ∀ l : Fin 1024, vOne PR r l e = (V (1024 * h + l.val) : EReal))
    (hM : ∀ l : Fin 128, (M (ix3 0 r l) : EReal) = stab f g (128 * (8 * h + j))) (x : EReal)
    (hx : x = (wsum f u K V (stab f g (128 * (8 * h + j))).toReal (128 * (8 * h + j)) : EReal)) :
    unitV PC PR (aC (ratios IG LF) (maxes IG LF) M hj) (dC (maxes IG LF) M hj) j hj r y e x
      = (wsum f u K V (stab f g (128 * (8 * h + j) + 128)).toReal (128 * (8 * h + j) + 128) : EReal) := by
  rw [← wsum_next f u K V (stab f g (128 * (8 * h + j))).toReal, EReal.coe_add, EReal.coe_mul, coe_sum, unitV, hx, dC_at,
    mx_f f u g hu IG LF r h hf hg j _ rfl _ (hM 127), hM, stab_real f u g hu (128 * (8 * h + j)), ← EReal.coe_sub, exp_coe, EReal.toReal_coe]
  refine congrArg₂ (· + ·) rfl ?_
  rw [← Fin.sum_univ_eq_sum_range (fun s => ((K (128 * (8 * h + j) + s) * Real.exp (u (128 * (8 * h + j) + s) - (run f (128 * (8 * h + j) + s + 1) - run f (128 * (8 * h + j))) - ((stab f g (128 * (8 * h + j) + 128)).toReal - (run f (128 * (8 * h + j) + 128) - run f (128 * (8 * h + j))))) * V (128 * (8 * h + j) + s) : ℝ) : EReal)) 128]
  refine Finset.sum_congr rfl fun s _ => ?_
  rw [aC_at, mx_f f u g hu IG LF r h hf hg j _ rfl _ (hM 127), ratio_at f u g hu IG LF r h hf hg j s _ rfl, hK, hV, ← EReal.coe_sub, exp_coe,
    ← EReal.coe_mul, ← EReal.coe_mul]
  dsimp only
  rw [show 1024 * h + (128 * j + s.val) = 128 * (8 * h + j) + s.val by omega]

/-- The stabiliser between the chunks. -/
theorem mIter_at (M0 : Vec Ideal S1x8x128 .f32) (L0 : List (PieceM Ideal)) (ldM : List (PieceM Ideal) → (r : LoadRect S1x8x128) → r.shape.Idx → Elt Ideal .f32)
    (hld : ∀ L r x, ldM L r x = View.canon L (r.idx x)) (hM0 : ∀ l : Fin 128, (M0 (ix3 0 r l) : EReal) = stab f g (1024 * h)) (j : ℕ) (hj : j < 8) (l : Fin 128) :
    ((mIter (F := Ideal) (decays LF) (maxes IG LF) M0 L0 ldM j).2 (ix3 0 r l) : EReal) = stab f g (128 * (8 * h + j)) := by
  induction j generalizing l with
  | zero => exact (hM0 l).trans (congrArg (stab f g) (by omega))
  | succ j ih =>
    have key : ∀ k (hk : k < 8), k = j → (mNew (F := Ideal) (decays LF) (maxes IG LF) (mIter (decays LF) (maxes IG LF) M0 L0 ldM j).2 hk (ix3 0 r l) : EReal)
        = stab f g (128 * (8 * h + (j + 1))) := by
      rintro k hk rfl
      rw [mNew_at]
      exact chunk f g IG LF r h hf hg k _ rfl _ (ih (by omega) 127)
    refine Eq.trans ?_ (key (j % 8) (by omega) (by omega))
    rw [mIter]
    dsimp only
    rw [hld, mPut]
    exact View.canon_cons_emb (Val := Elt Ideal) rM _ _ (ix3 0 r l)

/-- A head's entry after each chunk. -/
theorem sIter_at (PC : FVec Ideal S528x1024 .f32) (PR : FVec Ideal S1024x2560 .f32) (M0 : Vec Ideal S1x8x128 .f32) (L0 : List (PieceM Ideal))
    (ldM : List (PieceM Ideal) → (r : LoadRect S1x8x128) → r.shape.Idx → Elt Ideal .f32)
    (ld0 ld : List (PieceS Ideal) → (r : LoadRect S1x8x64x256) → r.shape.Idx → Elt Ideal .f32) (L1 : List (PieceS Ideal)) (y : Fin 64) (e : Fin 256)
    (hldM : ∀ L r x, ldM L r x = View.canon L (r.idx x)) (hld : ∀ L r x, ld L r x = View.canon L (r.idx x))
    (hK : ∀ l : Fin 1024, (PC (ix2 ⟨64 * r.val + y.val, by omega⟩ l) : EReal) = (K (1024 * h + l.val) : EReal))
    (hV : ∀ l : Fin 1024, vOne PR r l e = (V (1024 * h + l.val) : EReal))
    (hM0 : ∀ l : Fin 128, (M0 (ix3 0 r l) : EReal) = stab f g (1024 * h)) (x : EReal)
    (hx : x = (wsum f u K V (stab f g (1024 * h)).toReal (1024 * h) : EReal))
    (h0 : (View.canon (chunkS (F := Ideal) PC PR (ratios IG LF) (maxes IG LF) M0 (j := 0) (by omega) ld0 L1) (ix4 0 r y e) : EReal)
      = unitV PC PR (aC (ratios IG LF) (maxes IG LF) M0 (j := 0) (by omega)) (dC (maxes IG LF) M0 (j := 0) (by omega)) 0 (by omega) r y e x) (j : ℕ) (hj : j < 8) :
    (View.canon (sIter (F := Ideal) PC PR (decays LF) (ratios IG LF) (maxes IG LF) M0 L0 ldM ld0 ld L1 j) (ix4 0 r y e) : EReal)
      = (wsum f u K V (stab f g (128 * (8 * h + j) + 128)).toReal (128 * (8 * h + j) + 128) : EReal) := by
  have hm := mIter_at f u g hu IG LF r h hf hg M0 L0 ldM hldM hM0
  induction j with
  | zero =>
    rw [sIter, h0]
    have e1 : 1024 * h = 128 * (8 * h + 0) := by omega
    exact unit_next f u K V g hu IG LF r h hf hg PC PR M0 0 (by omega) y e hK hV (fun l => hm 0 (by omega) l) x (by rw [hx, e1])
  | succ j ih =>
    have key : ∀ k (hk : k < 8), k = j + 1 → unitV PC PR (aC (ratios IG LF) (maxes IG LF) (mIter (decays LF) (maxes IG LF) M0 L0 ldM (j + 1)).2 hk)
        (dC (maxes IG LF) (mIter (decays LF) (maxes IG LF) M0 L0 ldM (j + 1)).2 hk) k hk r y e
        (View.canon (sIter (F := Ideal) PC PR (decays LF) (ratios IG LF) (maxes IG LF) M0 L0 ldM ld0 ld L1 j) (ix4 0 r y e))
        = (wsum f u K V (stab f g (128 * (8 * h + (j + 1)) + 128)).toReal (128 * (8 * h + (j + 1)) + 128) : EReal) := by
      rintro k hk rfl
      exact unit_next f u K V g hu IG LF r h hf hg PC PR _ (j + 1) hk y e hK hV (fun l => hm (j + 1) (by omega) l) _
        ((ih (by omega)).trans (by rw [show 128 * (8 * h + j) + 128 = 128 * (8 * h + (j + 1)) by omega]))
    rw [sIter, chunkS_at _ _ _ _ _ _ _ _ _ hld]
    exact key ((j + 1) % 8) (by omega) (by omega)

end

end Cert.PromptValue
end
-- ==== Proof.PromptValue.Ref.lean ====
module

public import proofs.«01_k».proof.Proof.MlpValue.Spec
public import proofs.«01_k».proof.Proof.PromptValue.Real
public import proofs.«01_k».proof.Proof.Gen.PromptRefIdeal.Read
public import Idealize.ShloMosaic.Lib.Pointwise
public import Idealize.ShloMosaic.Lib.WordCmp

@[expose] public section
set_option maxRecDepth 16384
noncomputable section
namespace Cert.PromptRefValue
open Cert.PromptRefIdeal Cert.PromptRefIdeal.Read Idealize.ShloMosaic Idealize.ShloMosaic.TcCoe Idealize.SL.Sem Cert.Layer Cert.Gate

/-- The modulated row `s` of prompt sequence `b`. -/
def hP (x0 : (⟨S8x2048x1024, .f32⟩ : BufTy).Contents (Elt Ideal)) (x1 : (⟨S8x6x1x1024, .f32⟩ : BufTy).Contents (Elt Ideal)) (x2 : (⟨S1024, .f32⟩ : BufTy).Contents (Elt Ideal)) (b : Fin 8) (s : Fin 2048) : Row :=
  modRow (fun k => x0 (ix3 b s k)) (fun k => x2 (ix1 k)) (fun k => x1 (ix4 b 0 0 k)) (fun k => x1 (ix4 b 1 0 k))

/-- The input gate's pre-activation of head `r` at row `s`. -/
def igP (x0 : (⟨S8x2048x1024, .f32⟩ : BufTy).Contents (Elt Ideal)) (x1 : (⟨S8x6x1x1024, .f32⟩ : BufTy).Contents (Elt Ideal)) (x2 : (⟨S1024, .f32⟩ : BufTy).Contents (Elt Ideal)) (x4 : (⟨S768x1024, .bf16⟩ : BufTy).Contents (Elt Ideal)) (x5 : (⟨S16, .f32⟩ : BufTy).Contents (Elt Ideal)) (b r : Fin 8) (s : Fin 2048) : EReal :=
  proj (hP x0 x1 x2 b s) (fun j => x4 (ix2 ⟨512 + r.val, by omega⟩ j)) + x5 (ix1 ⟨r.val, by omega⟩)

/-- The forget gate's pre-activation of head `r` at row `s`. -/
def fgP (x0 : (⟨S8x2048x1024, .f32⟩ : BufTy).Contents (Elt Ideal)) (x1 : (⟨S8x6x1x1024, .f32⟩ : BufTy).Contents (Elt Ideal)) (x2 : (⟨S1024, .f32⟩ : BufTy).Contents (Elt Ideal)) (x4 : (⟨S768x1024, .bf16⟩ : BufTy).Contents (Elt Ideal)) (x5 : (⟨S16, .f32⟩ : BufTy).Contents (Elt Ideal)) (b r : Fin 8) (s : Fin 2048) : EReal :=
  proj (hP x0 x1 x2 b s) (fun j => x4 (ix2 ⟨640 + r.val, by omega⟩ j)) + x5 (ix1 ⟨8 + r.val, by omega⟩)

theorem v27_at (x0 : (⟨S8x2048x1024, .f32⟩ : BufTy).Contents (Elt Ideal)) (x1 : (⟨S8x6x1x1024, .f32⟩ : BufTy).Contents (Elt Ideal)) (x2 : (⟨S1024, .f32⟩ : BufTy).Contents (Elt Ideal)) (b : Fin 8) (s : Fin 2048) (k : Fin 1024) :
    (val_main_v27 x0 x1 x2 (ix3 b s k) : EReal) = hP x0 x1 x2 b s k := by
  pointwise [val_main_v0, val_main_v3, val_main_v4, val_main_v5, val_main_v6, val_main_v7, val_main_cst, val_main_v8, val_main_v9, val_main_cst_0, val_main_v10, val_main_v11, val_main_cst_1, val_main_v12, val_main_v13, val_main_v14, val_main_v15, val_main_v16, val_main_v17, val_main_v18, val_main_v19, val_main_v20, val_main_cst_2, val_main_v21, val_main_v22, val_main_v23, val_main_v24, val_main_v25, val_main_v26, val_main_v27, hP, modRow, rrms]

theorem v48_at (x0 : (⟨S8x2048x1024, .f32⟩ : BufTy).Contents (Elt Ideal)) (x1 : (⟨S8x6x1x1024, .f32⟩ : BufTy).Contents (Elt Ideal)) (x2 : (⟨S1024, .f32⟩ : BufTy).Contents (Elt Ideal)) (x4 : (⟨S768x1024, .bf16⟩ : BufTy).Contents (Elt Ideal)) (x5 : (⟨S16, .f32⟩ : BufTy).Contents (Elt Ideal)) (b r : Fin 8) (s : Fin 2048) :
    (val_main_v48 x0 x1 x2 x4 x5 (ix3 b r s) : EReal) = igP x0 x1 x2 x4 x5 b r s := by
  pointwise [val_main_v2, val_main_v41, val_main_v42, val_main_v43, val_main_v44, val_main_v45, val_main_v46, val_main_v47, val_main_v48, igP, proj]
  simp only [v27_at]

theorem v55_at (x0 : (⟨S8x2048x1024, .f32⟩ : BufTy).Contents (Elt Ideal)) (x1 : (⟨S8x6x1x1024, .f32⟩ : BufTy).Contents (Elt Ideal)) (x2 : (⟨S1024, .f32⟩ : BufTy).Contents (Elt Ideal)) (x4 : (⟨S768x1024, .bf16⟩ : BufTy).Contents (Elt Ideal)) (x5 : (⟨S16, .f32⟩ : BufTy).Contents (Elt Ideal)) (b r : Fin 8) (s : Fin 2048) :
    (val_main_v55 x0 x1 x2 x4 x5 (ix3 b s r) : EReal) = fgP x0 x1 x2 x4 x5 b r s := by
  pointwise [val_main_v2, val_main_v49, val_main_v50, val_main_v51, val_main_v52, val_main_v53, val_main_v54, val_main_v55, fgP, proj]
  simp only [v27_at]

/-- The logarithm of the forget gate of head `r` at row `s`, where the pre-activation is real. -/
def lfP (x0 : (⟨S8x2048x1024, .f32⟩ : BufTy).Contents (Elt Ideal)) (x1 : (⟨S8x6x1x1024, .f32⟩ : BufTy).Contents (Elt Ideal)) (x2 : (⟨S1024, .f32⟩ : BufTy).Contents (Elt Ideal)) (x4 : (⟨S768x1024, .bf16⟩ : BufTy).Contents (Elt Ideal)) (x5 : (⟨S16, .f32⟩ : BufTy).Contents (Elt Ideal)) (b r : Fin 8) (s : ℕ) : ℝ :=
  logSig (fgP x0 x1 x2 x4 x5 b r ⟨s % 2048, Nat.mod_lt _ (by decide)⟩).toReal

/-- The input gate's pre-activation along the sequence. -/
def igS (x0 : (⟨S8x2048x1024, .f32⟩ : BufTy).Contents (Elt Ideal)) (x1 : (⟨S8x6x1x1024, .f32⟩ : BufTy).Contents (Elt Ideal)) (x2 : (⟨S1024, .f32⟩ : BufTy).Contents (Elt Ideal)) (x4 : (⟨S768x1024, .bf16⟩ : BufTy).Contents (Elt Ideal)) (x5 : (⟨S16, .f32⟩ : BufTy).Contents (Elt Ideal)) (b r : Fin 8) (s : ℕ) : EReal :=
  igP x0 x1 x2 x4 x5 b r ⟨s % 2048, Nat.mod_lt _ (by decide)⟩

theorem igS_fin (x0 : (⟨S8x2048x1024, .f32⟩ : BufTy).Contents (Elt Ideal)) (x1 : (⟨S8x6x1x1024, .f32⟩ : BufTy).Contents (Elt Ideal)) (x2 : (⟨S1024, .f32⟩ : BufTy).Contents (Elt Ideal)) (x4 : (⟨S768x1024, .bf16⟩ : BufTy).Contents (Elt Ideal)) (x5 : (⟨S16, .f32⟩ : BufTy).Contents (Elt Ideal)) (b r : Fin 8) (s : Fin 2048) :
    igS x0 x1 x2 x4 x5 b r s.val = igP x0 x1 x2 x4 x5 b r s :=
  congrArg (igP x0 x1 x2 x4 x5 b r) (Fin.ext (Nat.mod_eq_of_lt s.isLt))

theorem lfP_fin (x0 : (⟨S8x2048x1024, .f32⟩ : BufTy).Contents (Elt Ideal)) (x1 : (⟨S8x6x1x1024, .f32⟩ : BufTy).Contents (Elt Ideal)) (x2 : (⟨S1024, .f32⟩ : BufTy).Contents (Elt Ideal)) (x4 : (⟨S768x1024, .bf16⟩ : BufTy).Contents (Elt Ideal)) (x5 : (⟨S16, .f32⟩ : BufTy).Contents (Elt Ideal)) (b r : Fin 8) (s : Fin 2048) :
    lfP x0 x1 x2 x4 x5 b r s.val = logSig (fgP x0 x1 x2 x4 x5 b r s).toReal :=
  congrArg (fun t => logSig (fgP x0 x1 x2 x4 x5 b r t).toReal) (Fin.ext (Nat.mod_eq_of_lt s.isLt))

theorem v57_at (x0 : (⟨S8x2048x1024, .f32⟩ : BufTy).Contents (Elt Ideal)) (x1 : (⟨S8x6x1x1024, .f32⟩ : BufTy).Contents (Elt Ideal)) (x2 : (⟨S1024, .f32⟩ : BufTy).Contents (Elt Ideal)) (x4 : (⟨S768x1024, .bf16⟩ : BufTy).Contents (Elt Ideal)) (x5 : (⟨S16, .f32⟩ : BufTy).Contents (Elt Ideal)) (hf : ∀ b r s, IsReal (fgP x0 x1 x2 x4 x5 b r s)) (b r : Fin 8) (s : Fin 2048) :
    (val_main_v57 x0 x1 x2 x4 x5 (ix3 b r s) : EReal) = (lfP x0 x1 x2 x4 x5 b r s.val : EReal) := by
  pointwise [val_main_call0_v0, val_main_call0_call0_cst, val_main_call0_call0_v0, val_main_call0_call0_v1, val_main_call0_call0_v2, val_main_call0_call0_v3, val_main_call0_call0_v4, val_main_call0_call0_v5, val_main_call0_call0_v6, val_main_call0_call0_v7, val_main_call0_call0_v8, val_main_call0_call0_v9, val_main_call0_call0_v10, val_main_call0_call0_v11, val_main_call0_v1, val_main_v56, val_main_v57]
  simp only [v55_at, Ideal.absf_def]
  rw [lfP_fin]
  obtain ⟨z, hz⟩ := hf b r s
  rw [hz, if_neg (fun h => h rfl), logSig_neg, EReal.toReal_coe]

theorem sge_pick {a b : ℕ} (ha : a < 2048) (hb : b < 2048) (x y : EReal) :
    Scalar.select (IntOp.cmpi .sge (BitVec.ofNat 32 a) (BitVec.ofNat 32 b)) x y = if b ≤ a then x else y := by
  rw [WordCmp.cmpi_sge_ofNat (by omega) (by omega), WordCmp.select_ofBool]
  simp

/-- A masked sum over the sequence. -/
theorem sum_upto (f : ℕ → EReal) (s : Fin 2048) :
    (∑ x : Fin 2048, if x.val ≤ s.val then f x.val else 0) = ∑ i ∈ Finset.range (s.val + 1), f i := by
  rw [Fin.sum_univ_eq_sum_range (fun i => if i ≤ s.val then f i else 0) 2048, ← Finset.sum_filter]
  refine Finset.sum_congr (Finset.ext fun i => ?_) fun _ _ => rfl
  have := s.isLt
  simp only [Finset.mem_filter, Finset.mem_range]
  omega

/-- A masked maximum over the sequence. -/
theorem max_upto (f : ℕ → EReal) (s : Fin 2048) :
    Finset.fold max ⊥ (fun x : Fin 2048 => if x.val ≤ s.val then f x.val else ⊥) Finset.univ = (Finset.range (s.val + 1)).sup f := by
  show Finset.univ.sup (fun x : Fin 2048 => if x.val ≤ s.val then f x.val else ⊥) = _
  refine le_antisymm (Finset.sup_le fun x _ => ?_) (Finset.sup_le fun i hi => ?_)
  · split
    · exact Finset.le_sup (f := f) (Finset.mem_range.mpr (by omega))
    · exact bot_le
  · rw [Finset.mem_range] at hi
    have := s.isLt
    refine le_trans (le_of_eq ?_) (Finset.le_sup (f := fun x : Fin 2048 => if x.val ≤ s.val then f x.val else ⊥) (Finset.mem_univ ⟨i, by omega⟩))
    exact (if_pos (by show i ≤ s.val; omega)).symm

theorem v67_at (x0 : (⟨S8x2048x1024, .f32⟩ : BufTy).Contents (Elt Ideal)) (x1 : (⟨S8x6x1x1024, .f32⟩ : BufTy).Contents (Elt Ideal)) (x2 : (⟨S1024, .f32⟩ : BufTy).Contents (Elt Ideal)) (x4 : (⟨S768x1024, .bf16⟩ : BufTy).Contents (Elt Ideal)) (x5 : (⟨S16, .f32⟩ : BufTy).Contents (Elt Ideal)) (hf : ∀ b r s, IsReal (fgP x0 x1 x2 x4 x5 b r s)) (b r : Fin 8) (s : Fin 2048) :
    (val_main_v67 x0 x1 x2 x4 x5 (ix3 b r s) : EReal) = (run (lfP x0 x1 x2 x4 x5 b r) (s.val + 1) : EReal) := by
  pointwise [val_main_v58, val_main_v59, val_main_v60, val_main_v61, val_main_v62, val_main_v63, val_main_v64, val_main_v65, val_main_cst_3, val_main_call1_v0, val_main_call1_v1, val_main_call1_v2, val_main_call1_v3, val_main_v66, val_main_cst_4, val_main_v67]
  have e : ∀ x : Fin 2048, Scalar.select (IntOp.cmpi .sge (BitVec.ofNat 32 s.val) (BitVec.ofNat 32 x.val))
      (val_main_v57 x0 x1 x2 x4 x5 (ix3 b r x) : EReal) (Ideal.ofBits .f32 0#32)
      = if x.val ≤ s.val then ((lfP x0 x1 x2 x4 x5 b r x.val : ℝ) : EReal) else 0 := fun x => by
    rw [sge_pick s.isLt x.isLt, v57_at _ _ _ _ _ hf, Ideal.ofBits_zero_f32]
  exact (Finset.sum_congr rfl fun x _ => e x).trans ((sum_upto (fun i => ((lfP x0 x1 x2 x4 x5 b r i : ℝ) : EReal)) s).trans (coe_sum _ _).symm)

theorem v77_at (x0 : (⟨S8x2048x1024, .f32⟩ : BufTy).Contents (Elt Ideal)) (x1 : (⟨S8x6x1x1024, .f32⟩ : BufTy).Contents (Elt Ideal)) (x2 : (⟨S1024, .f32⟩ : BufTy).Contents (Elt Ideal)) (x4 : (⟨S768x1024, .bf16⟩ : BufTy).Contents (Elt Ideal)) (x5 : (⟨S16, .f32⟩ : BufTy).Contents (Elt Ideal)) (hf : ∀ b r s, IsReal (fgP x0 x1 x2 x4 x5 b r s)) (b r : Fin 8) (s : Fin 2048) :
    (val_main_v77 x0 x1 x2 x4 x5 (ix3 b r s) : EReal) = (Finset.range (s.val + 1)).sup fun i =>
      ((run (lfP x0 x1 x2 x4 x5 b r) (s.val + 1) - run (lfP x0 x1 x2 x4 x5 b r) (i + 1) : ℝ) : EReal) + igS x0 x1 x2 x4 x5 b r i := by
  pointwise [val_main_v64, val_main_v63, val_main_v62, val_main_v61, val_main_v60, val_main_v59, val_main_v58, val_main_v68, val_main_v69, val_main_v70, val_main_v71, val_main_v72, val_main_v73, val_main_v74, val_main_v75, val_main_cst_5, val_main_call2_v0, val_main_call2_v1, val_main_call2_v2, val_main_v76, val_main_cst_6, val_main_v77]
  rw [show Ideal.ofBits .f32 4286578688#32 = (⊥ : EReal) by simp [Ideal.ofBits, Ideal.ieee], ← max_upto]
  refine congrArg (fun g => Finset.fold max ⊥ g Finset.univ) (funext fun x => ?_)
  refine (sge_pick s.isLt x.isLt _ _).trans ?_
  rw [v67_at _ _ _ _ _ hf, v67_at _ _ _ _ _ hf, v48_at, igS_fin, ← EReal.coe_sub]
  refine if_congr Iff.rfl rfl ?_
  show Ideal.ofBits .f32 4286578688#32 = (⊥ : EReal)
  simp [Ideal.ofBits, Ideal.ieee]

theorem v78_at (x0 : (⟨S8x2048x1024, .f32⟩ : BufTy).Contents (Elt Ideal)) (x1 : (⟨S8x6x1x1024, .f32⟩ : BufTy).Contents (Elt Ideal)) (x2 : (⟨S1024, .f32⟩ : BufTy).Contents (Elt Ideal)) (x4 : (⟨S768x1024, .bf16⟩ : BufTy).Contents (Elt Ideal)) (x5 : (⟨S16, .f32⟩ : BufTy).Contents (Elt Ideal)) (hf : ∀ b r s, IsReal (fgP x0 x1 x2 x4 x5 b r s)) (b r : Fin 8) (s : Fin 2048) :
    (val_main_v78 x0 x1 x2 x4 x5 (ix3 b r s) : EReal) = stab (lfP x0 x1 x2 x4 x5 b r) (igS x0 x1 x2 x4 x5 b r) (s.val + 1) := by
  pointwise [val_main_v78]
  rw [v67_at _ _ _ _ _ hf, v77_at _ _ _ _ _ hf, stab]

theorem v143_at (x0 : (⟨S8x2048x1024, .f32⟩ : BufTy).Contents (Elt Ideal)) (x1 : (⟨S8x6x1x1024, .f32⟩ : BufTy).Contents (Elt Ideal)) (x2 : (⟨S1024, .f32⟩ : BufTy).Contents (Elt Ideal)) (x4 : (⟨S768x1024, .bf16⟩ : BufTy).Contents (Elt Ideal)) (x5 : (⟨S16, .f32⟩ : BufTy).Contents (Elt Ideal)) (hf : ∀ b r s, IsReal (fgP x0 x1 x2 x4 x5 b r s)) (b r : Fin 8) (l : Fin 128) :
    (val_main_v143 x0 x1 x2 x4 x5 (ix3 b r l) : EReal) = stab (lfP x0 x1 x2 x4 x5 b r) (igS x0 x1 x2 x4 x5 b r) 2048 := by
  pointwise [val_main_v143, val_main_v142, val_main_v95, val_main_v94]
  exact v78_at x0 x1 x2 x4 x5 hf b r ⟨2047, by omega⟩

theorem v146_at (x8 : (⟨S2x1024x4096, .f32⟩ : BufTy).Contents (Elt Ideal)) (j : Fin 1024) (n : Fin 4096) :
    (val_main_v146 x8 (ix2 j n) : EReal) = x8 (ix3 0 j n) := by
  pointwise [val_main_v144, val_main_v145, val_main_v146]

theorem v149_at (x9 : (⟨S2x4096x1024, .f32⟩ : BufTy).Contents (Elt Ideal)) (n : Fin 4096) (d : Fin 1024) :
    (val_main_v149 x9 (ix2 n d) : EReal) = x9 (ix3 0 n d) := by
  pointwise [val_main_v147, val_main_v148, val_main_v149]

theorem hP_real (x0 : (⟨S8x2048x1024, .f32⟩ : BufTy).Contents (Elt Ideal)) (x1 : (⟨S8x6x1x1024, .f32⟩ : BufTy).Contents (Elt Ideal)) (x2 : (⟨S1024, .f32⟩ : BufTy).Contents (Elt Ideal)) (h0 : ∀ b s k, IsReal (x0 (ix3 b s k))) (h1 : ∀ b n k, IsReal (x1 (ix4 b n 0 k))) (h2 : ∀ k, IsReal (x2 (ix1 k)))
    (b : Fin 8) (s : Fin 2048) (k : Fin 1024) : IsReal (hP x0 x1 x2 b s k) :=
  modRow_real (fun k => h0 b s k) h2 (fun k => h1 b 0 k) (fun k => h1 b 1 k) k

theorem fgP_real (x0 : (⟨S8x2048x1024, .f32⟩ : BufTy).Contents (Elt Ideal)) (x1 : (⟨S8x6x1x1024, .f32⟩ : BufTy).Contents (Elt Ideal)) (x2 : (⟨S1024, .f32⟩ : BufTy).Contents (Elt Ideal)) (x4 : (⟨S768x1024, .bf16⟩ : BufTy).Contents (Elt Ideal)) (x5 : (⟨S16, .f32⟩ : BufTy).Contents (Elt Ideal)) (h0 : ∀ b s k, IsReal (x0 (ix3 b s k))) (h1 : ∀ b n k, IsReal (x1 (ix4 b n 0 k))) (h2 : ∀ k, IsReal (x2 (ix1 k)))
    (h4 : ∀ n k, IsReal (x4 (ix2 n k))) (h5 : ∀ n, IsReal (x5 (ix1 n))) (b r : Fin 8) (s : Fin 2048) : IsReal (fgP x0 x1 x2 x4 x5 b r s) :=
  (proj_real (hP_real x0 x1 x2 h0 h1 h2 b s) fun k => h4 _ k).add (h5 _)

theorem igP_real (x0 : (⟨S8x2048x1024, .f32⟩ : BufTy).Contents (Elt Ideal)) (x1 : (⟨S8x6x1x1024, .f32⟩ : BufTy).Contents (Elt Ideal)) (x2 : (⟨S1024, .f32⟩ : BufTy).Contents (Elt Ideal)) (x4 : (⟨S768x1024, .bf16⟩ : BufTy).Contents (Elt Ideal)) (x5 : (⟨S16, .f32⟩ : BufTy).Contents (Elt Ideal)) (h0 : ∀ b s k, IsReal (x0 (ix3 b s k))) (h1 : ∀ b n k, IsReal (x1 (ix4 b n 0 k))) (h2 : ∀ k, IsReal (x2 (ix1 k)))
    (h4 : ∀ n k, IsReal (x4 (ix2 n k))) (h5 : ∀ n, IsReal (x5 (ix1 n))) (b r : Fin 8) (s : Fin 2048) : IsReal (igP x0 x1 x2 x4 x5 b r s) :=
  (proj_real (hP_real x0 x1 x2 h0 h1 h2 b s) fun k => h4 _ k).add (h5 _)

end Cert.PromptRefValue
end
-- ==== Proof.PromptValue.Pay.lean ====
module

public import proofs.«01_k».proof.Proof.PromptValue.Real
public import proofs.«01_k».proof.Proof.Gen.PromptIdeal.Skeleton
public import Idealize.ShloMosaic.Lib.Pointwise

@[expose] public section
set_option maxRecDepth 16384
noncomputable section
namespace Cert.PromptValue
open Cert.PromptIdeal Cert.PromptIdeal.Gen Idealize.ShloMosaic Idealize.ShloMosaic.TcCoe Idealize.SL.Sem Cert.Layer Cert.Gate

/-- The column product's rows of the keys. -/
theorem pay13_k (x : FVec Ideal S1x1024x1024 .f32) (g : FVec Ideal S1x1024 .f32) (sh sc : FVec Ideal S1x1x1x1024 .f32)
    (wk : FVec Ideal S512x1024 .bf16) (wi wf : FVec Ideal S8x1024 .bf16) (n : Fin 512) (l : Fin 1024) :
    (k0_pay13 (F := Ideal) (k0_pay7 x) (k0_pay8 g) (k0_pay9 sh) (k0_pay10 sc) (k0_pay11 x) wk wi wf (ix2 ⟨n.val, by omega⟩ l) : EReal)
      = proj (modRow (fun k => x (ix3 0 l k)) (fun k => g (ix2 0 k)) (fun k => sh (ix4 0 0 0 k)) (fun k => sc (ix4 0 0 0 k))) (fun k => wk (ix2 n k)) := by
  pointwise [k0_pay7, k0_pay8, k0_pay9, k0_pay10, k0_pay11, k0_pay12, k0_pay13, proj, modRow, rrms]
  refine Finset.sum_congr rfl fun k _ => ?_
  rw [mul_comm]

/-- The column product's rows of the input gates. -/
theorem pay13_i (x : FVec Ideal S1x1024x1024 .f32) (g : FVec Ideal S1x1024 .f32) (sh sc : FVec Ideal S1x1x1x1024 .f32)
    (wk : FVec Ideal S512x1024 .bf16) (wi wf : FVec Ideal S8x1024 .bf16) (n : Fin 8) (l : Fin 1024) :
    (k0_pay13 (F := Ideal) (k0_pay7 x) (k0_pay8 g) (k0_pay9 sh) (k0_pay10 sc) (k0_pay11 x) wk wi wf (ix2 ⟨512 + n.val, by omega⟩ l) : EReal)
      = proj (modRow (fun k => x (ix3 0 l k)) (fun k => g (ix2 0 k)) (fun k => sh (ix4 0 0 0 k)) (fun k => sc (ix4 0 0 0 k))) (fun k => wi (ix2 n k)) := by
  pointwise [k0_pay7, k0_pay8, k0_pay9, k0_pay10, k0_pay11, k0_pay12, k0_pay13, proj, modRow, rrms]
  refine Finset.sum_congr rfl fun k _ => ?_
  rw [mul_comm]

/-- The column product's rows of the forget gates. -/
theorem pay13_f (x : FVec Ideal S1x1024x1024 .f32) (g : FVec Ideal S1x1024 .f32) (sh sc : FVec Ideal S1x1x1x1024 .f32)
    (wk : FVec Ideal S512x1024 .bf16) (wi wf : FVec Ideal S8x1024 .bf16) (n : Fin 8) (l : Fin 1024) :
    (k0_pay13 (F := Ideal) (k0_pay7 x) (k0_pay8 g) (k0_pay9 sh) (k0_pay10 sc) (k0_pay11 x) wk wi wf (ix2 ⟨520 + n.val, by omega⟩ l) : EReal)
      = proj (modRow (fun k => x (ix3 0 l k)) (fun k => g (ix2 0 k)) (fun k => sh (ix4 0 0 0 k)) (fun k => sc (ix4 0 0 0 k))) (fun k => wf (ix2 n k)) := by
  pointwise [k0_pay7, k0_pay8, k0_pay9, k0_pay10, k0_pay11, k0_pay12, k0_pay13, proj, modRow, rrms]
  refine Finset.sum_congr rfl fun k _ => ?_
  rw [mul_comm]
  refine congrArg₂ (· * ·) rfl ?_
  rw [dif_neg (by omega), dif_neg (by omega)]
  exact congrArg (fun i => wf (ix2 i k)) (Fin.ext (by show 520 + n.val - 512 - 8 = n.val; omega))

theorem pay14_at (v12 : FVec Ideal S1024x1024 .f32) (v14 v16 v18 : FVec Ideal S1x1024 .f32) (v26 : FVec Ideal S1024x1 .f32)
    (wk : FVec Ideal S512x1024 .bf16) (wi wf : FVec Ideal S8x1024 .bf16) (b : FVec Ideal S8x1024 .f32) (r : Fin 8) (l : Fin 1024) :
    (k0_pay14 (F := Ideal) v12 v14 v16 v18 v26 wk wi wf b (ix2 r l) : EReal)
      = k0_pay13 (F := Ideal) v12 v14 v16 v18 v26 wk wi wf (ix2 ⟨512 + r.val, by omega⟩ l) + b (ix2 r l) := by
  pointwise [k0_pay14]

theorem pay15_at (v12 : FVec Ideal S1024x1024 .f32) (v14 v16 v18 : FVec Ideal S1x1024 .f32) (v26 : FVec Ideal S1024x1 .f32)
    (wk : FVec Ideal S512x1024 .bf16) (wi wf : FVec Ideal S8x1024 .bf16) (b : FVec Ideal S8x1024 .f32) (r : Fin 8) (l : Fin 1024) (z : ℝ)
    (hz : (k0_pay13 (F := Ideal) v12 v14 v16 v18 v26 wk wi wf (ix2 ⟨520 + r.val, by omega⟩ l) + b (ix2 r l) : EReal) = (z : EReal)) :
    (k0_pay15 (F := Ideal) v12 v14 v16 v18 v26 wk wi wf b (ix2 r l) : EReal) = (logSig z : EReal) := by
  rw [← logSig_min, ← hz]
  pointwise [k0_pay15]
  simp only [Ideal.absf_def]

end Cert.PromptValue
end
-- ==== Proof.PromptValue.Final.lean ====
module

public import proofs.«01_k».proof.Proof.PromptValue.Ref
public import proofs.«01_k».proof.Proof.PromptValue.Pay
public import proofs.«01_k».proof.Proof.PromptValue.Step
public import proofs.«01_k».proof.Proof.Gen.PromptIdeal.Frame
public import Idealize.ShloMosaic.Lib.Pipeline.ValueKit
public import Idealize.ShloMosaic.Lib.Pointwise

@[expose] public section
set_option maxRecDepth 16384
noncomputable section
namespace Cert.PromptValue
open Cert.PromptIdeal Cert.PromptIdeal.Gen Idealize.ShloMosaic Idealize.ShloMosaic.TcCoe Idealize.SL.Sem Cert.Layer Cert.Gate Cert.PromptRefValue

variable (m : (ℓ : Loc nD τ sig) → Buf (Elt Ideal) ℓ) (c : Dev nD)

theorem idx0 : ∀ t : Fin cfg0.N, win0_0.index t = ![t.val / 2, t.val % 2, 0] ∧ win0_1.index t = ![t.val / 2, 0, 0, 0]
    ∧ win0_2.index t = ![0, 0] ∧ win0_4.index t = ![0, 0] ∧ win0_5.index t = ![0, 0]
    ∧ win0_8.index t = ![0, t.val, 0] ∧ win0_9.index t = ![0, t.val, 0] ∧ win0_12.index t = ![t.val / 2, 0, 0]
    ∧ win0_13.index t = ![t.val, 0] ∧ win0_14.index t = ![t.val, 0] :=
  (by decide +kernel : ∀ t : Fin grid0.N, _)

/-- The arguments read as arrays. -/
abbrev a0 : FVec Ideal S8x2048x1024 .f32 := m ((c.tc : Thread nD τ).loc main_arg0)
abbrev a1 : FVec Ideal S8x6x1x1024 .f32 := m ((c.tc : Thread nD τ).loc main_arg1)
abbrev a2 : FVec Ideal S1024 .f32 := m ((c.tc : Thread nD τ).loc main_arg2)
abbrev a4 : FVec Ideal S768x1024 .bf16 := m ((c.tc : Thread nD τ).loc main_arg4)
abbrev a5 : FVec Ideal S16 .f32 := m ((c.tc : Thread nD τ).loc main_arg5)

theorem rd0 (t : Fin cfg0.N) (ht : t.val < 16) (l k : Fin 1024) :
    (iblk m c 0 t (ix3 0 l k) : EReal) = a0 m c (ix3 ⟨t.val / 2, by omega⟩ ⟨1024 * (t.val % 2) + l.val, by omega⟩ k) := by
  blk_simp [iblk, idx0 t]
  entry_read
  blk_ext [idx0 t]

theorem rd1 (t : Fin cfg0.N) (ht : t.val < 16) (n : Fin 6) (k : Fin 1024) :
    (iblk m c 1 t (ix4 0 n 0 k) : EReal) = a1 m c (ix4 ⟨t.val / 2, by omega⟩ n 0 k) := by
  blk_simp [iblk, idx0 t]
  entry_read
  blk_ext [idx0 t]

theorem rd2 (t : Fin cfg0.N) (k : Fin 1024) : (iblk m c 2 t (ix2 0 k) : EReal) = a2 m c (ix1 k) := by
  blk_simp [iblk, idx0 t]
  entry_read
  refine Eq.trans (b := (shapeCast S1x1024 (a2 m c) shapeCasts_S1024_S1x1024 (ix2 0 k) : EReal)) ?_ ?_
  · blk_ext [idx0 t]
  · pointwise []

theorem rd4 (t : Fin cfg0.N) (n : Fin 768) (k : Fin 1024) : (iblk m c 4 t (ix2 n k) : EReal) = a4 m c (ix2 n k) := by
  blk_simp [iblk, idx0 t]
  entry_read
  blk_ext [idx0 t]

theorem rd5 (t : Fin cfg0.N) (n : Fin 16) (k : Fin 1024) : (iblk m c 5 t (ix2 n k) : EReal) = a5 m c (ix1 n) := by
  blk_simp [iblk, idx0 t]
  entry_read
  refine Eq.trans (b := (broadcastInDim S16x1024 ![0, 1] bcast_S16x1_S16x1024_0_1 (shapeCast S16x1 (a5 m c) shapeCasts_S16_S16x1) (ix2 n k) : EReal)) ?_ ?_
  · blk_ext [idx0 t]
  · pointwise []

/-- The step's input gates as the body computes them. -/
def gI (t : Fin cfg0.N) : FVec Ideal S8x1024 .f32 :=
  k0_pay14 (F := Ideal) (k0_pay7 (iblk m c 0 t)) (k0_pay8 (iblk m c 2 t))
    (k0_pay9 (View.ld (iblk m c 1 t) (Rect.unit ![0, 0, 0, 0] ![1, 1, 1, 1024] inb_S1x6x1x1024_S1x1x1x1024_0_0_0_0)))
    (k0_pay10 (View.ld (iblk m c 1 t) (Rect.unit ![0, 1, 0, 0] ![1, 1, 1, 1024] inb_S1x6x1x1024_S1x1x1x1024_0_1_0_0)))
    (k0_pay11 (iblk m c 0 t))
    (View.ld (iblk m c 4 t) (Rect.unit ![0, 0] ![512, 1024] inb_S768x1024_S512x1024_0_0))
    (View.ld (iblk m c 4 t) (Rect.unit ![512, 0] ![8, 1024] inb_S768x1024_S8x1024_512_0))
    (View.ld (iblk m c 4 t) (Rect.unit ![640, 0] ![8, 1024] inb_S768x1024_S8x1024_640_0))
    (View.ld (iblk m c 5 t) (Rect.unit ![0, 0] ![8, 1024] inb_S16x1024_S8x1024_0_0))

/-- The step's forget gates, in logarithms, as the body computes them. -/
def gF (t : Fin cfg0.N) : FVec Ideal S8x1024 .f32 :=
  k0_pay15 (F := Ideal) (k0_pay7 (iblk m c 0 t)) (k0_pay8 (iblk m c 2 t))
    (k0_pay9 (View.ld (iblk m c 1 t) (Rect.unit ![0, 0, 0, 0] ![1, 1, 1, 1024] inb_S1x6x1x1024_S1x1x1x1024_0_0_0_0)))
    (k0_pay10 (View.ld (iblk m c 1 t) (Rect.unit ![0, 1, 0, 0] ![1, 1, 1, 1024] inb_S1x6x1x1024_S1x1x1x1024_0_1_0_0)))
    (k0_pay11 (iblk m c 0 t))
    (View.ld (iblk m c 4 t) (Rect.unit ![0, 0] ![512, 1024] inb_S768x1024_S512x1024_0_0))
    (View.ld (iblk m c 4 t) (Rect.unit ![512, 0] ![8, 1024] inb_S768x1024_S8x1024_512_0))
    (View.ld (iblk m c 4 t) (Rect.unit ![640, 0] ![8, 1024] inb_S768x1024_S8x1024_640_0))
    (View.ld (iblk m c 5 t) (Rect.unit ![8, 0] ![8, 1024] inb_S16x1024_S8x1024_8_0))

theorem gI_at (t : Fin cfg0.N) (ht : t.val < 16) (r : Fin 8) (l : Fin 1024) :
    (gI m c t (ix2 r l) : EReal) = igS (a0 m c) (a1 m c) (a2 m c) (a4 m c) (a5 m c) ⟨t.val / 2, by omega⟩ r (1024 * (t.val % 2) + l.val) := by
  refine Eq.trans ?_ (igS_fin (a0 m c) (a1 m c) (a2 m c) (a4 m c) (a5 m c) ⟨t.val / 2, by omega⟩ r ⟨1024 * (t.val % 2) + l.val, by omega⟩).symm
  unfold gI igP hP
  rw [pay14_at, pay13_i]
  simp only [rd0 m c t ht, rd2 m c t]
  pointwise []
  simp only [rd1 m c t ht, rd4 m c t, rd5 m c t]

theorem gF_at (hf : ∀ b r s, IsReal (fgP (a0 m c) (a1 m c) (a2 m c) (a4 m c) (a5 m c) b r s)) (t : Fin cfg0.N) (ht : t.val < 16) (r : Fin 8) (l : Fin 1024) :
    (gF m c t (ix2 r l) : EReal) = (lfP (a0 m c) (a1 m c) (a2 m c) (a4 m c) (a5 m c) ⟨t.val / 2, by omega⟩ r (1024 * (t.val % 2) + l.val) : EReal) := by
  obtain ⟨z, hz⟩ := hf ⟨t.val / 2, by omega⟩ r ⟨1024 * (t.val % 2) + l.val, by omega⟩
  rw [lfP_fin _ _ _ _ _ _ r ⟨1024 * (t.val % 2) + l.val, by omega⟩, hz, EReal.toReal_coe]
  unfold gF
  refine pay15_at _ _ _ _ _ _ _ _ _ r l z ?_
  rw [pay13_f, ← hz]
  unfold fgP hP
  simp only [rd0 m c t ht, rd2 m c t]
  pointwise []
  simp only [rd1 m c t ht, rd4 m c t, rd5 m c t]

theorem outB (t : Fin cfg0.N) (h0 : ¬ t.val % 2 = 0) : (outsAt0 m c t.val t.isLt).2.2.1
    = k0_pay709 (F := Ideal) (k0_pay704 (decays (gF m c t)) (maxes (gI m c t) (gF m c t)) (k0_pay619 (decays (gF m c t)) (maxes (gI m c t) (gF m c t))
      (k0_pay518 (k0_pay512 (decays (gF m c t)) (maxes (gI m c t) (gF m c t)) (k0_pay411 (decays (gF m c t)) (maxes (gI m c t) (gF m c t))
        (k0_pay306 (k0_pay305 (decays (gF m c t)) (maxes (gI m c t) (gF m c t)) (k0_pay215 (decays (gF m c t)) (maxes (gI m c t) (gF m c t))
          (k0_pay130 (decays (gF m c t)) (maxes (gI m c t) (gF m c t)) (k0_pay44 (decays (gF m c t)) (maxes (gI m c t) (gF m c t))
            (outsAt0 m c (t.val - 1) (lt_of_le_of_lt (Nat.sub_le _ _) t.isLt)).2.2.1)))))))))) := by
  rw [outsAt0_B m c t h0]; frame_out
  unfold gF gI maxes decays
  rfl

theorem outA (t : Fin cfg0.N) (h0 : t.val % 2 = 0) : (outsAt0 m c t.val t.isLt).2.2.1
    = k0_pay709 (F := Ideal) (k0_pay704 (decays (gF m c t)) (maxes (gI m c t) (gF m c t)) (k0_pay619 (decays (gF m c t)) (maxes (gI m c t) (gF m c t))
      (k0_pay518 (k0_pay512 (decays (gF m c t)) (maxes (gI m c t) (gF m c t)) (k0_pay411 (decays (gF m c t)) (maxes (gI m c t) (gF m c t))
        (k0_pay306 (k0_pay305 (decays (gF m c t)) (maxes (gI m c t) (gF m c t)) (k0_pay215 (decays (gF m c t)) (maxes (gI m c t) (gF m c t))
          (k0_pay130 (decays (gF m c t)) (maxes (gI m c t) (gF m c t)) (k0_pay44 (decays (gF m c t)) (maxes (gI m c t) (gF m c t)) (k0_pay6 (F := Ideal)))))))))))) := by
  rw [outsAt0_A m c t h0]; frame_out
  unfold gF gI maxes decays
  rfl

theorem out1314 (t : Fin cfg0.N) : (outsAt0 m c t.val t.isLt).2.2.2.1 = k0_pay3 (iblk m c 8 t) ∧ (outsAt0 m c t.val t.isLt).2.2.2.2 = k0_pay4 (iblk m c 9 t) := by
  by_cases h0 : t.val % 2 = 0
  · rw [outsAt0_A m c t h0]
    constructor <;> frame_out
  · rw [outsAt0_B m c t h0]
    constructor <;> frame_out

theorem fin13 : (dats m 0 c).arrAt 13 cfg0.N
    = Cert.PromptRefIdeal.Read.val_main_v146 (F := Ideal) (m ((c.tc : Thread nD τ).loc main_arg8)) := by
  refine (dats m 0 c).arrAt_eq_of_covers 13 _ (by decide +kernel) fun t hf y => ?_
  blk_simp
  rw [after0_13, (out1314 m c t).1]
  pointwise [k0_pay3, Cert.PromptRefIdeal.Read.val_main_v144, Cert.PromptRefIdeal.Read.val_main_v145, Cert.PromptRefIdeal.Read.val_main_v146]
  blk_point [iblk, V, idx0 t]

theorem fin14 : (dats m 0 c).arrAt 14 cfg0.N
    = Cert.PromptRefIdeal.Read.val_main_v149 (F := Ideal) (m ((c.tc : Thread nD τ).loc main_arg9)) := by
  refine (dats m 0 c).arrAt_eq_of_covers 14 _ (by decide +kernel) fun t hf y => ?_
  blk_simp
  rw [after0_14, (out1314 m c t).2]
  pointwise [k0_pay4, Cert.PromptRefIdeal.Read.val_main_v147, Cert.PromptRefIdeal.Read.val_main_v148, Cert.PromptRefIdeal.Read.val_main_v149]
  blk_point [iblk, V, idx0 t]

section
variable (hf : ∀ b r s, IsReal (fgP (a0 m c) (a1 m c) (a2 m c) (a4 m c) (a5 m c) b r s))
include hf

/-- The stabiliser after a step's first half of a sequence. -/
theorem stabA (t : Fin cfg0.N) (ht : t.val < 16) (h0 : t.val % 2 = 0) (r : Fin 8) (l : Fin 128) :
    ((outsAt0 m c t.val t.isLt).2.2.1 (ix3 0 r l) : EReal)
      = stab (lfP (a0 m c) (a1 m c) (a2 m c) (a4 m c) (a5 m c) ⟨t.val / 2, by omega⟩ r)
          (igS (a0 m c) (a1 m c) (a2 m c) (a4 m c) (a5 m c) ⟨t.val / 2, by omega⟩ r) 1024 := by
  have e1 := fun l => gF_at m c hf t ht r l
  have e2 := fun l => gI_at m c t ht r l
  rw [h0] at e1 e2
  rw [outA m c t h0]
  refine step_at _ _ _ _ r 0 e1 e2 _ ?_ l
  rw [Nat.mul_zero, stab_zero]
  pointwise [k0_pay6]

/-- The stabiliser after a sequence. -/
theorem stabB (t : Fin cfg0.N) (ht : t.val < 16) (h0 : ¬ t.val % 2 = 0) (r : Fin 8) (l : Fin 128) :
    ((outsAt0 m c t.val t.isLt).2.2.1 (ix3 0 r l) : EReal)
      = stab (lfP (a0 m c) (a1 m c) (a2 m c) (a4 m c) (a5 m c) ⟨t.val / 2, by omega⟩ r)
          (igS (a0 m c) (a1 m c) (a2 m c) (a4 m c) (a5 m c) ⟨t.val / 2, by omega⟩ r) 2048 := by
  have e1 := fun l => gF_at m c hf t ht r l
  have e2 := fun l => gI_at m c t ht r l
  have h1 : t.val % 2 = 1 := by omega
  rw [h1] at e1 e2
  rw [outB m c t h0]
  refine step_at _ _ _ _ r 1 e1 e2 _ ?_ l
  refine (stabA m c hf ⟨t.val - 1, lt_of_le_of_lt (Nat.sub_le _ _) t.isLt⟩ (by dsimp only; omega) (by dsimp only; omega) r 127).trans ?_
  have e : (⟨(t.val - 1) / 2, by omega⟩ : Fin 8) = ⟨t.val / 2, by omega⟩ := Fin.ext (by dsimp only; omega)
  dsimp only
  rw [e]

theorem fin12 : (dats m 0 c).arrAt 12 cfg0.N
    = Cert.PromptRefIdeal.Read.val_main_v143 (F := Ideal) (a0 m c) (a1 m c) (a2 m c) (a4 m c) (a5 m c) := by
  refine (dats m 0 c).arrAt_eq_of_covers 12 _ (by decide +kernel) fun t hfl y => ?_
  have ht : t.val < 16 := t.isLt
  have h1 : t.val % 2 = 1 := (flush0_12 t).mp hfl
  blk_simp
  rw [after0_12]
  refine Eq.trans ?_ (((stabB m c hf t ht (by omega) (y 1) (y 2)).trans (v143_at (a0 m c) (a1 m c) (a2 m c) (a4 m c) (a5 m c) hf ⟨t.val / 2, by omega⟩ (y 1) (y 2)).symm).trans ?_)
  · refine congrArg _ ?_
    blk_ext [idx0 t]
  · blk_ext [idx0 t]

end

end Cert.PromptValue
end
-- ==== Proof.PromptValue.Body.lean ====
module

public import proofs.«01_k».proof.Proof.PromptValue.Lists
public import proofs.«01_k».proof.Proof.PromptValue.State
public import proofs.«01_k».proof.Proof.PromptValue.Final

@[expose] public section
set_option maxRecDepth 16384
noncomputable section

/-! The carried state a grid step leaves, from the state before it. -/
namespace Cert.PromptValue
open Cert.PromptIdeal Cert.PromptIdeal.Gen Idealize.ShloMosaic Idealize.ShloMosaic.TcCoe Idealize.SL.Sem Cert.Layer Cert.Gate Cert.PromptRefValue

variable (m : (ℓ : Loc nD τ sig) → Buf (Elt Ideal) ℓ) (c : Dev nD)

/-- The step's column product. -/
def pcol (t : Fin cfg0.N) : FVec Ideal S528x1024 .f32 :=
  k0_pay13 (F := Ideal) (k0_pay7 (iblk m c 0 t)) (k0_pay8 (iblk m c 2 t))
    (k0_pay9 (View.ld (iblk m c 1 t) (Rect.unit ![0, 0, 0, 0] ![1, 1, 1, 1024] inb_S1x6x1x1024_S1x1x1x1024_0_0_0_0)))
    (k0_pay10 (View.ld (iblk m c 1 t) (Rect.unit ![0, 1, 0, 0] ![1, 1, 1, 1024] inb_S1x6x1x1024_S1x1x1x1024_0_1_0_0)))
    (k0_pay11 (iblk m c 0 t))
    (View.ld (iblk m c 4 t) (Rect.unit ![0, 0] ![512, 1024] inb_S768x1024_S512x1024_0_0))
    (View.ld (iblk m c 4 t) (Rect.unit ![512, 0] ![8, 1024] inb_S768x1024_S8x1024_512_0))
    (View.ld (iblk m c 4 t) (Rect.unit ![640, 0] ![8, 1024] inb_S768x1024_S8x1024_640_0))

/-- The step's row product. -/
def prow (t : Fin cfg0.N) : FVec Ideal S1024x2560 .f32 :=
  k0_pay30 (F := Ideal) (k0_pay12 (k0_pay7 (iblk m c 0 t)) (k0_pay8 (iblk m c 2 t))
    (k0_pay9 (View.ld (iblk m c 1 t) (Rect.unit ![0, 0, 0, 0] ![1, 1, 1, 1024] inb_S1x6x1x1024_S1x1x1x1024_0_0_0_0)))
    (k0_pay10 (View.ld (iblk m c 1 t) (Rect.unit ![0, 1, 0, 0] ![1, 1, 1, 1024] inb_S1x6x1x1024_S1x1x1x1024_0_1_0_0)))
    (k0_pay11 (iblk m c 0 t))) (iblk m c 3 t)

/-- How the writes are read back. -/
def Reads {s : Shape} (ld : List (View.Piece (Elt Ideal) s .f32) → (r : LoadRect s) → r.shape.Idx → Elt Ideal .f32) : Prop :=
  ∀ L r x, ld L r x = View.canon L (r.idx x)

theorem outSB (t : Fin cfg0.N) (h0 : ¬ t.val % 2 = 0) :
    ∃ ldM ld0 ld, Reads ldM ∧ Reads ld ∧ (∀ L r x, ld0 L r x = (outsAt0 m c (t.val - 1) (lt_of_le_of_lt (Nat.sub_le _ _) t.isLt)).2.1 (r.idx x))
      ∧ (outsAt0 m c t.val t.isLt).2.1 = View.canon (sIter (F := Ideal) (pcol m c t) (prow m c t) (decays (gF m c t)) (ratios (gI m c t) (gF m c t)) (maxes (gI m c t) (gF m c t))
          (outsAt0 m c (t.val - 1) (lt_of_le_of_lt (Nat.sub_le _ _) t.isLt)).2.2.1 [] ldM ld0 ld [] 7) := by
  refine ⟨fun L => View.readCov (Memref.view (ms0_12 t)) L,
    fun _ r => View.readAt (Elt Ideal) (Memref.view (ms0_11 t)) r ((hs0_11 t).unread (outsAt0 m c (t.val - 1) (lt_of_le_of_lt (Nat.sub_le _ _) t.isLt)).2.1),
    fun L => View.readCov (Memref.view (ms0_11 t)) L, fun L r x => ?_, fun L r x => ?_, fun L r x => ?_, ?_⟩
  · exact congrFun (View.readCov_eq_canon' _ L r) x
  · exact congrFun (View.readCov_eq_canon' _ L r) x
  · exact congrFun (Memref.IsWhole.read_unread _ _) (r.idx x)
  · rw [outsAt0_B m c t h0]
    dsimp only
    unfold out0_B_11
    rw [View.read_writes_junk_eq_canon, listB]
    simp only [kernelRun0_B.sl.r_6, kernelRun0_B.sl.r_18, kernelRun0_B.sl.r_5, kernelRun0_B.sl.r, kernelRun0_B.sl.r_1, kernelRun0_B.sl.r_2, kernelRun0_B.sl.r_3, kernelRun0_B.sl.r_4,
      kernelRun0_B.sl.r_13, kernelRun0_B.sl.r_14, kernelRun0_B.sl.r_17, kernelRun0_B.sl.r_15, kernelRun0_B.sl.r_16, kernelRun0_B.sl.r_9, kernelRun0_B.sl.r_10, kernelRun0_B.sl.r_11,
      kernelRun0_B.sl.r_12, kernelRun0_B.sl.r_7, kernelRun0_B.sl.r_8]
    frame_out
    rfl

theorem outSA (t : Fin cfg0.N) (h0 : t.val % 2 = 0) :
    ∃ L0 ldM ld L1, Reads ldM ∧ Reads ld ∧ (∀ i, View.canon L1 i = k0_pay5 (F := Ideal) i)
      ∧ (outsAt0 m c t.val t.isLt).2.1 = View.canon (sIter (F := Ideal) (pcol m c t) (prow m c t) (decays (gF m c t)) (ratios (gI m c t) (gF m c t)) (maxes (gI m c t) (gF m c t))
          (k0_pay6 (F := Ideal)) L0 ldM ld ld L1 7) := by
  refine ⟨[⟨rM, k0_pay6 (F := Ideal)⟩], fun L => View.readCov (Memref.view (ms0_12 t)) L,
    fun L => View.readCov (Memref.view (ms0_11 t)) L,
    [⟨Rect.unit ![0, 0, 0, 0] S1x8x64x256.size inb_S1x8x64x256_S1x8x64x256_0_0_0_0, k0_pay5 (F := Ideal)⟩], fun L r x => ?_, fun L r x => ?_, fun i => ?_, ?_⟩
  · exact congrFun (View.readCov_eq_canon' _ L r) x
  · exact congrFun (View.readCov_eq_canon' _ L r) x
  · rw [View.canon_cons_unit_lit']
    decide
  · rw [outsAt0_A m c t h0]
    dsimp only
    unfold out0_A_11
    rw [View.read_writes_junk_eq_canon, listA]
    simp only [kernelRun0_A.sl.v189, kernelRun0_A.sl.H12_1, kernelRun0_A.sl.H11_1, kernelRun0_A.sl.r_6, kernelRun0_A.sl.r_18, kernelRun0_A.sl.r_5, kernelRun0_A.sl.r, kernelRun0_A.sl.r_1, kernelRun0_A.sl.r_2, kernelRun0_A.sl.r_3, kernelRun0_A.sl.r_4,
      kernelRun0_A.sl.r_13, kernelRun0_A.sl.r_14, kernelRun0_A.sl.r_17, kernelRun0_A.sl.r_15, kernelRun0_A.sl.r_16, kernelRun0_A.sl.r_9, kernelRun0_A.sl.r_10, kernelRun0_A.sl.r_11,
      kernelRun0_A.sl.r_12, kernelRun0_A.sl.r_7, kernelRun0_A.sl.r_8]
    frame_out
    rfl

end Cert.PromptValue
end
-- ==== Proof.PromptValue.RowBody.lean ====
module

public import proofs.«01_k».proof.Proof.PromptValue.RowLists
public import proofs.«01_k».proof.Proof.PromptValue.Body

@[expose] public section
set_option maxRecDepth 16384
noncomputable section

/-! The rows a grid step leaves, from the state before it. -/
namespace Cert.PromptValue
open Cert.PromptIdeal Cert.PromptIdeal.Gen Idealize.ShloMosaic Idealize.ShloMosaic.TcCoe Idealize.SL.Sem Cert.Layer Cert.Gate Cert.PromptRefValue

variable (m : (ℓ : Loc nD τ sig) → Buf (Elt Ideal) ℓ) (c : Dev nD)

/-- What a step writes out, from its heads' rows. -/
def yout (t : Fin cfg0.N) (Y : Vec Ideal S1024x1024 .f32) : FVec Ideal S1x1024x1024 .f32 :=
  k0_pay2 (F := Ideal) (k0_pay7 (iblk m c 0 t)) (prow m c t) Y (iblk m c 6 t)
    (View.ld (iblk m c 1 t) (Rect.unit ![0, 2, 0, 0] ![1, 1, 1, 1024] inb_S1x6x1x1024_S1x1x1x1024_0_2_0_0)) (iblk m c 7 t)

theorem read_whole (v : View sig .tc .vmem S1024x1024 .f32) (L : List (View.Piece (Elt Ideal) S1024x1024 .f32)) :
    View.readCov v L (Rect.unit ![0, 0] S1024x1024.size inb_S1024x1024_S1024x1024_0_0).toLoadRect = View.canon L := by
  refine (View.readCov_eq_canon' _ _ _).trans (funext fun x => congrArg (View.canon L) ?_)
  funext k
  apply Fin.ext
  fin_cases k
  · exact (Nat.zero_add _).trans (Nat.one_mul _)
  · exact (Nat.zero_add _).trans (Nat.one_mul _)

theorem youtA (t : Fin cfg0.N) (h0 : t.val % 2 = 0) :
    ∃ L0 ldM ld L1, Reads ldM ∧ Reads ld ∧ (∀ i, View.canon L1 i = k0_pay5 (F := Ideal) i)
      ∧ (outsAt0 m c t.val t.isLt).1 = yout m c t (View.canon (yIter (F := Ideal) (pcol m c t) (prow m c t) (decays (gF m c t)) (ratios (gI m c t) (gF m c t)) (maxes (gI m c t) (gF m c t))
          (k0_pay6 (F := Ideal)) L0 ldM ld ld L1 7)) := by
  refine ⟨[⟨rM, k0_pay6 (F := Ideal)⟩], fun L => View.readCov (Memref.view (ms0_12 t)) L,
    fun L => View.readCov (Memref.view (ms0_11 t)) L,
    [⟨Rect.unit ![0, 0, 0, 0] S1x8x64x256.size inb_S1x8x64x256_S1x8x64x256_0_0_0_0, k0_pay5 (F := Ideal)⟩], fun L r x => ?_, fun L r x => ?_, fun i => ?_, ?_⟩
  · exact congrFun (View.readCov_eq_canon' _ L r) x
  · exact congrFun (View.readCov_eq_canon' _ L r) x
  · rw [View.canon_cons_unit_lit']
    decide
  · rw [outsAt0_A m c t h0]
    dsimp only
    unfold out0_A_10
    rw [View.read_writes_junk_eq_canon]
    dsimp only [kernelRun0_A]
    rw [kernelRun0_A.sl.v4869, rowsA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t)]
    simp only [kernelRun0_A.sl.v189, kernelRun0_A.sl.H12_1, kernelRun0_A.sl.H11_1, kernelRun0_A.sl.r_6, kernelRun0_A.sl.r_18, kernelRun0_A.sl.r_5, kernelRun0_A.sl.r, kernelRun0_A.sl.r_1, kernelRun0_A.sl.r_2, kernelRun0_A.sl.r_3, kernelRun0_A.sl.r_4, kernelRun0_A.sl.r_13, kernelRun0_A.sl.r_14, kernelRun0_A.sl.r_17, kernelRun0_A.sl.r_15, kernelRun0_A.sl.r_16, kernelRun0_A.sl.r_9, kernelRun0_A.sl.r_10, kernelRun0_A.sl.r_11, kernelRun0_A.sl.r_12, kernelRun0_A.sl.r_7, kernelRun0_A.sl.r_8]
    frame_out
    rw [read_whole]
    unfold yout pcol prow decays ratios maxes gI gF
    rfl

theorem youtB (t : Fin cfg0.N) (h0 : ¬ t.val % 2 = 0) :
    ∃ ldM ld0 ld, Reads ldM ∧ Reads ld ∧ (∀ L r x, ld0 L r x = (outsAt0 m c (t.val - 1) (lt_of_le_of_lt (Nat.sub_le _ _) t.isLt)).2.1 (r.idx x))
      ∧ (outsAt0 m c t.val t.isLt).1 = yout m c t (View.canon (yIter (F := Ideal) (pcol m c t) (prow m c t) (decays (gF m c t)) (ratios (gI m c t) (gF m c t)) (maxes (gI m c t) (gF m c t))
          (outsAt0 m c (t.val - 1) (lt_of_le_of_lt (Nat.sub_le _ _) t.isLt)).2.2.1 [] ldM ld0 ld [] 7)) := by
  refine ⟨fun L => View.readCov (Memref.view (ms0_12 t)) L,
    fun _ r => View.readAt (Elt Ideal) (Memref.view (ms0_11 t)) r ((hs0_11 t).unread (outsAt0 m c (t.val - 1) (lt_of_le_of_lt (Nat.sub_le _ _) t.isLt)).2.1),
    fun L => View.readCov (Memref.view (ms0_11 t)) L, fun L r x => ?_, fun L r x => ?_, fun L r x => ?_, ?_⟩
  · exact congrFun (View.readCov_eq_canon' _ L r) x
  · exact congrFun (View.readCov_eq_canon' _ L r) x
  · exact congrFun (Memref.IsWhole.read_unread _ _) (r.idx x)
  · rw [outsAt0_B m c t h0]
    dsimp only
    unfold out0_B_10
    rw [View.read_writes_junk_eq_canon]
    dsimp only [kernelRun0_B]
    rw [kernelRun0_B.sl.v4869, rowsB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.1 (outsAt0 m c (t.val - 1) (Nat.lt_of_le_of_lt (Nat.sub_le _ _) t.isLt)).2.2.1]
    simp only [kernelRun0_B.sl.r_6, kernelRun0_B.sl.r_18, kernelRun0_B.sl.r_5, kernelRun0_B.sl.r, kernelRun0_B.sl.r_1, kernelRun0_B.sl.r_2, kernelRun0_B.sl.r_3, kernelRun0_B.sl.r_4, kernelRun0_B.sl.r_13, kernelRun0_B.sl.r_14, kernelRun0_B.sl.r_17, kernelRun0_B.sl.r_15, kernelRun0_B.sl.r_16, kernelRun0_B.sl.r_9, kernelRun0_B.sl.r_10, kernelRun0_B.sl.r_11, kernelRun0_B.sl.r_12, kernelRun0_B.sl.r_7, kernelRun0_B.sl.r_8]
    frame_out
    rw [read_whole]
    unfold yout pcol prow decays ratios maxes gI gF
    rfl

end Cert.PromptValue
end
-- ==== Proof.PromptValue.RowVal.lean ====
module

public import proofs.«01_k».proof.Proof.PromptValue.Rows
public import proofs.«01_k».proof.Proof.PromptValue.State

@[expose] public section
set_option maxRecDepth 16384
noncomputable section

/-! A head's rows of a chunk read at a point. -/
namespace Cert.PromptValue
open Cert.PromptIdeal Cert.PromptIdeal.Gen Idealize.ShloMosaic Idealize.ShloMosaic.TcCoe Idealize.SL.Sem Cert.Gate

theorem sum128 (f : Fin 128 → EReal) : ∑ i, f i = (∑ y : Fin 64, f ⟨y.val, by omega⟩) + ∑ y : Fin 64, f ⟨64 + y.val, by omega⟩ :=
  Fin.sum_univ_add (a := 64) (b := 64) f

theorem sum256 (f : Fin 256 → EReal) : ∑ i, f i = (∑ s : Fin 128, f ⟨s.val, by omega⟩)
    + ((∑ y : Fin 64, f ⟨128 + y.val, by omega⟩) + ∑ y : Fin 64, f ⟨192 + y.val, by omega⟩) := by
  rw [show ∑ i, f i = _ from Fin.sum_univ_add (a := 128) (b := 128) f, show ∑ i : Fin 128, f (Fin.natAdd 128 i) = _ from sum128 _]
  rfl

section
variable (PC : FVec Ideal S528x1024 .f32) (PR : FVec Ideal S1024x2560 .f32) (B R C : FVec Ideal S8x1024 .f32) (M : Vec Ideal S1x8x128 .f32)
  (X S : FVec Ideal S128x128 .f32)

theorem cols_m (j : ℕ) (hj : j < 8) (r : Fin 8) (l : Fin 128) :
    (colsC (F := Ideal) B C M hj (ix2 l ⟨r.val, by omega⟩) : EReal) = max (M (ix3 0 r l)) (C (ix2 r ⟨128 * j + l.val, by omega⟩)) := by
  pointwise [colsC, mxC]

theorem cols_f (j : ℕ) (hj : j < 8) (r : Fin 8) (l : Fin 128) :
    (colsC (F := Ideal) B C M hj (ix2 l ⟨8 + r.val, by omega⟩) : EReal)
      = Ideal.exp (0 - (B (ix2 r ⟨128 * j + l.val, by omega⟩) + max (M (ix3 0 r l)) (C (ix2 r ⟨128 * j + l.val, by omega⟩)))) := by
  pointwise [colsC, mxC]

theorem colB_at (o : ℕ) (ho : o < 16) (l e : Fin 128) : (colB (F := Ideal) X ho (ix2 l e) : EReal) = X (ix2 l ⟨o, by omega⟩) := by
  pointwise [colB]

theorem neg_inf : Ideal.ofBits .f32 0xFF800000#32 = (⊥ : EReal) := by simp [Ideal.ofBits, Ideal.ieee]

theorem sel_at (l s : Fin 128) (a b : EReal) :
    Scalar.select (IntOp.cmpi CmpIPredicate.sge (BitVec.ofNat 32 l.val) (BitVec.ofNat 32 s.val)) a b = if s.val ≤ l.val then a else b := by
  have e : IntOp.cmpi CmpIPredicate.sge (BitVec.ofNat 32 l.val) (BitVec.ofNat 32 s.val) = BitVec.ofBool (decide (s.val ≤ l.val)) := by
    have h1 : (BitVec.ofNat 32 l.val).toInt = l.val := by rw [BitVec.toInt_ofNat']; simp [Int.bmod]; omega
    have h2 : (BitVec.ofNat 32 s.val).toInt = s.val := by rw [BitVec.toInt_ofNat']; simp [Int.bmod]; omega
    change BitVec.ofBool (BitVec.sle (BitVec.ofNat 32 s.val) (BitVec.ofNat 32 l.val)) = _
    rw [BitVec.sle, h1, h2]
    simp
  rw [e]
  by_cases h : s.val ≤ l.val <;> simp [h, Scalar.select]

theorem score_at (j : ℕ) (hj : j < 8) (r : Fin 8) (l s : Fin 128) :
    (scoreC (F := Ideal) PC PR R X hj r.isLt (ix2 l s) : EReal)
      = (∑ y : Fin 64, (PR (ix2 ⟨128 * j + l.val, by omega⟩ ⟨64 * r.val + y.val, by omega⟩) : EReal) * PC (ix2 ⟨64 * r.val + y.val, by omega⟩ ⟨128 * j + s.val, by omega⟩))
        * Ideal.exp (if s.val ≤ l.val then (R (ix2 r ⟨128 * j + s.val, by omega⟩) : EReal) - X (ix2 l ⟨r.val, by omega⟩) else ⊥) := by
  unfold scoreC
  split
  · pointwise [rowB, colB, k0_pay31, k0_pay32]
    simp only [mul_zero, Finset.sum_const_zero, add_zero, sel_at, neg_inf]
    refine congrArg₂ (· * ·) (Finset.sum_congr rfl fun y _ => congrArg₂ (· * ·) ?_ rfl) rfl
    exact congrArg (fun n => (PR (ix2 _ n) : EReal)) (Fin.ext (by dsimp only; omega))
  · pointwise [rowB, colB, k0_pay31, k0_pay32]
    simp only [mul_zero, Finset.sum_const_zero, zero_add, sel_at, neg_inf]
    refine congrArg₂ (· * ·) (Finset.sum_congr rfl fun y _ => congrArg₂ (· * ·) ?_ rfl) rfl
    exact congrArg (fun n => (PR (ix2 _ n) : EReal)) (Fin.ext (by dsimp only; omega))

theorem res_at (j : ℕ) (hj : j < 8) (r : Fin 8) (st : Vec Ideal S1x1x64x256 .f32) (x : EReal) (hM : ∀ l, (M (ix3 0 r l) : EReal) = x) (l : Fin 128) (e : Fin 256) :
    (resC (F := Ideal) PR M X S hj r.isLt st (ix2 l e) : EReal)
      = (∑ s : Fin 128, (S (ix2 l s) : EReal) * if he : e.val < 128 then PR (ix2 ⟨128 * j + s.val, by omega⟩ ⟨512 + 128 * r.val + e.val, by omega⟩) else 0)
        + ∑ y : Fin 64, (PR (ix2 ⟨128 * j + l.val, by omega⟩ ⟨64 * r.val + y.val, by omega⟩) : EReal) * Ideal.exp (x - X (ix2 l ⟨r.val, by omega⟩)) * st (ix4 0 0 y e) := by
  unfold resC
  split
  · pointwise [rowB, colB, k0_pay33, k0_pay34]
    rw [sum256]
    simp only [hM, Fin.is_lt, dite_true, show ∀ y : ℕ, ¬ 128 + y < 128 from fun y => by omega, show ∀ y : ℕ, ¬ 192 + y < 128 from fun y => by omega, dite_false,
      show ∀ y : ℕ, 128 + y - 128 = y from fun y => by omega, show ∀ y : ℕ, ¬ 192 + y - 128 < 64 from fun y => by omega,
      show ∀ y : ℕ, 192 + y - 128 - 64 = y from fun y => by omega, mul_zero, Finset.sum_const_zero, add_zero]
    refine congrArg₂ (· + ·) rfl (Finset.sum_congr rfl fun y _ => congrArg₂ (· * ·) (congrArg₂ (· * ·) ?_ rfl) rfl)
    exact congrArg (fun n => (PR (ix2 _ n) : EReal)) (Fin.ext (by dsimp only; omega))
  · pointwise [rowB, colB, k0_pay33, k0_pay34]
    rw [sum256]
    simp only [hM, Fin.is_lt, dite_true, show ∀ y : ℕ, ¬ 128 + y < 128 from fun y => by omega, show ∀ y : ℕ, ¬ 192 + y < 128 from fun y => by omega, dite_false,
      show ∀ y : ℕ, 128 + y - 128 = y from fun y => by omega, show ∀ y : ℕ, ¬ 192 + y - 128 < 64 from fun y => by omega,
      show ∀ y : ℕ, 192 + y - 128 - 64 = y from fun y => by omega, mul_zero, Finset.sum_const_zero, zero_add]
    refine congrArg₂ (· + ·) rfl (Finset.sum_congr rfl fun y _ => congrArg₂ (· * ·) (congrArg₂ (· * ·) ?_ rfl) rfl)
    exact congrArg (fun n => (PR (ix2 _ n) : EReal)) (Fin.ext (by dsimp only; omega))

theorem quo_at (res : FVec Ideal S128x256 .f32) (fl : FVec Ideal S128x128 .f32) (l e : Fin 128) :
    (quoC (F := Ideal) S res fl (ix2 l e) : EReal)
      = Ideal.div (res (ix2 l ⟨e.val, by omega⟩)) (max (max ((∑ s : Fin 128, (S (ix2 l s) : EReal)) + res (ix2 l ⟨128 + e.val, by omega⟩))
          (-((∑ s : Fin 128, (S (ix2 l s) : EReal)) + res (ix2 l ⟨128 + e.val, by omega⟩)))) (fl (ix2 l e))) := by
  pointwise [quoC]
  rfl

/-- A head's norm. -/
def hnorm (x : Fin 128 → EReal) (e : Fin 128) : EReal :=
  x e * Ideal.rsqrt (Ideal.div (∑ i, x i * x i) (Ideal.ofBits .f32 0x43000000#32) + Ideal.ofBits .f32 0x358637BD#32)

theorem nrm_at (l e : Fin 128) : (nrmC (F := Ideal) X (ix2 l e) : EReal) = hnorm (fun i => X (ix2 l i)) e := by
  pointwise [nrmC, hnorm]

end

/-! ### The sums over the sequence -/

section
variable (f u : ℕ → ℝ)

theorem winMax_mid (g : ℕ → EReal) (c l : ℕ) (hl : l < 128) :
    winMax g 128 (128 * c + l) = (Finset.range (l + 1)).sup fun i => g (128 * c + i) := by
  rw [winMax, show min 128 ((128 * c + l) % 128 + 1) = l + 1 by omega]
  refine le_antisymm (Finset.sup_le fun i hi => ?_) (Finset.sup_le fun i hi => ?_) <;> rw [Finset.mem_range] at hi
  · have := Finset.le_sup (f := fun i => g (128 * c + i)) (Finset.mem_range.2 (show l - i < l + 1 by omega))
    rwa [show 128 * c + (l - i) = 128 * c + l - i by omega] at this
  · have := Finset.le_sup (f := fun i => g (128 * c + l - i)) (Finset.mem_range.2 (show l - i < l + 1 by omega))
    rwa [show 128 * c + l - (l - i) = 128 * c + i by omega] at this

/-- The stabiliser within a chunk. -/
theorem stab_mid (g : ℕ → EReal) (c l : ℕ) (hl : l < 128) :
    winSum (fun i => (f i : EReal)) 128 (128 * c + l)
      + max (stab f g (128 * c)) (winMax (fun i => g i - winSum (fun i => (f i : EReal)) 128 i) 128 (128 * c + l))
      = stab f g (128 * c + (l + 1)) := by
  rw [winMax_mid _ _ _ hl, winSum_run f c l hl]
  have e : ∀ i ∈ Finset.range (l + 1), g (128 * c + i) - winSum (fun i => (f i : EReal)) 128 (128 * c + i)
      = ((run f (128 * c) - run f (128 * c + i + 1) : ℝ) : EReal) + g (128 * c + i) := fun i hi => by
    rw [winSum_run f c i (by have := Finset.mem_range.1 hi; omega), sub_eq_add_neg, ← EReal.coe_neg, neg_sub, add_comm]
  rw [Finset.sup_congr rfl e, stab, ← max_add_add_left, ← max_add_add_left, coe_add_sup, coe_add_sup, stab, sup_range_add _ (128 * c) (l + 1), ← max_assoc]
  have h : ∀ x : ℝ, ∀ y : EReal, ((run f (128 * c + l + 1) - run f (128 * c) : ℝ) : EReal) + ((run f (128 * c) - x : ℝ) + y)
      = ((run f (128 * c + (l + 1)) - x : ℝ) : EReal) + y := fun x y => by
    rw [← add_assoc, ← EReal.coe_add]; congr 2; rw [show 128 * c + (l + 1) = 128 * c + l + 1 from rfl]; ring
  refine congrArg₂ max (congrArg₂ max ?_ (Finset.sup_congr rfl fun s _ => h _ _)) (Finset.sup_congr rfl fun s _ => h _ _)
  rw [← EReal.coe_add]; congr 1; rw [show 128 * c + (l + 1) = 128 * c + l + 1 from rfl]; ring

/-- A row's sum over the sequence, from the state it takes over and the tokens of its chunk. -/
theorem row_next (Q : Fin 64 → ℝ) (K : Fin 64 → ℕ → ℝ) (V : ℕ → ℝ) (S S' : ℝ) (t l : ℕ) (hl : l < 128) :
    (∑ s ∈ Finset.range 128, (∑ y, Q y * K y (t + s))
        * (if s ≤ l then Real.exp (u (t + s) - (run f (t + s + 1) - run f t) - (S' - (run f (t + (l + 1)) - run f t))) else 0) * V (t + s))
      + ∑ y, Q y * Real.exp (S - (S' - (run f (t + (l + 1)) - run f t))) * wsum f u (K y) V S t
      = ∑ y, Q y * wsum f u (K y) V S' (t + (l + 1)) := by
  have e : ∑ s ∈ Finset.range 128, (∑ y, Q y * K y (t + s))
        * (if s ≤ l then Real.exp (u (t + s) - (run f (t + s + 1) - run f t) - (S' - (run f (t + (l + 1)) - run f t))) else 0) * V (t + s)
      = ∑ s ∈ Finset.range (l + 1), (∑ y, Q y * K y (t + s)) * Real.exp (u (t + s) - (run f (t + s + 1) - run f t) - (S' - (run f (t + (l + 1)) - run f t))) * V (t + s) := by
    rw [← Finset.sum_subset (s₁ := Finset.range (l + 1))]
    · exact Finset.sum_congr rfl fun s hs => by rw [if_pos (by have := Finset.mem_range.1 hs; omega)]
    · intro s hs
      rw [Finset.mem_range] at hs ⊢
      omega
    · intro s _ hs
      rw [Finset.mem_range] at hs
      rw [if_neg (by omega), mul_zero, zero_mul]
  rw [e]
  simp only [← wsum_next f u _ V S S' t (l + 1), mul_add, Finset.sum_add_distrib, Finset.mul_sum, Finset.sum_mul]
  rw [add_comm, Finset.sum_comm]
  refine congrArg₂ (· + ·) ?_ ?_
  · exact Finset.sum_congr rfl fun y _ => by ring
  · exact Finset.sum_congr rfl fun y _ => Finset.sum_congr rfl fun s _ => by ring

end

end Cert.PromptValue
end
-- ==== Proof.PromptValue.RowSum.lean ====
module

public import proofs.«01_k».proof.Proof.PromptValue.RowVal

@[expose] public section
set_option maxRecDepth 16384
noncomputable section

/-! A head's rows as sums over the sequence. -/
namespace Cert.PromptValue
open Cert.PromptIdeal Cert.PromptIdeal.Gen Idealize.ShloMosaic Idealize.ShloMosaic.TcCoe Idealize.SL.Sem Cert.Gate

/-- The column of a component of a head's query, and the row of its key. -/
abbrev qI (r : Fin 8) (y : Fin 64) : Fin 2560 := ⟨64 * r.val + y.val, by omega⟩
abbrev kI (r : Fin 8) (y : Fin 64) : Fin 528 := ⟨64 * r.val + y.val, by omega⟩

variable (f u : ℕ → ℝ) (g : ℕ → EReal)

/-- A row's sum over the tokens up to it, each weighed by what the gates leave of it, over the row's stabiliser. -/
def rowN (Q K : Fin 64 → ℕ → ℝ) (V : ℕ → ℝ) (t : ℕ) : ℝ := ∑ y, Q y t * wsum f u (K y) V (stab f g (t + 1)).toReal (t + 1)
/-- A row's entry before the norm: the sum of the values over the sum of the weights, or over the floor where that is larger. -/
def rowQ (Q K : Fin 64 → ℕ → ℝ) (V : Fin 256 → ℕ → ℝ) (t : ℕ) (e : Fin 128) : EReal :=
  Ideal.div (rowN f u g Q K (V ⟨e.val, by omega⟩) t : EReal)
    (max (max (rowN f u g Q K (fun _ => 1) t : EReal) (-(rowN f u g Q K (fun _ => 1) t : EReal))) (Ideal.exp (0 - stab f g (t + 1))))

variable (hu : ∀ s, g s = (u s : EReal)) (IG LF : FVec Ideal S8x1024 .f32) (r : Fin 8) (h : ℕ)
  (hf : ∀ l : Fin 1024, (LF (ix2 r l) : EReal) = (f (1024 * h + l.val) : EReal))
  (hg : ∀ l : Fin 1024, (IG (ix2 r l) : EReal) = g (1024 * h + l.val))
include hf hg

theorem chunk_mid (j : ℕ) (hj : j < 8) (l : Fin 128) (x : EReal) (hx : x = stab f g (128 * (8 * h + j))) :
    (decays LF (ix2 r ⟨128 * j + l.val, by omega⟩) : EReal) + max x (maxes IG LF (ix2 r ⟨128 * j + l.val, by omega⟩)) = stab f g (128 * (8 * h + j) + (l.val + 1)) := by
  rw [decay_f f LF r h hf, max_f f g IG LF r h hf hg, hx]
  dsimp only
  rw [show 1024 * h + (128 * j + l.val) = 128 * (8 * h + j) + l.val by omega]
  exact stab_mid f g (8 * h + j) l.val l.isLt

include hu

theorem mx_mid (j : ℕ) (hj : j < 8) (l : Fin 128) (x : EReal) (hx : x = stab f g (128 * (8 * h + j))) :
    max x (maxes IG LF (ix2 r ⟨128 * j + l.val, by omega⟩))
      = (((stab f g (128 * (8 * h + j) + (l.val + 1))).toReal - (run f (128 * (8 * h + j) + (l.val + 1)) - run f (128 * (8 * h + j))) : ℝ) : EReal) := by
  have e := chunk_mid f g IG LF r h hf hg j hj l x hx
  rw [decay_f f LF r h hf] at e
  dsimp only at e
  rw [show 1024 * h + (128 * j + l.val) = 128 * (8 * h + j) + l.val by omega, winSum_run f (8 * h + j) l.val l.isLt, stab_real f u g hu,
    show 128 * (8 * h + j) + l.val + 1 = 128 * (8 * h + j) + (l.val + 1) from rfl] at e
  generalize max x (maxes IG LF (ix2 r ⟨128 * j + l.val, by omega⟩)) = z at e ⊢
  induction z with
  | bot => simp at e
  | top => rw [EReal.coe_add_top] at e; exact absurd e.symm (EReal.coe_ne_top _)
  | coe z =>
    rw [← EReal.coe_add] at e
    exact congrArg _ (by have := EReal.coe_injective e; linarith)

variable (PC : FVec Ideal S528x1024 .f32) (PR : FVec Ideal S1024x2560 .f32) (M : Vec Ideal S1x8x128 .f32) (j : ℕ) (hj : j < 8)
  (Q K : Fin 64 → ℕ → ℝ) (V : Fin 256 → ℕ → ℝ)
  (hQ : ∀ (y : Fin 64) (l : Fin 1024), (PR (ix2 l (qI r y)) : EReal) = (Q y (1024 * h + l.val) : EReal))
  (hK : ∀ (y : Fin 64) (l : Fin 1024), (PC (ix2 (kI r y) l) : EReal) = (K y (1024 * h + l.val) : EReal))
  (hM : ∀ l : Fin 128, (M (ix3 0 r l) : EReal) = stab f g (128 * (8 * h + j)))
include hQ hK hM

theorem score_real (l s : Fin 128) :
    (scoreC (F := Ideal) PC PR (ratios IG LF) (colsC (decays LF) (maxes IG LF) M hj) hj r.isLt (ix2 l s) : EReal)
      = (((∑ y, Q y (128 * (8 * h + j) + l.val) * K y (128 * (8 * h + j) + s.val))
        * (if s.val ≤ l.val then Real.exp (u (128 * (8 * h + j) + s.val) - (run f (128 * (8 * h + j) + s.val + 1) - run f (128 * (8 * h + j)))
          - ((stab f g (128 * (8 * h + j) + (l.val + 1))).toReal - (run f (128 * (8 * h + j) + (l.val + 1)) - run f (128 * (8 * h + j))))) else 0) : ℝ) : EReal) := by
  rw [score_at, cols_m, mx_mid f u g hu IG LF r h hf hg j hj l _ (hM l), ratio_at f u g hu IG LF r h hf hg j s _ rfl, EReal.coe_mul, coe_sum, ← EReal.coe_sub]
  refine congrArg₂ (· * ·) (Finset.sum_congr rfl fun y _ => ?_) ?_
  · rw [hQ, hK, ← EReal.coe_mul]
    dsimp only
    rw [show 1024 * h + (128 * j + l.val) = 128 * (8 * h + j) + l.val by omega, show 1024 * h + (128 * j + s.val) = 128 * (8 * h + j) + s.val by omega]
  · split
    · exact exp_coe _
    · rfl

variable (st : Vec Ideal S1x1x64x256 .f32) (hV : ∀ (e : Fin 256) (l : Fin 1024), vOne PR r l e = (V e (1024 * h + l.val) : EReal))
  (hst : ∀ (y : Fin 64) (e : Fin 256), (st (ix4 0 0 y e) : EReal) = (wsum f u (K y) (V e) (stab f g (128 * (8 * h + j))).toReal (128 * (8 * h + j)) : EReal))
include hst

theorem inter_real (l : Fin 128) (e : Fin 256) :
    (∑ y : Fin 64, (PR (ix2 ⟨128 * j + l.val, by omega⟩ ⟨64 * r.val + y.val, by omega⟩) : EReal)
        * Ideal.exp (stab f g (128 * (8 * h + j)) - colsC (F := Ideal) (decays LF) (maxes IG LF) M hj (ix2 l ⟨r.val, by omega⟩)) * st (ix4 0 0 y e))
      = ((∑ y, Q y (128 * (8 * h + j) + l.val) * Real.exp ((stab f g (128 * (8 * h + j))).toReal
          - ((stab f g (128 * (8 * h + j) + (l.val + 1))).toReal - (run f (128 * (8 * h + j) + (l.val + 1)) - run f (128 * (8 * h + j)))))
          * wsum f u (K y) (V e) (stab f g (128 * (8 * h + j))).toReal (128 * (8 * h + j)) : ℝ) : EReal) := by
  rw [cols_m, mx_mid f u g hu IG LF r h hf hg j hj l _ (hM l), coe_sum]
  refine Finset.sum_congr rfl fun y _ => ?_
  rw [hst, hQ, stab_real f u g hu (128 * (8 * h + j)), ← EReal.coe_sub, exp_coe, ← EReal.coe_mul, ← EReal.coe_mul, EReal.toReal_coe]
  dsimp only
  rw [show 1024 * h + (128 * j + l.val) = 128 * (8 * h + j) + l.val by omega]

include hV

theorem num_real (l e : Fin 128) :
    (resC (F := Ideal) PR M (colsC (decays LF) (maxes IG LF) M hj)
        (scoreC PC PR (ratios IG LF) (colsC (decays LF) (maxes IG LF) M hj) hj r.isLt) hj r.isLt st (ix2 l ⟨e.val, by omega⟩) : EReal)
      = (rowN f u g Q K (V ⟨e.val, by omega⟩) (128 * (8 * h + j) + l.val) : EReal) := by
  rw [res_at _ _ _ _ _ _ _ _ (stab f g (128 * (8 * h + j))) hM, inter_real f u g hu IG LF r h hf hg PC PR M j hj Q K V hQ hK hM st hst, rowN,
    show 128 * (8 * h + j) + l.val + 1 = 128 * (8 * h + j) + (l.val + 1) from rfl,
    ← row_next f u _ K _ (stab f g (128 * (8 * h + j))).toReal _ (128 * (8 * h + j)) l.val l.isLt, EReal.coe_add, coe_sum (Finset.range 128)]
  refine congrArg₂ (· + ·) ?_ rfl
  rw [← Fin.sum_univ_eq_sum_range (fun s => (((∑ y, Q y (128 * (8 * h + j) + l.val) * K y (128 * (8 * h + j) + s))
        * (if s ≤ l.val then Real.exp (u (128 * (8 * h + j) + s) - (run f (128 * (8 * h + j) + s + 1) - run f (128 * (8 * h + j)))
          - ((stab f g (128 * (8 * h + j) + (l.val + 1))).toReal - (run f (128 * (8 * h + j) + (l.val + 1)) - run f (128 * (8 * h + j))))) else 0)
        * V ⟨e.val, by omega⟩ (128 * (8 * h + j) + s) : ℝ) : EReal)) 128]
  refine Finset.sum_congr rfl fun s _ => ?_
  have := hV ⟨e.val, by omega⟩ ⟨128 * j + s.val, by omega⟩
  rw [show 1024 * h + (⟨128 * j + s.val, by omega⟩ : Fin 1024).val = 128 * (8 * h + j) + s.val by dsimp only; omega] at this
  exact (congrArg₂ (fun a b : EReal => a * b) (score_real f u g hu IG LF r h hf hg PC PR M j hj Q K hQ hK hM l s)
    ((dif_pos (show (⟨e.val, by omega⟩ : Fin 256).val < 128 from e.isLt)).trans ((dif_pos (show (⟨e.val, by omega⟩ : Fin 256).val < 128 from e.isLt)).symm.trans this))).trans (EReal.coe_mul _ _).symm

theorem den_real (hV1 : ∀ e : Fin 256, ¬ e.val < 128 → V e = fun _ => 1) (l e : Fin 128) :
    (∑ s : Fin 128, (scoreC (F := Ideal) PC PR (ratios IG LF) (colsC (decays LF) (maxes IG LF) M hj) hj r.isLt (ix2 l s) : EReal))
      + resC (F := Ideal) PR M (colsC (decays LF) (maxes IG LF) M hj)
        (scoreC PC PR (ratios IG LF) (colsC (decays LF) (maxes IG LF) M hj) hj r.isLt) hj r.isLt st (ix2 l ⟨128 + e.val, by omega⟩)
      = (rowN f u g Q K (fun _ => 1) (128 * (8 * h + j) + l.val) : EReal) := by
  rw [res_at _ _ _ _ _ _ _ _ (stab f g (128 * (8 * h + j))) hM, inter_real f u g hu IG LF r h hf hg PC PR M j hj Q K V hQ hK hM st hst, rowN,
    show 128 * (8 * h + j) + l.val + 1 = 128 * (8 * h + j) + (l.val + 1) from rfl,
    ← row_next f u _ K _ (stab f g (128 * (8 * h + j))).toReal _ (128 * (8 * h + j)) l.val l.isLt, EReal.coe_add, coe_sum (Finset.range 128), hV1 _ (by dsimp only; omega)]
  simp only [show ¬ 128 + e.val < 128 by omega, dite_false, mul_zero, Finset.sum_const_zero, zero_add, mul_one]
  refine congrArg₂ (· + ·) ?_ rfl
  rw [← Fin.sum_univ_eq_sum_range (fun s => (((∑ y, Q y (128 * (8 * h + j) + l.val) * K y (128 * (8 * h + j) + s))
        * (if s ≤ l.val then Real.exp (u (128 * (8 * h + j) + s) - (run f (128 * (8 * h + j) + s + 1) - run f (128 * (8 * h + j)))
          - ((stab f g (128 * (8 * h + j) + (l.val + 1))).toReal - (run f (128 * (8 * h + j) + (l.val + 1)) - run f (128 * (8 * h + j))))) else 0) : ℝ) : EReal)) 128]
  exact Finset.sum_congr rfl fun s _ => score_real f u g hu IG LF r h hf hg PC PR M j hj Q K hQ hK hM l s

/-- A head's rows of a chunk. -/
theorem tile_at (hV1 : ∀ e : Fin 256, ¬ e.val < 128 → V e = fun _ => 1) (l e : Fin 128) :
    (tile (F := Ideal) PC PR (decays LF) (ratios IG LF) (maxes IG LF) M hj r.isLt st (ix2 l e) : EReal)
      = hnorm (rowQ f u g Q K V (128 * (8 * h + j) + l.val)) e := by
  rw [tile, nrm_at]
  refine congrArg (fun x => hnorm x e) (funext fun i => ?_)
  rw [quo_at, den_real f u g hu IG LF r h hf hg PC PR M j hj Q K V hQ hK hM st hV hst hV1,
    num_real f u g hu IG LF r h hf hg PC PR M j hj Q K V hQ hK hM st hV hst, colB_at, cols_f, chunk_mid f g IG LF r h hf hg j hj l _ (hM l)]
  rfl

end Cert.PromptValue
end
-- ==== Proof.PromptValue.RowIter.lean ====
module

public import proofs.«01_k».proof.Proof.PromptValue.RowSum
public import proofs.«01_k».proof.Proof.PromptValue.State

@[expose] public section
set_option maxRecDepth 16384
noncomputable section

/-! The rows' writes read at a point. -/
namespace Cert.PromptValue
open Cert.PromptIdeal Cert.PromptIdeal.Gen Idealize.ShloMosaic Idealize.ShloMosaic.TcCoe Idealize.SL.Sem Cert.Gate

theorem mod_ne {n r : ℕ} (h : n + 1 ≤ r) (hr : r < 8) : ¬ r = n % 8 := by omega
theorem mod_ne' {n r e : ℕ} (h : r < n + 1) (h' : ¬ r = n) (hn : n + 1 ≤ 8) (he : e < 128) : ¬ (128 * (n % 8) ≤ 128 * r + e ∧ 128 * r + e < 128 * (n % 8) + 128) := by omega

section
variable (PC : FVec Ideal S528x1024 .f32) (PR : FVec Ideal S1024x2560 .f32) (B R C : FVec Ideal S8x1024 .f32) (M : Vec Ideal S1x8x128 .f32)
  (j : ℕ) (hj : j < 8) (ld : List (PieceS Ideal) → (r : LoadRect S1x8x64x256) → r.shape.Idx → Elt Ideal .f32) (L : List (PieceS Ideal)) (Y : List (PieceY Ideal))

theorem rY_idx {k : ℕ} (hk : k < 8) (l e : Fin 128) : (rY hj hk).emb (ix2 l e) = ix2 ⟨128 * j + l.val, by omega⟩ ⟨128 * k + e.val, by omega⟩ := by
  funext a
  fin_cases a <;> refine Fin.ext ?_ <;> simp [Rect.emb, Rect.unit]

theorem rY_mem {k : ℕ} (hk : k < 8) (p q : Fin 1024) (hne : ¬ (128 * j ≤ p.val ∧ p.val < 128 * j + 128) ∨ ¬ (128 * k ≤ q.val ∧ q.val < 128 * k + 128)) :
    ix2 p q ∉ (rY hj hk).set := by
  rw [Rect.mem_set_unit]
  intro hm
  have h0 := hm 0
  have h1 := hm 1
  change 128 * j ≤ p.val ∧ p.val < 128 * j + 128 at h0
  change 128 * k ≤ q.val ∧ q.val < 128 * k + 128 at h1
  exact hne.elim (fun h => h h0) (fun h => h h1)

/-- The heads before one leave its state. -/
theorem headS_at (W : List (PieceS Ideal) → S1x8x64x256.Idx → Elt Ideal .f32) (hld : ∀ L r x, ld L r x = W L (r.idx x)) (r : Fin 8) (y : Fin 64) (e : Fin 256)
    (n : ℕ) (hn : n ≤ r.val) : View.canon (headS (F := Ideal) PC PR R C M hj ld L n) (ix4 0 r y e) = View.canon L (ix4 0 r y e) := by
  induction n with
  | zero => rfl
  | succ n ih =>
    rw [headS, sPut_at PC PR _ _ j hj ld _ W hld, if_neg (mod_ne hn r.isLt)]
    exact ih (Nat.le_of_succ_le hn)

/-- The rows of another chunk stay. -/
theorem headY_old (p q : Fin 1024) (hp : ¬ (128 * j ≤ p.val ∧ p.val < 128 * j + 128)) (n : ℕ) :
    View.canon (headY (F := Ideal) PC PR B R C M hj ld L Y n) (ix2 p q) = View.canon Y (ix2 p q) := by
  induction n with
  | zero => rfl
  | succ n ih =>
    rw [headY]
    refine (View.canon_cons_of_not_mem _ _ ?_).trans ih
    exact rY_mem j hj (Nat.mod_lt n (by decide)) p q (.inl hp)

/-- A head's rows of the chunk. -/
theorem headY_at (r : Fin 8) (l e : Fin 128) (n : ℕ) (hn : n ≤ 8) (hr : r.val < n) :
    View.canon (headY (F := Ideal) PC PR B R C M hj ld L Y n) (ix2 ⟨128 * j + l.val, by omega⟩ ⟨128 * r.val + e.val, by omega⟩)
      = tile PC PR B R C M hj r.isLt (ld (headS PC PR R C M hj ld L r.val) (rS r.isLt).toLoadRect) (ix2 l e) := by
  induction n with
  | zero => omega
  | succ n ih =>
    by_cases h : r.val = n
    · subst h
      have key : ∀ k (hk : k < 8) (Z : List (PieceY Ideal)), k = r.val →
          View.canon (⟨rY hj hk, tile PC PR B R C M hj hk (ld (headS PC PR R C M hj ld L r.val) (rS hk).toLoadRect)⟩ :: Z)
            (ix2 ⟨128 * j + l.val, by omega⟩ ⟨128 * r.val + e.val, by omega⟩)
          = tile PC PR B R C M hj r.isLt (ld (headS PC PR R C M hj ld L r.val) (rS r.isLt).toLoadRect) (ix2 l e) := by
        rintro k hk Z rfl
        have e1 := View.canon_cons_emb (Val := Elt Ideal) (rY hj hk) (tile PC PR B R C M hj hk (ld (headS PC PR R C M hj ld L r.val) (rS hk).toLoadRect)) Z (ix2 l e)
        exact (congrArg _ (rY_idx j hj hk l e).symm).trans e1
      rw [headY]
      exact key (r.val % 8) (Nat.mod_lt _ (by decide)) _ (Nat.mod_eq_of_lt r.isLt)
    · rw [headY]
      refine (View.canon_cons_of_not_mem _ _ ?_).trans (ih (Nat.le_of_succ_le hn) (lt_of_le_of_ne (Nat.le_of_lt_succ hr) h))
      exact rY_mem j hj (Nat.mod_lt n (by decide)) _ _ (.inr (mod_ne' hr h hn e.isLt))

end

/-- A head's rows after the chunks: each the norm of its quotient. -/
theorem yIter_at (f u : ℕ → ℝ) (g : ℕ → EReal) (hu : ∀ s, g s = (u s : EReal)) (IG LF : FVec Ideal S8x1024 .f32) (r : Fin 8) (h : ℕ)
    (hf : ∀ l : Fin 1024, (LF (ix2 r l) : EReal) = (f (1024 * h + l.val) : EReal))
    (hg : ∀ l : Fin 1024, (IG (ix2 r l) : EReal) = g (1024 * h + l.val))
    (PC : FVec Ideal S528x1024 .f32) (PR : FVec Ideal S1024x2560 .f32) (M0 : Vec Ideal S1x8x128 .f32) (L0 : List (PieceM Ideal))
    (ldM : List (PieceM Ideal) → (r : LoadRect S1x8x128) → r.shape.Idx → Elt Ideal .f32)
    (ld0 ld : List (PieceS Ideal) → (r : LoadRect S1x8x64x256) → r.shape.Idx → Elt Ideal .f32) (L1 : List (PieceS Ideal))
    (Q K : Fin 64 → ℕ → ℝ) (V : Fin 256 → ℕ → ℝ)
    (hQ : ∀ (y : Fin 64) (l : Fin 1024), (PR (ix2 l (qI r y)) : EReal) = (Q y (1024 * h + l.val) : EReal))
    (hK : ∀ (y : Fin 64) (l : Fin 1024), (PC (ix2 (kI r y) l) : EReal) = (K y (1024 * h + l.val) : EReal))
    (hV : ∀ (e : Fin 256) (l : Fin 1024), vOne PR r l e = (V e (1024 * h + l.val) : EReal))
    (hV1 : ∀ e : Fin 256, ¬ e.val < 128 → V e = fun _ => 1)
    (hldM : ∀ L r x, ldM L r x = View.canon L (r.idx x)) (hld : ∀ L r x, ld L r x = View.canon L (r.idx x))
    (hM0 : ∀ l : Fin 128, (M0 (ix3 0 r l) : EReal) = stab f g (1024 * h))
    (W : List (PieceS Ideal) → S1x8x64x256.Idx → Elt Ideal .f32) (hld0 : ∀ L r x, ld0 L r x = W L (r.idx x))
    (hW : ∀ (y : Fin 64) (e : Fin 256), (W (headS (F := Ideal) PC PR (ratios IG LF) (maxes IG LF) M0 (j := 0) (by omega) ld0 L1 r.val) (ix4 0 r y e) : EReal)
      = (wsum f u (K y) (V e) (stab f g (1024 * h)).toReal (1024 * h) : EReal))
    (h0 : ∀ (y : Fin 64) (e : Fin 256), (View.canon (chunkS (F := Ideal) PC PR (ratios IG LF) (maxes IG LF) M0 (j := 0) (by omega) ld0 L1) (ix4 0 r y e) : EReal)
        = unitV PC PR (aC (ratios IG LF) (maxes IG LF) M0 (j := 0) (by omega)) (dC (maxes IG LF) M0 (j := 0) (by omega)) 0 (by omega) r y e
          (wsum f u (K y) (V e) (stab f g (1024 * h)).toReal (1024 * h) : EReal))
    (J : ℕ) (hJ : J < 8) (j : ℕ) (hj : j ≤ J) (l e : Fin 128) :
    (View.canon (yIter (F := Ideal) PC PR (decays LF) (ratios IG LF) (maxes IG LF) M0 L0 ldM ld0 ld L1 J)
        (ix2 ⟨128 * j + l.val, by omega⟩ ⟨128 * r.val + e.val, by omega⟩) : EReal)
      = hnorm (rowQ f u g Q K V (128 * (8 * h + j) + l.val)) e := by
  have hm := mIter_at f u g hu IG LF r h hf hg M0 L0 ldM hldM hM0
  induction J with
  | zero =>
    obtain rfl : j = 0 := by omega
    refine (headY_at PC PR _ _ _ M0 0 (by omega) ld0 L1 [] r l e 8 (by omega) r.isLt).trans ?_
    refine tile_at f u g hu IG LF r h hf hg PC PR M0 0 (by omega) Q K V hQ hK (fun l => hm 0 (by omega) l) _ hV (fun y e => ?_) hV1 l e
    rw [hld0, rS_idx, show 128 * (8 * h + 0) = 1024 * h by omega]
    exact hW y e
  | succ J ih =>
    by_cases hh : j = J + 1
    · subst hh
      have key : ∀ k (hk : k < 8) (p : Fin 1024), k = J + 1 → p.val = 128 * k + l.val → (View.canon (headY (F := Ideal) PC PR (decays LF) (ratios IG LF) (maxes IG LF) (mIter (decays LF) (maxes IG LF) M0 L0 ldM (J + 1)).2 hk ld
          (sIter PC PR (decays LF) (ratios IG LF) (maxes IG LF) M0 L0 ldM ld0 ld L1 J) (yIter PC PR (decays LF) (ratios IG LF) (maxes IG LF) M0 L0 ldM ld0 ld L1 J) 8)
            (ix2 p ⟨128 * r.val + e.val, by omega⟩) : EReal)
          = hnorm (rowQ f u g Q K V (128 * (8 * h + (J + 1)) + l.val)) e := by
        rintro k hk p rfl hp
        have ep : p = ⟨128 * (J + 1) + l.val, by omega⟩ := Fin.ext hp
        rw [ep]
        refine (headY_at PC PR _ _ _ _ (J + 1) hk ld _ _ r l e 8 (by omega) r.isLt).trans ?_
        refine tile_at f u g hu IG LF r h hf hg PC PR _ (J + 1) hk Q K V hQ hK (fun l => hm (J + 1) hk l) _ hV (fun y e => ?_) hV1 l e
        rw [hld, rS_idx, headS_at PC PR _ _ _ (J + 1) hk ld _ _ hld r y e r.val le_rfl]
        refine (sIter_at f u (K y) (V e) g hu IG LF r h hf hg PC PR M0 L0 ldM ld0 ld L1 y e hldM hld (hK y) (hV e) hM0 _ rfl (h0 y e) J (by omega)).trans ?_
        rw [show 128 * (8 * h + J) + 128 = 128 * (8 * h + (J + 1)) by omega]
      rw [yIter]
      exact key ((J + 1) % 8) (by omega) _ (by omega) (by dsimp only; omega)
    · exact (headY_old PC PR _ _ _ _ _ _ ld _ _ _ _ (by dsimp only; omega) 8).trans (ih (by omega) (by omega))

end Cert.PromptValue
end
-- ==== Proof.PromptValue.StateRef.lean ====
module

public import proofs.«01_k».proof.Proof.PromptValue.Ref
public import proofs.«01_k».proof.Proof.PromptValue.State

@[expose] public section
set_option maxRecDepth 16384
noncomputable section

/-! The reference's carried state as a sum over the sequence. -/
namespace Cert.PromptRefValue
open Cert.PromptRefIdeal Cert.PromptRefIdeal.Read Idealize.ShloMosaic Idealize.ShloMosaic.TcCoe Idealize.SL.Sem Cert.Layer Cert.Gate

variable (x0 : (⟨S8x2048x1024, .f32⟩ : BufTy).Contents (Elt Ideal)) (x1 : (⟨S8x6x1x1024, .f32⟩ : BufTy).Contents (Elt Ideal)) (x2 : (⟨S1024, .f32⟩ : BufTy).Contents (Elt Ideal))
  (x3 : (⟨S1024x2560, .bf16⟩ : BufTy).Contents (Elt Ideal)) (x4 : (⟨S768x1024, .bf16⟩ : BufTy).Contents (Elt Ideal)) (x5 : (⟨S16, .f32⟩ : BufTy).Contents (Elt Ideal))

/-- Component `y` of head `r`'s key at row `s`. -/
def kP (b r : Fin 8) (y : Fin 64) (s : Fin 2048) : EReal := proj (hP x0 x1 x2 b s) (fun j => x4 (ix2 ⟨64 * r.val + y.val, by omega⟩ j))

/-- Component `e` of head `r`'s value at row `s`, and ones beside the value. -/
def vP (b r : Fin 8) (e : Fin 256) (s : Fin 2048) : EReal :=
  if h : e.val < 128 then proj (hP x0 x1 x2 b s) (fun j => x3 (ix2 j ⟨512 + 128 * r.val + e.val, by omega⟩)) else 1

theorem v40_at (b r : Fin 8) (y : Fin 64) (s : Fin 2048) : (val_main_v40 x0 x1 x2 x4 (ix4 b r s y) : EReal) = kP x0 x1 x2 x4 b r y s := by
  pointwise [val_main_v2, val_main_v36, val_main_v37, val_main_v38, val_main_v39, val_main_v40, kP, proj]
  simp only [v27_at]
  refine Finset.sum_congr rfl fun x _ => congrArg₂ (· * ·) rfl ?_
  exact congrArg (fun n => (x4 (ix2 n x) : EReal)) (Fin.ext (by dsimp only; omega))

theorem v34_at (b r : Fin 8) (e : Fin 128) (s : Fin 2048) : (val_main_v34 x0 x1 x2 x3 (ix4 b r s e) : EReal) = vP x0 x1 x2 x3 b r ⟨e.val, by omega⟩ s := by
  pointwise [val_main_v1, val_main_v28, val_main_v32, val_main_v33, val_main_v34, vP, proj]
  simp only [v27_at]
  refine Finset.sum_congr rfl fun x _ => congrArg₂ (· * ·) rfl ?_
  exact congrArg (fun n => (x3 (ix2 x n) : EReal)) (Fin.ext (by dsimp only; omega))

variable (hf : ∀ b r s, IsReal (fgP x0 x1 x2 x4 x5 b r s))
include hf

theorem v103_at (b r : Fin 8) (s : Fin 2048) : (val_main_v103 x0 x1 x2 x4 x5 (ix3 b r s) : EReal)
    = Ideal.exp ((run (lfP x0 x1 x2 x4 x5 b r) 2048 : EReal) - (run (lfP x0 x1 x2 x4 x5 b r) (s.val + 1) : EReal) + igP x0 x1 x2 x4 x5 b r s
        - stab (lfP x0 x1 x2 x4 x5 b r) (igS x0 x1 x2 x4 x5 b r) 2048) := by
  pointwise [val_main_v103, val_main_v102, val_main_v101, val_main_v100, val_main_v99, val_main_v98, val_main_v97, val_main_v96, val_main_v95, val_main_v94]
  rw [v67_at _ _ _ _ _ hf, v67_at _ _ _ _ _ hf, v78_at _ _ _ _ _ hf, v48_at]
  rfl

theorem v135_at (b r : Fin 8) (y : Fin 64) (e : Fin 256) : (val_main_v135 x0 x1 x2 x3 x4 x5 (ix4 b r y e) : EReal)
    = ∑ s : Fin 2048, val_main_v103 x0 x1 x2 x4 x5 (ix3 b r s) * kP x0 x1 x2 x4 b r y s * vP x0 x1 x2 x3 b r e s := by
  pointwise [val_main_v135, val_main_v134, val_main_v133, val_main_v108, val_main_v107, val_main_v106, val_main_v105, val_main_v104]
  simp only [v40_at, v34_at]
  split
  · rfl
  · rename_i he
    refine Finset.sum_congr rfl fun s _ => ?_
    rw [vP, dif_neg he, mul_one]

/-- The carried state after the sequence. -/
theorem state_at (b r : Fin 8) (y : Fin 64) (e : Fin 256) (u K V : ℕ → ℝ) (hu : ∀ s, igS x0 x1 x2 x4 x5 b r s = (u s : EReal))
    (hk : ∀ s : Fin 2048, kP x0 x1 x2 x4 b r y s = (K s.val : EReal)) (hv : ∀ s : Fin 2048, vP x0 x1 x2 x3 b r e s = (V s.val : EReal)) :
    (val_main_v135 x0 x1 x2 x3 x4 x5 (ix4 b r y e) : EReal)
      = (Cert.PromptValue.wsum (lfP x0 x1 x2 x4 x5 b r) u K V (stab (lfP x0 x1 x2 x4 x5 b r) (igS x0 x1 x2 x4 x5 b r) 2048).toReal 2048 : EReal) := by
  rw [v135_at _ _ _ _ _ _ hf, Cert.PromptValue.wsum, coe_sum,
    ← Fin.sum_univ_eq_sum_range (fun s => ((K s * Real.exp (run (lfP x0 x1 x2 x4 x5 b r) 2048 - run (lfP x0 x1 x2 x4 x5 b r) (s + 1) + u s
      - (stab (lfP x0 x1 x2 x4 x5 b r) (igS x0 x1 x2 x4 x5 b r) 2048).toReal) * V s : ℝ) : EReal)) 2048]
  refine Finset.sum_congr rfl fun s _ => ?_
  rw [v103_at _ _ _ _ _ hf, hk, hv, ← igS_fin, hu, Cert.PromptValue.stab_real _ u _ hu, ← EReal.coe_sub, ← EReal.coe_add, ← EReal.coe_sub,
    Cert.PromptValue.exp_coe, ← EReal.coe_mul, ← EReal.coe_mul, mul_comm (K s.val), EReal.toReal_coe]

end Cert.PromptRefValue
end
-- ==== Proof.PromptValue.RowRef.lean ====
module

public import proofs.«01_k».proof.Proof.PromptValue.StateRef
public import proofs.«01_k».proof.Proof.PromptValue.RowSum

@[expose] public section
set_option maxRecDepth 16384
noncomputable section

/-! The reference's rows as sums over the sequence. -/
namespace Cert.PromptRefValue
open Cert.PromptRefIdeal Cert.PromptRefIdeal.Read Idealize.ShloMosaic Idealize.ShloMosaic.TcCoe Idealize.SL.Sem Cert.Layer Cert.Gate Cert.PromptValue

variable (x0 : (⟨S8x2048x1024, .f32⟩ : BufTy).Contents (Elt Ideal)) (x1 : (⟨S8x6x1x1024, .f32⟩ : BufTy).Contents (Elt Ideal)) (x2 : (⟨S1024, .f32⟩ : BufTy).Contents (Elt Ideal))
  (x3 : (⟨S1024x2560, .bf16⟩ : BufTy).Contents (Elt Ideal)) (x4 : (⟨S768x1024, .bf16⟩ : BufTy).Contents (Elt Ideal)) (x5 : (⟨S16, .f32⟩ : BufTy).Contents (Elt Ideal))
  (x6 : (⟨S1024, .f32⟩ : BufTy).Contents (Elt Ideal)) (x7 : (⟨S1024x1024, .bf16⟩ : BufTy).Contents (Elt Ideal))

/-- Column `n` of the row product at row `s`. -/
def rowP (b : Fin 8) (s : Fin 2048) (n : Fin 2560) : EReal := proj (hP x0 x1 x2 b s) (fun j => x3 (ix2 j n))

theorem v31_at (b r : Fin 8) (y : Fin 64) (s : Fin 2048) : (val_main_v31 x0 x1 x2 x3 (ix4 b r s y) : EReal) = rowP x0 x1 x2 x3 b s (qI r y) := by
  pointwise [val_main_v1, val_main_v28, val_main_v29, val_main_v30, val_main_v31, rowP, proj]
  simp only [v27_at]
  refine Finset.sum_congr rfl fun x _ => congrArg₂ (· * ·) rfl ?_
  exact congrArg (fun n => (x3 (ix2 x n) : EReal)) (Fin.ext (by dsimp only; omega))

theorem v35_at (b : Fin 8) (s : Fin 2048) (n : Fin 1024) : (val_main_v35 x0 x1 x2 x3 (ix3 b s n) : EReal) = rowP x0 x1 x2 x3 b s ⟨1536 + n.val, by omega⟩ := by
  pointwise [val_main_v1, val_main_v28, val_main_v35, rowP, proj]
  simp only [v27_at]

/-- What one row adds: the head rows by their gain and gate, projected, over the modulation's third row. -/
def mixRow (x md : Row) (Y gh o : Row) (w : Fin 1024 → Fin 1024 → EReal) (d : Fin 1024) : EReal :=
  x d + md d * ∑ n, (Y n * gh n * Ideal.div 1 (1 + Ideal.exp (-o n))) * w n d

section
variable (hf : ∀ b r s, IsReal (fgP x0 x1 x2 x4 x5 b r s)) (b r : Fin 8) (u : ℕ → ℝ) (Q K : Fin 64 → ℕ → ℝ) (V : Fin 256 → ℕ → ℝ)
  (hu : ∀ s, igS x0 x1 x2 x4 x5 b r s = (u s : EReal))
  (hq : ∀ y (s : Fin 2048), rowP x0 x1 x2 x3 b s (qI r y) = (Q y s.val : EReal))
  (hk : ∀ y (s : Fin 2048), kP x0 x1 x2 x4 b r y s = (K y s.val : EReal))
  (hv : ∀ e (s : Fin 2048), vP x0 x1 x2 x3 b r e s = (V e s.val : EReal))
include hf hu hq hk

/-- A weight of a row: the score by what the gates leave of the token, and none after the row. -/
theorem v84_at (t s : Fin 2048) : (val_main_v84 x0 x1 x2 x3 x4 x5 (ix4 b r t s) : EReal)
    = if s.val ≤ t.val then (((∑ y, Q y t.val * K y s.val) * Real.exp (run (lfP x0 x1 x2 x4 x5 b r) (t.val + 1) - run (lfP x0 x1 x2 x4 x5 b r) (s.val + 1) + u s.val
        - (stab (lfP x0 x1 x2 x4 x5 b r) (igS x0 x1 x2 x4 x5 b r) (t.val + 1)).toReal) : ℝ) : EReal) else 0 := by
  pointwise [val_main_v84, val_main_v83, val_main_v82, val_main_v81, val_main_v80, val_main_v79, val_main_v64, val_main_v63, val_main_v62, val_main_v61, val_main_v60, val_main_v59, val_main_v58, val_main_v68, val_main_v69, val_main_v70, val_main_v71, val_main_v72, val_main_v73, val_main_v74, val_main_v75, val_main_cst_5, val_main_call2_v0, val_main_call2_v1, val_main_call2_v2, val_main_v76]
  rw [sge_pick t.isLt s.isLt, v78_at _ _ _ _ _ hf, v67_at _ _ _ _ _ hf, v67_at _ _ _ _ _ hf, v48_at, ← igS_fin]
  simp only [v31_at, v40_at, hq, hk, hu]
  rw [stab_real _ u _ hu]
  split
  · rw [← EReal.coe_sub, ← EReal.coe_add, ← EReal.coe_sub, exp_coe, EReal.toReal_coe]
    refine Eq.trans ?_ (EReal.coe_mul _ _).symm
    rw [coe_sum]
    simp only [EReal.coe_mul]
  · have hz : ∀ a z S : EReal, z = ⊥ → a * Ideal.exp (z - S) = 0 := by
      rintro a _ S rfl
      rw [EReal.bot_sub, show Ideal.exp (⊥ : EReal) = 0 from rfl, mul_zero]
    exact hz _ _ _ neg_inf

omit hf hu hq hk in
theorem rowN_eq (f : ℕ → ℝ) (g : ℕ → EReal) (W : ℕ → ℝ) (t : ℕ) : rowN f u g Q K W t
    = ∑ s ∈ Finset.range (t + 1), (∑ y, Q y t * K y s) * Real.exp (run f (t + 1) - run f (s + 1) + u s - (stab f g (t + 1)).toReal) * W s := by
  simp only [rowN, wsum, Finset.mul_sum, Finset.sum_mul]
  rw [Finset.sum_comm]
  exact Finset.sum_congr rfl fun s _ => Finset.sum_congr rfl fun y _ => by ring

theorem sum84 (W : ℕ → ℝ) (t : Fin 2048) : (∑ s : Fin 2048, (val_main_v84 x0 x1 x2 x3 x4 x5 (ix4 b r t s) : EReal) * (W s.val : EReal))
    = (rowN (lfP x0 x1 x2 x4 x5 b r) u (igS x0 x1 x2 x4 x5 b r) Q K W t.val : EReal) := by
  rw [rowN_eq, coe_sum]
  refine Eq.trans (Finset.sum_congr rfl fun s _ => ?_) (sum_upto (fun s => (((∑ y, Q y t.val * K y s)
    * Real.exp (run (lfP x0 x1 x2 x4 x5 b r) (t.val + 1) - run (lfP x0 x1 x2 x4 x5 b r) (s + 1) + u s
        - (stab (lfP x0 x1 x2 x4 x5 b r) (igS x0 x1 x2 x4 x5 b r) (t.val + 1)).toReal) * W s : ℝ) : EReal)) t)
  rw [v84_at x0 x1 x2 x3 x4 x5 hf b r u Q K hu hq hk]
  split
  · exact (EReal.coe_mul _ _).symm
  · rw [zero_mul]

include hv

theorem v93_at (t : Fin 2048) (e : Fin 128) : (val_main_v93 x0 x1 x2 x3 x4 x5 (ix4 b r t e) : EReal)
    = rowQ (lfP x0 x1 x2 x4 x5 b r) u (igS x0 x1 x2 x4 x5 b r) Q K V t.val e := by
  have hn := sum84 x0 x1 x2 x3 x4 x5 hf b r u Q K hu hq hk (V ⟨e.val, by omega⟩) t
  have hd := sum84 x0 x1 x2 x3 x4 x5 hf b r u Q K hu hq hk (fun _ => 1) t
  simp only [EReal.coe_one, mul_one] at hd
  pointwise [val_main_v93, val_main_v92, val_main_v91, val_main_v90, val_main_v89, val_main_v88, val_main_v87, val_main_v86, val_main_v85]
  simp only [v34_at, hv]
  rw [hn, v78_at _ _ _ _ _ hf, hd, show (val_main_cst_7 (F := Ideal) (Shape.Idx.first Gen.h_S_) : EReal) = 0 from Ideal.ofBits_zero_f32, zero_add, rowQ, zero_sub]
  rfl

theorem v118_at (t : Fin 2048) (e : Fin 128) : (val_main_v118 x0 x1 x2 x3 x4 x5 (ix4 b r t e) : EReal)
    = hnorm (rowQ (lfP x0 x1 x2 x4 x5 b r) u (igS x0 x1 x2 x4 x5 b r) Q K V t.val) e := by
  pointwise [val_main_v118, val_main_v117, val_main_v116, val_main_v115, val_main_v114, val_main_v113, val_main_v112, val_main_v111, val_main_v110, val_main_v109, val_main_cst_8, val_main_cst_9, val_main_cst_10]
  simp only [v93_at x0 x1 x2 x3 x4 x5 hf b r u Q K V hu hq hk hv]
  rfl

end

theorem v141_at (b : Fin 8) (t : Fin 2048) (d : Fin 1024) : (val_main_v141 x0 x1 x2 x3 x4 x5 x6 x7 (ix3 b t d) : EReal)
    = mixRow (fun k => x0 (ix3 b t k)) (fun k => x1 (ix4 b 2 0 k)) (fun n => val_main_v118 x0 x1 x2 x3 x4 x5 (ix4 b ⟨n.val / 128, by omega⟩ t ⟨n.val % 128, by omega⟩))
        (fun n => x6 (ix1 n)) (fun n => rowP x0 x1 x2 x3 b t ⟨1536 + n.val, by omega⟩) (fun n d => x7 (ix2 n d)) d := by
  pointwise [val_main_v141, val_main_v140, val_main_v139, val_main_v138, val_main_v137, val_main_v136, val_main_v132, val_main_v131, val_main_v130, val_main_v129, val_main_v128, val_main_v127, val_main_v126, val_main_v125, val_main_v124, val_main_v123, val_main_v122, val_main_v121, val_main_v120, val_main_v119, val_main_v0, val_main_cst_11, val_main_cst_12, mixRow]
  simp only [v35_at]

end Cert.PromptRefValue
end
-- ==== Proof.PromptValue.Pre.lean ====
module

public import proofs.«01_k».proof.Proof.PromptValue.Final
public import proofs.«01_k».proof.Defs
public import Idealize.ShloMosaic.Lib.WordCmp

@[expose] public section
set_option maxRecDepth 16384
noncomputable section

/-! What the precondition gives: the entries that reach the gates are real. -/
namespace Cert.PromptValue
open Cert.PromptIdeal Cert.PromptIdeal.Gen Idealize.ShloMosaic Idealize.ShloMosaic.TcCoe Idealize.SL.Sem Cert.Layer Cert.Gate Cert.PromptRefValue

theorem pre_facts : Cert.Pre_finite.Facts where
  bcast_S_S8x2048x1024 := by decide
  bcast_S_S8x6x1x1024 := by decide
  bcast_S_S1024 := by decide
  bitsLt_bf16_f32 := by decide
  bcast_S_S1024x2560 := by decide
  bcast_S_S768x1024 := by decide
  bcast_S_S16 := by decide

/-- An entry that the precondition's comparison accepts is real. -/
theorem real_of_lt (x : EReal) (h : FloatOps.cmpf (F := Ideal) (φ := .f32) .olt (FloatOps.hostAbsf (F := Ideal) (φ := .f32) x) (Ideal.ofBits .f32 0x7F800000#32) = 1#1) : IsReal x := by
  refine IsReal.of_abs_lt ?_
  have e : Ideal.ofBits .f32 0x7F800000#32 = (⊤ : EReal) := by simp [Ideal.ofBits, Ideal.ieee]
  rw [e] at h
  by_contra hn
  rw [Ideal.cmpf_def] at h
  change BitVec.ofBool (decide (max x (-x) < ⊤)) = 1#1 at h
  rw [decide_eq_false hn] at h
  exact absurd h (by decide)

variable (m : (ℓ : Loc nD τ sig) → Buf (Elt Ideal) ℓ) (c : Dev nD)

theorem pre_real (h : letI := pre_facts; Cert.Pre_PromptIdeal_finite m) :
    (∀ b s k, IsReal (a0 m c (ix3 b s k))) ∧ (∀ b n k, IsReal (a1 m c (ix4 b n 0 k))) ∧ (∀ k, IsReal (a2 m c (ix1 k)))
      ∧ (∀ j n, IsReal ((m ((c.tc : Thread nD τ).loc main_arg3) : FVec Ideal S1024x2560 .bf16) (ix2 j n)))
      ∧ (∀ n k, IsReal (a4 m c (ix2 n k))) ∧ (∀ n, IsReal (a5 m c (ix1 n))) := by
  obtain ⟨h0, h1, h2, h3, h4, h5⟩ := h c
  exact ⟨fun b s k => real_of_lt _ (congrFun h0 (ix3 b s k)), fun b n k => real_of_lt _ (congrFun h1 (ix4 b n 0 k)),
    fun k => real_of_lt _ (congrFun h2 (ix1 k)), fun j n => real_of_lt _ (congrFun h3 (ix2 j n)),
    fun n k => real_of_lt _ (congrFun h4 (ix2 n k)), fun n => real_of_lt _ (congrFun h5 (ix1 n))⟩

/-- The forget gates' pre-activations are real. -/
theorem gates_real (h : letI := pre_facts; Cert.Pre_PromptIdeal_finite m) (b r : Fin 8) (s : Fin 2048) :
    IsReal (fgP (a0 m c) (a1 m c) (a2 m c) (a4 m c) (a5 m c) b r s) := by
  obtain ⟨h0, h1, h2, _, h4, h5⟩ := pre_real m c h
  exact fgP_real _ _ _ _ _ h0 h1 h2 h4 h5 b r s

end Cert.PromptValue
end
-- ==== Proof.PromptValue.StateFin.lean ====
module

public import proofs.«01_k».proof.Proof.PromptValue.Body
public import proofs.«01_k».proof.Proof.PromptValue.StateRef
public import proofs.«01_k».proof.Proof.PromptValue.Pre

@[expose] public section
set_option maxRecDepth 16384
noncomputable section

/-! The carried state the call returns is the reference's. -/
namespace Cert.PromptValue
open Cert.PromptIdeal Cert.PromptIdeal.Gen Idealize.ShloMosaic Idealize.ShloMosaic.TcCoe Idealize.SL.Sem Cert.Layer Cert.Gate Cert.PromptRefValue

/-- The row product's columns of the values. -/
theorem pay30_at (x : FVec Ideal S1x1024x1024 .f32) (g : FVec Ideal S1x1024 .f32) (sh sc : FVec Ideal S1x1x1x1024 .f32)
    (w : FVec Ideal S1024x2560 .bf16) (n : Fin 2560) (l : Fin 1024) :
    (k0_pay30 (F := Ideal) (k0_pay12 (k0_pay7 x) (k0_pay8 g) (k0_pay9 sh) (k0_pay10 sc) (k0_pay11 x)) w (ix2 l n) : EReal)
      = proj (modRow (fun k => x (ix3 0 l k)) (fun k => g (ix2 0 k)) (fun k => sh (ix4 0 0 0 k)) (fun k => sc (ix4 0 0 0 k))) (fun k => w (ix2 k n)) := by
  pointwise [k0_pay7, k0_pay8, k0_pay9, k0_pay10, k0_pay11, k0_pay12, k0_pay30, proj, modRow, rrms]

variable (m : (ℓ : Loc nD τ sig) → Buf (Elt Ideal) ℓ) (c : Dev nD)

theorem idx1 : ∀ t : Fin cfg0.N, win0_3.index t = ![0, 0] ∧ win0_11.index t = ![t.val / 2, 0, 0, 0] :=
  (by decide +kernel : ∀ t : Fin grid0.N, _)

abbrev a3 : FVec Ideal S1024x2560 .bf16 := m ((c.tc : Thread nD τ).loc main_arg3)

theorem rd3 (t : Fin cfg0.N) (k : Fin 1024) (n : Fin 2560) : (iblk m c 3 t (ix2 k n) : EReal) = a3 m c (ix2 k n) := by
  blk_simp [iblk, idx1 t]
  entry_read
  blk_ext [idx1 t]

/-- The keys of a step. -/
theorem pcol_at (t : Fin cfg0.N) (ht : t.val < 16) (r : Fin 8) (y : Fin 64) (l : Fin 1024) :
    (pcol m c t (ix2 ⟨64 * r.val + y.val, by omega⟩ l) : EReal)
      = kP (a0 m c) (a1 m c) (a2 m c) (a4 m c) ⟨t.val / 2, by omega⟩ r y ⟨1024 * (t.val % 2) + l.val, by omega⟩ := by
  unfold pcol kP hP
  rw [show (⟨64 * r.val + y.val, by omega⟩ : Fin 528) = ⟨(⟨64 * r.val + y.val, by omega⟩ : Fin 512).val, by omega⟩ from rfl, pay13_k]
  simp only [rd0 m c t ht, rd2 m c t]
  pointwise []
  simp only [rd1 m c t ht, rd4 m c t]

/-- The values of a step. -/
theorem prow_at (t : Fin cfg0.N) (ht : t.val < 16) (r : Fin 8) (e : Fin 256) (l : Fin 1024) :
    vOne (prow m c t) r l e
      = vP (a0 m c) (a1 m c) (a2 m c) (a3 m c) ⟨t.val / 2, by omega⟩ r e ⟨1024 * (t.val % 2) + l.val, by omega⟩ := by
  unfold vOne vP
  split
  · unfold prow hP
    rw [pay30_at]
    simp only [rd0 m c t ht, rd2 m c t]
    pointwise []
    simp only [rd1 m c t ht, rd3 m c t]
  · rfl

section
variable (hpre : letI := pre_facts; Cert.Pre_PromptIdeal_finite m)

/-- The input gate, the keys and the values as real sequences. -/
def uR (b r : Fin 8) (s : ℕ) : ℝ := (igS (a0 m c) (a1 m c) (a2 m c) (a4 m c) (a5 m c) b r s).toReal
def kR (b r : Fin 8) (y : Fin 64) (s : ℕ) : ℝ := (kP (a0 m c) (a1 m c) (a2 m c) (a4 m c) b r y ⟨s % 2048, by omega⟩).toReal
def vR (b r : Fin 8) (e : Fin 256) (s : ℕ) : ℝ := (vP (a0 m c) (a1 m c) (a2 m c) (a3 m c) b r e ⟨s % 2048, by omega⟩).toReal

include hpre

theorem uR_eq (b r : Fin 8) (s : ℕ) : igS (a0 m c) (a1 m c) (a2 m c) (a4 m c) (a5 m c) b r s = (uR m c b r s : EReal) := by
  obtain ⟨h0, h1, h2, h3, h4, h5⟩ := pre_real m c hpre
  have h := igP_real (a0 m c) (a1 m c) (a2 m c) (a4 m c) (a5 m c) h0 h1 h2 h4 h5 b r
  unfold uR igS
  first
  | exact (h _).coe_toReal.symm
  | obtain ⟨q, hq⟩ := h ⟨s % 2048, by omega⟩
    rw [hq]
    rfl

theorem kR_eq (b r : Fin 8) (y : Fin 64) (s : Fin 2048) : kP (a0 m c) (a1 m c) (a2 m c) (a4 m c) b r y s = (kR m c b r y s.val : EReal) := by
  obtain ⟨h0, h1, h2, h3, h4, h5⟩ := pre_real m c hpre
  have e : (⟨s.val % 2048, by omega⟩ : Fin 2048) = s := Fin.ext (by dsimp only; omega)
  obtain ⟨q, hq⟩ : IsReal (kP (a0 m c) (a1 m c) (a2 m c) (a4 m c) b r y s) :=
    proj_real (hP_real _ _ _ h0 h1 h2 b s) (fun j => h4 _ j)
  rw [kR, e, hq]
  rfl

theorem vR_eq (b r : Fin 8) (e : Fin 256) (s : Fin 2048) : vP (a0 m c) (a1 m c) (a2 m c) (a3 m c) b r e s = (vR m c b r e s.val : EReal) := by
  obtain ⟨h0, h1, h2, h3, h4, h5⟩ := pre_real m c hpre
  have e1 : (⟨s.val % 2048, by omega⟩ : Fin 2048) = s := Fin.ext (by dsimp only; omega)
  obtain ⟨q, hq⟩ : IsReal (vP (a0 m c) (a1 m c) (a2 m c) (a3 m c) b r e s) := by
    unfold vP
    split
    · exact proj_real (hP_real _ _ _ h0 h1 h2 b s) (fun j => h3 j _)
    · exact ⟨1, rfl⟩
  rw [vR, e1, hq]
  rfl

/-- The carried state after the first half of a sequence. -/
theorem stateA (t : Fin cfg0.N) (ht : t.val < 16) (h0 : t.val % 2 = 0) (r : Fin 8) (y : Fin 64) (e : Fin 256) :
    ((outsAt0 m c t.val t.isLt).2.1 (ix4 0 r y e) : EReal)
      = (wsum (lfP (a0 m c) (a1 m c) (a2 m c) (a4 m c) (a5 m c) ⟨t.val / 2, by omega⟩ r) (uR m c ⟨t.val / 2, by omega⟩ r)
          (kR m c ⟨t.val / 2, by omega⟩ r y) (vR m c ⟨t.val / 2, by omega⟩ r e)
          (stab (lfP (a0 m c) (a1 m c) (a2 m c) (a4 m c) (a5 m c) ⟨t.val / 2, by omega⟩ r)
            (igS (a0 m c) (a1 m c) (a2 m c) (a4 m c) (a5 m c) ⟨t.val / 2, by omega⟩ r) 1024).toReal 1024 : EReal) := by
  obtain ⟨L0, ldM, ld, L1, hM, hS, hz, ho⟩ := outSA m c t h0
  have e1 := fun l => gF_at m c (gates_real m c hpre) t ht r l
  have e2 := fun l => gI_at m c t ht r l
  have e3 := fun l => (pcol_at m c t ht r y l).trans (kR_eq m c hpre _ _ _ _)
  have e4 := fun l => (prow_at m c t ht r e l).trans (vR_eq m c hpre _ _ _ _)
  simp only [h0] at e1 e2 e3 e4
  rw [ho]
  refine sIter_at _ _ _ _ _ (uR_eq m c hpre _ _) _ _ r 0 e1 e2 _ _ _ L0 ldM ld ld L1 y e hM hS e3 e4 (fun l => ?_) 0 ?_ ?_ 7 (by omega)
  · rw [Nat.mul_zero, stab_zero]
    pointwise [k0_pay6]
  · rw [Nat.mul_zero, wsum_zero]
    rfl
  · rw [chunkS_at _ _ _ _ _ _ _ _ _ hS, hz]
    refine congrArg _ ?_
    pointwise [k0_pay5]

/-- The carried state after a sequence. -/
theorem stateB (t : Fin cfg0.N) (ht : t.val < 16) (h0 : ¬ t.val % 2 = 0) (r : Fin 8) (y : Fin 64) (e : Fin 256) :
    ((outsAt0 m c t.val t.isLt).2.1 (ix4 0 r y e) : EReal)
      = (wsum (lfP (a0 m c) (a1 m c) (a2 m c) (a4 m c) (a5 m c) ⟨t.val / 2, by omega⟩ r) (uR m c ⟨t.val / 2, by omega⟩ r)
          (kR m c ⟨t.val / 2, by omega⟩ r y) (vR m c ⟨t.val / 2, by omega⟩ r e)
          (stab (lfP (a0 m c) (a1 m c) (a2 m c) (a4 m c) (a5 m c) ⟨t.val / 2, by omega⟩ r)
            (igS (a0 m c) (a1 m c) (a2 m c) (a4 m c) (a5 m c) ⟨t.val / 2, by omega⟩ r) 2048).toReal 2048 : EReal) := by
  obtain ⟨ldM, ld0, ld, hM, hS, hz, ho⟩ := outSB m c t h0
  have e1 := fun l => gF_at m c (gates_real m c hpre) t ht r l
  have e2 := fun l => gI_at m c t ht r l
  have e3 := fun l => (pcol_at m c t ht r y l).trans (kR_eq m c hpre _ _ _ _)
  have e4 := fun l => (prow_at m c t ht r e l).trans (vR_eq m c hpre _ _ _ _)
  have h1 : t.val % 2 = 1 := by omega
  have ed : (⟨(t.val - 1) / 2, by omega⟩ : Fin 8) = ⟨t.val / 2, by omega⟩ := Fin.ext (by dsimp only; omega)
  simp only [h1] at e1 e2 e3 e4
  rw [ho]
  refine sIter_at _ _ _ _ _ (uR_eq m c hpre _ _) _ _ r 1 e1 e2 _ _ _ [] ldM ld0 ld [] y e hM hS e3 e4 (fun l => ?_)
    ((outsAt0 m c (t.val - 1) (lt_of_le_of_lt (Nat.sub_le _ _) t.isLt)).2.1 (ix4 0 r y e)) ?_ ?_ 7 (by omega)
  · refine (stabA m c (gates_real m c hpre) ⟨t.val - 1, lt_of_le_of_lt (Nat.sub_le _ _) t.isLt⟩ (by dsimp only; omega) (by dsimp only; omega) r l).trans ?_
    dsimp only
    rw [ed]
  · refine (stateA m c hpre ⟨t.val - 1, lt_of_le_of_lt (Nat.sub_le _ _) t.isLt⟩ (by dsimp only; omega) (by dsimp only; omega) r y e).trans ?_
    dsimp only
    rw [ed]
  · rw [chunkS_at0 _ _ _ _ _ _ _ _ _ _ hz]

theorem fin11 : (dats m 0 c).arrAt 11 cfg0.N
    = Cert.PromptRefIdeal.Read.val_main_v135 (F := Ideal) (a0 m c) (a1 m c) (a2 m c) (a3 m c) (a4 m c) (a5 m c) := by
  refine (dats m 0 c).arrAt_eq_of_covers 11 _ (by decide +kernel) fun t hfl y => ?_
  have ht : t.val < 16 := t.isLt
  have h1 : t.val % 2 = 1 := (flush0_11 t).mp hfl
  blk_simp
  rw [after0_11]
  refine Eq.trans ?_ (((stateB m c hpre t ht (by omega) (y 1) (y 2) (y 3)).trans (state_at (a0 m c) (a1 m c) (a2 m c) (a3 m c) (a4 m c) (a5 m c) (gates_real m c hpre)
    ⟨t.val / 2, by omega⟩ (y 1) (y 2) (y 3) _ _ _ (uR_eq m c hpre _ _) (kR_eq m c hpre _ _ _) (vR_eq m c hpre _ _ _)).symm).trans ?_)
  · refine congrArg _ ?_
    blk_ext [idx1 t]
  · blk_ext [idx1 t]

end

end Cert.PromptValue
end
-- ==== Proof.PromptValue.RowFin.lean ====
module

public import proofs.«01_k».proof.Proof.PromptValue.RowBody
public import proofs.«01_k».proof.Proof.PromptValue.RowIter
public import proofs.«01_k».proof.Proof.PromptValue.RowRef
public import proofs.«01_k».proof.Proof.PromptValue.StateFin

@[expose] public section
set_option maxRecDepth 16384
noncomputable section

/-! The rows the call returns are the reference's. -/
namespace Cert.PromptValue
open Cert.PromptIdeal Cert.PromptIdeal.Gen Idealize.ShloMosaic Idealize.ShloMosaic.TcCoe Idealize.SL.Sem Cert.Layer Cert.Gate Cert.PromptRefValue

/-- What a step writes out, a row at a time. -/
theorem pay2_at (x : FVec Ideal S1x1024x1024 .f32) (p : FVec Ideal S1024x2560 .f32) (Y : Vec Ideal S1024x1024 .f32) (gh : Vec Ideal S1x1024 .f32)
    (md : Vec Ideal S1x1x1x1024 .f32) (w : Vec Ideal S1024x1024 .bf16) (l d : Fin 1024) :
    (k0_pay2 (F := Ideal) (k0_pay7 x) p Y gh md w (ix3 0 l d) : EReal)
      = mixRow (fun k => x (ix3 0 l k)) (fun k => md (ix4 0 0 0 k)) (fun n => Y (ix2 l n)) (fun n => gh (ix2 0 n))
          (fun n => p (ix2 l ⟨1536 + n.val, by omega⟩)) (fun n d => w (ix2 n d)) d := by
  pointwise [k0_pay2, k0_pay7, mixRow]
  rfl

variable (m : (ℓ : Loc nD τ sig) → Buf (Elt Ideal) ℓ) (c : Dev nD)

theorem idx2 : ∀ t : Fin cfg0.N, win0_6.index t = ![0, 0] ∧ win0_7.index t = ![0, 0] ∧ win0_10.index t = ![t.val / 2, t.val % 2, 0] :=
  (by decide +kernel : ∀ t : Fin grid0.N, _)

abbrev a6 : FVec Ideal S1024 .f32 := m ((c.tc : Thread nD τ).loc main_arg6)
abbrev a7 : FVec Ideal S1024x1024 .bf16 := m ((c.tc : Thread nD τ).loc main_arg7)

theorem rd6 (t : Fin cfg0.N) (k : Fin 1024) : (iblk m c 6 t (ix2 0 k) : EReal) = a6 m c (ix1 k) := by
  blk_simp [iblk, idx2 t]
  entry_read
  refine Eq.trans (b := (shapeCast S1x1024 (a6 m c) shapeCasts_S1024_S1x1024 (ix2 0 k) : EReal)) ?_ ?_
  · blk_ext [idx2 t]
  · pointwise []

theorem rd7 (t : Fin cfg0.N) (n d : Fin 1024) : (iblk m c 7 t (ix2 n d) : EReal) = a7 m c (ix2 n d) := by
  blk_simp [iblk, idx2 t]
  entry_read
  blk_ext [idx2 t]

/-- The row product of a step. -/
theorem prowq_at (t : Fin cfg0.N) (ht : t.val < 16) (l : Fin 1024) (n : Fin 2560) :
    (prow m c t (ix2 l n) : EReal) = rowP (a0 m c) (a1 m c) (a2 m c) (a3 m c) ⟨t.val / 2, by omega⟩ ⟨1024 * (t.val % 2) + l.val, by omega⟩ n := by
  unfold prow rowP hP
  rw [pay30_at]
  simp only [rd0 m c t ht, rd2 m c t]
  pointwise []
  simp only [rd1 m c t ht, rd3 m c t]

theorem yout_at (t : Fin cfg0.N) (ht : t.val < 16) (Y : Vec Ideal S1024x1024 .f32) (l d : Fin 1024)
    (hY : ∀ n : Fin 1024, (Y (ix2 l n) : EReal) = Cert.PromptRefIdeal.Read.val_main_v118 (F := Ideal) (a0 m c) (a1 m c) (a2 m c) (a3 m c) (a4 m c) (a5 m c)
      (ix4 ⟨t.val / 2, by omega⟩ ⟨n.val / 128, by omega⟩ ⟨1024 * (t.val % 2) + l.val, by omega⟩ ⟨n.val % 128, by omega⟩)) :
    (yout m c t Y (ix3 0 l d) : EReal)
      = Cert.PromptRefIdeal.Read.val_main_v141 (F := Ideal) (a0 m c) (a1 m c) (a2 m c) (a3 m c) (a4 m c) (a5 m c) (a6 m c) (a7 m c)
          (ix3 ⟨t.val / 2, by omega⟩ ⟨1024 * (t.val % 2) + l.val, by omega⟩ d) := by
  rw [v141_at, yout, pay2_at]
  simp only [hY, rd0 m c t ht, rd6 m c t, rd7 m c t, prowq_at m c t ht]
  pointwise []
  simp only [rd1 m c t ht]

section
variable (hpre : letI := pre_facts; Cert.Pre_PromptIdeal_finite m)

/-- The queries as real sequences. -/
def qR (b r : Fin 8) (y : Fin 64) (s : ℕ) : ℝ := (rowP (a0 m c) (a1 m c) (a2 m c) (a3 m c) b ⟨s % 2048, by omega⟩ (qI r y)).toReal

theorem vR_one (b r : Fin 8) (e : Fin 256) (he : ¬ e.val < 128) : vR m c b r e = fun _ => 1 := by
  funext s
  rw [vR, vP, dif_neg he]
  rfl

include hpre

theorem qR_eq (b r : Fin 8) (y : Fin 64) (s : Fin 2048) : rowP (a0 m c) (a1 m c) (a2 m c) (a3 m c) b s (qI r y) = (qR m c b r y s.val : EReal) := by
  obtain ⟨h0, h1, h2, h3, h4, h5⟩ := pre_real m c hpre
  have e : (⟨s.val % 2048, by omega⟩ : Fin 2048) = s := Fin.ext (by dsimp only; omega)
  obtain ⟨q, hq⟩ : IsReal (rowP (a0 m c) (a1 m c) (a2 m c) (a3 m c) b s (qI r y)) :=
    proj_real (hP_real _ _ _ h0 h1 h2 b s) (fun j => h3 j _)
  rw [qR, e, hq]
  rfl

/-- The reference's normed head rows. -/
theorem ref_row (b r : Fin 8) (s : Fin 2048) (e : Fin 128) (k : ℕ) (hk : k = s.val) :
    hnorm (rowQ (lfP (a0 m c) (a1 m c) (a2 m c) (a4 m c) (a5 m c) b r) (uR m c b r) (igS (a0 m c) (a1 m c) (a2 m c) (a4 m c) (a5 m c) b r)
        (qR m c b r) (kR m c b r) (vR m c b r) k) e
      = Cert.PromptRefIdeal.Read.val_main_v118 (F := Ideal) (a0 m c) (a1 m c) (a2 m c) (a3 m c) (a4 m c) (a5 m c) (ix4 b r s e) := by
  subst hk
  exact (v118_at (a0 m c) (a1 m c) (a2 m c) (a3 m c) (a4 m c) (a5 m c) (gates_real m c hpre) b r (uR m c b r) (qR m c b r) (kR m c b r) (vR m c b r)
    (uR_eq m c hpre b r) (qR_eq m c hpre b r) (kR_eq m c hpre b r) (vR_eq m c hpre b r) s e).symm

/-- The rows of the first half of a sequence. -/
theorem rowsOne (t : Fin cfg0.N) (ht : t.val < 16) (h0 : t.val % 2 = 0) (l d : Fin 1024) :
    ((outsAt0 m c t.val t.isLt).1 (ix3 0 l d) : EReal)
      = Cert.PromptRefIdeal.Read.val_main_v141 (F := Ideal) (a0 m c) (a1 m c) (a2 m c) (a3 m c) (a4 m c) (a5 m c) (a6 m c) (a7 m c)
          (ix3 ⟨t.val / 2, by omega⟩ ⟨1024 * (t.val % 2) + l.val, by omega⟩ d) := by
  obtain ⟨L0, ldM, ld, L1, hM, hS, hz, ho⟩ := youtA m c t h0
  rw [ho]
  refine yout_at m c t ht _ l d fun n => ?_
  have e1 := fun l => gF_at m c (gates_real m c hpre) t ht ⟨n.val / 128, by omega⟩ l
  have e2 := fun l => gI_at m c t ht ⟨n.val / 128, by omega⟩ l
  have e3 := fun y l => (pcol_at m c t ht ⟨n.val / 128, by omega⟩ y l).trans (kR_eq m c hpre _ _ _ _)
  have e4 := fun e l => (prow_at m c t ht ⟨n.val / 128, by omega⟩ e l).trans (vR_eq m c hpre _ _ _ _)
  have e5 := fun y l => (prowq_at m c t ht l (qI ⟨n.val / 128, by omega⟩ y)).trans (qR_eq m c hpre _ _ _ _)
  simp only [h0] at e1 e2 e3 e4 e5
  have hx : ∀ (y : Fin 64) (e : Fin 256), (View.canon L1 (ix4 0 ⟨n.val / 128, by omega⟩ y e) : EReal)
      = (wsum (lfP (a0 m c) (a1 m c) (a2 m c) (a4 m c) (a5 m c) ⟨t.val / 2, by omega⟩ ⟨n.val / 128, by omega⟩) (uR m c ⟨t.val / 2, by omega⟩ ⟨n.val / 128, by omega⟩)
          (kR m c ⟨t.val / 2, by omega⟩ ⟨n.val / 128, by omega⟩ y) (vR m c ⟨t.val / 2, by omega⟩ ⟨n.val / 128, by omega⟩ e)
          (stab (lfP (a0 m c) (a1 m c) (a2 m c) (a4 m c) (a5 m c) ⟨t.val / 2, by omega⟩ ⟨n.val / 128, by omega⟩)
            (igS (a0 m c) (a1 m c) (a2 m c) (a4 m c) (a5 m c) ⟨t.val / 2, by omega⟩ ⟨n.val / 128, by omega⟩) (1024 * 0)).toReal (1024 * 0) : EReal) := fun y e => by
    rw [hz, Nat.mul_zero, wsum_zero]
    pointwise [k0_pay5]
    try rfl
  have hh := yIter_at _ _ _ (uR_eq m c hpre _ _) _ _ ⟨n.val / 128, by omega⟩ 0 e1 e2 (pcol m c t) (prow m c t) (k0_pay6 (F := Ideal)) L0 ldM ld ld L1 _ _ _ e5 e3 e4
    (vR_one m c _ _) hM hS (fun l => by
      rw [Nat.mul_zero, stab_zero]
      pointwise [k0_pay6]) (fun L => View.canon L) hS
    (fun y e => (headS_at _ _ _ _ _ 0 (by omega) ld L1 _ hS _ y e _ le_rfl).trans (hx y e))
    (fun y e => by
      rw [chunkS_at _ _ _ _ _ _ _ _ _ hS]
      exact congrArg _ (hx y e)) 7 (by omega) (l.val / 128) (by omega) ⟨l.val % 128, by omega⟩ ⟨n.val % 128, by omega⟩
  refine Eq.trans ?_ (hh.trans (ref_row m c hpre _ _ _ _ _ (by dsimp only; omega)))
  exact congrArg _ (congrArg₂ ix2 (Fin.ext (by dsimp only; omega)) (Fin.ext (by dsimp only; omega)))

/-- The rows of the second half. -/
theorem rowsTwo (t : Fin cfg0.N) (ht : t.val < 16) (h0 : ¬ t.val % 2 = 0) (l d : Fin 1024) :
    ((outsAt0 m c t.val t.isLt).1 (ix3 0 l d) : EReal)
      = Cert.PromptRefIdeal.Read.val_main_v141 (F := Ideal) (a0 m c) (a1 m c) (a2 m c) (a3 m c) (a4 m c) (a5 m c) (a6 m c) (a7 m c)
          (ix3 ⟨t.val / 2, by omega⟩ ⟨1024 * (t.val % 2) + l.val, by omega⟩ d) := by
  obtain ⟨ldM, ld0, ld, hM, hS, hz, ho⟩ := youtB m c t h0
  rw [ho]
  refine yout_at m c t ht _ l d fun n => ?_
  have e1 := fun l => gF_at m c (gates_real m c hpre) t ht ⟨n.val / 128, by omega⟩ l
  have e2 := fun l => gI_at m c t ht ⟨n.val / 128, by omega⟩ l
  have e3 := fun y l => (pcol_at m c t ht ⟨n.val / 128, by omega⟩ y l).trans (kR_eq m c hpre _ _ _ _)
  have e4 := fun e l => (prow_at m c t ht ⟨n.val / 128, by omega⟩ e l).trans (vR_eq m c hpre _ _ _ _)
  have e5 := fun y l => (prowq_at m c t ht l (qI ⟨n.val / 128, by omega⟩ y)).trans (qR_eq m c hpre _ _ _ _)
  have h1 : t.val % 2 = 1 := by omega
  have ed : (⟨(t.val - 1) / 2, by omega⟩ : Fin 8) = ⟨t.val / 2, by omega⟩ := Fin.ext (by dsimp only; omega)
  simp only [h1] at e1 e2 e3 e4 e5
  have hx := fun (y : Fin 64) (e : Fin 256) => stateA m c hpre ⟨t.val - 1, lt_of_le_of_lt (Nat.sub_le _ _) t.isLt⟩ (by dsimp only; omega) (by dsimp only; omega) ⟨n.val / 128, by omega⟩ y e
  dsimp only at hx
  rw [ed] at hx
  have hh := yIter_at _ _ _ (uR_eq m c hpre _ _) _ _ ⟨n.val / 128, by omega⟩ 1 e1 e2 (pcol m c t) (prow m c t) _ [] ldM ld0 ld [] _ _ _ e5 e3 e4
    (vR_one m c _ _) hM hS (fun l => by
      refine (stabA m c (gates_real m c hpre) ⟨t.val - 1, lt_of_le_of_lt (Nat.sub_le _ _) t.isLt⟩ (by dsimp only; omega) (by dsimp only; omega) _ l).trans ?_
      dsimp only
      rw [ed]) (fun _ => (outsAt0 m c (t.val - 1) (lt_of_le_of_lt (Nat.sub_le _ _) t.isLt)).2.1) hz
    (fun y e => hx y e)
    (fun y e => by
      rw [chunkS_at0 _ _ _ _ _ _ _ _ _ _ hz]
      exact congrArg _ (hx y e)) 7 (by omega) (l.val / 128) (by omega) ⟨l.val % 128, by omega⟩ ⟨n.val % 128, by omega⟩
  refine Eq.trans ?_ (hh.trans (ref_row m c hpre _ _ _ _ _ (by dsimp only; omega)))
  exact congrArg _ (congrArg₂ ix2 (Fin.ext (by dsimp only; omega)) (Fin.ext (by dsimp only; omega)))

theorem fin10 : (dats m 0 c).arrAt 10 cfg0.N
    = Cert.PromptRefIdeal.Read.val_main_v141 (F := Ideal) (a0 m c) (a1 m c) (a2 m c) (a3 m c) (a4 m c) (a5 m c) (a6 m c) (a7 m c) := by
  refine (dats m 0 c).arrAt_eq_of_covers 10 _ (by decide +kernel) fun t hfl y => ?_
  have ht : t.val < 16 := t.isLt
  blk_simp
  rw [after0_10]
  have e := if h0 : t.val % 2 = 0 then rowsOne m c hpre t ht h0 (y 1) (y 2) else rowsTwo m c hpre t ht h0 (y 1) (y 2)
  refine Eq.trans ?_ (e.trans ?_)
  · refine congrArg _ ?_
    blk_ext [idx2 t]
  · blk_ext [idx2 t]

end

end Cert.PromptValue
end
-- ==== Proof.lean ====
module

public import proofs.«01_k».proof.Defs
public import proofs.«01_k».proof.Proof.Gen.Conv
public import proofs.«01_k».proof.Proof.Gen.Conv.Skeleton
public import proofs.«01_k».proof.Proof.Gen.Conv.Launch
public import proofs.«01_k».proof.Proof.Gen.Conv.Points
public import proofs.«01_k».proof.Proof.Gen.Conv.Frame
public import proofs.«01_k».proof.Proof.Gen.ConvIdeal
public import proofs.«01_k».proof.Proof.Gen.ConvIdeal.Skeleton
public import proofs.«01_k».proof.Proof.Gen.ConvIdeal.Launch
public import proofs.«01_k».proof.Proof.Gen.ConvIdeal.Points
public import proofs.«01_k».proof.Proof.Gen.ConvIdeal.Frame
public import proofs.«01_k».proof.Proof.Gen.ConvRefIdeal
public import proofs.«01_k».proof.Proof.Gen.ConvRefIdeal.Run
public import proofs.«01_k».proof.Proof.Gen.ConvRefIdeal.Read
public import proofs.«01_k».proof.Proof.ConvRun.Value
public import proofs.«01_k».proof.Proof.ConvRun.Same
public import proofs.«01_k».proof.Proof.ConvValue.Final
public import proofs.«01_k».proof.Proof.Gen.Mlp
public import proofs.«01_k».proof.Proof.Gen.MlpIdeal
public import proofs.«01_k».proof.Proof.Gen.MlpIdeal.Frame
public import proofs.«01_k».proof.Proof.Gen.MlpIdeal.Launch
public import proofs.«01_k».proof.Proof.Gen.MlpIdeal.Skeleton
public import proofs.«01_k».proof.Proof.Gen.MlpIdeal.Points
public import proofs.«01_k».proof.Proof.Gen.MlpRefIdeal
public import proofs.«01_k».proof.Proof.Gen.MlpRefIdeal.Run
public import proofs.«01_k».proof.Proof.Gen.MlpRefIdeal.Read
public import proofs.«01_k».proof.Proof.MlpRun.Value
public import proofs.«01_k».proof.Proof.MlpRun.Same
public import proofs.«01_k».proof.Proof.MlpValue.Final
public import proofs.«01_k».proof.Proof.Gen.First
public import proofs.«01_k».proof.Proof.Gen.FirstIdeal
public import proofs.«01_k».proof.Proof.Gen.FirstIdeal.Frame
public import proofs.«01_k».proof.Proof.Gen.FirstIdeal.Launch
public import proofs.«01_k».proof.Proof.Gen.FirstIdeal.Skeleton
public import proofs.«01_k».proof.Proof.Gen.FirstIdeal.Points
public import proofs.«01_k».proof.Proof.Gen.FirstRefIdeal
public import proofs.«01_k».proof.Proof.Gen.FirstRefIdeal.Run
public import proofs.«01_k».proof.Proof.Gen.FirstRefIdeal.Read
public import proofs.«01_k».proof.Proof.FirstRun.Value
public import proofs.«01_k».proof.Proof.FirstRun.Same
public import proofs.«01_k».proof.Proof.FirstValue.Final
public import proofs.«01_k».proof.Proof.Gen.Ada
public import proofs.«01_k».proof.Proof.Gen.Ada.Frame
public import proofs.«01_k».proof.Proof.Gen.AdaIdeal
public import proofs.«01_k».proof.Proof.Gen.AdaIdeal.Frame
public import proofs.«01_k».proof.Proof.Gen.AdaIdeal.Value
public import proofs.«01_k».proof.Proof.Gen.AdaRefIdeal
public import proofs.«01_k».proof.Proof.Gen.AdaRefIdeal.Run
public import proofs.«01_k».proof.Proof.Gen.AdaRefIdeal.Read
public import proofs.«01_k».proof.Proof.AdaValue.Final
public import proofs.«01_k».proof.Proof.PromptValue.RowFin
public import proofs.«01_k».proof.Proof.PromptValue.Pre
public import proofs.«01_k».proof.Proof.Gen.Prompt
public import proofs.«01_k».proof.Proof.Gen.Prompt.Frame
public import proofs.«01_k».proof.Proof.Gen.PromptIdeal
public import proofs.«01_k».proof.Proof.Gen.PromptIdeal.Frame
public import proofs.«01_k».proof.Proof.Gen.PromptIdeal.Value
public import proofs.«01_k».proof.Proof.Gen.PromptRefIdeal
public import proofs.«01_k».proof.Proof.Gen.PromptRefIdeal.Run
public import proofs.«01_k».proof.Proof.Gen.PromptRefIdeal.Read
public import Idealize.ShloMosaic.Adequacy
public import Idealize.ShloMosaic.Init

@[expose] public section

noncomputable section

namespace Cert.Proof

open Idealize.ShloMosaic Idealize.SL.Sem Cert.Conv

theorem conv_ref_frame : Cert.quiescent_ConvRefIdeal := fun m ρ _ =>
  (θ_run _ _ _).mono (fun r h => ⟨fun c => (h c).2.2.2.2.2.2, funext fun s => (show False from by rcases s with ⟨_, s⟩; rcases s with s | s <;> exact s.elim0).elim⟩) (Cert.ConvRefIdeal.Value.run (F := Ideal) m ρ)

theorem conv_algebraic : Cert.algebraic_ConvIdeal_ConvRefIdeal := by
  intro m ρ m' ρ' _ hagree
  refine ⟨_, _, _, _, _, _, Cert.ConvIdeal.Value.run_blocks (F := Ideal) m ρ,
    (θ_run _ _ _).mono (fun r h c => ?_) (Cert.ConvRefIdeal.Value.run (F := Ideal) m' ρ')⟩
  obtain ⟨e0, e1, e2, e3, e4, e5, hk⟩ := h c
  obtain ⟨g0, g1, g2, g3, g4, g5, g6, g7, g8, g9, g10⟩ := hagree c
  refine ⟨e0.trans ?_, e1.trans ?_, e2.trans ?_, e3.trans ?_, e4.trans ?_, e5.trans ?_, hk⟩
  · rw [Cert.ConvRefIdeal.Read.val_main_v63_eq, g0, g1, g4, g5, g6, g7]
    exact (Cert.ConvValue.fin11 m c).symm
  · refine (Cert.ConvRefIdeal.Read.val_main_v57_eq _ _ _ _).trans ?_
    rw [g0, g1, g4, g5]
    exact (Cert.ConvValue.fin12 m c).symm
  · rw [Cert.ConvRefIdeal.Read.val_main_v132_eq, g2, g3, g4, g5, g6, g7, g8]
    exact (Cert.ConvValue.fin13 m c).symm
  · rw [Cert.ConvRefIdeal.Read.val_main_v133_eq, g2, g3, g4, g5, g8]
    exact (Cert.ConvValue.fin14 m c).symm
  · refine (Cert.ConvRefIdeal.Read.val_main_v136_eq _).trans ?_
    rw [g9]
    exact (Cert.ConvValue.fin15 m c).symm
  · refine (Cert.ConvRefIdeal.Read.val_main_v139_eq _).trans ?_
    rw [g10]
    exact (Cert.ConvValue.fin16 m c).symm

theorem mlp_ref_frame : Cert.quiescent_MlpRefIdeal := fun m ρ _ =>
  (θ_run _ _ _).mono (fun r h => ⟨fun c => (h c).2.2, funext fun s => (show False from by rcases s with ⟨_, s⟩; rcases s with s | s <;> exact s.elim0).elim⟩) (Cert.MlpRefIdeal.Value.run (F := Ideal) m ρ)

theorem mlp_algebraic : Cert.algebraic_MlpIdeal_MlpRefIdeal := by
  intro m ρ m' ρ' _ hagree
  refine ⟨_, _, Cert.MlpIdeal.Value.run_blocks (F := Ideal) m ρ,
    (θ_run _ _ _).mono (fun r h c => ?_) (Cert.MlpRefIdeal.Value.run (F := Ideal) m' ρ')⟩
  obtain ⟨e0, e1, hk⟩ := h c
  obtain ⟨g0, g1, g2, g3, g4, g5, g6, g7⟩ := hagree c
  refine ⟨e0.trans ?_, e1.trans ?_, hk⟩
  · rw [Cert.MlpRefIdeal.Read.val_main_v91_eq, g0, g1, g4, g5, g6, g7]
    exact (Cert.MlpValue.fin8 m c).symm
  · rw [Cert.MlpRefIdeal.Read.val_main_v106_eq, g2, g3, g4, g5, g6, g7]
    exact (Cert.MlpValue.fin9 m c).symm

theorem first_ref_frame : Cert.quiescent_FirstRefIdeal := fun m ρ _ =>
  (θ_run _ _ _).mono (fun r h => ⟨fun c => (h c).2.2.2.2, funext fun s => (show False from by rcases s with ⟨_, s⟩; rcases s with s | s <;> exact s.elim0).elim⟩) (Cert.FirstRefIdeal.Value.run (F := Ideal) m ρ)

theorem first_algebraic : Cert.algebraic_FirstIdeal_FirstRefIdeal := by
  intro m ρ m' ρ' _ hagree
  refine ⟨_, _, _, _, Cert.FirstIdeal.Value.run_blocks (F := Ideal) m ρ,
    (θ_run _ _ _).mono (fun r h c => ?_) (Cert.FirstRefIdeal.Value.run (F := Ideal) m' ρ')⟩
  obtain ⟨e0, e1, e2, e3, hk⟩ := h c
  obtain ⟨g0, g1, g2, g3, g4, g5, g6, g7, g8, g9, g10⟩ := hagree c
  refine ⟨e0.trans ?_, e1.trans ?_, e2.trans ?_, e3.trans ?_, hk⟩
  · rw [Cert.FirstRefIdeal.Read.val_main_v38_eq, g0, g1, g6, g7, g8]
    exact (Cert.FirstValue.fin11 m c).symm
  · rw [Cert.FirstRefIdeal.Read.val_main_v90_eq, g2, g3, g4, g5, g6, g7, g8]
    exact (Cert.FirstValue.fin12 m c).symm
  · refine (Cert.FirstRefIdeal.Read.val_main_v92_eq _).trans ?_
    rw [g9]
    exact (Cert.FirstValue.fin13 m c).symm
  · refine (Cert.FirstRefIdeal.Read.val_main_v94_eq _).trans ?_
    rw [g10]
    exact (Cert.FirstValue.fin14 m c).symm

theorem ada_ref_frame : Cert.quiescent_AdaRefIdeal := fun m ρ _ =>
  (θ_run _ _ _).mono (fun r h => ⟨fun c => (h c).2, funext fun s => (show False from by rcases s with ⟨_, s⟩; rcases s with s | s <;> exact s.elim0).elim⟩) (Cert.AdaRefIdeal.Value.run (F := Ideal) m ρ)

theorem ada_algebraic : Cert.algebraic_AdaIdeal_AdaRefIdeal := by
  intro m ρ m' ρ' _ hagree
  refine ⟨_, Cert.AdaIdeal.Value.run_blocks (F := Ideal) m ρ,
    (θ_run _ _ _).mono (fun r h c => ?_) (Cert.AdaRefIdeal.Value.run (F := Ideal) m' ρ')⟩
  obtain ⟨e0, hk⟩ := h c
  obtain ⟨g0, g1, g2, g3⟩ := hagree c
  refine ⟨e0.trans ?_, hk⟩
  rw [Cert.AdaRefIdeal.Read.val_main_v46_eq, g0, g1, g2, g3]
  exact (Cert.AdaValue.fin3 m c).symm

theorem prompt_ref_frame : Cert.quiescent_PromptRefIdeal := fun m ρ _ =>
  (θ_run _ _ _).mono (fun r h => ⟨fun c => (h c).2.2.2.2.2, funext fun s => (show False from by rcases s with ⟨_, s⟩; rcases s with s | s <;> exact s.elim0).elim⟩) (Cert.PromptRefIdeal.Value.run (F := Ideal) m ρ)

theorem prompt_algebraic : Cert.algebraic_PromptIdeal_PromptRefIdeal_pre_finite (hPre_finite := Cert.PromptValue.pre_facts) := by
  intro m ρ m' ρ' hpre hagree
  refine ⟨fun c => (Cert.PromptIdeal.Gen.dats m 0 c).arrAt 10 Cert.PromptIdeal.cfg0.N, fun c => (Cert.PromptIdeal.Gen.dats m 0 c).arrAt 11 Cert.PromptIdeal.cfg0.N,
    fun c => (Cert.PromptIdeal.Gen.dats m 0 c).arrAt 12 Cert.PromptIdeal.cfg0.N, fun c => (Cert.PromptIdeal.Gen.dats m 0 c).arrAt 13 Cert.PromptIdeal.cfg0.N,
    fun c => (Cert.PromptIdeal.Gen.dats m 0 c).arrAt 14 Cert.PromptIdeal.cfg0.N, ?_, ?_⟩
  · refine (θ_run _ _ _).mono (fun r h c => ?_) (Cert.PromptIdeal.Value.run_blocks (F := Ideal) m ρ)
    obtain ⟨e0, e1, e2, e3, e4, hk⟩ := h c
    exact ⟨e0, e1, e2, e3, e4, hk⟩
  refine (θ_run _ _ _).mono (fun r h c => ?_) (Cert.PromptRefIdeal.Value.run (F := Ideal) m' ρ')
  · obtain ⟨e0, e1, e2, e3, e4, hk⟩ := h c
    obtain ⟨g0, g1, g2, g3, g4, g5, g6, g7, g8, g9⟩ := hagree c
    refine ⟨e0.trans ?_, e1.trans ?_, e2.trans ?_, e3.trans ?_, e4.trans ?_, hk⟩
    · refine (Cert.PromptRefIdeal.Read.val_main_v141_eq _).trans (Eq.trans ?_ (Cert.PromptValue.fin10 m c hpre).symm)
      exact congr (congr (congr (congr (congr (congr (congr (congrArg _ g0) g1) g2) g3) g4) g5) g6) g7
    · refine (Cert.PromptRefIdeal.Read.val_main_v135_eq _).trans (Eq.trans ?_ (Cert.PromptValue.fin11 m c hpre).symm)
      exact congr (congr (congr (congr (congr (congrArg _ g0) g1) g2) g3) g4) g5
    · refine (Cert.PromptRefIdeal.Read.val_main_v143_eq _).trans (Eq.trans ?_ (Cert.PromptValue.fin12 m c (Cert.PromptValue.gates_real m c hpre)).symm)
      exact congr (congr (congr (congr (congrArg _ g0) g1) g2) g4) g5
    · exact (Cert.PromptRefIdeal.Read.val_main_v146_eq _).trans ((congrArg _ g8).trans (Cert.PromptValue.fin13 m c).symm)
    · exact (Cert.PromptRefIdeal.Read.val_main_v149_eq _).trans ((congrArg _ g9).trans (Cert.PromptValue.fin14 m c).symm)

theorem claim : Cert.Claim := ⟨Cert.Conv.Gen.facts, Cert.ConvIdeal.Gen.facts, Cert.ConvRefIdeal.Gen.facts,
  Cert.Mlp.Gen.facts, Cert.MlpIdeal.Gen.facts, Cert.MlpRefIdeal.Gen.facts,
  Cert.First.Gen.facts, Cert.FirstIdeal.Gen.facts, Cert.FirstRefIdeal.Gen.facts,
  Cert.Ada.Gen.facts, Cert.AdaIdeal.Gen.facts, Cert.AdaRefIdeal.Gen.facts,
  Cert.Prompt.Gen.facts, Cert.PromptIdeal.Gen.facts, Cert.PromptRefIdeal.Gen.facts, Cert.PromptValue.pre_facts,
  conv_frame, fun m ρ _ => Cert.ConvIdeal.Gen.frame m ρ, conv_ref_frame,
  mlp_frame, fun m ρ _ => Cert.MlpIdeal.Gen.frame m ρ, mlp_ref_frame,
  first_frame, fun m ρ _ => Cert.FirstIdeal.Gen.frame m ρ, first_ref_frame,
  fun m ρ _ => Cert.Ada.Gen.frame m ρ, fun m ρ _ => Cert.AdaIdeal.Gen.frame m ρ, ada_ref_frame,
  fun m ρ _ => Cert.Prompt.Gen.frame m ρ, fun m ρ _ => Cert.PromptIdeal.Gen.frame m ρ, fun m ρ _ => Cert.PromptIdeal.Gen.frame m ρ,
  prompt_ref_frame, fun m ρ _ => prompt_ref_frame m ρ trivial,
  trivial, conv_algebraic, trivial, mlp_algebraic, trivial, first_algebraic, trivial, ada_algebraic, trivial, prompt_algebraic⟩

end Cert.Proof

end
